-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Shift (m : (ℓ : Loc Cert.Shift.nD Cert.Shift.τ Cert.Shift.sig) → Buf (Elt Bits) ℓ) : Prop :=
  True

def Pre_ShiftIdeal (m : (ℓ : Loc Cert.ShiftIdeal.nD Cert.ShiftIdeal.τ Cert.ShiftIdeal.sig) → Buf (Elt Ideal) ℓ) : Prop :=
  True

def Pre_ShiftReferenceIdeal (m : (ℓ : Loc Cert.ShiftReferenceIdeal.nD Cert.ShiftReferenceIdeal.τ Cert.ShiftReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_ShiftSample (m : (ℓ : Loc Cert.ShiftSample.nD Cert.ShiftSample.τ Cert.ShiftSample.sig) → Buf (Elt Bits) ℓ) : Prop :=
  True

def Pre_ShiftSampleIdeal (m : (ℓ : Loc Cert.ShiftSampleIdeal.nD Cert.ShiftSampleIdeal.τ Cert.ShiftSampleIdeal.sig) → Buf (Elt Ideal) ℓ) : Prop :=
  True

def Pre_ShiftSampleReferenceIdeal (m : (ℓ : Loc Cert.ShiftSampleReferenceIdeal.nD Cert.ShiftSampleReferenceIdeal.τ Cert.ShiftSampleReferenceIdeal.sig) → Buf (Elt Ideal) ℓ) : Prop :=
  True

def Pre_ProjSample (m : (ℓ : Loc Cert.ProjSample.nD Cert.ProjSample.τ Cert.ProjSample.sig) → Buf (Elt Bits) ℓ) : Prop :=
  True

def Pre_ProjSampleIdeal (m : (ℓ : Loc Cert.ProjSampleIdeal.nD Cert.ProjSampleIdeal.τ Cert.ProjSampleIdeal.sig) → Buf (Elt Ideal) ℓ) : Prop :=
  True

def Pre_ProjSampleReferenceIdeal (m : (ℓ : Loc Cert.ProjSampleReferenceIdeal.nD Cert.ProjSampleReferenceIdeal.τ Cert.ProjSampleReferenceIdeal.sig) → Buf (Elt Ideal) ℓ) : Prop :=
  True

def Pre_PrevSample (m : (ℓ : Loc Cert.PrevSample.nD Cert.PrevSample.τ Cert.PrevSample.sig) → Buf (Elt Bits) ℓ) : Prop :=
  True

def Pre_PrevSampleIdeal (m : (ℓ : Loc Cert.PrevSampleIdeal.nD Cert.PrevSampleIdeal.τ Cert.PrevSampleIdeal.sig) → Buf (Elt Ideal) ℓ) : Prop :=
  True

def Pre_PrevSampleReferenceIdeal (m : (ℓ : Loc Cert.PrevSampleReferenceIdeal.nD Cert.PrevSampleReferenceIdeal.τ Cert.PrevSampleReferenceIdeal.sig) → Buf (Elt Ideal) ℓ) : Prop :=
  True

def Pre_StickSample (m : (ℓ : Loc Cert.StickSample.nD Cert.StickSample.τ Cert.StickSample.sig) → Buf (Elt Bits) ℓ) : Prop :=
  True

def Pre_StickSampleIdeal (m : (ℓ : Loc Cert.StickSampleIdeal.nD Cert.StickSampleIdeal.τ Cert.StickSampleIdeal.sig) → Buf (Elt Ideal) ℓ) : Prop :=
  True

def Pre_StickSampleReferenceIdeal (m : (ℓ : Loc Cert.StickSampleReferenceIdeal.nD Cert.StickSampleReferenceIdeal.τ Cert.StickSampleReferenceIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryReferenceIdeal (m : (ℓ : Loc Cert.MemoryReferenceIdeal.nD Cert.MemoryReferenceIdeal.τ Cert.MemoryReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnIdeal_finite [hPre_finite : Cert.Pre_finite.Facts] (m : (ℓ : Loc Cert.XattnIdeal.nD Cert.XattnIdeal.τ Cert.XattnIdeal.sig) → Buf (Elt Ideal) ℓ) : Prop :=
  ∀ c : Dev Cert.XattnIdeal.nD,
    (Cert.Pre_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4)) (m ((c.tc : Thread Cert.XattnIdeal.nD Cert.XattnIdeal.τ).loc Cert.XattnIdeal.main_arg5)) (m ((c.tc : Thread Cert.XattnIdeal.nD Cert.XattnIdeal.τ).loc Cert.XattnIdeal.main_arg6)) (m ((c.tc : Thread Cert.XattnIdeal.nD Cert.XattnIdeal.τ).loc Cert.XattnIdeal.main_arg7))) = (fun _ => 1#1)

def Pre_XattnReferenceIdeal (m : (ℓ : Loc Cert.XattnReferenceIdeal.nD Cert.XattnReferenceIdeal.τ Cert.XattnReferenceIdeal.sig) → Buf (Elt Ideal) ℓ) : Prop :=
  True

def Pre_XattnReferenceIdeal_finite [hPre_finite : Cert.Pre_finite.Facts] (m : (ℓ : Loc Cert.XattnReferenceIdeal.nD Cert.XattnReferenceIdeal.τ Cert.XattnReferenceIdeal.sig) → Buf (Elt Ideal) ℓ) : Prop :=
  ∀ c : Dev Cert.XattnReferenceIdeal.nD,
    (Cert.Pre_finite.fn (F := Ideal) (m ((c.tc : Thread Cert.XattnReferenceIdeal.nD Cert.XattnReferenceIdeal.τ).loc Cert.XattnReferenceIdeal.main_arg0)) (m ((c.tc : Thread Cert.XattnReferenceIdeal.nD Cert.XattnReferenceIdeal.τ).loc Cert.XattnReferenceIdeal.main_arg1)) (m ((c.tc : Thread Cert.XattnReferenceIdeal.nD Cert.XattnReferenceIdeal.τ).loc Cert.XattnReferenceIdeal.main_arg2)) (m ((c.tc : Thread Cert.XattnReferenceIdeal.nD Cert.XattnReferenceIdeal.τ).loc Cert.XattnReferenceIdeal.main_arg3)) (m ((c.tc : Thread Cert.XattnReferenceIdeal.nD Cert.XattnReferenceIdeal.τ).loc Cert.XattnReferenceIdeal.main_arg4)) (m ((c.tc : Thread Cert.XattnReferenceIdeal.nD Cert.XattnReferenceIdeal.τ).loc Cert.XattnReferenceIdeal.main_arg5)) (m ((c.tc : Thread Cert.XattnReferenceIdeal.nD Cert.XattnReferenceIdeal.τ).loc Cert.XattnReferenceIdeal.main_arg6)) (m ((c.tc : Thread Cert.XattnReferenceIdeal.nD Cert.XattnReferenceIdeal.τ).loc Cert.XattnReferenceIdeal.main_arg7))) = (fun _ => 1#1)

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteIdeal_counted [hPre_counted : Cert.Pre_counted.Facts] (m : (ℓ : Loc Cert.RouteIdeal.nD Cert.RouteIdeal.τ Cert.RouteIdeal.sig) → Buf (Elt Ideal) ℓ) : Prop :=
  ∀ c : Dev Cert.RouteIdeal.nD,
    (Cert.Pre_counted.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1))) = (fun _ => 1#1)

def Pre_RouteReferenceIdeal (m : (ℓ : Loc Cert.RouteReferenceIdeal.nD Cert.RouteReferenceIdeal.τ Cert.RouteReferenceIdeal.sig) → Buf (Elt Ideal) ℓ) : Prop :=
  True

def Pre_RouteReferenceIdeal_counted [hPre_counted : Cert.Pre_counted.Facts] (m : (ℓ : Loc Cert.RouteReferenceIdeal.nD Cert.RouteReferenceIdeal.τ Cert.RouteReferenceIdeal.sig) → Buf (Elt Ideal) ℓ) : Prop :=
  ∀ c : Dev Cert.RouteReferenceIdeal.nD,
    (Cert.Pre_counted.fn (F := Ideal) (m ((c.tc : Thread Cert.RouteReferenceIdeal.nD Cert.RouteReferenceIdeal.τ).loc Cert.RouteReferenceIdeal.main_arg0)) (m ((c.tc : Thread Cert.RouteReferenceIdeal.nD Cert.RouteReferenceIdeal.τ).loc Cert.RouteReferenceIdeal.main_arg1))) = (fun _ => 1#1)

def Pre_Experts [hPre_routed : Cert.Pre_routed.Facts] (m : (ℓ : Loc Cert.Experts.nD Cert.Experts.τ Cert.Experts.sig) → Buf (Elt Bits) ℓ) : Prop :=
  ∀ c : Dev Cert.Experts.nD,
    (Cert.Pre_routed.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_routed : Cert.Pre_routed.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsReferenceIdeal [hPre_routed : Cert.Pre_routed.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_routed.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Shift [hShift : Cert.Shift.Facts] : Prop :=
  ∀ (m : (ℓ : Loc Cert.Shift.nD Cert.Shift.τ Cert.Shift.sig) → Buf (Elt Bits) ℓ) (g : Dev Cert.Shift.nD → PrngReg), Pre_Shift m →
    θ_run (Cert.Shift.defs (F := Bits)) (onTc (τ := Cert.Shift.τ) (Cert.Shift.main (F := Bits))) ⟨m, fun _ => 0, g⟩ (fun r => (∀ c : Dev Cert.Shift.nD,
      r.2.mem ((c.tc : Thread Cert.Shift.nD Cert.Shift.τ).loc Cert.Shift.main_arg0) = m ((c.tc : Thread Cert.Shift.nD Cert.Shift.τ).loc Cert.Shift.main_arg0)
      ∧ r.2.mem ((c.tc : Thread Cert.Shift.nD Cert.Shift.τ).loc Cert.Shift.main_arg1) = m ((c.tc : Thread Cert.Shift.nD Cert.Shift.τ).loc Cert.Shift.main_arg1))
      ∧ r.2.sem = fun _ => 0)

def quiescent_ShiftIdeal [hShiftIdeal : Cert.ShiftIdeal.Facts] : Prop :=
  ∀ (m : (ℓ : Loc Cert.ShiftIdeal.nD Cert.ShiftIdeal.τ Cert.ShiftIdeal.sig) → Buf (Elt Ideal) ℓ) (g : Dev Cert.ShiftIdeal.nD → PrngReg), Pre_ShiftIdeal m →
    θ_run (Cert.ShiftIdeal.defs (F := Ideal)) (onTc (τ := Cert.ShiftIdeal.τ) (Cert.ShiftIdeal.main (F := Ideal))) ⟨m, fun _ => 0, g⟩ (fun r => (∀ c : Dev Cert.ShiftIdeal.nD,
      r.2.mem ((c.tc : Thread Cert.ShiftIdeal.nD Cert.ShiftIdeal.τ).loc Cert.ShiftIdeal.main_arg0) = m ((c.tc : Thread Cert.ShiftIdeal.nD Cert.ShiftIdeal.τ).loc Cert.ShiftIdeal.main_arg0)
      ∧ r.2.mem ((c.tc : Thread Cert.ShiftIdeal.nD Cert.ShiftIdeal.τ).loc Cert.ShiftIdeal.main_arg1) = m ((c.tc : Thread Cert.ShiftIdeal.nD Cert.ShiftIdeal.τ).loc Cert.ShiftIdeal.main_arg1))
      ∧ r.2.sem = fun _ => 0)

def quiescent_ShiftReferenceIdeal [hShiftReferenceIdeal : Cert.ShiftReferenceIdeal.Facts] : Prop :=
  ∀ (m : (ℓ : Loc Cert.ShiftReferenceIdeal.nD Cert.ShiftReferenceIdeal.τ Cert.ShiftReferenceIdeal.sig) → Buf (Elt Ideal) ℓ) (g : Dev Cert.ShiftReferenceIdeal.nD → PrngReg), Pre_ShiftReferenceIdeal m →
    θ_run (Cert.ShiftReferenceIdeal.defs (F := Ideal)) (onTc (τ := Cert.ShiftReferenceIdeal.τ) (Cert.ShiftReferenceIdeal.main (F := Ideal))) ⟨m, fun _ => 0, g⟩ (fun r => (∀ c : Dev Cert.ShiftReferenceIdeal.nD,
      r.2.mem ((c.tc : Thread Cert.ShiftReferenceIdeal.nD Cert.ShiftReferenceIdeal.τ).loc Cert.ShiftReferenceIdeal.main_arg0) = m ((c.tc : Thread Cert.ShiftReferenceIdeal.nD Cert.ShiftReferenceIdeal.τ).loc Cert.ShiftReferenceIdeal.main_arg0)
      ∧ r.2.mem ((c.tc : Thread Cert.ShiftReferenceIdeal.nD Cert.ShiftReferenceIdeal.τ).loc Cert.ShiftReferenceIdeal.main_arg1) = m ((c.tc : Thread Cert.ShiftReferenceIdeal.nD Cert.ShiftReferenceIdeal.τ).loc Cert.ShiftReferenceIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_ShiftSample [hShiftSample : Cert.ShiftSample.Facts] : Prop :=
  ∀ (m : (ℓ : Loc Cert.ShiftSample.nD Cert.ShiftSample.τ Cert.ShiftSample.sig) → Buf (Elt Bits) ℓ) (g : Dev Cert.ShiftSample.nD → PrngReg), Pre_ShiftSample m →
    θ_run (Cert.ShiftSample.defs (F := Bits)) (onTc (τ := Cert.ShiftSample.τ) (Cert.ShiftSample.main (F := Bits))) ⟨m, fun _ => 0, g⟩ (fun r => (∀ c : Dev Cert.ShiftSample.nD,
      r.2.mem ((c.tc : Thread Cert.ShiftSample.nD Cert.ShiftSample.τ).loc Cert.ShiftSample.main_arg0) = m ((c.tc : Thread Cert.ShiftSample.nD Cert.ShiftSample.τ).loc Cert.ShiftSample.main_arg0)
      ∧ r.2.mem ((c.tc : Thread Cert.ShiftSample.nD Cert.ShiftSample.τ).loc Cert.ShiftSample.main_arg1) = m ((c.tc : Thread Cert.ShiftSample.nD Cert.ShiftSample.τ).loc Cert.ShiftSample.main_arg1))
      ∧ r.2.sem = fun _ => 0)

def quiescent_ShiftSampleIdeal [hShiftSampleIdeal : Cert.ShiftSampleIdeal.Facts] : Prop :=
  ∀ (m : (ℓ : Loc Cert.ShiftSampleIdeal.nD Cert.ShiftSampleIdeal.τ Cert.ShiftSampleIdeal.sig) → Buf (Elt Ideal) ℓ) (g : Dev Cert.ShiftSampleIdeal.nD → PrngReg), Pre_ShiftSampleIdeal m →
    θ_run (Cert.ShiftSampleIdeal.defs (F := Ideal)) (onTc (τ := Cert.ShiftSampleIdeal.τ) (Cert.ShiftSampleIdeal.main (F := Ideal))) ⟨m, fun _ => 0, g⟩ (fun r => (∀ c : Dev Cert.ShiftSampleIdeal.nD,
      r.2.mem ((c.tc : Thread Cert.ShiftSampleIdeal.nD Cert.ShiftSampleIdeal.τ).loc Cert.ShiftSampleIdeal.main_arg0) = m ((c.tc : Thread Cert.ShiftSampleIdeal.nD Cert.ShiftSampleIdeal.τ).loc Cert.ShiftSampleIdeal.main_arg0)
      ∧ r.2.mem ((c.tc : Thread Cert.ShiftSampleIdeal.nD Cert.ShiftSampleIdeal.τ).loc Cert.ShiftSampleIdeal.main_arg1) = m ((c.tc : Thread Cert.ShiftSampleIdeal.nD Cert.ShiftSampleIdeal.τ).loc Cert.ShiftSampleIdeal.main_arg1))
      ∧ r.2.sem = fun _ => 0)

def quiescent_ShiftSampleReferenceIdeal [hShiftSampleReferenceIdeal : Cert.ShiftSampleReferenceIdeal.Facts] : Prop :=
  ∀ (m : (ℓ : Loc Cert.ShiftSampleReferenceIdeal.nD Cert.ShiftSampleReferenceIdeal.τ Cert.ShiftSampleReferenceIdeal.sig) → Buf (Elt Ideal) ℓ) (g : Dev Cert.ShiftSampleReferenceIdeal.nD → PrngReg), Pre_ShiftSampleReferenceIdeal m →
    θ_run (Cert.ShiftSampleReferenceIdeal.defs (F := Ideal)) (onTc (τ := Cert.ShiftSampleReferenceIdeal.τ) (Cert.ShiftSampleReferenceIdeal.main (F := Ideal))) ⟨m, fun _ => 0, g⟩ (fun r => (∀ c : Dev Cert.ShiftSampleReferenceIdeal.nD,
      r.2.mem ((c.tc : Thread Cert.ShiftSampleReferenceIdeal.nD Cert.ShiftSampleReferenceIdeal.τ).loc Cert.ShiftSampleReferenceIdeal.main_arg0) = m ((c.tc : Thread Cert.ShiftSampleReferenceIdeal.nD Cert.ShiftSampleReferenceIdeal.τ).loc Cert.ShiftSampleReferenceIdeal.main_arg0)
      ∧ r.2.mem ((c.tc : Thread Cert.ShiftSampleReferenceIdeal.nD Cert.ShiftSampleReferenceIdeal.τ).loc Cert.ShiftSampleReferenceIdeal.main_arg1) = m ((c.tc : Thread Cert.ShiftSampleReferenceIdeal.nD Cert.ShiftSampleReferenceIdeal.τ).loc Cert.ShiftSampleReferenceIdeal.main_arg1))
      ∧ r.2.sem = fun _ => 0)

def quiescent_ProjSample [hProjSample : Cert.ProjSample.Facts] : Prop :=
  ∀ (m : (ℓ : Loc Cert.ProjSample.nD Cert.ProjSample.τ Cert.ProjSample.sig) → Buf (Elt Bits) ℓ) (g : Dev Cert.ProjSample.nD → PrngReg), Pre_ProjSample m →
    θ_run (Cert.ProjSample.defs (F := Bits)) (onTc (τ := Cert.ProjSample.τ) (Cert.ProjSample.main (F := Bits))) ⟨m, fun _ => 0, g⟩ (fun r => (∀ c : Dev Cert.ProjSample.nD,
      r.2.mem ((c.tc : Thread Cert.ProjSample.nD Cert.ProjSample.τ).loc Cert.ProjSample.main_arg0) = m ((c.tc : Thread Cert.ProjSample.nD Cert.ProjSample.τ).loc Cert.ProjSample.main_arg0)
      ∧ r.2.mem ((c.tc : Thread Cert.ProjSample.nD Cert.ProjSample.τ).loc Cert.ProjSample.main_arg1) = m ((c.tc : Thread Cert.ProjSample.nD Cert.ProjSample.τ).loc Cert.ProjSample.main_arg1)
      ∧ r.2.mem ((c.tc : Thread Cert.ProjSample.nD Cert.ProjSample.τ).loc Cert.ProjSample.main_arg2) = m ((c.tc : Thread Cert.ProjSample.nD Cert.ProjSample.τ).loc Cert.ProjSample.main_arg2))
      ∧ r.2.sem = fun _ => 0)

def quiescent_ProjSampleIdeal [hProjSampleIdeal : Cert.ProjSampleIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg), Pre_ProjSampleIdeal m →
    θ_run (Cert.ProjSampleIdeal.defs (F := Ideal)) (onTc (τ := Cert.ProjSampleIdeal.τ) (Cert.ProjSampleIdeal.main (F := Ideal))) ⟨m, fun _ => 0, g⟩ (fun r => (∀ c : Dev Cert.ProjSampleIdeal.nD,
      r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
      ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
      ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2))
      ∧ r.2.sem = fun _ => 0)

def quiescent_ProjSampleReferenceIdeal [hProjSampleReferenceIdeal : Cert.ProjSampleReferenceIdeal.Facts] : Prop :=
  ∀ (m : (ℓ : Loc Cert.ProjSampleReferenceIdeal.nD Cert.ProjSampleReferenceIdeal.τ Cert.ProjSampleReferenceIdeal.sig) → Buf (Elt Ideal) ℓ) (g : Dev Cert.ProjSampleReferenceIdeal.nD → PrngReg), Pre_ProjSampleReferenceIdeal m →
    θ_run (Cert.ProjSampleReferenceIdeal.defs (F := Ideal)) (onTc (τ := Cert.ProjSampleReferenceIdeal.τ) (Cert.ProjSampleReferenceIdeal.main (F := Ideal))) ⟨m, fun _ => 0, g⟩ (fun r => (∀ c : Dev Cert.ProjSampleReferenceIdeal.nD,
      r.2.mem ((c.tc : Thread Cert.ProjSampleReferenceIdeal.nD Cert.ProjSampleReferenceIdeal.τ).loc Cert.ProjSampleReferenceIdeal.main_arg0) = m ((c.tc : Thread Cert.ProjSampleReferenceIdeal.nD Cert.ProjSampleReferenceIdeal.τ).loc Cert.ProjSampleReferenceIdeal.main_arg0)
      ∧ r.2.mem ((c.tc : Thread Cert.ProjSampleReferenceIdeal.nD Cert.ProjSampleReferenceIdeal.τ).loc Cert.ProjSampleReferenceIdeal.main_arg1) = m ((c.tc : Thread Cert.ProjSampleReferenceIdeal.nD Cert.ProjSampleReferenceIdeal.τ).loc Cert.ProjSampleReferenceIdeal.main_arg1)
      ∧ r.2.mem ((c.tc : Thread Cert.ProjSampleReferenceIdeal.nD Cert.ProjSampleReferenceIdeal.τ).loc Cert.ProjSampleReferenceIdeal.main_arg2) = m ((c.tc : Thread Cert.ProjSampleReferenceIdeal.nD Cert.ProjSampleReferenceIdeal.τ).loc Cert.ProjSampleReferenceIdeal.main_arg2))
      ∧ r.2.sem = fun _ => 0)

def quiescent_PrevSample [hPrevSample : Cert.PrevSample.Facts] : Prop :=
  ∀ (m : (ℓ : Loc Cert.PrevSample.nD Cert.PrevSample.τ Cert.PrevSample.sig) → Buf (Elt Bits) ℓ) (g : Dev Cert.PrevSample.nD → PrngReg), Pre_PrevSample m →
    θ_run (Cert.PrevSample.defs (F := Bits)) (onTc (τ := Cert.PrevSample.τ) (Cert.PrevSample.main (F := Bits))) ⟨m, fun _ => 0, g⟩ (fun r => (∀ c : Dev Cert.PrevSample.nD,
      r.2.mem ((c.tc : Thread Cert.PrevSample.nD Cert.PrevSample.τ).loc Cert.PrevSample.main_arg0) = m ((c.tc : Thread Cert.PrevSample.nD Cert.PrevSample.τ).loc Cert.PrevSample.main_arg0)
      ∧ r.2.mem ((c.tc : Thread Cert.PrevSample.nD Cert.PrevSample.τ).loc Cert.PrevSample.main_arg1) = m ((c.tc : Thread Cert.PrevSample.nD Cert.PrevSample.τ).loc Cert.PrevSample.main_arg1))
      ∧ r.2.sem = fun _ => 0)

def quiescent_PrevSampleIdeal [hPrevSampleIdeal : Cert.PrevSampleIdeal.Facts] : Prop :=
  ∀ (m : (ℓ : Loc Cert.PrevSampleIdeal.nD Cert.PrevSampleIdeal.τ Cert.PrevSampleIdeal.sig) → Buf (Elt Ideal) ℓ) (g : Dev Cert.PrevSampleIdeal.nD → PrngReg), Pre_PrevSampleIdeal m →
    θ_run (Cert.PrevSampleIdeal.defs (F := Ideal)) (onTc (τ := Cert.PrevSampleIdeal.τ) (Cert.PrevSampleIdeal.main (F := Ideal))) ⟨m, fun _ => 0, g⟩ (fun r => (∀ c : Dev Cert.PrevSampleIdeal.nD,
      r.2.mem ((c.tc : Thread Cert.PrevSampleIdeal.nD Cert.PrevSampleIdeal.τ).loc Cert.PrevSampleIdeal.main_arg0) = m ((c.tc : Thread Cert.PrevSampleIdeal.nD Cert.PrevSampleIdeal.τ).loc Cert.PrevSampleIdeal.main_arg0)
      ∧ r.2.mem ((c.tc : Thread Cert.PrevSampleIdeal.nD Cert.PrevSampleIdeal.τ).loc Cert.PrevSampleIdeal.main_arg1) = m ((c.tc : Thread Cert.PrevSampleIdeal.nD Cert.PrevSampleIdeal.τ).loc Cert.PrevSampleIdeal.main_arg1))
      ∧ r.2.sem = fun _ => 0)

def quiescent_PrevSampleReferenceIdeal [hPrevSampleReferenceIdeal : Cert.PrevSampleReferenceIdeal.Facts] : Prop :=
  ∀ (m : (ℓ : Loc Cert.PrevSampleReferenceIdeal.nD Cert.PrevSampleReferenceIdeal.τ Cert.PrevSampleReferenceIdeal.sig) → Buf (Elt Ideal) ℓ) (g : Dev Cert.PrevSampleReferenceIdeal.nD → PrngReg), Pre_PrevSampleReferenceIdeal m →
    θ_run (Cert.PrevSampleReferenceIdeal.defs (F := Ideal)) (onTc (τ := Cert.PrevSampleReferenceIdeal.τ) (Cert.PrevSampleReferenceIdeal.main (F := Ideal))) ⟨m, fun _ => 0, g⟩ (fun r => (∀ c : Dev Cert.PrevSampleReferenceIdeal.nD,
      r.2.mem ((c.tc : Thread Cert.PrevSampleReferenceIdeal.nD Cert.PrevSampleReferenceIdeal.τ).loc Cert.PrevSampleReferenceIdeal.main_arg0) = m ((c.tc : Thread Cert.PrevSampleReferenceIdeal.nD Cert.PrevSampleReferenceIdeal.τ).loc Cert.PrevSampleReferenceIdeal.main_arg0)
      ∧ r.2.mem ((c.tc : Thread Cert.PrevSampleReferenceIdeal.nD Cert.PrevSampleReferenceIdeal.τ).loc Cert.PrevSampleReferenceIdeal.main_arg1) = m ((c.tc : Thread Cert.PrevSampleReferenceIdeal.nD Cert.PrevSampleReferenceIdeal.τ).loc Cert.PrevSampleReferenceIdeal.main_arg1))
      ∧ r.2.sem = fun _ => 0)

def quiescent_StickSample [hStickSample : Cert.StickSample.Facts] : Prop :=
  ∀ (m : (ℓ : Loc Cert.StickSample.nD Cert.StickSample.τ Cert.StickSample.sig) → Buf (Elt Bits) ℓ) (g : Dev Cert.StickSample.nD → PrngReg), Pre_StickSample m →
    θ_run (Cert.StickSample.defs (F := Bits)) (onTc (τ := Cert.StickSample.τ) (Cert.StickSample.main (F := Bits))) ⟨m, fun _ => 0, g⟩ (fun r => (∀ c : Dev Cert.StickSample.nD,
      r.2.mem ((c.tc : Thread Cert.StickSample.nD Cert.StickSample.τ).loc Cert.StickSample.main_arg0) = m ((c.tc : Thread Cert.StickSample.nD Cert.StickSample.τ).loc Cert.StickSample.main_arg0)
      ∧ r.2.mem ((c.tc : Thread Cert.StickSample.nD Cert.StickSample.τ).loc Cert.StickSample.main_arg1) = m ((c.tc : Thread Cert.StickSample.nD Cert.StickSample.τ).loc Cert.StickSample.main_arg1)
      ∧ r.2.mem ((c.tc : Thread Cert.StickSample.nD Cert.StickSample.τ).loc Cert.StickSample.main_arg2) = m ((c.tc : Thread Cert.StickSample.nD Cert.StickSample.τ).loc Cert.StickSample.main_arg2)
      ∧ r.2.mem ((c.tc : Thread Cert.StickSample.nD Cert.StickSample.τ).loc Cert.StickSample.main_arg3) = m ((c.tc : Thread Cert.StickSample.nD Cert.StickSample.τ).loc Cert.StickSample.main_arg3)
      ∧ r.2.mem ((c.tc : Thread Cert.StickSample.nD Cert.StickSample.τ).loc Cert.StickSample.main_arg4) = m ((c.tc : Thread Cert.StickSample.nD Cert.StickSample.τ).loc Cert.StickSample.main_arg4))
      ∧ r.2.sem = fun _ => 0)

def quiescent_StickSampleIdeal [hStickSampleIdeal : Cert.StickSampleIdeal.Facts] : Prop :=
  ∀ (m : (ℓ : Loc Cert.StickSampleIdeal.nD Cert.StickSampleIdeal.τ Cert.StickSampleIdeal.sig) → Buf (Elt Ideal) ℓ) (g : Dev Cert.StickSampleIdeal.nD → PrngReg), Pre_StickSampleIdeal m →
    θ_run (Cert.StickSampleIdeal.defs (F := Ideal)) (onTc (τ := Cert.StickSampleIdeal.τ) (Cert.StickSampleIdeal.main (F := Ideal))) ⟨m, fun _ => 0, g⟩ (fun r => (∀ c : Dev Cert.StickSampleIdeal.nD,
      r.2.mem ((c.tc : Thread Cert.StickSampleIdeal.nD Cert.StickSampleIdeal.τ).loc Cert.StickSampleIdeal.main_arg0) = m ((c.tc : Thread Cert.StickSampleIdeal.nD Cert.StickSampleIdeal.τ).loc Cert.StickSampleIdeal.main_arg0)
      ∧ r.2.mem ((c.tc : Thread Cert.StickSampleIdeal.nD Cert.StickSampleIdeal.τ).loc Cert.StickSampleIdeal.main_arg1) = m ((c.tc : Thread Cert.StickSampleIdeal.nD Cert.StickSampleIdeal.τ).loc Cert.StickSampleIdeal.main_arg1)
      ∧ r.2.mem ((c.tc : Thread Cert.StickSampleIdeal.nD Cert.StickSampleIdeal.τ).loc Cert.StickSampleIdeal.main_arg2) = m ((c.tc : Thread Cert.StickSampleIdeal.nD Cert.StickSampleIdeal.τ).loc Cert.StickSampleIdeal.main_arg2)
      ∧ r.2.mem ((c.tc : Thread Cert.StickSampleIdeal.nD Cert.StickSampleIdeal.τ).loc Cert.StickSampleIdeal.main_arg3) = m ((c.tc : Thread Cert.StickSampleIdeal.nD Cert.StickSampleIdeal.τ).loc Cert.StickSampleIdeal.main_arg3)
      ∧ r.2.mem ((c.tc : Thread Cert.StickSampleIdeal.nD Cert.StickSampleIdeal.τ).loc Cert.StickSampleIdeal.main_arg4) = m ((c.tc : Thread Cert.StickSampleIdeal.nD Cert.StickSampleIdeal.τ).loc Cert.StickSampleIdeal.main_arg4))
      ∧ r.2.sem = fun _ => 0)

def quiescent_StickSampleReferenceIdeal [hStickSampleReferenceIdeal : Cert.StickSampleReferenceIdeal.Facts] : Prop :=
  ∀ (m : (ℓ : Loc Cert.StickSampleReferenceIdeal.nD Cert.StickSampleReferenceIdeal.τ Cert.StickSampleReferenceIdeal.sig) → Buf (Elt Ideal) ℓ) (g : Dev Cert.StickSampleReferenceIdeal.nD → PrngReg), Pre_StickSampleReferenceIdeal m →
    θ_run (Cert.StickSampleReferenceIdeal.defs (F := Ideal)) (onTc (τ := Cert.StickSampleReferenceIdeal.τ) (Cert.StickSampleReferenceIdeal.main (F := Ideal))) ⟨m, fun _ => 0, g⟩ (fun r => (∀ c : Dev Cert.StickSampleReferenceIdeal.nD,
      r.2.mem ((c.tc : Thread Cert.StickSampleReferenceIdeal.nD Cert.StickSampleReferenceIdeal.τ).loc Cert.StickSampleReferenceIdeal.main_arg0) = m ((c.tc : Thread Cert.StickSampleReferenceIdeal.nD Cert.StickSampleReferenceIdeal.τ).loc Cert.StickSampleReferenceIdeal.main_arg0)
      ∧ r.2.mem ((c.tc : Thread Cert.StickSampleReferenceIdeal.nD Cert.StickSampleReferenceIdeal.τ).loc Cert.StickSampleReferenceIdeal.main_arg1) = m ((c.tc : Thread Cert.StickSampleReferenceIdeal.nD Cert.StickSampleReferenceIdeal.τ).loc Cert.StickSampleReferenceIdeal.main_arg1)
      ∧ r.2.mem ((c.tc : Thread Cert.StickSampleReferenceIdeal.nD Cert.StickSampleReferenceIdeal.τ).loc Cert.StickSampleReferenceIdeal.main_arg2) = m ((c.tc : Thread Cert.StickSampleReferenceIdeal.nD Cert.StickSampleReferenceIdeal.τ).loc Cert.StickSampleReferenceIdeal.main_arg2)
      ∧ r.2.mem ((c.tc : Thread Cert.StickSampleReferenceIdeal.nD Cert.StickSampleReferenceIdeal.τ).loc Cert.StickSampleReferenceIdeal.main_arg3) = m ((c.tc : Thread Cert.StickSampleReferenceIdeal.nD Cert.StickSampleReferenceIdeal.τ).loc Cert.StickSampleReferenceIdeal.main_arg3)
      ∧ r.2.mem ((c.tc : Thread Cert.StickSampleReferenceIdeal.nD Cert.StickSampleReferenceIdeal.τ).loc Cert.StickSampleReferenceIdeal.main_arg4) = m ((c.tc : Thread Cert.StickSampleReferenceIdeal.nD Cert.StickSampleReferenceIdeal.τ).loc Cert.StickSampleReferenceIdeal.main_arg4))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2)
      ∧ r.2.mem ((c.tc : Thread Cert.Memory.nD Cert.Memory.τ).loc Cert.Memory.main_arg3) = m ((c.tc : Thread Cert.Memory.nD Cert.Memory.τ).loc Cert.Memory.main_arg3))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
      ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ r.2.sem = fun _ => 0)

def quiescent_MemoryReferenceIdeal [hMemoryReferenceIdeal : Cert.MemoryReferenceIdeal.Facts] : Prop :=
  ∀ (m : (ℓ : Loc Cert.MemoryReferenceIdeal.nD Cert.MemoryReferenceIdeal.τ Cert.MemoryReferenceIdeal.sig) → Buf (Elt Ideal) ℓ) (g : Dev Cert.MemoryReferenceIdeal.nD → PrngReg), Pre_MemoryReferenceIdeal m →
    θ_run (Cert.MemoryReferenceIdeal.defs (F := Ideal)) (onTc (τ := Cert.MemoryReferenceIdeal.τ) (Cert.MemoryReferenceIdeal.main (F := Ideal))) ⟨m, fun _ => 0, g⟩ (fun r => (∀ c : Dev Cert.MemoryReferenceIdeal.nD,
      r.2.mem ((c.tc : Thread Cert.MemoryReferenceIdeal.nD Cert.MemoryReferenceIdeal.τ).loc Cert.MemoryReferenceIdeal.main_arg0) = m ((c.tc : Thread Cert.MemoryReferenceIdeal.nD Cert.MemoryReferenceIdeal.τ).loc Cert.MemoryReferenceIdeal.main_arg0)
      ∧ r.2.mem ((c.tc : Thread Cert.MemoryReferenceIdeal.nD Cert.MemoryReferenceIdeal.τ).loc Cert.MemoryReferenceIdeal.main_arg1) = m ((c.tc : Thread Cert.MemoryReferenceIdeal.nD Cert.MemoryReferenceIdeal.τ).loc Cert.MemoryReferenceIdeal.main_arg1)
      ∧ r.2.mem ((c.tc : Thread Cert.MemoryReferenceIdeal.nD Cert.MemoryReferenceIdeal.τ).loc Cert.MemoryReferenceIdeal.main_arg2) = m ((c.tc : Thread Cert.MemoryReferenceIdeal.nD Cert.MemoryReferenceIdeal.τ).loc Cert.MemoryReferenceIdeal.main_arg2)
      ∧ r.2.mem ((c.tc : Thread Cert.MemoryReferenceIdeal.nD Cert.MemoryReferenceIdeal.τ).loc Cert.MemoryReferenceIdeal.main_arg3) = m ((c.tc : Thread Cert.MemoryReferenceIdeal.nD Cert.MemoryReferenceIdeal.τ).loc Cert.MemoryReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2)
      ∧ r.2.mem ((c.tc : Thread Cert.Xattn.nD Cert.Xattn.τ).loc Cert.Xattn.main_arg3) = m ((c.tc : Thread Cert.Xattn.nD Cert.Xattn.τ).loc Cert.Xattn.main_arg3)
      ∧ r.2.mem ((c.tc : Thread Cert.Xattn.nD Cert.Xattn.τ).loc Cert.Xattn.main_arg4) = m ((c.tc : Thread Cert.Xattn.nD Cert.Xattn.τ).loc Cert.Xattn.main_arg4)
      ∧ r.2.mem ((c.tc : Thread Cert.Xattn.nD Cert.Xattn.τ).loc Cert.Xattn.main_arg5) = m ((c.tc : Thread Cert.Xattn.nD Cert.Xattn.τ).loc Cert.Xattn.main_arg5)
      ∧ r.2.mem ((c.tc : Thread Cert.Xattn.nD Cert.Xattn.τ).loc Cert.Xattn.main_arg6) = m ((c.tc : Thread Cert.Xattn.nD Cert.Xattn.τ).loc Cert.Xattn.main_arg6)
      ∧ r.2.mem ((c.tc : Thread Cert.Xattn.nD Cert.Xattn.τ).loc Cert.Xattn.main_arg7) = m ((c.tc : Thread Cert.Xattn.nD Cert.Xattn.τ).loc Cert.Xattn.main_arg7))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
      ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5)
      ∧ r.2.mem ((c.tc : Thread Cert.XattnIdeal.nD Cert.XattnIdeal.τ).loc Cert.XattnIdeal.main_arg6) = m ((c.tc : Thread Cert.XattnIdeal.nD Cert.XattnIdeal.τ).loc Cert.XattnIdeal.main_arg6)
      ∧ r.2.mem ((c.tc : Thread Cert.XattnIdeal.nD Cert.XattnIdeal.τ).loc Cert.XattnIdeal.main_arg7) = m ((c.tc : Thread Cert.XattnIdeal.nD Cert.XattnIdeal.τ).loc Cert.XattnIdeal.main_arg7))
      ∧ r.2.sem = fun _ => 0)

def quiescent_XattnIdeal_pre_finite [hXattnIdeal : Cert.XattnIdeal.Facts] [hPre_finite : Cert.Pre_finite.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal_finite m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
      ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5)
      ∧ r.2.mem ((c.tc : Thread Cert.XattnIdeal.nD Cert.XattnIdeal.τ).loc Cert.XattnIdeal.main_arg6) = m ((c.tc : Thread Cert.XattnIdeal.nD Cert.XattnIdeal.τ).loc Cert.XattnIdeal.main_arg6)
      ∧ r.2.mem ((c.tc : Thread Cert.XattnIdeal.nD Cert.XattnIdeal.τ).loc Cert.XattnIdeal.main_arg7) = m ((c.tc : Thread Cert.XattnIdeal.nD Cert.XattnIdeal.τ).loc Cert.XattnIdeal.main_arg7))
      ∧ r.2.sem = fun _ => 0)

def quiescent_XattnReferenceIdeal [hXattnReferenceIdeal : Cert.XattnReferenceIdeal.Facts] : Prop :=
  ∀ (m : (ℓ : Loc Cert.XattnReferenceIdeal.nD Cert.XattnReferenceIdeal.τ Cert.XattnReferenceIdeal.sig) → Buf (Elt Ideal) ℓ) (g : Dev Cert.XattnReferenceIdeal.nD → PrngReg), Pre_XattnReferenceIdeal m →
    θ_run (Cert.XattnReferenceIdeal.defs (F := Ideal)) (onTc (τ := Cert.XattnReferenceIdeal.τ) (Cert.XattnReferenceIdeal.main (F := Ideal))) ⟨m, fun _ => 0, g⟩ (fun r => (∀ c : Dev Cert.XattnReferenceIdeal.nD,
      r.2.mem ((c.tc : Thread Cert.XattnReferenceIdeal.nD Cert.XattnReferenceIdeal.τ).loc Cert.XattnReferenceIdeal.main_arg0) = m ((c.tc : Thread Cert.XattnReferenceIdeal.nD Cert.XattnReferenceIdeal.τ).loc Cert.XattnReferenceIdeal.main_arg0)
      ∧ r.2.mem ((c.tc : Thread Cert.XattnReferenceIdeal.nD Cert.XattnReferenceIdeal.τ).loc Cert.XattnReferenceIdeal.main_arg1) = m ((c.tc : Thread Cert.XattnReferenceIdeal.nD Cert.XattnReferenceIdeal.τ).loc Cert.XattnReferenceIdeal.main_arg1)
      ∧ r.2.mem ((c.tc : Thread Cert.XattnReferenceIdeal.nD Cert.XattnReferenceIdeal.τ).loc Cert.XattnReferenceIdeal.main_arg2) = m ((c.tc : Thread Cert.XattnReferenceIdeal.nD Cert.XattnReferenceIdeal.τ).loc Cert.XattnReferenceIdeal.main_arg2)
      ∧ r.2.mem ((c.tc : Thread Cert.XattnReferenceIdeal.nD Cert.XattnReferenceIdeal.τ).loc Cert.XattnReferenceIdeal.main_arg3) = m ((c.tc : Thread Cert.XattnReferenceIdeal.nD Cert.XattnReferenceIdeal.τ).loc Cert.XattnReferenceIdeal.main_arg3)
      ∧ r.2.mem ((c.tc : Thread Cert.XattnReferenceIdeal.nD Cert.XattnReferenceIdeal.τ).loc Cert.XattnReferenceIdeal.main_arg4) = m ((c.tc : Thread Cert.XattnReferenceIdeal.nD Cert.XattnReferenceIdeal.τ).loc Cert.XattnReferenceIdeal.main_arg4)
      ∧ r.2.mem ((c.tc : Thread Cert.XattnReferenceIdeal.nD Cert.XattnReferenceIdeal.τ).loc Cert.XattnReferenceIdeal.main_arg5) = m ((c.tc : Thread Cert.XattnReferenceIdeal.nD Cert.XattnReferenceIdeal.τ).loc Cert.XattnReferenceIdeal.main_arg5)
      ∧ r.2.mem ((c.tc : Thread Cert.XattnReferenceIdeal.nD Cert.XattnReferenceIdeal.τ).loc Cert.XattnReferenceIdeal.main_arg6) = m ((c.tc : Thread Cert.XattnReferenceIdeal.nD Cert.XattnReferenceIdeal.τ).loc Cert.XattnReferenceIdeal.main_arg6)
      ∧ r.2.mem ((c.tc : Thread Cert.XattnReferenceIdeal.nD Cert.XattnReferenceIdeal.τ).loc Cert.XattnReferenceIdeal.main_arg7) = m ((c.tc : Thread Cert.XattnReferenceIdeal.nD Cert.XattnReferenceIdeal.τ).loc Cert.XattnReferenceIdeal.main_arg7))
      ∧ r.2.sem = fun _ => 0)

def quiescent_XattnReferenceIdeal_pre_finite [hXattnReferenceIdeal : Cert.XattnReferenceIdeal.Facts] [hPre_finite : Cert.Pre_finite.Facts] : Prop :=
  ∀ (m : (ℓ : Loc Cert.XattnReferenceIdeal.nD Cert.XattnReferenceIdeal.τ Cert.XattnReferenceIdeal.sig) → Buf (Elt Ideal) ℓ) (g : Dev Cert.XattnReferenceIdeal.nD → PrngReg), Pre_XattnReferenceIdeal_finite m →
    θ_run (Cert.XattnReferenceIdeal.defs (F := Ideal)) (onTc (τ := Cert.XattnReferenceIdeal.τ) (Cert.XattnReferenceIdeal.main (F := Ideal))) ⟨m, fun _ => 0, g⟩ (fun r => (∀ c : Dev Cert.XattnReferenceIdeal.nD,
      r.2.mem ((c.tc : Thread Cert.XattnReferenceIdeal.nD Cert.XattnReferenceIdeal.τ).loc Cert.XattnReferenceIdeal.main_arg0) = m ((c.tc : Thread Cert.XattnReferenceIdeal.nD Cert.XattnReferenceIdeal.τ).loc Cert.XattnReferenceIdeal.main_arg0)
      ∧ r.2.mem ((c.tc : Thread Cert.XattnReferenceIdeal.nD Cert.XattnReferenceIdeal.τ).loc Cert.XattnReferenceIdeal.main_arg1) = m ((c.tc : Thread Cert.XattnReferenceIdeal.nD Cert.XattnReferenceIdeal.τ).loc Cert.XattnReferenceIdeal.main_arg1)
      ∧ r.2.mem ((c.tc : Thread Cert.XattnReferenceIdeal.nD Cert.XattnReferenceIdeal.τ).loc Cert.XattnReferenceIdeal.main_arg2) = m ((c.tc : Thread Cert.XattnReferenceIdeal.nD Cert.XattnReferenceIdeal.τ).loc Cert.XattnReferenceIdeal.main_arg2)
      ∧ r.2.mem ((c.tc : Thread Cert.XattnReferenceIdeal.nD Cert.XattnReferenceIdeal.τ).loc Cert.XattnReferenceIdeal.main_arg3) = m ((c.tc : Thread Cert.XattnReferenceIdeal.nD Cert.XattnReferenceIdeal.τ).loc Cert.XattnReferenceIdeal.main_arg3)
      ∧ r.2.mem ((c.tc : Thread Cert.XattnReferenceIdeal.nD Cert.XattnReferenceIdeal.τ).loc Cert.XattnReferenceIdeal.main_arg4) = m ((c.tc : Thread Cert.XattnReferenceIdeal.nD Cert.XattnReferenceIdeal.τ).loc Cert.XattnReferenceIdeal.main_arg4)
      ∧ r.2.mem ((c.tc : Thread Cert.XattnReferenceIdeal.nD Cert.XattnReferenceIdeal.τ).loc Cert.XattnReferenceIdeal.main_arg5) = m ((c.tc : Thread Cert.XattnReferenceIdeal.nD Cert.XattnReferenceIdeal.τ).loc Cert.XattnReferenceIdeal.main_arg5)
      ∧ r.2.mem ((c.tc : Thread Cert.XattnReferenceIdeal.nD Cert.XattnReferenceIdeal.τ).loc Cert.XattnReferenceIdeal.main_arg6) = m ((c.tc : Thread Cert.XattnReferenceIdeal.nD Cert.XattnReferenceIdeal.τ).loc Cert.XattnReferenceIdeal.main_arg6)
      ∧ r.2.mem ((c.tc : Thread Cert.XattnReferenceIdeal.nD Cert.XattnReferenceIdeal.τ).loc Cert.XattnReferenceIdeal.main_arg7) = m ((c.tc : Thread Cert.XattnReferenceIdeal.nD Cert.XattnReferenceIdeal.τ).loc Cert.XattnReferenceIdeal.main_arg7))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1))
      ∧ r.2.sem = fun _ => 0)

def quiescent_RouteIdeal_pre_counted [hRouteIdeal : Cert.RouteIdeal.Facts] [hPre_counted : Cert.Pre_counted.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal_counted m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1))
      ∧ r.2.sem = fun _ => 0)

def quiescent_RouteReferenceIdeal [hRouteReferenceIdeal : Cert.RouteReferenceIdeal.Facts] : Prop :=
  ∀ (m : (ℓ : Loc Cert.RouteReferenceIdeal.nD Cert.RouteReferenceIdeal.τ Cert.RouteReferenceIdeal.sig) → Buf (Elt Ideal) ℓ) (g : Dev Cert.RouteReferenceIdeal.nD → PrngReg), Pre_RouteReferenceIdeal m →
    θ_run (Cert.RouteReferenceIdeal.defs (F := Ideal)) (onTc (τ := Cert.RouteReferenceIdeal.τ) (Cert.RouteReferenceIdeal.main (F := Ideal))) ⟨m, fun _ => 0, g⟩ (fun r => (∀ c : Dev Cert.RouteReferenceIdeal.nD,
      r.2.mem ((c.tc : Thread Cert.RouteReferenceIdeal.nD Cert.RouteReferenceIdeal.τ).loc Cert.RouteReferenceIdeal.main_arg0) = m ((c.tc : Thread Cert.RouteReferenceIdeal.nD Cert.RouteReferenceIdeal.τ).loc Cert.RouteReferenceIdeal.main_arg0)
      ∧ r.2.mem ((c.tc : Thread Cert.RouteReferenceIdeal.nD Cert.RouteReferenceIdeal.τ).loc Cert.RouteReferenceIdeal.main_arg1) = m ((c.tc : Thread Cert.RouteReferenceIdeal.nD Cert.RouteReferenceIdeal.τ).loc Cert.RouteReferenceIdeal.main_arg1))
      ∧ r.2.sem = fun _ => 0)

def quiescent_RouteReferenceIdeal_pre_counted [hRouteReferenceIdeal : Cert.RouteReferenceIdeal.Facts] [hPre_counted : Cert.Pre_counted.Facts] : Prop :=
  ∀ (m : (ℓ : Loc Cert.RouteReferenceIdeal.nD Cert.RouteReferenceIdeal.τ Cert.RouteReferenceIdeal.sig) → Buf (Elt Ideal) ℓ) (g : Dev Cert.RouteReferenceIdeal.nD → PrngReg), Pre_RouteReferenceIdeal_counted m →
    θ_run (Cert.RouteReferenceIdeal.defs (F := Ideal)) (onTc (τ := Cert.RouteReferenceIdeal.τ) (Cert.RouteReferenceIdeal.main (F := Ideal))) ⟨m, fun _ => 0, g⟩ (fun r => (∀ c : Dev Cert.RouteReferenceIdeal.nD,
      r.2.mem ((c.tc : Thread Cert.RouteReferenceIdeal.nD Cert.RouteReferenceIdeal.τ).loc Cert.RouteReferenceIdeal.main_arg0) = m ((c.tc : Thread Cert.RouteReferenceIdeal.nD Cert.RouteReferenceIdeal.τ).loc Cert.RouteReferenceIdeal.main_arg0)
      ∧ r.2.mem ((c.tc : Thread Cert.RouteReferenceIdeal.nD Cert.RouteReferenceIdeal.τ).loc Cert.RouteReferenceIdeal.main_arg1) = m ((c.tc : Thread Cert.RouteReferenceIdeal.nD Cert.RouteReferenceIdeal.τ).loc Cert.RouteReferenceIdeal.main_arg1))
      ∧ r.2.sem = fun _ => 0)

def quiescent_Experts [hExperts : Cert.Experts.Facts] [hPre_routed : Cert.Pre_routed.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] [hPre_routed : Cert.Pre_routed.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Shift_ShiftIdeal : Prop :=
  True

def algebraic_ShiftIdeal_ShiftReferenceIdeal [hShiftIdeal : Cert.ShiftIdeal.Facts] [hShiftReferenceIdeal : Cert.ShiftReferenceIdeal.Facts] : Prop :=
  ∀ (m : (ℓ : Loc Cert.ShiftIdeal.nD Cert.ShiftIdeal.τ Cert.ShiftIdeal.sig) → Buf (Elt Ideal) ℓ) (g : Dev Cert.ShiftIdeal.nD → PrngReg)
    (m' : (ℓ : Loc Cert.ShiftReferenceIdeal.nD Cert.ShiftReferenceIdeal.τ Cert.ShiftReferenceIdeal.sig) → Buf (Elt Ideal) ℓ) (g' : Dev Cert.ShiftReferenceIdeal.nD → PrngReg), Pre_ShiftIdeal m →
    (∀ c : Dev Cert.ShiftIdeal.nD,
      m' ((c.tc : Thread Cert.ShiftReferenceIdeal.nD Cert.ShiftReferenceIdeal.τ).loc Cert.ShiftReferenceIdeal.main_arg0) = m ((c.tc : Thread Cert.ShiftIdeal.nD Cert.ShiftIdeal.τ).loc Cert.ShiftIdeal.main_arg0)
      ∧ m' ((c.tc : Thread Cert.ShiftReferenceIdeal.nD Cert.ShiftReferenceIdeal.τ).loc Cert.ShiftReferenceIdeal.main_arg1) = m ((c.tc : Thread Cert.ShiftIdeal.nD Cert.ShiftIdeal.τ).loc Cert.ShiftIdeal.main_arg1)) →
    ∃ (v0 : (c : Dev Cert.ShiftIdeal.nD) → Buf (Elt Ideal) ((c.tc : Thread Cert.ShiftIdeal.nD Cert.ShiftIdeal.τ).loc Cert.ShiftIdeal.main_v3)),
      θ_run (Cert.ShiftIdeal.defs (F := Ideal)) (onTc (τ := Cert.ShiftIdeal.τ) (Cert.ShiftIdeal.main (F := Ideal))) ⟨m, fun _ => 0, g⟩ (fun r => ∀ c : Dev Cert.ShiftIdeal.nD,
          r.2.mem ((c.tc : Thread Cert.ShiftIdeal.nD Cert.ShiftIdeal.τ).loc Cert.ShiftIdeal.main_v3) = v0 c
          ∧ r.2.mem ((c.tc : Thread Cert.ShiftIdeal.nD Cert.ShiftIdeal.τ).loc Cert.ShiftIdeal.main_arg0) = m ((c.tc : Thread Cert.ShiftIdeal.nD Cert.ShiftIdeal.τ).loc Cert.ShiftIdeal.main_arg0)
          ∧ r.2.mem ((c.tc : Thread Cert.ShiftIdeal.nD Cert.ShiftIdeal.τ).loc Cert.ShiftIdeal.main_arg1) = m ((c.tc : Thread Cert.ShiftIdeal.nD Cert.ShiftIdeal.τ).loc Cert.ShiftIdeal.main_arg1))
      ∧ θ_run (Cert.ShiftReferenceIdeal.defs (F := Ideal)) (onTc (τ := Cert.ShiftReferenceIdeal.τ) (Cert.ShiftReferenceIdeal.main (F := Ideal))) ⟨m', fun _ => 0, g'⟩ (fun r => ∀ c : Dev Cert.ShiftReferenceIdeal.nD,
          r.2.mem ((c.tc : Thread Cert.ShiftReferenceIdeal.nD Cert.ShiftReferenceIdeal.τ).loc Cert.ShiftReferenceIdeal.main_v14) = v0 c
          ∧ r.2.mem ((c.tc : Thread Cert.ShiftReferenceIdeal.nD Cert.ShiftReferenceIdeal.τ).loc Cert.ShiftReferenceIdeal.main_arg0) = m' ((c.tc : Thread Cert.ShiftReferenceIdeal.nD Cert.ShiftReferenceIdeal.τ).loc Cert.ShiftReferenceIdeal.main_arg0)
          ∧ r.2.mem ((c.tc : Thread Cert.ShiftReferenceIdeal.nD Cert.ShiftReferenceIdeal.τ).loc Cert.ShiftReferenceIdeal.main_arg1) = m' ((c.tc : Thread Cert.ShiftReferenceIdeal.nD Cert.ShiftReferenceIdeal.τ).loc Cert.ShiftReferenceIdeal.main_arg1))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v3_0)) (v1 : (c : Dev Cert.ProjIdeal.nD) → Buf (Elt Ideal) ((c.tc : Thread Cert.ProjIdeal.nD Cert.ProjIdeal.τ).loc Cert.ProjIdeal.main_v3_1)) (v2 : (c : Dev Cert.ProjIdeal.nD) → Buf (Elt Ideal) ((c.tc : Thread Cert.ProjIdeal.nD Cert.ProjIdeal.τ).loc Cert.ProjIdeal.main_v3_2)) (v3 : (c : Dev Cert.ProjIdeal.nD) → Buf (Elt Ideal) ((c.tc : Thread Cert.ProjIdeal.nD Cert.ProjIdeal.τ).loc Cert.ProjIdeal.main_v3_3)) (v4 : (c : Dev Cert.ProjIdeal.nD) → Buf (Elt Ideal) ((c.tc : Thread Cert.ProjIdeal.nD Cert.ProjIdeal.τ).loc Cert.ProjIdeal.main_v3_4)) (v5 : (c : Dev Cert.ProjIdeal.nD) → Buf (Elt Ideal) ((c.tc : Thread Cert.ProjIdeal.nD Cert.ProjIdeal.τ).loc Cert.ProjIdeal.main_v3_5)) (v6 : (c : Dev Cert.ProjIdeal.nD) → Buf (Elt Ideal) ((c.tc : Thread Cert.ProjIdeal.nD Cert.ProjIdeal.τ).loc Cert.ProjIdeal.main_v3_6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3_0) = v0 c
          ∧ r.2.mem ((c.tc : Thread Cert.ProjIdeal.nD Cert.ProjIdeal.τ).loc Cert.ProjIdeal.main_v3_1) = v1 c
          ∧ r.2.mem ((c.tc : Thread Cert.ProjIdeal.nD Cert.ProjIdeal.τ).loc Cert.ProjIdeal.main_v3_2) = v2 c
          ∧ r.2.mem ((c.tc : Thread Cert.ProjIdeal.nD Cert.ProjIdeal.τ).loc Cert.ProjIdeal.main_v3_3) = v3 c
          ∧ r.2.mem ((c.tc : Thread Cert.ProjIdeal.nD Cert.ProjIdeal.τ).loc Cert.ProjIdeal.main_v3_4) = v4 c
          ∧ r.2.mem ((c.tc : Thread Cert.ProjIdeal.nD Cert.ProjIdeal.τ).loc Cert.ProjIdeal.main_v3_5) = v5 c
          ∧ r.2.mem ((c.tc : Thread Cert.ProjIdeal.nD Cert.ProjIdeal.τ).loc Cert.ProjIdeal.main_v3_6) = v6 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v21) = v0 c
          ∧ r.2.mem ((c.tc : Thread Cert.ProjReferenceIdeal.nD Cert.ProjReferenceIdeal.τ).loc Cert.ProjReferenceIdeal.main_v22) = v1 c
          ∧ r.2.mem ((c.tc : Thread Cert.ProjReferenceIdeal.nD Cert.ProjReferenceIdeal.τ).loc Cert.ProjReferenceIdeal.main_v23) = v2 c
          ∧ r.2.mem ((c.tc : Thread Cert.ProjReferenceIdeal.nD Cert.ProjReferenceIdeal.τ).loc Cert.ProjReferenceIdeal.main_v16) = v3 c
          ∧ r.2.mem ((c.tc : Thread Cert.ProjReferenceIdeal.nD Cert.ProjReferenceIdeal.τ).loc Cert.ProjReferenceIdeal.main_v24) = v4 c
          ∧ r.2.mem ((c.tc : Thread Cert.ProjReferenceIdeal.nD Cert.ProjReferenceIdeal.τ).loc Cert.ProjReferenceIdeal.main_v25) = v5 c
          ∧ r.2.mem ((c.tc : Thread Cert.ProjReferenceIdeal.nD Cert.ProjReferenceIdeal.τ).loc Cert.ProjReferenceIdeal.main_v26) = v6 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_ShiftSample_ShiftSampleIdeal : Prop :=
  True

def algebraic_ShiftSampleIdeal_ShiftSampleReferenceIdeal [hShiftSampleIdeal : Cert.ShiftSampleIdeal.Facts] [hShiftSampleReferenceIdeal : Cert.ShiftSampleReferenceIdeal.Facts] : Prop :=
  ∀ (m : (ℓ : Loc Cert.ShiftSampleIdeal.nD Cert.ShiftSampleIdeal.τ Cert.ShiftSampleIdeal.sig) → Buf (Elt Ideal) ℓ) (g : Dev Cert.ShiftSampleIdeal.nD → PrngReg)
    (m' : (ℓ : Loc Cert.ShiftSampleReferenceIdeal.nD Cert.ShiftSampleReferenceIdeal.τ Cert.ShiftSampleReferenceIdeal.sig) → Buf (Elt Ideal) ℓ) (g' : Dev Cert.ShiftSampleReferenceIdeal.nD → PrngReg), Pre_ShiftSampleIdeal m →
    (∀ c : Dev Cert.ShiftSampleIdeal.nD,
      m' ((c.tc : Thread Cert.ShiftSampleReferenceIdeal.nD Cert.ShiftSampleReferenceIdeal.τ).loc Cert.ShiftSampleReferenceIdeal.main_arg0) = m ((c.tc : Thread Cert.ShiftSampleIdeal.nD Cert.ShiftSampleIdeal.τ).loc Cert.ShiftSampleIdeal.main_arg0)
      ∧ m' ((c.tc : Thread Cert.ShiftSampleReferenceIdeal.nD Cert.ShiftSampleReferenceIdeal.τ).loc Cert.ShiftSampleReferenceIdeal.main_arg1) = m ((c.tc : Thread Cert.ShiftSampleIdeal.nD Cert.ShiftSampleIdeal.τ).loc Cert.ShiftSampleIdeal.main_arg1)) →
    ∃ (v0 : (c : Dev Cert.ShiftSampleIdeal.nD) → Buf (Elt Ideal) ((c.tc : Thread Cert.ShiftSampleIdeal.nD Cert.ShiftSampleIdeal.τ).loc Cert.ShiftSampleIdeal.main_v3)),
      θ_run (Cert.ShiftSampleIdeal.defs (F := Ideal)) (onTc (τ := Cert.ShiftSampleIdeal.τ) (Cert.ShiftSampleIdeal.main (F := Ideal))) ⟨m, fun _ => 0, g⟩ (fun r => ∀ c : Dev Cert.ShiftSampleIdeal.nD,
          r.2.mem ((c.tc : Thread Cert.ShiftSampleIdeal.nD Cert.ShiftSampleIdeal.τ).loc Cert.ShiftSampleIdeal.main_v3) = v0 c
          ∧ r.2.mem ((c.tc : Thread Cert.ShiftSampleIdeal.nD Cert.ShiftSampleIdeal.τ).loc Cert.ShiftSampleIdeal.main_arg0) = m ((c.tc : Thread Cert.ShiftSampleIdeal.nD Cert.ShiftSampleIdeal.τ).loc Cert.ShiftSampleIdeal.main_arg0)
          ∧ r.2.mem ((c.tc : Thread Cert.ShiftSampleIdeal.nD Cert.ShiftSampleIdeal.τ).loc Cert.ShiftSampleIdeal.main_arg1) = m ((c.tc : Thread Cert.ShiftSampleIdeal.nD Cert.ShiftSampleIdeal.τ).loc Cert.ShiftSampleIdeal.main_arg1))
      ∧ θ_run (Cert.ShiftSampleReferenceIdeal.defs (F := Ideal)) (onTc (τ := Cert.ShiftSampleReferenceIdeal.τ) (Cert.ShiftSampleReferenceIdeal.main (F := Ideal))) ⟨m', fun _ => 0, g'⟩ (fun r => ∀ c : Dev Cert.ShiftSampleReferenceIdeal.nD,
          r.2.mem ((c.tc : Thread Cert.ShiftSampleReferenceIdeal.nD Cert.ShiftSampleReferenceIdeal.τ).loc Cert.ShiftSampleReferenceIdeal.main_v14) = v0 c
          ∧ r.2.mem ((c.tc : Thread Cert.ShiftSampleReferenceIdeal.nD Cert.ShiftSampleReferenceIdeal.τ).loc Cert.ShiftSampleReferenceIdeal.main_arg0) = m' ((c.tc : Thread Cert.ShiftSampleReferenceIdeal.nD Cert.ShiftSampleReferenceIdeal.τ).loc Cert.ShiftSampleReferenceIdeal.main_arg0)
          ∧ r.2.mem ((c.tc : Thread Cert.ShiftSampleReferenceIdeal.nD Cert.ShiftSampleReferenceIdeal.τ).loc Cert.ShiftSampleReferenceIdeal.main_arg1) = m' ((c.tc : Thread Cert.ShiftSampleReferenceIdeal.nD Cert.ShiftSampleReferenceIdeal.τ).loc Cert.ShiftSampleReferenceIdeal.main_arg1))

def preserves_ProjSample_ProjSampleIdeal : Prop :=
  True

def algebraic_ProjSampleIdeal_ProjSampleReferenceIdeal [hProjSampleIdeal : Cert.ProjSampleIdeal.Facts] [hProjSampleReferenceIdeal : Cert.ProjSampleReferenceIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg)
    (m' : (ℓ : Loc Cert.ProjSampleReferenceIdeal.nD Cert.ProjSampleReferenceIdeal.τ Cert.ProjSampleReferenceIdeal.sig) → Buf (Elt Ideal) ℓ) (g' : Dev Cert.ProjSampleReferenceIdeal.nD → PrngReg), Pre_ProjSampleIdeal m →
    (∀ c : Dev Cert.ProjSampleIdeal.nD,
      m' ((c.tc : Thread Cert.ProjSampleReferenceIdeal.nD Cert.ProjSampleReferenceIdeal.τ).loc Cert.ProjSampleReferenceIdeal.main_arg0) = m ((c.tc : Thread Cert.ProjSampleIdeal.nD Cert.ProjSampleIdeal.τ).loc Cert.ProjSampleIdeal.main_arg0)
      ∧ m' ((c.tc : Thread Cert.ProjSampleReferenceIdeal.nD Cert.ProjSampleReferenceIdeal.τ).loc Cert.ProjSampleReferenceIdeal.main_arg1) = m ((c.tc : Thread Cert.ProjSampleIdeal.nD Cert.ProjSampleIdeal.τ).loc Cert.ProjSampleIdeal.main_arg1)
      ∧ m' ((c.tc : Thread Cert.ProjSampleReferenceIdeal.nD Cert.ProjSampleReferenceIdeal.τ).loc Cert.ProjSampleReferenceIdeal.main_arg2) = m ((c.tc : Thread Cert.ProjSampleIdeal.nD Cert.ProjSampleIdeal.τ).loc Cert.ProjSampleIdeal.main_arg2)) →
    ∃ (v0 : (c : Dev Cert.ProjSampleIdeal.nD) → Buf (Elt Ideal) ((c.tc : Thread Cert.ProjSampleIdeal.nD Cert.ProjSampleIdeal.τ).loc Cert.ProjSampleIdeal.main_v3_0)) (v1 : (c : Dev Cert.ProjSampleIdeal.nD) → Buf (Elt Ideal) ((c.tc : Thread Cert.ProjSampleIdeal.nD Cert.ProjSampleIdeal.τ).loc Cert.ProjSampleIdeal.main_v3_1)) (v2 : (c : Dev Cert.ProjSampleIdeal.nD) → Buf (Elt Ideal) ((c.tc : Thread Cert.ProjSampleIdeal.nD Cert.ProjSampleIdeal.τ).loc Cert.ProjSampleIdeal.main_v3_2)) (v3 : (c : Dev Cert.ProjSampleIdeal.nD) → Buf (Elt Ideal) ((c.tc : Thread Cert.ProjSampleIdeal.nD Cert.ProjSampleIdeal.τ).loc Cert.ProjSampleIdeal.main_v3_3)) (v4 : (c : Dev Cert.ProjSampleIdeal.nD) → Buf (Elt Ideal) ((c.tc : Thread Cert.ProjSampleIdeal.nD Cert.ProjSampleIdeal.τ).loc Cert.ProjSampleIdeal.main_v3_4)) (v5 : (c : Dev Cert.ProjSampleIdeal.nD) → Buf (Elt Ideal) ((c.tc : Thread Cert.ProjSampleIdeal.nD Cert.ProjSampleIdeal.τ).loc Cert.ProjSampleIdeal.main_v3_5)) (v6 : (c : Dev Cert.ProjSampleIdeal.nD) → Buf (Elt Ideal) ((c.tc : Thread Cert.ProjSampleIdeal.nD Cert.ProjSampleIdeal.τ).loc Cert.ProjSampleIdeal.main_v3_6)),
      θ_run (Cert.ProjSampleIdeal.defs (F := Ideal)) (onTc (τ := Cert.ProjSampleIdeal.τ) (Cert.ProjSampleIdeal.main (F := Ideal))) ⟨m, fun _ => 0, g⟩ (fun r => ∀ c : Dev Cert.ProjSampleIdeal.nD,
          r.2.mem ((c.tc : Thread Cert.ProjSampleIdeal.nD Cert.ProjSampleIdeal.τ).loc Cert.ProjSampleIdeal.main_v3_0) = v0 c
          ∧ r.2.mem ((c.tc : Thread Cert.ProjSampleIdeal.nD Cert.ProjSampleIdeal.τ).loc Cert.ProjSampleIdeal.main_v3_1) = v1 c
          ∧ r.2.mem ((c.tc : Thread Cert.ProjSampleIdeal.nD Cert.ProjSampleIdeal.τ).loc Cert.ProjSampleIdeal.main_v3_2) = v2 c
          ∧ r.2.mem ((c.tc : Thread Cert.ProjSampleIdeal.nD Cert.ProjSampleIdeal.τ).loc Cert.ProjSampleIdeal.main_v3_3) = v3 c
          ∧ r.2.mem ((c.tc : Thread Cert.ProjSampleIdeal.nD Cert.ProjSampleIdeal.τ).loc Cert.ProjSampleIdeal.main_v3_4) = v4 c
          ∧ r.2.mem ((c.tc : Thread Cert.ProjSampleIdeal.nD Cert.ProjSampleIdeal.τ).loc Cert.ProjSampleIdeal.main_v3_5) = v5 c
          ∧ r.2.mem ((c.tc : Thread Cert.ProjSampleIdeal.nD Cert.ProjSampleIdeal.τ).loc Cert.ProjSampleIdeal.main_v3_6) = v6 c
          ∧ r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
          ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
          ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2))
      ∧ θ_run (Cert.ProjSampleReferenceIdeal.defs (F := Ideal)) (onTc (τ := Cert.ProjSampleReferenceIdeal.τ) (Cert.ProjSampleReferenceIdeal.main (F := Ideal))) ⟨m', fun _ => 0, g'⟩ (fun r => ∀ c : Dev Cert.ProjSampleReferenceIdeal.nD,
          r.2.mem ((c.tc : Thread Cert.ProjSampleReferenceIdeal.nD Cert.ProjSampleReferenceIdeal.τ).loc Cert.ProjSampleReferenceIdeal.main_v21) = v0 c
          ∧ r.2.mem ((c.tc : Thread Cert.ProjSampleReferenceIdeal.nD Cert.ProjSampleReferenceIdeal.τ).loc Cert.ProjSampleReferenceIdeal.main_v22) = v1 c
          ∧ r.2.mem ((c.tc : Thread Cert.ProjSampleReferenceIdeal.nD Cert.ProjSampleReferenceIdeal.τ).loc Cert.ProjSampleReferenceIdeal.main_v23) = v2 c
          ∧ r.2.mem ((c.tc : Thread Cert.ProjSampleReferenceIdeal.nD Cert.ProjSampleReferenceIdeal.τ).loc Cert.ProjSampleReferenceIdeal.main_v16) = v3 c
          ∧ r.2.mem ((c.tc : Thread Cert.ProjSampleReferenceIdeal.nD Cert.ProjSampleReferenceIdeal.τ).loc Cert.ProjSampleReferenceIdeal.main_v24) = v4 c
          ∧ r.2.mem ((c.tc : Thread Cert.ProjSampleReferenceIdeal.nD Cert.ProjSampleReferenceIdeal.τ).loc Cert.ProjSampleReferenceIdeal.main_v25) = v5 c
          ∧ r.2.mem ((c.tc : Thread Cert.ProjSampleReferenceIdeal.nD Cert.ProjSampleReferenceIdeal.τ).loc Cert.ProjSampleReferenceIdeal.main_v26) = v6 c
          ∧ r.2.mem ((c.tc : Thread Cert.ProjSampleReferenceIdeal.nD Cert.ProjSampleReferenceIdeal.τ).loc Cert.ProjSampleReferenceIdeal.main_arg0) = m' ((c.tc : Thread Cert.ProjSampleReferenceIdeal.nD Cert.ProjSampleReferenceIdeal.τ).loc Cert.ProjSampleReferenceIdeal.main_arg0)
          ∧ r.2.mem ((c.tc : Thread Cert.ProjSampleReferenceIdeal.nD Cert.ProjSampleReferenceIdeal.τ).loc Cert.ProjSampleReferenceIdeal.main_arg1) = m' ((c.tc : Thread Cert.ProjSampleReferenceIdeal.nD Cert.ProjSampleReferenceIdeal.τ).loc Cert.ProjSampleReferenceIdeal.main_arg1)
          ∧ r.2.mem ((c.tc : Thread Cert.ProjSampleReferenceIdeal.nD Cert.ProjSampleReferenceIdeal.τ).loc Cert.ProjSampleReferenceIdeal.main_arg2) = m' ((c.tc : Thread Cert.ProjSampleReferenceIdeal.nD Cert.ProjSampleReferenceIdeal.τ).loc Cert.ProjSampleReferenceIdeal.main_arg2))

def preserves_PrevSample_PrevSampleIdeal : Prop :=
  True

def algebraic_PrevSampleIdeal_PrevSampleReferenceIdeal [hPrevSampleIdeal : Cert.PrevSampleIdeal.Facts] [hPrevSampleReferenceIdeal : Cert.PrevSampleReferenceIdeal.Facts] : Prop :=
  ∀ (m : (ℓ : Loc Cert.PrevSampleIdeal.nD Cert.PrevSampleIdeal.τ Cert.PrevSampleIdeal.sig) → Buf (Elt Ideal) ℓ) (g : Dev Cert.PrevSampleIdeal.nD → PrngReg)
    (m' : (ℓ : Loc Cert.PrevSampleReferenceIdeal.nD Cert.PrevSampleReferenceIdeal.τ Cert.PrevSampleReferenceIdeal.sig) → Buf (Elt Ideal) ℓ) (g' : Dev Cert.PrevSampleReferenceIdeal.nD → PrngReg), Pre_PrevSampleIdeal m →
    (∀ c : Dev Cert.PrevSampleIdeal.nD,
      m' ((c.tc : Thread Cert.PrevSampleReferenceIdeal.nD Cert.PrevSampleReferenceIdeal.τ).loc Cert.PrevSampleReferenceIdeal.main_arg0) = m ((c.tc : Thread Cert.PrevSampleIdeal.nD Cert.PrevSampleIdeal.τ).loc Cert.PrevSampleIdeal.main_arg0)
      ∧ m' ((c.tc : Thread Cert.PrevSampleReferenceIdeal.nD Cert.PrevSampleReferenceIdeal.τ).loc Cert.PrevSampleReferenceIdeal.main_arg1) = m ((c.tc : Thread Cert.PrevSampleIdeal.nD Cert.PrevSampleIdeal.τ).loc Cert.PrevSampleIdeal.main_arg1)) →
    ∃ (v0 : (c : Dev Cert.PrevSampleIdeal.nD) → Buf (Elt Ideal) ((c.tc : Thread Cert.PrevSampleIdeal.nD Cert.PrevSampleIdeal.τ).loc Cert.PrevSampleIdeal.main_v2)),
      θ_run (Cert.PrevSampleIdeal.defs (F := Ideal)) (onTc (τ := Cert.PrevSampleIdeal.τ) (Cert.PrevSampleIdeal.main (F := Ideal))) ⟨m, fun _ => 0, g⟩ (fun r => ∀ c : Dev Cert.PrevSampleIdeal.nD,
          r.2.mem ((c.tc : Thread Cert.PrevSampleIdeal.nD Cert.PrevSampleIdeal.τ).loc Cert.PrevSampleIdeal.main_v2) = v0 c
          ∧ r.2.mem ((c.tc : Thread Cert.PrevSampleIdeal.nD Cert.PrevSampleIdeal.τ).loc Cert.PrevSampleIdeal.main_arg0) = m ((c.tc : Thread Cert.PrevSampleIdeal.nD Cert.PrevSampleIdeal.τ).loc Cert.PrevSampleIdeal.main_arg0)
          ∧ r.2.mem ((c.tc : Thread Cert.PrevSampleIdeal.nD Cert.PrevSampleIdeal.τ).loc Cert.PrevSampleIdeal.main_arg1) = m ((c.tc : Thread Cert.PrevSampleIdeal.nD Cert.PrevSampleIdeal.τ).loc Cert.PrevSampleIdeal.main_arg1))
      ∧ θ_run (Cert.PrevSampleReferenceIdeal.defs (F := Ideal)) (onTc (τ := Cert.PrevSampleReferenceIdeal.τ) (Cert.PrevSampleReferenceIdeal.main (F := Ideal))) ⟨m', fun _ => 0, g'⟩ (fun r => ∀ c : Dev Cert.PrevSampleReferenceIdeal.nD,
          r.2.mem ((c.tc : Thread Cert.PrevSampleReferenceIdeal.nD Cert.PrevSampleReferenceIdeal.τ).loc Cert.PrevSampleReferenceIdeal.main_v1) = v0 c
          ∧ r.2.mem ((c.tc : Thread Cert.PrevSampleReferenceIdeal.nD Cert.PrevSampleReferenceIdeal.τ).loc Cert.PrevSampleReferenceIdeal.main_arg0) = m' ((c.tc : Thread Cert.PrevSampleReferenceIdeal.nD Cert.PrevSampleReferenceIdeal.τ).loc Cert.PrevSampleReferenceIdeal.main_arg0)
          ∧ r.2.mem ((c.tc : Thread Cert.PrevSampleReferenceIdeal.nD Cert.PrevSampleReferenceIdeal.τ).loc Cert.PrevSampleReferenceIdeal.main_arg1) = m' ((c.tc : Thread Cert.PrevSampleReferenceIdeal.nD Cert.PrevSampleReferenceIdeal.τ).loc Cert.PrevSampleReferenceIdeal.main_arg1))

def preserves_StickSample_StickSampleIdeal : Prop :=
  True

def algebraic_StickSampleIdeal_StickSampleReferenceIdeal [hStickSampleIdeal : Cert.StickSampleIdeal.Facts] [hStickSampleReferenceIdeal : Cert.StickSampleReferenceIdeal.Facts] : Prop :=
  ∀ (m : (ℓ : Loc Cert.StickSampleIdeal.nD Cert.StickSampleIdeal.τ Cert.StickSampleIdeal.sig) → Buf (Elt Ideal) ℓ) (g : Dev Cert.StickSampleIdeal.nD → PrngReg)
    (m' : (ℓ : Loc Cert.StickSampleReferenceIdeal.nD Cert.StickSampleReferenceIdeal.τ Cert.StickSampleReferenceIdeal.sig) → Buf (Elt Ideal) ℓ) (g' : Dev Cert.StickSampleReferenceIdeal.nD → PrngReg), Pre_StickSampleIdeal m →
    (∀ c : Dev Cert.StickSampleIdeal.nD,
      m' ((c.tc : Thread Cert.StickSampleReferenceIdeal.nD Cert.StickSampleReferenceIdeal.τ).loc Cert.StickSampleReferenceIdeal.main_arg0) = m ((c.tc : Thread Cert.StickSampleIdeal.nD Cert.StickSampleIdeal.τ).loc Cert.StickSampleIdeal.main_arg0)
      ∧ m' ((c.tc : Thread Cert.StickSampleReferenceIdeal.nD Cert.StickSampleReferenceIdeal.τ).loc Cert.StickSampleReferenceIdeal.main_arg1) = m ((c.tc : Thread Cert.StickSampleIdeal.nD Cert.StickSampleIdeal.τ).loc Cert.StickSampleIdeal.main_arg1)
      ∧ m' ((c.tc : Thread Cert.StickSampleReferenceIdeal.nD Cert.StickSampleReferenceIdeal.τ).loc Cert.StickSampleReferenceIdeal.main_arg2) = m ((c.tc : Thread Cert.StickSampleIdeal.nD Cert.StickSampleIdeal.τ).loc Cert.StickSampleIdeal.main_arg2)
      ∧ m' ((c.tc : Thread Cert.StickSampleReferenceIdeal.nD Cert.StickSampleReferenceIdeal.τ).loc Cert.StickSampleReferenceIdeal.main_arg3) = m ((c.tc : Thread Cert.StickSampleIdeal.nD Cert.StickSampleIdeal.τ).loc Cert.StickSampleIdeal.main_arg3)
      ∧ m' ((c.tc : Thread Cert.StickSampleReferenceIdeal.nD Cert.StickSampleReferenceIdeal.τ).loc Cert.StickSampleReferenceIdeal.main_arg4) = m ((c.tc : Thread Cert.StickSampleIdeal.nD Cert.StickSampleIdeal.τ).loc Cert.StickSampleIdeal.main_arg4)) →
    ∃ (v0 : (c : Dev Cert.StickSampleIdeal.nD) → Buf (Elt Ideal) ((c.tc : Thread Cert.StickSampleIdeal.nD Cert.StickSampleIdeal.τ).loc Cert.StickSampleIdeal.main_v2)),
      θ_run (Cert.StickSampleIdeal.defs (F := Ideal)) (onTc (τ := Cert.StickSampleIdeal.τ) (Cert.StickSampleIdeal.main (F := Ideal))) ⟨m, fun _ => 0, g⟩ (fun r => ∀ c : Dev Cert.StickSampleIdeal.nD,
          r.2.mem ((c.tc : Thread Cert.StickSampleIdeal.nD Cert.StickSampleIdeal.τ).loc Cert.StickSampleIdeal.main_v2) = v0 c
          ∧ r.2.mem ((c.tc : Thread Cert.StickSampleIdeal.nD Cert.StickSampleIdeal.τ).loc Cert.StickSampleIdeal.main_arg0) = m ((c.tc : Thread Cert.StickSampleIdeal.nD Cert.StickSampleIdeal.τ).loc Cert.StickSampleIdeal.main_arg0)
          ∧ r.2.mem ((c.tc : Thread Cert.StickSampleIdeal.nD Cert.StickSampleIdeal.τ).loc Cert.StickSampleIdeal.main_arg1) = m ((c.tc : Thread Cert.StickSampleIdeal.nD Cert.StickSampleIdeal.τ).loc Cert.StickSampleIdeal.main_arg1)
          ∧ r.2.mem ((c.tc : Thread Cert.StickSampleIdeal.nD Cert.StickSampleIdeal.τ).loc Cert.StickSampleIdeal.main_arg2) = m ((c.tc : Thread Cert.StickSampleIdeal.nD Cert.StickSampleIdeal.τ).loc Cert.StickSampleIdeal.main_arg2)
          ∧ r.2.mem ((c.tc : Thread Cert.StickSampleIdeal.nD Cert.StickSampleIdeal.τ).loc Cert.StickSampleIdeal.main_arg3) = m ((c.tc : Thread Cert.StickSampleIdeal.nD Cert.StickSampleIdeal.τ).loc Cert.StickSampleIdeal.main_arg3)
          ∧ r.2.mem ((c.tc : Thread Cert.StickSampleIdeal.nD Cert.StickSampleIdeal.τ).loc Cert.StickSampleIdeal.main_arg4) = m ((c.tc : Thread Cert.StickSampleIdeal.nD Cert.StickSampleIdeal.τ).loc Cert.StickSampleIdeal.main_arg4))
      ∧ θ_run (Cert.StickSampleReferenceIdeal.defs (F := Ideal)) (onTc (τ := Cert.StickSampleReferenceIdeal.τ) (Cert.StickSampleReferenceIdeal.main (F := Ideal))) ⟨m', fun _ => 0, g'⟩ (fun r => ∀ c : Dev Cert.StickSampleReferenceIdeal.nD,
          r.2.mem ((c.tc : Thread Cert.StickSampleReferenceIdeal.nD Cert.StickSampleReferenceIdeal.τ).loc Cert.StickSampleReferenceIdeal.main_v32) = v0 c
          ∧ r.2.mem ((c.tc : Thread Cert.StickSampleReferenceIdeal.nD Cert.StickSampleReferenceIdeal.τ).loc Cert.StickSampleReferenceIdeal.main_arg0) = m' ((c.tc : Thread Cert.StickSampleReferenceIdeal.nD Cert.StickSampleReferenceIdeal.τ).loc Cert.StickSampleReferenceIdeal.main_arg0)
          ∧ r.2.mem ((c.tc : Thread Cert.StickSampleReferenceIdeal.nD Cert.StickSampleReferenceIdeal.τ).loc Cert.StickSampleReferenceIdeal.main_arg1) = m' ((c.tc : Thread Cert.StickSampleReferenceIdeal.nD Cert.StickSampleReferenceIdeal.τ).loc Cert.StickSampleReferenceIdeal.main_arg1)
          ∧ r.2.mem ((c.tc : Thread Cert.StickSampleReferenceIdeal.nD Cert.StickSampleReferenceIdeal.τ).loc Cert.StickSampleReferenceIdeal.main_arg2) = m' ((c.tc : Thread Cert.StickSampleReferenceIdeal.nD Cert.StickSampleReferenceIdeal.τ).loc Cert.StickSampleReferenceIdeal.main_arg2)
          ∧ r.2.mem ((c.tc : Thread Cert.StickSampleReferenceIdeal.nD Cert.StickSampleReferenceIdeal.τ).loc Cert.StickSampleReferenceIdeal.main_arg3) = m' ((c.tc : Thread Cert.StickSampleReferenceIdeal.nD Cert.StickSampleReferenceIdeal.τ).loc Cert.StickSampleReferenceIdeal.main_arg3)
          ∧ r.2.mem ((c.tc : Thread Cert.StickSampleReferenceIdeal.nD Cert.StickSampleReferenceIdeal.τ).loc Cert.StickSampleReferenceIdeal.main_arg4) = m' ((c.tc : Thread Cert.StickSampleReferenceIdeal.nD Cert.StickSampleReferenceIdeal.τ).loc Cert.StickSampleReferenceIdeal.main_arg4))

def preserves_Memory_MemoryIdeal : Prop :=
  True

def algebraic_MemoryIdeal_MemoryReferenceIdeal [hMemoryIdeal : Cert.MemoryIdeal.Facts] [hMemoryReferenceIdeal : Cert.MemoryReferenceIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryReferenceIdeal.nD Cert.MemoryReferenceIdeal.τ Cert.MemoryReferenceIdeal.sig) → Buf (Elt Ideal) ℓ) (g' : Dev Cert.MemoryReferenceIdeal.nD → PrngReg), Pre_MemoryIdeal m →
    (∀ c : Dev Cert.MemoryIdeal.nD,
      m' ((c.tc : Thread Cert.MemoryReferenceIdeal.nD Cert.MemoryReferenceIdeal.τ).loc Cert.MemoryReferenceIdeal.main_arg0) = m ((c.tc : Thread Cert.MemoryIdeal.nD Cert.MemoryIdeal.τ).loc Cert.MemoryIdeal.main_arg0)
      ∧ m' ((c.tc : Thread Cert.MemoryReferenceIdeal.nD Cert.MemoryReferenceIdeal.τ).loc Cert.MemoryReferenceIdeal.main_arg1) = m ((c.tc : Thread Cert.MemoryIdeal.nD Cert.MemoryIdeal.τ).loc Cert.MemoryIdeal.main_arg1)
      ∧ m' ((c.tc : Thread Cert.MemoryReferenceIdeal.nD Cert.MemoryReferenceIdeal.τ).loc Cert.MemoryReferenceIdeal.main_arg2) = m ((c.tc : Thread Cert.MemoryIdeal.nD Cert.MemoryIdeal.τ).loc Cert.MemoryIdeal.main_arg2)
      ∧ m' ((c.tc : Thread Cert.MemoryReferenceIdeal.nD Cert.MemoryReferenceIdeal.τ).loc Cert.MemoryReferenceIdeal.main_arg3) = m ((c.tc : Thread Cert.MemoryIdeal.nD Cert.MemoryIdeal.τ).loc Cert.MemoryIdeal.main_arg3)) →
    ∃ (v0 : (c : Dev Cert.MemoryIdeal.nD) → Buf (Elt Ideal) ((c.tc : Thread Cert.MemoryIdeal.nD Cert.MemoryIdeal.τ).loc Cert.MemoryIdeal.main_v4_0)) (v1 : (c : Dev Cert.MemoryIdeal.nD) → Buf (Elt Ideal) ((c.tc : Thread Cert.MemoryIdeal.nD Cert.MemoryIdeal.τ).loc Cert.MemoryIdeal.main_v4_1)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v4_0) = v0 c
          ∧ r.2.mem ((c.tc : Thread Cert.MemoryIdeal.nD Cert.MemoryIdeal.τ).loc Cert.MemoryIdeal.main_v4_1) = v1 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
          ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ θ_run (Cert.MemoryReferenceIdeal.defs (F := Ideal)) (onTc (τ := Cert.MemoryReferenceIdeal.τ) (Cert.MemoryReferenceIdeal.main (F := Ideal))) ⟨m', fun _ => 0, g'⟩ (fun r => ∀ c : Dev Cert.MemoryReferenceIdeal.nD,
          r.2.mem ((c.tc : Thread Cert.MemoryReferenceIdeal.nD Cert.MemoryReferenceIdeal.τ).loc Cert.MemoryReferenceIdeal.main_v14) = v0 c
          ∧ r.2.mem ((c.tc : Thread Cert.MemoryReferenceIdeal.nD Cert.MemoryReferenceIdeal.τ).loc Cert.MemoryReferenceIdeal.main_v15) = v1 c
          ∧ r.2.mem ((c.tc : Thread Cert.MemoryReferenceIdeal.nD Cert.MemoryReferenceIdeal.τ).loc Cert.MemoryReferenceIdeal.main_arg0) = m' ((c.tc : Thread Cert.MemoryReferenceIdeal.nD Cert.MemoryReferenceIdeal.τ).loc Cert.MemoryReferenceIdeal.main_arg0)
          ∧ r.2.mem ((c.tc : Thread Cert.MemoryReferenceIdeal.nD Cert.MemoryReferenceIdeal.τ).loc Cert.MemoryReferenceIdeal.main_arg1) = m' ((c.tc : Thread Cert.MemoryReferenceIdeal.nD Cert.MemoryReferenceIdeal.τ).loc Cert.MemoryReferenceIdeal.main_arg1)
          ∧ r.2.mem ((c.tc : Thread Cert.MemoryReferenceIdeal.nD Cert.MemoryReferenceIdeal.τ).loc Cert.MemoryReferenceIdeal.main_arg2) = m' ((c.tc : Thread Cert.MemoryReferenceIdeal.nD Cert.MemoryReferenceIdeal.τ).loc Cert.MemoryReferenceIdeal.main_arg2)
          ∧ r.2.mem ((c.tc : Thread Cert.MemoryReferenceIdeal.nD Cert.MemoryReferenceIdeal.τ).loc Cert.MemoryReferenceIdeal.main_arg3) = m' ((c.tc : Thread Cert.MemoryReferenceIdeal.nD Cert.MemoryReferenceIdeal.τ).loc Cert.MemoryReferenceIdeal.main_arg3))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v9_0)) (v1 : (c : Dev Cert.MergeIdeal.nD) → Buf (Elt Ideal) ((c.tc : Thread Cert.MergeIdeal.nD Cert.MergeIdeal.τ).loc Cert.MergeIdeal.main_v9_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v9_0) = v0 c
          ∧ r.2.mem ((c.tc : Thread Cert.MergeIdeal.nD Cert.MergeIdeal.τ).loc Cert.MergeIdeal.main_v9_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v24) = v0 c
          ∧ r.2.mem ((c.tc : Thread Cert.MergeReferenceIdeal.nD Cert.MergeReferenceIdeal.τ).loc Cert.MergeReferenceIdeal.main_v39) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_Xattn_XattnIdeal : Prop :=
  True

def algebraic_XattnIdeal_XattnReferenceIdeal_pre_finite [hXattnIdeal : Cert.XattnIdeal.Facts] [hXattnReferenceIdeal : Cert.XattnReferenceIdeal.Facts] [hPre_finite : Cert.Pre_finite.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnReferenceIdeal.nD Cert.XattnReferenceIdeal.τ Cert.XattnReferenceIdeal.sig) → Buf (Elt Ideal) ℓ) (g' : Dev Cert.XattnReferenceIdeal.nD → PrngReg), Pre_XattnIdeal_finite m →
    (∀ c : Dev Cert.XattnIdeal.nD,
      m' ((c.tc : Thread Cert.XattnReferenceIdeal.nD Cert.XattnReferenceIdeal.τ).loc Cert.XattnReferenceIdeal.main_arg0) = m ((c.tc : Thread Cert.XattnIdeal.nD Cert.XattnIdeal.τ).loc Cert.XattnIdeal.main_arg0)
      ∧ m' ((c.tc : Thread Cert.XattnReferenceIdeal.nD Cert.XattnReferenceIdeal.τ).loc Cert.XattnReferenceIdeal.main_arg1) = m ((c.tc : Thread Cert.XattnIdeal.nD Cert.XattnIdeal.τ).loc Cert.XattnIdeal.main_arg1)
      ∧ m' ((c.tc : Thread Cert.XattnReferenceIdeal.nD Cert.XattnReferenceIdeal.τ).loc Cert.XattnReferenceIdeal.main_arg2) = m ((c.tc : Thread Cert.XattnIdeal.nD Cert.XattnIdeal.τ).loc Cert.XattnIdeal.main_arg2)
      ∧ m' ((c.tc : Thread Cert.XattnReferenceIdeal.nD Cert.XattnReferenceIdeal.τ).loc Cert.XattnReferenceIdeal.main_arg3) = m ((c.tc : Thread Cert.XattnIdeal.nD Cert.XattnIdeal.τ).loc Cert.XattnIdeal.main_arg3)
      ∧ m' ((c.tc : Thread Cert.XattnReferenceIdeal.nD Cert.XattnReferenceIdeal.τ).loc Cert.XattnReferenceIdeal.main_arg4) = m ((c.tc : Thread Cert.XattnIdeal.nD Cert.XattnIdeal.τ).loc Cert.XattnIdeal.main_arg4)
      ∧ m' ((c.tc : Thread Cert.XattnReferenceIdeal.nD Cert.XattnReferenceIdeal.τ).loc Cert.XattnReferenceIdeal.main_arg5) = m ((c.tc : Thread Cert.XattnIdeal.nD Cert.XattnIdeal.τ).loc Cert.XattnIdeal.main_arg5)
      ∧ m' ((c.tc : Thread Cert.XattnReferenceIdeal.nD Cert.XattnReferenceIdeal.τ).loc Cert.XattnReferenceIdeal.main_arg6) = m ((c.tc : Thread Cert.XattnIdeal.nD Cert.XattnIdeal.τ).loc Cert.XattnIdeal.main_arg6)
      ∧ m' ((c.tc : Thread Cert.XattnReferenceIdeal.nD Cert.XattnReferenceIdeal.τ).loc Cert.XattnReferenceIdeal.main_arg7) = m ((c.tc : Thread Cert.XattnIdeal.nD Cert.XattnIdeal.τ).loc Cert.XattnIdeal.main_arg7)) →
    ∃ (v0 : (c : Dev Cert.XattnIdeal.nD) → Buf (Elt Ideal) ((c.tc : Thread Cert.XattnIdeal.nD Cert.XattnIdeal.τ).loc Cert.XattnIdeal.main_v10_0)) (v1 : (c : Dev Cert.XattnIdeal.nD) → Buf (Elt Ideal) ((c.tc : Thread Cert.XattnIdeal.nD Cert.XattnIdeal.τ).loc Cert.XattnIdeal.main_v10_1)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v10_0) = v0 c
          ∧ r.2.mem ((c.tc : Thread Cert.XattnIdeal.nD Cert.XattnIdeal.τ).loc Cert.XattnIdeal.main_v10_1) = v1 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
          ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
          ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
          ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5)
          ∧ r.2.mem ((c.tc : Thread Cert.XattnIdeal.nD Cert.XattnIdeal.τ).loc Cert.XattnIdeal.main_arg6) = m ((c.tc : Thread Cert.XattnIdeal.nD Cert.XattnIdeal.τ).loc Cert.XattnIdeal.main_arg6)
          ∧ r.2.mem ((c.tc : Thread Cert.XattnIdeal.nD Cert.XattnIdeal.τ).loc Cert.XattnIdeal.main_arg7) = m ((c.tc : Thread Cert.XattnIdeal.nD Cert.XattnIdeal.τ).loc Cert.XattnIdeal.main_arg7))
      ∧ θ_run (Cert.XattnReferenceIdeal.defs (F := Ideal)) (onTc (τ := Cert.XattnReferenceIdeal.τ) (Cert.XattnReferenceIdeal.main (F := Ideal))) ⟨m', fun _ => 0, g'⟩ (fun r => ∀ c : Dev Cert.XattnReferenceIdeal.nD,
          r.2.mem ((c.tc : Thread Cert.XattnReferenceIdeal.nD Cert.XattnReferenceIdeal.τ).loc Cert.XattnReferenceIdeal.main_v22) = v0 c
          ∧ r.2.mem ((c.tc : Thread Cert.XattnReferenceIdeal.nD Cert.XattnReferenceIdeal.τ).loc Cert.XattnReferenceIdeal.main_v36) = v1 c
          ∧ r.2.mem ((c.tc : Thread Cert.XattnReferenceIdeal.nD Cert.XattnReferenceIdeal.τ).loc Cert.XattnReferenceIdeal.main_arg0) = m' ((c.tc : Thread Cert.XattnReferenceIdeal.nD Cert.XattnReferenceIdeal.τ).loc Cert.XattnReferenceIdeal.main_arg0)
          ∧ r.2.mem ((c.tc : Thread Cert.XattnReferenceIdeal.nD Cert.XattnReferenceIdeal.τ).loc Cert.XattnReferenceIdeal.main_arg1) = m' ((c.tc : Thread Cert.XattnReferenceIdeal.nD Cert.XattnReferenceIdeal.τ).loc Cert.XattnReferenceIdeal.main_arg1)
          ∧ r.2.mem ((c.tc : Thread Cert.XattnReferenceIdeal.nD Cert.XattnReferenceIdeal.τ).loc Cert.XattnReferenceIdeal.main_arg2) = m' ((c.tc : Thread Cert.XattnReferenceIdeal.nD Cert.XattnReferenceIdeal.τ).loc Cert.XattnReferenceIdeal.main_arg2)
          ∧ r.2.mem ((c.tc : Thread Cert.XattnReferenceIdeal.nD Cert.XattnReferenceIdeal.τ).loc Cert.XattnReferenceIdeal.main_arg3) = m' ((c.tc : Thread Cert.XattnReferenceIdeal.nD Cert.XattnReferenceIdeal.τ).loc Cert.XattnReferenceIdeal.main_arg3)
          ∧ r.2.mem ((c.tc : Thread Cert.XattnReferenceIdeal.nD Cert.XattnReferenceIdeal.τ).loc Cert.XattnReferenceIdeal.main_arg4) = m' ((c.tc : Thread Cert.XattnReferenceIdeal.nD Cert.XattnReferenceIdeal.τ).loc Cert.XattnReferenceIdeal.main_arg4)
          ∧ r.2.mem ((c.tc : Thread Cert.XattnReferenceIdeal.nD Cert.XattnReferenceIdeal.τ).loc Cert.XattnReferenceIdeal.main_arg5) = m' ((c.tc : Thread Cert.XattnReferenceIdeal.nD Cert.XattnReferenceIdeal.τ).loc Cert.XattnReferenceIdeal.main_arg5)
          ∧ r.2.mem ((c.tc : Thread Cert.XattnReferenceIdeal.nD Cert.XattnReferenceIdeal.τ).loc Cert.XattnReferenceIdeal.main_arg6) = m' ((c.tc : Thread Cert.XattnReferenceIdeal.nD Cert.XattnReferenceIdeal.τ).loc Cert.XattnReferenceIdeal.main_arg6)
          ∧ r.2.mem ((c.tc : Thread Cert.XattnReferenceIdeal.nD Cert.XattnReferenceIdeal.τ).loc Cert.XattnReferenceIdeal.main_arg7) = m' ((c.tc : Thread Cert.XattnReferenceIdeal.nD Cert.XattnReferenceIdeal.τ).loc Cert.XattnReferenceIdeal.main_arg7))

def preserves_Route_RouteIdeal : Prop :=
  True

def algebraic_RouteIdeal_RouteReferenceIdeal_pre_counted [hRouteIdeal : Cert.RouteIdeal.Facts] [hRouteReferenceIdeal : Cert.RouteReferenceIdeal.Facts] [hPre_counted : Cert.Pre_counted.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteReferenceIdeal.nD Cert.RouteReferenceIdeal.τ Cert.RouteReferenceIdeal.sig) → Buf (Elt Ideal) ℓ) (g' : Dev Cert.RouteReferenceIdeal.nD → PrngReg), Pre_RouteIdeal_counted m →
    (∀ c : Dev Cert.RouteIdeal.nD,
      m' ((c.tc : Thread Cert.RouteReferenceIdeal.nD Cert.RouteReferenceIdeal.τ).loc Cert.RouteReferenceIdeal.main_arg0) = m ((c.tc : Thread Cert.RouteIdeal.nD Cert.RouteIdeal.τ).loc Cert.RouteIdeal.main_arg0)
      ∧ m' ((c.tc : Thread Cert.RouteReferenceIdeal.nD Cert.RouteReferenceIdeal.τ).loc Cert.RouteReferenceIdeal.main_arg1) = m ((c.tc : Thread Cert.RouteIdeal.nD Cert.RouteIdeal.τ).loc Cert.RouteIdeal.main_arg1)) →
    ∃ (v0 : (c : Dev Cert.RouteIdeal.nD) → Buf (Elt Ideal) ((c.tc : Thread Cert.RouteIdeal.nD Cert.RouteIdeal.τ).loc Cert.RouteIdeal.main_v0)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v0) = v0 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1))
      ∧ θ_run (Cert.RouteReferenceIdeal.defs (F := Ideal)) (onTc (τ := Cert.RouteReferenceIdeal.τ) (Cert.RouteReferenceIdeal.main (F := Ideal))) ⟨m', fun _ => 0, g'⟩ (fun r => ∀ c : Dev Cert.RouteReferenceIdeal.nD,
          r.2.mem ((c.tc : Thread Cert.RouteReferenceIdeal.nD Cert.RouteReferenceIdeal.τ).loc Cert.RouteReferenceIdeal.main_v32) = v0 c
          ∧ r.2.mem ((c.tc : Thread Cert.RouteReferenceIdeal.nD Cert.RouteReferenceIdeal.τ).loc Cert.RouteReferenceIdeal.main_arg0) = m' ((c.tc : Thread Cert.RouteReferenceIdeal.nD Cert.RouteReferenceIdeal.τ).loc Cert.RouteReferenceIdeal.main_arg0)
          ∧ r.2.mem ((c.tc : Thread Cert.RouteReferenceIdeal.nD Cert.RouteReferenceIdeal.τ).loc Cert.RouteReferenceIdeal.main_arg1) = m' ((c.tc : Thread Cert.RouteReferenceIdeal.nD Cert.RouteReferenceIdeal.τ).loc Cert.RouteReferenceIdeal.main_arg1))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v27)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v27) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v82) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def Claim : Prop :=
  ∃ (hKernel : Cert.Kernel.Facts) (hKernelIdeal : Cert.KernelIdeal.Facts) (hReferenceIdeal : Cert.ReferenceIdeal.Facts) (hShift : Cert.Shift.Facts) (hShiftIdeal : Cert.ShiftIdeal.Facts) (hShiftReferenceIdeal : Cert.ShiftReferenceIdeal.Facts) (hProj : Cert.Proj.Facts) (hProjIdeal : Cert.ProjIdeal.Facts) (hProjReferenceIdeal : Cert.ProjReferenceIdeal.Facts) (hShiftSample : Cert.ShiftSample.Facts) (hShiftSampleIdeal : Cert.ShiftSampleIdeal.Facts) (hShiftSampleReferenceIdeal : Cert.ShiftSampleReferenceIdeal.Facts) (hProjSample : Cert.ProjSample.Facts) (hProjSampleIdeal : Cert.ProjSampleIdeal.Facts) (hProjSampleReferenceIdeal : Cert.ProjSampleReferenceIdeal.Facts) (hPrevSample : Cert.PrevSample.Facts) (hPrevSampleIdeal : Cert.PrevSampleIdeal.Facts) (hPrevSampleReferenceIdeal : Cert.PrevSampleReferenceIdeal.Facts) (hStickSample : Cert.StickSample.Facts) (hStickSampleIdeal : Cert.StickSampleIdeal.Facts) (hStickSampleReferenceIdeal : Cert.StickSampleReferenceIdeal.Facts) (hMemory : Cert.Memory.Facts) (hMemoryIdeal : Cert.MemoryIdeal.Facts) (hMemoryReferenceIdeal : Cert.MemoryReferenceIdeal.Facts) (hMerge : Cert.Merge.Facts) (hMergeIdeal : Cert.MergeIdeal.Facts) (hMergeReferenceIdeal : Cert.MergeReferenceIdeal.Facts) (hXattn : Cert.Xattn.Facts) (hXattnIdeal : Cert.XattnIdeal.Facts) (hXattnReferenceIdeal : Cert.XattnReferenceIdeal.Facts) (hRoute : Cert.Route.Facts) (hRouteIdeal : Cert.RouteIdeal.Facts) (hRouteReferenceIdeal : Cert.RouteReferenceIdeal.Facts) (hExperts : Cert.Experts.Facts) (hExpertsIdeal : Cert.ExpertsIdeal.Facts) (hExpertsReferenceIdeal : Cert.ExpertsReferenceIdeal.Facts) (hPre_finite : Cert.Pre_finite.Facts) (hPre_counted : Cert.Pre_counted.Facts) (hPre_routed : Cert.Pre_routed.Facts),
    quiescent_Kernel (hKernel := hKernel)
    ∧ quiescent_KernelIdeal (hKernelIdeal := hKernelIdeal)
    ∧ quiescent_ReferenceIdeal (hReferenceIdeal := hReferenceIdeal)
    ∧ quiescent_Shift (hShift := hShift)
    ∧ quiescent_ShiftIdeal (hShiftIdeal := hShiftIdeal)
    ∧ quiescent_ShiftReferenceIdeal (hShiftReferenceIdeal := hShiftReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_ShiftSample (hShiftSample := hShiftSample)
    ∧ quiescent_ShiftSampleIdeal (hShiftSampleIdeal := hShiftSampleIdeal)
    ∧ quiescent_ShiftSampleReferenceIdeal (hShiftSampleReferenceIdeal := hShiftSampleReferenceIdeal)
    ∧ quiescent_ProjSample (hProjSample := hProjSample)
    ∧ quiescent_ProjSampleIdeal (hProjSampleIdeal := hProjSampleIdeal)
    ∧ quiescent_ProjSampleReferenceIdeal (hProjSampleReferenceIdeal := hProjSampleReferenceIdeal)
    ∧ quiescent_PrevSample (hPrevSample := hPrevSample)
    ∧ quiescent_PrevSampleIdeal (hPrevSampleIdeal := hPrevSampleIdeal)
    ∧ quiescent_PrevSampleReferenceIdeal (hPrevSampleReferenceIdeal := hPrevSampleReferenceIdeal)
    ∧ quiescent_StickSample (hStickSample := hStickSample)
    ∧ quiescent_StickSampleIdeal (hStickSampleIdeal := hStickSampleIdeal)
    ∧ quiescent_StickSampleReferenceIdeal (hStickSampleReferenceIdeal := hStickSampleReferenceIdeal)
    ∧ quiescent_Memory (hMemory := hMemory)
    ∧ quiescent_MemoryIdeal (hMemoryIdeal := hMemoryIdeal)
    ∧ quiescent_MemoryReferenceIdeal (hMemoryReferenceIdeal := hMemoryReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Xattn (hXattn := hXattn)
    ∧ quiescent_XattnIdeal (hXattnIdeal := hXattnIdeal)
    ∧ quiescent_XattnIdeal_pre_finite (hXattnIdeal := hXattnIdeal) (hPre_finite := hPre_finite)
    ∧ quiescent_XattnReferenceIdeal (hXattnReferenceIdeal := hXattnReferenceIdeal)
    ∧ quiescent_XattnReferenceIdeal_pre_finite (hXattnReferenceIdeal := hXattnReferenceIdeal) (hPre_finite := hPre_finite)
    ∧ quiescent_Route (hRoute := hRoute)
    ∧ quiescent_RouteIdeal (hRouteIdeal := hRouteIdeal)
    ∧ quiescent_RouteIdeal_pre_counted (hRouteIdeal := hRouteIdeal) (hPre_counted := hPre_counted)
    ∧ quiescent_RouteReferenceIdeal (hRouteReferenceIdeal := hRouteReferenceIdeal)
    ∧ quiescent_RouteReferenceIdeal_pre_counted (hRouteReferenceIdeal := hRouteReferenceIdeal) (hPre_counted := hPre_counted)
    ∧ quiescent_Experts (hExperts := hExperts) (hPre_routed := hPre_routed)
    ∧ quiescent_ExpertsIdeal (hExpertsIdeal := hExpertsIdeal) (hPre_routed := hPre_routed)
    ∧ quiescent_ExpertsReferenceIdeal (hExpertsReferenceIdeal := hExpertsReferenceIdeal) (hPre_routed := hPre_routed)
    ∧ preserves_Kernel_KernelIdeal
    ∧ algebraic_KernelIdeal_ReferenceIdeal (hKernelIdeal := hKernelIdeal) (hReferenceIdeal := hReferenceIdeal)
    ∧ preserves_Shift_ShiftIdeal
    ∧ algebraic_ShiftIdeal_ShiftReferenceIdeal (hShiftIdeal := hShiftIdeal) (hShiftReferenceIdeal := hShiftReferenceIdeal)
    ∧ preserves_Proj_ProjIdeal
    ∧ algebraic_ProjIdeal_ProjReferenceIdeal (hProjIdeal := hProjIdeal) (hProjReferenceIdeal := hProjReferenceIdeal)
    ∧ preserves_ShiftSample_ShiftSampleIdeal
    ∧ algebraic_ShiftSampleIdeal_ShiftSampleReferenceIdeal (hShiftSampleIdeal := hShiftSampleIdeal) (hShiftSampleReferenceIdeal := hShiftSampleReferenceIdeal)
    ∧ preserves_ProjSample_ProjSampleIdeal
    ∧ algebraic_ProjSampleIdeal_ProjSampleReferenceIdeal (hProjSampleIdeal := hProjSampleIdeal) (hProjSampleReferenceIdeal := hProjSampleReferenceIdeal)
    ∧ preserves_PrevSample_PrevSampleIdeal
    ∧ algebraic_PrevSampleIdeal_PrevSampleReferenceIdeal (hPrevSampleIdeal := hPrevSampleIdeal) (hPrevSampleReferenceIdeal := hPrevSampleReferenceIdeal)
    ∧ preserves_StickSample_StickSampleIdeal
    ∧ algebraic_StickSampleIdeal_StickSampleReferenceIdeal (hStickSampleIdeal := hStickSampleIdeal) (hStickSampleReferenceIdeal := hStickSampleReferenceIdeal)
    ∧ preserves_Memory_MemoryIdeal
    ∧ algebraic_MemoryIdeal_MemoryReferenceIdeal (hMemoryIdeal := hMemoryIdeal) (hMemoryReferenceIdeal := hMemoryReferenceIdeal)
    ∧ preserves_Merge_MergeIdeal
    ∧ algebraic_MergeIdeal_MergeReferenceIdeal (hMergeIdeal := hMergeIdeal) (hMergeReferenceIdeal := hMergeReferenceIdeal)
    ∧ preserves_Xattn_XattnIdeal
    ∧ algebraic_XattnIdeal_XattnReferenceIdeal_pre_finite (hXattnIdeal := hXattnIdeal) (hXattnReferenceIdeal := hXattnReferenceIdeal) (hPre_finite := hPre_finite)
    ∧ preserves_Route_RouteIdeal
    ∧ algebraic_RouteIdeal_RouteReferenceIdeal_pre_counted (hRouteIdeal := hRouteIdeal) (hRouteReferenceIdeal := hRouteReferenceIdeal) (hPre_counted := hPre_counted)
    ∧ preserves_Experts_ExpertsIdeal
    ∧ algebraic_ExpertsIdeal_ExpertsReferenceIdeal (hExpertsIdeal := hExpertsIdeal) (hExpertsReferenceIdeal := hExpertsReferenceIdeal) (hPre_routed := hPre_routed)
-- ==== Pre_counted.lean ====
abbrev S33024x128 : Shape := ⟨2, ![33024, 128]⟩
abbrev S8x128 : Shape := ⟨2, ![8, 128]⟩
abbrev S1x128 : Shape := ⟨2, ![1, 128]⟩
abbrev S128 : Shape := ⟨1, ![128]⟩
abbrev S_ : Shape := ⟨0, ![]⟩

class Facts : Prop where
  slices_S8x128_S1x128_0_0 : S8x128.Slices ![0, 0] S1x128
  shapeCasts_S1x128_S128 : S1x128.ShapeCasts S128
  bcast_S_S128 : S_.BroadcastsInDim S128 (![] : Fin 0 → Fin S128.rank)
  reducesTo_S128_S_d0 : S128.ReducesTo [0] S_
  h_S_ : 0 < S_.numel

variable [Facts]

def fn {F : FTy → Type} [FloatOps F] (main_arg0 : IVec S33024x128 32) (main_arg1 : FVec F S8x128 .f32) : IVec S_ 1 :=
  let main_v0 : FVec F S1x128 .f32 := (extractStridedSlice S1x128 ![0, 0] · slices_S8x128_S1x128_0_0) main_arg1
  let main_v1 : FVec F S128 .f32 := shapeCast S128 main_v0 shapeCasts_S1x128_S128
  let main_v2 : FVec F S128 .f32 := Host.absf main_v1
  let main_cst : FVec F S_ .f32 := constant S_ .f32 0x7F800000#32
  let main_v3 : FVec F S128 .f32 := broadcastInDim S128 ![] bcast_S_S128 main_cst
  let main_v4 : IVec S128 1 := cmpf .olt main_v2 main_v3
  let main_c : IVec S_ 1 := constantI S_ 1 1#1
  let main_v5 : IVec S_ 1 := (fun x v => Host.reduce IntOp.andi x v reducesTo_S128_S_d0 h_S_) main_v4 main_c
  main_v5
-- ==== Pre_finite.lean ====
abbrev S16x2048x1024 : Shape := ⟨3, ![16, 2048, 1024]⟩
abbrev S16x256x1024 : Shape := ⟨3, ![16, 256, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩

class Facts : Prop where
  bitsLt_bf16_f32 : FTy.bits .bf16 < FTy.bits .f32
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S16x256x1024 : S_.BroadcastsInDim S16x256x1024 (![] : Fin 0 → Fin S16x256x1024.rank)
  reducesTo_S16x256x1024_S_d0_1_2 : S16x256x1024.ReducesTo [0, 1, 2] S_

variable [Facts]

def fn {F : FTy → Type} [FloatOps F] (main_arg0 : FVec F S16x2048x1024 .bf16) (main_arg1 : FVec F S16x2048x1024 .f32) (main_arg2 : FVec F S16x256x1024 .f32) (main_arg3 : FVec F S16x256x1024 .f32) (main_arg4 : FVec F S1024x1024 .f32) (main_arg5 : FVec F S1024 .f32) (main_arg6 : FVec F S1024x32 .f32) (main_arg7 : FVec F S32 .f32) : IVec S_ 1 :=
  let main_v0 : FVec F S16x2048x1024 .f32 := (extf .f32 · bitsLt_bf16_f32) main_arg0
  let main_v1 : FVec F S16x2048x1024 .f32 := Host.absf main_v0
  let main_cst : FVec F S_ .f32 := constant S_ .f32 0x7F800000#32
  let main_v2 : FVec F S16x2048x1024 .f32 := broadcastInDim S16x2048x1024 ![] bcast_S_S16x2048x1024 main_cst
  let main_v3 : IVec S16x2048x1024 1 := cmpf .olt main_v1 main_v2
  let main_c : IVec S_ 1 := constantI S_ 1 1#1
  let main_v4 : IVec S_ 1 := (fun x v => Host.reduce IntOp.andi x v reducesTo_S16x2048x1024_S_d0_1_2 h_S_) main_v3 main_c
  let main_v5 : FVec F S16x256x1024 .f32 := Host.absf main_arg2
  let main_cst_0 : FVec F S_ .f32 := constant S_ .f32 0x7F800000#32
  let main_v6 : FVec F S16x256x1024 .f32 := broadcastInDim S16x256x1024 ![] bcast_S_S16x256x1024 main_cst_0
  let main_v7 : IVec S16x256x1024 1 := cmpf .olt main_v5 main_v6
  let main_c_1 : IVec S_ 1 := constantI S_ 1 1#1
  let main_v8 : IVec S_ 1 := (fun x v => Host.reduce IntOp.andi x v reducesTo_S16x256x1024_S_d0_1_2 h_S_) main_v7 main_c_1
  let main_v9 : IVec S_ 1 := andi main_v4 main_v8
  main_v9
-- ==== Pre_routed.lean ====
abbrev S148480x8x128 : Shape := ⟨3, ![148480, 8, 128]⟩
abbrev S8x128 : Shape := ⟨2, ![8, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S1x32 : Shape := ⟨2, ![1, 32]⟩
abbrev S32 : Shape := ⟨1, ![32]⟩
abbrev S_ : Shape := ⟨0, ![]⟩
abbrev S1 : Shape := ⟨1, ![1]⟩

class Facts : Prop where
  slices_S8x128_S1x32_0_0 : S8x128.Slices ![0, 0] S1x32
  shapeCasts_S1x32_S32 : S1x32.ShapeCasts S32
  bcast_S_S32 : S_.BroadcastsInDim S32 (![] : Fin 0 → Fin S32.rank)
  bcast_S_S_ : S_.BroadcastsInDim S_ (![] : Fin 0 → Fin S_.rank)
  reduceWindows_S32_S32_w32s1p31_0 : S32.ReduceWindows (![32] : Fin 1 → Nat) ![1] ![31] ![0] S32
  h_S_ : 0 < S_.numel
  slices_S32_S1_31 : S32.Slices ![31] S1
  bcast_S_S1 : S_.BroadcastsInDim S1 (![] : Fin 0 → Fin S1.rank)
  reducesTo_S1_S_d0 : S1.ReducesTo [0] S_

variable [Facts]

def fn_where {F : FTy → Type} [FloatOps F] (arg0 : IVec S32 1) (arg1 : IVec S32 32) (arg2 : IVec S32 32) : IVec S32 32 :=
  let v0 : IVec S32 32 := select arg0 arg1 arg2
  v0

def fn_floor_divide {F : FTy → Type} [FloatOps F] (arg0 : IVec S32 32) (arg1 : IVec S_ 32) : IVec S32 32 :=
  let v0 : IVec S_ 32 := id arg1
  let v1 : IVec S32 32 := broadcastInDim S32 ![] bcast_S_S32 v0
  let v2 : IVec S32 32 := Host.divsi arg0 v1
  let v3 : IVec S32 32 := signi arg0
  let v4 : IVec S_ 32 := signi v0
  let v5 : IVec S32 32 := broadcastInDim S32 ![] bcast_S_S32 v4
  let v6 : IVec S32 1 := cmpi .ne v3 v5
  let v7 : IVec S32 32 := broadcastInDim S32 ![] bcast_S_S32 v0
  let v8 : IVec S32 32 := Host.remsi arg0 v7
  let c : IVec S_ 32 := constantI S_ 32 0#32
  let v9 : IVec S32 32 := broadcastInDim S32 ![] bcast_S_S32 c
  let v10 : IVec S32 1 := cmpi .ne v8 v9
  let v11 : IVec S32 1 := andi v6 v10
  let c_0 : IVec S_ 32 := constantI S_ 32 1#32
  let v12 : IVec S32 32 := broadcastInDim S32 ![] bcast_S_S32 c_0
  let v13 : IVec S32 32 := subi v2 v12
  let v14 : IVec S32 32 := fn_where (F := F) v11 v13 v2
  v14

def fn_cumsum_0 {F : FTy → Type} [FloatOps F] (arg0 : IVec S32 32) : IVec S32 32 :=
  let c : IVec S_ 32 := constantI S_ 32 0#32
  let v0 : IVec S_ 32 := broadcastInDim S_ ![] bcast_S_S_ c
  let v1 : IVec S32 32 := (fun x v => Host.reduceWindow IntOp.addi ![32] ![1] ![31] ![0] x v reduceWindows_S32_S32_w32s1p31_0 h_S_) arg0 v0
  v1

def fn_cumsum {F : FTy → Type} [FloatOps F] (arg0 : IVec S32 32) : IVec S32 32 :=
  let v0 : IVec S32 32 := fn_cumsum_0 (F := F) arg0
  v0

def fn_where_2 {F : FTy → Type} [FloatOps F] (arg0 : IVec S1 1) (arg1 : IVec S1 32) (arg2 : IVec S1 32) : IVec S1 32 :=
  let v0 : IVec S1 32 := select arg0 arg1 arg2
  v0

def fn_floor_divide_1 {F : FTy → Type} [FloatOps F] (arg0 : IVec S1 32) (arg1 : IVec S_ 32) : IVec S1 32 :=
  let v0 : IVec S_ 32 := id arg1
  let v1 : IVec S1 32 := broadcastInDim S1 ![] bcast_S_S1 v0
  let v2 : IVec S1 32 := Host.divsi arg0 v1
  let v3 : IVec S1 32 := signi arg0
  let v4 : IVec S_ 32 := signi v0
  let v5 : IVec S1 32 := broadcastInDim S1 ![] bcast_S_S1 v4
  let v6 : IVec S1 1 := cmpi .ne v3 v5
  let v7 : IVec S1 32 := broadcastInDim S1 ![] bcast_S_S1 v0
  let v8 : IVec S1 32 := Host.remsi arg0 v7
  let c : IVec S_ 32 := constantI S_ 32 0#32
  let v9 : IVec S1 32 := broadcastInDim S1 ![] bcast_S_S1 c
  let v10 : IVec S1 1 := cmpi .ne v8 v9
  let v11 : IVec S1 1 := andi v6 v10
  let c_0 : IVec S_ 32 := constantI S_ 32 1#32
  let v12 : IVec S1 32 := broadcastInDim S1 ![] bcast_S_S1 c_0
  let v13 : IVec S1 32 := subi v2 v12
  let v14 : IVec S1 32 := fn_where_2 (F := F) v11 v13 v2
  v14

def fn {F : FTy → Type} [FloatOps F] (main_arg0 : FVec F S148480x8x128 .f32) (main_arg1 : FVec F S8x128 .f32) (main_arg2 : FVec F S32x1024x2048 .f32) (main_arg3 : FVec F S32x2048 .f32) (main_arg4 : FVec F S32x1024x1024 .f32) (main_arg5 : FVec F S32x1024 .f32) : IVec S_ 1 :=
  let main_v0 : FVec F S1x32 .f32 := (extractStridedSlice S1x32 ![0, 0] · slices_S8x128_S1x32_0_0) main_arg1
  let main_v1 : FVec F S32 .f32 := shapeCast S32 main_v0 shapeCasts_S1x32_S32
  let main_v2 : IVec S32 32 := fptosi 32 main_v1
  let main_c : IVec S_ 32 := constantI S_ 32 511#32
  let main_v3 : IVec S32 32 := broadcastInDim S32 ![] bcast_S_S32 main_c
  let main_v4 : IVec S32 32 := addi main_v2 main_v3
  let main_c_0 : IVec S_ 32 := constantI S_ 32 512#32
  let main_v5 : IVec S32 32 := fn_floor_divide (F := F) main_v4 main_c_0
  let main_c_1 : IVec S_ 32 := constantI S_ 32 512#32
  let main_v6 : IVec S32 32 := broadcastInDim S32 ![] bcast_S_S32 main_c_1
  let main_v7 : IVec S32 32 := muli main_v5 main_v6
  let main_v8 : IVec S32 32 := fn_cumsum (F := F) main_v7
  let main_v9 : IVec S1 32 := (extractStridedSlice S1 ![31] · slices_S32_S1_31) main_v8
  let main_c_2 : IVec S_ 32 := constantI S_ 32 512#32
  let main_v10 : IVec S1 32 := fn_floor_divide_1 (F := F) main_v9 main_c_2
  let main_c_3 : IVec S_ 32 := constantI S_ 32 1#32
  let main_v11 : IVec S1 32 := broadcastInDim S1 ![] bcast_S_S1 main_c_3
  let main_v12 : IVec S1 1 := cmpi .sge main_v10 main_v11
  let main_c_4 : IVec S_ 1 := constantI S_ 1 1#1
  let main_v13 : IVec S_ 1 := (fun x v => Host.reduce IntOp.andi x v reducesTo_S1_S_d0 h_S_) main_v12 main_c_4
  main_v13
-- ==== Kernel.lean ====
abbrev S16x2048x512 : Shape := ⟨3, ![16, 2048, 512]⟩
abbrev S1x256x128 : Shape := ⟨3, ![1, 256, 128]⟩
abbrev S1x2048x128 : Shape := ⟨3, ![1, 2048, 128]⟩
abbrev S512x128 : Shape := ⟨2, ![512, 128]⟩
abbrev S512x1 : Shape := ⟨2, ![512, 1]⟩
abbrev S256x128 : Shape := ⟨2, ![256, 128]⟩
abbrev S256x256 : Shape := ⟨2, ![256, 256]⟩
abbrev S512x256 : Shape := ⟨2, ![512, 256]⟩

abbrev nBuf : Space → Nat
  | .hbm => 4
  | .vmem => 10
  | .smem => 0
  | _ => 0

abbrev bufTy : (tb : Table) → Fin (tcTables nBuf tb) → BufTy
  | .hbm, ⟨0, _⟩ => ⟨S16x2048x512, .bf16⟩
  | .hbm, ⟨1, _⟩ => ⟨S16x2048x512, .bf16⟩
  | .hbm, ⟨2, _⟩ => ⟨S16x2048x512, .bf16⟩
  | .hbm, ⟨3, _⟩ => ⟨S16x2048x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x256x128, .bf16⟩
  | .local _ .vmem, ⟨7, _⟩ => ⟨S1x256x128, .bf16⟩
  | .local _ .vmem, ⟨8, _⟩ => ⟨S512x128, .f32⟩
  | .local _ .vmem, ⟨9, _⟩ => ⟨S512x1, .f32⟩
  | _, _ => ⟨S16x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 8], ![false, false, false]⟩

def k0_cond1 (i : grid0.Coords) : BitVec 1 :=
  let arg2 : BitVec 32 := BitVec.ofNat 32 (i 2).val
  let c0_i32 : BitVec 32 := 0#32
  let v21 : BitVec 1 := Scalar.cmpi .eq arg2 c0_i32
  let v22 : BitVec 32 := Scalar.extui v21
  let c0_i32_10 : BitVec 32 := 0#32
  let v23 : BitVec 1 := Scalar.cmpi .ne v22 c0_i32_10
  v23

def k0_mult1 (i : grid0.Coords) : BitVec 32 :=
  let arg2 : BitVec 32 := BitVec.ofNat 32 (i 2).val
  let c256_i32 : BitVec 32 := 256#32
  let v92 : BitVec 32 := Scalar.muli arg2 c256_i32
  v92
def k0_off1 (i : grid0.Coords) : Fin 3 → Nat :=
  let c0_50 : Index := 0#32
  let arg2 : BitVec 32 := BitVec.ofNat 32 (i 2).val
  let c256_i32 : BitVec 32 := 256#32
  let v92 : BitVec 32 := Scalar.muli arg2 c256_i32
  let v93 : BitVec 32 := v92
  let v94 : Index := Scalar.indexCast v93
  let c0_51 : Index := 0#32
  ![0, v94.toNat, 0]
def k0_cond2 (i : grid0.Coords) : BitVec 1 :=
  let arg2 : BitVec 32 := BitVec.ofNat 32 (i 2).val
  let c1_i32 : BitVec 32 := 1#32
  let v24 : BitVec 1 := Scalar.cmpi .eq arg2 c1_i32
  let v25 : BitVec 32 := Scalar.extui v24
  let c0_i32_11 : BitVec 32 := 0#32
  let v26 : BitVec 1 := Scalar.cmpi .ne v25 c0_i32_11
  v26

def k0_mult2 (i : grid0.Coords) : BitVec 32 :=
  let arg2 : BitVec 32 := BitVec.ofNat 32 (i 2).val
  let c256_i32 : BitVec 32 := 256#32
  let v92 : BitVec 32 := Scalar.muli arg2 c256_i32
  v92
def k0_off2 (i : grid0.Coords) : Fin 3 → Nat :=
  let c0_50 : Index := 0#32
  let arg2 : BitVec 32 := BitVec.ofNat 32 (i 2).val
  let c256_i32 : BitVec 32 := 256#32
  let v92 : BitVec 32 := Scalar.muli arg2 c256_i32
  let v93 : BitVec 32 := v92
  let v94 : Index := Scalar.indexCast v93
  let c0_51 : Index := 0#32
  ![0, v94.toNat, 0]
def k0_mult3 (i : grid0.Coords) : BitVec 32 :=
  let arg2 : BitVec 32 := BitVec.ofNat 32 (i 2).val
  let c1_i32_54 : BitVec 32 := 1#32
  let v100 : BitVec 32 := Scalar.subi arg2 c1_i32_54
  let c0_i32_55 : BitVec 32 := 0#32
  let v101 : BitVec 32 := Scalar.subi v100 c0_i32_55
  let c256_i32_56 : BitVec 32 := 256#32
  let v102 : BitVec 32 := Scalar.muli v101 c256_i32_56
  v102
def k0_off3 (i : grid0.Coords) : Fin 3 → Nat :=
  let c0_57 : Index := 0#32
  let arg2 : BitVec 32 := BitVec.ofNat 32 (i 2).val
  let c1_i32_54 : BitVec 32 := 1#32
  let v100 : BitVec 32 := Scalar.subi arg2 c1_i32_54
  let c0_i32_55 : BitVec 32 := 0#32
  let v101 : BitVec 32 := Scalar.subi v100 c0_i32_55
  let c256_i32_56 : BitVec 32 := 256#32
  let v102 : BitVec 32 := Scalar.muli v101 c256_i32_56
  let v103 : BitVec 32 := v102
  let v104 : Index := Scalar.indexCast v103
  let c0_58 : Index := 0#32
  ![0, v104.toNat, 0]
def k0_cond3 (i : grid0.Coords) : BitVec 1 :=
  let arg2 : BitVec 32 := BitVec.ofNat 32 (i 2).val
  let c2_i32 : BitVec 32 := 2#32
  let v27 : BitVec 1 := Scalar.cmpi .eq arg2 c2_i32
  let v28 : BitVec 32 := Scalar.extui v27
  let c0_i32_12 : BitVec 32 := 0#32
  let v29 : BitVec 1 := Scalar.cmpi .ne v28 c0_i32_12
  v29

def k0_mult4 (i : grid0.Coords) : BitVec 32 :=
  let arg2 : BitVec 32 := BitVec.ofNat 32 (i 2).val
  let c256_i32 : BitVec 32 := 256#32
  let v92 : BitVec 32 := Scalar.muli arg2 c256_i32
  v92
def k0_off4 (i : grid0.Coords) : Fin 3 → Nat :=
  let c0_50 : Index := 0#32
  let arg2 : BitVec 32 := BitVec.ofNat 32 (i 2).val
  let c256_i32 : BitVec 32 := 256#32
  let v92 : BitVec 32 := Scalar.muli arg2 c256_i32
  let v93 : BitVec 32 := v92
  let v94 : Index := Scalar.indexCast v93
  let c0_51 : Index := 0#32
  ![0, v94.toNat, 0]
def k0_mult5 (i : grid0.Coords) : BitVec 32 :=
  let arg2 : BitVec 32 := BitVec.ofNat 32 (i 2).val
  let c1_i32_54 : BitVec 32 := 1#32
  let v100 : BitVec 32 := Scalar.subi arg2 c1_i32_54
  let c0_i32_55 : BitVec 32 := 0#32
  let v101 : BitVec 32 := Scalar.subi v100 c0_i32_55
  let c256_i32_56 : BitVec 32 := 256#32
  let v102 : BitVec 32 := Scalar.muli v101 c256_i32_56
  v102
def k0_off5 (i : grid0.Coords) (c0_i32_55 : BitVec 32) : Fin 3 → Nat :=
  let c0_57 : Index := 0#32
  let arg2 : BitVec 32 := BitVec.ofNat 32 (i 2).val
  let c1_i32_54 : BitVec 32 := 1#32
  let v100 : BitVec 32 := Scalar.subi arg2 c1_i32_54
  let v101 : BitVec 32 := Scalar.subi v100 c0_i32_55
  let c256_i32_56 : BitVec 32 := 256#32
  let v102 : BitVec 32 := Scalar.muli v101 c256_i32_56
  let v103 : BitVec 32 := v102
  let v104 : Index := Scalar.indexCast v103
  let c0_58 : Index := 0#32
  ![0, v104.toNat, 0]
def k0_mult6 (i : grid0.Coords) : BitVec 32 :=
  let arg2 : BitVec 32 := BitVec.ofNat 32 (i 2).val
  let c1_i32_61 : BitVec 32 := 1#32
  let v110 : BitVec 32 := Scalar.subi arg2 c1_i32_61
  let c1_i32_62 : BitVec 32 := 1#32
  let v111 : BitVec 32 := Scalar.subi v110 c1_i32_62
  let c256_i32_63 : BitVec 32 := 256#32
  let v112 : BitVec 32 := Scalar.muli v111 c256_i32_63
  v112
def k0_cond4 (i : grid0.Coords) : BitVec 1 :=
  let arg2 : BitVec 32 := BitVec.ofNat 32 (i 2).val
  let c3_i32 : BitVec 32 := 3#32
  let v30 : BitVec 1 := Scalar.cmpi .sge arg2 c3_i32
  let v31 : BitVec 32 := Scalar.extui v30
  let c0_i32_13 : BitVec 32 := 0#32
  let v32 : BitVec 1 := Scalar.cmpi .ne v31 c0_i32_13
  v32

def k0_mult7 (i : grid0.Coords) : BitVec 32 :=
  let arg2 : BitVec 32 := BitVec.ofNat 32 (i 2).val
  let c256_i32 : BitVec 32 := 256#32
  let v92 : BitVec 32 := Scalar.muli arg2 c256_i32
  v92
def k0_off6 (i : grid0.Coords) : Fin 3 → Nat :=
  let c0_50 : Index := 0#32
  let arg2 : BitVec 32 := BitVec.ofNat 32 (i 2).val
  let c256_i32 : BitVec 32 := 256#32
  let v92 : BitVec 32 := Scalar.muli arg2 c256_i32
  let v93 : BitVec 32 := v92
  let v94 : Index := Scalar.indexCast v93
  let c0_51 : Index := 0#32
  ![0, v94.toNat, 0]
def k0_mult8 (i : grid0.Coords) : BitVec 32 :=
  let arg2 : BitVec 32 := BitVec.ofNat 32 (i 2).val
  let c1_i32_54 : BitVec 32 := 1#32
  let v100 : BitVec 32 := Scalar.subi arg2 c1_i32_54
  let c0_i32_55 : BitVec 32 := 0#32
  let v101 : BitVec 32 := Scalar.subi v100 c0_i32_55
  let c256_i32_56 : BitVec 32 := 256#32
  let v102 : BitVec 32 := Scalar.muli v101 c256_i32_56
  v102
def k0_off7 (i : grid0.Coords) (c0_i32_55 : BitVec 32) : Fin 3 → Nat :=
  let c0_57 : Index := 0#32
  let arg2 : BitVec 32 := BitVec.ofNat 32 (i 2).val
  let c1_i32_54 : BitVec 32 := 1#32
  let v100 : BitVec 32 := Scalar.subi arg2 c1_i32_54
  let v101 : BitVec 32 := Scalar.subi v100 c0_i32_55
  let c256_i32_56 : BitVec 32 := 256#32
  let v102 : BitVec 32 := Scalar.muli v101 c256_i32_56
  let v103 : BitVec 32 := v102
  let v104 : Index := Scalar.indexCast v103
  let c0_58 : Index := 0#32
  ![0, v104.toNat, 0]
def k0_mult9 (i : grid0.Coords) : BitVec 32 :=
  let arg2 : BitVec 32 := BitVec.ofNat 32 (i 2).val
  let c1_i32_61 : BitVec 32 := 1#32
  let v110 : BitVec 32 := Scalar.subi arg2 c1_i32_61
  let c1_i32_62 : BitVec 32 := 1#32
  let v111 : BitVec 32 := Scalar.subi v110 c1_i32_62
  let c256_i32_63 : BitVec 32 := 256#32
  let v112 : BitVec 32 := Scalar.muli v111 c256_i32_63
  v112
def k0_mult10 (i : grid0.Coords) : BitVec 32 :=
  let arg2 : BitVec 32 := BitVec.ofNat 32 (i 2).val
  let c1_i32_68 : BitVec 32 := 1#32
  let v120 : BitVec 32 := Scalar.subi arg2 c1_i32_68
  let c2_i32_69 : BitVec 32 := 2#32
  let v121 : BitVec 32 := Scalar.subi v120 c2_i32_69
  let c256_i32_70 : BitVec 32 := 256#32
  let v122 : BitVec 32 := Scalar.muli v121 c256_i32_70
  v122
@[reducible] def k0_t1_loop (i : grid0.Coords) : Scf.Loop 32 :=
  let c0_i32_23 : BitVec 32 := 0#32
  let arg2 : BitVec 32 := BitVec.ofNat 32 (i 2).val
  let c3_i32_14 : BitVec 32 := 3#32
  let v33 : BitVec 32 := Scalar.subi arg2 c3_i32_14
  let c0_i32_15 : BitVec 32 := 0#32
  let v34 : BitVec 32 := Scalar.maxsi v33 c0_i32_15
  let c0_i32_16 : BitVec 32 := 0#32
  let v36 : BitVec 1 := Scalar.cmpi .sgt v34 c0_i32_16
  let v37 : BitVec 32 := Scalar.extui v36
  let c0_i32_17 : BitVec 32 := 0#32
  let v38 : BitVec 1 := Scalar.cmpi .slt v34 c0_i32_17
  let v39 : BitVec 32 := Scalar.extui v38
  let v40 : BitVec 32 := Scalar.subi v37 v39
  let c4_i32 : BitVec 32 := 4#32
  let c0_i32_18 : BitVec 32 := 0#32
  let v41 : BitVec 1 := Scalar.cmpi .sgt c4_i32 c0_i32_18
  let v42 : BitVec 32 := Scalar.extui v41
  let c0_i32_19 : BitVec 32 := 0#32
  let v43 : BitVec 1 := Scalar.cmpi .slt c4_i32 c0_i32_19
  let v44 : BitVec 32 := Scalar.extui v43
  let v45 : BitVec 32 := Scalar.subi v42 v44
  let v46 : BitVec 1 := Scalar.cmpi .ne v40 v45
  let v47 : BitVec 32 := Scalar.remsi v34 c4_i32
  let c0_i32_20 : BitVec 32 := 0#32
  let v48 : BitVec 1 := Scalar.cmpi .ne v47 c0_i32_20
  let v49 : BitVec 1 := Scalar.andi v46 v48
  let v35 : BitVec 32 := Scalar.divsi v34 c4_i32
  let c1_i32_21 : BitVec 32 := 1#32
  let v50 : BitVec 32 := Scalar.subi v35 c1_i32_21
  let v51 : BitVec 32 := Scalar.select v49 v50 v35
  let v52 : BitVec 32 := Scalar.subi v51 c0_i32_23
  let c1_i32_24 : BitVec 32 := 1#32
  let v54 : BitVec 32 := Scalar.divsi v52 c1_i32_24
  let v55 : BitVec 32 := Scalar.muli v54 c1_i32_24
  let v56 : BitVec 32 := Scalar.addi c0_i32_23 v55
  let c1_i32_25 : BitVec 32 := 1#32
  ⟨c0_i32_23, v56, c1_i32_25⟩
def k0_mult11 (i : grid0.Coords) (k0_t1 : Fin (k0_t1_loop i).trips) : BitVec 32 :=
  let arg2 : BitVec 32 := BitVec.ofNat 32 (i 2).val
  let c3_i32_14 : BitVec 32 := 3#32
  let v33 : BitVec 32 := Scalar.subi arg2 c3_i32_14
  let c0_i32_15 : BitVec 32 := 0#32
  let v34 : BitVec 32 := Scalar.maxsi v33 c0_i32_15
  let c1_i32_50 : BitVec 32 := 1#32
  let v92 : BitVec 32 := Scalar.subi v34 c1_i32_50
  let c0_i32_51 : BitVec 32 := 0#32
  let v93 : BitVec 32 := Scalar.subi v92 c0_i32_51
  let c4_i32_52 : BitVec 32 := 4#32
  let c0_i32_23 : BitVec 32 := 0#32
  let c1_i32_25 : BitVec 32 := 1#32
  let arg9 : BitVec 32 := Scf.iv c0_i32_23 c1_i32_25 k0_t1
  let v94 : BitVec 32 := Scalar.muli c4_i32_52 arg9
  let v95 : BitVec 32 := Scalar.subi v93 v94
  let c256_i32 : BitVec 32 := 256#32
  let v96 : BitVec 32 := Scalar.muli v95 c256_i32
  v96
def k0_off8 (i : grid0.Coords) (k0_t1 : Fin (k0_t1_loop i).trips) (c0_i32_51 : BitVec 32) : Fin 3 → Nat :=
  let c0_53 : Index := 0#32
  let arg2 : BitVec 32 := BitVec.ofNat 32 (i 2).val
  let c3_i32_14 : BitVec 32 := 3#32
  let v33 : BitVec 32 := Scalar.subi arg2 c3_i32_14
  let c0_i32_15 : BitVec 32 := 0#32
  let v34 : BitVec 32 := Scalar.maxsi v33 c0_i32_15
  let c1_i32_50 : BitVec 32 := 1#32
  let v92 : BitVec 32 := Scalar.subi v34 c1_i32_50
  let v93 : BitVec 32 := Scalar.subi v92 c0_i32_51
  let c4_i32_52 : BitVec 32 := 4#32
  let c0_i32_23 : BitVec 32 := 0#32
  let c1_i32_25 : BitVec 32 := 1#32
  let arg9 : BitVec 32 := Scf.iv c0_i32_23 c1_i32_25 k0_t1
  let v94 : BitVec 32 := Scalar.muli c4_i32_52 arg9
  let v95 : BitVec 32 := Scalar.subi v93 v94
  let c256_i32 : BitVec 32 := 256#32
  let v96 : BitVec 32 := Scalar.muli v95 c256_i32
  let v97 : BitVec 32 := v96
  let v98 : Index := Scalar.indexCast v97
  let c0_54 : Index := 0#32
  ![0, v98.toNat, 0]
def k0_mult12 (i : grid0.Coords) (k0_t1 : Fin (k0_t1_loop i).trips) : BitVec 32 :=
  let arg2 : BitVec 32 := BitVec.ofNat 32 (i 2).val
  let c3_i32_14 : BitVec 32 := 3#32
  let v33 : BitVec 32 := Scalar.subi arg2 c3_i32_14
  let c0_i32_15 : BitVec 32 := 0#32
  let v34 : BitVec 32 := Scalar.maxsi v33 c0_i32_15
  let c1_i32_57 : BitVec 32 := 1#32
  let v104 : BitVec 32 := Scalar.subi v34 c1_i32_57
  let c1_i32_58 : BitVec 32 := 1#32
  let v105 : BitVec 32 := Scalar.subi v104 c1_i32_58
  let c4_i32_59 : BitVec 32 := 4#32
  let c0_i32_23 : BitVec 32 := 0#32
  let c1_i32_25 : BitVec 32 := 1#32
  let arg9 : BitVec 32 := Scf.iv c0_i32_23 c1_i32_25 k0_t1
  let v106 : BitVec 32 := Scalar.muli c4_i32_59 arg9
  let v107 : BitVec 32 := Scalar.subi v105 v106
  let c256_i32_60 : BitVec 32 := 256#32
  let v108 : BitVec 32 := Scalar.muli v107 c256_i32_60
  v108
def k0_mult13 (i : grid0.Coords) (k0_t1 : Fin (k0_t1_loop i).trips) : BitVec 32 :=
  let arg2 : BitVec 32 := BitVec.ofNat 32 (i 2).val
  let c3_i32_14 : BitVec 32 := 3#32
  let v33 : BitVec 32 := Scalar.subi arg2 c3_i32_14
  let c0_i32_15 : BitVec 32 := 0#32
  let v34 : BitVec 32 := Scalar.maxsi v33 c0_i32_15
  let c1_i32_65 : BitVec 32 := 1#32
  let v116 : BitVec 32 := Scalar.subi v34 c1_i32_65
  let c2_i32_66 : BitVec 32 := 2#32
  let v117 : BitVec 32 := Scalar.subi v116 c2_i32_66
  let c4_i32_67 : BitVec 32 := 4#32
  let c0_i32_23 : BitVec 32 := 0#32
  let c1_i32_25 : BitVec 32 := 1#32
  let arg9 : BitVec 32 := Scf.iv c0_i32_23 c1_i32_25 k0_t1
  let v118 : BitVec 32 := Scalar.muli c4_i32_67 arg9
  let v119 : BitVec 32 := Scalar.subi v117 v118
  let c256_i32_68 : BitVec 32 := 256#32
  let v120 : BitVec 32 := Scalar.muli v119 c256_i32_68
  v120
def k0_mult14 (i : grid0.Coords) (k0_t1 : Fin (k0_t1_loop i).trips) : BitVec 32 :=
  let arg2 : BitVec 32 := BitVec.ofNat 32 (i 2).val
  let c3_i32_14 : BitVec 32 := 3#32
  let v33 : BitVec 32 := Scalar.subi arg2 c3_i32_14
  let c0_i32_15 : BitVec 32 := 0#32
  let v34 : BitVec 32 := Scalar.maxsi v33 c0_i32_15
  let c1_i32_73 : BitVec 32 := 1#32
  let v128 : BitVec 32 := Scalar.subi v34 c1_i32_73
  let c3_i32_74 : BitVec 32 := 3#32
  let v129 : BitVec 32 := Scalar.subi v128 c3_i32_74
  let c4_i32_75 : BitVec 32 := 4#32
  let c0_i32_23 : BitVec 32 := 0#32
  let c1_i32_25 : BitVec 32 := 1#32
  let arg9 : BitVec 32 := Scf.iv c0_i32_23 c1_i32_25 k0_t1
  let v130 : BitVec 32 := Scalar.muli c4_i32_75 arg9
  let v131 : BitVec 32 := Scalar.subi v129 v130
  let c256_i32_76 : BitVec 32 := 256#32
  let v132 : BitVec 32 := Scalar.muli v131 c256_i32_76
  v132
@[reducible] def k0_t2_loop (i : grid0.Coords) : Scf.Loop 32 :=
  let c0_i32_23 : BitVec 32 := 0#32
  let arg2 : BitVec 32 := BitVec.ofNat 32 (i 2).val
  let c3_i32_14 : BitVec 32 := 3#32
  let v33 : BitVec 32 := Scalar.subi arg2 c3_i32_14
  let c0_i32_15 : BitVec 32 := 0#32
  let v34 : BitVec 32 := Scalar.maxsi v33 c0_i32_15
  let c0_i32_16 : BitVec 32 := 0#32
  let v36 : BitVec 1 := Scalar.cmpi .sgt v34 c0_i32_16
  let v37 : BitVec 32 := Scalar.extui v36
  let c0_i32_17 : BitVec 32 := 0#32
  let v38 : BitVec 1 := Scalar.cmpi .slt v34 c0_i32_17
  let v39 : BitVec 32 := Scalar.extui v38
  let v40 : BitVec 32 := Scalar.subi v37 v39
  let c4_i32 : BitVec 32 := 4#32
  let c0_i32_18 : BitVec 32 := 0#32
  let v41 : BitVec 1 := Scalar.cmpi .sgt c4_i32 c0_i32_18
  let v42 : BitVec 32 := Scalar.extui v41
  let c0_i32_19 : BitVec 32 := 0#32
  let v43 : BitVec 1 := Scalar.cmpi .slt c4_i32 c0_i32_19
  let v44 : BitVec 32 := Scalar.extui v43
  let v45 : BitVec 32 := Scalar.subi v42 v44
  let v46 : BitVec 1 := Scalar.cmpi .ne v40 v45
  let v47 : BitVec 32 := Scalar.remsi v34 c4_i32
  let c0_i32_20 : BitVec 32 := 0#32
  let v48 : BitVec 1 := Scalar.cmpi .ne v47 c0_i32_20
  let v49 : BitVec 1 := Scalar.andi v46 v48
  let v35 : BitVec 32 := Scalar.divsi v34 c4_i32
  let c1_i32_21 : BitVec 32 := 1#32
  let v50 : BitVec 32 := Scalar.subi v35 c1_i32_21
  let v51 : BitVec 32 := Scalar.select v49 v50 v35
  let v52 : BitVec 32 := Scalar.subi v51 c0_i32_23
  let c1_i32_24 : BitVec 32 := 1#32
  let v54 : BitVec 32 := Scalar.divsi v52 c1_i32_24
  let v55 : BitVec 32 := Scalar.muli v54 c1_i32_24
  let v56 : BitVec 32 := Scalar.addi c0_i32_23 v55
  let v53 : BitVec 32 := Scalar.addi c0_i32_23 v52
  let c1_i32_26 : BitVec 32 := 1#32
  ⟨v56, v53, c1_i32_26⟩
def k0_mult15 (i : grid0.Coords) (k0_t2 : Fin (k0_t2_loop i).trips) : BitVec 32 :=
  let arg2 : BitVec 32 := BitVec.ofNat 32 (i 2).val
  let c3_i32_14 : BitVec 32 := 3#32
  let v33 : BitVec 32 := Scalar.subi arg2 c3_i32_14
  let c0_i32_15 : BitVec 32 := 0#32
  let v34 : BitVec 32 := Scalar.maxsi v33 c0_i32_15
  let c1_i32_50 : BitVec 32 := 1#32
  let v92 : BitVec 32 := Scalar.subi v34 c1_i32_50
  let c0_i32_51 : BitVec 32 := 0#32
  let v93 : BitVec 32 := Scalar.subi v92 c0_i32_51
  let c4_i32_52 : BitVec 32 := 4#32
  let c0_i32_23 : BitVec 32 := 0#32
  let c0_i32_16 : BitVec 32 := 0#32
  let v36 : BitVec 1 := Scalar.cmpi .sgt v34 c0_i32_16
  let v37 : BitVec 32 := Scalar.extui v36
  let c0_i32_17 : BitVec 32 := 0#32
  let v38 : BitVec 1 := Scalar.cmpi .slt v34 c0_i32_17
  let v39 : BitVec 32 := Scalar.extui v38
  let v40 : BitVec 32 := Scalar.subi v37 v39
  let c4_i32 : BitVec 32 := 4#32
  let c0_i32_18 : BitVec 32 := 0#32
  let v41 : BitVec 1 := Scalar.cmpi .sgt c4_i32 c0_i32_18
  let v42 : BitVec 32 := Scalar.extui v41
  let c0_i32_19 : BitVec 32 := 0#32
  let v43 : BitVec 1 := Scalar.cmpi .slt c4_i32 c0_i32_19
  let v44 : BitVec 32 := Scalar.extui v43
  let v45 : BitVec 32 := Scalar.subi v42 v44
  let v46 : BitVec 1 := Scalar.cmpi .ne v40 v45
  let v47 : BitVec 32 := Scalar.remsi v34 c4_i32
  let c0_i32_20 : BitVec 32 := 0#32
  let v48 : BitVec 1 := Scalar.cmpi .ne v47 c0_i32_20
  let v49 : BitVec 1 := Scalar.andi v46 v48
  let v35 : BitVec 32 := Scalar.divsi v34 c4_i32
  let c1_i32_21 : BitVec 32 := 1#32
  let v50 : BitVec 32 := Scalar.subi v35 c1_i32_21
  let v51 : BitVec 32 := Scalar.select v49 v50 v35
  let v52 : BitVec 32 := Scalar.subi v51 c0_i32_23
  let c1_i32_24 : BitVec 32 := 1#32
  let v54 : BitVec 32 := Scalar.divsi v52 c1_i32_24
  let v55 : BitVec 32 := Scalar.muli v54 c1_i32_24
  let v56 : BitVec 32 := Scalar.addi c0_i32_23 v55
  let c1_i32_26 : BitVec 32 := 1#32
  let arg9 : BitVec 32 := Scf.iv v56 c1_i32_26 k0_t2
  let v94 : BitVec 32 := Scalar.muli c4_i32_52 arg9
  let v95 : BitVec 32 := Scalar.subi v93 v94
  let c256_i32 : BitVec 32 := 256#32
  let v96 : BitVec 32 := Scalar.muli v95 c256_i32
  v96
def k0_off9 (i : grid0.Coords) (k0_t2 : Fin (k0_t2_loop i).trips) (c0_i32_51 : BitVec 32) : Fin 3 → Nat :=
  let c0_53 : Index := 0#32
  let arg2 : BitVec 32 := BitVec.ofNat 32 (i 2).val
  let c3_i32_14 : BitVec 32 := 3#32
  let v33 : BitVec 32 := Scalar.subi arg2 c3_i32_14
  let c0_i32_15 : BitVec 32 := 0#32
  let v34 : BitVec 32 := Scalar.maxsi v33 c0_i32_15
  let c1_i32_50 : BitVec 32 := 1#32
  let v92 : BitVec 32 := Scalar.subi v34 c1_i32_50
  let v93 : BitVec 32 := Scalar.subi v92 c0_i32_51
  let c4_i32_52 : BitVec 32 := 4#32
  let c0_i32_23 : BitVec 32 := 0#32
  let c0_i32_16 : BitVec 32 := 0#32
  let v36 : BitVec 1 := Scalar.cmpi .sgt v34 c0_i32_16
  let v37 : BitVec 32 := Scalar.extui v36
  let c0_i32_17 : BitVec 32 := 0#32
  let v38 : BitVec 1 := Scalar.cmpi .slt v34 c0_i32_17
  let v39 : BitVec 32 := Scalar.extui v38
  let v40 : BitVec 32 := Scalar.subi v37 v39
  let c4_i32 : BitVec 32 := 4#32
  let c0_i32_18 : BitVec 32 := 0#32
  let v41 : BitVec 1 := Scalar.cmpi .sgt c4_i32 c0_i32_18
  let v42 : BitVec 32 := Scalar.extui v41
  let c0_i32_19 : BitVec 32 := 0#32
  let v43 : BitVec 1 := Scalar.cmpi .slt c4_i32 c0_i32_19
  let v44 : BitVec 32 := Scalar.extui v43
  let v45 : BitVec 32 := Scalar.subi v42 v44
  let v46 : BitVec 1 := Scalar.cmpi .ne v40 v45
  let v47 : BitVec 32 := Scalar.remsi v34 c4_i32
  let c0_i32_20 : BitVec 32 := 0#32
  let v48 : BitVec 1 := Scalar.cmpi .ne v47 c0_i32_20
  let v49 : BitVec 1 := Scalar.andi v46 v48
  let v35 : BitVec 32 := Scalar.divsi v34 c4_i32
  let c1_i32_21 : BitVec 32 := 1#32
  let v50 : BitVec 32 := Scalar.subi v35 c1_i32_21
  let v51 : BitVec 32 := Scalar.select v49 v50 v35
  let v52 : BitVec 32 := Scalar.subi v51 c0_i32_23
  let c1_i32_24 : BitVec 32 := 1#32
  let v54 : BitVec 32 := Scalar.divsi v52 c1_i32_24
  let v55 : BitVec 32 := Scalar.muli v54 c1_i32_24
  let v56 : BitVec 32 := Scalar.addi c0_i32_23 v55
  let c1_i32_26 : BitVec 32 := 1#32
  let arg9 : BitVec 32 := Scf.iv v56 c1_i32_26 k0_t2
  let v94 : BitVec 32 := Scalar.muli c4_i32_52 arg9
  let v95 : BitVec 32 := Scalar.subi v93 v94
  let c256_i32 : BitVec 32 := 256#32
  let v96 : BitVec 32 := Scalar.muli v95 c256_i32
  let v97 : BitVec 32 := v96
  let v98 : Index := Scalar.indexCast v97
  let c0_54 : Index := 0#32
  ![0, v98.toNat, 0]
def k0_mult16 (i : grid0.Coords) (k0_t2 : Fin (k0_t2_loop i).trips) : BitVec 32 :=
  let arg2 : BitVec 32 := BitVec.ofNat 32 (i 2).val
  let c3_i32_14 : BitVec 32 := 3#32
  let v33 : BitVec 32 := Scalar.subi arg2 c3_i32_14
  let c0_i32_15 : BitVec 32 := 0#32
  let v34 : BitVec 32 := Scalar.maxsi v33 c0_i32_15
  let c1_i32_57 : BitVec 32 := 1#32
  let v104 : BitVec 32 := Scalar.subi v34 c1_i32_57
  let c1_i32_58 : BitVec 32 := 1#32
  let v105 : BitVec 32 := Scalar.subi v104 c1_i32_58
  let c4_i32_59 : BitVec 32 := 4#32
  let c0_i32_23 : BitVec 32 := 0#32
  let c0_i32_16 : BitVec 32 := 0#32
  let v36 : BitVec 1 := Scalar.cmpi .sgt v34 c0_i32_16
  let v37 : BitVec 32 := Scalar.extui v36
  let c0_i32_17 : BitVec 32 := 0#32
  let v38 : BitVec 1 := Scalar.cmpi .slt v34 c0_i32_17
  let v39 : BitVec 32 := Scalar.extui v38
  let v40 : BitVec 32 := Scalar.subi v37 v39
  let c4_i32 : BitVec 32 := 4#32
  let c0_i32_18 : BitVec 32 := 0#32
  let v41 : BitVec 1 := Scalar.cmpi .sgt c4_i32 c0_i32_18
  let v42 : BitVec 32 := Scalar.extui v41
  let c0_i32_19 : BitVec 32 := 0#32
  let v43 : BitVec 1 := Scalar.cmpi .slt c4_i32 c0_i32_19
  let v44 : BitVec 32 := Scalar.extui v43
  let v45 : BitVec 32 := Scalar.subi v42 v44
  let v46 : BitVec 1 := Scalar.cmpi .ne v40 v45
  let v47 : BitVec 32 := Scalar.remsi v34 c4_i32
  let c0_i32_20 : BitVec 32 := 0#32
  let v48 : BitVec 1 := Scalar.cmpi .ne v47 c0_i32_20
  let v49 : BitVec 1 := Scalar.andi v46 v48
  let v35 : BitVec 32 := Scalar.divsi v34 c4_i32
  let c1_i32_21 : BitVec 32 := 1#32
  let v50 : BitVec 32 := Scalar.subi v35 c1_i32_21
  let v51 : BitVec 32 := Scalar.select v49 v50 v35
  let v52 : BitVec 32 := Scalar.subi v51 c0_i32_23
  let c1_i32_24 : BitVec 32 := 1#32
  let v54 : BitVec 32 := Scalar.divsi v52 c1_i32_24
  let v55 : BitVec 32 := Scalar.muli v54 c1_i32_24
  let v56 : BitVec 32 := Scalar.addi c0_i32_23 v55
  let c1_i32_26 : BitVec 32 := 1#32
  let arg9 : BitVec 32 := Scf.iv v56 c1_i32_26 k0_t2
  let v106 : BitVec 32 := Scalar.muli c4_i32_59 arg9
  let v107 : BitVec 32 := Scalar.subi v105 v106
  let c256_i32_60 : BitVec 32 := 256#32
  let v108 : BitVec 32 := Scalar.muli v107 c256_i32_60
  v108
def k0_mult17 (i : grid0.Coords) (k0_t2 : Fin (k0_t2_loop i).trips) : BitVec 32 :=
  let arg2 : BitVec 32 := BitVec.ofNat 32 (i 2).val
  let c3_i32_14 : BitVec 32 := 3#32
  let v33 : BitVec 32 := Scalar.subi arg2 c3_i32_14
  let c0_i32_15 : BitVec 32 := 0#32
  let v34 : BitVec 32 := Scalar.maxsi v33 c0_i32_15
  let c1_i32_65 : BitVec 32 := 1#32
  let v116 : BitVec 32 := Scalar.subi v34 c1_i32_65
  let c2_i32_66 : BitVec 32 := 2#32
  let v117 : BitVec 32 := Scalar.subi v116 c2_i32_66
  let c4_i32_67 : BitVec 32 := 4#32
  let c0_i32_23 : BitVec 32 := 0#32
  let c0_i32_16 : BitVec 32 := 0#32
  let v36 : BitVec 1 := Scalar.cmpi .sgt v34 c0_i32_16
  let v37 : BitVec 32 := Scalar.extui v36
  let c0_i32_17 : BitVec 32 := 0#32
  let v38 : BitVec 1 := Scalar.cmpi .slt v34 c0_i32_17
  let v39 : BitVec 32 := Scalar.extui v38
  let v40 : BitVec 32 := Scalar.subi v37 v39
  let c4_i32 : BitVec 32 := 4#32
  let c0_i32_18 : BitVec 32 := 0#32
  let v41 : BitVec 1 := Scalar.cmpi .sgt c4_i32 c0_i32_18
  let v42 : BitVec 32 := Scalar.extui v41
  let c0_i32_19 : BitVec 32 := 0#32
  let v43 : BitVec 1 := Scalar.cmpi .slt c4_i32 c0_i32_19
  let v44 : BitVec 32 := Scalar.extui v43
  let v45 : BitVec 32 := Scalar.subi v42 v44
  let v46 : BitVec 1 := Scalar.cmpi .ne v40 v45
  let v47 : BitVec 32 := Scalar.remsi v34 c4_i32
  let c0_i32_20 : BitVec 32 := 0#32
  let v48 : BitVec 1 := Scalar.cmpi .ne v47 c0_i32_20
  let v49 : BitVec 1 := Scalar.andi v46 v48
  let v35 : BitVec 32 := Scalar.divsi v34 c4_i32
  let c1_i32_21 : BitVec 32 := 1#32
  let v50 : BitVec 32 := Scalar.subi v35 c1_i32_21
  let v51 : BitVec 32 := Scalar.select v49 v50 v35
  let v52 : BitVec 32 := Scalar.subi v51 c0_i32_23
  let c1_i32_24 : BitVec 32 := 1#32
  let v54 : BitVec 32 := Scalar.divsi v52 c1_i32_24
  let v55 : BitVec 32 := Scalar.muli v54 c1_i32_24
  let v56 : BitVec 32 := Scalar.addi c0_i32_23 v55
  let c1_i32_26 : BitVec 32 := 1#32
  let arg9 : BitVec 32 := Scf.iv v56 c1_i32_26 k0_t2
  let v118 : BitVec 32 := Scalar.muli c4_i32_67 arg9
  let v119 : BitVec 32 := Scalar.subi v117 v118
  let c256_i32_68 : BitVec 32 := 256#32
  let v120 : BitVec 32 := Scalar.muli v119 c256_i32_68
  v120
def k0_mult18 (i : grid0.Coords) (k0_t2 : Fin (k0_t2_loop i).trips) : BitVec 32 :=
  let arg2 : BitVec 32 := BitVec.ofNat 32 (i 2).val
  let c3_i32_14 : BitVec 32 := 3#32
  let v33 : BitVec 32 := Scalar.subi arg2 c3_i32_14
  let c0_i32_15 : BitVec 32 := 0#32
  let v34 : BitVec 32 := Scalar.maxsi v33 c0_i32_15
  let c1_i32_73 : BitVec 32 := 1#32
  let v128 : BitVec 32 := Scalar.subi v34 c1_i32_73
  let c3_i32_74 : BitVec 32 := 3#32
  let v129 : BitVec 32 := Scalar.subi v128 c3_i32_74
  let c4_i32_75 : BitVec 32 := 4#32
  let c0_i32_23 : BitVec 32 := 0#32
  let c0_i32_16 : BitVec 32 := 0#32
  let v36 : BitVec 1 := Scalar.cmpi .sgt v34 c0_i32_16
  let v37 : BitVec 32 := Scalar.extui v36
  let c0_i32_17 : BitVec 32 := 0#32
  let v38 : BitVec 1 := Scalar.cmpi .slt v34 c0_i32_17
  let v39 : BitVec 32 := Scalar.extui v38
  let v40 : BitVec 32 := Scalar.subi v37 v39
  let c4_i32 : BitVec 32 := 4#32
  let c0_i32_18 : BitVec 32 := 0#32
  let v41 : BitVec 1 := Scalar.cmpi .sgt c4_i32 c0_i32_18
  let v42 : BitVec 32 := Scalar.extui v41
  let c0_i32_19 : BitVec 32 := 0#32
  let v43 : BitVec 1 := Scalar.cmpi .slt c4_i32 c0_i32_19
  let v44 : BitVec 32 := Scalar.extui v43
  let v45 : BitVec 32 := Scalar.subi v42 v44
  let v46 : BitVec 1 := Scalar.cmpi .ne v40 v45
  let v47 : BitVec 32 := Scalar.remsi v34 c4_i32
  let c0_i32_20 : BitVec 32 := 0#32
  let v48 : BitVec 1 := Scalar.cmpi .ne v47 c0_i32_20
  let v49 : BitVec 1 := Scalar.andi v46 v48
  let v35 : BitVec 32 := Scalar.divsi v34 c4_i32
  let c1_i32_21 : BitVec 32 := 1#32
  let v50 : BitVec 32 := Scalar.subi v35 c1_i32_21
  let v51 : BitVec 32 := Scalar.select v49 v50 v35
  let v52 : BitVec 32 := Scalar.subi v51 c0_i32_23
  let c1_i32_24 : BitVec 32 := 1#32
  let v54 : BitVec 32 := Scalar.divsi v52 c1_i32_24
  let v55 : BitVec 32 := Scalar.muli v54 c1_i32_24
  let v56 : BitVec 32 := Scalar.addi c0_i32_23 v55
  let c1_i32_26 : BitVec 32 := 1#32
  let arg9 : BitVec 32 := Scf.iv v56 c1_i32_26 k0_t2
  let v130 : BitVec 32 := Scalar.muli c4_i32_75 arg9
  let v131 : BitVec 32 := Scalar.subi v129 v130
  let c256_i32_76 : BitVec 32 := 256#32
  let v132 : BitVec 32 := Scalar.muli v131 c256_i32_76
  v132
def k0_cond5 (i : grid0.Coords) : BitVec 1 :=
  let arg2 : BitVec 32 := BitVec.ofNat 32 (i 2).val
  let c3_i32_14 : BitVec 32 := 3#32
  let v33 : BitVec 32 := Scalar.subi arg2 c3_i32_14
  let c0_i32_15 : BitVec 32 := 0#32
  let v34 : BitVec 32 := Scalar.maxsi v33 c0_i32_15
  let c4_i32_27 : BitVec 32 := 4#32
  let c0_i32_28 : BitVec 32 := 0#32
  let v57 : BitVec 1 := Scalar.cmpi .eq c4_i32_27 c0_i32_28
  let c1_i32_29 : BitVec 32 := 1#32
  let v58 : BitVec 32 := Scalar.select v57 c1_i32_29 c4_i32_27
  let v59 : BitVec 32 := Scalar.remsi v34 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c2_i32_33 : BitVec 32 := 2#32
  let v67 : BitVec 1 := Scalar.cmpi .sge v66 c2_i32_33
  let v68 : BitVec 32 := Scalar.extui v67
  let c0_i32_34 : BitVec 32 := 0#32
  let v69 : BitVec 1 := Scalar.cmpi .ne v68 c0_i32_34
  v69

def k0_mult19 (i : grid0.Coords) : BitVec 32 :=
  let arg2 : BitVec 32 := BitVec.ofNat 32 (i 2).val
  let c3_i32_14 : BitVec 32 := 3#32
  let v33 : BitVec 32 := Scalar.subi arg2 c3_i32_14
  let c0_i32_15 : BitVec 32 := 0#32
  let v34 : BitVec 32 := Scalar.maxsi v33 c0_i32_15
  let c4_i32_27 : BitVec 32 := 4#32
  let c0_i32_28 : BitVec 32 := 0#32
  let v57 : BitVec 1 := Scalar.cmpi .eq c4_i32_27 c0_i32_28
  let c1_i32_29 : BitVec 32 := 1#32
  let v58 : BitVec 32 := Scalar.select v57 c1_i32_29 c4_i32_27
  let v59 : BitVec 32 := Scalar.remsi v34 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c1_i32_50 : BitVec 32 := 1#32
  let v92 : BitVec 32 := Scalar.subi v66 c1_i32_50
  let c256_i32 : BitVec 32 := 256#32
  let v93 : BitVec 32 := Scalar.muli v92 c256_i32
  v93
def k0_off10 (i : grid0.Coords) (c1_i32_50 : BitVec 32) : Fin 3 → Nat :=
  let c0_51 : Index := 0#32
  let arg2 : BitVec 32 := BitVec.ofNat 32 (i 2).val
  let c3_i32_14 : BitVec 32 := 3#32
  let v33 : BitVec 32 := Scalar.subi arg2 c3_i32_14
  let c0_i32_15 : BitVec 32 := 0#32
  let v34 : BitVec 32 := Scalar.maxsi v33 c0_i32_15
  let c4_i32_27 : BitVec 32 := 4#32
  let c0_i32_28 : BitVec 32 := 0#32
  let v57 : BitVec 1 := Scalar.cmpi .eq c4_i32_27 c0_i32_28
  let c1_i32_29 : BitVec 32 := 1#32
  let v58 : BitVec 32 := Scalar.select v57 c1_i32_29 c4_i32_27
  let v59 : BitVec 32 := Scalar.remsi v34 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let v92 : BitVec 32 := Scalar.subi v66 c1_i32_50
  let c256_i32 : BitVec 32 := 256#32
  let v93 : BitVec 32 := Scalar.muli v92 c256_i32
  let v94 : BitVec 32 := v93
  let v95 : Index := Scalar.indexCast v94
  let c0_52 : Index := 0#32
  ![0, v95.toNat, 0]
def k0_mult20 (i : grid0.Coords) : BitVec 32 :=
  let arg2 : BitVec 32 := BitVec.ofNat 32 (i 2).val
  let c3_i32_14 : BitVec 32 := 3#32
  let v33 : BitVec 32 := Scalar.subi arg2 c3_i32_14
  let c0_i32_15 : BitVec 32 := 0#32
  let v34 : BitVec 32 := Scalar.maxsi v33 c0_i32_15
  let c4_i32_27 : BitVec 32 := 4#32
  let c0_i32_28 : BitVec 32 := 0#32
  let v57 : BitVec 1 := Scalar.cmpi .eq c4_i32_27 c0_i32_28
  let c1_i32_29 : BitVec 32 := 1#32
  let v58 : BitVec 32 := Scalar.select v57 c1_i32_29 c4_i32_27
  let v59 : BitVec 32 := Scalar.remsi v34 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c2_i32_55 : BitVec 32 := 2#32
  let v101 : BitVec 32 := Scalar.subi v66 c2_i32_55
  let c256_i32_56 : BitVec 32 := 256#32
  let v102 : BitVec 32 := Scalar.muli v101 c256_i32_56
  v102
def k0_cond6 (i : grid0.Coords) : BitVec 1 :=
  let arg2 : BitVec 32 := BitVec.ofNat 32 (i 2).val
  let c3_i32_14 : BitVec 32 := 3#32
  let v33 : BitVec 32 := Scalar.subi arg2 c3_i32_14
  let c0_i32_15 : BitVec 32 := 0#32
  let v34 : BitVec 32 := Scalar.maxsi v33 c0_i32_15
  let c4_i32_27 : BitVec 32 := 4#32
  let c0_i32_28 : BitVec 32 := 0#32
  let v57 : BitVec 1 := Scalar.cmpi .eq c4_i32_27 c0_i32_28
  let c1_i32_29 : BitVec 32 := 1#32
  let v58 : BitVec 32 := Scalar.select v57 c1_i32_29 c4_i32_27
  let v59 : BitVec 32 := Scalar.remsi v34 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c2_i32_35 : BitVec 32 := 2#32
  let c0_i32_36 : BitVec 32 := 0#32
  let v70 : BitVec 1 := Scalar.cmpi .eq c2_i32_35 c0_i32_36
  let c1_i32_37 : BitVec 32 := 1#32
  let v71 : BitVec 32 := Scalar.select v70 c1_i32_37 c2_i32_35
  let v72 : BitVec 32 := Scalar.remsi v66 v71
  let c0_i32_39 : BitVec 32 := 0#32
  let v74 : BitVec 1 := Scalar.cmpi .slt v72 c0_i32_39
  let c0_i32_40 : BitVec 32 := 0#32
  let v75 : BitVec 1 := Scalar.cmpi .slt v71 c0_i32_40
  let v76 : BitVec 1 := Scalar.xori v74 v75
  let c0_i32_38 : BitVec 32 := 0#32
  let v73 : BitVec 1 := Scalar.cmpi .ne v72 c0_i32_38
  let v77 : BitVec 1 := Scalar.andi v76 v73
  let v78 : BitVec 32 := Scalar.addi v72 v71
  let v79 : BitVec 32 := Scalar.select v77 v78 v72
  let c1_i32_41 : BitVec 32 := 1#32
  let v80 : BitVec 1 := Scalar.cmpi .eq v79 c1_i32_41
  let v81 : BitVec 32 := Scalar.extui v80
  let c0_i32_42 : BitVec 32 := 0#32
  let v82 : BitVec 1 := Scalar.cmpi .ne v81 c0_i32_42
  v82

def k0_mult21 : BitVec 32 :=
  let c0_i32_50 : BitVec 32 := 0#32
  c0_i32_50
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S16x2048x512 : Shape := ⟨3, ![16, 2048, 512]⟩
abbrev S16x2048x8x64 : Shape := ⟨4, ![16, 2048, 8, 64]⟩
abbrev S2048 : Shape := ⟨1, ![2048]⟩
abbrev S16x8x2048x2048 : Shape := ⟨4, ![16, 8, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S16x8x64x2048 : Shape := ⟨4, ![16, 8, 64, 2048]⟩

abbrev nBuf : Space → Nat
  | .hbm => 72
  | .vmem => 0
  | .smem => 0
  | _ => 0

abbrev bufTy : (tb : Table) → Fin (tcTables nBuf tb) → BufTy
  | .hbm, ⟨0, _⟩ => ⟨S16x2048x512, .bf16⟩
  | .hbm, ⟨1, _⟩ => ⟨S16x2048x512, .bf16⟩
  | .hbm, ⟨2, _⟩ => ⟨S16x2048x512, .bf16⟩
  | .hbm, ⟨3, _⟩ => ⟨S16x2048x512, .f32⟩
  | .hbm, ⟨4, _⟩ => ⟨S16x2048x8x64, .f32⟩
  | .hbm, ⟨5, _⟩ => ⟨S16x2048x512, .f32⟩
  | .hbm, ⟨6, _⟩ => ⟨S16x2048x8x64, .f32⟩
  | .hbm, ⟨7, _⟩ => ⟨S16x2048x512, .f32⟩
  | .hbm, ⟨8, _⟩ => ⟨S16x2048x8x64, .f32⟩
  | .hbm, ⟨9, _⟩ => ⟨S2048, .i32⟩
  | .hbm, ⟨10, _⟩ => ⟨S16x8x2048x2048, .f32⟩
  | .hbm, ⟨11, _⟩ => ⟨S_, .f32⟩
  | .hbm, ⟨12, _⟩ => ⟨S16x8x2048x2048, .f32⟩
  | .hbm, ⟨13, _⟩ => ⟨S16x8x2048x2048, .f32⟩
  | .hbm, ⟨14, _⟩ => ⟨S1x2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S16x8x2048x2048, .f32⟩
  | .hbm, ⟨20, _⟩ => ⟨S16x8x2048x2048, .f32⟩
  | .hbm, ⟨21, _⟩ => ⟨S_, .f32⟩
  | .hbm, ⟨22, _⟩ => ⟨S16x8x2048x2048, .f32⟩
  | .hbm, ⟨23, _⟩ => ⟨S16x8x2048x2048, .f32⟩
  | .hbm, ⟨24, _⟩ => ⟨S16x8x2048x2048, .f32⟩
  | .hbm, ⟨25, _⟩ => ⟨S16x8x2048x2048, .f32⟩
  | .hbm, ⟨26, _⟩ => ⟨S16x8x2048x2048, .i1⟩
  | .hbm, ⟨27, _⟩ => ⟨S16x8x2048x2048, .f32⟩
  | .hbm, ⟨28, _⟩ => ⟨S16x8x2048x2048, .f32⟩
  | .hbm, ⟨29, _⟩ => ⟨S16x8x2048x2048, .f32⟩
  | .hbm, ⟨30, _⟩ => ⟨S16x8x2048x2048, .f32⟩
  | .hbm, ⟨31, _⟩ => ⟨S16x8x2048x2048, .f32⟩
  | .hbm, ⟨32, _⟩ => ⟨S16x8x2048x2048, .f32⟩
  | .hbm, ⟨33, _⟩ => ⟨S16x8x2048x2048, .f32⟩
  | .hbm, ⟨34, _⟩ => ⟨S16x8x2048x2048, .f32⟩
  | .hbm, ⟨35, _⟩ => ⟨S16x8x2048x2048, .f32⟩
  | .hbm, ⟨36, _⟩ => ⟨S_, .f32⟩
  | .hbm, ⟨37, _⟩ => ⟨S_, .f32⟩
  | .hbm, ⟨38, _⟩ => ⟨S16x8x2048x2048, .i1⟩
  | .hbm, ⟨39, _⟩ => ⟨S16x8x2048x2048, .f32⟩
  | .hbm, ⟨40, _⟩ => ⟨S16x8x2048x2048, .f32⟩
  | .hbm, ⟨41, _⟩ => ⟨S_, .f32⟩
  | .hbm, ⟨42, _⟩ => ⟨S_, .f32⟩
  | .hbm, ⟨43, _⟩ => ⟨S16x8x2048x2048, .f32⟩
  | .hbm, ⟨44, _⟩ => ⟨S16x8x2048x2048, .f32⟩
  | .hbm, ⟨45, _⟩ => ⟨S16x8x2048x2048, .f32⟩
  | .hbm, ⟨46, _⟩ => ⟨S_, .f32⟩
  | .hbm, ⟨47, _⟩ => ⟨S16x8x2048x2048, .f32⟩
  | .hbm, ⟨48, _⟩ => ⟨S16x8x2048x2048, .f32⟩
  | .hbm, ⟨49, _⟩ => ⟨S16x8x2048x2048, .f32⟩
  | .hbm, ⟨50, _⟩ => ⟨S16x8x2048x2048, .f32⟩
  | .hbm, ⟨51, _⟩ => ⟨S16x8x2048x2048, .i1⟩
  | .hbm, ⟨52, _⟩ => ⟨S16x8x2048x2048, .f32⟩
  | .hbm, ⟨53, _⟩ => ⟨S16x8x2048x2048, .f32⟩
  | .hbm, ⟨54, _⟩ => ⟨S16x8x2048x2048, .f32⟩
  | .hbm, ⟨55, _⟩ => ⟨S16x8x2048x2048, .f32⟩
  | .hbm, ⟨56, _⟩ => ⟨S16x8x2048x2048, .f32⟩
  | .hbm, ⟨57, _⟩ => ⟨S16x8x2048x2048, .f32⟩
  | .hbm, ⟨58, _⟩ => ⟨S16x8x2048x2048, .f32⟩
  | .hbm, ⟨59, _⟩ => ⟨S16x8x2048x2048, .f32⟩
  | .hbm, ⟨60, _⟩ => ⟨S16x8x2048x2048, .f32⟩
  | .hbm, ⟨61, _⟩ => ⟨S16x8x2048x2048, .f32⟩
  | .hbm, ⟨62, _⟩ => ⟨S16x8x2048x2048, .f32⟩
  | .hbm, ⟨63, _⟩ => ⟨S_, .f32⟩
  | .hbm, ⟨64, _⟩ => ⟨S_, .f32⟩
  | .hbm, ⟨65, _⟩ => ⟨S16x8x2048x2048, .i1⟩
  | .hbm, ⟨66, _⟩ => ⟨S16x8x2048x2048, .f32⟩
  | .hbm, ⟨67, _⟩ => ⟨S16x8x2048x2048, .f32⟩
  | .hbm, ⟨68, _⟩ => ⟨S16x8x64x2048, .f32⟩
  | .hbm, ⟨69, _⟩ => ⟨S16x2048x8x64, .f32⟩
  | .hbm, ⟨70, _⟩ => ⟨S16x2048x512, .f32⟩
  | .hbm, ⟨71, _⟩ => ⟨S16x2048x512, .bf16⟩
  | _, _ => ⟨S16x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v16 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v17 : Ref sig .tc := ⟨.hbm, 40, rfl⟩
abbrev main_call2_cst : Ref sig .tc := ⟨.hbm, 41, rfl⟩
abbrev main_call2_v0 : Ref sig .tc := ⟨.hbm, 42, rfl⟩
abbrev main_v18 : Ref sig .tc := ⟨.hbm, 43, rfl⟩
abbrev main_v19 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩

abbrev nD : Nat := 1
abbrev τ : Topo := Topo.v7x

variable {F : FTy → Type} [FloatOps F]
-- ==== Shift.lean ====
abbrev S16x2048x1024 : Shape := ⟨3, ![16, 2048, 1024]⟩
abbrev S1024 : Shape := ⟨1, ![1024]⟩
abbrev S16x1x1024 : Shape := ⟨3, ![16, 1, 1024]⟩
abbrev S16x1024 : Shape := ⟨2, ![16, 1024]⟩
abbrev S1x1024 : Shape := ⟨2, ![1, 1024]⟩
abbrev S16 : Shape := ⟨1, ![16]⟩
abbrev S16x1 : Shape := ⟨2, ![16, 1]⟩

abbrev nBuf : Space → Nat
  | .hbm => 6
  | .vmem => 3
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S16x1x1024, .f32⟩
  | .hbm, ⟨3, _⟩ => ⟨S16x1024, .f32⟩
  | .hbm, ⟨4, _⟩ => ⟨S1x1024, .f32⟩
  | .hbm, ⟨5, _⟩ => ⟨S16x1024, .f32⟩
  | .local _ .vmem, ⟨0, _⟩ => ⟨S16x1024, .f32⟩
  | .local _ .vmem, ⟨1, _⟩ => ⟨S1x1024, .f32⟩
  | .local _ .vmem, ⟨2, _⟩ => ⟨S16x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ShiftIdeal.lean ====
abbrev S16x2048x1024 : Shape := ⟨3, ![16, 2048, 1024]⟩
abbrev S1024 : Shape := ⟨1, ![1024]⟩
abbrev S16x1x1024 : Shape := ⟨3, ![16, 1, 1024]⟩
abbrev S16x1024 : Shape := ⟨2, ![16, 1024]⟩
abbrev S1x1024 : Shape := ⟨2, ![1, 1024]⟩
abbrev S16 : Shape := ⟨1, ![16]⟩
abbrev S16x1 : Shape := ⟨2, ![16, 1]⟩

abbrev nBuf : Space → Nat
  | .hbm => 6
  | .vmem => 3
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S16x1x1024, .f32⟩
  | .hbm, ⟨3, _⟩ => ⟨S16x1024, .f32⟩
  | .hbm, ⟨4, _⟩ => ⟨S1x1024, .f32⟩
  | .hbm, ⟨5, _⟩ => ⟨S16x1024, .f32⟩
  | .local _ .vmem, ⟨0, _⟩ => ⟨S16x1024, .f32⟩
  | .local _ .vmem, ⟨1, _⟩ => ⟨S1x1024, .f32⟩
  | .local _ .vmem, ⟨2, _⟩ => ⟨S16x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ShiftReferenceIdeal.lean ====
abbrev S16x2048x1024 : Shape := ⟨3, ![16, 2048, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S16x1024 : Shape := ⟨2, ![16, 1024]⟩

abbrev nBuf : Space → Nat
  | .hbm => 20
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S16x2048x1024, .f32⟩
  | .hbm, ⟨3, _⟩ => ⟨S_, .f32⟩
  | .hbm, ⟨4, _⟩ => ⟨S16x2048, .f32⟩
  | .hbm, ⟨5, _⟩ => ⟨S16x2048x1, .f32⟩
  | .hbm, ⟨6, _⟩ => ⟨S_, .f32⟩
  | .hbm, ⟨7, _⟩ => ⟨S16x2048x1, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S16x2048x1, .f32⟩
  | .hbm, ⟨13, _⟩ => ⟨S16x2048x1024, .f32⟩
  | .hbm, ⟨14, _⟩ => ⟨S16x2048x1024, .f32⟩
  | .hbm, ⟨15, _⟩ => ⟨S1x1x1024, .f32⟩
  | .hbm, ⟨16, _⟩ => ⟨S16x2048x1024, .f32⟩
  | .hbm, ⟨17, _⟩ => ⟨S16x2048x1024, .f32⟩
  | .hbm, ⟨18, _⟩ => ⟨S16x1x1024, .f32⟩
  | .hbm, ⟨19, _⟩ => ⟨S16x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Proj.lean ====
abbrev S16x2048x1024 : Shape := ⟨3, ![16, 2048, 1024]⟩
abbrev S1024 : Shape := ⟨1, ![1024]⟩
abbrev S1024x5376 : Shape := ⟨2, ![1024, 5376]⟩
abbrev S32768x1024 : Shape := ⟨2, ![32768, 1024]⟩
abbrev S1x1024 : Shape := ⟨2, ![1, 1024]⟩
abbrev S32768x512 : Shape := ⟨2, ![32768, 512]⟩
abbrev S32768x1792 : Shape := ⟨2, ![32768, 1792]⟩
abbrev S32768x2048 : Shape := ⟨2, ![32768, 2048]⟩
abbrev S32768x8x64 : Shape := ⟨3, ![32768, 8, 64]⟩
abbrev S256x1024 : Shape := ⟨2, ![256, 1024]⟩
abbrev S256x512 : Shape := ⟨2, ![256, 512]⟩
abbrev S256x1792 : Shape := ⟨2, ![256, 1792]⟩
abbrev S256x2048 : Shape := ⟨2, ![256, 2048]⟩
abbrev S256x8x64 : Shape := ⟨3, ![256, 8, 64]⟩
abbrev S256 : Shape := ⟨1, ![256]⟩
abbrev S256x1 : Shape := ⟨2, ![256, 1]⟩
abbrev S1024x512 : Shape := ⟨2, ![1024, 512]⟩
abbrev S1024x1792 : Shape := ⟨2, ![1024, 1792]⟩
abbrev S1024x2048 : Shape := ⟨2, ![1024, 2048]⟩

abbrev nBuf : Space → Nat
  | .hbm => 13
  | .vmem => 18
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5376, .f32⟩
  | .hbm, ⟨3, _⟩ => ⟨S32768x1024, .f32⟩
  | .hbm, ⟨4, _⟩ => ⟨S1024x5376, .bf16⟩
  | .hbm, ⟨5, _⟩ => ⟨S1x1024, .f32⟩
  | .hbm, ⟨6, _⟩ => ⟨S32768x512, .bf16⟩
  | .hbm, ⟨7, _⟩ => ⟨S32768x512, .bf16⟩
  | .hbm, ⟨8, _⟩ => ⟨S32768x512, .bf16⟩
  | .hbm, ⟨9, _⟩ => ⟨S32768x1792, .f32⟩
  | .hbm, ⟨10, _⟩ => ⟨S32768x2048, .bf16⟩
  | .hbm, ⟨11, _⟩ => ⟨S32768x8x64, .f32⟩
  | .hbm, ⟨12, _⟩ => ⟨S32768x8x64, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5376, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x1792, .f32⟩
  | .local _ .vmem, ⟨11, _⟩ => ⟨S256x1792, .f32⟩
  | .local _ .vmem, ⟨12, _⟩ => ⟨S256x2048, .bf16⟩
  | .local _ .vmem, ⟨13, _⟩ => ⟨S256x2048, .bf16⟩
  | .local _ .vmem, ⟨14, _⟩ => ⟨S256x8x64, .f32⟩
  | .local _ .vmem, ⟨15, _⟩ => ⟨S256x8x64, .f32⟩
  | .local _ .vmem, ⟨16, _⟩ => ⟨S256x8x64, .f32⟩
  | .local _ .vmem, ⟨17, _⟩ => ⟨S256x8x64, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v3_5 : Ref sig .tc := ⟨.hbm, 11, rfl⟩
abbrev main_v3_6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5376 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x8x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x8x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ProjIdeal.lean ====
abbrev S16x2048x1024 : Shape := ⟨3, ![16, 2048, 1024]⟩
abbrev S1024 : Shape := ⟨1, ![1024]⟩
abbrev S1024x5376 : Shape := ⟨2, ![1024, 5376]⟩
abbrev S32768x1024 : Shape := ⟨2, ![32768, 1024]⟩
abbrev S1x1024 : Shape := ⟨2, ![1, 1024]⟩
abbrev S32768x512 : Shape := ⟨2, ![32768, 512]⟩
abbrev S32768x1792 : Shape := ⟨2, ![32768, 1792]⟩
abbrev S32768x2048 : Shape := ⟨2, ![32768, 2048]⟩
abbrev S32768x8x64 : Shape := ⟨3, ![32768, 8, 64]⟩
abbrev S256x1024 : Shape := ⟨2, ![256, 1024]⟩
abbrev S256x512 : Shape := ⟨2, ![256, 512]⟩
abbrev S256x1792 : Shape := ⟨2, ![256, 1792]⟩
abbrev S256x2048 : Shape := ⟨2, ![256, 2048]⟩
abbrev S256x8x64 : Shape := ⟨3, ![256, 8, 64]⟩
abbrev S256 : Shape := ⟨1, ![256]⟩
abbrev S256x1 : Shape := ⟨2, ![256, 1]⟩
abbrev S1024x512 : Shape := ⟨2, ![1024, 512]⟩
abbrev S1024x1792 : Shape := ⟨2, ![1024, 1792]⟩
abbrev S1024x2048 : Shape := ⟨2, ![1024, 2048]⟩

abbrev nBuf : Space → Nat
  | .hbm => 13
  | .vmem => 18
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5376, .f32⟩
  | .hbm, ⟨3, _⟩ => ⟨S32768x1024, .f32⟩
  | .hbm, ⟨4, _⟩ => ⟨S1024x5376, .bf16⟩
  | .hbm, ⟨5, _⟩ => ⟨S1x1024, .f32⟩
  | .hbm, ⟨6, _⟩ => ⟨S32768x512, .bf16⟩
  | .hbm, ⟨7, _⟩ => ⟨S32768x512, .bf16⟩
  | .hbm, ⟨8, _⟩ => ⟨S32768x512, .bf16⟩
  | .hbm, ⟨9, _⟩ => ⟨S32768x1792, .f32⟩
  | .hbm, ⟨10, _⟩ => ⟨S32768x2048, .bf16⟩
  | .hbm, ⟨11, _⟩ => ⟨S32768x8x64, .f32⟩
  | .hbm, ⟨12, _⟩ => ⟨S32768x8x64, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5376, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x1792, .f32⟩
  | .local _ .vmem, ⟨11, _⟩ => ⟨S256x1792, .f32⟩
  | .local _ .vmem, ⟨12, _⟩ => ⟨S256x2048, .bf16⟩
  | .local _ .vmem, ⟨13, _⟩ => ⟨S256x2048, .bf16⟩
  | .local _ .vmem, ⟨14, _⟩ => ⟨S256x8x64, .f32⟩
  | .local _ .vmem, ⟨15, _⟩ => ⟨S256x8x64, .f32⟩
  | .local _ .vmem, ⟨16, _⟩ => ⟨S256x8x64, .f32⟩
  | .local _ .vmem, ⟨17, _⟩ => ⟨S256x8x64, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v3_5 : Ref sig .tc := ⟨.hbm, 11, rfl⟩
abbrev main_v3_6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5376 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x8x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x8x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ProjReferenceIdeal.lean ====
abbrev S16x2048x1024 : Shape := ⟨3, ![16, 2048, 1024]⟩
abbrev S1024 : Shape := ⟨1, ![1024]⟩
abbrev S1024x5376 : Shape := ⟨2, ![1024, 5376]⟩
abbrev S32768x1024 : Shape := ⟨2, ![32768, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5376 : Shape := ⟨2, ![32768, 5376]⟩
abbrev S32768x1536 : Shape := ⟨2, ![32768, 1536]⟩
abbrev S32768x1792 : Shape := ⟨2, ![32768, 1792]⟩
abbrev S32768x2048 : Shape := ⟨2, ![32768, 2048]⟩
abbrev S32768x512 : Shape := ⟨2, ![32768, 512]⟩
abbrev S32768x8x64 : Shape := ⟨3, ![32768, 8, 64]⟩

abbrev nBuf : Space → Nat
  | .hbm => 33
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5376, .f32⟩
  | .hbm, ⟨3, _⟩ => ⟨S32768x1024, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x5376, .f32⟩
  | .hbm, ⟨21, _⟩ => ⟨S32768x1536, .f32⟩
  | .hbm, ⟨22, _⟩ => ⟨S32768x1792, .f32⟩
  | .hbm, ⟨23, _⟩ => ⟨S32768x2048, .f32⟩
  | .hbm, ⟨24, _⟩ => ⟨S32768x512, .f32⟩
  | .hbm, ⟨25, _⟩ => ⟨S32768x512, .f32⟩
  | .hbm, ⟨26, _⟩ => ⟨S32768x512, .f32⟩
  | .hbm, ⟨27, _⟩ => ⟨S32768x512, .bf16⟩
  | .hbm, ⟨28, _⟩ => ⟨S32768x512, .bf16⟩
  | .hbm, ⟨29, _⟩ => ⟨S32768x512, .bf16⟩
  | .hbm, ⟨30, _⟩ => ⟨S32768x2048, .bf16⟩
  | .hbm, ⟨31, _⟩ => ⟨S32768x8x64, .f32⟩
  | .hbm, ⟨32, _⟩ => ⟨S32768x8x64, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== ShiftSample.lean ====
abbrev S8x32x1024 : Shape := ⟨3, ![8, 32, 1024]⟩
abbrev S1024 : Shape := ⟨1, ![1024]⟩
abbrev S8x1x1024 : Shape := ⟨3, ![8, 1, 1024]⟩
abbrev S8x1024 : Shape := ⟨2, ![8, 1024]⟩
abbrev S1x1024 : Shape := ⟨2, ![1, 1024]⟩
abbrev S8 : Shape := ⟨1, ![8]⟩
abbrev S8x1 : Shape := ⟨2, ![8, 1]⟩

abbrev nBuf : Space → Nat
  | .hbm => 6
  | .vmem => 3
  | .smem => 0
  | _ => 0

abbrev bufTy : (tb : Table) → Fin (tcTables nBuf tb) → BufTy
  | .hbm, ⟨0, _⟩ => ⟨S8x32x1024, .f32⟩
  | .hbm, ⟨1, _⟩ => ⟨S1024, .f32⟩
  | .hbm, ⟨2, _⟩ => ⟨S8x1x1024, .f32⟩
  | .hbm, ⟨3, _⟩ => ⟨S8x1024, .f32⟩
  | .hbm, ⟨4, _⟩ => ⟨S1x1024, .f32⟩
  | .hbm, ⟨5, _⟩ => ⟨S8x1024, .f32⟩
  | .local _ .vmem, ⟨0, _⟩ => ⟨S8x1024, .f32⟩
  | .local _ .vmem, ⟨1, _⟩ => ⟨S1x1024, .f32⟩
  | .local _ .vmem, ⟨2, _⟩ => ⟨S8x1024, .f32⟩
  | _, _ => ⟨S8x32x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ShiftSampleReferenceIdeal.lean ====
abbrev S8x32x1024 : Shape := ⟨3, ![8, 32, 1024]⟩
abbrev S1024 : Shape := ⟨1, ![1024]⟩
abbrev S_ : Shape := ⟨0, ![]⟩
abbrev S8x32 : Shape := ⟨2, ![8, 32]⟩
abbrev S8x32x1 : Shape := ⟨3, ![8, 32, 1]⟩
abbrev S1x1x1024 : Shape := ⟨3, ![1, 1, 1024]⟩
abbrev S8x1x1024 : Shape := ⟨3, ![8, 1, 1024]⟩
abbrev S8x1024 : Shape := ⟨2, ![8, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8x32x1024, .f32⟩
  | .hbm, ⟨1, _⟩ => ⟨S1024, .f32⟩
  | .hbm, ⟨2, _⟩ => ⟨S8x32x1024, .f32⟩
  | .hbm, ⟨3, _⟩ => ⟨S_, .f32⟩
  | .hbm, ⟨4, _⟩ => ⟨S8x32, .f32⟩
  | .hbm, ⟨5, _⟩ => ⟨S8x32x1, .f32⟩
  | .hbm, ⟨6, _⟩ => ⟨S_, .f32⟩
  | .hbm, ⟨7, _⟩ => ⟨S8x32x1, .f32⟩
  | .hbm, ⟨8, _⟩ => ⟨S8x32x1, .f32⟩
  | .hbm, ⟨9, _⟩ => ⟨S_, .f32⟩
  | .hbm, ⟨10, _⟩ => ⟨S8x32x1, .f32⟩
  | .hbm, ⟨11, _⟩ => ⟨S8x32x1, .f32⟩
  | .hbm, ⟨12, _⟩ => ⟨S8x32x1, .f32⟩
  | .hbm, ⟨13, _⟩ => ⟨S8x32x1024, .f32⟩
  | .hbm, ⟨14, _⟩ => ⟨S8x32x1024, .f32⟩
  | .hbm, ⟨15, _⟩ => ⟨S1x1x1024, .f32⟩
  | .hbm, ⟨16, _⟩ => ⟨S8x32x1024, .f32⟩
  | .hbm, ⟨17, _⟩ => ⟨S8x32x1024, .f32⟩
  | .hbm, ⟨18, _⟩ => ⟨S8x1x1024, .f32⟩
  | .hbm, ⟨19, _⟩ => ⟨S8x1024, .f32⟩
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== ProjSample.lean ====
abbrev S8x32x1024 : Shape := ⟨3, ![8, 32, 1024]⟩
abbrev S1024 : Shape := ⟨1, ![1024]⟩
abbrev S1024x5376 : Shape := ⟨2, ![1024, 5376]⟩
abbrev S256x1024 : Shape := ⟨2, ![256, 1024]⟩
abbrev S1x1024 : Shape := ⟨2, ![1, 1024]⟩
abbrev S256x512 : Shape := ⟨2, ![256, 512]⟩
abbrev S256x1792 : Shape := ⟨2, ![256, 1792]⟩
abbrev S256x2048 : Shape := ⟨2, ![256, 2048]⟩
abbrev S256x8x64 : Shape := ⟨3, ![256, 8, 64]⟩
abbrev S256 : Shape := ⟨1, ![256]⟩
abbrev S256x1 : Shape := ⟨2, ![256, 1]⟩
abbrev S1024x512 : Shape := ⟨2, ![1024, 512]⟩
abbrev S1024x1792 : Shape := ⟨2, ![1024, 1792]⟩
abbrev S1024x2048 : Shape := ⟨2, ![1024, 2048]⟩

abbrev nBuf : Space → Nat
  | .hbm => 13
  | .vmem => 10
  | .smem => 0
  | _ => 0

abbrev bufTy : (tb : Table) → Fin (tcTables nBuf tb) → BufTy
  | .hbm, ⟨0, _⟩ => ⟨S8x32x1024, .f32⟩
  | .hbm, ⟨1, _⟩ => ⟨S1024, .f32⟩
  | .hbm, ⟨2, _⟩ => ⟨S1024x5376, .f32⟩
  | .hbm, ⟨3, _⟩ => ⟨S256x1024, .f32⟩
  | .hbm, ⟨4, _⟩ => ⟨S1024x5376, .bf16⟩
  | .hbm, ⟨5, _⟩ => ⟨S1x1024, .f32⟩
  | .hbm, ⟨6, _⟩ => ⟨S256x512, .bf16⟩
  | .hbm, ⟨7, _⟩ => ⟨S256x512, .bf16⟩
  | .hbm, ⟨8, _⟩ => ⟨S256x512, .bf16⟩
  | .hbm, ⟨9, _⟩ => ⟨S256x1792, .f32⟩
  | .hbm, ⟨10, _⟩ => ⟨S256x2048, .bf16⟩
  | .hbm, ⟨11, _⟩ => ⟨S256x8x64, .f32⟩
  | .hbm, ⟨12, _⟩ => ⟨S256x8x64, .f32⟩
  | .local _ .vmem, ⟨0, _⟩ => ⟨S256x1024, .f32⟩
  | .local _ .vmem, ⟨1, _⟩ => ⟨S1x1024, .f32⟩
  | .local _ .vmem, ⟨2, _⟩ => ⟨S1024x5376, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x1792, .f32⟩
  | .local _ .vmem, ⟨7, _⟩ => ⟨S256x2048, .bf16⟩
  | .local _ .vmem, ⟨8, _⟩ => ⟨S256x8x64, .f32⟩
  | .local _ .vmem, ⟨9, _⟩ => ⟨S256x8x64, .f32⟩
  | _, _ => ⟨S8x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v3_5 : Ref sig .tc := ⟨.hbm, 11, rfl⟩
abbrev main_v3_6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5376 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1792 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x8x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x8x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== ProjSampleReferenceIdeal.lean ====
abbrev S8x32x1024 : Shape := ⟨3, ![8, 32, 1024]⟩
abbrev S1024 : Shape := ⟨1, ![1024]⟩
abbrev S1024x5376 : Shape := ⟨2, ![1024, 5376]⟩
abbrev S256x1024 : Shape := ⟨2, ![256, 1024]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x5376 : Shape := ⟨2, ![256, 5376]⟩
abbrev S256x1536 : Shape := ⟨2, ![256, 1536]⟩
abbrev S256x1792 : Shape := ⟨2, ![256, 1792]⟩
abbrev S256x2048 : Shape := ⟨2, ![256, 2048]⟩
abbrev S256x512 : Shape := ⟨2, ![256, 512]⟩
abbrev S256x8x64 : Shape := ⟨3, ![256, 8, 64]⟩

abbrev nBuf : Space → Nat
  | .hbm => 33
  | .vmem => 0
  | .smem => 0
  | _ => 0

abbrev bufTy : (tb : Table) → Fin (tcTables nBuf tb) → BufTy
  | .hbm, ⟨0, _⟩ => ⟨S8x32x1024, .f32⟩
  | .hbm, ⟨1, _⟩ => ⟨S1024, .f32⟩
  | .hbm, ⟨2, _⟩ => ⟨S1024x5376, .f32⟩
  | .hbm, ⟨3, _⟩ => ⟨S256x1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S1x1024, .f32⟩
  | .hbm, ⟨18, _⟩ => ⟨S256x1024, .f32⟩
  | .hbm, ⟨19, _⟩ => ⟨S256x1024, .f32⟩
  | .hbm, ⟨20, _⟩ => ⟨S256x5376, .f32⟩
  | .hbm, ⟨21, _⟩ => ⟨S256x1536, .f32⟩
  | .hbm, ⟨22, _⟩ => ⟨S256x1792, .f32⟩
  | .hbm, ⟨23, _⟩ => ⟨S256x2048, .f32⟩
  | .hbm, ⟨24, _⟩ => ⟨S256x512, .f32⟩
  | .hbm, ⟨25, _⟩ => ⟨S256x512, .f32⟩
  | .hbm, ⟨26, _⟩ => ⟨S256x512, .f32⟩
  | .hbm, ⟨27, _⟩ => ⟨S256x512, .bf16⟩
  | .hbm, ⟨28, _⟩ => ⟨S256x512, .bf16⟩
  | .hbm, ⟨29, _⟩ => ⟨S256x512, .bf16⟩
  | .hbm, ⟨30, _⟩ => ⟨S256x2048, .bf16⟩
  | .hbm, ⟨31, _⟩ => ⟨S256x8x64, .f32⟩
  | .hbm, ⟨32, _⟩ => ⟨S256x8x64, .f32⟩
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== PrevSample.lean ====
abbrev S8x1024 : Shape := ⟨2, ![8, 1024]⟩
abbrev S1024x5376 : Shape := ⟨2, ![1024, 5376]⟩
abbrev S1024x1792 : Shape := ⟨2, ![1024, 1792]⟩
abbrev S8x1792 : Shape := ⟨2, ![8, 1792]⟩

abbrev nBuf : Space → Nat
  | .hbm => 5
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S1024x5376, .f32⟩
  | .hbm, ⟨2, _⟩ => ⟨S1024x5376, .bf16⟩
  | .hbm, ⟨3, _⟩ => ⟨S1024x1792, .bf16⟩
  | .hbm, ⟨4, _⟩ => ⟨S8x1792, .f32⟩
  | .local _ .vmem, ⟨0, _⟩ => ⟨S8x1024, .f32⟩
  | .local _ .vmem, ⟨1, _⟩ => ⟨S1024x1792, .bf16⟩
  | .local _ .vmem, ⟨2, _⟩ => ⟨S8x1792, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1792 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== PrevSampleReferenceIdeal.lean ====
abbrev S8x1024 : Shape := ⟨2, ![8, 1024]⟩
abbrev S1024x5376 : Shape := ⟨2, ![1024, 5376]⟩
abbrev S1024x1792 : Shape := ⟨2, ![1024, 1792]⟩
abbrev S8x1792 : Shape := ⟨2, ![8, 1792]⟩

abbrev nBuf : Space → Nat
  | .hbm => 4
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x5376, .f32⟩
  | .hbm, ⟨2, _⟩ => ⟨S1024x1792, .f32⟩
  | .hbm, ⟨3, _⟩ => ⟨S8x1792, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== StickSample.lean ====
abbrev S8x32x512 : Shape := ⟨3, ![8, 32, 512]⟩
abbrev S8x4096x8x64 : Shape := ⟨4, ![8, 4096, 8, 64]⟩
abbrev S8x4096x512 : Shape := ⟨3, ![8, 4096, 512]⟩
abbrev S1x32x128 : Shape := ⟨3, ![1, 32, 128]⟩
abbrev S1x4096x128 : Shape := ⟨3, ![1, 4096, 128]⟩
abbrev S64x128 : Shape := ⟨2, ![64, 128]⟩
abbrev S64x1 : Shape := ⟨2, ![64, 1]⟩
abbrev S32x128 : Shape := ⟨2, ![32, 128]⟩
abbrev S32x32 : Shape := ⟨2, ![32, 32]⟩
abbrev S64x32 : Shape := ⟨2, ![64, 32]⟩
abbrev S1x256x128 : Shape := ⟨3, ![1, 256, 128]⟩
abbrev S256x128 : Shape := ⟨2, ![256, 128]⟩
abbrev S256x256 : Shape := ⟨2, ![256, 256]⟩
abbrev S64x256 : Shape := ⟨2, ![64, 256]⟩

abbrev nBuf : Space → Nat
  | .hbm => 8
  | .vmem => 14
  | .smem => 0
  | _ => 0

abbrev bufTy : (tb : Table) → Fin (tcTables nBuf tb) → BufTy
  | .hbm, ⟨0, _⟩ => ⟨S8x32x512, .bf16⟩
  | .hbm, ⟨1, _⟩ => ⟨S8x32x512, .bf16⟩
  | .hbm, ⟨2, _⟩ => ⟨S8x32x512, .bf16⟩
  | .hbm, ⟨3, _⟩ => ⟨S8x4096x8x64, .f32⟩
  | .hbm, ⟨4, _⟩ => ⟨S8x4096x8x64, .f32⟩
  | .hbm, ⟨5, _⟩ => ⟨S8x4096x512, .f32⟩
  | .hbm, ⟨6, _⟩ => ⟨S8x4096x512, .f32⟩
  | .hbm, ⟨7, _⟩ => ⟨S8x32x512, .bf16⟩
  | .local _ .vmem, ⟨0, _⟩ => ⟨S1x32x128, .bf16⟩
  | .local _ .vmem, ⟨1, _⟩ => ⟨S1x32x128, .bf16⟩
  | .local _ .vmem, ⟨2, _⟩ => ⟨S1x32x128, .bf16⟩
  | .local _ .vmem, ⟨3, _⟩ => ⟨S1x32x128, .bf16⟩
  | .local _ .vmem, ⟨4, _⟩ => ⟨S1x32x128, .bf16⟩
  | .local _ .vmem, ⟨5, _⟩ => ⟨S1x32x128, .bf16⟩
  | .local _ .vmem, ⟨6, _⟩ => ⟨S1x4096x128, .f32⟩
  | .local _ .vmem, ⟨7, _⟩ => ⟨S1x4096x128, .f32⟩
  | .local _ .vmem, ⟨8, _⟩ => ⟨S1x4096x128, .f32⟩
  | .local _ .vmem, ⟨9, _⟩ => ⟨S1x4096x128, .f32⟩
  | .local _ .vmem, ⟨10, _⟩ => ⟨S1x32x128, .bf16⟩
  | .local _ .vmem, ⟨11, _⟩ => ⟨S1x32x128, .bf16⟩
  | .local _ .vmem, ⟨12, _⟩ => ⟨S64x128, .f32⟩
  | .local _ .vmem, ⟨13, _⟩ => ⟨S64x1, .f32⟩
  | _, _ => ⟨S8x32x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 1], ![false, false, false]⟩

def k0_cond1 (i : grid0.Coords) : BitVec 1 :=
  let arg2 : BitVec 32 := BitVec.ofNat 32 (i 2).val
  let c0_i32 : BitVec 32 := 0#32
  let v21 : BitVec 1 := Scalar.cmpi .eq arg2 c0_i32
  let v22 : BitVec 32 := Scalar.extui v21
  let c0_i32_10 : BitVec 32 := 0#32
  let v23 : BitVec 1 := Scalar.cmpi .ne v22 c0_i32_10
  v23

def k0_mult1 (i : grid0.Coords) : BitVec 32 :=
  let arg2 : BitVec 32 := BitVec.ofNat 32 (i 2).val
  let c32_i32 : BitVec 32 := 32#32
  let v84 : BitVec 32 := Scalar.muli arg2 c32_i32
  v84
def k0_off1 (i : grid0.Coords) : Fin 3 → Nat :=
  let c0_48 : Index := 0#32
  let arg2 : BitVec 32 := BitVec.ofNat 32 (i 2).val
  let c32_i32 : BitVec 32 := 32#32
  let v84 : BitVec 32 := Scalar.muli arg2 c32_i32
  let v85 : BitVec 32 := v84
  let v86 : Index := Scalar.indexCast v85
  let c0_49 : Index := 0#32
  ![0, v86.toNat, 0]
@[reducible] def k0_t1_loop (i : grid0.Coords) : Scf.Loop 32 :=
  let c0_i32_18 : BitVec 32 := 0#32
  let arg2 : BitVec 32 := BitVec.ofNat 32 (i 2).val
  let c3_i32 : BitVec 32 := 3#32
  let v24 : BitVec 32 := Scalar.subi arg2 c3_i32
  let c0_i32_11 : BitVec 32 := 0#32
  let v25 : BitVec 32 := Scalar.maxsi v24 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c4_i32 : BitVec 32 := 4#32
  let c0_i32_14 : BitVec 32 := 0#32
  let v32 : BitVec 1 := Scalar.cmpi .sgt c4_i32 c0_i32_14
  let v33 : BitVec 32 := Scalar.extui v32
  let c0_i32_15 : BitVec 32 := 0#32
  let v34 : BitVec 1 := Scalar.cmpi .slt c4_i32 c0_i32_15
  let v35 : BitVec 32 := Scalar.extui v34
  let v36 : BitVec 32 := Scalar.subi v33 v35
  let v37 : BitVec 1 := Scalar.cmpi .ne v31 v36
  let v38 : BitVec 32 := Scalar.remsi v25 c4_i32
  let c0_i32_16 : BitVec 32 := 0#32
  let v39 : BitVec 1 := Scalar.cmpi .ne v38 c0_i32_16
  let v40 : BitVec 1 := Scalar.andi v37 v39
  let v26 : BitVec 32 := Scalar.divsi v25 c4_i32
  let c1_i32 : BitVec 32 := 1#32
  let v41 : BitVec 32 := Scalar.subi v26 c1_i32
  let v42 : BitVec 32 := Scalar.select v40 v41 v26
  let v43 : BitVec 32 := Scalar.subi v42 c0_i32_18
  let c1_i32_19 : BitVec 32 := 1#32
  let v45 : BitVec 32 := Scalar.divsi v43 c1_i32_19
  let v46 : BitVec 32 := Scalar.muli v45 c1_i32_19
  let v47 : BitVec 32 := Scalar.addi c0_i32_18 v46
  let c1_i32_20 : BitVec 32 := 1#32
  ⟨c0_i32_18, v47, c1_i32_20⟩
def k0_mult2 (i : grid0.Coords) (k0_t1 : Fin (k0_t1_loop i).trips) : BitVec 32 :=
  let arg2 : BitVec 32 := BitVec.ofNat 32 (i 2).val
  let c3_i32 : BitVec 32 := 3#32
  let v24 : BitVec 32 := Scalar.subi arg2 c3_i32
  let c0_i32_11 : BitVec 32 := 0#32
  let v25 : BitVec 32 := Scalar.maxsi v24 c0_i32_11
  let c1_i32_48 : BitVec 32 := 1#32
  let v84 : BitVec 32 := Scalar.subi v25 c1_i32_48
  let c0_i32_49 : BitVec 32 := 0#32
  let v85 : BitVec 32 := Scalar.subi v84 c0_i32_49
  let c4_i32_50 : BitVec 32 := 4#32
  let c0_i32_18 : BitVec 32 := 0#32
  let c1_i32_20 : BitVec 32 := 1#32
  let arg11 : BitVec 32 := Scf.iv c0_i32_18 c1_i32_20 k0_t1
  let v86 : BitVec 32 := Scalar.muli c4_i32_50 arg11
  let v87 : BitVec 32 := Scalar.subi v85 v86
  let c32_i32 : BitVec 32 := 32#32
  let v88 : BitVec 32 := Scalar.muli v87 c32_i32
  v88
def k0_off2 (i : grid0.Coords) (k0_t1 : Fin (k0_t1_loop i).trips) (c0_i32_49 : BitVec 32) : Fin 3 → Nat :=
  let c0_51 : Index := 0#32
  let arg2 : BitVec 32 := BitVec.ofNat 32 (i 2).val
  let c3_i32 : BitVec 32 := 3#32
  let v24 : BitVec 32 := Scalar.subi arg2 c3_i32
  let c0_i32_11 : BitVec 32 := 0#32
  let v25 : BitVec 32 := Scalar.maxsi v24 c0_i32_11
  let c1_i32_48 : BitVec 32 := 1#32
  let v84 : BitVec 32 := Scalar.subi v25 c1_i32_48
  let v85 : BitVec 32 := Scalar.subi v84 c0_i32_49
  let c4_i32_50 : BitVec 32 := 4#32
  let c0_i32_18 : BitVec 32 := 0#32
  let c1_i32_20 : BitVec 32 := 1#32
  let arg11 : BitVec 32 := Scf.iv c0_i32_18 c1_i32_20 k0_t1
  let v86 : BitVec 32 := Scalar.muli c4_i32_50 arg11
  let v87 : BitVec 32 := Scalar.subi v85 v86
  let c32_i32 : BitVec 32 := 32#32
  let v88 : BitVec 32 := Scalar.muli v87 c32_i32
  let v89 : BitVec 32 := v88
  let v90 : Index := Scalar.indexCast v89
  let c0_52 : Index := 0#32
  ![0, v90.toNat, 0]
def k0_mult3 (i : grid0.Coords) (k0_t1 : Fin (k0_t1_loop i).trips) : BitVec 32 :=
  let arg2 : BitVec 32 := BitVec.ofNat 32 (i 2).val
  let c3_i32 : BitVec 32 := 3#32
  let v24 : BitVec 32 := Scalar.subi arg2 c3_i32
  let c0_i32_11 : BitVec 32 := 0#32
  let v25 : BitVec 32 := Scalar.maxsi v24 c0_i32_11
  let c1_i32_55 : BitVec 32 := 1#32
  let v96 : BitVec 32 := Scalar.subi v25 c1_i32_55
  let c1_i32_56 : BitVec 32 := 1#32
  let v97 : BitVec 32 := Scalar.subi v96 c1_i32_56
  let c4_i32_57 : BitVec 32 := 4#32
  let c0_i32_18 : BitVec 32 := 0#32
  let c1_i32_20 : BitVec 32 := 1#32
  let arg11 : BitVec 32 := Scf.iv c0_i32_18 c1_i32_20 k0_t1
  let v98 : BitVec 32 := Scalar.muli c4_i32_57 arg11
  let v99 : BitVec 32 := Scalar.subi v97 v98
  let c32_i32_58 : BitVec 32 := 32#32
  let v100 : BitVec 32 := Scalar.muli v99 c32_i32_58
  v100
def k0_mult4 (i : grid0.Coords) (k0_t1 : Fin (k0_t1_loop i).trips) : BitVec 32 :=
  let arg2 : BitVec 32 := BitVec.ofNat 32 (i 2).val
  let c3_i32 : BitVec 32 := 3#32
  let v24 : BitVec 32 := Scalar.subi arg2 c3_i32
  let c0_i32_11 : BitVec 32 := 0#32
  let v25 : BitVec 32 := Scalar.maxsi v24 c0_i32_11
  let c1_i32_63 : BitVec 32 := 1#32
  let v108 : BitVec 32 := Scalar.subi v25 c1_i32_63
  let c2_i32_64 : BitVec 32 := 2#32
  let v109 : BitVec 32 := Scalar.subi v108 c2_i32_64
  let c4_i32_65 : BitVec 32 := 4#32
  let c0_i32_18 : BitVec 32 := 0#32
  let c1_i32_20 : BitVec 32 := 1#32
  let arg11 : BitVec 32 := Scf.iv c0_i32_18 c1_i32_20 k0_t1
  let v110 : BitVec 32 := Scalar.muli c4_i32_65 arg11
  let v111 : BitVec 32 := Scalar.subi v109 v110
  let c32_i32_66 : BitVec 32 := 32#32
  let v112 : BitVec 32 := Scalar.muli v111 c32_i32_66
  v112
def k0_mult5 (i : grid0.Coords) (k0_t1 : Fin (k0_t1_loop i).trips) : BitVec 32 :=
  let arg2 : BitVec 32 := BitVec.ofNat 32 (i 2).val
  let c3_i32 : BitVec 32 := 3#32
  let v24 : BitVec 32 := Scalar.subi arg2 c3_i32
  let c0_i32_11 : BitVec 32 := 0#32
  let v25 : BitVec 32 := Scalar.maxsi v24 c0_i32_11
  let c1_i32_71 : BitVec 32 := 1#32
  let v120 : BitVec 32 := Scalar.subi v25 c1_i32_71
  let c3_i32_72 : BitVec 32 := 3#32
  let v121 : BitVec 32 := Scalar.subi v120 c3_i32_72
  let c4_i32_73 : BitVec 32 := 4#32
  let c0_i32_18 : BitVec 32 := 0#32
  let c1_i32_20 : BitVec 32 := 1#32
  let arg11 : BitVec 32 := Scf.iv c0_i32_18 c1_i32_20 k0_t1
  let v122 : BitVec 32 := Scalar.muli c4_i32_73 arg11
  let v123 : BitVec 32 := Scalar.subi v121 v122
  let c32_i32_74 : BitVec 32 := 32#32
  let v124 : BitVec 32 := Scalar.muli v123 c32_i32_74
  v124
@[reducible] def k0_t2_loop (i : grid0.Coords) : Scf.Loop 32 :=
  let c0_i32_18 : BitVec 32 := 0#32
  let arg2 : BitVec 32 := BitVec.ofNat 32 (i 2).val
  let c3_i32 : BitVec 32 := 3#32
  let v24 : BitVec 32 := Scalar.subi arg2 c3_i32
  let c0_i32_11 : BitVec 32 := 0#32
  let v25 : BitVec 32 := Scalar.maxsi v24 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c4_i32 : BitVec 32 := 4#32
  let c0_i32_14 : BitVec 32 := 0#32
  let v32 : BitVec 1 := Scalar.cmpi .sgt c4_i32 c0_i32_14
  let v33 : BitVec 32 := Scalar.extui v32
  let c0_i32_15 : BitVec 32 := 0#32
  let v34 : BitVec 1 := Scalar.cmpi .slt c4_i32 c0_i32_15
  let v35 : BitVec 32 := Scalar.extui v34
  let v36 : BitVec 32 := Scalar.subi v33 v35
  let v37 : BitVec 1 := Scalar.cmpi .ne v31 v36
  let v38 : BitVec 32 := Scalar.remsi v25 c4_i32
  let c0_i32_16 : BitVec 32 := 0#32
  let v39 : BitVec 1 := Scalar.cmpi .ne v38 c0_i32_16
  let v40 : BitVec 1 := Scalar.andi v37 v39
  let v26 : BitVec 32 := Scalar.divsi v25 c4_i32
  let c1_i32 : BitVec 32 := 1#32
  let v41 : BitVec 32 := Scalar.subi v26 c1_i32
  let v42 : BitVec 32 := Scalar.select v40 v41 v26
  let v43 : BitVec 32 := Scalar.subi v42 c0_i32_18
  let c1_i32_19 : BitVec 32 := 1#32
  let v45 : BitVec 32 := Scalar.divsi v43 c1_i32_19
  let v46 : BitVec 32 := Scalar.muli v45 c1_i32_19
  let v47 : BitVec 32 := Scalar.addi c0_i32_18 v46
  let v44 : BitVec 32 := Scalar.addi c0_i32_18 v43
  let c1_i32_21 : BitVec 32 := 1#32
  ⟨v47, v44, c1_i32_21⟩
def k0_mult6 (i : grid0.Coords) (k0_t2 : Fin (k0_t2_loop i).trips) : BitVec 32 :=
  let arg2 : BitVec 32 := BitVec.ofNat 32 (i 2).val
  let c3_i32 : BitVec 32 := 3#32
  let v24 : BitVec 32 := Scalar.subi arg2 c3_i32
  let c0_i32_11 : BitVec 32 := 0#32
  let v25 : BitVec 32 := Scalar.maxsi v24 c0_i32_11
  let c1_i32_48 : BitVec 32 := 1#32
  let v84 : BitVec 32 := Scalar.subi v25 c1_i32_48
  let c0_i32_49 : BitVec 32 := 0#32
  let v85 : BitVec 32 := Scalar.subi v84 c0_i32_49
  let c4_i32_50 : BitVec 32 := 4#32
  let c0_i32_18 : BitVec 32 := 0#32
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c4_i32 : BitVec 32 := 4#32
  let c0_i32_14 : BitVec 32 := 0#32
  let v32 : BitVec 1 := Scalar.cmpi .sgt c4_i32 c0_i32_14
  let v33 : BitVec 32 := Scalar.extui v32
  let c0_i32_15 : BitVec 32 := 0#32
  let v34 : BitVec 1 := Scalar.cmpi .slt c4_i32 c0_i32_15
  let v35 : BitVec 32 := Scalar.extui v34
  let v36 : BitVec 32 := Scalar.subi v33 v35
  let v37 : BitVec 1 := Scalar.cmpi .ne v31 v36
  let v38 : BitVec 32 := Scalar.remsi v25 c4_i32
  let c0_i32_16 : BitVec 32 := 0#32
  let v39 : BitVec 1 := Scalar.cmpi .ne v38 c0_i32_16
  let v40 : BitVec 1 := Scalar.andi v37 v39
  let v26 : BitVec 32 := Scalar.divsi v25 c4_i32
  let c1_i32 : BitVec 32 := 1#32
  let v41 : BitVec 32 := Scalar.subi v26 c1_i32
  let v42 : BitVec 32 := Scalar.select v40 v41 v26
  let v43 : BitVec 32 := Scalar.subi v42 c0_i32_18
  let c1_i32_19 : BitVec 32 := 1#32
  let v45 : BitVec 32 := Scalar.divsi v43 c1_i32_19
  let v46 : BitVec 32 := Scalar.muli v45 c1_i32_19
  let v47 : BitVec 32 := Scalar.addi c0_i32_18 v46
  let c1_i32_21 : BitVec 32 := 1#32
  let arg11 : BitVec 32 := Scf.iv v47 c1_i32_21 k0_t2
  let v86 : BitVec 32 := Scalar.muli c4_i32_50 arg11
  let v87 : BitVec 32 := Scalar.subi v85 v86
  let c32_i32 : BitVec 32 := 32#32
  let v88 : BitVec 32 := Scalar.muli v87 c32_i32
  v88
def k0_off3 (i : grid0.Coords) (k0_t2 : Fin (k0_t2_loop i).trips) (c0_i32_49 : BitVec 32) : Fin 3 → Nat :=
  let c0_51 : Index := 0#32
  let arg2 : BitVec 32 := BitVec.ofNat 32 (i 2).val
  let c3_i32 : BitVec 32 := 3#32
  let v24 : BitVec 32 := Scalar.subi arg2 c3_i32
  let c0_i32_11 : BitVec 32 := 0#32
  let v25 : BitVec 32 := Scalar.maxsi v24 c0_i32_11
  let c1_i32_48 : BitVec 32 := 1#32
  let v84 : BitVec 32 := Scalar.subi v25 c1_i32_48
  let v85 : BitVec 32 := Scalar.subi v84 c0_i32_49
  let c4_i32_50 : BitVec 32 := 4#32
  let c0_i32_18 : BitVec 32 := 0#32
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c4_i32 : BitVec 32 := 4#32
  let c0_i32_14 : BitVec 32 := 0#32
  let v32 : BitVec 1 := Scalar.cmpi .sgt c4_i32 c0_i32_14
  let v33 : BitVec 32 := Scalar.extui v32
  let c0_i32_15 : BitVec 32 := 0#32
  let v34 : BitVec 1 := Scalar.cmpi .slt c4_i32 c0_i32_15
  let v35 : BitVec 32 := Scalar.extui v34
  let v36 : BitVec 32 := Scalar.subi v33 v35
  let v37 : BitVec 1 := Scalar.cmpi .ne v31 v36
  let v38 : BitVec 32 := Scalar.remsi v25 c4_i32
  let c0_i32_16 : BitVec 32 := 0#32
  let v39 : BitVec 1 := Scalar.cmpi .ne v38 c0_i32_16
  let v40 : BitVec 1 := Scalar.andi v37 v39
  let v26 : BitVec 32 := Scalar.divsi v25 c4_i32
  let c1_i32 : BitVec 32 := 1#32
  let v41 : BitVec 32 := Scalar.subi v26 c1_i32
  let v42 : BitVec 32 := Scalar.select v40 v41 v26
  let v43 : BitVec 32 := Scalar.subi v42 c0_i32_18
  let c1_i32_19 : BitVec 32 := 1#32
  let v45 : BitVec 32 := Scalar.divsi v43 c1_i32_19
  let v46 : BitVec 32 := Scalar.muli v45 c1_i32_19
  let v47 : BitVec 32 := Scalar.addi c0_i32_18 v46
  let c1_i32_21 : BitVec 32 := 1#32
  let arg11 : BitVec 32 := Scf.iv v47 c1_i32_21 k0_t2
  let v86 : BitVec 32 := Scalar.muli c4_i32_50 arg11
  let v87 : BitVec 32 := Scalar.subi v85 v86
  let c32_i32 : BitVec 32 := 32#32
  let v88 : BitVec 32 := Scalar.muli v87 c32_i32
  let v89 : BitVec 32 := v88
  let v90 : Index := Scalar.indexCast v89
  let c0_52 : Index := 0#32
  ![0, v90.toNat, 0]
def k0_mult7 (i : grid0.Coords) (k0_t2 : Fin (k0_t2_loop i).trips) : BitVec 32 :=
  let arg2 : BitVec 32 := BitVec.ofNat 32 (i 2).val
  let c3_i32 : BitVec 32 := 3#32
  let v24 : BitVec 32 := Scalar.subi arg2 c3_i32
  let c0_i32_11 : BitVec 32 := 0#32
  let v25 : BitVec 32 := Scalar.maxsi v24 c0_i32_11
  let c1_i32_55 : BitVec 32 := 1#32
  let v96 : BitVec 32 := Scalar.subi v25 c1_i32_55
  let c1_i32_56 : BitVec 32 := 1#32
  let v97 : BitVec 32 := Scalar.subi v96 c1_i32_56
  let c4_i32_57 : BitVec 32 := 4#32
  let c0_i32_18 : BitVec 32 := 0#32
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c4_i32 : BitVec 32 := 4#32
  let c0_i32_14 : BitVec 32 := 0#32
  let v32 : BitVec 1 := Scalar.cmpi .sgt c4_i32 c0_i32_14
  let v33 : BitVec 32 := Scalar.extui v32
  let c0_i32_15 : BitVec 32 := 0#32
  let v34 : BitVec 1 := Scalar.cmpi .slt c4_i32 c0_i32_15
  let v35 : BitVec 32 := Scalar.extui v34
  let v36 : BitVec 32 := Scalar.subi v33 v35
  let v37 : BitVec 1 := Scalar.cmpi .ne v31 v36
  let v38 : BitVec 32 := Scalar.remsi v25 c4_i32
  let c0_i32_16 : BitVec 32 := 0#32
  let v39 : BitVec 1 := Scalar.cmpi .ne v38 c0_i32_16
  let v40 : BitVec 1 := Scalar.andi v37 v39
  let v26 : BitVec 32 := Scalar.divsi v25 c4_i32
  let c1_i32 : BitVec 32 := 1#32
  let v41 : BitVec 32 := Scalar.subi v26 c1_i32
  let v42 : BitVec 32 := Scalar.select v40 v41 v26
  let v43 : BitVec 32 := Scalar.subi v42 c0_i32_18
  let c1_i32_19 : BitVec 32 := 1#32
  let v45 : BitVec 32 := Scalar.divsi v43 c1_i32_19
  let v46 : BitVec 32 := Scalar.muli v45 c1_i32_19
  let v47 : BitVec 32 := Scalar.addi c0_i32_18 v46
  let c1_i32_21 : BitVec 32 := 1#32
  let arg11 : BitVec 32 := Scf.iv v47 c1_i32_21 k0_t2
  let v98 : BitVec 32 := Scalar.muli c4_i32_57 arg11
  let v99 : BitVec 32 := Scalar.subi v97 v98
  let c32_i32_58 : BitVec 32 := 32#32
  let v100 : BitVec 32 := Scalar.muli v99 c32_i32_58
  v100
def k0_mult8 (i : grid0.Coords) (k0_t2 : Fin (k0_t2_loop i).trips) : BitVec 32 :=
  let arg2 : BitVec 32 := BitVec.ofNat 32 (i 2).val
  let c3_i32 : BitVec 32 := 3#32
  let v24 : BitVec 32 := Scalar.subi arg2 c3_i32
  let c0_i32_11 : BitVec 32 := 0#32
  let v25 : BitVec 32 := Scalar.maxsi v24 c0_i32_11
  let c1_i32_63 : BitVec 32 := 1#32
  let v108 : BitVec 32 := Scalar.subi v25 c1_i32_63
  let c2_i32_64 : BitVec 32 := 2#32
  let v109 : BitVec 32 := Scalar.subi v108 c2_i32_64
  let c4_i32_65 : BitVec 32 := 4#32
  let c0_i32_18 : BitVec 32 := 0#32
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c4_i32 : BitVec 32 := 4#32
  let c0_i32_14 : BitVec 32 := 0#32
  let v32 : BitVec 1 := Scalar.cmpi .sgt c4_i32 c0_i32_14
  let v33 : BitVec 32 := Scalar.extui v32
  let c0_i32_15 : BitVec 32 := 0#32
  let v34 : BitVec 1 := Scalar.cmpi .slt c4_i32 c0_i32_15
  let v35 : BitVec 32 := Scalar.extui v34
  let v36 : BitVec 32 := Scalar.subi v33 v35
  let v37 : BitVec 1 := Scalar.cmpi .ne v31 v36
  let v38 : BitVec 32 := Scalar.remsi v25 c4_i32
  let c0_i32_16 : BitVec 32 := 0#32
  let v39 : BitVec 1 := Scalar.cmpi .ne v38 c0_i32_16
  let v40 : BitVec 1 := Scalar.andi v37 v39
  let v26 : BitVec 32 := Scalar.divsi v25 c4_i32
  let c1_i32 : BitVec 32 := 1#32
  let v41 : BitVec 32 := Scalar.subi v26 c1_i32
  let v42 : BitVec 32 := Scalar.select v40 v41 v26
  let v43 : BitVec 32 := Scalar.subi v42 c0_i32_18
  let c1_i32_19 : BitVec 32 := 1#32
  let v45 : BitVec 32 := Scalar.divsi v43 c1_i32_19
  let v46 : BitVec 32 := Scalar.muli v45 c1_i32_19
  let v47 : BitVec 32 := Scalar.addi c0_i32_18 v46
  let c1_i32_21 : BitVec 32 := 1#32
  let arg11 : BitVec 32 := Scf.iv v47 c1_i32_21 k0_t2
  let v110 : BitVec 32 := Scalar.muli c4_i32_65 arg11
  let v111 : BitVec 32 := Scalar.subi v109 v110
  let c32_i32_66 : BitVec 32 := 32#32
  let v112 : BitVec 32 := Scalar.muli v111 c32_i32_66
  v112
def k0_mult9 (i : grid0.Coords) (k0_t2 : Fin (k0_t2_loop i).trips) : BitVec 32 :=
  let arg2 : BitVec 32 := BitVec.ofNat 32 (i 2).val
  let c3_i32 : BitVec 32 := 3#32
  let v24 : BitVec 32 := Scalar.subi arg2 c3_i32
  let c0_i32_11 : BitVec 32 := 0#32
  let v25 : BitVec 32 := Scalar.maxsi v24 c0_i32_11
  let c1_i32_71 : BitVec 32 := 1#32
  let v120 : BitVec 32 := Scalar.subi v25 c1_i32_71
  let c3_i32_72 : BitVec 32 := 3#32
  let v121 : BitVec 32 := Scalar.subi v120 c3_i32_72
  let c4_i32_73 : BitVec 32 := 4#32
  let c0_i32_18 : BitVec 32 := 0#32
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c4_i32 : BitVec 32 := 4#32
  let c0_i32_14 : BitVec 32 := 0#32
  let v32 : BitVec 1 := Scalar.cmpi .sgt c4_i32 c0_i32_14
  let v33 : BitVec 32 := Scalar.extui v32
  let c0_i32_15 : BitVec 32 := 0#32
  let v34 : BitVec 1 := Scalar.cmpi .slt c4_i32 c0_i32_15
  let v35 : BitVec 32 := Scalar.extui v34
  let v36 : BitVec 32 := Scalar.subi v33 v35
  let v37 : BitVec 1 := Scalar.cmpi .ne v31 v36
  let v38 : BitVec 32 := Scalar.remsi v25 c4_i32
  let c0_i32_16 : BitVec 32 := 0#32
  let v39 : BitVec 1 := Scalar.cmpi .ne v38 c0_i32_16
  let v40 : BitVec 1 := Scalar.andi v37 v39
  let v26 : BitVec 32 := Scalar.divsi v25 c4_i32
  let c1_i32 : BitVec 32 := 1#32
  let v41 : BitVec 32 := Scalar.subi v26 c1_i32
  let v42 : BitVec 32 := Scalar.select v40 v41 v26
  let v43 : BitVec 32 := Scalar.subi v42 c0_i32_18
  let c1_i32_19 : BitVec 32 := 1#32
  let v45 : BitVec 32 := Scalar.divsi v43 c1_i32_19
  let v46 : BitVec 32 := Scalar.muli v45 c1_i32_19
  let v47 : BitVec 32 := Scalar.addi c0_i32_18 v46
  let c1_i32_21 : BitVec 32 := 1#32
  let arg11 : BitVec 32 := Scf.iv v47 c1_i32_21 k0_t2
  let v122 : BitVec 32 := Scalar.muli c4_i32_73 arg11
  let v123 : BitVec 32 := Scalar.subi v121 v122
  let c32_i32_74 : BitVec 32 := 32#32
  let v124 : BitVec 32 := Scalar.muli v123 c32_i32_74
  v124
def k0_cond2 (i : grid0.Coords) : BitVec 1 :=
  let arg2 : BitVec 32 := BitVec.ofNat 32 (i 2).val
  let c3_i32 : BitVec 32 := 3#32
  let v24 : BitVec 32 := Scalar.subi arg2 c3_i32
  let c0_i32_11 : BitVec 32 := 0#32
  let v25 : BitVec 32 := Scalar.maxsi v24 c0_i32_11
  let c4_i32_22 : BitVec 32 := 4#32
  let c0_i32_23 : BitVec 32 := 0#32
  let v48 : BitVec 1 := Scalar.cmpi .eq c4_i32_22 c0_i32_23
  let c1_i32_24 : BitVec 32 := 1#32
  let v49 : BitVec 32 := Scalar.select v48 c1_i32_24 c4_i32_22
  let v50 : BitVec 32 := Scalar.remsi v25 v49
  let c0_i32_26 : BitVec 32 := 0#32
  let v52 : BitVec 1 := Scalar.cmpi .slt v50 c0_i32_26
  let c0_i32_27 : BitVec 32 := 0#32
  let v53 : BitVec 1 := Scalar.cmpi .slt v49 c0_i32_27
  let v54 : BitVec 1 := Scalar.xori v52 v53
  let c0_i32_25 : BitVec 32 := 0#32
  let v51 : BitVec 1 := Scalar.cmpi .ne v50 c0_i32_25
  let v55 : BitVec 1 := Scalar.andi v54 v51
  let v56 : BitVec 32 := Scalar.addi v50 v49
  let v57 : BitVec 32 := Scalar.select v55 v56 v50
  let c2_i32 : BitVec 32 := 2#32
  let v58 : BitVec 1 := Scalar.cmpi .sge v57 c2_i32
  let v59 : BitVec 32 := Scalar.extui v58
  let c0_i32_28 : BitVec 32 := 0#32
  let v60 : BitVec 1 := Scalar.cmpi .ne v59 c0_i32_28
  v60

def k0_mult10 (i : grid0.Coords) : BitVec 32 :=
  let arg2 : BitVec 32 := BitVec.ofNat 32 (i 2).val
  let c3_i32 : BitVec 32 := 3#32
  let v24 : BitVec 32 := Scalar.subi arg2 c3_i32
  let c0_i32_11 : BitVec 32 := 0#32
  let v25 : BitVec 32 := Scalar.maxsi v24 c0_i32_11
  let c4_i32_22 : BitVec 32 := 4#32
  let c0_i32_23 : BitVec 32 := 0#32
  let v48 : BitVec 1 := Scalar.cmpi .eq c4_i32_22 c0_i32_23
  let c1_i32_24 : BitVec 32 := 1#32
  let v49 : BitVec 32 := Scalar.select v48 c1_i32_24 c4_i32_22
  let v50 : BitVec 32 := Scalar.remsi v25 v49
  let c0_i32_26 : BitVec 32 := 0#32
  let v52 : BitVec 1 := Scalar.cmpi .slt v50 c0_i32_26
  let c0_i32_27 : BitVec 32 := 0#32
  let v53 : BitVec 1 := Scalar.cmpi .slt v49 c0_i32_27
  let v54 : BitVec 1 := Scalar.xori v52 v53
  let c0_i32_25 : BitVec 32 := 0#32
  let v51 : BitVec 1 := Scalar.cmpi .ne v50 c0_i32_25
  let v55 : BitVec 1 := Scalar.andi v54 v51
  let v56 : BitVec 32 := Scalar.addi v50 v49
  let v57 : BitVec 32 := Scalar.select v55 v56 v50
  let c1_i32_48 : BitVec 32 := 1#32
  let v84 : BitVec 32 := Scalar.subi v57 c1_i32_48
  let c32_i32 : BitVec 32 := 32#32
  let v85 : BitVec 32 := Scalar.muli v84 c32_i32
  v85
def k0_off4 (i : grid0.Coords) (c1_i32_48 : BitVec 32) : Fin 3 → Nat :=
  let c0_49 : Index := 0#32
  let arg2 : BitVec 32 := BitVec.ofNat 32 (i 2).val
  let c3_i32 : BitVec 32 := 3#32
  let v24 : BitVec 32 := Scalar.subi arg2 c3_i32
  let c0_i32_11 : BitVec 32 := 0#32
  let v25 : BitVec 32 := Scalar.maxsi v24 c0_i32_11
  let c4_i32_22 : BitVec 32 := 4#32
  let c0_i32_23 : BitVec 32 := 0#32
  let v48 : BitVec 1 := Scalar.cmpi .eq c4_i32_22 c0_i32_23
  let c1_i32_24 : BitVec 32 := 1#32
  let v49 : BitVec 32 := Scalar.select v48 c1_i32_24 c4_i32_22
  let v50 : BitVec 32 := Scalar.remsi v25 v49
  let c0_i32_26 : BitVec 32 := 0#32
  let v52 : BitVec 1 := Scalar.cmpi .slt v50 c0_i32_26
  let c0_i32_27 : BitVec 32 := 0#32
  let v53 : BitVec 1 := Scalar.cmpi .slt v49 c0_i32_27
  let v54 : BitVec 1 := Scalar.xori v52 v53
  let c0_i32_25 : BitVec 32 := 0#32
  let v51 : BitVec 1 := Scalar.cmpi .ne v50 c0_i32_25
  let v55 : BitVec 1 := Scalar.andi v54 v51
  let v56 : BitVec 32 := Scalar.addi v50 v49
  let v57 : BitVec 32 := Scalar.select v55 v56 v50
  let v84 : BitVec 32 := Scalar.subi v57 c1_i32_48
  let c32_i32 : BitVec 32 := 32#32
  let v85 : BitVec 32 := Scalar.muli v84 c32_i32
  let v86 : BitVec 32 := v85
  let v87 : Index := Scalar.indexCast v86
  let c0_50 : Index := 0#32
  ![0, v87.toNat, 0]
def k0_mult11 (i : grid0.Coords) : BitVec 32 :=
  let arg2 : BitVec 32 := BitVec.ofNat 32 (i 2).val
  let c3_i32 : BitVec 32 := 3#32
  let v24 : BitVec 32 := Scalar.subi arg2 c3_i32
  let c0_i32_11 : BitVec 32 := 0#32
  let v25 : BitVec 32 := Scalar.maxsi v24 c0_i32_11
  let c4_i32_22 : BitVec 32 := 4#32
  let c0_i32_23 : BitVec 32 := 0#32
  let v48 : BitVec 1 := Scalar.cmpi .eq c4_i32_22 c0_i32_23
  let c1_i32_24 : BitVec 32 := 1#32
  let v49 : BitVec 32 := Scalar.select v48 c1_i32_24 c4_i32_22
  let v50 : BitVec 32 := Scalar.remsi v25 v49
  let c0_i32_26 : BitVec 32 := 0#32
  let v52 : BitVec 1 := Scalar.cmpi .slt v50 c0_i32_26
  let c0_i32_27 : BitVec 32 := 0#32
  let v53 : BitVec 1 := Scalar.cmpi .slt v49 c0_i32_27
  let v54 : BitVec 1 := Scalar.xori v52 v53
  let c0_i32_25 : BitVec 32 := 0#32
  let v51 : BitVec 1 := Scalar.cmpi .ne v50 c0_i32_25
  let v55 : BitVec 1 := Scalar.andi v54 v51
  let v56 : BitVec 32 := Scalar.addi v50 v49
  let v57 : BitVec 32 := Scalar.select v55 v56 v50
  let c2_i32_53 : BitVec 32 := 2#32
  let v93 : BitVec 32 := Scalar.subi v57 c2_i32_53
  let c32_i32_54 : BitVec 32 := 32#32
  let v94 : BitVec 32 := Scalar.muli v93 c32_i32_54
  v94
def k0_cond3 (i : grid0.Coords) : BitVec 1 :=
  let arg2 : BitVec 32 := BitVec.ofNat 32 (i 2).val
  let c3_i32 : BitVec 32 := 3#32
  let v24 : BitVec 32 := Scalar.subi arg2 c3_i32
  let c0_i32_11 : BitVec 32 := 0#32
  let v25 : BitVec 32 := Scalar.maxsi v24 c0_i32_11
  let c4_i32_22 : BitVec 32 := 4#32
  let c0_i32_23 : BitVec 32 := 0#32
  let v48 : BitVec 1 := Scalar.cmpi .eq c4_i32_22 c0_i32_23
  let c1_i32_24 : BitVec 32 := 1#32
  let v49 : BitVec 32 := Scalar.select v48 c1_i32_24 c4_i32_22
  let v50 : BitVec 32 := Scalar.remsi v25 v49
  let c0_i32_26 : BitVec 32 := 0#32
  let v52 : BitVec 1 := Scalar.cmpi .slt v50 c0_i32_26
  let c0_i32_27 : BitVec 32 := 0#32
  let v53 : BitVec 1 := Scalar.cmpi .slt v49 c0_i32_27
  let v54 : BitVec 1 := Scalar.xori v52 v53
  let c0_i32_25 : BitVec 32 := 0#32
  let v51 : BitVec 1 := Scalar.cmpi .ne v50 c0_i32_25
  let v55 : BitVec 1 := Scalar.andi v54 v51
  let v56 : BitVec 32 := Scalar.addi v50 v49
  let v57 : BitVec 32 := Scalar.select v55 v56 v50
  let c2_i32_29 : BitVec 32 := 2#32
  let c0_i32_30 : BitVec 32 := 0#32
  let v61 : BitVec 1 := Scalar.cmpi .eq c2_i32_29 c0_i32_30
  let c1_i32_31 : BitVec 32 := 1#32
  let v62 : BitVec 32 := Scalar.select v61 c1_i32_31 c2_i32_29
  let v63 : BitVec 32 := Scalar.remsi v57 v62
  let c0_i32_33 : BitVec 32 := 0#32
  let v65 : BitVec 1 := Scalar.cmpi .slt v63 c0_i32_33
  let c0_i32_34 : BitVec 32 := 0#32
  let v66 : BitVec 1 := Scalar.cmpi .slt v62 c0_i32_34
  let v67 : BitVec 1 := Scalar.xori v65 v66
  let c0_i32_32 : BitVec 32 := 0#32
  let v64 : BitVec 1 := Scalar.cmpi .ne v63 c0_i32_32
  let v68 : BitVec 1 := Scalar.andi v67 v64
  let v69 : BitVec 32 := Scalar.addi v63 v62
  let v70 : BitVec 32 := Scalar.select v68 v69 v63
  let c1_i32_35 : BitVec 32 := 1#32
  let v71 : BitVec 1 := Scalar.cmpi .eq v70 c1_i32_35
  let v72 : BitVec 32 := Scalar.extui v71
  let c0_i32_36 : BitVec 32 := 0#32
  let v73 : BitVec 1 := Scalar.cmpi .ne v72 c0_i32_36
  v73

def k0_mult12 : BitVec 32 :=
  let c0_i32_48 : BitVec 32 := 0#32
  c0_i32_48
@[reducible] def k0_t3_loop : Scf.Loop 32 :=
  let c0_i32_37 : BitVec 32 := 0#32
  let c4_i32_38 : BitVec 32 := 4#32
  let v74 : BitVec 32 := Scalar.addi c0_i32_37 c4_i32_38
  let c1_i32_39 : BitVec 32 := 1#32
  ⟨c0_i32_37, v74, c1_i32_39⟩
def k0_mult13 (k0_t3 : Fin k0_t3_loop.trips) : BitVec 32 :=
  let c15_i32 : BitVec 32 := 15#32
  let c4_i32_48 : BitVec 32 := 4#32
  let c0_i32_37 : BitVec 32 := 0#32
  let c1_i32_39 : BitVec 32 := 1#32
  let arg11 : BitVec 32 := Scf.iv c0_i32_37 c1_i32_39 k0_t3
  let v84 : BitVec 32 := Scalar.muli c4_i32_48 arg11
  let v85 : BitVec 32 := Scalar.subi c15_i32 v84
  let c256_i32 : BitVec 32 := 256#32
  let v86 : BitVec 32 := Scalar.muli v85 c256_i32
  v86
def k0_off5 (k0_t3 : Fin k0_t3_loop.trips) (c15_i32 : BitVec 32) : Fin 3 → Nat :=
  let c0_49 : Index := 0#32
  let c4_i32_48 : BitVec 32 := 4#32
  let c0_i32_37 : BitVec 32 := 0#32
  let c1_i32_39 : BitVec 32 := 1#32
  let arg11 : BitVec 32 := Scf.iv c0_i32_37 c1_i32_39 k0_t3
  let v84 : BitVec 32 := Scalar.muli c4_i32_48 arg11
  let v85 : BitVec 32 := Scalar.subi c15_i32 v84
  let c256_i32 : BitVec 32 := 256#32
  let v86 : BitVec 32 := Scalar.muli v85 c256_i32
  let v87 : BitVec 32 := v86
  let v88 : Index := Scalar.indexCast v87
  let c0_50 : Index := 0#32
  ![0, v88.toNat, 0]
def k0_mult14 (k0_t3 : Fin k0_t3_loop.trips) : BitVec 32 :=
  let c14_i32 : BitVec 32 := 14#32
  let c4_i32_53 : BitVec 32 := 4#32
  let c0_i32_37 : BitVec 32 := 0#32
  let c1_i32_39 : BitVec 32 := 1#32
  let arg11 : BitVec 32 := Scf.iv c0_i32_37 c1_i32_39 k0_t3
  let v94 : BitVec 32 := Scalar.muli c4_i32_53 arg11
  let v95 : BitVec 32 := Scalar.subi c14_i32 v94
  let c256_i32_54 : BitVec 32 := 256#32
  let v96 : BitVec 32 := Scalar.muli v95 c256_i32_54
  v96
def k0_mult15 (k0_t3 : Fin k0_t3_loop.trips) : BitVec 32 :=
  let c13_i32 : BitVec 32 := 13#32
  let c4_i32_59 : BitVec 32 := 4#32
  let c0_i32_37 : BitVec 32 := 0#32
  let c1_i32_39 : BitVec 32 := 1#32
  let arg11 : BitVec 32 := Scf.iv c0_i32_37 c1_i32_39 k0_t3
  let v104 : BitVec 32 := Scalar.muli c4_i32_59 arg11
  let v105 : BitVec 32 := Scalar.subi c13_i32 v104
  let c256_i32_60 : BitVec 32 := 256#32
  let v106 : BitVec 32 := Scalar.muli v105 c256_i32_60
  v106
def k0_mult16 (k0_t3 : Fin k0_t3_loop.trips) : BitVec 32 :=
  let c12_i32 : BitVec 32 := 12#32
  let c4_i32_65 : BitVec 32 := 4#32
  let c0_i32_37 : BitVec 32 := 0#32
  let c1_i32_39 : BitVec 32 := 1#32
  let arg11 : BitVec 32 := Scf.iv c0_i32_37 c1_i32_39 k0_t3
  let v114 : BitVec 32 := Scalar.muli c4_i32_65 arg11
  let v115 : BitVec 32 := Scalar.subi c12_i32 v114
  let c256_i32_66 : BitVec 32 := 256#32
  let v116 : BitVec 32 := Scalar.muli v115 c256_i32_66
  v116
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x32x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x32x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x32x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x32x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== StickSampleReferenceIdeal.lean ====
abbrev S8x32x512 : Shape := ⟨3, ![8, 32, 512]⟩
abbrev S8x4096x8x64 : Shape := ⟨4, ![8, 4096, 8, 64]⟩
abbrev S8x32x8x64 : Shape := ⟨4, ![8, 32, 8, 64]⟩
abbrev S8x4128x8x64 : Shape := ⟨4, ![8, 4128, 8, 64]⟩
abbrev S8x8x32x4128 : Shape := ⟨4, ![8, 8, 32, 4128]⟩
abbrev S_ : Shape := ⟨0, ![]⟩
abbrev S4128 : Shape := ⟨1, ![4128]⟩
abbrev S1x4128 : Shape := ⟨2, ![1, 4128]⟩
abbrev S32 : Shape := ⟨1, ![32]⟩
abbrev S32x1 : Shape := ⟨2, ![32, 1]⟩
abbrev S32x4128 : Shape := ⟨2, ![32, 4128]⟩
abbrev S8x8x64x32 : Shape := ⟨4, ![8, 8, 64, 32]⟩

abbrev nBuf : Space → Nat
  | .hbm => 80
  | .vmem => 0
  | .smem => 0
  | _ => 0

abbrev bufTy : (tb : Table) → Fin (tcTables nBuf tb) → BufTy
  | .hbm, ⟨0, _⟩ => ⟨S8x32x512, .bf16⟩
  | .hbm, ⟨1, _⟩ => ⟨S8x32x512, .bf16⟩
  | .hbm, ⟨2, _⟩ => ⟨S8x32x512, .bf16⟩
  | .hbm, ⟨3, _⟩ => ⟨S8x4096x8x64, .f32⟩
  | .hbm, ⟨4, _⟩ => ⟨S8x4096x8x64, .f32⟩
  | .hbm, ⟨5, _⟩ => ⟨S8x32x512, .f32⟩
  | .hbm, ⟨6, _⟩ => ⟨S8x32x8x64, .f32⟩
  | .hbm, ⟨7, _⟩ => ⟨S8x32x512, .f32⟩
  | .hbm, ⟨8, _⟩ => ⟨S8x32x8x64, .f32⟩
  | .hbm, ⟨9, _⟩ => ⟨S8x32x512, .f32⟩
  | .hbm, ⟨10, _⟩ => ⟨S8x32x8x64, .f32⟩
  | .hbm, ⟨11, _⟩ => ⟨S8x4128x8x64, .f32⟩
  | .hbm, ⟨12, _⟩ => ⟨S8x4128x8x64, .f32⟩
  | .hbm, ⟨13, _⟩ => ⟨S8x8x32x4128, .f32⟩
  | .hbm, ⟨14, _⟩ => ⟨S_, .f32⟩
  | .hbm, ⟨15, _⟩ => ⟨S8x8x32x4128, .f32⟩
  | .hbm, ⟨16, _⟩ => ⟨S8x8x32x4128, .f32⟩
  | .hbm, ⟨17, _⟩ => ⟨S4128, .i32⟩
  | .hbm, ⟨18, _⟩ => ⟨S1x4128, .i32⟩
  | .hbm, ⟨19, _⟩ => ⟨S32, .i32⟩
  | .hbm, ⟨20, _⟩ => ⟨S32x1, .i32⟩
  | .hbm, ⟨21, _⟩ => ⟨S_, .i32⟩
  | .hbm, ⟨22, _⟩ => ⟨S32x1, .i32⟩
  | .hbm, ⟨23, _⟩ => ⟨S32x1, .i32⟩
  | .hbm, ⟨24, _⟩ => ⟨S32x4128, .i32⟩
  | .hbm, ⟨25, _⟩ => ⟨S32x4128, .i32⟩
  | .hbm, ⟨26, _⟩ => ⟨S32x4128, .i1⟩
  | .hbm, ⟨27, _⟩ => ⟨S8x8x32x4128, .f32⟩
  | .hbm, ⟨28, _⟩ => ⟨S8x8x32x4128, .f32⟩
  | .hbm, ⟨29, _⟩ => ⟨S_, .f32⟩
  | .hbm, ⟨30, _⟩ => ⟨S8x8x32x4128, .f32⟩
  | .hbm, ⟨31, _⟩ => ⟨S8x8x32x4128, .f32⟩
  | .hbm, ⟨32, _⟩ => ⟨S8x8x32x4128, .f32⟩
  | .hbm, ⟨33, _⟩ => ⟨S8x8x32x4128, .f32⟩
  | .hbm, ⟨34, _⟩ => ⟨S8x8x32x4128, .i1⟩
  | .hbm, ⟨35, _⟩ => ⟨S8x8x32x4128, .f32⟩
  | .hbm, ⟨36, _⟩ => ⟨S8x8x32x4128, .f32⟩
  | .hbm, ⟨37, _⟩ => ⟨S8x8x32x4128, .f32⟩
  | .hbm, ⟨38, _⟩ => ⟨S8x8x32x4128, .f32⟩
  | .hbm, ⟨39, _⟩ => ⟨S8x8x32x4128, .f32⟩
  | .hbm, ⟨40, _⟩ => ⟨S8x8x32x4128, .f32⟩
  | .hbm, ⟨41, _⟩ => ⟨S8x8x32x4128, .f32⟩
  | .hbm, ⟨42, _⟩ => ⟨S8x8x32x4128, .f32⟩
  | .hbm, ⟨43, _⟩ => ⟨S8x8x32x4128, .f32⟩
  | .hbm, ⟨44, _⟩ => ⟨S_, .f32⟩
  | .hbm, ⟨45, _⟩ => ⟨S_, .f32⟩
  | .hbm, ⟨46, _⟩ => ⟨S8x8x32x4128, .i1⟩
  | .hbm, ⟨47, _⟩ => ⟨S8x8x32x4128, .f32⟩
  | .hbm, ⟨48, _⟩ => ⟨S8x8x32x4128, .f32⟩
  | .hbm, ⟨49, _⟩ => ⟨S_, .f32⟩
  | .hbm, ⟨50, _⟩ => ⟨S_, .f32⟩
  | .hbm, ⟨51, _⟩ => ⟨S8x8x32x4128, .f32⟩
  | .hbm, ⟨52, _⟩ => ⟨S8x8x32x4128, .f32⟩
  | .hbm, ⟨53, _⟩ => ⟨S8x8x32x4128, .f32⟩
  | .hbm, ⟨54, _⟩ => ⟨S_, .f32⟩
  | .hbm, ⟨55, _⟩ => ⟨S8x8x32x4128, .f32⟩
  | .hbm, ⟨56, _⟩ => ⟨S8x8x32x4128, .f32⟩
  | .hbm, ⟨57, _⟩ => ⟨S8x8x32x4128, .f32⟩
  | .hbm, ⟨58, _⟩ => ⟨S8x8x32x4128, .f32⟩
  | .hbm, ⟨59, _⟩ => ⟨S8x8x32x4128, .i1⟩
  | .hbm, ⟨60, _⟩ => ⟨S8x8x32x4128, .f32⟩
  | .hbm, ⟨61, _⟩ => ⟨S8x8x32x4128, .f32⟩
  | .hbm, ⟨62, _⟩ => ⟨S8x8x32x4128, .f32⟩
  | .hbm, ⟨63, _⟩ => ⟨S8x8x32x4128, .f32⟩
  | .hbm, ⟨64, _⟩ => ⟨S8x8x32x4128, .f32⟩
  | .hbm, ⟨65, _⟩ => ⟨S8x8x32x4128, .f32⟩
  | .hbm, ⟨66, _⟩ => ⟨S8x8x32x4128, .f32⟩
  | .hbm, ⟨67, _⟩ => ⟨S8x8x32x4128, .f32⟩
  | .hbm, ⟨68, _⟩ => ⟨S8x8x32x4128, .f32⟩
  | .hbm, ⟨69, _⟩ => ⟨S8x8x32x4128, .f32⟩
  | .hbm, ⟨70, _⟩ => ⟨S8x8x32x4128, .f32⟩
  | .hbm, ⟨71, _⟩ => ⟨S_, .f32⟩
  | .hbm, ⟨72, _⟩ => ⟨S_, .f32⟩
  | .hbm, ⟨73, _⟩ => ⟨S8x8x32x4128, .i1⟩
  | .hbm, ⟨74, _⟩ => ⟨S8x8x32x4128, .f32⟩
  | .hbm, ⟨75, _⟩ => ⟨S8x8x32x4128, .f32⟩
  | .hbm, ⟨76, _⟩ => ⟨S8x8x64x32, .f32⟩
  | .hbm, ⟨77, _⟩ => ⟨S8x32x8x64, .f32⟩
  | .hbm, ⟨78, _⟩ => ⟨S8x32x512, .f32⟩
  | .hbm, ⟨79, _⟩ => ⟨S8x32x512, .bf16⟩
  | _, _ => ⟨S8x32x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1 : Ref sig .tc := ⟨.hbm, 42, rfl⟩
abbrev main_v21 : Ref sig .tc := ⟨.hbm, 43, rfl⟩
abbrev main_cst_0 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v22 : Ref sig .tc := ⟨.hbm, 48, rfl⟩
abbrev main_call2_cst : Ref sig .tc := ⟨.hbm, 49, rfl⟩
abbrev main_call2_v0 : Ref sig .tc := ⟨.hbm, 50, rfl⟩
abbrev main_v23 : Ref sig .tc := ⟨.hbm, 51, rfl⟩
abbrev main_v24 : Ref sig .tc := ⟨.hbm, 52, rfl⟩
abbrev main_call3_v0 : Ref sig .tc := ⟨.hbm, 53, rfl⟩
abbrev main_call3_call0_cst : Ref sig .tc := ⟨.hbm, 54, rfl⟩
abbrev main_call3_call0_v0 : Ref sig .tc := ⟨.hbm, 55, rfl⟩
abbrev main_call3_call0_v1 : Ref sig .tc := ⟨.hbm, 56, rfl⟩
abbrev main_call3_call0_v2 : Ref sig .tc := ⟨.hbm, 57, rfl⟩
abbrev main_call3_call0_v3 : Ref sig .tc := ⟨.hbm, 58, rfl⟩
abbrev main_call3_call0_v4 : Ref sig .tc := ⟨.hbm, 59, rfl⟩
abbrev main_call3_call0_v5 : Ref sig .tc := ⟨.hbm, 60, rfl⟩
abbrev main_call3_call0_v6 : Ref sig .tc := ⟨.hbm, 61, rfl⟩
abbrev main_call3_call0_v7 : Ref sig .tc := ⟨.hbm, 62, rfl⟩
abbrev main_call3_call0_v8 : Ref sig .tc := ⟨.hbm, 63, rfl⟩
abbrev main_call3_call0_v9 : Ref sig .tc := ⟨.hbm, 64, rfl⟩
abbrev main_call3_call0_v10 : Ref sig .tc := ⟨.hbm, 65, rfl⟩
abbrev main_call3_call0_v11 : Ref sig .tc := ⟨.hbm, 66, rfl⟩
abbrev main_call3_v1 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_cst_1 : Ref sig .tc := ⟨.hbm, 71, rfl⟩
abbrev main_call4_v0 : Ref sig .tc := ⟨.hbm, 72, rfl⟩
abbrev main_call4_v1 : Ref sig .tc := ⟨.hbm, 73, rfl⟩
abbrev main_call4_v2 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩

abbrev nD : Nat := 1
abbrev τ : Topo := Topo.v7x

variable {F : FTy → Type} [FloatOps F]
-- ==== Memory.lean ====
abbrev S16x256x1024 : Shape := ⟨3, ![16, 256, 1024]⟩
abbrev S1024 : Shape := ⟨1, ![1024]⟩
abbrev S1024x1024 : Shape := ⟨2, ![1024, 1024]⟩
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 9
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S4096x1024, .f32⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S4096x1024, .f32⟩
  | .hbm, ⟨9, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemoryReferenceIdeal.lean ====
abbrev S16x256x1024 : Shape := ⟨3, ![16, 256, 1024]⟩
abbrev S1024 : Shape := ⟨1, ![1024]⟩
abbrev S1024x1024 : Shape := ⟨2, ![1024, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Merge.lean ====
abbrev S32768x512 : Shape := ⟨2, ![32768, 512]⟩
abbrev S32768x2048 : Shape := ⟨2, ![32768, 2048]⟩
abbrev S32768x1024 : Shape := ⟨2, ![32768, 1024]⟩
abbrev S2x512x1024 : Shape := ⟨3, ![2, 512, 1024]⟩
abbrev S1024x1024 : Shape := ⟨2, ![1024, 1024]⟩
abbrev S1024 : Shape := ⟨1, ![1024]⟩
abbrev S1x512x1024 : Shape := ⟨3, ![1, 512, 1024]⟩
abbrev S512x1024 : Shape := ⟨2, ![512, 1024]⟩
abbrev S1x1024 : Shape := ⟨2, ![1, 1024]⟩
abbrev S256x512 : Shape := ⟨2, ![256, 512]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 19
  | .vmem => 17
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x2048, .bf16⟩
  | .hbm, ⟨3, _⟩ => ⟨S32768x1024, .f32⟩
  | .hbm, ⟨4, _⟩ => ⟨S2x512x1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1x512x1024, .f32⟩
  | .hbm, ⟨9, _⟩ => ⟨S512x1024, .f32⟩
  | .hbm, ⟨10, _⟩ => ⟨S512x1024, .bf16⟩
  | .hbm, ⟨11, _⟩ => ⟨S1x512x1024, .f32⟩
  | .hbm, ⟨12, _⟩ => ⟨S512x1024, .f32⟩
  | .hbm, ⟨13, _⟩ => ⟨S512x1024, .bf16⟩
  | .hbm, ⟨14, _⟩ => ⟨S1024x1024, .bf16⟩
  | .hbm, ⟨15, _⟩ => ⟨S1024x1024, .bf16⟩
  | .hbm, ⟨16, _⟩ => ⟨S1x1024, .f32⟩
  | .hbm, ⟨17, _⟩ => ⟨S32768x1024, .f32⟩
  | .hbm, ⟨18, _⟩ => ⟨S32768x1024, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x2048, .bf16⟩
  | .local _ .vmem, ⟨5, _⟩ => ⟨S256x2048, .bf16⟩
  | .local _ .vmem, ⟨6, _⟩ => ⟨S256x1024, .f32⟩
  | .local _ .vmem, ⟨7, _⟩ => ⟨S256x1024, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x1024, .bf16⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeReferenceIdeal.lean ====
abbrev S32768x512 : Shape := ⟨2, ![32768, 512]⟩
abbrev S32768x2048 : Shape := ⟨2, ![32768, 2048]⟩
abbrev S32768x1024 : Shape := ⟨2, ![32768, 1024]⟩
abbrev S2x512x1024 : Shape := ⟨3, ![2, 512, 1024]⟩
abbrev S1024x1024 : Shape := ⟨2, ![1024, 1024]⟩
abbrev S1024 : Shape := ⟨1, ![1024]⟩
abbrev S_ : Shape := ⟨0, ![]⟩
abbrev S32768x2x1024 : Shape := ⟨3, ![32768, 2, 1024]⟩
abbrev S32768x1x1024 : Shape := ⟨3, ![32768, 1, 1024]⟩
abbrev S1x512x1024 : Shape := ⟨3, ![1, 512, 1024]⟩
abbrev S512x1024 : Shape := ⟨2, ![512, 1024]⟩
abbrev S32768 : Shape := ⟨1, ![32768]⟩
abbrev S32768x1 : Shape := ⟨2, ![32768, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x2048, .bf16⟩
  | .hbm, ⟨3, _⟩ => ⟨S32768x1024, .f32⟩
  | .hbm, ⟨4, _⟩ => ⟨S2x512x1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S32768x512, .f32⟩
  | .hbm, ⟨9, _⟩ => ⟨S32768x512, .f32⟩
  | .hbm, ⟨10, _⟩ => ⟨S32768x2048, .f32⟩
  | .hbm, ⟨11, _⟩ => ⟨S32768x2048, .f32⟩
  | .hbm, ⟨12, _⟩ => ⟨S32768x2048, .f32⟩
  | .hbm, ⟨13, _⟩ => ⟨S_, .f32⟩
  | .hbm, ⟨14, _⟩ => ⟨S32768x2048, .f32⟩
  | .hbm, ⟨15, _⟩ => ⟨S32768x2048, .f32⟩
  | .hbm, ⟨16, _⟩ => ⟨S_, .f32⟩
  | .hbm, ⟨17, _⟩ => ⟨S32768x2048, .f32⟩
  | .hbm, ⟨18, _⟩ => ⟨S32768x2048, .f32⟩
  | .hbm, ⟨19, _⟩ => ⟨S32768x2x1024, .f32⟩
  | .hbm, ⟨20, _⟩ => ⟨S32768x1x1024, .f32⟩
  | .hbm, ⟨21, _⟩ => ⟨S32768x1024, .f32⟩
  | .hbm, ⟨22, _⟩ => ⟨S1x512x1024, .f32⟩
  | .hbm, ⟨23, _⟩ => ⟨S512x1024, .f32⟩
  | .hbm, ⟨24, _⟩ => ⟨S32768x1024, .f32⟩
  | .hbm, ⟨25, _⟩ => ⟨S32768x1024, .f32⟩
  | .hbm, ⟨26, _⟩ => ⟨S32768x1x1024, .f32⟩
  | .hbm, ⟨27, _⟩ => ⟨S32768x1024, .f32⟩
  | .hbm, ⟨28, _⟩ => ⟨S1x512x1024, .f32⟩
  | .hbm, ⟨29, _⟩ => ⟨S512x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S_, .f32⟩
  | .hbm, ⟨37, _⟩ => ⟨S32768, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S32768x1, .f32⟩
  | .hbm, ⟨46, _⟩ => ⟨S32768x1024, .f32⟩
  | .hbm, ⟨47, _⟩ => ⟨S32768x1024, .f32⟩
  | .hbm, ⟨48, _⟩ => ⟨S1x1024, .f32⟩
  | .hbm, ⟨49, _⟩ => ⟨S32768x1024, .f32⟩
  | .hbm, ⟨50, _⟩ => ⟨S32768x1024, .f32⟩
  | .hbm, ⟨51, _⟩ => ⟨S32768x1024, .f32⟩
  | .hbm, ⟨52, _⟩ => ⟨S32768x1024, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Xattn.lean ====
abbrev S16x2048x1024 : Shape := ⟨3, ![16, 2048, 1024]⟩
abbrev S16x256x1024 : Shape := ⟨3, ![16, 256, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S1x1024 : Shape := ⟨2, ![1, 1024]⟩
abbrev S16x2048x8x128 : Shape := ⟨4, ![16, 2048, 8, 128]⟩
abbrev S16x2048x128 : Shape := ⟨3, ![16, 2048, 128]⟩
abbrev S8x128 : Shape := ⟨2, ![8, 128]⟩
abbrev S1x256x1024 : Shape := ⟨3, ![1, 256, 1024]⟩
abbrev S1x256x8x128 : Shape := ⟨4, ![1, 256, 8, 128]⟩
abbrev S1x256x128 : Shape := ⟨3, ![1, 256, 128]⟩
abbrev S256x1024 : Shape := ⟨2, ![256, 1024]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩
abbrev S256x8x128 : Shape := ⟨3, ![256, 8, 128]⟩
abbrev S256x128 : Shape := ⟨2, ![256, 128]⟩
abbrev S128 : Shape := ⟨1, ![128]⟩

abbrev nBuf : Space → Nat
  | .hbm => 28
  | .vmem => 21
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .f32⟩
  | .hbm, ⟨2, _⟩ => ⟨S16x256x1024, .f32⟩
  | .hbm, ⟨3, _⟩ => ⟨S16x256x1024, .f32⟩
  | .hbm, ⟨4, _⟩ => ⟨S1024x1024, .f32⟩
  | .hbm, ⟨5, _⟩ => ⟨S1024, .f32⟩
  | .hbm, ⟨6, _⟩ => ⟨S1024x32, .f32⟩
  | .hbm, ⟨7, _⟩ => ⟨S32, .f32⟩
  | .hbm, ⟨8, _⟩ => ⟨S1024x1024, .bf16⟩
  | .hbm, ⟨9, _⟩ => ⟨S_, .f32⟩
  | .hbm, ⟨10, _⟩ => ⟨S1024x128, .f32⟩
  | .hbm, ⟨11, _⟩ => ⟨S_, .i32⟩
  | .hbm, ⟨12, _⟩ => ⟨S1, .i32⟩
  | .hbm, ⟨13, _⟩ => ⟨S1024x128, .f32⟩
  | .hbm, ⟨14, _⟩ => ⟨S_, .f32⟩
  | .hbm, ⟨15, _⟩ => ⟨S1x128, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S1x128, .f32⟩
  | .hbm, ⟨22, _⟩ => ⟨S1x1024, .f32⟩
  | .hbm, ⟨23, _⟩ => ⟨S16x2048x1024, .f32⟩
  | .hbm, ⟨24, _⟩ => ⟨S16x2048x8x128, .f32⟩
  | .hbm, ⟨25, _⟩ => ⟨S16x2048x128, .i32⟩
  | .hbm, ⟨26, _⟩ => ⟨S16x2048x128, .f32⟩
  | .hbm, ⟨27, _⟩ => ⟨S8x128, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1024x1024, .bf16⟩
  | .local _ .vmem, ⟨9, _⟩ => ⟨S1x1024, .f32⟩
  | .local _ .vmem, ⟨10, _⟩ => ⟨S1024x128, .f32⟩
  | .local _ .vmem, ⟨11, _⟩ => ⟨S1x128, .f32⟩
  | .local _ .vmem, ⟨12, _⟩ => ⟨S1x256x1024, .f32⟩
  | .local _ .vmem, ⟨13, _⟩ => ⟨S1x256x1024, .f32⟩
  | .local _ .vmem, ⟨14, _⟩ => ⟨S1x256x8x128, .f32⟩
  | .local _ .vmem, ⟨15, _⟩ => ⟨S1x256x8x128, .f32⟩
  | .local _ .vmem, ⟨16, _⟩ => ⟨S1x256x128, .i32⟩
  | .local _ .vmem, ⟨17, _⟩ => ⟨S1x256x128, .i32⟩
  | .local _ .vmem, ⟨18, _⟩ => ⟨S1x256x128, .f32⟩
  | .local _ .vmem, ⟨19, _⟩ => ⟨S1x256x128, .f32⟩
  | .local _ .vmem, ⟨20, _⟩ => ⟨S8x128, .f32⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_c_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10_0 : Ref sig .tc := ⟨.hbm, 23, rfl⟩
abbrev main_v10_1 : Ref sig .tc := ⟨.hbm, 24, rfl⟩
abbrev main_v10_2 : Ref sig .tc := ⟨.hbm, 25, rfl⟩
abbrev main_v10_3 : Ref sig .tc := ⟨.hbm, 26, rfl⟩
abbrev main_v10_4 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x128 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== XattnReferenceIdeal.lean ====
abbrev S16x2048x1024 : Shape := ⟨3, ![16, 2048, 1024]⟩
abbrev S16x256x1024 : Shape := ⟨3, ![16, 256, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S16x2048x4x256 : Shape := ⟨4, ![16, 2048, 4, 256]⟩
abbrev S16x256x4x256 : Shape := ⟨4, ![16, 256, 4, 256]⟩
abbrev S16x4x2048x256 : Shape := ⟨4, ![16, 4, 2048, 256]⟩
abbrev S_ : Shape := ⟨0, ![]⟩
abbrev S16x4x2048 : Shape := ⟨3, ![16, 4, 2048]⟩
abbrev S16x4x2048x1 : Shape := ⟨4, ![16, 4, 2048, 1]⟩
abbrev S16x4x256x2048 : Shape := ⟨4, ![16, 4, 256, 2048]⟩
abbrev S16x2048 : Shape := ⟨2, ![16, 2048]⟩
abbrev S16x2048x1 : Shape := ⟨3, ![16, 2048, 1]⟩
abbrev S1x1x1024 : Shape := ⟨3, ![1, 1, 1024]⟩
abbrev S16x2048x8x128 : Shape := ⟨4, ![16, 2048, 8, 128]⟩

abbrev nBuf : Space → Nat
  | .hbm => 52
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .f32⟩
  | .hbm, ⟨2, _⟩ => ⟨S16x256x1024, .f32⟩
  | .hbm, ⟨3, _⟩ => ⟨S16x256x1024, .f32⟩
  | .hbm, ⟨4, _⟩ => ⟨S1024x1024, .f32⟩
  | .hbm, ⟨5, _⟩ => ⟨S1024, .f32⟩
  | .hbm, ⟨6, _⟩ => ⟨S1024x32, .f32⟩
  | .hbm, ⟨7, _⟩ => ⟨S32, .f32⟩
  | .hbm, ⟨8, _⟩ => ⟨S16x2048x1024, .f32⟩
  | .hbm, ⟨9, _⟩ => ⟨S16x2048x4x256, .f32⟩
  | .hbm, ⟨10, _⟩ => ⟨S16x256x4x256, .f32⟩
  | .hbm, ⟨11, _⟩ => ⟨S16x256x4x256, .f32⟩
  | .hbm, ⟨12, _⟩ => ⟨S16x4x2048x256, .f32⟩
  | .hbm, ⟨13, _⟩ => ⟨S_, .f32⟩
  | .hbm, ⟨14, _⟩ => ⟨S16x4x2048x256, .f32⟩
  | .hbm, ⟨15, _⟩ => ⟨S16x4x2048x256, .f32⟩
  | .hbm, ⟨16, _⟩ => ⟨S_, .f32⟩
  | .hbm, ⟨17, _⟩ => ⟨S16x4x2048, .f32⟩
  | .hbm, ⟨18, _⟩ => ⟨S_, .f32⟩
  | .hbm, ⟨19, _⟩ => ⟨S16x4x2048, .f32⟩
  | .hbm, ⟨20, _⟩ => ⟨S16x4x2048, .f32⟩
  | .hbm, ⟨21, _⟩ => ⟨S16x4x2048x1, .f32⟩
  | .hbm, ⟨22, _⟩ => ⟨S16x4x2048x256, .f32⟩
  | .hbm, ⟨23, _⟩ => ⟨S16x4x2048x256, .f32⟩
  | .hbm, ⟨24, _⟩ => ⟨S16x4x2048x256, .f32⟩
  | .hbm, ⟨25, _⟩ => ⟨S_, .f32⟩
  | .hbm, ⟨26, _⟩ => ⟨S16x4x2048, .f32⟩
  | .hbm, ⟨27, _⟩ => ⟨S16x4x2048x1, .f32⟩
  | .hbm, ⟨28, _⟩ => ⟨S16x4x2048x256, .f32⟩
  | .hbm, ⟨29, _⟩ => ⟨S16x4x2048x256, .f32⟩
  | .hbm, ⟨30, _⟩ => ⟨S16x4x256x2048, .f32⟩
  | .hbm, ⟨31, _⟩ => ⟨S16x2048x4x256, .f32⟩
  | .hbm, ⟨32, _⟩ => ⟨S16x2048x1024, .f32⟩
  | .hbm, ⟨33, _⟩ => ⟨S16x2048x1024, .f32⟩
  | .hbm, ⟨34, _⟩ => ⟨S16x2048x1024, .f32⟩
  | .hbm, ⟨35, _⟩ => ⟨S16x2048x1024, .f32⟩
  | .hbm, ⟨36, _⟩ => ⟨S_, .f32⟩
  | .hbm, ⟨37, _⟩ => ⟨S16x2048, .f32⟩
  | .hbm, ⟨38, _⟩ => ⟨S16x2048x1, .f32⟩
  | .hbm, ⟨39, _⟩ => ⟨S_, .f32⟩
  | .hbm, ⟨40, _⟩ => ⟨S16x2048x1, .f32⟩
  | .hbm, ⟨41, _⟩ => ⟨S16x2048x1, .f32⟩
  | .hbm, ⟨42, _⟩ => ⟨S_, .f32⟩
  | .hbm, ⟨43, _⟩ => ⟨S16x2048x1, .f32⟩
  | .hbm, ⟨44, _⟩ => ⟨S16x2048x1, .f32⟩
  | .hbm, ⟨45, _⟩ => ⟨S16x2048x1, .f32⟩
  | .hbm, ⟨46, _⟩ => ⟨S16x2048x1024, .f32⟩
  | .hbm, ⟨47, _⟩ => ⟨S16x2048x1024, .f32⟩
  | .hbm, ⟨48, _⟩ => ⟨S1x1x1024, .f32⟩
  | .hbm, ⟨49, _⟩ => ⟨S16x2048x1024, .f32⟩
  | .hbm, ⟨50, _⟩ => ⟨S16x2048x1024, .f32⟩
  | .hbm, ⟨51, _⟩ => ⟨S16x2048x8x128, .f32⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Route.lean ====
abbrev S33024x128 : Shape := ⟨2, ![33024, 128]⟩
abbrev S8x128 : Shape := ⟨2, ![8, 128]⟩
abbrev S129x8x256 : Shape := ⟨3, ![129, 8, 256]⟩
abbrev S256x128 : Shape := ⟨2, ![256, 128]⟩
abbrev S1x8x256 : Shape := ⟨3, ![1, 8, 256]⟩
abbrev S256x1 : Shape := ⟨2, ![256, 1]⟩
abbrev S128x128 : Shape := ⟨2, ![128, 128]⟩
abbrev S256x256 : Shape := ⟨2, ![256, 256]⟩
abbrev S1x128 : Shape := ⟨2, ![1, 128]⟩
abbrev S256 : Shape := ⟨1, ![256]⟩
abbrev S128x256 : Shape := ⟨2, ![128, 256]⟩
abbrev S8x256 : Shape := ⟨2, ![8, 256]⟩
abbrev S128 : Shape := ⟨1, ![128]⟩

abbrev nBuf : Space → Nat
  | .hbm => 3
  | .vmem => 7
  | .smem => 0
  | _ => 0

abbrev bufTy : (tb : Table) → Fin (tcTables nBuf tb) → BufTy
  | .hbm, ⟨0, _⟩ => ⟨S33024x128, .i32⟩
  | .hbm, ⟨1, _⟩ => ⟨S8x128, .f32⟩
  | .hbm, ⟨2, _⟩ => ⟨S129x8x256, .i32⟩
  | .local _ .vmem, ⟨0, _⟩ => ⟨S256x128, .i32⟩
  | .local _ .vmem, ⟨1, _⟩ => ⟨S256x128, .i32⟩
  | .local _ .vmem, ⟨2, _⟩ => ⟨S8x128, .f32⟩
  | .local _ .vmem, ⟨3, _⟩ => ⟨S1x8x256, .i32⟩
  | .local _ .vmem, ⟨4, _⟩ => ⟨S1x8x256, .i32⟩
  | .local _ .vmem, ⟨5, _⟩ => ⟨S8x128, .f32⟩
  | .local _ .vmem, ⟨6, _⟩ => ⟨S8x128, .f32⟩
  | _, _ => ⟨S33024x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![129], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RouteReferenceIdeal.lean ====
abbrev S33024x128 : Shape := ⟨2, ![33024, 128]⟩
abbrev S8x128 : Shape := ⟨2, ![8, 128]⟩
abbrev S33024x4 : Shape := ⟨2, ![33024, 4]⟩
abbrev S33024x4x1 : Shape := ⟨3, ![33024, 4, 1]⟩
abbrev S128 : Shape := ⟨1, ![128]⟩
abbrev S1x1x128 : Shape := ⟨3, ![1, 1, 128]⟩
abbrev S33024x4x128 : Shape := ⟨3, ![33024, 4, 128]⟩
abbrev S_ : Shape := ⟨0, ![]⟩
abbrev S1x128 : Shape := ⟨2, ![1, 128]⟩
abbrev S33024x1x128 : Shape := ⟨3, ![33024, 1, 128]⟩
abbrev S129x256x4 : Shape := ⟨3, ![129, 256, 4]⟩
abbrev S129x4x256 : Shape := ⟨3, ![129, 4, 256]⟩
abbrev S129x8x256 : Shape := ⟨3, ![129, 8, 256]⟩

abbrev nBuf : Space → Nat
  | .hbm => 49
  | .vmem => 0
  | .smem => 0
  | _ => 0

abbrev bufTy : (tb : Table) → Fin (tcTables nBuf tb) → BufTy
  | .hbm, ⟨0, _⟩ => ⟨S33024x128, .i32⟩
  | .hbm, ⟨1, _⟩ => ⟨S8x128, .f32⟩
  | .hbm, ⟨2, _⟩ => ⟨S33024x4, .i32⟩
  | .hbm, ⟨3, _⟩ => ⟨S33024x4x1, .i32⟩
  | .hbm, ⟨4, _⟩ => ⟨S128, .i32⟩
  | .hbm, ⟨5, _⟩ => ⟨S1x1x128, .i32⟩
  | .hbm, ⟨6, _⟩ => ⟨S33024x4x128, .i32⟩
  | .hbm, ⟨7, _⟩ => ⟨S33024x4x128, .i32⟩
  | .hbm, ⟨8, _⟩ => ⟨S33024x4x128, .i1⟩
  | .hbm, ⟨9, _⟩ => ⟨S33024x4x128, .f32⟩
  | .hbm, ⟨10, _⟩ => ⟨S_, .f32⟩
  | .hbm, ⟨11, _⟩ => ⟨S33024x128, .f32⟩
  | .hbm, ⟨12, _⟩ => ⟨S_, .f32⟩
  | .hbm, ⟨13, _⟩ => ⟨S_, .f32⟩
  | .hbm, ⟨14, _⟩ => ⟨S33024x128, .f32⟩
  | .hbm, ⟨15, _⟩ => ⟨S33024x128, .f32⟩
  | .hbm, ⟨16, _⟩ => ⟨S1x128, .f32⟩
  | .hbm, ⟨17, _⟩ => ⟨S128, .f32⟩
  | .hbm, ⟨18, _⟩ => ⟨S_, .f32⟩
  | .hbm, ⟨19, _⟩ => ⟨S128, .f32⟩
  | .hbm, ⟨20, _⟩ => ⟨S128, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S_, .f32⟩
  | .hbm, ⟨26, _⟩ => ⟨S128, .f32⟩
  | .hbm, ⟨27, _⟩ => ⟨S128, .f32⟩
  | .hbm, ⟨28, _⟩ => ⟨S_, .f32⟩
  | .hbm, ⟨29, _⟩ => ⟨S_, .f32⟩
  | .hbm, ⟨30, _⟩ => ⟨S128, .f32⟩
  | .hbm, ⟨31, _⟩ => ⟨S128, .f32⟩
  | .hbm, ⟨32, _⟩ => ⟨S1x128, .f32⟩
  | .hbm, ⟨33, _⟩ => ⟨S33024x128, .f32⟩
  | .hbm, ⟨34, _⟩ => ⟨S33024x128, .f32⟩
  | .hbm, ⟨35, _⟩ => ⟨S33024x1x128, .f32⟩
  | .hbm, ⟨36, _⟩ => ⟨S_, .f32⟩
  | .hbm, ⟨37, _⟩ => ⟨S_, .f32⟩
  | .hbm, ⟨38, _⟩ => ⟨S33024x4x128, .f32⟩
  | .hbm, ⟨39, _⟩ => ⟨S33024x4x128, .f32⟩
  | .hbm, ⟨40, _⟩ => ⟨S33024x4x128, .f32⟩
  | .hbm, ⟨41, _⟩ => ⟨S_, .f32⟩
  | .hbm, ⟨42, _⟩ => ⟨S33024x4, .f32⟩
  | .hbm, ⟨43, _⟩ => ⟨S33024x4, .i32⟩
  | .hbm, ⟨44, _⟩ => ⟨S129x256x4, .i32⟩
  | .hbm, ⟨45, _⟩ => ⟨S129x4x256, .i32⟩
  | .hbm, ⟨46, _⟩ => ⟨S_, .i32⟩
  | .hbm, ⟨47, _⟩ => ⟨S129x4x256, .i32⟩
  | .hbm, ⟨48, _⟩ => ⟨S129x8x256, .i32⟩
  | _, _ => ⟨S33024x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_call0_cst : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_call1_cst : Ref sig .tc := ⟨.hbm, 28, rfl⟩
abbrev main_call1_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Experts.lean ====
abbrev S148480x8x128 : Shape := ⟨3, ![148480, 8, 128]⟩
abbrev S8x128 : Shape := ⟨2, ![8, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S1x32 : Shape := ⟨2, ![1, 32]⟩
abbrev S32 : Shape := ⟨1, ![32]⟩
abbrev S_ : Shape := ⟨0, ![]⟩
abbrev S290 : Shape := ⟨1, ![290]⟩
abbrev S290x1 : Shape := ⟨2, ![290, 1]⟩
abbrev S290x32 : Shape := ⟨2, ![290, 32]⟩
abbrev S1 : Shape := ⟨1, ![1]⟩
abbrev S32x1x2048 : Shape := ⟨3, ![32, 1, 2048]⟩
abbrev S32x1x1024 : Shape := ⟨3, ![32, 1, 1024]⟩
abbrev S512x8x128 : Shape := ⟨3, ![512, 8, 128]⟩
abbrev S1x1024x512 : Shape := ⟨3, ![1, 1024, 512]⟩
abbrev S1x1x2048 : Shape := ⟨3, ![1, 1, 2048]⟩
abbrev S1x512x1024 : Shape := ⟨3, ![1, 512, 1024]⟩
abbrev S1x1x1024 : Shape := ⟨3, ![1, 1, 1024]⟩
abbrev S4x1024x512 : Shape := ⟨3, ![4, 1024, 512]⟩
abbrev S2x512x1024 : Shape := ⟨3, ![2, 512, 1024]⟩
abbrev S1024x512 : Shape := ⟨2, ![1024, 512]⟩
abbrev S512x1024 : Shape := ⟨2, ![512, 1024]⟩
abbrev S512x512 : Shape := ⟨2, ![512, 512]⟩
abbrev S1x1x512 : Shape := ⟨3, ![1, 1, 512]⟩
abbrev S1x512 : Shape := ⟨2, ![1, 512]⟩
abbrev S1x1024 : Shape := ⟨2, ![1, 1024]⟩

abbrev nBuf : Space → Nat
  | .hbm => 74
  | .vmem => 22
  | .smem => 2
  | _ => 0

abbrev bufTy : (tb : Table) → Fin (tcTables nBuf tb) → BufTy
  | .hbm, ⟨0, _⟩ => ⟨S148480x8x128, .f32⟩
  | .hbm, ⟨1, _⟩ => ⟨S8x128, .f32⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S1x32, .f32⟩
  | .hbm, ⟨7, _⟩ => ⟨S32, .f32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S_, .i32⟩
  | .hbm, ⟨16, _⟩ => ⟨S_, .i32⟩
  | .hbm, ⟨17, _⟩ => ⟨S32, .i32⟩
  | .hbm, ⟨18, _⟩ => ⟨S32, .i32⟩
  | .hbm, ⟨19, _⟩ => ⟨S32, .i32⟩
  | .hbm, ⟨20, _⟩ => ⟨S_, .i32⟩
  | .hbm, ⟨21, _⟩ => ⟨S32, .i32⟩
  | .hbm, ⟨22, _⟩ => ⟨S32, .i1⟩
  | .hbm, ⟨23, _⟩ => ⟨S32, .i32⟩
  | .hbm, ⟨24, _⟩ => ⟨S32, .i32⟩
  | .hbm, ⟨25, _⟩ => ⟨S_, .i32⟩
  | .hbm, ⟨26, _⟩ => ⟨S32, .i32⟩
  | .hbm, ⟨27, _⟩ => ⟨S32, .i1⟩
  | .hbm, ⟨28, _⟩ => ⟨S32, .i1⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S32, .i32⟩
  | .hbm, ⟨35, _⟩ => ⟨S32, .i32⟩
  | .hbm, ⟨36, _⟩ => ⟨S_, .i32⟩
  | .hbm, ⟨37, _⟩ => ⟨S_, .i32⟩
  | .hbm, ⟨38, _⟩ => ⟨S32, .i32⟩
  | .hbm, ⟨39, _⟩ => ⟨S290, .i32⟩
  | .hbm, ⟨40, _⟩ => ⟨S_, .i32⟩
  | .hbm, ⟨41, _⟩ => ⟨S290, .i32⟩
  | .hbm, ⟨42, _⟩ => ⟨S290, .i32⟩
  | .hbm, ⟨43, _⟩ => ⟨S1x32, .i32⟩
  | .hbm, ⟨44, _⟩ => ⟨S290x1, .i32⟩
  | .hbm, ⟨45, _⟩ => ⟨S290x32, .i32⟩
  | .hbm, ⟨46, _⟩ => ⟨S290x32, .i32⟩
  | .hbm, ⟨47, _⟩ => ⟨S290x32, .i1⟩
  | .hbm, ⟨48, _⟩ => ⟨S290x32, .i32⟩
  | .hbm, ⟨49, _⟩ => ⟨S_, .i32⟩
  | .hbm, ⟨50, _⟩ => ⟨S290, .i32⟩
  | .hbm, ⟨51, _⟩ => ⟨S_, .i32⟩
  | .hbm, ⟨52, _⟩ => ⟨S290, .i32⟩
  | .hbm, ⟨53, _⟩ => ⟨S1, .i32⟩
  | .hbm, ⟨54, _⟩ => ⟨S_, .i32⟩
  | .hbm, ⟨55, _⟩ => ⟨S_, .i32⟩
  | .hbm, ⟨56, _⟩ => ⟨S1, .i32⟩
  | .hbm, ⟨57, _⟩ => ⟨S1, .i32⟩
  | .hbm, ⟨58, _⟩ => ⟨S1, .i32⟩
  | .hbm, ⟨59, _⟩ => ⟨S_, .i32⟩
  | .hbm, ⟨60, _⟩ => ⟨S1, .i32⟩
  | .hbm, ⟨61, _⟩ => ⟨S1, .i1⟩
  | .hbm, ⟨62, _⟩ => ⟨S1, .i32⟩
  | .hbm, ⟨63, _⟩ => ⟨S1, .i32⟩
  | .hbm, ⟨64, _⟩ => ⟨S_, .i32⟩
  | .hbm, ⟨65, _⟩ => ⟨S1, .i32⟩
  | .hbm, ⟨66, _⟩ => ⟨S1, .i1⟩
  | .hbm, ⟨67, _⟩ => ⟨S1, .i1⟩
  | .hbm, ⟨68, _⟩ => ⟨S_, .i32⟩
  | .hbm, ⟨69, _⟩ => ⟨S1, .i32⟩
  | .hbm, ⟨70, _⟩ => ⟨S1, .i32⟩
  | .hbm, ⟨71, _⟩ => ⟨S32x1x2048, .f32⟩
  | .hbm, ⟨72, _⟩ => ⟨S32x1x1024, .f32⟩
  | .hbm, ⟨73, _⟩ => ⟨S148480x8x128, .f32⟩
  | .local _ .vmem, ⟨0, _⟩ => ⟨S512x8x128, .f32⟩
  | .local _ .vmem, ⟨1, _⟩ => ⟨S512x8x128, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | .local _ .vmem, ⟨7, _⟩ => ⟨S1x1024x512, .f32⟩
  | .local _ .vmem, ⟨8, _⟩ => ⟨S1x1024x512, .f32⟩
  | .local _ .vmem, ⟨9, _⟩ => ⟨S1x1024x512, .f32⟩
  | .local _ .vmem, ⟨10, _⟩ => ⟨S1x1x2048, .f32⟩
  | .local _ .vmem, ⟨11, _⟩ => ⟨S1x1x2048, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x1x1024, .f32⟩
  | .local _ .vmem, ⟨17, _⟩ => ⟨S1x1x1024, .f32⟩
  | .local _ .vmem, ⟨18, _⟩ => ⟨S512x8x128, .f32⟩
  | .local _ .vmem, ⟨19, _⟩ => ⟨S512x8x128, .f32⟩
  | .local _ .vmem, ⟨20, _⟩ => ⟨S4x1024x512, .bf16⟩
  | .local _ .vmem, ⟨21, _⟩ => ⟨S2x512x1024, .bf16⟩
  | .local _ .smem, ⟨0, _⟩ => ⟨S290, .i32⟩
  | .local _ .smem, ⟨1, _⟩ => ⟨S1, .i32⟩
  | _, _ => ⟨S148480x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v7 : Ref sig .tc := ⟨.hbm, 32, rfl⟩
abbrev main_c_2 : Ref sig .tc := ⟨.hbm, 33, rfl⟩
abbrev main_v8 : Ref sig .tc := ⟨.hbm, 34, rfl⟩
abbrev main_v9 : Ref sig .tc := ⟨.hbm, 35, rfl⟩
abbrev main_call1_call0_c : Ref sig .tc := ⟨.hbm, 36, rfl⟩
abbrev main_call1_call0_v0 : Ref sig .tc := ⟨.hbm, 37, rfl⟩
abbrev main_v10 : Ref sig .tc := ⟨.hbm, 38, rfl⟩
abbrev main_v11 : Ref sig .tc := ⟨.hbm, 39, rfl⟩
abbrev main_c_3 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_c_4 : Ref sig .tc := ⟨.hbm, 49, rfl⟩
abbrev main_v20 : Ref sig .tc := ⟨.hbm, 50, rfl⟩
abbrev main_c_5 : Ref sig .tc := ⟨.hbm, 51, rfl⟩
abbrev main_v21 : Ref sig .tc := ⟨.hbm, 52, rfl⟩
abbrev main_v23 : Ref sig .tc := ⟨.hbm, 53, rfl⟩
abbrev main_c_6 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_c : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_0 : Ref sig .tc := ⟨.hbm, 68, rfl⟩
abbrev main_call2_v12 : Ref sig .tc := ⟨.hbm, 69, rfl⟩
abbrev main_call2_v13 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v22 : Ref sig .tc := ⟨.smem, 0, rfl⟩
abbrev main_v24 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![290], ![false]⟩

abbrev pre0 : Pipeline.Prefetch sig := ⟨2, ![main_v22.idx, main_v24.idx], fun | 0 => main_v22.names | 1 => main_v24.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v14 : BitVec 32) : BitVec 1 :=
  let arg0 : BitVec 32 := BitVec.ofNat 32 (i 0).val
  let v15 : BitVec 1 := Scalar.cmpi .slt arg0 v14
  let v16 : BitVec 32 := Scalar.extui v15
  let c0_i32_3 : BitVec 32 := 0#32
  let v17 : BitVec 1 := Scalar.cmpi .ne v16 c0_i32_3
  v17

def k0_cond3 (i : grid0.Coords) (v18 : BitVec 32) : BitVec 1 :=
  let arg0 : BitVec 32 := BitVec.ofNat 32 (i 0).val
  let v19 : BitVec 1 := Scalar.cmpi .sge arg0 v18
  let v20 : BitVec 32 := Scalar.extui v19
  let c0_i32_5 : BitVec 32 := 0#32
  let v21 : BitVec 1 := Scalar.cmpi .ne v20 c0_i32_5
  v21

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![v2.toNat, c0_i32.toNat, c0_i32_0.toNat]

def cc0_transform_1 (k0_off1_inb : ∀ i : grid0.Coords, ∀ a, (k0_off1 i) a + S1.size a ≤ S290.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S290) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S290.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S290) ![v0.toNat] S1.size (k0_off1_inb i)) numel1_S1
  let c0_i32 : BitVec 32 := 0#32
  let c1_i32 : BitVec 32 := 1#32
  let c0_i32_0 : BitVec 32 := 0#32
  ![v1.toNat, c0_i32.toNat, c1_i32.toNat]

def cc0_transform_3 (k0_off1_inb : ∀ i : grid0.Coords, ∀ a, (k0_off1 i) a + S1.size a ≤ S290.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S290) ![v0.toNat] S1.size (k0_off1_inb i)) numel1_S1
  let c0_i32 : BitVec 32 := 0#32
  let c2_i32 : BitVec 32 := 2#32
  let c0_i32_0 : BitVec 32 := 0#32
  ![v1.toNat, c0_i32.toNat, c2_i32.toNat]

def cc0_transform_4 (k0_off1_inb : ∀ i : grid0.Coords, ∀ a, (k0_off1 i) a + S1.size a ≤ S290.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S290) ![v0.toNat] S1.size (k0_off1_inb i)) numel1_S1
  let c0_i32 : BitVec 32 := 0#32
  let c3_i32 : BitVec 32 := 3#32
  let c0_i32_0 : BitVec 32 := 0#32
  ![v1.toNat, c0_i32.toNat, c3_i32.toNat]

def cc0_transform_5 (k0_off1_inb : ∀ i : grid0.Coords, ∀ a, (k0_off1 i) a + S1.size a ≤ S290.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S290) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S290.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S290) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (k0_off1_inb : ∀ i : grid0.Coords, ∀ a, (k0_off1 i) a + S1.size a ≤ S290.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S290) ![v0.toNat] S1.size (k0_off1_inb i)) numel1_S1
  let c1_i32 : BitVec 32 := 1#32
  let c0_i32 : BitVec 32 := 0#32
  let c0_i32_0 : BitVec 32 := 0#32
  ![v1.toNat, c1_i32.toNat, c0_i32.toNat]

def cc0_transform_8 (k0_off1_inb : ∀ i : grid0.Coords, ∀ a, (k0_off1 i) a + S1.size a ≤ S290.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S290) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ExpertsReferenceIdeal.lean ====
abbrev S148480x8x128 : Shape := ⟨3, ![148480, 8, 128]⟩
abbrev S8x128 : Shape := ⟨2, ![8, 128]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S1x32 : Shape := ⟨2, ![1, 32]⟩
abbrev S32 : Shape := ⟨1, ![32]⟩
abbrev S_ : Shape := ⟨0, ![]⟩
abbrev S290 : Shape := ⟨1, ![290]⟩
abbrev S290x1 : Shape := ⟨2, ![290, 1]⟩
abbrev S290x32 : Shape := ⟨2, ![290, 32]⟩
abbrev S290x512x1024 : Shape := ⟨3, ![290, 512, 1024]⟩
abbrev S290x1024x2048 : Shape := ⟨3, ![290, 1024, 2048]⟩
abbrev S290x512x2048 : Shape := ⟨3, ![290, 512, 2048]⟩
abbrev S290x2048 : Shape := ⟨2, ![290, 2048]⟩
abbrev S290x1x2048 : Shape := ⟨3, ![290, 1, 2048]⟩
abbrev S290x1024x1024 : Shape := ⟨3, ![290, 1024, 1024]⟩
abbrev S290x1024 : Shape := ⟨2, ![290, 1024]⟩
abbrev S290x1x1024 : Shape := ⟨3, ![290, 1, 1024]⟩
abbrev S1 : Shape := ⟨1, ![1]⟩
abbrev S290x1x1 : Shape := ⟨3, ![290, 1, 1]⟩

abbrev nBuf : Space → Nat
  | .hbm => 154
  | .vmem => 0
  | .smem => 0
  | _ => 0

abbrev hbmTy0_0 (i : Nat) : BufTy := match i % 128 with
  | 0 => ⟨S148480x8x128, .f32⟩
  | 1 => ⟨S8x128, .f32⟩
  | 2 => ⟨S32x1024x2048, .f32⟩
  | 3 => ⟨S32x2048, .f32⟩
  | 4 => ⟨S32x1024x1024, .f32⟩
  | 5 => ⟨S32x1024, .f32⟩
  | 6 => ⟨S1x32, .f32⟩
  | 7 => ⟨S32, .f32⟩
  | 8 => ⟨S32, .i32⟩
  | 9 => ⟨S_, .i32⟩
  | 10 => ⟨S32, .i32⟩
  | 11 => ⟨S32, .i32⟩
  | 12 => ⟨S_, .i32⟩
  | 13 => ⟨S_, .i32⟩
  | 14 => ⟨S32, .i32⟩
  | 15 => ⟨S32, .i32⟩
  | 16 => ⟨S32, .i32⟩
  | 17 => ⟨S_, .i32⟩
  | 18 => ⟨S32, .i32⟩
  | 19 => ⟨S32, .i1⟩
  | 20 => ⟨S32, .i32⟩
  | 21 => ⟨S32, .i32⟩
  | 22 => ⟨S_, .i32⟩
  | 23 => ⟨S32, .i32⟩
  | 24 => ⟨S32, .i1⟩
  | 25 => ⟨S32, .i1⟩
  | 26 => ⟨S_, .i32⟩
  | 27 => ⟨S32, .i32⟩
  | 28 => ⟨S32, .i32⟩
  | 29 => ⟨S32, .i32⟩
  | 30 => ⟨S_, .i32⟩
  | 31 => ⟨S32, .i32⟩
  | 32 => ⟨S32, .i32⟩
  | 33 => ⟨S_, .i32⟩
  | 34 => ⟨S_, .i32⟩
  | 35 => ⟨S32, .i32⟩
  | 36 => ⟨S290, .i32⟩
  | 37 => ⟨S_, .i32⟩
  | 38 => ⟨S290, .i32⟩
  | 39 => ⟨S290, .i32⟩
  | 40 => ⟨S290x1, .i32⟩
  | 41 => ⟨S1x32, .i32⟩
  | 42 => ⟨S290x32, .i32⟩
  | 43 => ⟨S290x32, .i32⟩
  | 44 => ⟨S290x32, .i1⟩
  | 45 => ⟨S290x32, .i32⟩
  | 46 => ⟨S_, .i32⟩
  | 47 => ⟨S290, .i32⟩
  | 48 => ⟨S_, .i32⟩
  | 49 => ⟨S290, .i32⟩
  | 50 => ⟨S290, .i32⟩
  | 51 => ⟨S290x512x1024, .f32⟩
  | 52 => ⟨S_, .i32⟩
  | 53 => ⟨S290, .i32⟩
  | 54 => ⟨S290, .i1⟩
  | 55 => ⟨S_, .i32⟩
  | 56 => ⟨S290, .i32⟩
  | 57 => ⟨S290, .i32⟩
  | 58 => ⟨S290, .i32⟩
  | 59 => ⟨S290x1, .i32⟩
  | 60 => ⟨S290x1024x2048, .f32⟩
  | 61 => ⟨S290x512x2048, .f32⟩
  | 62 => ⟨S_, .i32⟩
  | 63 => ⟨S290, .i32⟩
  | 64 => ⟨S290, .i1⟩
  | 65 => ⟨S_, .i32⟩
  | 66 => ⟨S290, .i32⟩
  | 67 => ⟨S290, .i32⟩
  | 68 => ⟨S290, .i32⟩
  | 69 => ⟨S290x1, .i32⟩
  | 70 => ⟨S290x2048, .f32⟩
  | 71 => ⟨S290x1x2048, .f32⟩
  | 72 => ⟨S290x512x2048, .f32⟩
  | 73 => ⟨S290x512x2048, .f32⟩
  | 74 => ⟨S290x512x1024, .f32⟩
  | 75 => ⟨S_, .f32⟩
  | 76 => ⟨S290x512x1024, .f32⟩
  | 77 => ⟨S290x512x1024, .f32⟩
  | 78 => ⟨S290x512x1024, .f32⟩
  | 79 => ⟨S_, .f32⟩
  | 80 => ⟨S_, .f32⟩
  | 81 => ⟨S_, .f32⟩
  | 82 => ⟨S290x512x1024, .f32⟩
  | 83 => ⟨S290x512x1024, .f32⟩
  | 84 => ⟨S_, .f32⟩
  | 85 => ⟨S290x512x1024, .f32⟩
  | 86 => ⟨S290x512x1024, .f32⟩
  | 87 => ⟨S_, .f32⟩
  | 88 => ⟨S290x512x1024, .f32⟩
  | 89 => ⟨S290x512x1024, .f32⟩
  | 90 => ⟨S290x512x1024, .f32⟩
  | 91 => ⟨S290x512x1024, .f32⟩
  | 92 => ⟨S_, .f32⟩
  | 93 => ⟨S290x512x1024, .f32⟩
  | 94 => ⟨S290x512x1024, .f32⟩
  | 95 => ⟨S_, .f32⟩
  | 96 => ⟨S290x512x1024, .f32⟩
  | 97 => ⟨S290x512x1024, .f32⟩
  | 98 => ⟨S290x512x1024, .f32⟩
  | 99 => ⟨S_, .f32⟩
  | 100 => ⟨S290x512x1024, .f32⟩
  | 101 => ⟨S290x512x1024, .f32⟩
  | 102 => ⟨S290x512x1024, .f32⟩
  | 103 => ⟨S_, .i32⟩
  | 104 => ⟨S290, .i32⟩
  | 105 => ⟨S290, .i1⟩
  | 106 => ⟨S_, .i32⟩
  | 107 => ⟨S290, .i32⟩
  | 108 => ⟨S290, .i32⟩
  | 109 => ⟨S290, .i32⟩
  | 110 => ⟨S290x1, .i32⟩
  | 111 => ⟨S290x1024x1024, .f32⟩
  | 112 => ⟨S290x512x1024, .f32⟩
  | 113 => ⟨S_, .i32⟩
  | 114 => ⟨S290, .i32⟩
  | 115 => ⟨S290, .i1⟩
  | 116 => ⟨S_, .i32⟩
  | 117 => ⟨S290, .i32⟩
  | 118 => ⟨S290, .i32⟩
  | 119 => ⟨S290, .i32⟩
  | 120 => ⟨S290x1, .i32⟩
  | 121 => ⟨S290x1024, .f32⟩
  | 122 => ⟨S290x1x1024, .f32⟩
  | 123 => ⟨S290x512x1024, .f32⟩
  | 124 => ⟨S290x512x1024, .f32⟩
  | 125 => ⟨S290, .i32⟩
  | 126 => ⟨S1, .i32⟩
  | 127 => ⟨S_, .i32⟩
  | _ => ⟨S148480x8x128, .f32⟩

abbrev hbmTy0_1 (i : Nat) : BufTy := match i % 128 with
  | 0 => ⟨S_, .i32⟩
  | 1 => ⟨S1, .i32⟩
  | 2 => ⟨S1, .i32⟩
  | 3 => ⟨S1, .i32⟩
  | 4 => ⟨S_, .i32⟩
  | 5 => ⟨S1, .i32⟩
  | 6 => ⟨S1, .i1⟩
  | 7 => ⟨S1, .i32⟩
  | 8 => ⟨S1, .i32⟩
  | 9 => ⟨S_, .i32⟩
  | 10 => ⟨S1, .i32⟩
  | 11 => ⟨S1, .i1⟩
  | 12 => ⟨S1, .i1⟩
  | 13 => ⟨S_, .i32⟩
  | 14 => ⟨S1, .i32⟩
  | 15 => ⟨S1, .i32⟩
  | 16 => ⟨S1, .i32⟩
  | 17 => ⟨S290, .i32⟩
  | 18 => ⟨S290, .i1⟩
  | 19 => ⟨S290x1x1, .i1⟩
  | 20 => ⟨S_, .f32⟩
  | 21 => ⟨S_, .f32⟩
  | 22 => ⟨S290x512x1024, .i1⟩
  | 23 => ⟨S290x512x1024, .f32⟩
  | 24 => ⟨S290x512x1024, .f32⟩
  | 25 => ⟨S148480x8x128, .f32⟩
  | _ => ⟨S148480x8x128, .f32⟩

abbrev hbmTy (i : Nat) : BufTy := match i / 128 with
  | 0 => hbmTy0_0 i
  | 1 => hbmTy0_1 i
  | _ => ⟨S148480x8x128, .f32⟩

abbrev bufTy : (tb : Table) → Fin (tcTables nBuf tb) → BufTy
  | .hbm, ⟨i, _⟩ => hbmTy i
  | _, _ => ⟨S148480x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v5 : Ref sig .tc := ⟨.hbm, 29, rfl⟩
abbrev main_c_1 : Ref sig .tc := ⟨.hbm, 30, rfl⟩
abbrev main_v6 : Ref sig .tc := ⟨.hbm, 31, rfl⟩
abbrev main_v7 : Ref sig .tc := ⟨.hbm, 32, rfl⟩
abbrev main_call1_call0_c : Ref sig .tc := ⟨.hbm, 33, rfl⟩
abbrev main_call1_call0_v0 : Ref sig .tc := ⟨.hbm, 34, rfl⟩
abbrev main_v8 : Ref sig .tc := ⟨.hbm, 35, rfl⟩
abbrev main_v9 : Ref sig .tc := ⟨.hbm, 36, rfl⟩
abbrev main_c_2 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_c_3 : Ref sig .tc := ⟨.hbm, 46, rfl⟩
abbrev main_v18 : Ref sig .tc := ⟨.hbm, 47, rfl⟩
abbrev main_c_4 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_c_5 : Ref sig .tc := ⟨.hbm, 52, rfl⟩
abbrev main_v22 : Ref sig .tc := ⟨.hbm, 53, rfl⟩
abbrev main_v23 : Ref sig .tc := ⟨.hbm, 54, rfl⟩
abbrev main_c_6 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_c_7 : Ref sig .tc := ⟨.hbm, 62, rfl⟩
abbrev main_v30 : Ref sig .tc := ⟨.hbm, 63, rfl⟩
abbrev main_v31 : Ref sig .tc := ⟨.hbm, 64, rfl⟩
abbrev main_c_8 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_9 : Ref sig .tc := ⟨.hbm, 79, rfl⟩
abbrev main_cst_10 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_v44 : Ref sig .tc := ⟨.hbm, 86, rfl⟩
abbrev main_cst_11 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_cst_12 : Ref sig .tc := ⟨.hbm, 92, rfl⟩
abbrev main_v49 : Ref sig .tc := ⟨.hbm, 93, rfl⟩
abbrev main_v50 : Ref sig .tc := ⟨.hbm, 94, rfl⟩
abbrev main_cst_13 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_cst_14 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_c_15 : Ref sig .tc := ⟨.hbm, 103, rfl⟩
abbrev main_v57 : Ref sig .tc := ⟨.hbm, 104, rfl⟩
abbrev main_v58 : Ref sig .tc := ⟨.hbm, 105, rfl⟩
abbrev main_c_16 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_c_17 : Ref sig .tc := ⟨.hbm, 113, rfl⟩
abbrev main_v65 : Ref sig .tc := ⟨.hbm, 114, rfl⟩
abbrev main_v66 : Ref sig .tc := ⟨.hbm, 115, rfl⟩
abbrev main_c_18 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_c_19 : Ref sig .tc := ⟨.hbm, 127, rfl⟩
abbrev main_call3_v0 : Ref sig .tc := ⟨.hbm, 128, rfl⟩
abbrev main_call3_v1 : Ref sig .tc := ⟨.hbm, 129, rfl⟩
abbrev main_call3_v2 : Ref sig .tc := ⟨.hbm, 130, rfl⟩
abbrev main_call3_v3 : Ref sig .tc := ⟨.hbm, 131, rfl⟩
abbrev main_call3_v4 : Ref sig .tc := ⟨.hbm, 132, rfl⟩
abbrev main_call3_v5 : Ref sig .tc := ⟨.hbm, 133, rfl⟩
abbrev main_call3_v6 : Ref sig .tc := ⟨.hbm, 134, rfl⟩
abbrev main_call3_v7 : Ref sig .tc := ⟨.hbm, 135, rfl⟩
abbrev main_call3_v8 : Ref sig .tc := ⟨.hbm, 136, rfl⟩
abbrev main_call3_c : Ref sig .tc := ⟨.hbm, 137, rfl⟩
abbrev main_call3_v9 : Ref sig .tc := ⟨.hbm, 138, rfl⟩
abbrev main_call3_v10 : Ref sig .tc := ⟨.hbm, 139, rfl⟩
abbrev main_call3_v11 : Ref sig .tc := ⟨.hbm, 140, rfl⟩
abbrev main_call3_c_0 : Ref sig .tc := ⟨.hbm, 141, rfl⟩
abbrev main_call3_v12 : Ref sig .tc := ⟨.hbm, 142, rfl⟩
abbrev main_call3_v13 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_cst_20 : Ref sig .tc := ⟨.hbm, 148, rfl⟩
abbrev main_call4_v0 : Ref sig .tc := ⟨.hbm, 149, rfl⟩
abbrev main_call4_v1 : Ref sig .tc := ⟨.hbm, 150, rfl⟩
abbrev main_call4_v2 : Ref sig .tc := ⟨.hbm, 151, rfl⟩
abbrev main_v81 : Ref sig .tc := ⟨.hbm, 152, rfl⟩
abbrev main_v82 : Ref sig .tc := ⟨.hbm, 153, rfl⟩

abbrev nD : Nat := 1
abbrev τ : Topo := Topo.v7x

variable {F : FTy → Type} [FloatOps F]
-- ==== Proof.Visit.lean ====
/- One visit of the stick-breaking kernel: a block of 256 keys met by the 512 rows of a query block (256 queries,
   each once for either head of the pair), as a function of the running state. The state is the pair the kernel
   keeps in scratch: the weighted sum of values so far and, per row, the stick already broken off. -/
module

public import proofs.«01_k».proof.Proof.Gen.KernelIdeal.Skeleton

@[expose] public section

noncomputable section

namespace Cert.KernelIdeal.Stick

open Cert.KernelIdeal Cert.KernelIdeal.Gen Idealize.ShloMosaic Idealize.ShloMosaic.TcCoe

variable {F : FTy → Type} [FloatOps F]

/-- The scores of the rows against the block's keys. -/
def scores (q : FVec F S512x128 .bf16) (k : Vec F S1x256x128 .bf16) : FVec F S512x256 .f32 :=
  matmul dot_S512x128_S256x128_S512x256_1_1_0_0_n_n none q (shapeCast S256x128 k shapeCasts_S1x256x128_S256x128)
    (constant S512x256 .f32 0x00000000#32)

/-- The softplus of every score: `max z 0 + log (1 + exp (-|z|))`. -/
def soft (z : FVec F S512x256 .f32) : FVec F S512x256 .f32 :=
  addf (maximumf z (broadcast S512x256 (Scalar.ofBits .f32 0x00000000#32)))
    (log (addf (broadcast S512x256 (Scalar.ofBits .f32 0x3F800000#32))
      (exp (subf (broadcast S512x256 (Scalar.ofBits .f32 0x00000000#32)) (absf z)))))

/-- The 256 × 256 matrix of ones strictly below the diagonal: entry `(j, s)` says that key `j` is later than `s`. -/
def laterKeys : FVec F S256x256 .bf16 :=
  truncf .bf16 (sitofp .f32 (extui 32 (cmpi .sgt (iota .tc S256x256 32 [0] iota_S256x256_d0_w32)
    (iota .tc S256x256 32 [1] iota_S256x256_d1_w32)) natLt_1_32)) bitsLt_bf16_f32

/-- The mask of the diagonal block: the key's column is before the row's own query. -/
def beforeMask : IVec S512x256 1 := k0_pay9

/-- What each key takes off the stick: its softplus, nothing where the diagonal block masks it. -/
def dropped (masked : Bool) (z : FVec F S512x256 .f32) : FVec F S512x256 .f32 :=
  if masked then select beforeMask (soft z) (broadcast S512x256 (Scalar.ofBits .f32 0x00000000#32)) else soft z

/-- The sums of a row's drops over the block's later keys. -/
def laterSum (d : FVec F S512x256 .f32) : FVec F S512x256 .f32 :=
  matmul dot_S512x256_S256x256_S512x256_1_0_0_1_n_n none (truncf .bf16 d bitsLt_bf16_f32) laterKeys
    (constant S512x256 .f32 0x00000000#32)

/-- The attention of the rows to the block's keys, given the stick `c` broken off by later blocks. -/
def attn (masked : Bool) (z : FVec F S512x256 .f32) (c : Vec F S512x1 .f32) : FVec F S512x256 .f32 :=
  if masked then
    select beforeMask (exp (subf (subf z (soft z)) (addf (broadcastTo S512x256 c broadcasts_S512x1_S512x256) (laterSum (dropped masked z)))))
      (broadcast S512x256 (Scalar.ofBits .f32 0x00000000#32))
  else exp (subf (subf z (soft z)) (addf (broadcastTo S512x256 c broadcasts_S512x1_S512x256) (laterSum (dropped masked z))))

/-- The weighted sum of values after the block. -/
def visitAcc (masked : Bool) (q : FVec F S512x128 .bf16) (k v : Vec F S1x256x128 .bf16) (a : Vec F S512x128 .f32)
    (c : Vec F S512x1 .f32) : Vec F S512x128 .f32 :=
  shapeCast S512x128 (addf a (matmul dot_S512x256_S256x128_S512x128_1_0_0_1_n_n none
    (truncf .bf16 (attn masked (scores q k) c) bitsLt_bf16_f32) (shapeCast S256x128 v shapeCasts_S1x256x128_S256x128)
    (constant S512x128 .f32 0x00000000#32))) shapeCasts_S512x128_S512x128

/-- The stick broken off after the block. -/
def visitC (masked : Bool) (q : FVec F S512x128 .bf16) (k : Vec F S1x256x128 .bf16) (c : Vec F S512x1 .f32) : Vec F S512x1 .f32 :=
  shapeCast S512x1 (addf c (addf
    (extractStridedSlice S512x1 ![0, 0] (laterSum (dropped masked (scores q k))) slices_S512x256_o0_0_S512x1)
    (extractStridedSlice S512x1 ![0, 0] (dropped masked (scores q k)) slices_S512x256_o0_0_S512x1))) shapeCasts_S512x1_S512x1

/-- The block of 256 rows of a sequence that starts at row `256 b`. -/
def seqBlk (x : Vec F S1x2048x128 .bf16) (b : ℕ) (hb : b < 8) : Vec F S1x256x128 .bf16 :=
  fun j => x (fun a => match a with
    | ⟨0, _⟩ => ⟨(j 0).val, (j 0).isLt⟩
    | ⟨1, _⟩ => ⟨256 * b + (j 1).val, by have h : (j 1).val < 256 := (j 1).isLt; show _ < 2048; omega⟩
    | ⟨2, _⟩ => ⟨(j 2).val, (j 2).isLt⟩)

/-- The stick after the blocks `n, n - 1, …`: the first `k` of them, the first one masked. -/
def stickAfter (q : FVec F S512x128 .bf16) (x1 : Vec F S1x2048x128 .bf16) (n : ℕ) (hn : n < 8) : ℕ → Vec F S512x1 .f32
  | 0 => k0_pay166
  | k + 1 => visitC (decide (k = 0)) q (seqBlk x1 (n - k) (by omega)) (stickAfter q x1 n hn k)

/-- The weighted sum after the first `k` of the blocks `n, n - 1, …`, the first one masked. -/
def sumAfter (q : FVec F S512x128 .bf16) (x1 x2 : Vec F S1x2048x128 .bf16) (n : ℕ) (hn : n < 8) : ℕ → Vec F S512x128 .f32
  | 0 => k0_pay165
  | k + 1 => visitAcc (decide (k = 0)) q (seqBlk x1 (n - k) (by omega)) (seqBlk x2 (n - k) (by omega))
      (sumAfter q x1 x2 n hn k) (stickAfter q x1 n hn k)

/-- What a grid point of query block `n` leaves in its output block: the sum over all blocks up to its own, the
    first head's lanes from the upper rows and the second head's from the lower ones. -/
def outBlk (x0 : Vec F S1x256x128 .bf16) (x1 x2 : Vec F S1x2048x128 .bf16) (n : ℕ) (hn : n < 8) : Vec F S1x256x128 .bf16 :=
  let a := sumAfter (k0_pay164 x0) x1 x2 n hn (n + 1)
  k0_pay4 (iota .tc S256x128 32 [1] iota_S256x128_d1_w32)
    (fun j => a ((Rect.unit (s := S512x128) ![0, 0] ![256, 128] inb_S512x128_S256x128_0_0).emb j))
    (fun j => a ((Rect.unit (s := S512x128) ![256, 0] ![256, 128] inb_S512x128_S256x128_256_0).emb j))

end Cert.KernelIdeal.Stick

end
-- ==== Proof.ReadBack.lean ====
/- Reading back what the kernel's body stored: scratch after a store of the whole buffer, a block of the keys or
   values through its window, and the counts of the kernel's two group loops. -/
module

public import proofs.«01_k».proof.Proof.Gen.KernelIdeal.Frame
public import proofs.«01_k».proof.Proof.Visit
public import Idealize.ShloMosaic.Lib.Pipeline.Value

@[expose] public section

set_option maxRecDepth 16384

noncomputable section

namespace Cert.KernelIdeal.Stick

open Cert.KernelIdeal Cert.KernelIdeal.Gen Idealize.ShloMosaic Idealize.ShloMosaic.TcCoe Idealize.SL.Sem

variable {F : FTy → Type} [FloatOps F]

section Whole

variable {sig' : RefSig} {κ : Kind} {sp : Space} {S : Shape} {e : EltTy} {Val : EltTy → Type}

/-- A buffer whose last store is of the whole reads that store, whatever was there before. -/
theorem read_last (v : View sig' κ sp S e) (f : v.ty.Contents Val) {off : Fin S.rank → ℕ} (h : off = fun _ => 0)
    (inb : ∀ a, off a + S.size a ≤ S.size a) (w : S.Idx → Val e) (L : List (View.Piece Val S e)) :
    v.read Val (v.writes Val f (⟨Rect.unit off S.size inb, w⟩ :: L)) = w := by
  subst h
  funext y
  have h := View.read_writes_cons_emb v f (Rect.whole S) w L y
  rw [Rect.emb_whole_apply] at h
  exact h

/-- A load of the whole buffer after a store of the whole. -/
theorem load_last (v : View sig' κ sp S e) (f : v.ty.Contents Val) {off off' : Fin S.rank → ℕ} (h : off = fun _ => 0)
    (h' : off' = fun _ => 0) (inb : ∀ a, off a + S.size a ≤ S.size a) (inb' : ∀ a, off' a + S.size a ≤ S.size a)
    (w : S.Idx → Val e) (L : List (View.Piece Val S e)) :
    v.readAt Val (Rect.unit off' S.size inb').toLoadRect (v.writes Val f (⟨Rect.unit off S.size inb, w⟩ :: L)) = w := by
  subst h'
  funext y
  show v.read Val (v.writes Val f (⟨Rect.unit off S.size inb, w⟩ :: L)) ((Rect.whole S).emb y) = w y
  rw [read_last v f h inb w L, Rect.emb_whole_apply]

/-- A load of the whole buffer, by the contents it holds. -/
theorem load_whole (v : View sig' κ sp S e) (f : v.ty.Contents Val) {off' : Fin S.rank → ℕ}
    (h' : off' = fun _ => 0) (inb' : ∀ a, off' a + S.size a ≤ S.size a) :
    v.readAt Val (Rect.unit off' S.size inb').toLoadRect f = v.read Val f := by
  subst h'
  funext y
  show v.read Val f ((Rect.whole S).emb y) = v.read Val f y
  rw [Rect.emb_whole_apply]

variable [∀ e, Nonempty (Val e)]

/-- The covered load of the whole buffer after a store of the whole. -/
theorem loadCov_last (v : View sig' κ sp S e) {off off' : Fin S.rank → ℕ} (h : off = fun _ => 0)
    (h' : off' = fun _ => 0) (inb : ∀ a, off a + S.size a ≤ S.size a) (inb' : ∀ a, off' a + S.size a ≤ S.size a)
    (w : S.Idx → Val e) (L : List (View.Piece Val S e)) :
    v.readCov (⟨Rect.unit off S.size inb, w⟩ :: L) (Rect.unit off' S.size inb').toLoadRect = w :=
  load_last v _ h h' inb inb' w L

/-- The covered load of a rectangle after a store of the whole buffer. -/
theorem loadCov_part (v : View sig' κ sp S e) {off : Fin S.rank → ℕ} (h : off = fun _ => 0)
    (inb : ∀ a, off a + S.size a ≤ S.size a) (w : S.Idx → Val e) (L : List (View.Piece Val S e)) (r : Rect S) :
    v.readCov (⟨Rect.unit off S.size inb, w⟩ :: L) r.toLoadRect = fun j => w (r.emb j) := by
  funext j
  show v.read Val (v.writes Val v.junk (⟨Rect.unit off S.size inb, w⟩ :: L)) (r.emb j) = w (r.emb j)
  rw [read_last v _ h inb w L]

end Whole

theorem zero2 : (![0, 0] : Fin 2 → ℕ) = fun _ => 0 := by funext a; fin_cases a <;> rfl
theorem zero3 : (![0, 0, 0] : Fin 3 → ℕ) = fun _ => 0 := by funext a; fin_cases a <;> rfl

/-- A load of 256 rows of a sequence from row `256 b` is that block of it. -/
theorem load_blk (M : Memref sig .tc .vmem S1x2048x128 .bf16) (hM : M.IsWhole) (x : Vec F S1x2048x128 .bf16)
    (off : Fin 3 → ℕ) (inb : ∀ a, off a + S1x256x128.size a ≤ S1x2048x128.size a) (b : ℕ) (hb : b < 8)
    (h : off = ![0, 256 * b, 0]) :
    View.readAt (Elt F) M.view (Rect.unit (s := S1x2048x128) off S1x256x128.size inb).toLoadRect (hM.unread x) = seqBlk x b hb := by
  subst h
  funext j
  show M.view.read (Elt F) (hM.unread x) ((Rect.unit (s := S1x2048x128) ![0, 256 * b, 0] S1x256x128.size inb).emb j) = _
  rw [hM.read_unread]
  refine congrArg x (funext fun a => Fin.ext ?_)
  fin_cases a
  · show 0 + 1 * (j 0).val = (j 0).val; omega
  · show 256 * b + 1 * (j 1).val = 256 * b + (j 1).val; omega
  · show 0 + 1 * (j 2).val = (j 2).val; omega

/-- A load of the whole query block. -/
theorem load_q (M : Memref sig .tc .vmem S1x256x128 .bf16) (hM : M.IsWhole) (x : Vec F S1x256x128 .bf16)
    (inb : ∀ a, (![0, 0, 0] : Fin 3 → ℕ) a + S1x256x128.size a ≤ S1x256x128.size a) :
    View.readAt (Elt F) M.view (Rect.unit (s := S1x256x128) ![0, 0, 0] S1x256x128.size inb).toLoadRect (hM.unread x) = x := by
  rw [load_whole M.view _ zero3, hM.read_unread]

/-- The remainder loop of the kernel's group loop never runs. -/
theorem t2_trips : ∀ t : Fin grid0.N, (k0_t2_loop (grid0.coords t)).trips = 0 := by decide +kernel

/-- The group loop runs once, at the last query block of a sequence. -/
theorem t1_trips : ∀ t : Fin grid0.N, (k0_t1_loop (grid0.coords t)).trips = if t.val % 8 = 7 then 1 else 0 := by
  decide +kernel

/-- The query block of a grid point. -/
theorem coord_two (t : Fin grid0.N) : (grid0.coords t 2).val = t.val % 8 := by
  have e : (grid0.coords t 2).val = t.val / 1 % 8 := Pipeline.Grid.coords_val t 2 (by decide) rfl
  rw [e, Nat.div_one]

section Loops

variable (𝒱 : Variants) (c : Dev nD) (bd : Option 𝒱.V) (i : grid0.Coords) (arg3 : Memref sig .tc .vmem S1x256x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x256x128 .bf16) (harg6 : arg6.IsWhole) (arg7 : Memref sig .tc .vmem S512x128 .f32) (harg7 : arg7.IsWhole) (arg8 : Memref sig .tc .vmem S512x1 .f32) (harg8 : arg8.IsWhole)
    (arg2 : BitVec 32) (q : FVec F S512x128 .bf16) (v31 v34 v56 : BitVec 32) (X1 : BufTy.Contents (Elt F) arg4.view.ty) (X2 : BufTy.Contents (Elt F) arg5.view.ty) (G7 : BufTy.Contents (Elt F) arg7.view.ty) (G8 : BufTy.Contents (Elt F) arg8.view.ty)

/-- A group loop that does not run stores nothing. -/
theorem pb1_none {n : ℕ} (h : n = 0) :
    pb_k0_t1 (F := F) 𝒱 c bd i arg3 harg3 arg4 harg4 arg5 harg5 arg6 harg6 arg7 harg7 arg8 harg8 arg2 q v31 v34 X1 X2 G7 G8 n = ([], []) := by
  subst h; rfl

/-- The remainder loop likewise. -/
theorem pb2_none {n : ℕ} (h : n = 0) :
    pb_k0_t2 (F := F) 𝒱 c bd i arg3 harg3 arg4 harg4 arg5 harg5 arg6 harg6 arg7 harg7 arg8 harg8 arg2 q v31 v34 v56 X1 X2 G7 G8 n = ([], []) := by
  subst h; rfl

end Loops

end Cert.KernelIdeal.Stick

end
-- ==== Proof.Trip.lean ====
/- The one trip of the kernel's group loop, which the last query block of a sequence makes: four more visits, of key
   blocks 3, 2, 1 and 0, on top of the four the block made before the loop. -/
module

public import proofs.«01_k».proof.Proof.Gen.KernelIdeal.Value
public import proofs.«01_k».proof.Proof.ReadBack

@[expose] public section
set_option maxRecDepth 16384
noncomputable section
namespace Cert.KernelIdeal.Stick
open Cert.KernelIdeal Cert.KernelIdeal.Gen Idealize.ShloMosaic Idealize.ShloMosaic.TcCoe Idealize.SL.Sem
variable {F : FTy → Type} [FloatOps F]

section Loops

variable (𝒱 : Variants) (c : Dev nD) (bd : Option 𝒱.V) (i : grid0.Coords) (arg3 : Memref sig .tc .vmem S1x256x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x256x128 .bf16) (harg6 : arg6.IsWhole) (arg7 : Memref sig .tc .vmem S512x128 .f32) (harg7 : arg7.IsWhole) (arg8 : Memref sig .tc .vmem S512x1 .f32) (harg8 : arg8.IsWhole)
    (arg2 : BitVec 32) (q : FVec F S512x128 .bf16) (v31 v34 v56 : BitVec 32) (x1 x2 : Vec F S1x2048x128 .bf16) (G7 : BufTy.Contents (Elt F) arg7.view.ty) (G8 : BufTy.Contents (Elt F) arg8.view.ty)

/-- The running state after four more visits, of blocks 3, 2, 1 and 0. -/
def fourMore (q : FVec F S512x128 .bf16) (x1 x2 : Vec F S1x2048x128 .bf16) (a : Vec F S512x128 .f32) (c : Vec F S512x1 .f32) : Vec F S512x128 .f32 :=
  let k := fun b (hb : b < 8) => seqBlk x1 b hb
  let v := fun b (hb : b < 8) => seqBlk x2 b hb
  let c3 := visitC false q (k 3 (by decide)) c
  let c2 := visitC false q (k 2 (by decide)) c3
  let c1 := visitC false q (k 1 (by decide)) c2
  visitAcc false q (k 0 (by decide)) (v 0 (by decide))
    (visitAcc false q (k 1 (by decide)) (v 1 (by decide))
      (visitAcc false q (k 2 (by decide)) (v 2 (by decide)) (visitAcc false q (k 3 (by decide)) (v 3 (by decide)) a c) c3) c2) c1

/-- The one trip of the group loop last stores the sum after four more visits. -/
theorem pb1_one {n : ℕ} (h : n = 1) (hi : (i 2).val = 7) (ht : (k0_t1_loop i).trips = 1) :
    (pb_k0_t1 (F := F) 𝒱 c bd i arg3 harg3 arg4 harg4 arg5 harg5 arg6 harg6 arg7 harg7 arg8 harg8 arg2 q v31 v34 (harg4.unread x1) (harg5.unread x2) G7 G8 n).1
      = ⟨Rect.unit ![0, 0] ![512, 128] inb_S512x128_S512x128_0_0, fourMore q x1 x2 (arg7.view.read (Elt F) G7) (arg8.view.read (Elt F) G8)⟩ ::
        (pb_k0_t1 (F := F) 𝒱 c bd i arg3 harg3 arg4 harg4 arg5 harg5 arg6 harg6 arg7 harg7 arg8 harg8 arg2 q v31 v34 (harg4.unread x1) (harg5.unread x2) G7 G8 n).1.tail := by
  subst h
  have e := congrArg Prod.fst (pb_k0_t1_succ (F := F) 𝒱 c bd i arg3 harg3 arg4 harg4 arg5 harg5 arg6 harg6 arg7 harg7 arg8 harg8 arg2 q v31 v34 (harg4.unread x1) (harg5.unread x2) G7 G8 ⟨0, by omega⟩)
  rw [show (⟨0, by omega⟩ : Fin (k0_t1_loop i).trips).val + 1 = 1 from rfl] at e
  rw [e, pb1_none (h := rfl)]
  have o0 : k0_off8 i ⟨0, by omega⟩ 0#32 = ![0, 256 * 3, 0] := by simp only [k0_off8, hi]; rfl
  have o1 : k0_off8 i ⟨0, by omega⟩ 1#32 = ![0, 256 * 2, 0] := by simp only [k0_off8, hi]; rfl
  have o2 : k0_off8 i ⟨0, by omega⟩ 2#32 = ![0, 256 * 1, 0] := by simp only [k0_off8, hi]; rfl
  have o3 : k0_off8 i ⟨0, by omega⟩ 3#32 = ![0, 256 * 0, 0] := by simp only [k0_off8, hi]; rfl
  simp only [List.append_nil]
  unfold trip_k0_t1
  dsimp only
  rw [List.tail_cons]
  refine congrArg (fun w => (⟨Rect.unit ![0, 0] ![512, 128] inb_S512x128_S512x128_0_0, w⟩ : View.Piece (Elt F) S512x128 .f32) :: _) ?_
  simp only [trip_k0_t1.sl.HW_arg7_1, trip_k0_t1.sl.HW_arg7_2, trip_k0_t1.sl.HW_arg7_3, trip_k0_t1.sl.HW_arg8_1, trip_k0_t1.sl.HW_arg8_2, trip_k0_t1.sl.HW_arg8_3, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.v100, trip_k0_t1.sl.v103, trip_k0_t1.sl.v112, trip_k0_t1.sl.v115, trip_k0_t1.sl.v124, trip_k0_t1.sl.v236, trip_k0_t1.sl.v242, trip_k0_t1.sl.v256, trip_k0_t1.sl.v262, trip_k0_t1.sl.v276, trip_k0_t1.sl.v282, loadCov_last arg7.view zero2 zero2, loadCov_last arg8.view zero2 zero2,
    load_blk _ _ _ _ _ 3 (by omega) o0, load_blk _ _ _ _ _ 2 (by omega) o1, load_blk _ _ _ _ _ 1 (by omega) o2, load_blk _ _ _ _ _ 0 (by omega) o3]
  have e7 : View.readAt (Elt F) arg7.view (Rect.unit ![0, 0] ![512, 128] inb_S512x128_S512x128_0_0).toLoadRect (arg7.view.writes (Elt F) G7 []) = arg7.view.read (Elt F) G7 :=
    load_whole arg7.view _ zero2 _
  have e8 : View.readAt (Elt F) arg8.view (Rect.unit ![0, 0] ![512, 1] inb_S512x1_S512x1_0_0).toLoadRect (arg8.view.writes (Elt F) G8 []) = arg8.view.read (Elt F) G8 :=
    load_whole arg8.view _ zero2 _
  simp only [e7, e8, fourMore]
  rfl
end Loops

end Cert.KernelIdeal.Stick

end
-- ==== Proof.Cases.lean ====
/- What each of the kernel's ways through the visits leaves in its output block: the fold `outBlk`. The key blocks at
   and before query block `n` are visited from `n` down to 0; the ways differ in how the visits are grouped (one at a
   time, in pairs, in fours, and in a loop of fours). -/
module

public import proofs.«01_k».proof.Proof.Gen.KernelIdeal.Value
public import proofs.«01_k».proof.Proof.Trip

@[expose] public section
set_option maxRecDepth 16384
noncomputable section
namespace Cert.KernelIdeal.Stick
open Cert.KernelIdeal Cert.KernelIdeal.Gen Idealize.ShloMosaic Idealize.ShloMosaic.TcCoe Idealize.SL.Sem
variable {F : FTy → Type} [FloatOps F]

/-- The output block from the running sum. -/
theorem outBlk_of {x0 : Vec F S1x256x128 .bf16} {x1 x2 : Vec F S1x2048x128 .bf16} {n : ℕ} {hn : n < 8} {w : Vec F S512x128 .f32}
    (h : w = sumAfter (k0_pay164 x0) x1 x2 n hn (n + 1)) :
    k0_pay4 (iota .tc S256x128 32 [1] iota_S256x128_d1_w32)
      (fun j => w ((Rect.unit (s := S512x128) ![0, 0] ![256, 128] inb_S512x128_S256x128_0_0).emb j))
      (fun j => w ((Rect.unit (s := S512x128) ![256, 0] ![256, 128] inb_S512x128_S256x128_256_0).emb j)) = outBlk x0 x1 x2 n hn := by
  subst h; rfl

variable  (c : Dev nD) (i : grid0.Coords) (arg3 : Memref sig .tc .vmem S1x256x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x256x128 .bf16) (harg6 : arg6.IsWhole) (arg7 : Memref sig .tc .vmem S512x128 .f32) (harg7 : arg7.IsWhole) (arg8 : Memref sig .tc .vmem S512x1 .f32) (harg8 : arg8.IsWhole)
  (x0 : Vec F S1x256x128 .bf16) (x1 x2 : Vec F S1x2048x128 .bf16)

/-- Query block 0: its own block alone. -/
theorem outA0 (hc0 : cond0_0 i) (hc1 : ¬cond0_1 i) (hc2 : ¬cond0_2 i) (hc3 : ¬cond0_3 i) (hc4 : ¬cond0_4 i) (hc5 : ¬cond0_5 i)
    (hi : (i 2).val = 0) (ht1 : (k0_t1_loop i).trips = 0) (ht2 : (k0_t2_loop i).trips = 0) :
    out0_A_3 c i arg3 harg3 arg4 harg4 arg5 harg5 arg6 harg6 arg7 harg7 arg8 harg8 hc0 hc1 hc2 hc3 hc4 hc5 x0 x1 x2 = outBlk x0 x1 x2 0 (by omega) := by
  have o0 : k0_off1 i = ![0, 256 * 0, 0] := by simp only [k0_off1, hi]; rfl
  have hq : k0_pay164 (View.readAt (Elt F) arg3.view (Rect.unit ![0, 0, 0] ![1, 256, 128] inb_S1x256x128_S1x256x128_0_0_0).toLoadRect (harg3.unread x0)) = k0_pay164 x0 := congrArg _ (load_q arg3 harg3 x0 _)
  unfold out0_A_3 kernelRun0_A
  rw [read_last VO0_3 _ zero3]
  unfold kernelRun0_A.sl.v85 kernelRun0_A.sl.v86
  rw [pb2_none (h := ht2), pb1_none (h := ht1)]
  simp only [List.nil_append]
  unfold kernelRun0_A.sl.HS0_2
  rw [loadCov_part arg7.view zero2, loadCov_part arg7.view zero2]
  refine outBlk_of ?_
  simp only [kernelRun0_A.sl.HS0_1, kernelRun0_A.sl.HS1_1, kernelRun0_A.sl.cst_64, kernelRun0_A.sl.r, kernelRun0_A.sl.r_1, kernelRun0_A.sl.r_2, kernelRun0_A.sl.r_3, kernelRun0_A.sl.v140, kernelRun0_A.sl.v148, pb2_none (h := ht2), pb1_none (h := ht1), List.nil_append, loadCov_last arg7.view zero2 zero2, loadCov_last arg8.view zero2 zero2, hq, load_blk _ _ _ _ _ 0 (by omega) o0]
  simp only [sumAfter, stickAfter]
  generalize k0_pay164 x0 = q
  generalize seqBlk x1 0 _ = K0
  generalize seqBlk x2 0 _ = V0
  rfl

/-- Query block 1: two visits. -/
theorem outB1 (hc0 : ¬cond0_0 i) (hc1 : cond0_1 i) (hc2 : ¬cond0_2 i) (hc3 : ¬cond0_3 i) (hc4 : ¬cond0_4 i) (hc5 : ¬cond0_5 i)
    (hi : (i 2).val = 1) (ht1 : (k0_t1_loop i).trips = 0) (ht2 : (k0_t2_loop i).trips = 0) :
    out0_B_3 c i arg3 harg3 arg4 harg4 arg5 harg5 arg6 harg6 arg7 harg7 arg8 harg8 hc0 hc1 hc2 hc3 hc4 hc5 x0 x1 x2 = outBlk x0 x1 x2 1 (by omega) := by
  have o0 : k0_off2 i = ![0, 256 * 1, 0] := by simp only [k0_off2, hi]; rfl
  have o1 : k0_off3 i = ![0, 256 * 0, 0] := by simp only [k0_off3, hi]; rfl
  have hq : k0_pay164 (View.readAt (Elt F) arg3.view (Rect.unit ![0, 0, 0] ![1, 256, 128] inb_S1x256x128_S1x256x128_0_0_0).toLoadRect (harg3.unread x0)) = k0_pay164 x0 := congrArg _ (load_q arg3 harg3 x0 _)
  unfold out0_B_3 kernelRun0_B
  rw [read_last VO0_3 _ zero3]
  unfold kernelRun0_B.sl.v85 kernelRun0_B.sl.v86
  rw [pb2_none (h := ht2), pb1_none (h := ht1)]
  simp only [List.nil_append]
  unfold kernelRun0_B.sl.HS0_3
  rw [loadCov_part arg7.view zero2, loadCov_part arg7.view zero2]
  refine outBlk_of ?_
  simp only [kernelRun0_B.sl.HS0_1, kernelRun0_B.sl.HS0_2, kernelRun0_B.sl.HS1_1, kernelRun0_B.sl.HS1_2, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.v127, kernelRun0_B.sl.v169, kernelRun0_B.sl.v177, kernelRun0_B.sl.v191, kernelRun0_B.sl.v197, pb2_none (h := ht2), pb1_none (h := ht1), List.nil_append, loadCov_last arg7.view zero2 zero2, loadCov_last arg8.view zero2 zero2, hq, load_blk _ _ _ _ _ 1 (by omega) o0, load_blk _ _ _ _ _ 0 (by omega) o1]
  simp only [sumAfter, stickAfter]
  generalize k0_pay164 x0 = q
  generalize seqBlk x1 0 _ = K0
  generalize seqBlk x1 1 _ = K1
  generalize seqBlk x2 0 _ = V0
  generalize seqBlk x2 1 _ = V1
  rfl

/-- Query block 2: three visits. -/
theorem outC2 (hc0 : ¬cond0_0 i) (hc1 : ¬cond0_1 i) (hc2 : cond0_2 i) (hc3 : ¬cond0_3 i) (hc4 : ¬cond0_4 i) (hc5 : ¬cond0_5 i)
    (hi : (i 2).val = 2) (ht1 : (k0_t1_loop i).trips = 0) (ht2 : (k0_t2_loop i).trips = 0) :
    out0_C_3 c i arg3 harg3 arg4 harg4 arg5 harg5 arg6 harg6 arg7 harg7 arg8 harg8 hc0 hc1 hc2 hc3 hc4 hc5 x0 x1 x2 = outBlk x0 x1 x2 2 (by omega) := by
  have o0 : k0_off4 i = ![0, 256 * 2, 0] := by simp only [k0_off4, hi]; rfl
  have o1 : k0_off5 i 0#32 = ![0, 256 * 1, 0] := by simp only [k0_off5, hi]; rfl
  have o2 : k0_off5 i 1#32 = ![0, 256 * 0, 0] := by simp only [k0_off5, hi]; rfl
  have hq : k0_pay164 (View.readAt (Elt F) arg3.view (Rect.unit ![0, 0, 0] ![1, 256, 128] inb_S1x256x128_S1x256x128_0_0_0).toLoadRect (harg3.unread x0)) = k0_pay164 x0 := congrArg _ (load_q arg3 harg3 x0 _)
  unfold out0_C_3 kernelRun0_C
  rw [read_last VO0_3 _ zero3]
  unfold kernelRun0_C.sl.v85 kernelRun0_C.sl.v86
  rw [pb2_none (h := ht2), pb1_none (h := ht1)]
  simp only [List.nil_append]
  unfold kernelRun0_C.sl.HS0_4
  rw [loadCov_part arg7.view zero2, loadCov_part arg7.view zero2]
  refine outBlk_of ?_
  simp only [kernelRun0_C.sl.HS0_1, kernelRun0_C.sl.HS0_2, kernelRun0_C.sl.HS0_3, kernelRun0_C.sl.HS1_1, kernelRun0_C.sl.HS1_2, kernelRun0_C.sl.HS1_3, kernelRun0_C.sl.cst_70, kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.v198, kernelRun0_C.sl.v206, kernelRun0_C.sl.v220, kernelRun0_C.sl.v226, kernelRun0_C.sl.v240, kernelRun0_C.sl.v246, pb2_none (h := ht2), pb1_none (h := ht1), List.nil_append, loadCov_last arg7.view zero2 zero2, loadCov_last arg8.view zero2 zero2, hq, load_blk _ _ _ _ _ 2 (by omega) o0, load_blk _ _ _ _ _ 1 (by omega) o1, load_blk _ _ _ _ _ 0 (by omega) o2]
  simp only [sumAfter, stickAfter]
  generalize k0_pay164 x0 = q
  generalize seqBlk x1 0 _ = K0
  generalize seqBlk x1 1 _ = K1
  generalize seqBlk x1 2 _ = K2
  generalize seqBlk x2 0 _ = V0
  generalize seqBlk x2 1 _ = V1
  generalize seqBlk x2 2 _ = V2
  rfl

/-- Query block 3: the four visits of the group. -/
theorem outD3 (hc0 : ¬cond0_0 i) (hc1 : ¬cond0_1 i) (hc2 : ¬cond0_2 i) (hc3 : cond0_3 i) (hc4 : ¬cond0_4 i) (hc5 : ¬cond0_5 i)
    (hi : (i 2).val = 3) (ht1 : (k0_t1_loop i).trips = 0) (ht2 : (k0_t2_loop i).trips = 0) :
    out0_D_3 c i arg3 harg3 arg4 harg4 arg5 harg5 arg6 harg6 arg7 harg7 arg8 harg8 hc0 hc1 hc2 hc3 hc4 hc5 x0 x1 x2 = outBlk x0 x1 x2 3 (by omega) := by
  have o0 : k0_off6 i = ![0, 256 * 3, 0] := by simp only [k0_off6, hi]; rfl
  have o1 : k0_off7 i 0#32 = ![0, 256 * 2, 0] := by simp only [k0_off7, hi]; rfl
  have o2 : k0_off7 i 1#32 = ![0, 256 * 1, 0] := by simp only [k0_off7, hi]; rfl
  have o3 : k0_off7 i 2#32 = ![0, 256 * 0, 0] := by simp only [k0_off7, hi]; rfl
  have hq : k0_pay164 (View.readAt (Elt F) arg3.view (Rect.unit ![0, 0, 0] ![1, 256, 128] inb_S1x256x128_S1x256x128_0_0_0).toLoadRect (harg3.unread x0)) = k0_pay164 x0 := congrArg _ (load_q arg3 harg3 x0 _)
  unfold out0_D_3 kernelRun0_D
  rw [read_last VO0_3 _ zero3]
  unfold kernelRun0_D.sl.v85 kernelRun0_D.sl.v86
  rw [pb2_none (h := ht2), pb1_none (h := ht1)]
  simp only [List.nil_append]
  unfold kernelRun0_D.sl.HS0_5
  rw [loadCov_part arg7.view zero2, loadCov_part arg7.view zero2]
  refine outBlk_of ?_
  simp only [kernelRun0_D.sl.HS0_1, kernelRun0_D.sl.HS0_2, kernelRun0_D.sl.HS0_3, kernelRun0_D.sl.HS0_4, kernelRun0_D.sl.HS1_1, kernelRun0_D.sl.HS1_2, kernelRun0_D.sl.HS1_3, kernelRun0_D.sl.HS1_4, kernelRun0_D.sl.HS1_5, kernelRun0_D.sl.r, kernelRun0_D.sl.r_1, kernelRun0_D.sl.r_2, kernelRun0_D.sl.r_3, kernelRun0_D.sl.r_4, kernelRun0_D.sl.r_5, kernelRun0_D.sl.r_6, kernelRun0_D.sl.r_7, kernelRun0_D.sl.r_8, kernelRun0_D.sl.r_9, kernelRun0_D.sl.r_10, kernelRun0_D.sl.r_11, kernelRun0_D.sl.r_12, kernelRun0_D.sl.r_13, kernelRun0_D.sl.r_14, kernelRun0_D.sl.r_15, kernelRun0_D.sl.r_16, kernelRun0_D.sl.r_17, kernelRun0_D.sl.r_18, kernelRun0_D.sl.v96, kernelRun0_D.sl.v99, kernelRun0_D.sl.v106, kernelRun0_D.sl.v109, kernelRun0_D.sl.v116, kernelRun0_D.sl.v119, kernelRun0_D.sl.v126, kernelRun0_D.sl.v227, kernelRun0_D.sl.v235, kernelRun0_D.sl.v249, kernelRun0_D.sl.v255, kernelRun0_D.sl.v269, kernelRun0_D.sl.v275, kernelRun0_D.sl.v289, kernelRun0_D.sl.v295, pb2_none (h := ht2), pb1_none (h := ht1), List.nil_append, loadCov_last arg7.view zero2 zero2, loadCov_last arg8.view zero2 zero2, hq, load_blk _ _ _ _ _ 3 (by omega) o0, load_blk _ _ _ _ _ 2 (by omega) o1, load_blk _ _ _ _ _ 1 (by omega) o2, load_blk _ _ _ _ _ 0 (by omega) o3]
  simp only [sumAfter, stickAfter]
  generalize k0_pay164 x0 = q
  generalize seqBlk x1 0 _ = K0
  generalize seqBlk x1 1 _ = K1
  generalize seqBlk x1 2 _ = K2
  generalize seqBlk x1 3 _ = K3
  generalize seqBlk x2 0 _ = V0
  generalize seqBlk x2 1 _ = V1
  generalize seqBlk x2 2 _ = V2
  generalize seqBlk x2 3 _ = V3
  rfl

/-- Query block 7: the group and one trip of the loop. -/
theorem outD7 (hc0 : ¬cond0_0 i) (hc1 : ¬cond0_1 i) (hc2 : ¬cond0_2 i) (hc3 : cond0_3 i) (hc4 : ¬cond0_4 i) (hc5 : ¬cond0_5 i)
    (hi : (i 2).val = 7) (ht1 : (k0_t1_loop i).trips = 1) (ht2 : (k0_t2_loop i).trips = 0) :
    out0_D_3 c i arg3 harg3 arg4 harg4 arg5 harg5 arg6 harg6 arg7 harg7 arg8 harg8 hc0 hc1 hc2 hc3 hc4 hc5 x0 x1 x2 = outBlk x0 x1 x2 7 (by omega) := by
  have o0 : k0_off6 i = ![0, 256 * 7, 0] := by simp only [k0_off6, hi]; rfl
  have o1 : k0_off7 i 0#32 = ![0, 256 * 6, 0] := by simp only [k0_off7, hi]; rfl
  have o2 : k0_off7 i 1#32 = ![0, 256 * 5, 0] := by simp only [k0_off7, hi]; rfl
  have o3 : k0_off7 i 2#32 = ![0, 256 * 4, 0] := by simp only [k0_off7, hi]; rfl
  have hq : k0_pay164 (View.readAt (Elt F) arg3.view (Rect.unit ![0, 0, 0] ![1, 256, 128] inb_S1x256x128_S1x256x128_0_0_0).toLoadRect (harg3.unread x0)) = k0_pay164 x0 := congrArg _ (load_q arg3 harg3 x0 _)
  unfold out0_D_3 kernelRun0_D
  rw [read_last VO0_3 _ zero3]
  unfold kernelRun0_D.sl.v85 kernelRun0_D.sl.v86
  rw [pb2_none (h := ht2), pb1_one (h := ht1) (hi := hi) (ht := ht1)]
  simp only [List.nil_append, List.cons_append]
  rw [loadCov_part arg7.view zero2, loadCov_part arg7.view zero2]
  refine outBlk_of ?_
  simp only [kernelRun0_D.sl.HS0_5, kernelRun0_D.sl.HS0_1, kernelRun0_D.sl.HS0_2, kernelRun0_D.sl.HS0_3, kernelRun0_D.sl.HS0_4, kernelRun0_D.sl.HS1_1, kernelRun0_D.sl.HS1_2, kernelRun0_D.sl.HS1_3, kernelRun0_D.sl.HS1_4, kernelRun0_D.sl.HS1_5, kernelRun0_D.sl.r, kernelRun0_D.sl.r_1, kernelRun0_D.sl.r_2, kernelRun0_D.sl.r_3, kernelRun0_D.sl.r_4, kernelRun0_D.sl.r_5, kernelRun0_D.sl.r_6, kernelRun0_D.sl.r_7, kernelRun0_D.sl.r_8, kernelRun0_D.sl.r_9, kernelRun0_D.sl.r_10, kernelRun0_D.sl.r_11, kernelRun0_D.sl.r_12, kernelRun0_D.sl.r_13, kernelRun0_D.sl.r_14, kernelRun0_D.sl.r_15, kernelRun0_D.sl.r_16, kernelRun0_D.sl.r_17, kernelRun0_D.sl.r_18, kernelRun0_D.sl.v96, kernelRun0_D.sl.v99, kernelRun0_D.sl.v106, kernelRun0_D.sl.v109, kernelRun0_D.sl.v116, kernelRun0_D.sl.v119, kernelRun0_D.sl.v126, kernelRun0_D.sl.v227, kernelRun0_D.sl.v235, kernelRun0_D.sl.v249, kernelRun0_D.sl.v255, kernelRun0_D.sl.v269, kernelRun0_D.sl.v275, kernelRun0_D.sl.v289, kernelRun0_D.sl.v295, pb2_none (h := ht2), loadCov_last arg7.view zero2 zero2, loadCov_last arg8.view zero2 zero2, hq, read_last arg7.view _ zero2, read_last arg8.view _ zero2,  load_blk _ _ _ _ _ 7 (by omega) o0, load_blk _ _ _ _ _ 6 (by omega) o1, load_blk _ _ _ _ _ 5 (by omega) o2, load_blk _ _ _ _ _ 4 (by omega) o3]
  simp only [sumAfter, stickAfter, fourMore]
  generalize k0_pay164 x0 = q
  generalize seqBlk x1 0 _ = K0
  generalize seqBlk x1 1 _ = K1
  generalize seqBlk x1 2 _ = K2
  generalize seqBlk x1 3 _ = K3
  generalize seqBlk x1 4 _ = K4
  generalize seqBlk x1 5 _ = K5
  generalize seqBlk x1 6 _ = K6
  generalize seqBlk x1 7 _ = K7
  generalize seqBlk x2 0 _ = V0
  generalize seqBlk x2 1 _ = V1
  generalize seqBlk x2 2 _ = V2
  generalize seqBlk x2 3 _ = V3
  generalize seqBlk x2 4 _ = V4
  generalize seqBlk x2 5 _ = V5
  generalize seqBlk x2 6 _ = V6
  generalize seqBlk x2 7 _ = V7
  rfl

/-- Query block 4: the group and a single visit. -/
theorem outE4 (hc0 : ¬cond0_0 i) (hc1 : ¬cond0_1 i) (hc2 : ¬cond0_2 i) (hc3 : cond0_3 i) (hc4 : ¬cond0_4 i) (hc5 : cond0_5 i)
    (hi : (i 2).val = 4) (ht1 : (k0_t1_loop i).trips = 0) (ht2 : (k0_t2_loop i).trips = 0) :
    out0_E_3 c i arg3 harg3 arg4 harg4 arg5 harg5 arg6 harg6 arg7 harg7 arg8 harg8 hc0 hc1 hc2 hc3 hc4 hc5 x0 x1 x2 = outBlk x0 x1 x2 4 (by omega) := by
  have o0 : k0_off6 i = ![0, 256 * 4, 0] := by simp only [k0_off6, hi]; rfl
  have o1 : k0_off7 i 0#32 = ![0, 256 * 3, 0] := by simp only [k0_off7, hi]; rfl
  have o2 : k0_off7 i 1#32 = ![0, 256 * 2, 0] := by simp only [k0_off7, hi]; rfl
  have o3 : k0_off7 i 2#32 = ![0, 256 * 1, 0] := by simp only [k0_off7, hi]; rfl
  have o4 : ![0, 0, 0] = ![0, 256 * 0, 0] := rfl
  have hq : k0_pay164 (View.readAt (Elt F) arg3.view (Rect.unit ![0, 0, 0] ![1, 256, 128] inb_S1x256x128_S1x256x128_0_0_0).toLoadRect (harg3.unread x0)) = k0_pay164 x0 := congrArg _ (load_q arg3 harg3 x0 _)
  unfold out0_E_3 kernelRun0_E
  rw [read_last VO0_3 _ zero3]
  unfold kernelRun0_E.sl.v85 kernelRun0_E.sl.v86
  unfold kernelRun0_E.sl.HS0_1_1
  rw [loadCov_part arg7.view zero2, loadCov_part arg7.view zero2]
  refine outBlk_of ?_
  simp only [kernelRun0_E.sl.HS0_1, kernelRun0_E.sl.HS0_2, kernelRun0_E.sl.HS0_3, kernelRun0_E.sl.HS0_4, kernelRun0_E.sl.HS0_5, kernelRun0_E.sl.HS1_1, kernelRun0_E.sl.HS1_2, kernelRun0_E.sl.HS1_3, kernelRun0_E.sl.HS1_4, kernelRun0_E.sl.HS1_5, kernelRun0_E.sl.r, kernelRun0_E.sl.r_1, kernelRun0_E.sl.r_2, kernelRun0_E.sl.r_3, kernelRun0_E.sl.r_4, kernelRun0_E.sl.r_5, kernelRun0_E.sl.r_6, kernelRun0_E.sl.r_7, kernelRun0_E.sl.r_8, kernelRun0_E.sl.r_9, kernelRun0_E.sl.r_10, kernelRun0_E.sl.r_11, kernelRun0_E.sl.r_12, kernelRun0_E.sl.r_13, kernelRun0_E.sl.r_14, kernelRun0_E.sl.r_15, kernelRun0_E.sl.r_16, kernelRun0_E.sl.r_17, kernelRun0_E.sl.r_18, kernelRun0_E.sl.r_19, kernelRun0_E.sl.v96, kernelRun0_E.sl.v99, kernelRun0_E.sl.v106, kernelRun0_E.sl.v109, kernelRun0_E.sl.v116, kernelRun0_E.sl.v119, kernelRun0_E.sl.v126, kernelRun0_E.sl.v227, kernelRun0_E.sl.v235, kernelRun0_E.sl.v249, kernelRun0_E.sl.v255, kernelRun0_E.sl.v269, kernelRun0_E.sl.v275, kernelRun0_E.sl.v289, kernelRun0_E.sl.v295, kernelRun0_E.sl.v118, kernelRun0_E.sl.v124_1, pb2_none (h := ht2), pb1_none (h := ht1), List.nil_append, loadCov_last arg7.view zero2 zero2, loadCov_last arg8.view zero2 zero2, hq, load_blk _ _ _ _ _ 4 (by omega) o0, load_blk _ _ _ _ _ 3 (by omega) o1, load_blk _ _ _ _ _ 2 (by omega) o2, load_blk _ _ _ _ _ 1 (by omega) o3, load_blk _ _ _ _ _ 0 (by omega) o4]
  simp only [sumAfter, stickAfter]
  generalize k0_pay164 x0 = q
  generalize seqBlk x1 0 _ = K0
  generalize seqBlk x1 1 _ = K1
  generalize seqBlk x1 2 _ = K2
  generalize seqBlk x1 3 _ = K3
  generalize seqBlk x1 4 _ = K4
  generalize seqBlk x2 0 _ = V0
  generalize seqBlk x2 1 _ = V1
  generalize seqBlk x2 2 _ = V2
  generalize seqBlk x2 3 _ = V3
  generalize seqBlk x2 4 _ = V4
  rfl

/-- Query block 5: the group and a pair. -/
theorem outF5 (hc0 : ¬cond0_0 i) (hc1 : ¬cond0_1 i) (hc2 : ¬cond0_2 i) (hc3 : cond0_3 i) (hc4 : cond0_4 i) (hc5 : ¬cond0_5 i)
    (hi : (i 2).val = 5) (ht1 : (k0_t1_loop i).trips = 0) (ht2 : (k0_t2_loop i).trips = 0) :
    out0_F_3 c i arg3 harg3 arg4 harg4 arg5 harg5 arg6 harg6 arg7 harg7 arg8 harg8 hc0 hc1 hc2 hc3 hc4 hc5 x0 x1 x2 = outBlk x0 x1 x2 5 (by omega) := by
  have o0 : k0_off6 i = ![0, 256 * 5, 0] := by simp only [k0_off6, hi]; rfl
  have o1 : k0_off7 i 0#32 = ![0, 256 * 4, 0] := by simp only [k0_off7, hi]; rfl
  have o2 : k0_off7 i 1#32 = ![0, 256 * 3, 0] := by simp only [k0_off7, hi]; rfl
  have o3 : k0_off7 i 2#32 = ![0, 256 * 2, 0] := by simp only [k0_off7, hi]; rfl
  have o4 : k0_off10 i 1#32 = ![0, 256 * 1, 0] := by simp only [k0_off10, hi]; rfl
  have o5 : k0_off10 i 2#32 = ![0, 256 * 0, 0] := by simp only [k0_off10, hi]; rfl
  have hq : k0_pay164 (View.readAt (Elt F) arg3.view (Rect.unit ![0, 0, 0] ![1, 256, 128] inb_S1x256x128_S1x256x128_0_0_0).toLoadRect (harg3.unread x0)) = k0_pay164 x0 := congrArg _ (load_q arg3 harg3 x0 _)
  unfold out0_F_3 kernelRun0_F
  rw [read_last VO0_3 _ zero3]
  unfold kernelRun0_F.sl.v85 kernelRun0_F.sl.v86
  unfold kernelRun0_F.sl.HS0_2_1
  rw [loadCov_part arg7.view zero2, loadCov_part arg7.view zero2]
  refine outBlk_of ?_
  simp only [kernelRun0_F.sl.HS0_1, kernelRun0_F.sl.HS0_2, kernelRun0_F.sl.HS0_3, kernelRun0_F.sl.HS0_4, kernelRun0_F.sl.HS0_5, kernelRun0_F.sl.HS1_1, kernelRun0_F.sl.HS1_2, kernelRun0_F.sl.HS1_3, kernelRun0_F.sl.HS1_4, kernelRun0_F.sl.HS1_5, kernelRun0_F.sl.HS0_1_1, kernelRun0_F.sl.HS1_1_1, kernelRun0_F.sl.r, kernelRun0_F.sl.r_1, kernelRun0_F.sl.r_2, kernelRun0_F.sl.r_3, kernelRun0_F.sl.r_4, kernelRun0_F.sl.r_5, kernelRun0_F.sl.r_6, kernelRun0_F.sl.r_7, kernelRun0_F.sl.r_8, kernelRun0_F.sl.r_9, kernelRun0_F.sl.r_10, kernelRun0_F.sl.r_11, kernelRun0_F.sl.r_12, kernelRun0_F.sl.r_13, kernelRun0_F.sl.r_14, kernelRun0_F.sl.r_15, kernelRun0_F.sl.r_16, kernelRun0_F.sl.r_17, kernelRun0_F.sl.r_18, kernelRun0_F.sl.r_19, kernelRun0_F.sl.r_20, kernelRun0_F.sl.r_21, kernelRun0_F.sl.r_22, kernelRun0_F.sl.r_23, kernelRun0_F.sl.r_24, kernelRun0_F.sl.r_25, kernelRun0_F.sl.r_26, kernelRun0_F.sl.r_27, kernelRun0_F.sl.v96, kernelRun0_F.sl.v99, kernelRun0_F.sl.v106, kernelRun0_F.sl.v109, kernelRun0_F.sl.v116, kernelRun0_F.sl.v119, kernelRun0_F.sl.v126, kernelRun0_F.sl.v227, kernelRun0_F.sl.v235, kernelRun0_F.sl.v249, kernelRun0_F.sl.v255, kernelRun0_F.sl.v269, kernelRun0_F.sl.v275, kernelRun0_F.sl.v289, kernelRun0_F.sl.v295, kernelRun0_F.sl.v148, kernelRun0_F.sl.v154, kernelRun0_F.sl.v168, kernelRun0_F.sl.v174, pb2_none (h := ht2), pb1_none (h := ht1), List.nil_append, loadCov_last arg7.view zero2 zero2, loadCov_last arg8.view zero2 zero2, hq, load_blk _ _ _ _ _ 5 (by omega) o0, load_blk _ _ _ _ _ 4 (by omega) o1, load_blk _ _ _ _ _ 3 (by omega) o2, load_blk _ _ _ _ _ 2 (by omega) o3, load_blk _ _ _ _ _ 1 (by omega) o4, load_blk _ _ _ _ _ 0 (by omega) o5]
  simp only [sumAfter, stickAfter]
  generalize k0_pay164 x0 = q
  generalize seqBlk x1 0 _ = K0
  generalize seqBlk x1 1 _ = K1
  generalize seqBlk x1 2 _ = K2
  generalize seqBlk x1 3 _ = K3
  generalize seqBlk x1 4 _ = K4
  generalize seqBlk x1 5 _ = K5
  generalize seqBlk x2 0 _ = V0
  generalize seqBlk x2 1 _ = V1
  generalize seqBlk x2 2 _ = V2
  generalize seqBlk x2 3 _ = V3
  generalize seqBlk x2 4 _ = V4
  generalize seqBlk x2 5 _ = V5
  rfl

/-- Query block 6: the group, a pair and a single visit. -/
theorem outG6 (hc0 : ¬cond0_0 i) (hc1 : ¬cond0_1 i) (hc2 : ¬cond0_2 i) (hc3 : cond0_3 i) (hc4 : cond0_4 i) (hc5 : cond0_5 i)
    (hi : (i 2).val = 6) (ht1 : (k0_t1_loop i).trips = 0) (ht2 : (k0_t2_loop i).trips = 0) :
    out0_G_3 c i arg3 harg3 arg4 harg4 arg5 harg5 arg6 harg6 arg7 harg7 arg8 harg8 hc0 hc1 hc2 hc3 hc4 hc5 x0 x1 x2 = outBlk x0 x1 x2 6 (by omega) := by
  have o0 : k0_off6 i = ![0, 256 * 6, 0] := by simp only [k0_off6, hi]; rfl
  have o1 : k0_off7 i 0#32 = ![0, 256 * 5, 0] := by simp only [k0_off7, hi]; rfl
  have o2 : k0_off7 i 1#32 = ![0, 256 * 4, 0] := by simp only [k0_off7, hi]; rfl
  have o3 : k0_off7 i 2#32 = ![0, 256 * 3, 0] := by simp only [k0_off7, hi]; rfl
  have o4 : k0_off10 i 1#32 = ![0, 256 * 2, 0] := by simp only [k0_off10, hi]; rfl
  have o5 : k0_off10 i 2#32 = ![0, 256 * 1, 0] := by simp only [k0_off10, hi]; rfl
  have o6 : ![0, 0, 0] = ![0, 256 * 0, 0] := rfl
  have hq : k0_pay164 (View.readAt (Elt F) arg3.view (Rect.unit ![0, 0, 0] ![1, 256, 128] inb_S1x256x128_S1x256x128_0_0_0).toLoadRect (harg3.unread x0)) = k0_pay164 x0 := congrArg _ (load_q arg3 harg3 x0 _)
  unfold out0_G_3 kernelRun0_G
  rw [read_last VO0_3 _ zero3]
  unfold kernelRun0_G.sl.v85 kernelRun0_G.sl.v86
  unfold kernelRun0_G.sl.HS0_3_1
  rw [loadCov_part arg7.view zero2, loadCov_part arg7.view zero2]
  refine outBlk_of ?_
  simp only [kernelRun0_G.sl.HS0_1, kernelRun0_G.sl.HS0_2, kernelRun0_G.sl.HS0_3, kernelRun0_G.sl.HS0_4, kernelRun0_G.sl.HS0_5, kernelRun0_G.sl.HS1_1, kernelRun0_G.sl.HS1_2, kernelRun0_G.sl.HS1_3, kernelRun0_G.sl.HS1_4, kernelRun0_G.sl.HS1_5, kernelRun0_G.sl.HS0_1_1, kernelRun0_G.sl.HS0_2_1, kernelRun0_G.sl.HS1_1_1, kernelRun0_G.sl.HS1_2_1, kernelRun0_G.sl.r, kernelRun0_G.sl.r_1, kernelRun0_G.sl.r_2, kernelRun0_G.sl.r_3, kernelRun0_G.sl.r_4, kernelRun0_G.sl.r_5, kernelRun0_G.sl.r_6, kernelRun0_G.sl.r_7, kernelRun0_G.sl.r_8, kernelRun0_G.sl.r_9, kernelRun0_G.sl.r_10, kernelRun0_G.sl.r_11, kernelRun0_G.sl.r_12, kernelRun0_G.sl.r_13, kernelRun0_G.sl.r_14, kernelRun0_G.sl.r_15, kernelRun0_G.sl.r_16, kernelRun0_G.sl.r_17, kernelRun0_G.sl.r_18, kernelRun0_G.sl.r_19, kernelRun0_G.sl.r_20, kernelRun0_G.sl.r_21, kernelRun0_G.sl.r_22, kernelRun0_G.sl.r_23, kernelRun0_G.sl.r_24, kernelRun0_G.sl.r_25, kernelRun0_G.sl.r_26, kernelRun0_G.sl.r_27, kernelRun0_G.sl.r_28, kernelRun0_G.sl.v96, kernelRun0_G.sl.v99, kernelRun0_G.sl.v106, kernelRun0_G.sl.v109, kernelRun0_G.sl.v116, kernelRun0_G.sl.v119, kernelRun0_G.sl.v126, kernelRun0_G.sl.v227, kernelRun0_G.sl.v235, kernelRun0_G.sl.v249, kernelRun0_G.sl.v255, kernelRun0_G.sl.v269, kernelRun0_G.sl.v275, kernelRun0_G.sl.v289, kernelRun0_G.sl.v295, kernelRun0_G.sl.v148, kernelRun0_G.sl.v154, kernelRun0_G.sl.v168, kernelRun0_G.sl.v174, kernelRun0_G.sl.v118, kernelRun0_G.sl.v124_1, pb2_none (h := ht2), pb1_none (h := ht1), List.nil_append, loadCov_last arg7.view zero2 zero2, loadCov_last arg8.view zero2 zero2, hq, load_blk _ _ _ _ _ 6 (by omega) o0, load_blk _ _ _ _ _ 5 (by omega) o1, load_blk _ _ _ _ _ 4 (by omega) o2, load_blk _ _ _ _ _ 3 (by omega) o3, load_blk _ _ _ _ _ 2 (by omega) o4, load_blk _ _ _ _ _ 1 (by omega) o5, load_blk _ _ _ _ _ 0 (by omega) o6]
  simp only [sumAfter, stickAfter]
  generalize k0_pay164 x0 = q
  generalize seqBlk x1 0 _ = K0
  generalize seqBlk x1 1 _ = K1
  generalize seqBlk x1 2 _ = K2
  generalize seqBlk x1 3 _ = K3
  generalize seqBlk x1 4 _ = K4
  generalize seqBlk x1 5 _ = K5
  generalize seqBlk x1 6 _ = K6
  generalize seqBlk x2 0 _ = V0
  generalize seqBlk x2 1 _ = V1
  generalize seqBlk x2 2 _ = V2
  generalize seqBlk x2 3 _ = V3
  generalize seqBlk x2 4 _ = V4
  generalize seqBlk x2 5 _ = V5
  generalize seqBlk x2 6 _ = V6
  rfl

end Cert.KernelIdeal.Stick

end
-- ==== Proof.Flush.lean ====
/- What every grid point writes back: the fold over its query block's keys, whichever way through the visits it took. -/
module

public import proofs.«01_k».proof.Proof.Gen.KernelIdeal.Value
public import proofs.«01_k».proof.Proof.Cases

@[expose] public section

set_option maxRecDepth 16384

noncomputable section

namespace Cert.KernelIdeal.Stick

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The fold depends on the query block only through its number. -/
theorem outBlk_congr {n n' : ℕ} (h : n = n') (x0 : Vec F S1x256x128 .bf16) (x1 x2 : Vec F S1x2048x128 .bf16) (hn : n < 8) (hn' : n' < 8) :
    outBlk x0 x1 x2 n hn = outBlk x0 x1 x2 n' hn' := by subst h; rfl

/-- Point `t` writes back the fold over the keys of its query block, `t mod 8`. -/
theorem flushed_blk (c : Dev nD) (t : Fin cfg0.N) :
    (dats m 0 c).flushed 3 t = (cfg0.win 3).cut (grid0.coords t)
      (outBlk (iblk m c 0 t) (iblk m c 1 t) (iblk m c 2 t) (t.val % 8) (Nat.mod_lt _ (by decide))) := by
  have hi := coord_two t
  have h2 := t2_trips t
  have h1 := t1_trips t
  have hlt : t.val % 8 < 8 := Nat.mod_lt _ (by decide)
  have go (n : ℕ) (hn : n < 8) (e : t.val % 8 = n) (w : Vec F S1x256x128 .bf16)
      (hw : w = outBlk (iblk m c 0 t) (iblk m c 1 t) (iblk m c 2 t) n hn) :
      (cfg0.win 3).cut (grid0.coords t) w = (cfg0.win 3).cut (grid0.coords t)
        (outBlk (iblk m c 0 t) (iblk m c 1 t) (iblk m c 2 t) (t.val % 8) (Nat.mod_lt _ (by decide))) :=
    congrArg _ (hw.trans (outBlk_congr e.symm _ _ _ _ _))
  rcases (by omega : t.val % 8 = 0 ∨ t.val % 8 = 1 ∨ t.val % 8 = 2 ∨ t.val % 8 = 3 ∨ t.val % 8 = 4 ∨ t.val % 8 = 5 ∨ t.val % 8 = 6 ∨ t.val % 8 = 7)
    with e | e | e | e | e | e | e | e
  · rw [Value.flushed3_A m c t (by omega) (by omega) (by omega) (by omega) (by omega) (by omega)]
    exact go _ (by decide) e _ (outA0 _ _ _ _ _ _ _ _ _ _ _ _ _ _ _ _ _ _ _ _ _ _ _ (by omega) (by rw [h1, if_neg (by omega)]) h2)
  · rw [Value.flushed3_B m c t (by omega) (by omega) (by omega) (by omega) (by omega) (by omega)]
    exact go _ (by decide) e _ (outB1 _ _ _ _ _ _ _ _ _ _ _ _ _ _ _ _ _ _ _ _ _ _ _ (by omega) (by rw [h1, if_neg (by omega)]) h2)
  · rw [Value.flushed3_C m c t (by omega) (by omega) (by omega) (by omega) (by omega) (by omega)]
    exact go _ (by decide) e _ (outC2 _ _ _ _ _ _ _ _ _ _ _ _ _ _ _ _ _ _ _ _ _ _ _ (by omega) (by rw [h1, if_neg (by omega)]) h2)
  · rw [Value.flushed3_D m c t (by omega) (by omega) (by omega) (by omega) (by omega) (by omega)]
    exact go _ (by decide) e _ (outD3 _ _ _ _ _ _ _ _ _ _ _ _ _ _ _ _ _ _ _ _ _ _ _ (by omega) (by rw [h1, if_neg (by omega)]) h2)
  · rw [Value.flushed3_E m c t (by omega) (by omega) (by omega) (by omega) (by omega) (by omega)]
    exact go _ (by decide) e _ (outE4 _ _ _ _ _ _ _ _ _ _ _ _ _ _ _ _ _ _ _ _ _ _ _ (by omega) (by rw [h1, if_neg (by omega)]) h2)
  · rw [Value.flushed3_F m c t (by omega) (by omega) (by omega) (by omega) (by omega) (by omega)]
    exact go _ (by decide) e _ (outF5 _ _ _ _ _ _ _ _ _ _ _ _ _ _ _ _ _ _ _ _ _ _ _ (by omega) (by rw [h1, if_neg (by omega)]) h2)
  · rw [Value.flushed3_G m c t (by omega) (by omega) (by omega) (by omega) (by omega) (by omega)]
    exact go _ (by decide) e _ (outG6 _ _ _ _ _ _ _ _ _ _ _ _ _ _ _ _ _ _ _ _ _ _ _ (by omega) (by rw [h1, if_neg (by omega)]) h2)
  · rw [Value.flushed3_D m c t (by omega) (by omega) (by omega) (by omega) (by omega) (by omega)]
    exact go _ (by decide) e _ (outD7 _ _ _ _ _ _ _ _ _ _ _ _ _ _ _ _ _ _ _ _ _ _ _ (by omega) (by rw [h1, if_pos (by omega)]) h2)

end Cert.KernelIdeal.Stick

end
-- ==== Proof.RowRead.lean ====
/- The operations of a visit read at one row and one key, over the extended reals. -/
module

public import proofs.«01_k».proof.Proof.Visit
public import Idealize.ShloMosaic.Lib.Pointwise
public import Idealize.ShloMosaic.Lib.WordCmp

@[expose] public section

set_option maxRecDepth 16384

noncomputable section

namespace Cert.KernelIdeal.Stick

open Cert.KernelIdeal Cert.KernelIdeal.Gen Idealize.ShloMosaic Idealize.ShloMosaic.TcCoe
open scoped BigOperators

/-- The softplus of a score: `log (1 + exp z)`, written so that the exponential stays below one. -/
def softplus (z : EReal) : EReal := max z 0 + Ideal.log (1 + Ideal.exp (0 - max z (-z)))

theorem select_ite {α : Type} (c : BitVec 1) (p : Prop) [Decidable p] (h : c = 1#1 ↔ p) (x y : α) :
    Scalar.select c x y = if p then x else y := by
  by_cases hp : p
  · rw [if_pos hp, Scalar.select_of_eq_one (h.mpr hp)]
  · rw [if_neg hp, Scalar.select_of_eq_zero (by rcases BitVec.eq_zero_or_eq_one c with e | e <;> [exact e; exact absurd (h.mp e) hp])]

theorem scores_apply (q : FVec Ideal S512x128 .bf16) (k : Vec Ideal S1x256x128 .bf16) (r : Fin 512) (s : Fin 256) :
    scores q k (ix2 r s) = ∑ d : Fin 128, q (ix2 r d) * k (ix3 0 s d) := by
  pointwise [scores]

theorem soft_apply (z : FVec Ideal S512x256 .f32) (j : S512x256.Idx) : soft z j = softplus (z j) := by
  pointwise [soft]
  rfl

/-- The word of a row's position inside its 256 rows. -/
theorem row_word : ∀ r : Fin 512, (Scalar.select
        (IntOp.andi
          (IntOp.xori
            (IntOp.cmpi CmpIPredicate.slt
              (IntOp.remsi ArithUnit.vector (BitVec.ofNat 32 r.val)
                (Scalar.select (Scalar.cmpi CmpIPredicate.eq 256#32 0#32) 1#32 256#32))
              0#32)
            (Scalar.cmpi CmpIPredicate.slt (Scalar.select (Scalar.cmpi CmpIPredicate.eq 256#32 0#32) 1#32 256#32) 0#32))
          (IntOp.cmpi CmpIPredicate.ne
            (IntOp.remsi ArithUnit.vector (BitVec.ofNat 32 r.val)
              (Scalar.select (Scalar.cmpi CmpIPredicate.eq 256#32 0#32) 1#32 256#32))
            0#32))
        (IntOp.addi
          (IntOp.remsi ArithUnit.vector (BitVec.ofNat 32 r.val)
            (Scalar.select (Scalar.cmpi CmpIPredicate.eq 256#32 0#32) 1#32 256#32))
          (Scalar.select (Scalar.cmpi CmpIPredicate.eq 256#32 0#32) 1#32 256#32))
        (IntOp.remsi ArithUnit.vector (BitVec.ofNat 32 r.val)
          (Scalar.select (Scalar.cmpi CmpIPredicate.eq 256#32 0#32) 1#32 256#32)) : BitVec 32) = BitVec.ofNat 32 (r.val % 256) := by
  decide +kernel

/-- The diagonal block's mask lets a row see the keys before its own query. -/
theorem beforeMask_iff (r : Fin 512) (s : Fin 256) : beforeMask (ix2 r s) = 1#1 ↔ s.val < r.val % 256 := by
  pointwise [beforeMask, k0_pay9]
  rw [row_word, WordCmp.cmpi_slt_ofNat_eq_one_iff (by have := s.isLt; omega) (by omega)]

theorem laterSum_apply (d : FVec Ideal S512x256 .f32) (r : Fin 512) (s : Fin 256) :
    laterSum d (ix2 r s) = ∑ x : Fin 256, if s.val < x.val then d (ix2 r x) else 0 := by
  pointwise [laterSum, laterKeys]
  refine Finset.sum_congr rfl fun x _ => ?_
  have hw := WordCmp.cmpi_sgt_ofNat_eq_one_iff (w := 32) (a := x.val) (b := s.val) (by have := x.isLt; omega) (by have := s.isLt; omega)
  rcases BitVec.eq_zero_or_eq_one (IntOp.cmpi CmpIPredicate.sgt (BitVec.ofNat 32 x.val) (BitVec.ofNat 32 s.val)) with e | e
  · rw [e, if_neg (fun h => by rw [hw.mpr h] at e; exact absurd e (by decide))]
    show _ * (((0 : ℤ) : ℝ) : EReal) = 0
    simp
  · rw [e, if_pos (hw.mp e)]
    show _ * (((1 : ℤ) : ℝ) : EReal) = _
    simp

theorem dropped_apply (b : Bool) (z : FVec Ideal S512x256 .f32) (r : Fin 512) (s : Fin 256) :
    dropped b z (ix2 r s) = if b = true → s.val < r.val % 256 then softplus (z (ix2 r s)) else 0 := by
  cases b
  · simp only [dropped, Bool.false_eq_true, if_false, soft_apply]
    rw [if_pos (fun h => absurd h (by decide))]
  · unfold dropped
    rw [if_pos rfl]
    pointwise []
    rw [select_ite _ _ (beforeMask_iff r s), soft_apply]
    simp

theorem attn_apply (b : Bool) (z : FVec Ideal S512x256 .f32) (c : Vec Ideal S512x1 .f32) (r : Fin 512) (s : Fin 256) :
    attn b z c (ix2 r s) = if b = true → s.val < r.val % 256 then
      Ideal.exp (z (ix2 r s) - softplus (z (ix2 r s)) - (c (ix2 r 0) + laterSum (dropped b z) (ix2 r s))) else 0 := by
  cases b
  · simp only [attn, Bool.false_eq_true, if_false]
    rw [if_pos (fun h => absurd h (by decide))]
    pointwise []
    rw [soft_apply]
  · unfold attn
    rw [if_pos rfl]
    pointwise []
    rw [select_ite _ _ (beforeMask_iff r s), soft_apply]
    simp

theorem visitC_apply (q : FVec Ideal S512x128 .bf16) (k : Vec Ideal S1x256x128 .bf16) (c : Vec Ideal S512x1 .f32) (b : Bool) (r : Fin 512) :
    visitC b q k c (ix2 r 0) = c (ix2 r 0) + (laterSum (dropped b (scores q k)) (ix2 r 0) + dropped b (scores q k) (ix2 r 0)) := by
  pointwise [visitC]

theorem visitAcc_apply (q : FVec Ideal S512x128 .bf16) (k v : Vec Ideal S1x256x128 .bf16) (a : Vec Ideal S512x128 .f32)
    (c : Vec Ideal S512x1 .f32) (b : Bool) (r : Fin 512) (d : Fin 128) :
    visitAcc b q k v a c (ix2 r d) = a (ix2 r d) + ∑ s : Fin 256, attn b (scores q k) c (ix2 r s) * v (ix3 0 s d) := by
  pointwise [visitAcc]

/-- The rows of the kernel's query block: each query twice, scaled, with the other head's lanes emptied. -/
theorem queries_apply (x : Vec Ideal S1x256x128 .bf16) (r : Fin 512) (d : Fin 128) :
    k0_pay164 x (ix2 r d) = if d.val / 64 = r.val / 256 then
      x (ix3 0 ⟨r.val % 256, Nat.mod_lt _ (by decide)⟩ d) * Ideal.ofBits .bf16 0x3E00#16 else 0 := by
  have hr := r.isLt
  have hd := d.isLt
  pointwise [k0_pay164]
  split
  · rename_i h
    have e : (⟨r.val % 256, Nat.mod_lt _ (by decide)⟩ : Fin 256) = ⟨r.val, h⟩ := Fin.ext (Nat.mod_eq_of_lt h)
    rw [select_ite _ (d.val / 64 = r.val / 256)
      ((WordCmp.cmpi_slt_ofNat_eq_one_iff (by omega) (by decide)).trans (by omega)), e]
  · rename_i h
    have e : (⟨r.val % 256, Nat.mod_lt _ (by decide)⟩ : Fin 256) = ⟨r.val - 256, by omega⟩ := Fin.ext (by show r.val % 256 = r.val - 256; omega)
    rw [select_ite _ (d.val / 64 = r.val / 256)
      ((WordCmp.cmpi_sge_ofNat_eq_one_iff (by omega) (by decide)).trans (by omega)), e]

/-- The output block's lanes: the first head's from the upper rows, the second head's from the lower. -/
theorem merge_apply (a b : Vec Ideal S256x128 .f32) (r : Fin 256) (d : Fin 128) :
    k0_pay4 (iota .tc S256x128 32 [1] iota_S256x128_d1_w32) a b (ix3 0 r d) = if d.val < 64 then a (ix2 r d) else b (ix2 r d) := by
  have hd := d.isLt
  pointwise [k0_pay4]
  rw [select_ite _ (d.val < 64) (WordCmp.cmpi_slt_ofNat_eq_one_iff (by omega) (by decide))]

theorem sum_start (r : Fin 512) (d : Fin 128) : k0_pay165 (F := Ideal) (ix2 r d) = 0 := by
  pointwise [k0_pay165]

theorem stick_start (r : Fin 512) : k0_pay166 (F := Ideal) (ix2 r 0) = 0 := by
  pointwise [k0_pay166]

end Cert.KernelIdeal.Stick

end
-- ==== Proof.RowFold.lean ====
/- What the visits to the blocks add up to, for one row: sums over ranges of keys. -/
module

public import proofs.«01_k».proof.Proof.RowRead

@[expose] public section

set_option maxRecDepth 16384

noncomputable section

namespace Cert.KernelIdeal.Stick

open Cert.KernelIdeal Cert.KernelIdeal.Gen Idealize.ShloMosaic Idealize.ShloMosaic.TcCoe
open scoped BigOperators

/-- What key `s` takes off the stick of the query at position `p`, its scores being `z`. -/
def drop (z : ℕ → EReal) (p s : ℕ) : EReal := if s < p then softplus (z s) else 0

/-- The weight of key `s` for the query at position `p`, when the keys from `hi` on take nothing. -/
def weight (z : ℕ → EReal) (p hi s : ℕ) : EReal :=
  if s < p then Ideal.exp (z s - softplus (z s) - ∑ j ∈ Finset.Ico (s + 1) hi, drop z p j) else 0

/-- Lane `d` of key (or value) `s` of a sequence. -/
def keyAt (x : Vec Ideal S1x2048x128 .bf16) (s : ℕ) (d : Fin 128) : EReal :=
  if h : s < 2048 then x (ix3 0 ⟨s, h⟩ d) else 0

/-- The score of row `r` against key `s`. -/
def rowScore (q : FVec Ideal S512x128 .bf16) (x : Vec Ideal S1x2048x128 .bf16) (r : Fin 512) (s : ℕ) : EReal :=
  ∑ d : Fin 128, q (ix2 r d) * keyAt x s d

theorem seqBlk_apply (x : Vec Ideal S1x2048x128 .bf16) (b : ℕ) (hb : b < 8) (s : Fin 256) (d : Fin 128) :
    seqBlk x b hb (ix3 0 s d) = keyAt x (256 * b + s.val) d := by
  have hs := s.isLt
  unfold keyAt
  rw [dif_pos (show 256 * b + s.val < 2048 by omega)]
  unfold seqBlk
  refine congrArg x (funext fun a => ?_)
  match a with
  | ⟨0, _⟩ => rfl
  | ⟨1, _⟩ => rfl
  | ⟨2, _⟩ => rfl

/-- A sum over the later entries of a block is a sum over a range of keys. -/
theorem sum_later (f : ℕ → EReal) (o s : ℕ) :
    (∑ x : Fin 256, if s < x.val then f (o + x.val) else 0) = ∑ j ∈ Finset.Ico (o + s + 1) (o + 256), f j := by
  rw [Fin.sum_univ_eq_sum_range (fun x => if s < x then f (o + x) else 0) 256, ← Finset.sum_filter,
    show (Finset.range 256).filter (s < ·) = Finset.Ico (s + 1) 256 by ext a; simp; omega,
    Finset.sum_Ico_add f (s + 1) 256 o]
  congr 2 <;> omega

/-- A sum over a block is a sum over a range of keys. -/
theorem sum_block (f : ℕ → EReal) (o : ℕ) : (∑ x : Fin 256, f (o + x.val)) = ∑ j ∈ Finset.Ico o (o + 256), f j := by
  rw [Fin.sum_univ_eq_sum_range (fun x => f (o + x)) 256, Finset.range_eq_Ico, Finset.sum_Ico_add f 0 256 o]
  congr 2 <;> omega

variable (q : FVec Ideal S512x128 .bf16) (x1 x2 : Vec Ideal S1x2048x128 .bf16)

theorem blockScore (b : ℕ) (hb : b < 8) (r : Fin 512) (s : Fin 256) :
    scores q (seqBlk x1 b hb) (ix2 r s) = rowScore q x1 r (256 * b + s.val) := by
  rw [scores_apply]
  exact Finset.sum_congr rfl fun d _ => by rw [seqBlk_apply]

/-- How a block stands to the query at position `p`: the masked one holds it, the others lie before it. -/
def Stands (m : Bool) (r : Fin 512) (b p : ℕ) : Prop :=
  (m = true ∧ p = 256 * b + r.val % 256) ∨ (m = false ∧ 256 * (b + 1) ≤ p)

theorem stands_iff {m : Bool} {r : Fin 512} {b p : ℕ} (h : Stands m r b p) (s : Fin 256) :
    (m = true → s.val < r.val % 256) ↔ 256 * b + s.val < p := by
  have hs := s.isLt
  rcases h with ⟨rfl, rfl⟩ | ⟨rfl, h⟩
  · simp
  · simp; omega

theorem blockDrop {m : Bool} {r : Fin 512} {b p : ℕ} (hb : b < 8) (h : Stands m r b p) (s : Fin 256) :
    dropped m (scores q (seqBlk x1 b hb)) (ix2 r s) = drop (rowScore q x1 r) p (256 * b + s.val) := by
  rw [dropped_apply, blockScore]
  exact if_congr (stands_iff h s) rfl rfl

theorem blockLater {m : Bool} {r : Fin 512} {b p : ℕ} (hb : b < 8) (h : Stands m r b p) (s : Fin 256) :
    laterSum (dropped m (scores q (seqBlk x1 b hb))) (ix2 r s)
      = ∑ j ∈ Finset.Ico (256 * b + s.val + 1) (256 * b + 256), drop (rowScore q x1 r) p j := by
  rw [laterSum_apply, ← sum_later]
  exact Finset.sum_congr rfl fun x _ => by rw [blockDrop q x1 hb h]

/-- One visit breaks the block's drops off the stick. -/
theorem visitC_sum {m : Bool} {r : Fin 512} {b p : ℕ} (hb : b < 8) (h : Stands m r b p) (c : Vec Ideal S512x1 .f32) :
    visitC m q (seqBlk x1 b hb) c (ix2 r 0)
      = c (ix2 r 0) + ∑ j ∈ Finset.Ico (256 * b) (256 * b + 256), drop (rowScore q x1 r) p j := by
  rw [visitC_apply, blockLater q x1 hb h, blockDrop q x1 hb h, Finset.sum_eq_sum_Ico_succ_bot (show 256 * b < 256 * b + 256 by omega),
    add_comm (drop _ _ _)]
  rfl

/-- One visit adds the block's weighted values, when the stick was broken by the later keys. -/
theorem visitAcc_sum {m : Bool} {r : Fin 512} {b p hi : ℕ} (hb : b < 8) (h : Stands m r b p) (hhi : 256 * b + 256 ≤ hi)
    (a : Vec Ideal S512x128 .f32) (c : Vec Ideal S512x1 .f32)
    (hc : c (ix2 r 0) = ∑ j ∈ Finset.Ico (256 * b + 256) hi, drop (rowScore q x1 r) p j) (d : Fin 128) :
    visitAcc m q (seqBlk x1 b hb) (seqBlk x2 b hb) a c (ix2 r d)
      = a (ix2 r d) + ∑ j ∈ Finset.Ico (256 * b) (256 * b + 256), weight (rowScore q x1 r) p hi j * keyAt x2 j d := by
  rw [visitAcc_apply, ← sum_block]
  refine congrArg _ (Finset.sum_congr rfl fun s _ => ?_)
  have hs := s.isLt
  rw [attn_apply, seqBlk_apply, blockScore, blockLater q x1 hb h, hc, add_comm (Finset.sum _ _),
    Finset.sum_Ico_consecutive _ (show 256 * b + s.val + 1 ≤ 256 * b + 256 by omega) hhi]
  exact congrArg (· * _) (if_congr (stands_iff h s) rfl rfl)

theorem stands_visit (r : Fin 512) (n k : ℕ) (hk : k ≤ n) : Stands (decide (k = 0)) r (n - k) (256 * n + r.val % 256) := by
  by_cases h : k = 0
  · subst h; exact Or.inl ⟨rfl, rfl⟩
  · exact Or.inr ⟨decide_eq_false h, by omega⟩

/-- The stick after `k` visits is broken by the keys of the blocks visited. -/
theorem stickAfter_sum (n : ℕ) (hn : n < 8) (r : Fin 512) : ∀ k, k ≤ n + 1 → stickAfter q x1 n hn k (ix2 r 0)
    = ∑ j ∈ Finset.Ico (256 * (n + 1 - k)) (256 * (n + 1)), drop (rowScore q x1 r) (256 * n + r.val % 256) j
  | 0, _ => by
    rw [stickAfter, stick_start, Nat.sub_zero, Finset.Ico_self, Finset.sum_empty]
  | k + 1, hk => by
    rw [stickAfter, visitC_sum q x1 _ (stands_visit r n k (by omega)), stickAfter_sum n hn r k (by omega), add_comm,
      show 256 * (n + 1 - k) = 256 * (n - k) + 256 by omega, show 256 * (n + 1 - (k + 1)) = 256 * (n - k) by omega,
      Finset.sum_Ico_consecutive _ (by omega) (by omega)]

/-- The sum after `k` visits holds the weighted values of the keys of the blocks visited. -/
theorem sumAfter_sum (n : ℕ) (hn : n < 8) (r : Fin 512) (d : Fin 128) : ∀ k, k ≤ n + 1 → sumAfter q x1 x2 n hn k (ix2 r d)
    = ∑ j ∈ Finset.Ico (256 * (n + 1 - k)) (256 * (n + 1)),
        weight (rowScore q x1 r) (256 * n + r.val % 256) (256 * (n + 1)) j * keyAt x2 j d
  | 0, _ => by
    rw [sumAfter, sum_start, Nat.sub_zero, Finset.Ico_self, Finset.sum_empty]
  | k + 1, hk => by
    rw [sumAfter, visitAcc_sum q x1 x2 (hi := 256 * (n + 1)) _ (stands_visit r n k (by omega)) (by omega) _ _
        ((stickAfter_sum q x1 n hn r k (by omega)).trans (by rw [show 256 * (n + 1 - k) = 256 * (n - k) + 256 by omega])),
      sumAfter_sum n hn r d k (by omega), add_comm (Finset.sum _ _),
      show 256 * (n + 1 - k) = 256 * (n - k) + 256 by omega, show 256 * (n + 1 - (k + 1)) = 256 * (n - k) by omega,
      Finset.sum_Ico_consecutive _ (by omega) (by omega)]

end Cert.KernelIdeal.Stick

namespace Cert.KernelIdeal.Stick

open Cert.KernelIdeal Cert.KernelIdeal.Gen Idealize.ShloMosaic Idealize.ShloMosaic.TcCoe
open scoped BigOperators

/-- The keys from the query's own position on weigh nothing, and how far the stick is summed beyond it does not matter. -/
theorem weight_hi (z : ℕ → EReal) (p hi s : ℕ) (h : p ≤ hi) : weight z p hi s = weight z p 2048 s ∨ 2048 < hi := by
  by_cases h2 : 2048 < hi
  · exact Or.inr h2
  · refine Or.inl ?_
    unfold weight
    by_cases hs : s < p
    · rw [if_pos hs, if_pos hs, ← Finset.sum_Ico_consecutive _ (show s + 1 ≤ hi by omega) (show hi ≤ 2048 by omega),
        Finset.sum_eq_zero (s := Finset.Ico hi 2048) (fun j hj => by
          have := (Finset.mem_Ico.mp hj).1
          exact if_neg (by omega)), add_zero]
    · rw [if_neg hs, if_neg hs]

/-- The row that the output's lane `d` reads for the block's query `i`. -/
def rowOf (i : Fin 256) (d : Fin 128) : Fin 512 := ⟨256 * (d.val / 64) + i.val, by have := i.isLt; have := d.isLt; omega⟩

/-- The output block of query block `n`: at query `i` and lane `d` the weighted sum of all the values. -/
theorem outBlk_sum (x0 : Vec Ideal S1x256x128 .bf16) (x1 x2 : Vec Ideal S1x2048x128 .bf16) (n : ℕ) (hn : n < 8)
    (i : Fin 256) (d : Fin 128) :
    outBlk x0 x1 x2 n hn (ix3 0 i d)
      = ∑ j ∈ Finset.range 2048, weight (rowScore (k0_pay164 x0) x1 (rowOf i d)) (256 * n + i.val) 2048 j * keyAt x2 j d := by
  have hi := i.isLt
  have hd := d.isLt
  have hrow : (rowOf i d).val % 256 = i.val := by show (256 * (d.val / 64) + i.val) % 256 = i.val; omega
  have key : outBlk x0 x1 x2 n hn (ix3 0 i d) = sumAfter (k0_pay164 x0) x1 x2 n hn (n + 1) (ix2 (rowOf i d) d) := by
    unfold outBlk
    rw [merge_apply]
    by_cases h : d.val < 64
    · rw [if_pos h]
      refine congrArg _ (funext fun a => ?_)
      match a with
      | ⟨0, _⟩ => exact Fin.ext ((Rect.emb_apply _ _ _).trans (by show 0 + 1 * i.val = 256 * (d.val / 64) + i.val; omega))
      | ⟨1, _⟩ => exact Fin.ext ((Rect.emb_apply _ _ _).trans (by show 0 + 1 * d.val = d.val; omega))
    · rw [if_neg h]
      refine congrArg _ (funext fun a => ?_)
      match a with
      | ⟨0, _⟩ => exact Fin.ext ((Rect.emb_apply _ _ _).trans (by show 256 + 1 * i.val = 256 * (d.val / 64) + i.val; omega))
      | ⟨1, _⟩ => exact Fin.ext ((Rect.emb_apply _ _ _).trans (by show 0 + 1 * d.val = d.val; omega))
  rw [key, sumAfter_sum _ _ _ _ _ _ _ _ le_rfl, hrow, Nat.sub_self, Nat.mul_zero, Finset.range_eq_Ico,
    ← Finset.sum_Ico_consecutive _ (Nat.zero_le (256 * (n + 1))) (show 256 * (n + 1) ≤ 2048 by omega),
    Finset.sum_eq_zero (s := Finset.Ico (256 * (n + 1)) 2048) (fun j hj => by
      have := (Finset.mem_Ico.mp hj).1
      rw [weight, if_neg (by omega), zero_mul]), add_zero]
  refine Finset.sum_congr rfl fun j _ => ?_
  rcases weight_hi (rowScore (k0_pay164 x0) x1 (rowOf i d)) (256 * n + i.val) (256 * (n + 1)) j (by omega) with e | e
  · rw [e]
  · omega

end Cert.KernelIdeal.Stick

end
-- ==== Proof.Equation.lean ====
/- The equation of one weight: the kernel's `exp (z - softplus z - later)` is the reference's
   `exp (log_sigmoid z + (onward - own))`, at every extended real score. -/
module

public import proofs.«01_k».proof.Proof.RowFold

@[expose] public section

noncomputable section

namespace Cert.KernelIdeal.Stick

open Cert.KernelIdeal Cert.KernelIdeal.Gen Idealize.ShloMosaic Idealize.ShloMosaic.TcCoe
open scoped BigOperators

theorem softplus_coe (x : ℝ) : softplus (x : EReal) = ((max x 0 + Real.log (1 + Real.exp (-max x (-x))) : ℝ) : EReal) := by
  have h : (0 : EReal) - max (x : EReal) (-(x : EReal)) = ((-max x (-x) : ℝ) : EReal) := by
    rw [zero_sub, ← EReal.coe_neg, ← EReal.coe_strictMono.monotone.map_max, EReal.coe_neg]
  have hp : (0 : ℝ) < 1 + Real.exp (-max x (-x)) := by positivity
  unfold softplus
  rw [h, Ideal.exp_coe, show (1 : EReal) + (Real.exp (-max x (-x)) : EReal) = ((1 + Real.exp (-max x (-x)) : ℝ) : EReal) by
      rw [EReal.coe_add, EReal.coe_one], Ideal.log_coe, if_neg (not_le.mpr hp), EReal.coe_add,
    EReal.coe_strictMono.monotone.map_max, EReal.coe_zero]

theorem log_one : Ideal.log 1 = 0 := by
  rw [← EReal.coe_one, Ideal.log_coe, if_neg (by norm_num), Real.log_one, EReal.coe_zero]

theorem softplus_top : softplus ⊤ = ⊤ := by
  simp [softplus, log_one]

theorem softplus_bot : softplus ⊥ = 0 := by
  simp [softplus, log_one]

theorem softplus_nonneg (z : EReal) : 0 ≤ softplus z := by
  induction z with
  | bot => rw [softplus_bot]
  | top => rw [softplus_top]; exact le_top
  | coe x =>
    rw [softplus_coe, ← EReal.coe_zero, EReal.coe_le_coe_iff]
    have h : (0 : ℝ) ≤ Real.log (1 + Real.exp (-max x (-x))) := Real.log_nonneg (by have := Real.exp_pos (-max x (-x)); linarith)
    have h' : (0 : ℝ) ≤ max x 0 := le_max_right _ _
    linarith

theorem drop_nonneg (z : ℕ → EReal) (p s : ℕ) : 0 ≤ drop z p s := by
  unfold drop
  split
  · exact softplus_nonneg _
  · exact le_rfl

/-- The negatives of sums of nonnegative terms are sums of negatives. -/
theorem sum_neg_nonneg (f : ℕ → EReal) (hf : ∀ j, 0 ≤ f j) (L : Finset ℕ) : (∑ j ∈ L, -f j) = -∑ j ∈ L, f j := by
  induction L using Finset.induction_on with
  | empty => simp
  | insert a L ha ih =>
    rw [Finset.sum_insert ha, Finset.sum_insert ha, ih, EReal.neg_add, sub_eq_add_neg]
    · exact Or.inl (ne_of_gt (lt_of_lt_of_le EReal.bot_lt_zero (hf a)))
    · exact Or.inr (ne_of_gt (lt_of_lt_of_le EReal.bot_lt_zero (Finset.sum_nonneg fun j _ => hf j)))

/-- A score, its softplus `softplus z` and the later drops `D`: the kernel's exponent against the reference's. -/
theorem exponent_eq (z D : EReal) (hD : 0 ≤ D) :
    z - softplus z - D = -softplus (-z) + (-(softplus z + D) - -softplus z) := by
  have hDb : D ≠ ⊥ := ne_of_gt (lt_of_lt_of_le EReal.bot_lt_zero hD)
  induction z with
  | bot => simp [softplus_bot, softplus_top]
  | top =>
    have e : (⊤ : EReal) + D = ⊤ := EReal.top_add_of_ne_bot hDb
    simp [softplus_bot, softplus_top, e]
  | coe x =>
    have hm : max (-x) (- -x) = max x (-x) := by rw [neg_neg, max_comm]
    have h0 : max (-x) 0 = max x 0 - x := by
      rcases le_total x 0 with h | h
      · rw [max_eq_left (by linarith), max_eq_right h]; ring
      · rw [max_eq_right (by linarith), max_eq_left h]; ring
    rw [← EReal.coe_neg, softplus_coe, softplus_coe, hm, h0]
    generalize max x 0 = a
    generalize Real.log (1 + Real.exp (-max x (-x))) = l
    induction D with
    | bot => exact absurd rfl hDb
    | top =>
      rw [EReal.coe_add_top, EReal.neg_top, EReal.sub_top, ← EReal.coe_neg, ← EReal.coe_neg, EReal.bot_sub, EReal.add_bot]
    | coe w =>
      norm_cast
      ring

/-- One weight, the reference's way: `L` is minus the drops of the keys from `s` on. -/
theorem weight_eq (z : ℕ → EReal) (p s : ℕ) (hs : s < 2048) :
    weight z p 2048 s = if s < p then
      Ideal.exp (-softplus (-z s) + ((∑ j ∈ Finset.Ico s 2048, -drop z p j) - -drop z p s)) else 0 := by
  unfold weight
  refine if_ctx_congr Iff.rfl (fun hp => ?_) (fun _ => rfl)
  have hd : drop z p s = softplus (z s) := if_pos hp
  rw [sum_neg_nonneg _ (drop_nonneg z p), Finset.sum_eq_sum_Ico_succ_bot hs, hd,
    exponent_eq _ _ (Finset.sum_nonneg fun j _ => drop_nonneg z p j)]

/-- The scale of the scores, at both widths. -/
theorem scale_bf16 : Ideal.ofBits .bf16 0x3E00#16 = (((1 : ℝ) / 8 : ℝ) : EReal) := by
  simp [Ideal.ofBits, Ideal.ieee, -EReal.coe_mul]; norm_num

theorem scale_f32 : Ideal.ofBits .f32 0x3E000000#32 = (((1 : ℝ) / 8 : ℝ) : EReal) := by
  simp [Ideal.ofBits, Ideal.ieee, -EReal.coe_mul]; norm_num

/-- A real factor that is not negative comes out of a sum. -/
theorem sum_scale {ι : Type} (L : Finset ι) (f : ι → EReal) (c : ℝ) (hc : 0 ≤ c) :
    (∑ d ∈ L, f d * (c : EReal)) = (∑ d ∈ L, f d) * (c : EReal) := by
  classical
  induction L using Finset.induction_on with
  | empty => simp
  | insert a L ha ih =>
    rw [Finset.sum_insert ha, Finset.sum_insert ha, ih,
      EReal.right_distrib_of_nonneg_of_ne_top (EReal.coe_nonneg.mpr hc) (EReal.coe_ne_top c)]

/-- The score of a row of the kernel: one head's lanes of the query against the key, then the scale. -/
theorem rowScore_heads (x0 : Vec Ideal S1x256x128 .bf16) (x1 : Vec Ideal S1x2048x128 .bf16) (i : Fin 256) (d : Fin 128) (s : ℕ) :
    rowScore (k0_pay164 x0) x1 (rowOf i d) s
      = (∑ e : Fin 64, x0 (ix3 0 i ⟨d.val / 64 * 64 + e.val, by omega⟩) * keyAt x1 s ⟨d.val / 64 * 64 + e.val, by omega⟩)
        * (((1 : ℝ) / 8 : ℝ) : EReal) := by
  have hi := i.isLt
  have hd := d.isLt
  have hq : (rowOf i d).val / 256 = d.val / 64 := by show (256 * (d.val / 64) + i.val) / 256 = _; omega
  have hr : (⟨(rowOf i d).val % 256, Nat.mod_lt _ (by decide)⟩ : Fin 256) = i :=
    Fin.ext (by show (256 * (d.val / 64) + i.val) % 256 = i.val; omega)
  have hterm (e : Fin 128) : k0_pay164 x0 (ix2 (rowOf i d) e) * keyAt x1 s e
      = if e.val / 64 = d.val / 64 then x0 (ix3 0 i e) * keyAt x1 s e * (((1 : ℝ) / 8 : ℝ) : EReal) else 0 := by
    rw [queries_apply, hq, hr, scale_bf16]
    split
    · rw [mul_right_comm]
    · rw [zero_mul]
  rw [← sum_scale _ _ _ (by norm_num)]
  unfold rowScore
  rw [Finset.sum_congr rfl fun e _ => hterm e]
  refine (Fin.sum_univ_add (a := 64) (b := 64) _).trans ?_
  rcases (by omega : d.val / 64 = 0 ∨ d.val / 64 = 1) with h | h
  · refine (congrArg (_ + ·) (Finset.sum_eq_zero fun e _ => if_neg (by show ¬ (64 + e.val) / 64 = d.val / 64; omega))).trans ?_
    rw [add_zero]
    refine Finset.sum_congr rfl fun e _ => ?_
    have he : (Fin.castAdd 64 e : Fin 128) = ⟨d.val / 64 * 64 + e.val, by omega⟩ := Fin.ext (by show e.val = d.val / 64 * 64 + e.val; omega)
    rw [if_pos (by show e.val / 64 = d.val / 64; omega), he]
  · refine (congrArg (· + _) (Finset.sum_eq_zero fun e _ => if_neg (by show ¬ e.val / 64 = d.val / 64; omega))).trans ?_
    rw [zero_add]
    refine Finset.sum_congr rfl fun e _ => ?_
    have he : (Fin.natAdd 64 e : Fin 128) = ⟨d.val / 64 * 64 + e.val, by omega⟩ := Fin.ext (by show 64 + e.val = d.val / 64 * 64 + e.val; omega)
    rw [if_pos (by show (64 + e.val) / 64 = d.val / 64; omega), he]

end Cert.KernelIdeal.Stick

end
-- ==== Proof.RefRead.lean ====
/- The reference's operations, named, and read at one index over the extended reals. -/
module

public import proofs.«01_k».proof.Proof.Gen.ReferenceIdeal.Run
public import Idealize.ShloMosaic.Lib.Pointwise
public import Idealize.ShloMosaic.Lib.WordCmp

@[expose] public section

set_option maxRecDepth 16384

noncomputable section

namespace Cert.ReferenceIdeal.Stick

open Cert.ReferenceIdeal Cert.ReferenceIdeal.Gen Idealize.ShloMosaic Idealize.ShloMosaic.TcCoe Idealize.SL.Sem Idealize.ShloMosaic.StableHlo
open scoped BigOperators

section Names

variable {F : FTy → Type} [FloatOps F]

/-- A sequence's lanes split into its eight heads. -/
def heads (x : FVec F S16x2048x512 .bf16) : FVec F S16x2048x8x64 .f32 :=
  shapeCast S16x2048x8x64 (extf .f32 x bitsLt_bf16_f32) shapeCasts_S16x2048x512_S16x2048x8x64

/-- Zero at every query and key. -/
def zeros : FVec F S16x8x2048x2048 .f32 := broadcastInDim S16x8x2048x2048 ![] bcast_S_S16x8x2048x2048 (constant S_ .f32 0x00000000#32)

/-- Zero as the reference's `where` spreads it. -/
def zeros' : FVec F S16x8x2048x2048 .f32 := broadcastInDim S16x8x2048x2048 ![] bcast_S_S16x8x2048x2048 (id (constant S_ .f32 0x00000000#32))

/-- The scaled scores. -/
def score (q k : FVec F S16x2048x512 .bf16) : FVec F S16x8x2048x2048 .f32 :=
  mulf (Host.dotGeneral dot_S16x2048x8x64_S16x2048x8x64_S16x8x2048x2048_3_3_1_1_02_02 none (heads q) (heads k))
    (broadcastInDim S16x8x2048x2048 ![] bcast_S_S16x8x2048x2048 (constant S_ .f32 0x3E000000#32))

/-- `logaddexp x 0`. -/
def plus (x : FVec F S16x8x2048x2048 .f32) : FVec F S16x8x2048x2048 .f32 :=
  select (cmpf .une (subf x zeros) (subf x zeros)) (addf x zeros)
    (addf (maximumf x zeros) (Host.log1p (Host.exp (Host.negf (Host.absf (subf x zeros))))))

/-- Which keys are before a query. -/
def before : IVec S16x8x2048x2048 1 :=
  broadcastInDim S16x8x2048x2048 ![2, 3] bcast_S2048x2048_S16x8x2048x2048_2_3 (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

/-- The logarithm of what each key leaves of the stick. -/
def keep (z : FVec F S16x8x2048x2048 .f32) : FVec F S16x8x2048x2048 .f32 :=
  select before (Host.negf (plus (Host.negf (Host.negf z)))) zeros'

/-- The sums of a row over a key and all later ones. -/
def onward (x : FVec F S16x8x2048x2048 .f32) : FVec F S16x8x2048x2048 .f32 :=
  Host.reduceWindowAdd ![1, 1, 1, 2048] ![1, 1, 1, 1] ![0, 0, 0, 0] ![0, 0, 0, 2047] x
    (broadcastInDim S_ ![] bcast_S_S_ (constant S_ .f32 0x00000000#32))
    reduceWindows_S16x8x2048x2048_S16x8x2048x2048_w1s1p0_0_w1s1p0_0_w1s1p0_0_w2048s1p0_2047 h_S_

/-- The attention weights. -/
def att (z : FVec F S16x8x2048x2048 .f32) : FVec F S16x8x2048x2048 .f32 :=
  select before (Host.exp (addf (Host.negf (plus (Host.negf z))) (subf (onward (keep z)) (keep z)))) zeros'

/-- The reference's result of its three arguments. -/
def out (q k v : FVec F S16x2048x512 .bf16) : FVec F S16x2048x512 .bf16 :=
  truncf .bf16 (shapeCast S16x2048x512 (transpose S16x2048x8x64 [0, 3, 1, 2]
    (Host.dotGeneral dot_S16x2048x8x64_S16x8x2048x2048_S16x8x64x2048_1_3_3_2_02_01 none (heads v) (att (score q k)))
    transposes_S16x8x64x2048_S16x2048x8x64_0_3_1_2) shapeCasts_S16x2048x8x64_S16x2048x512) bitsLt_bf16_f32

theorem res_eq (m : (ℓ : Loc nD τ sig) → Buf (Elt F) ℓ) (c : Dev nD) :
    Value.res_main_v27 m c = out (m ((c.tc : Thread nD τ).loc main_arg0)) (m ((c.tc : Thread nD τ).loc main_arg1))
      (m ((c.tc : Thread nD τ).loc main_arg2)) := rfl

end Names

/-- A sum built up from the left is the start plus the sum of the terms. -/
theorem foldl_sum {ι : Type} (g : ι → EReal) (L : List ι) (v : EReal) :
    L.foldl (fun r n => r + g n) v = v + (L.map g).sum := by
  induction L generalizing v with
  | nil => simp
  | cons a L ih => rw [List.foldl_cons, ih, List.map_cons, List.sum_cons, add_assoc]

/-- Row `(b, h, p)` of an array of weights, at a key given as a number. -/
def rowAt (x : FVec Ideal S16x8x2048x2048 .f32) (b : Fin 16) (h : Fin 8) (p : Fin 2048) (s : ℕ) : EReal :=
  if hs : s < 2048 then x (ix4 b h p ⟨s, hs⟩) else 0

/-- The window sum at key `s` is the sum over the keys from `s` on. -/
theorem onward_apply (x : FVec Ideal S16x8x2048x2048 .f32) (b : Fin 16) (h : Fin 8) (p s : Fin 2048) :
    onward x (ix4 b h p s) = ∑ j ∈ Finset.Ico s.val 2048, rowAt x b h p j := by
  have hs := s.isLt
  unfold onward
  rw [show (broadcastInDim S_ ![] bcast_S_S_ (constant S_ .f32 0x00000000#32) : FVec Ideal S_ .f32) = fun _ => 0 from
    funext fun i => by rw [← ix0_eta i]; pointwise []]
  unfold Host.reduceWindowAdd
  simp only [FloatOps.hostReduceWindowAdd, Ideal.hostReduceWindowAdd, Host.reduceWindow]
  rw [foldl_sum, zero_add]
  refine (Fin.sum_univ_def _).symm.trans ?_
  rw [← Equiv.sum_comp (Shape.rowMajor ⟨4, ![1, 1, 1, 2048]⟩)]
  simp only [Equiv.symm_apply_apply]
  rw [sum_idx4]
  simp only [Fintype.sum_unique]
  rw [Finset.sum_congr rfl (g := fun e : Fin 2048 => rowAt x b h p (s.val + e.val)) fun e _ => ?_,
    Fin.sum_univ_eq_sum_range (fun e => rowAt x b h p (s.val + e)) 2048, Finset.range_eq_Ico, Finset.sum_Ico_add _ 0 2048 s.val,
    ← Finset.sum_Ico_consecutive _ (show 0 + s.val ≤ 2048 by omega) (show 2048 ≤ 2048 + s.val by omega),
    Finset.sum_eq_zero (s := Finset.Ico 2048 (2048 + s.val)) (fun j hj => dif_neg (by
      have := (Finset.mem_Ico.mp hj).1
      omega)), add_zero, Nat.zero_add]
  by_cases he : s.val + e.val < 2048
  · rw [dif_pos fun a => ?_]
    · unfold rowAt
      rw [dif_pos he]
      refine congrArg x (funext fun a => ?_)
      match a with
      | ⟨0, _⟩ => exact Fin.ext (by show b.val * 1 + 0 - 0 = b.val; omega)
      | ⟨1, _⟩ => exact Fin.ext (by show h.val * 1 + 0 - 0 = h.val; omega)
      | ⟨2, _⟩ => exact Fin.ext (by show p.val * 1 + 0 - 0 = p.val; omega)
      | ⟨3, _⟩ => exact Fin.ext (by show s.val * 1 + e.val - 0 = s.val + e.val; omega)
    · match a with
      | ⟨0, _⟩ => exact ⟨Nat.zero_le _, by show b.val * 1 + 0 - 0 < 16; omega⟩
      | ⟨1, _⟩ => exact ⟨Nat.zero_le _, by show h.val * 1 + 0 - 0 < 8; omega⟩
      | ⟨2, _⟩ => exact ⟨Nat.zero_le _, by show p.val * 1 + 0 - 0 < 2048; omega⟩
      | ⟨3, _⟩ => exact ⟨Nat.zero_le _, by show s.val * 1 + e.val - 0 < 2048; omega⟩
  · rw [dif_neg fun H => he ?_]
    · unfold rowAt
      rw [dif_neg he]
    · have h3 : s.val * 1 + e.val - 0 < 2048 := (H 3).2
      omega

theorem score_apply (q k : FVec Ideal S16x2048x512 .bf16) (b : Fin 16) (h : Fin 8) (p s : Fin 2048) :
    score q k (ix4 b h p s) = (∑ d : Fin 64, q (ix3 b p ⟨h.val * 64 + d.val, by omega⟩) * k (ix3 b s ⟨h.val * 64 + d.val, by omega⟩))
      * Ideal.ofBits .f32 0x3E000000#32 := by
  pointwise [score, heads]

theorem plus_apply (x : FVec Ideal S16x8x2048x2048 .f32) (j : S16x8x2048x2048.Idx) :
    plus x j = max (x j) 0 + Ideal.log (1 + Ideal.exp (-max (x j) (-(x j)))) := by
  pointwise [plus, zeros]
  rw [if_neg (by simp)]
  rfl

theorem before_iff (b : Fin 16) (h : Fin 8) (p s : Fin 2048) : before (ix4 b h p s) = 1#1 ↔ s.val < p.val := by
  pointwise [before]
  exact WordCmp.cmpi_slt_ofNat_eq_one_iff (by have := s.isLt; omega) (by have := p.isLt; omega)

theorem zeros'_apply (j : S16x8x2048x2048.Idx) : zeros' (F := Ideal) j = 0 := by
  show (zeros (F := Ideal)) j = 0
  pointwise [zeros]

theorem where_before {α : Type} (b : Fin 16) (h : Fin 8) (p s : Fin 2048) (x y : α) :
    Scalar.select (before (ix4 b h p s)) x y = if s.val < p.val then x else y := by
  by_cases hp : s.val < p.val
  · rw [if_pos hp, Scalar.select_of_eq_one ((before_iff b h p s).mpr hp)]
  · rw [if_neg hp, Scalar.select_of_eq_zero ((BitVec.eq_zero_or_eq_one _).resolve_right fun e => hp ((before_iff b h p s).mp e))]

theorem keep_apply (x : FVec Ideal S16x8x2048x2048 .f32) (b : Fin 16) (h : Fin 8) (p s : Fin 2048) :
    keep x (ix4 b h p s) = if s.val < p.val then -plus (Host.negf (Host.negf x)) (ix4 b h p s) else 0 := by
  rw [← where_before b h p s, ← zeros'_apply (ix4 b h p s)]
  pointwise [keep]

theorem att_apply (x : FVec Ideal S16x8x2048x2048 .f32) (b : Fin 16) (h : Fin 8) (p s : Fin 2048) :
    att x (ix4 b h p s) = if s.val < p.val then
      Ideal.exp (-plus (Host.negf x) (ix4 b h p s) + (onward (keep x) (ix4 b h p s) - keep x (ix4 b h p s))) else 0 := by
  rw [← where_before b h p s, ← zeros'_apply (ix4 b h p s)]
  pointwise [att]

theorem out_apply (q k v : FVec Ideal S16x2048x512 .bf16) (b : Fin 16) (p : Fin 2048) (d : Fin 512) :
    out q k v (ix3 b p d) = ∑ s : Fin 2048, v (ix3 b s d) * att (score q k) (ix4 b ⟨d.val / 64, by omega⟩ p s) := by
  pointwise [out, heads]

theorem negf_apply (x : FVec Ideal S16x8x2048x2048 .f32) (j : S16x8x2048x2048.Idx) : Host.negf x j = -x j := by
  pointwise []

end Cert.ReferenceIdeal.Stick

end
-- ==== Proof.Meet.lean ====
/- The kernel's output block is the reference's result at the block's place. -/
module

public import proofs.«01_k».proof.Proof.Equation
public import proofs.«01_k».proof.Proof.RefRead

@[expose] public section

set_option maxRecDepth 16384

noncomputable section

namespace Cert.KernelIdeal.Stick

open Cert.KernelIdeal Cert.KernelIdeal.Gen Idealize.ShloMosaic Idealize.ShloMosaic.TcCoe
open Cert.ReferenceIdeal.Stick (out score att keep plus onward rowAt)
open scoped BigOperators

/-- The reference's weight of key `s` for the query `p`: the one weight both sides compute. -/
theorem att_weight (x : FVec Ideal Cert.ReferenceIdeal.S16x8x2048x2048 .f32) (b : Fin 16) (h : Fin 8) (p s : Fin 2048) (z : ℕ → EReal)
    (hz : ∀ j : Fin 2048, z j.val = x (ix4 b h p j)) : att x (ix4 b h p s) = weight z p.val 2048 s.val := by
  have hs := s.isLt
  have hk (j : Fin 2048) : keep x (ix4 b h p j) = -drop z p.val j.val := by
    rw [Cert.ReferenceIdeal.Stick.keep_apply, Cert.ReferenceIdeal.Stick.plus_apply, Cert.ReferenceIdeal.Stick.negf_apply,
      Cert.ReferenceIdeal.Stick.negf_apply, neg_neg, ← hz j]
    unfold drop
    split
    · unfold softplus
      rw [zero_sub]
    · rw [neg_zero]
  rw [Cert.ReferenceIdeal.Stick.att_apply, weight_eq z _ _ hs, Cert.ReferenceIdeal.Stick.onward_apply, hk,
    Cert.ReferenceIdeal.Stick.plus_apply, Cert.ReferenceIdeal.Stick.negf_apply, ← hz s]
  have hsum : (∑ j ∈ Finset.Ico s.val 2048, rowAt (keep x) b h p j) = ∑ j ∈ Finset.Ico s.val 2048, -drop z p.val j := by
    refine Finset.sum_congr rfl fun j hj => ?_
    have hj2 := (Finset.mem_Ico.mp hj).2
    unfold rowAt
    rw [dif_pos hj2]
    exact hk ⟨j, hj2⟩
  rw [hsum]
  unfold softplus
  rw [zero_sub]

/-- The output block of one grid point, batch `b`, lanes from `128 g`, query block `n`. -/
theorem outBlk_eq (q k v : FVec Ideal S16x2048x512 .bf16) (b : Fin 16) (g n : ℕ) (hg : g < 4) (hn : n < 8)
    (x0 : Vec Ideal S1x256x128 .bf16) (x1 x2 : Vec Ideal S1x2048x128 .bf16)
    (h0 : ∀ (i : Fin 256) (d : Fin 128), x0 (ix3 0 i d) = q (ix3 b ⟨n * 256 + i.val, by omega⟩ ⟨g * 128 + d.val, by omega⟩))
    (h1 : ∀ (s : Fin 2048) (d : Fin 128), x1 (ix3 0 s d) = k (ix3 b s ⟨g * 128 + d.val, by omega⟩))
    (h2 : ∀ (s : Fin 2048) (d : Fin 128), x2 (ix3 0 s d) = v (ix3 b s ⟨g * 128 + d.val, by omega⟩))
    (i : Fin 256) (d : Fin 128) :
    outBlk x0 x1 x2 n hn (ix3 0 i d) = out q k v (ix3 b ⟨n * 256 + i.val, by omega⟩ ⟨g * 128 + d.val, by omega⟩) := by
  have hi := i.isLt
  have hd := d.isLt
  have key (x : Vec Ideal S1x2048x128 .bf16) (s : Fin 2048) (e : Fin 128) : keyAt x s.val e = x (ix3 0 s e) := by
    unfold keyAt
    rw [dif_pos s.isLt]
  have hz (s : Fin 2048) : rowScore (k0_pay164 x0) x1 (rowOf i d) s.val
      = score q k (ix4 b ⟨(g * 128 + d.val) / 64, by omega⟩ ⟨n * 256 + i.val, by omega⟩ s) := by
    rw [rowScore_heads, Cert.ReferenceIdeal.Stick.score_apply, scale_f32]
    refine congrArg (· * _) (Finset.sum_congr rfl fun e _ => ?_)
    have he : (⟨g * 128 + (d.val / 64 * 64 + e.val), by omega⟩ : Fin 512) = ⟨(g * 128 + d.val) / 64 * 64 + e.val, by omega⟩ :=
      Fin.ext (by show g * 128 + (d.val / 64 * 64 + e.val) = (g * 128 + d.val) / 64 * 64 + e.val; omega)
    rw [h0, key, h1, he]
  rw [outBlk_sum, Cert.ReferenceIdeal.Stick.out_apply,
    ← Fin.sum_univ_eq_sum_range (fun j => weight (rowScore (k0_pay164 x0) x1 (rowOf i d)) (256 * n + i.val) 2048 j * keyAt x2 j d) 2048]
  refine Finset.sum_congr rfl fun s _ => ?_
  rw [key, h2, att_weight _ _ _ _ _ _ hz, mul_comm, mul_comm 256 n]

end Cert.KernelIdeal.Stick

end
-- ==== Proof.Array.lean ====
/- The kernel's result array: every grid point's block is the reference's result there, and the blocks fill the array. -/
module

public import proofs.«01_k».proof.Proof.Flush
public import proofs.«01_k».proof.Proof.Meet
public import Idealize.ShloMosaic.Lib.Pipeline.Value

@[expose] public section

set_option maxRecDepth 16384

noncomputable section

namespace Cert.KernelIdeal.Stick

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The reference's result of the kernel's arguments. -/
abbrev whole (c : Dev nD) : Buf (Elt Ideal) ((c : Thread nD τ).loc main_v0) :=
  Cert.ReferenceIdeal.Stick.out (F := Ideal) (m ((c : Thread nD τ).loc main_arg0)) (m ((c : Thread nD τ).loc main_arg1)) (m ((c : Thread nD τ).loc main_arg2))

/-- Where the windows stand at point `t`: batch `t / 32`, head pair `t / 8 mod 4`, query block `t mod 8`. -/
theorem places : ∀ t : Fin grid0.N,
    (win0_0.index t = ![t.val / 32, t.val % 8, t.val / 8 % 4] ∧ win0_1.index t = ![t.val / 32, 0, t.val / 8 % 4])
    ∧ win0_2.index t = ![t.val / 32, 0, t.val / 8 % 4] ∧ win0_3.index t = ![t.val / 32, t.val % 8, t.val / 8 % 4] := by
  decide +kernel

theorem point_lt (t : Fin cfg0.N) : t.val < 512 := lt_of_lt_of_eq t.isLt N_0

theorem queries_blk (c : Dev nD) (t : Fin cfg0.N) (i : Fin 256) (d : Fin 128) :
    iblk m c 0 t (ix3 0 i d) = m ((c : Thread nD τ).loc main_arg0)
      (ix3 ⟨t.val / 32, by have := point_lt t; omega⟩ ⟨t.val % 8 * 256 + i.val, by omega⟩ ⟨t.val / 8 % 4 * 128 + d.val, by omega⟩) := by
  have e := (places t).1.1
  refine congrArg (m ((c : Thread nD τ).loc main_arg0)) (funext fun a => ?_)
  match a with
  | ⟨0, _⟩ => exact Fin.ext (by show win0_0.index t 0 * 1 + 1 * 0 = t.val / 32; rw [e]; show t.val / 32 * 1 + 1 * 0 = _; omega)
  | ⟨1, _⟩ => exact Fin.ext (by show win0_0.index t 1 * 256 + 1 * i.val = t.val % 8 * 256 + i.val; rw [e]; show t.val % 8 * 256 + 1 * i.val = _; omega)
  | ⟨2, _⟩ => exact Fin.ext (by show win0_0.index t 2 * 128 + 1 * d.val = t.val / 8 % 4 * 128 + d.val; rw [e]; show t.val / 8 % 4 * 128 + 1 * d.val = _; omega)

theorem keys_blk (c : Dev nD) (t : Fin cfg0.N) (s : Fin 2048) (d : Fin 128) :
    iblk m c 1 t (ix3 0 s d) = m ((c : Thread nD τ).loc main_arg1)
      (ix3 ⟨t.val / 32, by have := point_lt t; omega⟩ s ⟨t.val / 8 % 4 * 128 + d.val, by omega⟩) := by
  have e := (places t).1.2
  refine congrArg (m ((c : Thread nD τ).loc main_arg1)) (funext fun a => ?_)
  match a with
  | ⟨0, _⟩ => exact Fin.ext (by show win0_1.index t 0 * 1 + 1 * 0 = t.val / 32; rw [e]; show t.val / 32 * 1 + 1 * 0 = _; omega)
  | ⟨1, _⟩ => exact Fin.ext (by show win0_1.index t 1 * 2048 + 1 * s.val = s.val; rw [e]; show 0 * 2048 + 1 * s.val = _; omega)
  | ⟨2, _⟩ => exact Fin.ext (by show win0_1.index t 2 * 128 + 1 * d.val = t.val / 8 % 4 * 128 + d.val; rw [e]; show t.val / 8 % 4 * 128 + 1 * d.val = _; omega)

theorem values_blk (c : Dev nD) (t : Fin cfg0.N) (s : Fin 2048) (d : Fin 128) :
    iblk m c 2 t (ix3 0 s d) = m ((c : Thread nD τ).loc main_arg2)
      (ix3 ⟨t.val / 32, by have := point_lt t; omega⟩ s ⟨t.val / 8 % 4 * 128 + d.val, by omega⟩) := by
  have e := (places t).2.1
  refine congrArg (m ((c : Thread nD τ).loc main_arg2)) (funext fun a => ?_)
  match a with
  | ⟨0, _⟩ => exact Fin.ext (by show win0_2.index t 0 * 1 + 1 * 0 = t.val / 32; rw [e]; show t.val / 32 * 1 + 1 * 0 = _; omega)
  | ⟨1, _⟩ => exact Fin.ext (by show win0_2.index t 1 * 2048 + 1 * s.val = s.val; rw [e]; show 0 * 2048 + 1 * s.val = _; omega)
  | ⟨2, _⟩ => exact Fin.ext (by show win0_2.index t 2 * 128 + 1 * d.val = t.val / 8 % 4 * 128 + d.val; rw [e]; show t.val / 8 % 4 * 128 + 1 * d.val = _; omega)

/-- The place in the result of the output block's query `i` and lane `d`. -/
theorem result_blk (c : Dev nD) (t : Fin cfg0.N) (i : Fin 256) (d : Fin 128) :
    (win0_3.blk t).view.read (Elt Ideal) (whole m c) (ix3 0 i d) = whole m c
      (ix3 ⟨t.val / 32, by have := point_lt t; omega⟩ ⟨t.val % 8 * 256 + i.val, by omega⟩ ⟨t.val / 8 % 4 * 128 + d.val, by omega⟩) := by
  have e := (places t).2.2
  refine congrArg (whole m c) (funext fun a => ?_)
  match a with
  | ⟨0, _⟩ => exact Fin.ext (by show win0_3.index t 0 * 1 + 1 * 0 = t.val / 32; rw [e]; show t.val / 32 * 1 + 1 * 0 = _; omega)
  | ⟨1, _⟩ => exact Fin.ext (by show win0_3.index t 1 * 256 + 1 * i.val = t.val % 8 * 256 + i.val; rw [e]; show t.val % 8 * 256 + 1 * i.val = _; omega)
  | ⟨2, _⟩ => exact Fin.ext (by show win0_3.index t 2 * 128 + 1 * d.val = t.val / 8 % 4 * 128 + d.val; rw [e]; show t.val / 8 % 4 * 128 + 1 * d.val = _; omega)

/-- What point `t` writes back is its block of the reference's result. -/
theorem flushed_whole (c : Dev nD) (t : Fin cfg0.N) :
    (dats m 0 c).flushed 3 t = (win0_3.blk t).view.read (Elt Ideal) (whole m c) := by
  rw [flushed_blk]
  refine funext fun (j : S1x256x128.Idx) => ?_
  idx_vars j
  have hu : j0 = 0 := Subsingleton.elim _ _
  subst hu
  refine Eq.trans ?_ (result_blk m c t j1 j2).symm
  exact outBlk_eq _ _ _ ⟨t.val / 32, by have := point_lt t; omega⟩ (t.val / 8 % 4) (t.val % 8) (by omega) (by omega) _ _ _
    (queries_blk m c t) (keys_blk m c t) (values_blk m c t) j1 j2

theorem mem_blk (t : Fin cfg0.N) (i : S16x2048x512.Idx) :
    i ∈ ((cfg0.win 3).blk t).view.set ↔ ((i 0).val = t.val / 32 ∧ (i 1).val / 256 = t.val % 8) ∧ (i 2).val / 128 = t.val / 8 % 4 := by
  show i ∈ ((View.whole main_v0).slice (win0_3.rect t)).set ↔ _
  rw [View.set_slice_whole, Rect.mem_set_unit]
  have e := (places t).2.2
  have hx (a : Fin 3) : win0_3.index t a * win0_3.size a = ![t.val / 32 * 1, t.val % 8 * 256, t.val / 8 % 4 * 128] a
      ∧ win0_3.xsize (grid0.coords t) a = ![1, 256, 128] a := by
    rw [e]
    match a with
    | ⟨0, _⟩ => exact ⟨rfl, rfl⟩
    | ⟨1, _⟩ => exact ⟨rfl, rfl⟩
    | ⟨2, _⟩ => exact ⟨rfl, rfl⟩
  have hb (a : Fin 3) : (win0_3.index t a * win0_3.size a ≤ (i a).val ∧ (i a).val < win0_3.index t a * win0_3.size a + win0_3.xsize (grid0.coords t) a)
      ↔ ![t.val / 32 * 1, t.val % 8 * 256, t.val / 8 % 4 * 128] a ≤ (i a).val
        ∧ (i a).val < ![t.val / 32 * 1, t.val % 8 * 256, t.val / 8 % 4 * 128] a + ![1, 256, 128] a := by
    rw [(hx a).1, (hx a).2]
  constructor
  · intro h
    have g0 : t.val / 32 * 1 ≤ (i 0).val ∧ (i 0).val < t.val / 32 * 1 + 1 := (hb 0).mp (h 0)
    have g1 : t.val % 8 * 256 ≤ (i 1).val ∧ (i 1).val < t.val % 8 * 256 + 256 := (hb 1).mp (h 1)
    have g2 : t.val / 8 % 4 * 128 ≤ (i 2).val ∧ (i 2).val < t.val / 8 % 4 * 128 + 128 := (hb 2).mp (h 2)
    omega
  · rintro ⟨⟨g0, g1⟩, g2⟩ a
    match a with
    | ⟨0, _⟩ => exact (hb 0).mpr (by show t.val / 32 * 1 ≤ (i 0).val ∧ (i 0).val < t.val / 32 * 1 + 1; omega)
    | ⟨1, _⟩ => exact (hb 1).mpr (by show t.val % 8 * 256 ≤ (i 1).val ∧ (i 1).val < t.val % 8 * 256 + 256; omega)
    | ⟨2, _⟩ => exact (hb 2).mpr (by show t.val / 8 % 4 * 128 ≤ (i 2).val ∧ (i 2).val < t.val / 8 % 4 * 128 + 128; omega)

/-- Every entry of the result is in some point's block. -/
theorem covered (i : S16x2048x512.Idx) : ∃ t : Fin cfg0.N, (cfg0.win 3).flush t = true ∧ i ∈ ((cfg0.win 3).blk t).view.set := by
  have h0 : (i 0).val < 16 := (i 0).isLt
  have h1 : (i 1).val < 2048 := (i 1).isLt
  have h2 : (i 2).val < 512 := (i 2).isLt
  have hN : cfg0.N = 512 := N_0
  refine ⟨⟨(i 0).val * 32 + (i 2).val / 128 * 8 + (i 1).val / 256, by omega⟩, flush0_3 _, ?_⟩
  rw [mem_blk]
  dsimp only
  omega

/-- The result array ends as the reference's result. -/
theorem array_eq (c : Dev nD) : (dats m 0 c).arrAt 3 cfg0.N = whole m c :=
  (dats m 0 c).arrAt_eq_of_cover 3 (whole m c) (fun t _ => flushed_whole m c t) covered

/-- The kernel's run, read. -/
theorem run (ρ : Dev nD → PrngReg) :
    θ_run defs (onTc (τ := τ) (main (F := Ideal))) ⟨m, fun _ => 0, ρ⟩ fun r => ∀ c : Dev nD,
      r.2.mem ((c : Thread nD τ).loc main_v0) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (array_eq m c), (h c).2⟩) (Value.run_blocks m ρ)

end Cert.KernelIdeal.Stick

end
-- ==== Proof.StickVisit.lean ====
/- The visits of the stick-breaking kernel that holds past keys: a block of the 32 new keys, then sixteen blocks of
   256 past keys, met by the 64 rows of a sequence's queries (32 queries, each once for either head of the pair).
   A visit is a function of the running state: the weighted sum of values so far and, per row, the stick already
   broken off. -/
module

public import proofs.«01_k».proof.Proof.Gen.StickSampleIdeal.Skeleton

@[expose] public section

noncomputable section

namespace Cert.StickSampleIdeal.Stick

open Cert.StickSampleIdeal Cert.StickSampleIdeal.Gen Idealize.ShloMosaic Idealize.ShloMosaic.TcCoe

variable {F : FTy → Type} [FloatOps F]

/-- The weighted sum of values after the new keys: the masked visit, of keys up to the row's own. -/
def newAcc (q : FVec F S64x128 .bf16) (k v : Vec F S1x32x128 .bf16) (a : Vec F S64x128 .f32) (c : Vec F S64x1 .f32) : Vec F S64x128 .f32 :=
  k0_pay123 (k0_pay3 v) k0_pay4 (k0_pay5 q k) (k0_pay6 q k) k0_pay7 (Scalar.ofBits .f32 0x00000000#32) c a

/-- The stick broken off after the new keys. -/
def newC (q : FVec F S64x128 .bf16) (k : Vec F S1x32x128 .bf16) (c : Vec F S64x1 .f32) : Vec F S64x1 .f32 :=
  k0_pay124 k0_pay4 (k0_pay6 q k) k0_pay7 (Scalar.ofBits .f32 0x00000000#32) c

/-- The scores of the rows against a block of past keys. -/
def scores (q : FVec F S64x128 .bf16) (k : Vec F S1x256x128 .f32) : FVec F S64x256 .f32 :=
  matmul dot_S64x128_S256x128_S64x256_1_1_0_0_n_n none q
    (truncf .bf16 (shapeCast S256x128 k shapeCasts_S1x256x128_S256x128) bitsLt_bf16_f32) (constant S64x256 .f32 0x00000000#32)

/-- The softplus of every score: `max z 0 + log (1 + exp (-|z|))`. -/
def soft (z : FVec F S64x256 .f32) : FVec F S64x256 .f32 :=
  addf (maximumf z (broadcast S64x256 (Scalar.ofBits .f32 0x00000000#32)))
    (log (addf (broadcast S64x256 (Scalar.ofBits .f32 0x3F800000#32))
      (exp (subf (broadcast S64x256 (Scalar.ofBits .f32 0x00000000#32)) (absf z)))))

/-- The 256 × 256 matrix of ones strictly below the diagonal: entry `(j, s)` says that key `j` is later than `s`. -/
def laterKeys : FVec F S256x256 .bf16 :=
  truncf .bf16 (sitofp .f32 (extui 32 (cmpi .sgt (iota .tc S256x256 32 [0] iota_S256x256_d0_w32)
    (iota .tc S256x256 32 [1] iota_S256x256_d1_w32)) natLt_1_32)) bitsLt_bf16_f32

/-- The sums of a row's drops over the block's later keys. -/
def laterSum (d : FVec F S64x256 .f32) : FVec F S64x256 .f32 :=
  matmul dot_S64x256_S256x256_S64x256_1_0_0_1_n_n none (truncf .bf16 d bitsLt_bf16_f32) laterKeys
    (constant S64x256 .f32 0x00000000#32)

/-- The attention of the rows to the block's keys, given the stick `c` broken off by later blocks. -/
def attn (z : FVec F S64x256 .f32) (c : Vec F S64x1 .f32) : FVec F S64x256 .f32 :=
  exp (subf (subf z (soft z)) (addf (broadcastTo S64x256 c broadcasts_S64x1_S64x256) (laterSum (soft z))))

/-- The weighted sum of values after a block of past keys. -/
def visitAcc (q : FVec F S64x128 .bf16) (k v : Vec F S1x256x128 .f32) (a : Vec F S64x128 .f32) (c : Vec F S64x1 .f32) : Vec F S64x128 .f32 :=
  shapeCast S64x128 (addf a (matmul dot_S64x256_S256x128_S64x128_1_0_0_1_n_n none
    (truncf .bf16 (attn (scores q k) c) bitsLt_bf16_f32)
    (truncf .bf16 (shapeCast S256x128 v shapeCasts_S1x256x128_S256x128) bitsLt_bf16_f32)
    (constant S64x128 .f32 0x00000000#32))) shapeCasts_S64x128_S64x128

/-- The stick broken off after a block of past keys. -/
def visitC (q : FVec F S64x128 .bf16) (k : Vec F S1x256x128 .f32) (c : Vec F S64x1 .f32) : Vec F S64x1 .f32 :=
  shapeCast S64x1 (addf c (addf
    (extractStridedSlice S64x1 ![0, 0] (laterSum (soft (scores q k))) slices_S64x256_o0_0_S64x1)
    (extractStridedSlice S64x1 ![0, 0] (soft (scores q k)) slices_S64x256_o0_0_S64x1))) shapeCasts_S64x1_S64x1

/-- The block of 256 rows of the past that starts at row `256 b`. -/
def pastBlk (x : Vec F S1x4096x128 .f32) (b : ℕ) (hb : b < 16) : Vec F S1x256x128 .f32 :=
  fun j => x (fun a => match a with
    | ⟨0, _⟩ => ⟨(j 0).val, (j 0).isLt⟩
    | ⟨1, _⟩ => ⟨256 * b + (j 1).val, by have h : (j 1).val < 256 := (j 1).isLt; show _ < 4096; omega⟩
    | ⟨2, _⟩ => ⟨(j 2).val, (j 2).isLt⟩)

/-- The stick after the new keys and `k` blocks of the past, the last block first. -/
def stickAfter (q : FVec F S64x128 .bf16) (x1 : Vec F S1x32x128 .bf16) (x3 : Vec F S1x4096x128 .f32) : ℕ → Vec F S64x1 .f32
  | 0 => newC q x1 k0_pay120
  | k + 1 => visitC q (pastBlk x3 (15 - k) (by omega)) (stickAfter q x1 x3 k)

/-- The weighted sum after the new keys and `k` blocks of the past. -/
def sumAfter (q : FVec F S64x128 .bf16) (x1 x2 : Vec F S1x32x128 .bf16) (x3 x4 : Vec F S1x4096x128 .f32) : ℕ → Vec F S64x128 .f32
  | 0 => newAcc q x1 x2 k0_pay119 k0_pay120
  | k + 1 => visitAcc q (pastBlk x3 (15 - k) (by omega)) (pastBlk x4 (15 - k) (by omega))
      (sumAfter q x1 x2 x3 x4 k) (stickAfter q x1 x3 k)

/-- What a grid point leaves in its output block: the sum over all the keys, the first head's lanes from the upper
    rows and the second head's from the lower ones. -/
def outBlk (x0 x1 x2 : Vec F S1x32x128 .bf16) (x3 x4 : Vec F S1x4096x128 .f32) : Vec F S1x32x128 .bf16 :=
  let a := sumAfter (k0_pay118 x0) x1 x2 x3 x4 16
  k0_pay2 (iota .tc S32x128 32 [1] iota_S32x128_d1_w32)
    (fun j => a ((Rect.unit (s := S64x128) ![0, 0] ![32, 128] inb_S64x128_S32x128_0_0).emb j))
    (fun j => a ((Rect.unit (s := S64x128) ![32, 0] ![32, 128] inb_S64x128_S32x128_32_0).emb j))

end Cert.StickSampleIdeal.Stick

end
-- ==== Proof.StickTrip.lean ====
/- The four trips of the kernel's loop over the past keys, four visits each, from the last block of the past to the
   first. -/
module

public import proofs.«01_k».proof.Proof.Gen.StickSampleIdeal.Value
public import proofs.«01_k».proof.Proof.StickVisit
public import proofs.«01_k».proof.Proof.ReadBack

@[expose] public section

set_option maxRecDepth 16384

noncomputable section

namespace Cert.StickSampleIdeal.Stick

open Cert.StickSampleIdeal Cert.StickSampleIdeal.Gen Idealize.ShloMosaic Idealize.ShloMosaic.TcCoe Idealize.SL.Sem
open Cert.KernelIdeal.Stick (read_last load_whole loadCov_last loadCov_part zero2 zero3)

variable {F : FTy → Type} [FloatOps F]

/-- A load of 256 rows of the past from row `256 b` is that block of it. -/
theorem load_past (M : Memref sig .tc .vmem S1x4096x128 .f32) (hM : M.IsWhole) (x : Vec F S1x4096x128 .f32)
    (off : Fin 3 → ℕ) (inb : ∀ a, off a + S1x256x128.size a ≤ S1x4096x128.size a) (b : ℕ) (hb : b < 16)
    (h : off = ![0, 256 * b, 0]) :
    View.readAt (Elt F) M.view (Rect.unit (s := S1x4096x128) off S1x256x128.size inb).toLoadRect (hM.unread x) = pastBlk x b hb := by
  subst h
  funext j
  show M.view.read (Elt F) (hM.unread x) ((Rect.unit (s := S1x4096x128) ![0, 256 * b, 0] S1x256x128.size inb).emb j) = _
  rw [hM.read_unread]
  refine congrArg x (funext fun a => Fin.ext ?_)
  fin_cases a
  · show 0 + 1 * (j 0).val = (j 0).val; omega
  · show 256 * b + 1 * (j 1).val = 256 * b + (j 1).val; omega
  · show 0 + 1 * (j 2).val = (j 2).val; omega

/-- A load of the whole block of queries, new keys or new values. -/
theorem load_new (M : Memref sig .tc .vmem S1x32x128 .bf16) (hM : M.IsWhole) (x : Vec F S1x32x128 .bf16)
    {off : Fin 3 → ℕ} (h : off = ![0, 0, 0]) (inb : ∀ a, off a + S1x32x128.size a ≤ S1x32x128.size a) :
    View.readAt (Elt F) M.view (Rect.unit (s := S1x32x128) off S1x32x128.size inb).toLoadRect (hM.unread x) = x := by
  rw [load_whole M.view _ (h.trans zero3), hM.read_unread]

/-- The loop over the past keys makes four trips. -/
theorem t3_trips : k0_t3_loop.trips = 4 := by decide +kernel

/-- The loops over earlier blocks of the queries' own keys never run. -/
theorem t1_trips : ∀ t : Fin grid0.N, (k0_t1_loop (grid0.coords t)).trips = 0 := by decide +kernel

theorem t2_trips : ∀ t : Fin grid0.N, (k0_t2_loop (grid0.coords t)).trips = 0 := by decide +kernel

/-- Where the four visits of trip `k` load their blocks. -/
theorem off_past : ∀ k : Fin k0_t3_loop.trips,
    (k0_off5 k 15#32 = ![0, 256 * (15 - 4 * k.val), 0] ∧ k0_off5 k 14#32 = ![0, 256 * (15 - (4 * k.val + 1)), 0])
    ∧ k0_off5 k 13#32 = ![0, 256 * (15 - (4 * k.val + 2)), 0] ∧ k0_off5 k 12#32 = ![0, 256 * (15 - (4 * k.val + 3)), 0] := by
  decide +kernel

section Loops

variable (𝒱 : Variants) (c : Dev nD) (bd : Option 𝒱.V) (i : grid0.Coords) (arg3 : Memref sig .tc .vmem S1x32x128 .bf16) (harg3 : arg3.IsWhole) (arg4 : Memref sig .tc .vmem S1x32x128 .bf16) (harg4 : arg4.IsWhole) (arg5 : Memref sig .tc .vmem S1x32x128 .bf16) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x32x128 .bf16) (harg8 : arg8.IsWhole) (arg9 : Memref sig .tc .vmem S64x128 .f32) (harg9 : arg9.IsWhole) (arg10 : Memref sig .tc .vmem S64x1 .f32) (harg10 : arg10.IsWhole)
    (q : FVec F S64x128 .bf16) (v25 v26 v31 v47 c4 : BitVec 32) (v32 : BitVec 1)
    (X4 : BufTy.Contents (Elt F) arg4.view.ty) (X5 : BufTy.Contents (Elt F) arg5.view.ty) (x1 x2 : Vec F S1x32x128 .bf16)
    (x3 x4 : Vec F S1x4096x128 .f32) (G9 : BufTy.Contents (Elt F) arg9.view.ty) (G10 : BufTy.Contents (Elt F) arg10.view.ty)

/-- A loop that does not run stores nothing. -/
theorem pb1_none {n : ℕ} (h : n = 0) :
    pb_k0_t1 (F := F) 𝒱 c bd i arg3 harg3 arg4 harg4 arg5 harg5 arg6 harg6 arg7 harg7 arg8 harg8 arg9 harg9 arg10 harg10 q v25 c4 v26 v31 v32 X4 X5 G9 G10 n = ([], []) := by
  subst h; rfl

theorem pb2_none {n : ℕ} (h : n = 0) :
    pb_k0_t2 (F := F) 𝒱 c bd i arg3 harg3 arg4 harg4 arg5 harg5 arg6 harg6 arg7 harg7 arg8 harg8 arg9 harg9 arg10 harg10 q v25 c4 v26 v31 v32 v47 X4 X5 G9 G10 n = ([], []) := by
  subst h; rfl

theorem trip_lt (k : Fin k0_t3_loop.trips) : k.val < 4 := lt_of_lt_of_eq k.isLt t3_trips

/-- The block that visit `n` of the past meets. -/
def at15 (x : Vec F S1x4096x128 .f32) (n : ℕ) : Vec F S1x256x128 .f32 := pastBlk x (15 - n) (by omega)

/-- The running state after a trip's four visits. -/
def fourC (n : ℕ) (c : Vec F S64x1 .f32) : Vec F S64x1 .f32 :=
  visitC q (at15 x3 (n + 3)) (visitC q (at15 x3 (n + 2)) (visitC q (at15 x3 (n + 1)) (visitC q (at15 x3 n) c)))

def fourAcc (n : ℕ) (a : Vec F S64x128 .f32) (c : Vec F S64x1 .f32) : Vec F S64x128 .f32 :=
  visitAcc q (at15 x3 (n + 3)) (at15 x4 (n + 3))
    (visitAcc q (at15 x3 (n + 2)) (at15 x4 (n + 2))
      (visitAcc q (at15 x3 (n + 1)) (at15 x4 (n + 1)) (visitAcc q (at15 x3 n) (at15 x4 n) a c)
        (visitC q (at15 x3 n) c))
      (visitC q (at15 x3 (n + 1)) (visitC q (at15 x3 n) c)))
    (visitC q (at15 x3 (n + 2)) (visitC q (at15 x3 (n + 1)) (visitC q (at15 x3 n) c)))

/-- What trip `k` stores last, by what the scratch held before it: the sum and the stick after four more visits. -/
theorem trip_last (k : Fin k0_t3_loop.trips) (f9 : BufTy.Contents (Elt F) arg9.view.ty) (f10 : BufTy.Contents (Elt F) arg10.view.ty) :
    (∃ L, (tripL_k0_t3 (F := F) 𝒱 c bd i arg3 harg3 arg4 harg4 arg5 harg5 arg6 harg6 arg7 harg7 arg8 harg8 arg9 harg9 arg10 harg10 q (harg6.unread x3) (harg7.unread x4) k f9 f10).1
      = ⟨Rect.unit ![0, 0] ![64, 128] inb_S64x128_S64x128_0_0, fourAcc q x3 x4 (4 * k.val) (arg9.view.read (Elt F) f9) (arg10.view.read (Elt F) f10)⟩ :: L)
    ∧ ∃ L, (tripL_k0_t3 (F := F) 𝒱 c bd i arg3 harg3 arg4 harg4 arg5 harg5 arg6 harg6 arg7 harg7 arg8 harg8 arg9 harg9 arg10 harg10 q (harg6.unread x3) (harg7.unread x4) k f9 f10).2
      = ⟨Rect.unit ![0, 0] ![64, 1] inb_S64x1_S64x1_0_0, fourC q x3 (4 * k.val) (arg10.view.read (Elt F) f10)⟩ :: L := by
  have hk := trip_lt k
  obtain ⟨⟨o0, o1⟩, o2, o3⟩ := off_past k
  have e9 : View.readAt (Elt F) arg9.view (Rect.unit ![0, 0] ![64, 128] inb_S64x128_S64x128_0_0).toLoadRect f9 = arg9.view.read (Elt F) f9 :=
    load_whole arg9.view _ zero2 _
  have e10 : View.readAt (Elt F) arg10.view (Rect.unit ![0, 0] ![64, 1] inb_S64x1_S64x1_0_0).toLoadRect f10 = arg10.view.read (Elt F) f10 :=
    load_whole arg10.view _ zero2 _
  have ld6 {off : Fin 3 → ℕ} (inb : ∀ a, off a + S1x256x128.size a ≤ S1x4096x128.size a) (n : ℕ) (h : off = ![0, 256 * (15 - n), 0]) :
      View.readAt (Elt F) arg6.view (Rect.unit (s := S1x4096x128) off ![1, 256, 128] inb).toLoadRect (harg6.unread x3) = at15 x3 n :=
    load_past arg6 harg6 x3 off inb (15 - n) (by omega) h
  have ld7 {off : Fin 3 → ℕ} (inb : ∀ a, off a + S1x256x128.size a ≤ S1x4096x128.size a) (n : ℕ) (h : off = ![0, 256 * (15 - n), 0]) :
      View.readAt (Elt F) arg7.view (Rect.unit (s := S1x4096x128) off ![1, 256, 128] inb).toLoadRect (harg7.unread x4) = at15 x4 n :=
    load_past arg7 harg7 x4 off inb (15 - n) (by omega) h
  generalize 4 * k.val = n at o0 o1 o2 o3 ⊢
  unfold tripL_k0_t3 trip_k0_t3
  dsimp only
  refine ⟨⟨_, List.cons_eq_cons.mpr ⟨?_, rfl⟩⟩, ⟨_, List.cons_eq_cons.mpr ⟨?_, rfl⟩⟩⟩
  · refine congrArg (fun w => (⟨Rect.unit ![0, 0] ![64, 128] inb_S64x128_S64x128_0_0, w⟩ : View.Piece (Elt F) S64x128 .f32)) ?_
    simp only [trip_k0_t3.sl.HW_arg9_1, trip_k0_t3.sl.HW_arg9_2, trip_k0_t3.sl.HW_arg9_3, trip_k0_t3.sl.HW_arg10_1, trip_k0_t3.sl.HW_arg10_2, trip_k0_t3.sl.HW_arg10_3, trip_k0_t3.sl.r, trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.v90, trip_k0_t3.sl.v93, trip_k0_t3.sl.v100, trip_k0_t3.sl.v103, trip_k0_t3.sl.v110, trip_k0_t3.sl.v113, trip_k0_t3.sl.v164, trip_k0_t3.sl.v225, trip_k0_t3.sl.v231, trip_k0_t3.sl.v246, trip_k0_t3.sl.v252, trip_k0_t3.sl.v267, trip_k0_t3.sl.v273, loadCov_last arg9.view zero2 zero2, loadCov_last arg10.view zero2 zero2, e9, e10,
      ld6 _ _ o0, ld6 _ _ o1, ld6 _ _ o2, ld6 _ _ o3, ld7 _ _ o0, ld7 _ _ o1, ld7 _ _ o2, ld7 _ _ o3]
    simp only [fourAcc]
    generalize at15 x3 n = K0
    generalize at15 x3 (n + 1) = K1
    generalize at15 x3 (n + 2) = K2
    generalize at15 x3 (n + 3) = K3
    generalize at15 x4 n = V0
    generalize at15 x4 (n + 1) = V1
    generalize at15 x4 (n + 2) = V2
    generalize at15 x4 (n + 3) = V3
    rfl
  · refine congrArg (fun w => (⟨Rect.unit ![0, 0] ![64, 1] inb_S64x1_S64x1_0_0, w⟩ : View.Piece (Elt F) S64x1 .f32)) ?_
    simp only [trip_k0_t3.sl.HW_arg9_1, trip_k0_t3.sl.HW_arg9_2, trip_k0_t3.sl.HW_arg9_3, trip_k0_t3.sl.HW_arg10_1, trip_k0_t3.sl.HW_arg10_2, trip_k0_t3.sl.HW_arg10_3, trip_k0_t3.sl.r, trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, trip_k0_t3.sl.r_9, trip_k0_t3.sl.r_10, trip_k0_t3.sl.r_11, trip_k0_t3.sl.r_12, trip_k0_t3.sl.r_13, trip_k0_t3.sl.r_14, trip_k0_t3.sl.r_15, trip_k0_t3.sl.r_16, trip_k0_t3.sl.r_17, trip_k0_t3.sl.r_18, trip_k0_t3.sl.v90, trip_k0_t3.sl.v93, trip_k0_t3.sl.v100, trip_k0_t3.sl.v103, trip_k0_t3.sl.v110, trip_k0_t3.sl.v113, trip_k0_t3.sl.v164, trip_k0_t3.sl.v225, trip_k0_t3.sl.v231, trip_k0_t3.sl.v246, trip_k0_t3.sl.v252, trip_k0_t3.sl.v267, trip_k0_t3.sl.v273, loadCov_last arg9.view zero2 zero2, loadCov_last arg10.view zero2 zero2, e9, e10,
      ld6 _ _ o0, ld6 _ _ o1, ld6 _ _ o2, ld6 _ _ o3, ld7 _ _ o0, ld7 _ _ o1, ld7 _ _ o2, ld7 _ _ o3]
    simp only [fourC]
    generalize at15 x3 n = K0
    generalize at15 x3 (n + 1) = K1
    generalize at15 x3 (n + 2) = K2
    generalize at15 x3 (n + 3) = K3
    rfl

/-- The scratch after the first `n` trips, when it entered the loop with the state after the new keys. -/
theorem trips_read (h9 : arg9.view.read (Elt F) G9 = sumAfter q x1 x2 x3 x4 0) (h10 : arg10.view.read (Elt F) G10 = stickAfter q x1 x3 0) :
    ∀ n, n ≤ 4 →
    arg9.view.read (Elt F) (arg9.view.writes (Elt F) G9 (pb_k0_t3 (F := F) 𝒱 c bd i arg3 harg3 arg4 harg4 arg5 harg5 arg6 harg6 arg7 harg7 arg8 harg8 arg9 harg9 arg10 harg10 q (harg6.unread x3) (harg7.unread x4) G9 G10 n).1)
      = sumAfter q x1 x2 x3 x4 (4 * n)
    ∧ arg10.view.read (Elt F) (arg10.view.writes (Elt F) G10 (pb_k0_t3 (F := F) 𝒱 c bd i arg3 harg3 arg4 harg4 arg5 harg5 arg6 harg6 arg7 harg7 arg8 harg8 arg9 harg9 arg10 harg10 q (harg6.unread x3) (harg7.unread x4) G9 G10 n).2)
      = stickAfter q x1 x3 (4 * n)
  | 0, _ => ⟨h9, h10⟩
  | n + 1, hn => by
    obtain ⟨i9, i10⟩ := trips_read h9 h10 n (by omega)
    have e := pb_k0_t3_succ (F := F) 𝒱 c bd i arg3 harg3 arg4 harg4 arg5 harg5 arg6 harg6 arg7 harg7 arg8 harg8 arg9 harg9 arg10 harg10 q (harg6.unread x3) (harg7.unread x4) G9 G10 ⟨n, by rw [t3_trips]; omega⟩
    obtain ⟨⟨L9, l9⟩, ⟨L10, l10⟩⟩ := trip_last 𝒱 c bd i arg3 harg3 arg4 harg4 arg5 harg5 arg6 harg6 arg7 harg7 arg8 harg8 arg9 harg9 arg10 harg10 q x3 x4 ⟨n, by rw [t3_trips]; omega⟩
      (arg9.view.writes (Elt F) G9 (pb_k0_t3 (F := F) 𝒱 c bd i arg3 harg3 arg4 harg4 arg5 harg5 arg6 harg6 arg7 harg7 arg8 harg8 arg9 harg9 arg10 harg10 q (harg6.unread x3) (harg7.unread x4) G9 G10 n).1)
      (arg10.view.writes (Elt F) G10 (pb_k0_t3 (F := F) 𝒱 c bd i arg3 harg3 arg4 harg4 arg5 harg5 arg6 harg6 arg7 harg7 arg8 harg8 arg9 harg9 arg10 harg10 q (harg6.unread x3) (harg7.unread x4) G9 G10 n).2)
    rw [l9, l10] at e
    rw [show (⟨n, by rw [t3_trips]; omega⟩ : Fin k0_t3_loop.trips).val + 1 = n + 1 from rfl] at e
    rw [e, List.cons_append, List.cons_append]
    exact ⟨(read_last arg9.view _ zero2 _ _ _).trans (by rw [i9, i10]; rfl), (read_last arg10.view _ zero2 _ _ _).trans (by rw [i10]; rfl)⟩

/-- The loop's last store is of the whole sum. -/
theorem trips_last (h9 : arg9.view.read (Elt F) G9 = sumAfter q x1 x2 x3 x4 0) (h10 : arg10.view.read (Elt F) G10 = stickAfter q x1 x3 0)
    {n : ℕ} (hn : n = 4) :
    ∃ L, (pb_k0_t3 (F := F) 𝒱 c bd i arg3 harg3 arg4 harg4 arg5 harg5 arg6 harg6 arg7 harg7 arg8 harg8 arg9 harg9 arg10 harg10 q (harg6.unread x3) (harg7.unread x4) G9 G10 n).1
      = ⟨Rect.unit ![0, 0] ![64, 128] inb_S64x128_S64x128_0_0, sumAfter q x1 x2 x3 x4 16⟩ :: L := by
  subst hn
  obtain ⟨i9, i10⟩ := trips_read 𝒱 c bd i arg3 harg3 arg4 harg4 arg5 harg5 arg6 harg6 arg7 harg7 arg8 harg8 arg9 harg9 arg10 harg10 q x1 x2 x3 x4 G9 G10 h9 h10 3 (by omega)
  have e := pb_k0_t3_succ (F := F) 𝒱 c bd i arg3 harg3 arg4 harg4 arg5 harg5 arg6 harg6 arg7 harg7 arg8 harg8 arg9 harg9 arg10 harg10 q (harg6.unread x3) (harg7.unread x4) G9 G10 ⟨3, by rw [t3_trips]; omega⟩
  obtain ⟨⟨L9, l9⟩, -⟩ := trip_last 𝒱 c bd i arg3 harg3 arg4 harg4 arg5 harg5 arg6 harg6 arg7 harg7 arg8 harg8 arg9 harg9 arg10 harg10 q x3 x4 ⟨3, by rw [t3_trips]; omega⟩
    (arg9.view.writes (Elt F) G9 (pb_k0_t3 (F := F) 𝒱 c bd i arg3 harg3 arg4 harg4 arg5 harg5 arg6 harg6 arg7 harg7 arg8 harg8 arg9 harg9 arg10 harg10 q (harg6.unread x3) (harg7.unread x4) G9 G10 3).1)
    (arg10.view.writes (Elt F) G10 (pb_k0_t3 (F := F) 𝒱 c bd i arg3 harg3 arg4 harg4 arg5 harg5 arg6 harg6 arg7 harg7 arg8 harg8 arg9 harg9 arg10 harg10 q (harg6.unread x3) (harg7.unread x4) G9 G10 3).2)
  rw [l9, i9, i10] at e
  exact ⟨_, (congrArg Prod.fst e).trans (List.cons_append ..)⟩

end Loops

end Cert.StickSampleIdeal.Stick

end
-- ==== Proof.StickOut.lean ====
/- What a grid point of the kernel that holds past keys leaves in its output block: the visits' fold. -/
module

public import proofs.«01_k».proof.Proof.StickTrip

@[expose] public section

set_option maxRecDepth 16384

noncomputable section

namespace Cert.StickSampleIdeal.Stick

open Cert.StickSampleIdeal Cert.StickSampleIdeal.Gen Idealize.ShloMosaic Idealize.ShloMosaic.TcCoe Idealize.SL.Sem
open Cert.KernelIdeal.Stick (read_last load_whole loadCov_last loadCov_part zero2 zero3)

variable {F : FTy → Type} [FloatOps F]

variable (m : (ℓ : Loc nD τ sig) → Buf (Elt F) ℓ)

/-- There is one block of queries, so its grid coordinate is 0. -/
theorem coord_two (t : Fin grid0.N) : (grid0.coords t 2).val = 0 := by
  have h : (grid0.coords t 2).val < 1 := (grid0.coords t 2).isLt
  omega

/-- The output block of one grid point, from what its input blocks hold. -/
theorem outA (c : Dev nD) (i : grid0.Coords) (arg3 : Memref sig .tc .vmem S1x32x128 .bf16) (harg3 : arg3.IsWhole) (arg4 : Memref sig .tc .vmem S1x32x128 .bf16) (harg4 : arg4.IsWhole) (arg5 : Memref sig .tc .vmem S1x32x128 .bf16) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x32x128 .bf16) (harg8 : arg8.IsWhole) (arg9 : Memref sig .tc .vmem S64x128 .f32) (harg9 : arg9.IsWhole) (arg10 : Memref sig .tc .vmem S64x1 .f32) (harg10 : arg10.IsWhole)
    (hc0 : cond0_0 i) (hc1 : ¬cond0_1 i) (hc2 : ¬cond0_2 i) (x0 x1 x2 : Vec F S1x32x128 .bf16) (x3 x4 : Vec F S1x4096x128 .f32)
    (hi : (i 2).val = 0) (ht1 : (k0_t1_loop i).trips = 0) (ht2 : (k0_t2_loop i).trips = 0) :
    out0_A_5 c i arg3 harg3 arg4 harg4 arg5 harg5 arg6 harg6 arg7 harg7 arg8 harg8 arg9 harg9 arg10 harg10 hc0 hc1 hc2 x0 x1 x2 x3 x4 = outBlk x0 x1 x2 x3 x4 := by
  have o0 : k0_off1 i = ![0, 0, 0] := by simp only [k0_off1, hi]; rfl
  have hq : k0_pay118 (View.readAt (Elt F) arg3.view (Rect.unit ![0, 0, 0] ![1, 32, 128] inb_S1x32x128_S1x32x128_0_0_0).toLoadRect (harg3.unread x0)) = k0_pay118 x0 :=
    congrArg _ (load_new arg3 harg3 x0 rfl _)
  have h9 : arg9.view.read (Elt F) (arg9.view.writes (Elt F) arg9.view.junk (kernelRun0_A.sl.HS0_2 c i arg3 harg3 arg4 harg4 arg5 harg5 arg9 arg10 hc0 x0 x1 x2)) = sumAfter (k0_pay118 x0) x1 x2 x3 x4 0 := by
    unfold kernelRun0_A.sl.HS0_2
    refine (read_last arg9.view _ zero2 _ _ _).trans ?_
    simp only [kernelRun0_A.sl.HS0_1, kernelRun0_A.sl.HS1_1, kernelRun0_A.sl.cst_62, kernelRun0_A.sl.r, kernelRun0_A.sl.r_1, kernelRun0_A.sl.r_2,
      kernelRun0_A.sl.v132, kernelRun0_A.sl.v140, loadCov_last arg9.view zero2 zero2, loadCov_last arg10.view zero2 zero2, hq, load_new _ _ _ o0]
    rfl
  have h10 : arg10.view.read (Elt F) (arg10.view.writes (Elt F) arg10.view.junk (kernelRun0_A.sl.HS1_2 c i arg3 harg3 arg4 harg4 arg10 hc0 x0 x1)) = stickAfter (k0_pay118 x0) x1 x3 0 := by
    unfold kernelRun0_A.sl.HS1_2
    refine (read_last arg10.view _ zero2 _ _ _).trans ?_
    simp only [kernelRun0_A.sl.HS0_1, kernelRun0_A.sl.HS1_1, kernelRun0_A.sl.cst_62, kernelRun0_A.sl.r, kernelRun0_A.sl.r_1, kernelRun0_A.sl.r_2,
      kernelRun0_A.sl.v132, kernelRun0_A.sl.v140, loadCov_last arg9.view zero2 zero2, loadCov_last arg10.view zero2 zero2, hq, load_new _ _ _ o0]
    rfl
  have hr : kernelRun0_A.sl.r_3 c arg3 harg3 x0 = k0_pay118 x0 := hq
  obtain ⟨L, hL⟩ := trips_last Variants.none c none i arg3 harg3 arg4 harg4 arg5 harg5 arg6 harg6 arg7 harg7 arg8 harg8 arg9 harg9 arg10 harg10 (k0_pay118 x0) x1 x2 x3 x4 _ _ h9 h10 (n := k0_t3_loop.trips) t3_trips
  unfold out0_A_5 kernelRun0_A
  rw [read_last VO0_5 _ zero3]
  unfold kernelRun0_A.sl.v77 kernelRun0_A.sl.v78
  simp only [pb2_none (h := ht2), pb1_none (h := ht1), List.nil_append, hr]
  rw [hL, List.cons_append, loadCov_part arg9.view zero2, loadCov_part arg9.view zero2]
  rfl

/-- Point `t` writes back the fold over the keys of its sequence and pair of heads. -/
theorem flushed_blk (c : Dev nD) (t : Fin cfg0.N) :
    (dats m 0 c).flushed 5 t = (cfg0.win 5).cut (grid0.coords t)
      (outBlk (iblk m c 0 t) (iblk m c 1 t) (iblk m c 2 t) (iblk m c 3 t) (iblk m c 4 t)) := by
  rw [Value.flushed5_A m c t]
  exact congrArg _ (outA _ _ _ _ _ _ _ _ _ _ _ _ _ _ _ _ _ _ _ _ _ _ _ _ _ _ (coord_two t) (t1_trips t) (t2_trips t))

end Cert.StickSampleIdeal.Stick

end
-- ==== Proof.StickRead.lean ====
/- The visits of the kernel that holds past keys, read at one row and one key over the extended reals. -/
module

public import proofs.«01_k».proof.Proof.StickVisit
public import proofs.«01_k».proof.Proof.Equation

@[expose] public section

set_option maxRecDepth 16384

noncomputable section

namespace Cert.StickSampleIdeal.Stick

open Cert.StickSampleIdeal Cert.StickSampleIdeal.Gen Idealize.ShloMosaic Idealize.ShloMosaic.TcCoe
open Cert.KernelIdeal.Stick (softplus select_ite)
open scoped BigOperators

theorem scores_apply (q : FVec Ideal S64x128 .bf16) (k : Vec Ideal S1x256x128 .f32) (r : Fin 64) (s : Fin 256) :
    scores q k (ix2 r s) = ∑ d : Fin 128, q (ix2 r d) * k (ix3 0 s d) := by
  pointwise [scores]

theorem soft_apply (z : FVec Ideal S64x256 .f32) (j : S64x256.Idx) : soft z j = softplus (z j) := by
  pointwise [soft]
  rfl

theorem laterSum_apply (d : FVec Ideal S64x256 .f32) (r : Fin 64) (s : Fin 256) :
    laterSum d (ix2 r s) = ∑ x : Fin 256, if s.val < x.val then d (ix2 r x) else 0 := by
  pointwise [laterSum, laterKeys]
  refine Finset.sum_congr rfl fun x _ => ?_
  have hw := WordCmp.cmpi_sgt_ofNat_eq_one_iff (w := 32) (a := x.val) (b := s.val) (by have := x.isLt; omega) (by have := s.isLt; omega)
  rcases BitVec.eq_zero_or_eq_one (IntOp.cmpi CmpIPredicate.sgt (BitVec.ofNat 32 x.val) (BitVec.ofNat 32 s.val)) with e | e
  · rw [e, if_neg (fun h => by rw [hw.mpr h] at e; exact absurd e (by decide))]
    show _ * (((0 : ℤ) : ℝ) : EReal) = 0
    simp
  · rw [e, if_pos (hw.mp e)]
    show _ * (((1 : ℤ) : ℝ) : EReal) = _
    simp

theorem attn_apply (z : FVec Ideal S64x256 .f32) (c : Vec Ideal S64x1 .f32) (r : Fin 64) (s : Fin 256) :
    attn z c (ix2 r s) = Ideal.exp (z (ix2 r s) - softplus (z (ix2 r s)) - (c (ix2 r 0) + laterSum (soft z) (ix2 r s))) := by
  unfold attn
  pointwise []
  rw [soft_apply]

theorem visitC_apply (q : FVec Ideal S64x128 .bf16) (k : Vec Ideal S1x256x128 .f32) (c : Vec Ideal S64x1 .f32) (r : Fin 64) :
    visitC q k c (ix2 r 0) = c (ix2 r 0) + (laterSum (soft (scores q k)) (ix2 r 0) + soft (scores q k) (ix2 r 0)) := by
  pointwise [visitC]

theorem visitAcc_apply (q : FVec Ideal S64x128 .bf16) (k v : Vec Ideal S1x256x128 .f32) (a : Vec Ideal S64x128 .f32)
    (c : Vec Ideal S64x1 .f32) (r : Fin 64) (d : Fin 128) :
    visitAcc q k v a c (ix2 r d) = a (ix2 r d) + ∑ s : Fin 256, attn (scores q k) c (ix2 r s) * v (ix3 0 s d) := by
  pointwise [visitAcc]

/-! ## The visit of the new keys -/

theorem newScores_apply (q : FVec Ideal S64x128 .bf16) (k : Vec Ideal S1x32x128 .bf16) (r : Fin 64) (s : Fin 32) :
    k0_pay5 q k (ix2 r s) = ∑ d : Fin 128, q (ix2 r d) * k (ix3 0 s d) := by
  pointwise [k0_pay5]

theorem newSoft_apply (q : FVec Ideal S64x128 .bf16) (k : Vec Ideal S1x32x128 .bf16) (j : S64x32.Idx) :
    k0_pay6 q k j = softplus (k0_pay5 q k j) := by
  unfold k0_pay6
  generalize k0_pay5 q k = z
  pointwise []
  rfl

/-- The word of a row's position inside its 32 rows. -/
theorem row_word : ∀ r : Fin 64, (Scalar.select
        (IntOp.andi
          (IntOp.xori
            (IntOp.cmpi CmpIPredicate.slt
              (IntOp.remsi ArithUnit.vector (BitVec.ofNat 32 r.val)
                (Scalar.select (Scalar.cmpi CmpIPredicate.eq 32#32 0#32) 1#32 32#32))
              0#32)
            (Scalar.cmpi CmpIPredicate.slt (Scalar.select (Scalar.cmpi CmpIPredicate.eq 32#32 0#32) 1#32 32#32) 0#32))
          (IntOp.cmpi CmpIPredicate.ne
            (IntOp.remsi ArithUnit.vector (BitVec.ofNat 32 r.val)
              (Scalar.select (Scalar.cmpi CmpIPredicate.eq 32#32 0#32) 1#32 32#32))
            0#32))
        (IntOp.addi
          (IntOp.remsi ArithUnit.vector (BitVec.ofNat 32 r.val)
            (Scalar.select (Scalar.cmpi CmpIPredicate.eq 32#32 0#32) 1#32 32#32))
          (Scalar.select (Scalar.cmpi CmpIPredicate.eq 32#32 0#32) 1#32 32#32))
        (IntOp.remsi ArithUnit.vector (BitVec.ofNat 32 r.val)
          (Scalar.select (Scalar.cmpi CmpIPredicate.eq 32#32 0#32) 1#32 32#32)) : BitVec 32) = BitVec.ofNat 32 (r.val % 32) := by
  decide +kernel

/-- The mask of the new keys lets a row see the keys before its own query. -/
theorem newMask_iff (r : Fin 64) (s : Fin 32) : k0_pay7 (ix2 r s) = 1#1 ↔ s.val < r.val % 32 := by
  pointwise [k0_pay7]
  rw [row_word, WordCmp.cmpi_slt_ofNat_eq_one_iff (by have := s.isLt; omega) (by omega)]

theorem newDropped_apply (z : FVec Ideal S64x32 .f32) (r : Fin 64) (s : Fin 32) :
    k0_pay121 z k0_pay7 (Scalar.ofBits .f32 0x00000000#32) (ix2 r s) = if s.val < r.val % 32 then z (ix2 r s) else 0 := by
  unfold k0_pay121
  pointwise []
  rw [select_ite _ _ (newMask_iff r s)]

theorem newLater_apply (z : FVec Ideal S64x32 .f32) (r : Fin 64) (s : Fin 32) :
    k0_pay122 k0_pay4 z k0_pay7 (Scalar.ofBits .f32 0x00000000#32) (ix2 r s)
      = ∑ x : Fin 32, if s.val < x.val then k0_pay121 z k0_pay7 (Scalar.ofBits .f32 0x00000000#32) (ix2 r x) else 0 := by
  unfold k0_pay122
  generalize k0_pay121 z k0_pay7 (Scalar.ofBits .f32 0x00000000#32) = d
  pointwise [k0_pay4]
  refine Finset.sum_congr rfl fun x _ => ?_
  have hw := WordCmp.cmpi_sgt_ofNat_eq_one_iff (w := 32) (a := x.val) (b := s.val) (by have := x.isLt; omega) (by have := s.isLt; omega)
  rcases BitVec.eq_zero_or_eq_one (IntOp.cmpi CmpIPredicate.sgt (BitVec.ofNat 32 x.val) (BitVec.ofNat 32 s.val)) with e | e
  · rw [e, if_neg (fun h => by rw [hw.mpr h] at e; exact absurd e (by decide))]
    show _ * (((0 : ℤ) : ℝ) : EReal) = 0
    simp
  · rw [e, if_pos (hw.mp e)]
    show _ * (((1 : ℤ) : ℝ) : EReal) = _
    simp

theorem newC_apply (q : FVec Ideal S64x128 .bf16) (k : Vec Ideal S1x32x128 .bf16) (c : Vec Ideal S64x1 .f32) (r : Fin 64) :
    newC q k c (ix2 r 0) = c (ix2 r 0) + (k0_pay122 k0_pay4 (k0_pay6 q k) k0_pay7 (Scalar.ofBits .f32 0x00000000#32) (ix2 r 0)
      + k0_pay121 (k0_pay6 q k) k0_pay7 (Scalar.ofBits .f32 0x00000000#32) (ix2 r 0)) := by
  unfold newC k0_pay124
  generalize k0_pay122 k0_pay4 (k0_pay6 q k) k0_pay7 (Scalar.ofBits .f32 0x00000000#32) = l
  generalize k0_pay121 (k0_pay6 q k) k0_pay7 (Scalar.ofBits .f32 0x00000000#32) = d
  pointwise []

theorem newAcc_apply (q : FVec Ideal S64x128 .bf16) (k v : Vec Ideal S1x32x128 .bf16) (a : Vec Ideal S64x128 .f32)
    (c : Vec Ideal S64x1 .f32) (r : Fin 64) (d : Fin 128) :
    newAcc q k v a c (ix2 r d) = a (ix2 r d) + ∑ s : Fin 32, (if s.val < r.val % 32 then
        Ideal.exp (k0_pay5 q k (ix2 r s) - softplus (k0_pay5 q k (ix2 r s))
          - (c (ix2 r 0) + k0_pay122 k0_pay4 (k0_pay6 q k) k0_pay7 (Scalar.ofBits .f32 0x00000000#32) (ix2 r s))) else 0) * v (ix3 0 s d) := by
  simp only [← newSoft_apply]
  unfold newAcc k0_pay123
  generalize k0_pay122 k0_pay4 (k0_pay6 q k) k0_pay7 (Scalar.ofBits .f32 0x00000000#32) = l
  generalize k0_pay6 q k = u
  generalize k0_pay5 q k = z
  pointwise [k0_pay3]
  refine congrArg _ (Finset.sum_congr rfl fun s _ => ?_)
  rw [select_ite _ _ (newMask_iff r s)]
  split <;> simp

/-! ## The rows, the output's lanes and the start -/

/-- The rows of the kernel's queries: each query twice, scaled, with the other head's lanes emptied. -/
theorem queries_apply (x : Vec Ideal S1x32x128 .bf16) (r : Fin 64) (d : Fin 128) :
    k0_pay118 x (ix2 r d) = if d.val / 64 = r.val / 32 then
      x (ix3 0 ⟨r.val % 32, Nat.mod_lt _ (by decide)⟩ d) * Ideal.ofBits .bf16 0x3E00#16 else 0 := by
  have hr := r.isLt
  have hd := d.isLt
  pointwise [k0_pay118]
  split
  · rename_i h
    have e : (⟨r.val % 32, Nat.mod_lt _ (by decide)⟩ : Fin 32) = ⟨r.val, h⟩ := Fin.ext (Nat.mod_eq_of_lt h)
    rw [select_ite _ (d.val / 64 = r.val / 32)
      ((WordCmp.cmpi_slt_ofNat_eq_one_iff (by omega) (by decide)).trans (by omega)), e]
  · rename_i h
    have e : (⟨r.val % 32, Nat.mod_lt _ (by decide)⟩ : Fin 32) = ⟨r.val - 32, by omega⟩ := Fin.ext (by show r.val % 32 = r.val - 32; omega)
    rw [select_ite _ (d.val / 64 = r.val / 32)
      ((WordCmp.cmpi_sge_ofNat_eq_one_iff (by omega) (by decide)).trans (by omega)), e]

/-- The output block's lanes: the first head's from the upper rows, the second head's from the lower. -/
theorem merge_apply (a b : Vec Ideal S32x128 .f32) (r : Fin 32) (d : Fin 128) :
    k0_pay2 (iota .tc S32x128 32 [1] iota_S32x128_d1_w32) a b (ix3 0 r d) = if d.val < 64 then a (ix2 r d) else b (ix2 r d) := by
  have hd := d.isLt
  pointwise [k0_pay2]
  rw [select_ite _ (d.val < 64) (WordCmp.cmpi_slt_ofNat_eq_one_iff (by omega) (by decide))]

theorem sum_start (r : Fin 64) (d : Fin 128) : k0_pay119 (F := Ideal) (ix2 r d) = 0 := by
  pointwise [k0_pay119]

theorem stick_start (r : Fin 64) : k0_pay120 (F := Ideal) (ix2 r 0) = 0 := by
  pointwise [k0_pay120]

end Cert.StickSampleIdeal.Stick

end
-- ==== Proof.StickFold.lean ====
/- What the visits of the new and the past keys add up to, for one row: sums over ranges of keys. Keys are numbered
   as a sequence holds them, the 4096 past ones first and the 32 new ones after. -/
module

public import proofs.«01_k».proof.Proof.StickRead

@[expose] public section

set_option maxRecDepth 16384

noncomputable section

namespace Cert.StickSampleIdeal.Stick

open Cert.StickSampleIdeal Cert.StickSampleIdeal.Gen Idealize.ShloMosaic Idealize.ShloMosaic.TcCoe
open Cert.KernelIdeal.Stick (softplus drop weight exponent_eq sum_neg_nonneg drop_nonneg sum_scale scale_bf16 sum_later sum_block)
open scoped BigOperators

/-- Lane `d` of key (or value) `s` of a sequence: a past one, or a new one. -/
def keyAt (new : Vec Ideal S1x32x128 .bf16) (past : Vec Ideal S1x4096x128 .f32) (s : ℕ) (d : Fin 128) : EReal :=
  if h : s < 4096 then past (ix3 0 ⟨s, h⟩ d) else if h : s - 4096 < 32 then new (ix3 0 ⟨s - 4096, h⟩ d) else 0

/-- The score of row `r` against key `s`. -/
def rowScore (q : FVec Ideal S64x128 .bf16) (new : Vec Ideal S1x32x128 .bf16) (past : Vec Ideal S1x4096x128 .f32) (r : Fin 64) (s : ℕ) : EReal :=
  ∑ d : Fin 128, q (ix2 r d) * keyAt new past s d

theorem pastBlk_apply (new : Vec Ideal S1x32x128 .bf16) (x : Vec Ideal S1x4096x128 .f32) (b : ℕ) (hb : b < 16) (s : Fin 256) (d : Fin 128) :
    pastBlk x b hb (ix3 0 s d) = keyAt new x (256 * b + s.val) d := by
  have hs := s.isLt
  unfold keyAt
  rw [dif_pos (show 256 * b + s.val < 4096 by omega)]
  unfold pastBlk
  refine congrArg x (funext fun a => ?_)
  match a with
  | ⟨0, _⟩ => rfl
  | ⟨1, _⟩ => rfl
  | ⟨2, _⟩ => rfl

theorem new_apply (new : Vec Ideal S1x32x128 .bf16) (x : Vec Ideal S1x4096x128 .f32) (s : Fin 32) (d : Fin 128) :
    new (ix3 0 s d) = keyAt new x (4096 + s.val) d := by
  have hs := s.isLt
  unfold keyAt
  rw [dif_neg (show ¬ 4096 + s.val < 4096 by omega), dif_pos (show 4096 + s.val - 4096 < 32 by omega)]
  exact congrArg (fun e => new (ix3 0 e d)) (Fin.ext (by show s.val = 4096 + s.val - 4096; omega))

/-- A sum over the later new keys is a sum over a range of keys. -/
theorem sum_later_new (f : ℕ → EReal) (o s : ℕ) :
    (∑ x : Fin 32, if s < x.val then f (o + x.val) else 0) = ∑ j ∈ Finset.Ico (o + s + 1) (o + 32), f j := by
  rw [Fin.sum_univ_eq_sum_range (fun x => if s < x then f (o + x) else 0) 32, ← Finset.sum_filter,
    show (Finset.range 32).filter (s < ·) = Finset.Ico (s + 1) 32 by ext a; simp; omega,
    Finset.sum_Ico_add f (s + 1) 32 o]
  congr 2 <;> omega

/-- A sum over the new keys is a sum over a range of keys. -/
theorem sum_new (f : ℕ → EReal) (o : ℕ) : (∑ x : Fin 32, f (o + x.val)) = ∑ j ∈ Finset.Ico o (o + 32), f j := by
  rw [Fin.sum_univ_eq_sum_range (fun x => f (o + x)) 32, Finset.range_eq_Ico, Finset.sum_Ico_add f 0 32 o]
  congr 2 <;> omega

variable (q : FVec Ideal S64x128 .bf16) (x1 x2 : Vec Ideal S1x32x128 .bf16) (x3 x4 : Vec Ideal S1x4096x128 .f32)

/-! ## The new keys -/

theorem newScore (r : Fin 64) (s : Fin 32) : k0_pay5 q x1 (ix2 r s) = rowScore q x1 x3 r (4096 + s.val) := by
  rw [newScores_apply]
  exact Finset.sum_congr rfl fun d _ => by rw [new_apply x1 x3]

theorem newDrop (r : Fin 64) (s : Fin 32) :
    k0_pay121 (k0_pay6 q x1) k0_pay7 (Scalar.ofBits .f32 0x00000000#32) (ix2 r s)
      = drop (rowScore q x1 x3 r) (4096 + r.val % 32) (4096 + s.val) := by
  rw [newDropped_apply, newSoft_apply, newScore q x1 x3]
  exact if_congr (by omega) rfl rfl

theorem newLater (r : Fin 64) (s : Fin 32) :
    k0_pay122 k0_pay4 (k0_pay6 q x1) k0_pay7 (Scalar.ofBits .f32 0x00000000#32) (ix2 r s)
      = ∑ j ∈ Finset.Ico (4096 + s.val + 1) 4128, drop (rowScore q x1 x3 r) (4096 + r.val % 32) j := by
  rw [newLater_apply, show (4128 : ℕ) = 4096 + 32 from rfl, ← sum_later_new]
  exact Finset.sum_congr rfl fun x _ => by rw [newDrop q x1 x3]

theorem newC_sum (c : Vec Ideal S64x1 .f32) (r : Fin 64) (hc : c (ix2 r 0) = 0) : newC q x1 c (ix2 r 0)
    = ∑ j ∈ Finset.Ico 4096 4128, drop (rowScore q x1 x3 r) (4096 + r.val % 32) j := by
  rw [newC_apply, newLater q x1 x3, newDrop q x1 x3, hc, zero_add, Finset.sum_eq_sum_Ico_succ_bot (show 4096 < 4128 by omega),
    add_comm (drop _ _ _)]
  rfl

theorem newAcc_sum (a : Vec Ideal S64x128 .f32) (c : Vec Ideal S64x1 .f32) (r : Fin 64) (d : Fin 128)
    (ha : a (ix2 r d) = 0) (hc : c (ix2 r 0) = 0) : newAcc q x1 x2 a c (ix2 r d)
    = ∑ j ∈ Finset.Ico 4096 4128, weight (rowScore q x1 x3 r) (4096 + r.val % 32) 4128 j * keyAt x2 x4 j d := by
  rw [newAcc_apply, ha, zero_add, show (Finset.Ico 4096 4128) = Finset.Ico 4096 (4096 + 32) from rfl, ← sum_new]
  refine Finset.sum_congr rfl fun s _ => ?_
  rw [new_apply x2 x4, newScore q x1 x3, newLater q x1 x3, hc, zero_add]
  exact congrArg (· * _) (if_congr (by omega) rfl rfl)

/-! ## A block of past keys -/

theorem blockScore (b : ℕ) (hb : b < 16) (r : Fin 64) (s : Fin 256) :
    scores q (pastBlk x3 b hb) (ix2 r s) = rowScore q x1 x3 r (256 * b + s.val) := by
  rw [scores_apply]
  exact Finset.sum_congr rfl fun d _ => by rw [pastBlk_apply x1]

theorem blockDrop {b : ℕ} (hb : b < 16) (r : Fin 64) (s : Fin 256) :
    soft (scores q (pastBlk x3 b hb)) (ix2 r s) = drop (rowScore q x1 x3 r) (4096 + r.val % 32) (256 * b + s.val) := by
  have hs := s.isLt
  rw [soft_apply, blockScore q x1, drop, if_pos (by omega)]

theorem blockLater {b : ℕ} (hb : b < 16) (r : Fin 64) (s : Fin 256) :
    laterSum (soft (scores q (pastBlk x3 b hb))) (ix2 r s)
      = ∑ j ∈ Finset.Ico (256 * b + s.val + 1) (256 * b + 256), drop (rowScore q x1 x3 r) (4096 + r.val % 32) j := by
  rw [laterSum_apply, ← sum_later]
  exact Finset.sum_congr rfl fun x _ => by rw [blockDrop q x1]

/-- One visit breaks the block's drops off the stick. -/
theorem visitC_sum {b : ℕ} (hb : b < 16) (r : Fin 64) (c : Vec Ideal S64x1 .f32) :
    visitC q (pastBlk x3 b hb) c (ix2 r 0)
      = c (ix2 r 0) + ∑ j ∈ Finset.Ico (256 * b) (256 * b + 256), drop (rowScore q x1 x3 r) (4096 + r.val % 32) j := by
  rw [visitC_apply, blockLater q x1, blockDrop q x1, Finset.sum_eq_sum_Ico_succ_bot (show 256 * b < 256 * b + 256 by omega),
    add_comm (drop _ _ _)]
  rfl

/-- One visit adds the block's weighted values, when the stick was broken by the later keys. -/
theorem visitAcc_sum {b : ℕ} (hb : b < 16) (r : Fin 64) (a : Vec Ideal S64x128 .f32) (c : Vec Ideal S64x1 .f32)
    (hc : c (ix2 r 0) = ∑ j ∈ Finset.Ico (256 * b + 256) 4128, drop (rowScore q x1 x3 r) (4096 + r.val % 32) j) (d : Fin 128) :
    visitAcc q (pastBlk x3 b hb) (pastBlk x4 b hb) a c (ix2 r d)
      = a (ix2 r d) + ∑ j ∈ Finset.Ico (256 * b) (256 * b + 256),
          weight (rowScore q x1 x3 r) (4096 + r.val % 32) 4128 j * keyAt x2 x4 j d := by
  rw [visitAcc_apply, ← sum_block]
  refine congrArg _ (Finset.sum_congr rfl fun s _ => ?_)
  have hs := s.isLt
  rw [attn_apply, pastBlk_apply x2, blockScore q x1, blockLater q x1, hc, add_comm (Finset.sum _ _),
    Finset.sum_Ico_consecutive _ (show 256 * b + s.val + 1 ≤ 256 * b + 256 by omega) (show 256 * b + 256 ≤ 4128 by omega),
    weight, if_pos (by omega)]

/-! ## All the visits -/

/-- The stick after `k` blocks of the past is broken by the new keys and those blocks. -/
theorem stickAfter_sum (r : Fin 64) : ∀ k, k ≤ 16 → stickAfter q x1 x3 k (ix2 r 0)
    = ∑ j ∈ Finset.Ico (256 * (16 - k)) 4128, drop (rowScore q x1 x3 r) (4096 + r.val % 32) j
  | 0, _ => by
    rw [stickAfter, newC_sum q x1 x3 _ _ (stick_start r)]
  | k + 1, hk => by
    rw [stickAfter, visitC_sum q x1 x3, stickAfter_sum r k (by omega), add_comm,
      show 256 * (16 - k) = 256 * (15 - k) + 256 by omega, show 256 * (16 - (k + 1)) = 256 * (15 - k) by omega,
      Finset.sum_Ico_consecutive _ (by omega) (by omega)]

/-- The sum after `k` blocks of the past holds the weighted values of the new keys and those blocks. -/
theorem sumAfter_sum (r : Fin 64) (d : Fin 128) : ∀ k, k ≤ 16 → sumAfter q x1 x2 x3 x4 k (ix2 r d)
    = ∑ j ∈ Finset.Ico (256 * (16 - k)) 4128, weight (rowScore q x1 x3 r) (4096 + r.val % 32) 4128 j * keyAt x2 x4 j d
  | 0, _ => by
    rw [sumAfter, newAcc_sum q x1 x2 x3 x4 _ _ _ _ (sum_start r d) (stick_start r)]
  | k + 1, hk => by
    rw [sumAfter, visitAcc_sum q x1 x2 x3 x4 _ _ _ _ ((stickAfter_sum q x1 x3 r k (by omega)).trans
        (by rw [show 256 * (16 - k) = 256 * (15 - k) + 256 by omega])),
      sumAfter_sum r d k (by omega), add_comm (Finset.sum _ _),
      show 256 * (16 - k) = 256 * (15 - k) + 256 by omega, show 256 * (16 - (k + 1)) = 256 * (15 - k) by omega,
      Finset.sum_Ico_consecutive _ (by omega) (by omega)]

/-- The row that the output's lane `d` reads for the block's query `i`. -/
def rowOf (i : Fin 32) (d : Fin 128) : Fin 64 := ⟨32 * (d.val / 64) + i.val, by have := i.isLt; have := d.isLt; omega⟩

/-- The output block: at query `i` and lane `d` the weighted sum of all the values. -/
theorem outBlk_sum (x0 : Vec Ideal S1x32x128 .bf16) (i : Fin 32) (d : Fin 128) :
    outBlk x0 x1 x2 x3 x4 (ix3 0 i d)
      = ∑ j ∈ Finset.range 4128, weight (rowScore (k0_pay118 x0) x1 x3 (rowOf i d)) (4096 + i.val) 4128 j * keyAt x2 x4 j d := by
  have hi := i.isLt
  have hd := d.isLt
  have hrow : (rowOf i d).val % 32 = i.val := by show (32 * (d.val / 64) + i.val) % 32 = i.val; omega
  have key : outBlk x0 x1 x2 x3 x4 (ix3 0 i d) = sumAfter (k0_pay118 x0) x1 x2 x3 x4 16 (ix2 (rowOf i d) d) := by
    unfold outBlk
    rw [merge_apply]
    by_cases h : d.val < 64
    · rw [if_pos h]
      refine congrArg _ (funext fun a => ?_)
      match a with
      | ⟨0, _⟩ => exact Fin.ext ((Rect.emb_apply _ _ _).trans (by show 0 + 1 * i.val = 32 * (d.val / 64) + i.val; omega))
      | ⟨1, _⟩ => exact Fin.ext ((Rect.emb_apply _ _ _).trans (by show 0 + 1 * d.val = d.val; omega))
    · rw [if_neg h]
      refine congrArg _ (funext fun a => ?_)
      match a with
      | ⟨0, _⟩ => exact Fin.ext ((Rect.emb_apply _ _ _).trans (by show 32 + 1 * i.val = 32 * (d.val / 64) + i.val; omega))
      | ⟨1, _⟩ => exact Fin.ext ((Rect.emb_apply _ _ _).trans (by show 0 + 1 * d.val = d.val; omega))
  rw [key, sumAfter_sum _ _ _ _ _ _ _ _ le_rfl, hrow, Nat.sub_self, Nat.mul_zero, Finset.range_eq_Ico]

/-- One weight, the reference's way: `L` is minus the drops of the keys from `s` on. -/
theorem weight_eq (z : ℕ → EReal) (p s : ℕ) (hs : s < 4128) :
    weight z p 4128 s = if s < p then
      Ideal.exp (-softplus (-z s) + ((∑ j ∈ Finset.Ico s 4128, -drop z p j) - -drop z p s)) else 0 := by
  unfold weight
  refine if_ctx_congr Iff.rfl (fun hp => ?_) (fun _ => rfl)
  have hd : drop z p s = softplus (z s) := if_pos hp
  rw [sum_neg_nonneg _ (drop_nonneg z p), Finset.sum_eq_sum_Ico_succ_bot hs, hd,
    exponent_eq _ _ (Finset.sum_nonneg fun j _ => drop_nonneg z p j)]

/-- The score of a row of the kernel: one head's lanes of the query against the key, then the scale. -/
theorem rowScore_heads (x0 : Vec Ideal S1x32x128 .bf16) (i : Fin 32) (d : Fin 128) (s : ℕ) :
    rowScore (k0_pay118 x0) x1 x3 (rowOf i d) s
      = (∑ e : Fin 64, x0 (ix3 0 i ⟨d.val / 64 * 64 + e.val, by omega⟩) * keyAt x1 x3 s ⟨d.val / 64 * 64 + e.val, by omega⟩)
        * (((1 : ℝ) / 8 : ℝ) : EReal) := by
  have hi := i.isLt
  have hd := d.isLt
  have hq : (rowOf i d).val / 32 = d.val / 64 := by show (32 * (d.val / 64) + i.val) / 32 = _; omega
  have hr : (⟨(rowOf i d).val % 32, Nat.mod_lt _ (by decide)⟩ : Fin 32) = i :=
    Fin.ext (by show (32 * (d.val / 64) + i.val) % 32 = i.val; omega)
  have hterm (e : Fin 128) : k0_pay118 x0 (ix2 (rowOf i d) e) * keyAt x1 x3 s e
      = if e.val / 64 = d.val / 64 then x0 (ix3 0 i e) * keyAt x1 x3 s e * (((1 : ℝ) / 8 : ℝ) : EReal) else 0 := by
    rw [queries_apply, hq, hr, scale_bf16]
    split
    · rw [mul_right_comm]
    · rw [zero_mul]
  rw [← sum_scale _ _ _ (by norm_num)]
  unfold rowScore
  rw [Finset.sum_congr rfl fun e _ => hterm e]
  refine (Fin.sum_univ_add (a := 64) (b := 64) _).trans ?_
  rcases (by omega : d.val / 64 = 0 ∨ d.val / 64 = 1) with h | h
  · refine (congrArg (_ + ·) (Finset.sum_eq_zero fun e _ => if_neg (by show ¬ (64 + e.val) / 64 = d.val / 64; omega))).trans ?_
    rw [add_zero]
    refine Finset.sum_congr rfl fun e _ => ?_
    have he : (Fin.castAdd 64 e : Fin 128) = ⟨d.val / 64 * 64 + e.val, by omega⟩ := Fin.ext (by show e.val = d.val / 64 * 64 + e.val; omega)
    rw [if_pos (by show e.val / 64 = d.val / 64; omega), he]
  · refine (congrArg (· + _) (Finset.sum_eq_zero fun e _ => if_neg (by show ¬ e.val / 64 = d.val / 64; omega))).trans ?_
    rw [zero_add]
    refine Finset.sum_congr rfl fun e _ => ?_
    have he : (Fin.natAdd 64 e : Fin 128) = ⟨d.val / 64 * 64 + e.val, by omega⟩ := Fin.ext (by show 64 + e.val = d.val / 64 * 64 + e.val; omega)
    rw [if_pos (by show (64 + e.val) / 64 = d.val / 64; omega), he]

end Cert.StickSampleIdeal.Stick

end
-- ==== Proof.StickRef.lean ====
/- The operations of the reference that holds past keys, named, and read at one index over the extended reals. -/
module

public import proofs.«01_k».proof.Proof.Gen.StickSampleReferenceIdeal.Run
public import proofs.«01_k».proof.Proof.RefRead
public import Idealize.ShloMosaic.Lib.Pointwise
public import Idealize.ShloMosaic.Lib.WordCmp

@[expose] public section

set_option maxRecDepth 16384

noncomputable section

namespace Cert.StickSampleReferenceIdeal.Stick

open Cert.StickSampleReferenceIdeal Cert.StickSampleReferenceIdeal.Gen Idealize.ShloMosaic Idealize.ShloMosaic.TcCoe Idealize.SL.Sem Idealize.ShloMosaic.StableHlo
open Cert.ReferenceIdeal.Stick (foldl_sum)
open scoped BigOperators

section Names

variable {F : FTy → Type} [FloatOps F]

/-- A sequence's lanes split into its eight heads. -/
def heads (x : FVec F S8x32x512 .bf16) : FVec F S8x32x8x64 .f32 :=
  shapeCast S8x32x8x64 (extf .f32 x bitsLt_bf16_f32) shapeCasts_S8x32x512_S8x32x8x64

/-- The past keys (or values) of a sequence and its new ones after them. -/
def joined (new : FVec F S8x32x512 .bf16) (past : FVec F S8x4096x8x64 .f32) : FVec F S8x4128x8x64 .f32 :=
  concatenate S8x4128x8x64 1 [⟨S8x4096x8x64, past⟩, ⟨S8x32x8x64, heads new⟩] concatenates_S8x4096x8x64_S8x32x8x64_S8x4128x8x64_d1

/-- Zero at every query and key. -/
def zeros : FVec F S8x8x32x4128 .f32 := broadcastInDim S8x8x32x4128 ![] bcast_S_S8x8x32x4128 (constant S_ .f32 0x00000000#32)

/-- Zero as the reference's `where` spreads it. -/
def zeros' : FVec F S8x8x32x4128 .f32 := broadcastInDim S8x8x32x4128 ![] bcast_S_S8x8x32x4128 (id (constant S_ .f32 0x00000000#32))

/-- The scaled scores. -/
def score (q k : FVec F S8x32x512 .bf16) (pk : FVec F S8x4096x8x64 .f32) : FVec F S8x8x32x4128 .f32 :=
  mulf (Host.dotGeneral dot_S8x32x8x64_S8x4128x8x64_S8x8x32x4128_3_3_1_1_02_02 none (heads q) (joined k pk))
    (broadcastInDim S8x8x32x4128 ![] bcast_S_S8x8x32x4128 (constant S_ .f32 0x3E000000#32))

/-- `logaddexp x 0`. -/
def plus (x : FVec F S8x8x32x4128 .f32) : FVec F S8x8x32x4128 .f32 :=
  select (cmpf .une (subf x zeros) (subf x zeros)) (addf x zeros)
    (addf (maximumf x zeros) (Host.log1p (Host.exp (Host.negf (Host.absf (subf x zeros))))))

/-- Which keys are before a query, the queries' own positions starting after the past keys. -/
def before : IVec S8x8x32x4128 1 :=
  broadcastInDim S8x8x32x4128 ![2, 3] bcast_S32x4128_S8x8x32x4128_2_3 (cmpi .slt (broadcastInDim S32x4128 ![0, 1] bcast_S1x4128_S32x4128_0_1 (broadcastInDim S1x4128 ![1] bcast_S4128_S1x4128_1 (iotaInDim S4128 32 0))) (broadcastInDim S32x4128 ![0, 1] bcast_S32x1_S32x4128_0_1 (addi (broadcastInDim S32x1 ![] bcast_S_S32x1 (constantI S_ 32 4096#32)) (broadcastInDim S32x1 ![0] bcast_S32_S32x1_0 (iotaInDim S32 32 0)))))

/-- The logarithm of what each key leaves of the stick. -/
def keep (z : FVec F S8x8x32x4128 .f32) : FVec F S8x8x32x4128 .f32 :=
  select before (Host.negf (plus (Host.negf (Host.negf z)))) zeros'

/-- The sums of a row over a key and all later ones. -/
def onward (x : FVec F S8x8x32x4128 .f32) : FVec F S8x8x32x4128 .f32 :=
  Host.reduceWindowAdd ![1, 1, 1, 4128] ![1, 1, 1, 1] ![0, 0, 0, 0] ![0, 0, 0, 4127] x
    (broadcastInDim S_ ![] bcast_S_S_ (constant S_ .f32 0x00000000#32))
    reduceWindows_S8x8x32x4128_S8x8x32x4128_w1s1p0_0_w1s1p0_0_w1s1p0_0_w4128s1p0_4127 h_S_

/-- The attention weights. -/
def att (z : FVec F S8x8x32x4128 .f32) : FVec F S8x8x32x4128 .f32 :=
  select before (Host.exp (addf (Host.negf (plus (Host.negf z))) (subf (onward (keep z)) (keep z)))) zeros'

/-- The reference's result of its five arguments. -/
def out (q k v : FVec F S8x32x512 .bf16) (pk pv : FVec F S8x4096x8x64 .f32) : FVec F S8x32x512 .bf16 :=
  truncf .bf16 (shapeCast S8x32x512 (transpose S8x32x8x64 [0, 3, 1, 2]
    (Host.dotGeneral dot_S8x4128x8x64_S8x8x32x4128_S8x8x64x32_1_3_3_2_02_01 none (joined v pv) (att (score q k pk)))
    transposes_S8x8x64x32_S8x32x8x64_0_3_1_2) shapeCasts_S8x32x8x64_S8x32x512) bitsLt_bf16_f32

theorem res_eq (m : (ℓ : Loc nD τ sig) → Buf (Elt F) ℓ) (c : Dev nD) :
    Value.res_main_v32 m c = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Names

/-- Row `(b, h, p)` of an array of weights, at a key given as a number. -/
def rowAt (x : FVec Ideal S8x8x32x4128 .f32) (b : Fin 8) (h : Fin 8) (p : Fin 32) (s : ℕ) : EReal :=
  if hs : s < 4128 then x (ix4 b h p ⟨s, hs⟩) else 0

/-- The window sum at key `s` is the sum over the keys from `s` on. -/
theorem onward_apply (x : FVec Ideal S8x8x32x4128 .f32) (b : Fin 8) (h : Fin 8) (p : Fin 32) (s : Fin 4128) :
    onward x (ix4 b h p s) = ∑ j ∈ Finset.Ico s.val 4128, rowAt x b h p j := by
  have hs := s.isLt
  unfold onward
  rw [show (broadcastInDim S_ ![] bcast_S_S_ (constant S_ .f32 0x00000000#32) : FVec Ideal S_ .f32) = fun _ => 0 from
    funext fun i => by rw [← ix0_eta i]; pointwise []]
  unfold Host.reduceWindowAdd
  simp only [FloatOps.hostReduceWindowAdd, Ideal.hostReduceWindowAdd, Host.reduceWindow]
  rw [foldl_sum, zero_add]
  refine (Fin.sum_univ_def _).symm.trans ?_
  rw [← Equiv.sum_comp (Shape.rowMajor ⟨4, ![1, 1, 1, 4128]⟩)]
  simp only [Equiv.symm_apply_apply]
  rw [sum_idx4]
  simp only [Fintype.sum_unique]
  rw [Finset.sum_congr rfl (g := fun e : Fin 4128 => rowAt x b h p (s.val + e.val)) fun e _ => ?_,
    Fin.sum_univ_eq_sum_range (fun e => rowAt x b h p (s.val + e)) 4128, Finset.range_eq_Ico, Finset.sum_Ico_add _ 0 4128 s.val,
    ← Finset.sum_Ico_consecutive _ (show 0 + s.val ≤ 4128 by omega) (show 4128 ≤ 4128 + s.val by omega),
    Finset.sum_eq_zero (s := Finset.Ico 4128 (4128 + s.val)) (fun j hj => dif_neg (by
      have := (Finset.mem_Ico.mp hj).1
      omega)), add_zero, Nat.zero_add]
  by_cases he : s.val + e.val < 4128
  · rw [dif_pos fun a => ?_]
    · unfold rowAt
      rw [dif_pos he]
      refine congrArg x (funext fun a => ?_)
      match a with
      | ⟨0, _⟩ => exact Fin.ext (by show b.val * 1 + 0 - 0 = b.val; omega)
      | ⟨1, _⟩ => exact Fin.ext (by show h.val * 1 + 0 - 0 = h.val; omega)
      | ⟨2, _⟩ => exact Fin.ext (by show p.val * 1 + 0 - 0 = p.val; omega)
      | ⟨3, _⟩ => exact Fin.ext (by show s.val * 1 + e.val - 0 = s.val + e.val; omega)
    · match a with
      | ⟨0, _⟩ => exact ⟨Nat.zero_le _, by show b.val * 1 + 0 - 0 < 8; omega⟩
      | ⟨1, _⟩ => exact ⟨Nat.zero_le _, by show h.val * 1 + 0 - 0 < 8; omega⟩
      | ⟨2, _⟩ => exact ⟨Nat.zero_le _, by show p.val * 1 + 0 - 0 < 32; omega⟩
      | ⟨3, _⟩ => exact ⟨Nat.zero_le _, by show s.val * 1 + e.val - 0 < 4128; omega⟩
  · rw [dif_neg fun H => he ?_]
    · unfold rowAt
      rw [dif_neg he]
    · have h3 : s.val * 1 + e.val - 0 < 4128 := (H 3).2
      omega

/-- A key (or value) of the sequence: a past one, or a new one. -/
theorem joined_apply (new : FVec Ideal S8x32x512 .bf16) (past : FVec Ideal S8x4096x8x64 .f32) (b : Fin 8) (s : Fin 4128) (h : Fin 8) (e : Fin 64) :
    joined new past (ix4 b s h e) = if hs : s.val < 4096 then past (ix4 b ⟨s.val, hs⟩ h e)
      else new (ix3 b ⟨s.val - 4096, by omega⟩ ⟨h.val * 64 + e.val, by omega⟩) := by
  pointwise [joined, heads]

theorem score_apply (q k : FVec Ideal S8x32x512 .bf16) (pk : FVec Ideal S8x4096x8x64 .f32) (b : Fin 8) (h : Fin 8) (p : Fin 32) (s : Fin 4128) :
    score q k pk (ix4 b h p s) = (∑ d : Fin 64, q (ix3 b p ⟨h.val * 64 + d.val, by omega⟩) * joined k pk (ix4 b s h d))
      * Ideal.ofBits .f32 0x3E000000#32 := by
  unfold score
  generalize joined k pk = y
  pointwise [heads]

theorem plus_apply (x : FVec Ideal S8x8x32x4128 .f32) (j : S8x8x32x4128.Idx) :
    plus x j = max (x j) 0 + Ideal.log (1 + Ideal.exp (-max (x j) (-(x j)))) := by
  pointwise [plus, zeros]
  rw [if_neg (by simp)]
  rfl

theorem before_iff (b : Fin 8) (h : Fin 8) (p : Fin 32) (s : Fin 4128) : before (ix4 b h p s) = 1#1 ↔ s.val < 4096 + p.val := by
  pointwise [before]
  rw [show IntOp.addi 4096#32 (BitVec.ofNat 32 p.val) = BitVec.ofNat 32 (4096 + p.val) from (BitVec.ofNat_add 4096 p.val).symm]
  exact WordCmp.cmpi_slt_ofNat_eq_one_iff (by have := s.isLt; omega) (by have := p.isLt; omega)

theorem zeros'_apply (j : S8x8x32x4128.Idx) : zeros' (F := Ideal) j = 0 := by
  show (zeros (F := Ideal)) j = 0
  pointwise [zeros]

theorem where_before {α : Type} (b : Fin 8) (h : Fin 8) (p : Fin 32) (s : Fin 4128) (x y : α) :
    Scalar.select (before (ix4 b h p s)) x y = if s.val < 4096 + p.val then x else y := by
  by_cases hp : s.val < 4096 + p.val
  · rw [if_pos hp, Scalar.select_of_eq_one ((before_iff b h p s).mpr hp)]
  · rw [if_neg hp, Scalar.select_of_eq_zero ((BitVec.eq_zero_or_eq_one _).resolve_right fun e => hp ((before_iff b h p s).mp e))]

theorem keep_apply (x : FVec Ideal S8x8x32x4128 .f32) (b : Fin 8) (h : Fin 8) (p : Fin 32) (s : Fin 4128) :
    keep x (ix4 b h p s) = if s.val < 4096 + p.val then -plus (Host.negf (Host.negf x)) (ix4 b h p s) else 0 := by
  rw [← where_before b h p s, ← zeros'_apply (ix4 b h p s)]
  pointwise [keep]

theorem att_apply (x : FVec Ideal S8x8x32x4128 .f32) (b : Fin 8) (h : Fin 8) (p : Fin 32) (s : Fin 4128) :
    att x (ix4 b h p s) = if s.val < 4096 + p.val then
      Ideal.exp (-plus (Host.negf x) (ix4 b h p s) + (onward (keep x) (ix4 b h p s) - keep x (ix4 b h p s))) else 0 := by
  rw [← where_before b h p s, ← zeros'_apply (ix4 b h p s)]
  pointwise [att]

theorem out_apply (q k v : FVec Ideal S8x32x512 .bf16) (pk pv : FVec Ideal S8x4096x8x64 .f32) (b : Fin 8) (p : Fin 32) (d : Fin 512) :
    out q k v pk pv (ix3 b p d) = ∑ s : Fin 4128, joined v pv (ix4 b s ⟨d.val / 64, by omega⟩ ⟨d.val % 64, by omega⟩)
      * att (score q k pk) (ix4 b ⟨d.val / 64, by omega⟩ p s) := by
  unfold out
  generalize joined v pv = y
  generalize att (score q k pk) = z
  pointwise []

theorem negf_apply (x : FVec Ideal S8x8x32x4128 .f32) (j : S8x8x32x4128.Idx) : Host.negf x j = -x j := by
  pointwise []

end Cert.StickSampleReferenceIdeal.Stick

end
-- ==== Proof.StickMeet.lean ====
/- The output block of the kernel that holds past keys is the reference's result at the block's place. -/
module

public import proofs.«01_k».proof.Proof.StickFold
public import proofs.«01_k».proof.Proof.StickRef

@[expose] public section

set_option maxRecDepth 16384

noncomputable section

namespace Cert.StickSampleIdeal.Stick

open Cert.StickSampleIdeal Cert.StickSampleIdeal.Gen Idealize.ShloMosaic Idealize.ShloMosaic.TcCoe
open Cert.KernelIdeal.Stick (softplus drop weight scale_f32)
open Cert.StickSampleReferenceIdeal.Stick (out score att keep plus onward rowAt joined joined_apply)
open scoped BigOperators

/-- The reference's weight of key `s` for the query `p`: the one weight both sides compute. -/
theorem att_weight (x : FVec Ideal Cert.StickSampleReferenceIdeal.S8x8x32x4128 .f32) (b : Fin 8) (h : Fin 8) (p : Fin 32) (s : Fin 4128) (z : ℕ → EReal)
    (hz : ∀ j : Fin 4128, z j.val = x (ix4 b h p j)) : att x (ix4 b h p s) = weight z (4096 + p.val) 4128 s.val := by
  have hs := s.isLt
  have hk (j : Fin 4128) : keep x (ix4 b h p j) = -drop z (4096 + p.val) j.val := by
    rw [Cert.StickSampleReferenceIdeal.Stick.keep_apply, Cert.StickSampleReferenceIdeal.Stick.plus_apply, Cert.StickSampleReferenceIdeal.Stick.negf_apply,
      Cert.StickSampleReferenceIdeal.Stick.negf_apply, neg_neg, ← hz j]
    unfold drop
    split
    · unfold softplus
      rw [zero_sub]
    · rw [neg_zero]
  rw [Cert.StickSampleReferenceIdeal.Stick.att_apply, weight_eq z _ _ hs, Cert.StickSampleReferenceIdeal.Stick.onward_apply, hk,
    Cert.StickSampleReferenceIdeal.Stick.plus_apply, Cert.StickSampleReferenceIdeal.Stick.negf_apply, ← hz s]
  have hsum : (∑ j ∈ Finset.Ico s.val 4128, rowAt (keep x) b h p j) = ∑ j ∈ Finset.Ico s.val 4128, -drop z (4096 + p.val) j := by
    refine Finset.sum_congr rfl fun j hj => ?_
    have hj2 := (Finset.mem_Ico.mp hj).2
    unfold rowAt
    rw [dif_pos hj2]
    exact hk ⟨j, hj2⟩
  rw [hsum]
  unfold softplus
  rw [zero_sub]

/-- The kernel's keys (or values) of one sequence and pair of heads are the reference's. -/
theorem keyAt_joined (k : FVec Ideal S8x32x512 .bf16) (pk : FVec Ideal S8x4096x8x64 .f32) (b : Fin 8) (g : ℕ) (hg : g < 4)
    (x1 : Vec Ideal S1x32x128 .bf16) (x3 : Vec Ideal S1x4096x128 .f32)
    (h1 : ∀ (s : Fin 32) (d : Fin 128), x1 (ix3 0 s d) = k (ix3 b s ⟨g * 128 + d.val, by omega⟩))
    (h3 : ∀ (s : Fin 4096) (d : Fin 128), x3 (ix3 0 s d) = pk (ix4 b s ⟨(g * 128 + d.val) / 64, by omega⟩ ⟨(g * 128 + d.val) % 64, by omega⟩))
    (s : Fin 4128) (d : Fin 128) :
    keyAt x1 x3 s.val d = joined k pk (ix4 b s ⟨(g * 128 + d.val) / 64, by omega⟩ ⟨(g * 128 + d.val) % 64, by omega⟩) := by
  have hs := s.isLt
  have hd := d.isLt
  rw [joined_apply]
  unfold keyAt
  by_cases h : s.val < 4096
  · rw [dif_pos h, dif_pos h, h3]
  · rw [dif_neg h, dif_neg h, dif_pos (show s.val - 4096 < 32 by omega), h1]
    refine congrArg (fun e => k (ix3 b _ e)) (Fin.ext ?_)
    show g * 128 + d.val = (g * 128 + d.val) / 64 * 64 + (g * 128 + d.val) % 64
    omega

/-- The output block of one grid point, batch `b`, lanes from `128 g`. -/
theorem outBlk_eq (q k v : FVec Ideal S8x32x512 .bf16) (pk pv : FVec Ideal S8x4096x8x64 .f32) (b : Fin 8) (g : ℕ) (hg : g < 4)
    (x0 x1 x2 : Vec Ideal S1x32x128 .bf16) (x3 x4 : Vec Ideal S1x4096x128 .f32)
    (h0 : ∀ (i : Fin 32) (d : Fin 128), x0 (ix3 0 i d) = q (ix3 b i ⟨g * 128 + d.val, by omega⟩))
    (h1 : ∀ (s : Fin 32) (d : Fin 128), x1 (ix3 0 s d) = k (ix3 b s ⟨g * 128 + d.val, by omega⟩))
    (h2 : ∀ (s : Fin 32) (d : Fin 128), x2 (ix3 0 s d) = v (ix3 b s ⟨g * 128 + d.val, by omega⟩))
    (h3 : ∀ (s : Fin 4096) (d : Fin 128), x3 (ix3 0 s d) = pk (ix4 b s ⟨(g * 128 + d.val) / 64, by omega⟩ ⟨(g * 128 + d.val) % 64, by omega⟩))
    (h4 : ∀ (s : Fin 4096) (d : Fin 128), x4 (ix3 0 s d) = pv (ix4 b s ⟨(g * 128 + d.val) / 64, by omega⟩ ⟨(g * 128 + d.val) % 64, by omega⟩))
    (i : Fin 32) (d : Fin 128) :
    outBlk x0 x1 x2 x3 x4 (ix3 0 i d) = out q k v pk pv (ix3 b i ⟨g * 128 + d.val, by omega⟩) := by
  have hi := i.isLt
  have hd := d.isLt
  have hz (s : Fin 4128) : rowScore (k0_pay118 x0) x1 x3 (rowOf i d) s.val
      = score q k pk (ix4 b ⟨(g * 128 + d.val) / 64, by omega⟩ i s) := by
    rw [rowScore_heads, Cert.StickSampleReferenceIdeal.Stick.score_apply, scale_f32]
    refine congrArg (· * _) (Finset.sum_congr rfl fun e _ => ?_)
    have he := e.isLt
    have e1 : (⟨g * 128 + (d.val / 64 * 64 + e.val), by omega⟩ : Fin 512) = ⟨(g * 128 + d.val) / 64 * 64 + e.val, by omega⟩ :=
      Fin.ext (by show g * 128 + (d.val / 64 * 64 + e.val) = (g * 128 + d.val) / 64 * 64 + e.val; omega)
    have e2 : (⟨(g * 128 + (d.val / 64 * 64 + e.val)) / 64, by omega⟩ : Fin 8) = ⟨(g * 128 + d.val) / 64, by omega⟩ :=
      Fin.ext (by show (g * 128 + (d.val / 64 * 64 + e.val)) / 64 = (g * 128 + d.val) / 64; omega)
    have e3 : (⟨(g * 128 + (d.val / 64 * 64 + e.val)) % 64, by omega⟩ : Fin 64) = e :=
      Fin.ext (by show (g * 128 + (d.val / 64 * 64 + e.val)) % 64 = e.val; omega)
    rw [h0, keyAt_joined k pk b g hg x1 x3 h1 h3]
    dsimp only
    rw [e1, e2, e3]
  rw [outBlk_sum, Cert.StickSampleReferenceIdeal.Stick.out_apply,
    ← Fin.sum_univ_eq_sum_range (fun j => weight (rowScore (k0_pay118 x0) x1 x3 (rowOf i d)) (4096 + i.val) 4128 j * keyAt x2 x4 j d) 4128]
  refine Finset.sum_congr rfl fun s _ => ?_
  rw [keyAt_joined v pv b g hg x2 x4 h2 h4, att_weight _ _ _ _ _ _ hz, mul_comm]

end Cert.StickSampleIdeal.Stick

end
-- ==== Proof.StickArray.lean ====
/- The result array of the kernel that holds past keys: every grid point's block is the reference's result there, and
   the blocks fill the array. -/
module

public import proofs.«01_k».proof.Proof.StickOut
public import proofs.«01_k».proof.Proof.StickMeet
public import Idealize.ShloMosaic.Lib.Pipeline.Value

@[expose] public section

set_option maxRecDepth 16384

noncomputable section

namespace Cert.StickSampleIdeal.Stick

open Cert.StickSampleIdeal Cert.StickSampleIdeal.Gen Idealize.ShloMosaic Idealize.ShloMosaic.TcCoe Idealize.SL.Sem
open Idealize.ShloMosaic.Pipeline (Dat)

variable (m : (ℓ : Loc nD τ sig) → Buf (Elt Ideal) ℓ)

/-- The reference's result of the kernel's arguments. -/
abbrev whole (c : Dev nD) : Buf (Elt Ideal) ((c : Thread nD τ).loc main_v2) :=
  Cert.StickSampleReferenceIdeal.Stick.out (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- Where the windows stand at point `t`: sequence `t / 4`, head pair `t mod 4`. -/
theorem places : ∀ t : Fin grid0.N,
    (win0_0.index t = ![t.val / 4, 0, t.val % 4] ∧ win0_1.index t = ![t.val / 4, 0, t.val % 4])
    ∧ (win0_2.index t = ![t.val / 4, 0, t.val % 4] ∧ win0_3.index t = ![t.val / 4, 0, t.val % 4])
    ∧ win0_4.index t = ![t.val / 4, 0, t.val % 4] ∧ win0_5.index t = ![t.val / 4, 0, t.val % 4] := by
  decide +kernel

theorem point_lt (t : Fin cfg0.N) : t.val < 32 := lt_of_lt_of_eq t.isLt N_0

/-! ## What the host code before the call leaves: the past keys and values with their heads' lanes side by side -/

/-- A sequence's past keys (or values), lane `64 h + e` holding head `h`'s lane `e`. -/
abbrev lanes (x : FVec Ideal S8x4096x8x64 .f32) : FVec Ideal S8x4096x512 .f32 := fun i =>
  x (ix4 (i 0) (i 1) ⟨(i 2).val / 64, by have : (i 2).val < 512 := (i 2).isLt; omega⟩ ⟨(i 2).val % 64, by omega⟩)

theorem cast_lanes (x : FVec Ideal S8x4096x8x64 .f32) :
    shapeCast S8x4096x512 x shapeCasts_S8x4096x8x64_S8x4096x512 = lanes x := by
  refine funext fun (j : S8x4096x512.Idx) => ?_
  idx_vars j
  pointwise []
  rfl

theorem host_0 (c : Dev nD) : V m c main_v0 = lanes (m ((c : Thread nD τ).loc main_arg3)) := by
  have h : V m c main_v0 = shapeCast _ (m ((c : Thread nD τ).loc main_arg3)) shapeCasts_S8x4096x8x64_S8x4096x512 := by
    unfold V
    after_results <;> rfl
  rw [h]
  exact cast_lanes _

theorem host_1 (c : Dev nD) : V m c main_v1 = lanes (m ((c : Thread nD τ).loc main_arg4)) := by
  have h : V m c main_v1 = shapeCast _ (m ((c : Thread nD τ).loc main_arg4)) shapeCasts_S8x4096x8x64_S8x4096x512 := by
    unfold V
    after_results <;> rfl
  rw [h]
  exact cast_lanes _

/-! ## The blocks -/

theorem queries_blk (c : Dev nD) (t : Fin cfg0.N) (i : Fin 32) (d : Fin 128) :
    iblk m c 0 t (ix3 0 i d) = m ((c : Thread nD τ).loc main_arg0)
      (ix3 ⟨t.val / 4, by have := point_lt t; omega⟩ i ⟨t.val % 4 * 128 + d.val, by omega⟩) := by
  have e := (places t).1.1
  refine congrArg (m ((c : Thread nD τ).loc main_arg0)) (funext fun a => ?_)
  match a with
  | ⟨0, _⟩ => exact Fin.ext (by show win0_0.index t 0 * 1 + 1 * 0 = t.val / 4; rw [e]; show t.val / 4 * 1 + 1 * 0 = _; omega)
  | ⟨1, _⟩ => exact Fin.ext (by show win0_0.index t 1 * 32 + 1 * i.val = i.val; rw [e]; show 0 * 32 + 1 * i.val = _; omega)
  | ⟨2, _⟩ => exact Fin.ext (by show win0_0.index t 2 * 128 + 1 * d.val = t.val % 4 * 128 + d.val; rw [e]; show t.val % 4 * 128 + 1 * d.val = _; omega)

theorem keys_blk (c : Dev nD) (t : Fin cfg0.N) (i : Fin 32) (d : Fin 128) :
    iblk m c 1 t (ix3 0 i d) = m ((c : Thread nD τ).loc main_arg1)
      (ix3 ⟨t.val / 4, by have := point_lt t; omega⟩ i ⟨t.val % 4 * 128 + d.val, by omega⟩) := by
  have e := (places t).1.2
  refine congrArg (m ((c : Thread nD τ).loc main_arg1)) (funext fun a => ?_)
  match a with
  | ⟨0, _⟩ => exact Fin.ext (by show win0_1.index t 0 * 1 + 1 * 0 = t.val / 4; rw [e]; show t.val / 4 * 1 + 1 * 0 = _; omega)
  | ⟨1, _⟩ => exact Fin.ext (by show win0_1.index t 1 * 32 + 1 * i.val = i.val; rw [e]; show 0 * 32 + 1 * i.val = _; omega)
  | ⟨2, _⟩ => exact Fin.ext (by show win0_1.index t 2 * 128 + 1 * d.val = t.val % 4 * 128 + d.val; rw [e]; show t.val % 4 * 128 + 1 * d.val = _; omega)

theorem values_blk (c : Dev nD) (t : Fin cfg0.N) (i : Fin 32) (d : Fin 128) :
    iblk m c 2 t (ix3 0 i d) = m ((c : Thread nD τ).loc main_arg2)
      (ix3 ⟨t.val / 4, by have := point_lt t; omega⟩ i ⟨t.val % 4 * 128 + d.val, by omega⟩) := by
  have e := (places t).2.1.1
  refine congrArg (m ((c : Thread nD τ).loc main_arg2)) (funext fun a => ?_)
  match a with
  | ⟨0, _⟩ => exact Fin.ext (by show win0_2.index t 0 * 1 + 1 * 0 = t.val / 4; rw [e]; show t.val / 4 * 1 + 1 * 0 = _; omega)
  | ⟨1, _⟩ => exact Fin.ext (by show win0_2.index t 1 * 32 + 1 * i.val = i.val; rw [e]; show 0 * 32 + 1 * i.val = _; omega)
  | ⟨2, _⟩ => exact Fin.ext (by show win0_2.index t 2 * 128 + 1 * d.val = t.val % 4 * 128 + d.val; rw [e]; show t.val % 4 * 128 + 1 * d.val = _; omega)

theorem past_keys_blk (c : Dev nD) (t : Fin cfg0.N) (s : Fin 4096) (d : Fin 128) :
    iblk m c 3 t (ix3 0 s d) = m ((c : Thread nD τ).loc main_arg3) (ix4 ⟨t.val / 4, by have := point_lt t; omega⟩ s
      ⟨(t.val % 4 * 128 + d.val) / 64, by omega⟩ ⟨(t.val % 4 * 128 + d.val) % 64, by omega⟩) := by
  have e := (places t).2.1.2
  refine Eq.trans (congrArg (V m c main_v0) (funext fun a => ?_)) (congrFun (host_0 m c)
    (ix3 ⟨t.val / 4, by have := point_lt t; omega⟩ s ⟨t.val % 4 * 128 + d.val, by omega⟩))
  match a with
  | ⟨0, _⟩ => exact Fin.ext (by show win0_3.index t 0 * 1 + 1 * 0 = t.val / 4; rw [e]; show t.val / 4 * 1 + 1 * 0 = _; omega)
  | ⟨1, _⟩ => exact Fin.ext (by show win0_3.index t 1 * 4096 + 1 * s.val = s.val; rw [e]; show 0 * 4096 + 1 * s.val = _; omega)
  | ⟨2, _⟩ => exact Fin.ext (by show win0_3.index t 2 * 128 + 1 * d.val = t.val % 4 * 128 + d.val; rw [e]; show t.val % 4 * 128 + 1 * d.val = _; omega)

theorem past_values_blk (c : Dev nD) (t : Fin cfg0.N) (s : Fin 4096) (d : Fin 128) :
    iblk m c 4 t (ix3 0 s d) = m ((c : Thread nD τ).loc main_arg4) (ix4 ⟨t.val / 4, by have := point_lt t; omega⟩ s
      ⟨(t.val % 4 * 128 + d.val) / 64, by omega⟩ ⟨(t.val % 4 * 128 + d.val) % 64, by omega⟩) := by
  have e := (places t).2.2.1
  refine Eq.trans (congrArg (V m c main_v1) (funext fun a => ?_)) (congrFun (host_1 m c)
    (ix3 ⟨t.val / 4, by have := point_lt t; omega⟩ s ⟨t.val % 4 * 128 + d.val, by omega⟩))
  match a with
  | ⟨0, _⟩ => exact Fin.ext (by show win0_4.index t 0 * 1 + 1 * 0 = t.val / 4; rw [e]; show t.val / 4 * 1 + 1 * 0 = _; omega)
  | ⟨1, _⟩ => exact Fin.ext (by show win0_4.index t 1 * 4096 + 1 * s.val = s.val; rw [e]; show 0 * 4096 + 1 * s.val = _; omega)
  | ⟨2, _⟩ => exact Fin.ext (by show win0_4.index t 2 * 128 + 1 * d.val = t.val % 4 * 128 + d.val; rw [e]; show t.val % 4 * 128 + 1 * d.val = _; omega)

/-- The place in the result of the output block's query `i` and lane `d`. -/
theorem result_blk (c : Dev nD) (t : Fin cfg0.N) (i : Fin 32) (d : Fin 128) :
    (win0_5.blk t).view.read (Elt Ideal) (whole m c) (ix3 0 i d) = whole m c
      (ix3 ⟨t.val / 4, by have := point_lt t; omega⟩ i ⟨t.val % 4 * 128 + d.val, by omega⟩) := by
  have e := (places t).2.2.2
  refine congrArg (whole m c) (funext fun a => ?_)
  match a with
  | ⟨0, _⟩ => exact Fin.ext (by show win0_5.index t 0 * 1 + 1 * 0 = t.val / 4; rw [e]; show t.val / 4 * 1 + 1 * 0 = _; omega)
  | ⟨1, _⟩ => exact Fin.ext (by show win0_5.index t 1 * 32 + 1 * i.val = i.val; rw [e]; show 0 * 32 + 1 * i.val = _; omega)
  | ⟨2, _⟩ => exact Fin.ext (by show win0_5.index t 2 * 128 + 1 * d.val = t.val % 4 * 128 + d.val; rw [e]; show t.val % 4 * 128 + 1 * d.val = _; omega)

/-- What point `t` writes back is its block of the reference's result. -/
theorem flushed_whole (c : Dev nD) (t : Fin cfg0.N) :
    (dats m 0 c).flushed 5 t = (win0_5.blk t).view.read (Elt Ideal) (whole m c) := by
  rw [flushed_blk]
  refine funext fun (j : S1x32x128.Idx) => ?_
  idx_vars j
  have hu : j0 = 0 := Subsingleton.elim _ _
  subst hu
  refine Eq.trans ?_ (result_blk m c t j1 j2).symm
  exact outBlk_eq _ _ _ _ _ ⟨t.val / 4, by have := point_lt t; omega⟩ (t.val % 4) (by omega) _ _ _ _ _
    (queries_blk m c t) (keys_blk m c t) (values_blk m c t) (past_keys_blk m c t) (past_values_blk m c t) j1 j2

theorem mem_blk (t : Fin cfg0.N) (i : S8x32x512.Idx) :
    i ∈ ((cfg0.win 5).blk t).view.set ↔ (i 0).val = t.val / 4 ∧ (i 2).val / 128 = t.val % 4 := by
  show i ∈ ((View.whole main_v2).slice (win0_5.rect t)).set ↔ _
  rw [View.set_slice_whole, Rect.mem_set_unit]
  have e := (places t).2.2.2
  have hx (a : Fin 3) : win0_5.index t a * win0_5.size a = ![t.val / 4 * 1, 0 * 32, t.val % 4 * 128] a
      ∧ win0_5.xsize (grid0.coords t) a = ![1, 32, 128] a := by
    rw [e]
    match a with
    | ⟨0, _⟩ => exact ⟨rfl, rfl⟩
    | ⟨1, _⟩ => exact ⟨rfl, rfl⟩
    | ⟨2, _⟩ => exact ⟨rfl, rfl⟩
  have hb (a : Fin 3) : (win0_5.index t a * win0_5.size a ≤ (i a).val ∧ (i a).val < win0_5.index t a * win0_5.size a + win0_5.xsize (grid0.coords t) a)
      ↔ ![t.val / 4 * 1, 0 * 32, t.val % 4 * 128] a ≤ (i a).val
        ∧ (i a).val < ![t.val / 4 * 1, 0 * 32, t.val % 4 * 128] a + ![1, 32, 128] a := by
    rw [(hx a).1, (hx a).2]
  have i1 : (i 1).val < 32 := (i 1).isLt
  constructor
  · intro h
    have g0 : t.val / 4 * 1 ≤ (i 0).val ∧ (i 0).val < t.val / 4 * 1 + 1 := (hb 0).mp (h 0)
    have g2 : t.val % 4 * 128 ≤ (i 2).val ∧ (i 2).val < t.val % 4 * 128 + 128 := (hb 2).mp (h 2)
    omega
  · rintro ⟨g0, g2⟩ a
    match a with
    | ⟨0, _⟩ => exact (hb 0).mpr (by show t.val / 4 * 1 ≤ (i 0).val ∧ (i 0).val < t.val / 4 * 1 + 1; omega)
    | ⟨1, _⟩ => exact (hb 1).mpr (by show 0 * 32 ≤ (i 1).val ∧ (i 1).val < 0 * 32 + 32; omega)
    | ⟨2, _⟩ => exact (hb 2).mpr (by show t.val % 4 * 128 ≤ (i 2).val ∧ (i 2).val < t.val % 4 * 128 + 128; omega)

/-- Every entry of the result is in some point's block. -/
theorem covered (i : S8x32x512.Idx) : ∃ t : Fin cfg0.N, (cfg0.win 5).flush t = true ∧ i ∈ ((cfg0.win 5).blk t).view.set := by
  have h0 : (i 0).val < 8 := (i 0).isLt
  have h2 : (i 2).val < 512 := (i 2).isLt
  have hN : cfg0.N = 32 := N_0
  refine ⟨⟨(i 0).val * 4 + (i 2).val / 128, by omega⟩, flush0_5 _, ?_⟩
  rw [mem_blk]
  dsimp only
  omega

/-- The result array ends as the reference's result. -/
theorem array_eq (c : Dev nD) : (dats m 0 c).arrAt 5 cfg0.N = whole m c :=
  (dats m 0 c).arrAt_eq_of_cover 5 (whole m c) (fun t _ => flushed_whole m c t) covered

/-- The kernel's run, read. -/
theorem run (ρ : Dev nD → PrngReg) :
    θ_run defs (onTc (τ := τ) (main (F := Ideal))) ⟨m, fun _ => 0, ρ⟩ fun r => ∀ c : Dev nD,
      r.2.mem ((c : Thread nD τ).loc main_v2) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (array_eq m c), (h c).2⟩) (Value.run_blocks m ρ)

end Cert.StickSampleIdeal.Stick

end
-- ==== Proof.NormRow.lean ====
/- One row of the layer's norm: the row over its root mean square, times the gain. -/
module

public import Idealize.ShloMosaic.Lib.Pointwise

@[expose] public section

noncomputable section

namespace Cert.NormRow

open Idealize.ShloMosaic
open scoped BigOperators

/-- Entry `k` of a normed row of 1024. -/
def normed (x g : Fin 1024 → EReal) (k : Fin 1024) : EReal :=
  x k * Ideal.rsqrt (Ideal.div (∑ j, x j * x j) (Ideal.ofBits .f32 0x44800000#32) + Ideal.ofBits .f32 0x3727C5AC#32) * g k

/-- A normed row against a column of weights. -/
def normedDot (x g w : Fin 1024 → EReal) : EReal := ∑ k, normed x g k * w k

end Cert.NormRow

end
-- ==== Proof.ShiftRows.lean ====
/- The shift state: the last row of every prompt, normed, in the kernel and in the reference. -/
module

public import proofs.«01_k».proof.Proof.NormRow
public import proofs.«01_k».proof.Proof.Gen.ShiftIdeal.Value
public import proofs.«01_k».proof.Proof.Gen.ShiftReferenceIdeal.Run
public import Idealize.ShloMosaic.Lib.Pipeline.ValueKit.Basic
public import Idealize.ShloMosaic.Lib.Pointwise

@[expose] public section

set_option maxRecDepth 16384

noncomputable section

namespace Cert.ShiftIdeal.Rows

open Cert.ShiftIdeal Cert.ShiftIdeal.Gen Cert.NormRow Idealize.ShloMosaic Idealize.ShloMosaic.TcCoe Idealize.SL.Sem
open Idealize.ShloMosaic.Pipeline (Dat)
open scoped BigOperators

variable (m : (ℓ : Loc nD τ sig) → Buf (Elt Ideal) ℓ)

/-- Every prompt's last row, normed. -/
def lastNormed (x : FVec Ideal S16x2048x1024 .f32) (g : FVec Ideal S1024 .f32) : FVec Ideal S16x1024 .f32 :=
  fun i => normed (fun k => x (ix3 (i 0) 2047 k)) (fun k => g (ix1 k)) (i 1)

abbrev res (c : Dev nD) : Buf (Elt Ideal) ((c : Thread nD τ).loc main_v3) :=
  lastNormed (m ((c : Thread nD τ).loc main_arg0)) (m ((c : Thread nD τ).loc main_arg1))

/-! ## The body -/

theorem pay1_apply (x : Vec Ideal S16x1024 .f32) (g : Vec Ideal S1x1024 .f32) (r : Fin 16) (d : Fin 1024) :
    k0_pay1 x g (ix2 r d) = normed (fun k => x (ix2 r k)) (fun k => g (ix2 0 k)) d := by
  pointwise [k0_pay1]
  rfl

theorem out2_eq (x : Vec Ideal S16x1024 .f32) (g : Vec Ideal S1x1024 .f32) : out0_2 x g = k0_pay1 x g := by
  unfold out0_2
  rw [View.canon_cons_unit_lit _ _ _ (by decide), View.ld_unit_lit _ _ (by decide), View.ld_unit_lit _ _ (by decide)]

/-! ## What the host code before the call leaves -/

abbrev lastRows (c : Dev nD) : FVec Ideal S16x1024 .f32 := fun i => m ((c : Thread nD τ).loc main_arg0) (ix3 (i 0) 2047 (i 1))

abbrev gain (c : Dev nD) : FVec Ideal S1x1024 .f32 := fun i => m ((c : Thread nD τ).loc main_arg1) (ix1 (i 1))

theorem host_x (c : Dev nD) : V m c main_v1 = lastRows m c := by
  have h : V m c main_v1 = shapeCast _ (extractStridedSlice S16x1x1024 ![0, 2047, 0] (m ((c : Thread nD τ).loc main_arg0)) slices_S16x2048x1024_S16x1x1024_0_2047_0)
      shapeCasts_S16x1x1024_S16x1024 := by
    unfold V
    after_results <;> rfl
  rw [h]
  refine funext fun (j : S16x1024.Idx) => ?_
  idx_vars j
  pointwise []
  rfl

theorem host_g (c : Dev nD) : V m c main_v2 = gain m c := by
  have h : V m c main_v2 = shapeCast _ (m ((c : Thread nD τ).loc main_arg1)) shapeCasts_S1024_S1x1024 := by
    unfold V
    after_results <;> rfl
  rw [h]
  refine funext fun (j : S1x1024.Idx) => ?_
  idx_vars j
  have hu : j0 = 0 := Subsingleton.elim _ _
  subst hu
  pointwise []
  rfl

/-! ## The one block: all sixteen rows -/

theorem at0 : ∀ t : Fin grid0.N, win0_0.index t = ![0, 0] := by decide +kernel
theorem at1 : ∀ t : Fin grid0.N, win0_1.index t = ![0, 0] := by decide +kernel
theorem at2 : ∀ t : Fin grid0.N, win0_2.index t = ![0, 0] := by decide +kernel

theorem blk_x (c : Dev nD) (t : Fin cfg0.N) (i : Fin 16) (k : Fin 1024) :
    iblk m c 0 t (ix2 i k) = lastRows m c (ix2 i k) := by
  have e := at0 t
  refine Eq.trans (congrArg (V m c main_v1) (funext fun a => ?_)) (congrFun (host_x m c) (ix2 i k))
  match a with
  | ⟨0, _⟩ => exact Fin.ext (by show win0_0.index t 0 * 16 + 1 * i.val = i.val; rw [e]; show 0 * 16 + 1 * i.val = _; omega)
  | ⟨1, _⟩ => exact Fin.ext (by show win0_0.index t 1 * 1024 + 1 * k.val = k.val; rw [e]; show 0 * 1024 + 1 * k.val = _; omega)

theorem blk_g (c : Dev nD) (t : Fin cfg0.N) (i : Fin 1) (k : Fin 1024) :
    iblk m c 1 t (ix2 i k) = gain m c (ix2 i k) := by
  have e := at1 t
  refine Eq.trans (congrArg (V m c main_v2) (funext fun a => ?_)) (congrFun (host_g m c) (ix2 i k))
  match a with
  | ⟨0, _⟩ => exact Fin.ext (by show win0_1.index t 0 * 1 + 1 * i.val = i.val; rw [e]; show 0 * 1 + 1 * i.val = _; omega)
  | ⟨1, _⟩ => exact Fin.ext (by show win0_1.index t 1 * 1024 + 1 * k.val = k.val; rw [e]; show 0 * 1024 + 1 * k.val = _; omega)

theorem blk_res (c : Dev nD) (t : Fin cfg0.N) (i : Fin 16) (d : Fin 1024) :
    (win0_2.blk t).view.read (Elt Ideal) (res m c) (ix2 i d) = res m c (ix2 i d) := by
  have e := at2 t
  refine congrArg (res m c) (funext fun a => ?_)
  match a with
  | ⟨0, _⟩ => exact Fin.ext (by show win0_2.index t 0 * 16 + 1 * i.val = i.val; rw [e]; show 0 * 16 + 1 * i.val = _; omega)
  | ⟨1, _⟩ => exact Fin.ext (by show win0_2.index t 1 * 1024 + 1 * d.val = d.val; rw [e]; show 0 * 1024 + 1 * d.val = _; omega)

theorem flushed_res (c : Dev nD) (t : Fin cfg0.N) :
    (dats m 0 c).flushed 2 t = (win0_2.blk t).view.read (Elt Ideal) (res m c) := by
  rw [Value.flushed2, out2_eq]
  refine funext fun (j : S16x1024.Idx) => ?_
  idx_vars j
  refine Eq.trans ?_ (blk_res m c t j0 j1).symm
  refine (pay1_apply _ _ j0 j1).trans ?_
  simp only [blk_x, blk_g]
  rfl

theorem mem_res (t : Fin cfg0.N) (i : S16x1024.Idx) : i ∈ ((cfg0.win 2).blk t).view.set := by
  have h0 : (i 0).val < 16 := (i 0).isLt
  have h1 : (i 1).val < 1024 := (i 1).isLt
  show i ∈ ((View.whole main_v3).slice (win0_2.rect t)).set
  rw [View.set_slice_whole, Rect.mem_set_unit]
  have e := at2 t
  intro a
  match a with
  | ⟨0, _⟩ =>
    show win0_2.index t 0 * 16 ≤ (i 0).val ∧ (i 0).val < win0_2.index t 0 * 16 + 16
    rw [e]
    show 0 * 16 ≤ (i 0).val ∧ (i 0).val < 0 * 16 + 16
    omega
  | ⟨1, _⟩ =>
    show win0_2.index t 1 * 1024 ≤ (i 1).val ∧ (i 1).val < win0_2.index t 1 * 1024 + 1024
    rw [e]
    show 0 * 1024 ≤ (i 1).val ∧ (i 1).val < 0 * 1024 + 1024
    omega

theorem covered_res (i : S16x1024.Idx) : ∃ t : Fin cfg0.N, (cfg0.win 2).flush t = true ∧ i ∈ ((cfg0.win 2).blk t).view.set :=
  ⟨⟨0, by have hN : cfg0.N = 1 := N_0; omega⟩, flush0_2 _, mem_res _ i⟩

theorem res_eq (c : Dev nD) : (dats m 0 c).arrAt 2 cfg0.N = res m c :=
  (dats m 0 c).arrAt_eq_of_cover 2 (res m c) (fun t _ => flushed_res m c t) covered_res

/-- The kernel's run, read: the array, and the arguments as they were. -/
theorem run (ρ : Dev nD → PrngReg) :
    θ_run defs (onTc (τ := τ) (main (F := Ideal))) ⟨m, fun _ => 0, ρ⟩ fun r => ∀ c : Dev nD,
      r.2.mem ((c : Thread nD τ).loc main_v3) = res m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (res_eq m c), (h c).2⟩) (Value.run_blocks m ρ)

end Cert.ShiftIdeal.Rows

namespace Cert.ShiftReferenceIdeal.Rows

open Cert.ShiftReferenceIdeal Cert.ShiftReferenceIdeal.Gen Cert.NormRow Idealize.ShloMosaic Idealize.ShloMosaic.TcCoe Idealize.SL.Sem
open scoped BigOperators

/-- The reference's last rows, normed. -/
abbrev out (x : FVec Ideal S16x2048x1024 .f32) (g : FVec Ideal S1024 .f32) : FVec Ideal S16x1024 .f32 :=
  shapeCast _ (extractStridedSlice S16x1x1024 ![0, 2047, 0] (mulf (mulf x (broadcastInDim S16x2048x1024 ![0, 1, 2] bcast_S16x2048x1_S16x2048x1024_0_1_2 (Host.rsqrt (addf
    (Host.divf (broadcastInDim S16x2048x1 ![0, 1] bcast_S16x2048_S16x2048x1_0_1 (Host.reduceAdd (mulf x x) (constant (F := Ideal) S_ .f32 0x00000000#32)
      reducesTo_S16x2048x1024_S16x2048_d2 h_S_)) (broadcastInDim S16x2048x1 ![] bcast_S_S16x2048x1 (constant (F := Ideal) S_ .f32 0x44800000#32)))
    (broadcastInDim S16x2048x1 ![] bcast_S_S16x2048x1 (constant (F := Ideal) S_ .f32 0x3727C5AC#32))))))
    (broadcastInDim S16x2048x1024 ![0, 1, 2] bcast_S1x1x1024_S16x2048x1024_0_1_2 (broadcastInDim S1x1x1024 ![2] bcast_S1024_S1x1x1024_2 g)))
    slices_S16x2048x1024_S16x1x1024_0_2047_0) shapeCasts_S16x1x1024_S16x1024

theorem out_eq (x : FVec Ideal S16x2048x1024 .f32) (g : FVec Ideal S1024 .f32) : out x g = Cert.ShiftIdeal.Rows.lastNormed x g := by
  refine funext fun (i : S16x1024.Idx) => ?_
  idx_vars i
  pointwise []
  rfl

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = Cert.ShiftIdeal.Rows.lastNormed (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (out_eq _ _), (h c).2⟩) (Value.run (F := Ideal) m ρ)

end Cert.ShiftReferenceIdeal.Rows

end
-- ==== Proof.ProjBody.lean ====
/- The input projection: what one grid point leaves in each of its seven output blocks. -/
module

public import proofs.«01_k».proof.Proof.NormRow
public import proofs.«01_k».proof.Proof.Gen.ProjIdeal.Frame
public import Idealize.ShloMosaic.Lib.Pipeline.Value
public import Idealize.ShloMosaic.Lib.Pipeline.ValueKit.Basic
public import Idealize.ShloMosaic.Lib.Pointwise

@[expose] public section

set_option maxRecDepth 16384

noncomputable section

namespace Cert.ProjIdeal.Rows

open Cert.ProjIdeal Cert.ProjIdeal.Gen Cert.NormRow Idealize.ShloMosaic Idealize.ShloMosaic.TcCoe Idealize.SL.Sem
open Idealize.ShloMosaic.Pipeline (Dat)
open scoped BigOperators

/-- Entry `(i, j)` of the normed rows against the projection matrix. -/
def colOf (x : FVec Ideal S32768x1024 .f32) (g : FVec Ideal S1024 .f32) (w : FVec Ideal S1024x5376 .f32) (i : Fin 32768) (j : Fin 5376) : EReal :=
  normedDot (fun k => x (ix2 i k)) (fun k => g (ix1 k)) (fun k => w (ix2 k j))

/-- The same entry of a block of rows. -/
def blkCol (x : Vec Ideal S256x1024 .f32) (g : Vec Ideal S1x1024 .f32) (w : Vec Ideal S1024x5376 .bf16) (r : Fin 256) (j : Fin 5376) : EReal :=
  normedDot (fun k => x (ix2 r k)) (fun k => g (ix2 0 k)) (fun k => w (ix2 k j))

theorem ld_0 (w : Vec Ideal S1024x5376 .bf16) (k : Fin 1024) (d : Fin 512) :
    View.ld w r0_2 (ix2 k d) = w (ix2 k ⟨0 + d.val, by omega⟩) := by
  refine congrArg w (funext fun a => ?_)
  match a with
  | ⟨0, _⟩ => exact Fin.ext (by show 0 + 1 * k.val = k.val; omega)
  | ⟨1, _⟩ => exact Fin.ext (by show 0 + 1 * d.val = 0 + d.val; omega)

theorem ld_512 (w : Vec Ideal S1024x5376 .bf16) (k : Fin 1024) (d : Fin 512) :
    View.ld w r0_4 (ix2 k d) = w (ix2 k ⟨512 + d.val, by omega⟩) := by
  refine congrArg w (funext fun a => ?_)
  match a with
  | ⟨0, _⟩ => exact Fin.ext (by show 0 + 1 * k.val = k.val; omega)
  | ⟨1, _⟩ => exact Fin.ext (by show 512 + 1 * d.val = 512 + d.val; omega)

theorem ld_1024 (w : Vec Ideal S1024x5376 .bf16) (k : Fin 1024) (d : Fin 512) :
    View.ld w r0_5 (ix2 k d) = w (ix2 k ⟨1024 + d.val, by omega⟩) := by
  refine congrArg w (funext fun a => ?_)
  match a with
  | ⟨0, _⟩ => exact Fin.ext (by show 0 + 1 * k.val = k.val; omega)
  | ⟨1, _⟩ => exact Fin.ext (by show 1024 + 1 * d.val = 1024 + d.val; omega)

theorem ld_1536 (w : Vec Ideal S1024x5376 .bf16) (k : Fin 1024) (d : Fin 1792) :
    View.ld w r0_7 (ix2 k d) = w (ix2 k ⟨1536 + d.val, by omega⟩) := by
  refine congrArg w (funext fun a => ?_)
  match a with
  | ⟨0, _⟩ => exact Fin.ext (by show 0 + 1 * k.val = k.val; omega)
  | ⟨1, _⟩ => exact Fin.ext (by show 1536 + 1 * d.val = 1536 + d.val; omega)

theorem ld_3328 (w : Vec Ideal S1024x5376 .bf16) (k : Fin 1024) (d : Fin 2048) :
    View.ld w r0_9 (ix2 k d) = w (ix2 k ⟨3328 + d.val, by omega⟩) := by
  refine congrArg w (funext fun a => ?_)
  match a with
  | ⟨0, _⟩ => exact Fin.ext (by show 0 + 1 * k.val = k.val; omega)
  | ⟨1, _⟩ => exact Fin.ext (by show 3328 + 1 * d.val = 3328 + d.val; omega)

theorem pay_queries (x : Vec Ideal S256x1024 .f32) (g : Vec Ideal S1x1024 .f32) (w : Vec Ideal S1024x512 .bf16) (r : Fin 256) (d : Fin 512) :
    k0_pay5 x g w (ix2 r d) = normedDot (fun k => x (ix2 r k)) (fun k => g (ix2 0 k)) (fun k => w (ix2 k d)) := by
  pointwise [k0_pay5, k0_pay4]
  rfl

theorem out_queries (x : Vec Ideal S256x1024 .f32) (g : Vec Ideal S1x1024 .f32) (w : Vec Ideal S1024x5376 .bf16) (r : Fin 256) (d : Fin 512) :
    out0_3 x g w (ix2 r d) = blkCol x g w r ⟨0 + d.val, by omega⟩ := by
  unfold out0_3
  rw [View.canon_cons_unit_lit _ _ _ (by decide)]
  refine (pay_queries _ _ _ r d).trans ?_
  rw [View.ld_unit_lit _ _ (by decide), View.ld_unit_lit _ _ (by decide)]
  exact congrArg (normedDot _ _) (funext fun k => ld_0 w k d)

theorem pay_keys (x : Vec Ideal S256x1024 .f32) (g : Vec Ideal S1x1024 .f32) (w : Vec Ideal S1024x512 .bf16) (r : Fin 256) (d : Fin 512) :
    k0_pay8 x g w (ix2 r d) = normedDot (fun k => x (ix2 r k)) (fun k => g (ix2 0 k)) (fun k => w (ix2 k d)) := by
  pointwise [k0_pay8, k0_pay6, k0_pay4]
  rfl

theorem out_keys (x : Vec Ideal S256x1024 .f32) (g : Vec Ideal S1x1024 .f32) (w : Vec Ideal S1024x5376 .bf16) (r : Fin 256) (d : Fin 512) :
    out0_4 x g w (ix2 r d) = blkCol x g w r ⟨512 + d.val, by omega⟩ := by
  unfold out0_4
  rw [View.canon_cons_unit_lit _ _ _ (by decide)]
  refine (pay_keys _ _ _ r d).trans ?_
  rw [View.ld_unit_lit _ _ (by decide), View.ld_unit_lit _ _ (by decide)]
  exact congrArg (normedDot _ _) (funext fun k => ld_512 w k d)

theorem pay_values (x : Vec Ideal S256x1024 .f32) (g : Vec Ideal S1x1024 .f32) (w : Vec Ideal S1024x512 .bf16) (r : Fin 256) (d : Fin 512) :
    k0_pay9 x g w (ix2 r d) = normedDot (fun k => x (ix2 r k)) (fun k => g (ix2 0 k)) (fun k => w (ix2 k d)) := by
  pointwise [k0_pay9, k0_pay7, k0_pay4]
  rfl

theorem out_values (x : Vec Ideal S256x1024 .f32) (g : Vec Ideal S1x1024 .f32) (w : Vec Ideal S1024x5376 .bf16) (r : Fin 256) (d : Fin 512) :
    out0_5 x g w (ix2 r d) = blkCol x g w r ⟨1024 + d.val, by omega⟩ := by
  unfold out0_5
  rw [View.canon_cons_unit_lit _ _ _ (by decide)]
  refine (pay_values _ _ _ r d).trans ?_
  rw [View.ld_unit_lit _ _ (by decide), View.ld_unit_lit _ _ (by decide)]
  exact congrArg (normedDot _ _) (funext fun k => ld_1024 w k d)

theorem pay_mixer (x : Vec Ideal S256x1024 .f32) (g : Vec Ideal S1x1024 .f32) (w : Vec Ideal S1024x1792 .bf16) (r : Fin 256) (d : Fin 1792) :
    k0_pay2 (k0_pay4 x g) w (ix2 r d) = normedDot (fun k => x (ix2 r k)) (fun k => g (ix2 0 k)) (fun k => w (ix2 k d)) := by
  pointwise [k0_pay2, k0_pay4]
  rfl

theorem out_mixer (x : Vec Ideal S256x1024 .f32) (g : Vec Ideal S1x1024 .f32) (w : Vec Ideal S1024x5376 .bf16) (r : Fin 256) (d : Fin 1792) :
    out0_6 x g w (ix2 r d) = blkCol x g w r ⟨1536 + d.val, by omega⟩ := by
  unfold out0_6 k0_pay11
  rw [View.canon_cons_unit_lit _ _ _ (by decide)]
  refine (pay_mixer _ _ _ r d).trans ?_
  rw [View.ld_unit_lit _ _ (by decide), View.ld_unit_lit _ _ (by decide)]
  exact congrArg (normedDot _ _) (funext fun k => ld_1536 w k d)

theorem pay_gates (x : Vec Ideal S256x1024 .f32) (g : Vec Ideal S1x1024 .f32) (w : Vec Ideal S1024x2048 .bf16) (r : Fin 256) (d : Fin 2048) :
    k0_pay3 (k0_pay4 x g) w (ix2 r d) = normedDot (fun k => x (ix2 r k)) (fun k => g (ix2 0 k)) (fun k => w (ix2 k d)) := by
  pointwise [k0_pay3, k0_pay4]
  rfl

theorem out_gates (x : Vec Ideal S256x1024 .f32) (g : Vec Ideal S1x1024 .f32) (w : Vec Ideal S1024x5376 .bf16) (r : Fin 256) (d : Fin 2048) :
    out0_7 x g w (ix2 r d) = blkCol x g w r ⟨3328 + d.val, by omega⟩ := by
  unfold out0_7 k0_pay11
  rw [View.canon_cons_unit_lit _ _ _ (by decide)]
  refine (pay_gates _ _ _ r d).trans ?_
  rw [View.ld_unit_lit _ _ (by decide), View.ld_unit_lit _ _ (by decide)]
  exact congrArg (normedDot _ _) (funext fun k => ld_3328 w k d)

theorem pay_keyHeads (x : Vec Ideal S256x1024 .f32) (g : Vec Ideal S1x1024 .f32) (w : Vec Ideal S1024x512 .bf16) (r : Fin 256) (h : Fin 8) (d : Fin 64) :
    k0_pay10 x g w (ix3 r h d) = normedDot (fun k => x (ix2 r k)) (fun k => g (ix2 0 k)) (fun k => w (ix2 k ⟨h.val * 64 + d.val, by omega⟩)) := by
  pointwise [k0_pay10, k0_pay6, k0_pay4]
  rfl

theorem out_keyHeads (x : Vec Ideal S256x1024 .f32) (g : Vec Ideal S1x1024 .f32) (w : Vec Ideal S1024x5376 .bf16) (r : Fin 256) (h : Fin 8) (d : Fin 64) :
    out0_8 x g w (ix3 r h d) = blkCol x g w r ⟨512 + (h.val * 64 + d.val), by omega⟩ := by
  unfold out0_8
  rw [View.canon_cons_unit_lit _ _ _ (by decide)]
  refine (pay_keyHeads _ _ _ r h d).trans ?_
  rw [View.ld_unit_lit _ _ (by decide), View.ld_unit_lit _ _ (by decide)]
  exact congrArg (normedDot _ _) (funext fun k => ld_512 w k ⟨h.val * 64 + d.val, by omega⟩)

theorem pay_valueHeads (x : Vec Ideal S256x1024 .f32) (g : Vec Ideal S1x1024 .f32) (w : Vec Ideal S1024x512 .bf16) (r : Fin 256) (h : Fin 8) (d : Fin 64) :
    k0_pay1 (k0_pay7 x g w) (ix3 r h d) = normedDot (fun k => x (ix2 r k)) (fun k => g (ix2 0 k)) (fun k => w (ix2 k ⟨h.val * 64 + d.val, by omega⟩)) := by
  pointwise [k0_pay1, k0_pay7, k0_pay4]
  rfl

theorem out_valueHeads (x : Vec Ideal S256x1024 .f32) (g : Vec Ideal S1x1024 .f32) (w : Vec Ideal S1024x5376 .bf16) (r : Fin 256) (h : Fin 8) (d : Fin 64) :
    out0_9 x g w (ix3 r h d) = blkCol x g w r ⟨1024 + (h.val * 64 + d.val), by omega⟩ := by
  unfold out0_9
  rw [View.canon_cons_unit_lit _ _ _ (by decide)]
  refine (pay_valueHeads _ _ _ r h d).trans ?_
  rw [View.ld_unit_lit _ _ (by decide), View.ld_unit_lit _ _ (by decide)]
  exact congrArg (normedDot _ _) (funext fun k => ld_1024 w k ⟨h.val * 64 + d.val, by omega⟩)

end Cert.ProjIdeal.Rows

end
-- ==== Proof.ProjRows.lean ====
/- The input projection: every grid point's rows are the reference's, and the blocks fill all seven arrays. -/
module

public import proofs.«01_k».proof.Proof.ProjBody

@[expose] public section

set_option maxRecDepth 16384

noncomputable section

namespace Cert.ProjIdeal.Rows

open Cert.ProjIdeal Cert.ProjIdeal.Gen Cert.NormRow Idealize.ShloMosaic Idealize.ShloMosaic.TcCoe Idealize.SL.Sem
open Idealize.ShloMosaic.Pipeline (Dat)
open scoped BigOperators

variable (m : (ℓ : Loc nD τ sig) → Buf (Elt Ideal) ℓ)

/-- The stream as 32768 rows. -/
abbrev rows (c : Dev nD) : FVec Ideal S32768x1024 .f32 := shapeCast _ (m ((c : Thread nD τ).loc main_arg0)) shapeCasts_S16x2048x1024_S32768x1024

/-- Entry `(i, j)` of the projected rows. -/
abbrev col (c : Dev nD) (i : Fin 32768) (j : Fin 5376) : EReal := colOf (rows m c) (m ((c : Thread nD τ).loc main_arg1)) (m ((c : Thread nD τ).loc main_arg2)) i j

abbrev queries (c : Dev nD) : Buf (Elt Ideal) ((c : Thread nD τ).loc main_v3_0) :=
  fun (i : S32768x512.Idx) => col m c (i 0) ⟨0 + (i 1).val, by have h : (i 1).val < 512 := (i 1).isLt; omega⟩

abbrev keys (c : Dev nD) : Buf (Elt Ideal) ((c : Thread nD τ).loc main_v3_1) :=
  fun (i : S32768x512.Idx) => col m c (i 0) ⟨512 + (i 1).val, by have h : (i 1).val < 512 := (i 1).isLt; omega⟩

abbrev values (c : Dev nD) : Buf (Elt Ideal) ((c : Thread nD τ).loc main_v3_2) :=
  fun (i : S32768x512.Idx) => col m c (i 0) ⟨1024 + (i 1).val, by have h : (i 1).val < 512 := (i 1).isLt; omega⟩

abbrev mixer (c : Dev nD) : Buf (Elt Ideal) ((c : Thread nD τ).loc main_v3_3) :=
  fun (i : S32768x1792.Idx) => col m c (i 0) ⟨1536 + (i 1).val, by have h : (i 1).val < 1792 := (i 1).isLt; omega⟩

abbrev gates (c : Dev nD) : Buf (Elt Ideal) ((c : Thread nD τ).loc main_v3_4) :=
  fun (i : S32768x2048.Idx) => col m c (i 0) ⟨3328 + (i 1).val, by have h : (i 1).val < 2048 := (i 1).isLt; omega⟩

abbrev keyHeads (c : Dev nD) : Buf (Elt Ideal) ((c : Thread nD τ).loc main_v3_5) :=
  fun (i : S32768x8x64.Idx) => col m c (i 0) ⟨512 + ((i 1).val * 64 + (i 2).val), by have h : (i 1).val < 8 := (i 1).isLt; have h' : (i 2).val < 64 := (i 2).isLt; omega⟩

abbrev valueHeads (c : Dev nD) : Buf (Elt Ideal) ((c : Thread nD τ).loc main_v3_6) :=
  fun (i : S32768x8x64.Idx) => col m c (i 0) ⟨1024 + ((i 1).val * 64 + (i 2).val), by have h : (i 1).val < 8 := (i 1).isLt; have h' : (i 2).val < 64 := (i 2).isLt; omega⟩

/-! ## What the host code before the call leaves -/

abbrev gain (c : Dev nD) : FVec Ideal S1x1024 .f32 := fun i => m ((c : Thread nD τ).loc main_arg1) (ix1 (i 1))

theorem host_x (c : Dev nD) : V m c main_v0 = rows m c := by
  unfold V
  after_results <;> rfl

theorem host_w (c : Dev nD) : V m c main_v1 = m ((c : Thread nD τ).loc main_arg2) := by
  unfold V
  after_results <;> rfl

theorem host_g (c : Dev nD) : V m c main_v2 = gain m c := by
  have h : V m c main_v2 = shapeCast _ (m ((c : Thread nD τ).loc main_arg1)) shapeCasts_S1024_S1x1024 := by
    unfold V
    after_results <;> rfl
  rw [h]
  refine funext fun (j : S1x1024.Idx) => ?_
  idx_vars j
  have hu : j0 = 0 := Subsingleton.elim _ _
  subst hu
  pointwise []
  rfl

/-! ## The blocks: point `t` reads and writes the 256 rows from `256 t` on; the gain and the weights are read whole -/

theorem point_lt (t : Fin cfg0.N) : t.val < 128 := lt_of_lt_of_eq t.isLt N_0

theorem at0 : ∀ t : Fin grid0.N, win0_0.index t = ![t.val, 0] := by decide +kernel
theorem at3 : ∀ t : Fin grid0.N, win0_3.index t = ![t.val, 0] := by decide +kernel
theorem at4 : ∀ t : Fin grid0.N, win0_4.index t = ![t.val, 0] := by decide +kernel
theorem at5 : ∀ t : Fin grid0.N, win0_5.index t = ![t.val, 0] := by decide +kernel
theorem at6 : ∀ t : Fin grid0.N, win0_6.index t = ![t.val, 0] := by decide +kernel
theorem at7 : ∀ t : Fin grid0.N, win0_7.index t = ![t.val, 0] := by decide +kernel
theorem at1 : ∀ t : Fin grid0.N, win0_1.index t = ![0, 0] := by decide +kernel
theorem at2 : ∀ t : Fin grid0.N, win0_2.index t = ![0, 0] := by decide +kernel
theorem at8 : ∀ t : Fin grid0.N, win0_8.index t = ![t.val, 0, 0] := by decide +kernel
theorem at9 : ∀ t : Fin grid0.N, win0_9.index t = ![t.val, 0, 0] := by decide +kernel

theorem blk_x (c : Dev nD) (t : Fin cfg0.N) (i : Fin 256) (k : Fin 1024) :
    iblk m c 0 t (ix2 i k) = rows m c (ix2 ⟨t.val * 256 + i.val, by have := point_lt t; omega⟩ k) := by
  have e := at0 t
  refine Eq.trans (congrArg (V m c main_v0) (funext fun a => ?_)) (congrFun (host_x m c) (ix2 ⟨t.val * 256 + i.val, by have := point_lt t; omega⟩ k))
  match a with
  | ⟨0, _⟩ => exact Fin.ext (by show win0_0.index t 0 * 256 + 1 * i.val = t.val * 256 + i.val; rw [e]; show t.val * 256 + 1 * i.val = _; omega)
  | ⟨1, _⟩ => exact Fin.ext (by show win0_0.index t 1 * 1024 + 1 * k.val = k.val; rw [e]; show 0 * 1024 + 1 * k.val = _; omega)

theorem blk_g (c : Dev nD) (t : Fin cfg0.N) (i : Fin 1) (k : Fin 1024) :
    iblk m c 1 t (ix2 i k) = gain m c (ix2 i k) := by
  have e := at1 t
  refine Eq.trans (congrArg (V m c main_v2) (funext fun a => ?_)) (congrFun (host_g m c) (ix2 i k))
  match a with
  | ⟨0, _⟩ => exact Fin.ext (by show win0_1.index t 0 * 1 + 1 * i.val = i.val; rw [e]; show 0 * 1 + 1 * i.val = _; omega)
  | ⟨1, _⟩ => exact Fin.ext (by show win0_1.index t 1 * 1024 + 1 * k.val = k.val; rw [e]; show 0 * 1024 + 1 * k.val = _; omega)

theorem blk_w (c : Dev nD) (t : Fin cfg0.N) (i : Fin 1024) (k : Fin 5376) :
    iblk m c 2 t (ix2 i k) = m ((c : Thread nD τ).loc main_arg2) (ix2 i k) := by
  have e := at2 t
  refine Eq.trans (congrArg (V m c main_v1) (funext fun a => ?_)) (congrFun (host_w m c) (ix2 i k))
  match a with
  | ⟨0, _⟩ => exact Fin.ext (by show win0_2.index t 0 * 1024 + 1 * i.val = i.val; rw [e]; show 0 * 1024 + 1 * i.val = _; omega)
  | ⟨1, _⟩ => exact Fin.ext (by show win0_2.index t 1 * 5376 + 1 * k.val = k.val; rw [e]; show 0 * 5376 + 1 * k.val = _; omega)

theorem blkCol_eq (c : Dev nD) (t : Fin cfg0.N) (r : Fin 256) (j : Fin 5376) :
    blkCol (iblk m c 0 t) (iblk m c 1 t) (iblk m c 2 t) r j = col m c ⟨t.val * 256 + r.val, by have := point_lt t; omega⟩ j := by
  unfold blkCol
  simp only [blk_x, blk_g, blk_w]
  rfl

theorem blk_queries (c : Dev nD) (t : Fin cfg0.N) (i : Fin 256) (d : Fin 512) :
    (win0_3.blk t).view.read (Elt Ideal) (queries m c) (ix2 i d) = queries m c (ix2 ⟨t.val * 256 + i.val, by have := point_lt t; omega⟩ d) := by
  have e := at3 t
  refine congrArg (queries m c) (funext fun a => ?_)
  match a with
  | ⟨0, _⟩ => exact Fin.ext (by show win0_3.index t 0 * 256 + 1 * i.val = t.val * 256 + i.val; rw [e]; show t.val * 256 + 1 * i.val = _; omega)
  | ⟨1, _⟩ => exact Fin.ext (by show win0_3.index t 1 * 512 + 1 * d.val = d.val; rw [e]; show 0 * 512 + 1 * d.val = _; omega)

theorem flushed_queries (c : Dev nD) (t : Fin cfg0.N) :
    (dats m 0 c).flushed 3 t = (win0_3.blk t).view.read (Elt Ideal) (queries m c) := by
  show (cfg0.win 3).cut (grid0.coords t) ((dats m 0 c).after 3 t) = _
  rw [after0_3]
  refine funext fun (j : S256x512.Idx) => ?_
  idx_vars j
  refine Eq.trans ?_ (blk_queries m c t j0 j1).symm
  exact (out_queries _ _ _ j0 j1).trans (blkCol_eq m c t j0 _)

theorem mem_queries (t : Fin cfg0.N) (i : S32768x512.Idx) (h : (i 0).val / 256 = t.val) : i ∈ ((cfg0.win 3).blk t).view.set := by
  have h1 : (i 1).val < 512 := (i 1).isLt
  show i ∈ ((View.whole main_v3_0).slice (win0_3.rect t)).set
  rw [View.set_slice_whole, Rect.mem_set_unit]
  have e := at3 t
  intro a
  match a with
  | ⟨0, _⟩ =>
    show win0_3.index t 0 * 256 ≤ (i 0).val ∧ (i 0).val < win0_3.index t 0 * 256 + 256
    rw [e]
    show t.val * 256 ≤ (i 0).val ∧ (i 0).val < t.val * 256 + 256
    omega
  | ⟨1, _⟩ =>
    show win0_3.index t 1 * 512 ≤ (i 1).val ∧ (i 1).val < win0_3.index t 1 * 512 + 512
    rw [e]
    show 0 * 512 ≤ (i 1).val ∧ (i 1).val < 0 * 512 + 512
    omega

theorem covered_queries (i : S32768x512.Idx) : ∃ t : Fin cfg0.N, (cfg0.win 3).flush t = true ∧ i ∈ ((cfg0.win 3).blk t).view.set :=
  ⟨⟨(i 0).val / 256, by have h0 : (i 0).val < 32768 := (i 0).isLt; have hN : cfg0.N = 128 := N_0; omega⟩, flush0_3 _, mem_queries _ i rfl⟩

theorem queries_eq (c : Dev nD) : (dats m 0 c).arrAt 3 cfg0.N = queries m c :=
  (dats m 0 c).arrAt_eq_of_cover 3 (queries m c) (fun t _ => flushed_queries m c t) covered_queries

theorem blk_keys (c : Dev nD) (t : Fin cfg0.N) (i : Fin 256) (d : Fin 512) :
    (win0_4.blk t).view.read (Elt Ideal) (keys m c) (ix2 i d) = keys m c (ix2 ⟨t.val * 256 + i.val, by have := point_lt t; omega⟩ d) := by
  have e := at4 t
  refine congrArg (keys m c) (funext fun a => ?_)
  match a with
  | ⟨0, _⟩ => exact Fin.ext (by show win0_4.index t 0 * 256 + 1 * i.val = t.val * 256 + i.val; rw [e]; show t.val * 256 + 1 * i.val = _; omega)
  | ⟨1, _⟩ => exact Fin.ext (by show win0_4.index t 1 * 512 + 1 * d.val = d.val; rw [e]; show 0 * 512 + 1 * d.val = _; omega)

theorem flushed_keys (c : Dev nD) (t : Fin cfg0.N) :
    (dats m 0 c).flushed 4 t = (win0_4.blk t).view.read (Elt Ideal) (keys m c) := by
  show (cfg0.win 4).cut (grid0.coords t) ((dats m 0 c).after 4 t) = _
  rw [after0_4]
  refine funext fun (j : S256x512.Idx) => ?_
  idx_vars j
  refine Eq.trans ?_ (blk_keys m c t j0 j1).symm
  exact (out_keys _ _ _ j0 j1).trans (blkCol_eq m c t j0 _)

theorem mem_keys (t : Fin cfg0.N) (i : S32768x512.Idx) (h : (i 0).val / 256 = t.val) : i ∈ ((cfg0.win 4).blk t).view.set := by
  have h1 : (i 1).val < 512 := (i 1).isLt
  show i ∈ ((View.whole main_v3_1).slice (win0_4.rect t)).set
  rw [View.set_slice_whole, Rect.mem_set_unit]
  have e := at4 t
  intro a
  match a with
  | ⟨0, _⟩ =>
    show win0_4.index t 0 * 256 ≤ (i 0).val ∧ (i 0).val < win0_4.index t 0 * 256 + 256
    rw [e]
    show t.val * 256 ≤ (i 0).val ∧ (i 0).val < t.val * 256 + 256
    omega
  | ⟨1, _⟩ =>
    show win0_4.index t 1 * 512 ≤ (i 1).val ∧ (i 1).val < win0_4.index t 1 * 512 + 512
    rw [e]
    show 0 * 512 ≤ (i 1).val ∧ (i 1).val < 0 * 512 + 512
    omega

theorem covered_keys (i : S32768x512.Idx) : ∃ t : Fin cfg0.N, (cfg0.win 4).flush t = true ∧ i ∈ ((cfg0.win 4).blk t).view.set :=
  ⟨⟨(i 0).val / 256, by have h0 : (i 0).val < 32768 := (i 0).isLt; have hN : cfg0.N = 128 := N_0; omega⟩, flush0_4 _, mem_keys _ i rfl⟩

theorem keys_eq (c : Dev nD) : (dats m 0 c).arrAt 4 cfg0.N = keys m c :=
  (dats m 0 c).arrAt_eq_of_cover 4 (keys m c) (fun t _ => flushed_keys m c t) covered_keys

theorem blk_values (c : Dev nD) (t : Fin cfg0.N) (i : Fin 256) (d : Fin 512) :
    (win0_5.blk t).view.read (Elt Ideal) (values m c) (ix2 i d) = values m c (ix2 ⟨t.val * 256 + i.val, by have := point_lt t; omega⟩ d) := by
  have e := at5 t
  refine congrArg (values m c) (funext fun a => ?_)
  match a with
  | ⟨0, _⟩ => exact Fin.ext (by show win0_5.index t 0 * 256 + 1 * i.val = t.val * 256 + i.val; rw [e]; show t.val * 256 + 1 * i.val = _; omega)
  | ⟨1, _⟩ => exact Fin.ext (by show win0_5.index t 1 * 512 + 1 * d.val = d.val; rw [e]; show 0 * 512 + 1 * d.val = _; omega)

theorem flushed_values (c : Dev nD) (t : Fin cfg0.N) :
    (dats m 0 c).flushed 5 t = (win0_5.blk t).view.read (Elt Ideal) (values m c) := by
  show (cfg0.win 5).cut (grid0.coords t) ((dats m 0 c).after 5 t) = _
  rw [after0_5]
  refine funext fun (j : S256x512.Idx) => ?_
  idx_vars j
  refine Eq.trans ?_ (blk_values m c t j0 j1).symm
  exact (out_values _ _ _ j0 j1).trans (blkCol_eq m c t j0 _)

theorem mem_values (t : Fin cfg0.N) (i : S32768x512.Idx) (h : (i 0).val / 256 = t.val) : i ∈ ((cfg0.win 5).blk t).view.set := by
  have h1 : (i 1).val < 512 := (i 1).isLt
  show i ∈ ((View.whole main_v3_2).slice (win0_5.rect t)).set
  rw [View.set_slice_whole, Rect.mem_set_unit]
  have e := at5 t
  intro a
  match a with
  | ⟨0, _⟩ =>
    show win0_5.index t 0 * 256 ≤ (i 0).val ∧ (i 0).val < win0_5.index t 0 * 256 + 256
    rw [e]
    show t.val * 256 ≤ (i 0).val ∧ (i 0).val < t.val * 256 + 256
    omega
  | ⟨1, _⟩ =>
    show win0_5.index t 1 * 512 ≤ (i 1).val ∧ (i 1).val < win0_5.index t 1 * 512 + 512
    rw [e]
    show 0 * 512 ≤ (i 1).val ∧ (i 1).val < 0 * 512 + 512
    omega

theorem covered_values (i : S32768x512.Idx) : ∃ t : Fin cfg0.N, (cfg0.win 5).flush t = true ∧ i ∈ ((cfg0.win 5).blk t).view.set :=
  ⟨⟨(i 0).val / 256, by have h0 : (i 0).val < 32768 := (i 0).isLt; have hN : cfg0.N = 128 := N_0; omega⟩, flush0_5 _, mem_values _ i rfl⟩

theorem values_eq (c : Dev nD) : (dats m 0 c).arrAt 5 cfg0.N = values m c :=
  (dats m 0 c).arrAt_eq_of_cover 5 (values m c) (fun t _ => flushed_values m c t) covered_values

theorem blk_mixer (c : Dev nD) (t : Fin cfg0.N) (i : Fin 256) (d : Fin 1792) :
    (win0_6.blk t).view.read (Elt Ideal) (mixer m c) (ix2 i d) = mixer m c (ix2 ⟨t.val * 256 + i.val, by have := point_lt t; omega⟩ d) := by
  have e := at6 t
  refine congrArg (mixer m c) (funext fun a => ?_)
  match a with
  | ⟨0, _⟩ => exact Fin.ext (by show win0_6.index t 0 * 256 + 1 * i.val = t.val * 256 + i.val; rw [e]; show t.val * 256 + 1 * i.val = _; omega)
  | ⟨1, _⟩ => exact Fin.ext (by show win0_6.index t 1 * 1792 + 1 * d.val = d.val; rw [e]; show 0 * 1792 + 1 * d.val = _; omega)

theorem flushed_mixer (c : Dev nD) (t : Fin cfg0.N) :
    (dats m 0 c).flushed 6 t = (win0_6.blk t).view.read (Elt Ideal) (mixer m c) := by
  show (cfg0.win 6).cut (grid0.coords t) ((dats m 0 c).after 6 t) = _
  rw [after0_6]
  refine funext fun (j : S256x1792.Idx) => ?_
  idx_vars j
  refine Eq.trans ?_ (blk_mixer m c t j0 j1).symm
  exact (out_mixer _ _ _ j0 j1).trans (blkCol_eq m c t j0 _)

theorem mem_mixer (t : Fin cfg0.N) (i : S32768x1792.Idx) (h : (i 0).val / 256 = t.val) : i ∈ ((cfg0.win 6).blk t).view.set := by
  have h1 : (i 1).val < 1792 := (i 1).isLt
  show i ∈ ((View.whole main_v3_3).slice (win0_6.rect t)).set
  rw [View.set_slice_whole, Rect.mem_set_unit]
  have e := at6 t
  intro a
  match a with
  | ⟨0, _⟩ =>
    show win0_6.index t 0 * 256 ≤ (i 0).val ∧ (i 0).val < win0_6.index t 0 * 256 + 256
    rw [e]
    show t.val * 256 ≤ (i 0).val ∧ (i 0).val < t.val * 256 + 256
    omega
  | ⟨1, _⟩ =>
    show win0_6.index t 1 * 1792 ≤ (i 1).val ∧ (i 1).val < win0_6.index t 1 * 1792 + 1792
    rw [e]
    show 0 * 1792 ≤ (i 1).val ∧ (i 1).val < 0 * 1792 + 1792
    omega

theorem covered_mixer (i : S32768x1792.Idx) : ∃ t : Fin cfg0.N, (cfg0.win 6).flush t = true ∧ i ∈ ((cfg0.win 6).blk t).view.set :=
  ⟨⟨(i 0).val / 256, by have h0 : (i 0).val < 32768 := (i 0).isLt; have hN : cfg0.N = 128 := N_0; omega⟩, flush0_6 _, mem_mixer _ i rfl⟩

theorem mixer_eq (c : Dev nD) : (dats m 0 c).arrAt 6 cfg0.N = mixer m c :=
  (dats m 0 c).arrAt_eq_of_cover 6 (mixer m c) (fun t _ => flushed_mixer m c t) covered_mixer

theorem blk_gates (c : Dev nD) (t : Fin cfg0.N) (i : Fin 256) (d : Fin 2048) :
    (win0_7.blk t).view.read (Elt Ideal) (gates m c) (ix2 i d) = gates m c (ix2 ⟨t.val * 256 + i.val, by have := point_lt t; omega⟩ d) := by
  have e := at7 t
  refine congrArg (gates m c) (funext fun a => ?_)
  match a with
  | ⟨0, _⟩ => exact Fin.ext (by show win0_7.index t 0 * 256 + 1 * i.val = t.val * 256 + i.val; rw [e]; show t.val * 256 + 1 * i.val = _; omega)
  | ⟨1, _⟩ => exact Fin.ext (by show win0_7.index t 1 * 2048 + 1 * d.val = d.val; rw [e]; show 0 * 2048 + 1 * d.val = _; omega)

theorem flushed_gates (c : Dev nD) (t : Fin cfg0.N) :
    (dats m 0 c).flushed 7 t = (win0_7.blk t).view.read (Elt Ideal) (gates m c) := by
  show (cfg0.win 7).cut (grid0.coords t) ((dats m 0 c).after 7 t) = _
  rw [after0_7]
  refine funext fun (j : S256x2048.Idx) => ?_
  idx_vars j
  refine Eq.trans ?_ (blk_gates m c t j0 j1).symm
  exact (out_gates _ _ _ j0 j1).trans (blkCol_eq m c t j0 _)

theorem mem_gates (t : Fin cfg0.N) (i : S32768x2048.Idx) (h : (i 0).val / 256 = t.val) : i ∈ ((cfg0.win 7).blk t).view.set := by
  have h1 : (i 1).val < 2048 := (i 1).isLt
  show i ∈ ((View.whole main_v3_4).slice (win0_7.rect t)).set
  rw [View.set_slice_whole, Rect.mem_set_unit]
  have e := at7 t
  intro a
  match a with
  | ⟨0, _⟩ =>
    show win0_7.index t 0 * 256 ≤ (i 0).val ∧ (i 0).val < win0_7.index t 0 * 256 + 256
    rw [e]
    show t.val * 256 ≤ (i 0).val ∧ (i 0).val < t.val * 256 + 256
    omega
  | ⟨1, _⟩ =>
    show win0_7.index t 1 * 2048 ≤ (i 1).val ∧ (i 1).val < win0_7.index t 1 * 2048 + 2048
    rw [e]
    show 0 * 2048 ≤ (i 1).val ∧ (i 1).val < 0 * 2048 + 2048
    omega

theorem covered_gates (i : S32768x2048.Idx) : ∃ t : Fin cfg0.N, (cfg0.win 7).flush t = true ∧ i ∈ ((cfg0.win 7).blk t).view.set :=
  ⟨⟨(i 0).val / 256, by have h0 : (i 0).val < 32768 := (i 0).isLt; have hN : cfg0.N = 128 := N_0; omega⟩, flush0_7 _, mem_gates _ i rfl⟩

theorem gates_eq (c : Dev nD) : (dats m 0 c).arrAt 7 cfg0.N = gates m c :=
  (dats m 0 c).arrAt_eq_of_cover 7 (gates m c) (fun t _ => flushed_gates m c t) covered_gates

theorem blk_keyHeads (c : Dev nD) (t : Fin cfg0.N) (i : Fin 256) (h : Fin 8) (d : Fin 64) :
    (win0_8.blk t).view.read (Elt Ideal) (keyHeads m c) (ix3 i h d) = keyHeads m c (ix3 ⟨t.val * 256 + i.val, by have := point_lt t; omega⟩ h d) := by
  have e := at8 t
  refine congrArg (keyHeads m c) (funext fun a => ?_)
  match a with
  | ⟨0, _⟩ => exact Fin.ext (by show win0_8.index t 0 * 256 + 1 * i.val = t.val * 256 + i.val; rw [e]; show t.val * 256 + 1 * i.val = _; omega)
  | ⟨1, _⟩ => exact Fin.ext (by show win0_8.index t 1 * 8 + 1 * h.val = h.val; rw [e]; show 0 * 8 + 1 * h.val = _; omega)
  | ⟨2, _⟩ => exact Fin.ext (by show win0_8.index t 2 * 64 + 1 * d.val = d.val; rw [e]; show 0 * 64 + 1 * d.val = _; omega)

theorem flushed_keyHeads (c : Dev nD) (t : Fin cfg0.N) :
    (dats m 0 c).flushed 8 t = (win0_8.blk t).view.read (Elt Ideal) (keyHeads m c) := by
  show (cfg0.win 8).cut (grid0.coords t) ((dats m 0 c).after 8 t) = _
  rw [after0_8]
  refine funext fun (j : S256x8x64.Idx) => ?_
  idx_vars j
  refine Eq.trans ?_ (blk_keyHeads m c t j0 j1 j2).symm
  exact (out_keyHeads _ _ _ j0 j1 j2).trans (blkCol_eq m c t j0 _)

theorem mem_keyHeads (t : Fin cfg0.N) (i : S32768x8x64.Idx) (h : (i 0).val / 256 = t.val) : i ∈ ((cfg0.win 8).blk t).view.set := by
  have h1 : (i 1).val < 8 := (i 1).isLt
  have h2 : (i 2).val < 64 := (i 2).isLt
  show i ∈ ((View.whole main_v3_5).slice (win0_8.rect t)).set
  rw [View.set_slice_whole, Rect.mem_set_unit]
  have e := at8 t
  intro a
  match a with
  | ⟨0, _⟩ =>
    show win0_8.index t 0 * 256 ≤ (i 0).val ∧ (i 0).val < win0_8.index t 0 * 256 + 256
    rw [e]
    show t.val * 256 ≤ (i 0).val ∧ (i 0).val < t.val * 256 + 256
    omega
  | ⟨1, _⟩ =>
    show win0_8.index t 1 * 8 ≤ (i 1).val ∧ (i 1).val < win0_8.index t 1 * 8 + 8
    rw [e]
    show 0 * 8 ≤ (i 1).val ∧ (i 1).val < 0 * 8 + 8
    omega
  | ⟨2, _⟩ =>
    show win0_8.index t 2 * 64 ≤ (i 2).val ∧ (i 2).val < win0_8.index t 2 * 64 + 64
    rw [e]
    show 0 * 64 ≤ (i 2).val ∧ (i 2).val < 0 * 64 + 64
    omega

theorem covered_keyHeads (i : S32768x8x64.Idx) : ∃ t : Fin cfg0.N, (cfg0.win 8).flush t = true ∧ i ∈ ((cfg0.win 8).blk t).view.set :=
  ⟨⟨(i 0).val / 256, by have h0 : (i 0).val < 32768 := (i 0).isLt; have hN : cfg0.N = 128 := N_0; omega⟩, flush0_8 _, mem_keyHeads _ i rfl⟩

theorem keyHeads_eq (c : Dev nD) : (dats m 0 c).arrAt 8 cfg0.N = keyHeads m c :=
  (dats m 0 c).arrAt_eq_of_cover 8 (keyHeads m c) (fun t _ => flushed_keyHeads m c t) covered_keyHeads

theorem blk_valueHeads (c : Dev nD) (t : Fin cfg0.N) (i : Fin 256) (h : Fin 8) (d : Fin 64) :
    (win0_9.blk t).view.read (Elt Ideal) (valueHeads m c) (ix3 i h d) = valueHeads m c (ix3 ⟨t.val * 256 + i.val, by have := point_lt t; omega⟩ h d) := by
  have e := at9 t
  refine congrArg (valueHeads m c) (funext fun a => ?_)
  match a with
  | ⟨0, _⟩ => exact Fin.ext (by show win0_9.index t 0 * 256 + 1 * i.val = t.val * 256 + i.val; rw [e]; show t.val * 256 + 1 * i.val = _; omega)
  | ⟨1, _⟩ => exact Fin.ext (by show win0_9.index t 1 * 8 + 1 * h.val = h.val; rw [e]; show 0 * 8 + 1 * h.val = _; omega)
  | ⟨2, _⟩ => exact Fin.ext (by show win0_9.index t 2 * 64 + 1 * d.val = d.val; rw [e]; show 0 * 64 + 1 * d.val = _; omega)

theorem flushed_valueHeads (c : Dev nD) (t : Fin cfg0.N) :
    (dats m 0 c).flushed 9 t = (win0_9.blk t).view.read (Elt Ideal) (valueHeads m c) := by
  show (cfg0.win 9).cut (grid0.coords t) ((dats m 0 c).after 9 t) = _
  rw [after0_9]
  refine funext fun (j : S256x8x64.Idx) => ?_
  idx_vars j
  refine Eq.trans ?_ (blk_valueHeads m c t j0 j1 j2).symm
  exact (out_valueHeads _ _ _ j0 j1 j2).trans (blkCol_eq m c t j0 _)

theorem mem_valueHeads (t : Fin cfg0.N) (i : S32768x8x64.Idx) (h : (i 0).val / 256 = t.val) : i ∈ ((cfg0.win 9).blk t).view.set := by
  have h1 : (i 1).val < 8 := (i 1).isLt
  have h2 : (i 2).val < 64 := (i 2).isLt
  show i ∈ ((View.whole main_v3_6).slice (win0_9.rect t)).set
  rw [View.set_slice_whole, Rect.mem_set_unit]
  have e := at9 t
  intro a
  match a with
  | ⟨0, _⟩ =>
    show win0_9.index t 0 * 256 ≤ (i 0).val ∧ (i 0).val < win0_9.index t 0 * 256 + 256
    rw [e]
    show t.val * 256 ≤ (i 0).val ∧ (i 0).val < t.val * 256 + 256
    omega
  | ⟨1, _⟩ =>
    show win0_9.index t 1 * 8 ≤ (i 1).val ∧ (i 1).val < win0_9.index t 1 * 8 + 8
    rw [e]
    show 0 * 8 ≤ (i 1).val ∧ (i 1).val < 0 * 8 + 8
    omega
  | ⟨2, _⟩ =>
    show win0_9.index t 2 * 64 ≤ (i 2).val ∧ (i 2).val < win0_9.index t 2 * 64 + 64
    rw [e]
    show 0 * 64 ≤ (i 2).val ∧ (i 2).val < 0 * 64 + 64
    omega

theorem covered_valueHeads (i : S32768x8x64.Idx) : ∃ t : Fin cfg0.N, (cfg0.win 9).flush t = true ∧ i ∈ ((cfg0.win 9).blk t).view.set :=
  ⟨⟨(i 0).val / 256, by have h0 : (i 0).val < 32768 := (i 0).isLt; have hN : cfg0.N = 128 := N_0; omega⟩, flush0_9 _, mem_valueHeads _ i rfl⟩

theorem valueHeads_eq (c : Dev nD) : (dats m 0 c).arrAt 9 cfg0.N = valueHeads m c :=
  (dats m 0 c).arrAt_eq_of_cover 9 (valueHeads m c) (fun t _ => flushed_valueHeads m c t) covered_valueHeads

/-- The kernel's run, read: the seven arrays, and the arguments as they were. -/
theorem run (ρ : Dev nD → PrngReg) :
    θ_run defs (onTc (τ := τ) (main (F := Ideal))) ⟨m, fun _ => 0, ρ⟩ fun r => ∀ c : Dev nD,
      r.2.mem ((c : Thread nD τ).loc main_v3_0) = queries m c
      ∧ r.2.mem ((c : Thread nD τ).loc main_v3_1) = keys m c
      ∧ r.2.mem ((c : Thread nD τ).loc main_v3_2) = values m c
      ∧ r.2.mem ((c : Thread nD τ).loc main_v3_3) = mixer m c
      ∧ r.2.mem ((c : Thread nD τ).loc main_v3_4) = gates m c
      ∧ r.2.mem ((c : Thread nD τ).loc main_v3_5) = keyHeads m c
      ∧ r.2.mem ((c : Thread nD τ).loc main_v3_6) = valueHeads m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 3).trans (queries_eq m c), ((h c).1 4).trans (keys_eq m c), ((h c).1 5).trans (values_eq m c), ((h c).1 6).trans (mixer_eq m c), ((h c).1 7).trans (gates_eq m c), ((h c).1 8).trans (keyHeads_eq m c), ((h c).1 9).trans (valueHeads_eq m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩)
    (run_main m ρ)

end Cert.ProjIdeal.Rows

end
-- ==== Proof.ProjRef.lean ====
/- The reference's input projection read at a row and a column. -/
module

public import proofs.«01_k».proof.Proof.ProjRows
public import proofs.«01_k».proof.Proof.Gen.ProjReferenceIdeal.Run

@[expose] public section

set_option maxRecDepth 16384

noncomputable section

namespace Cert.ProjReferenceIdeal.Rows

open Cert.ProjReferenceIdeal Cert.ProjReferenceIdeal.Gen Cert.NormRow Idealize.ShloMosaic Idealize.ShloMosaic.TcCoe Idealize.SL.Sem
open Cert.ProjIdeal.Rows (colOf)
open scoped BigOperators

/-- The normed rows against the projection matrix. -/
abbrev full (x : FVec Ideal S32768x1024 .f32) (g : FVec Ideal S1024 .f32) (w : FVec Ideal S1024x5376 .f32) : FVec Ideal S32768x5376 .f32 :=
  Host.dotGeneral dot_S32768x1024_S1024x5376_S32768x5376_1_0_0_1_n_n none (mulf (mulf x (broadcastInDim S32768x1024 ![0, 1] bcast_S32768x1_S32768x1024_0_1
    (Host.rsqrt (addf (Host.divf (broadcastInDim S32768x1 ![0] bcast_S32768_S32768x1_0 (Host.reduceAdd (mulf x x) (constant (F := Ideal) S_ .f32 0x00000000#32)
      reducesTo_S32768x1024_S32768_d1 h_S_)) (broadcastInDim S32768x1 ![] bcast_S_S32768x1 (constant (F := Ideal) S_ .f32 0x44800000#32)))
      (broadcastInDim S32768x1 ![] bcast_S_S32768x1 (constant (F := Ideal) S_ .f32 0x3727C5AC#32))))))
    (broadcastInDim S32768x1024 ![0, 1] bcast_S1x1024_S32768x1024_0_1 (broadcastInDim S1x1024 ![1] bcast_S1024_S1x1024_1 g))) w

theorem full_apply (x : FVec Ideal S32768x1024 .f32) (g : FVec Ideal S1024 .f32) (w : FVec Ideal S1024x5376 .f32) (i : Fin 32768) (j : Fin 5376) :
    full x g w (ix2 i j) = colOf x g w i j := by
  pointwise []
  rfl

theorem queries_apply (y : FVec Ideal S32768x5376 .f32) (i : Fin 32768) (d : Fin 512) :
    (truncf .bf16 (extractStridedSlice S32768x512 ![0, 0] (extractStridedSlice S32768x1536 ![0, 0] y slices_S32768x5376_S32768x1536_0_0) slices_S32768x1536_S32768x512_0_0 : FVec Ideal S32768x512 .f32) bitsLt_bf16_f32) (ix2 i d) = y (ix2 i ⟨0 + d.val, by omega⟩) := by
  pointwise []
  try (congr 3 <;> omega)

theorem keys_apply (y : FVec Ideal S32768x5376 .f32) (i : Fin 32768) (d : Fin 512) :
    (truncf .bf16 (extractStridedSlice S32768x512 ![0, 512] (extractStridedSlice S32768x1536 ![0, 0] y slices_S32768x5376_S32768x1536_0_0) slices_S32768x1536_S32768x512_0_512 : FVec Ideal S32768x512 .f32) bitsLt_bf16_f32) (ix2 i d) = y (ix2 i ⟨512 + d.val, by omega⟩) := by
  pointwise []
  try (congr 3 <;> omega)

theorem values_apply (y : FVec Ideal S32768x5376 .f32) (i : Fin 32768) (d : Fin 512) :
    (truncf .bf16 (extractStridedSlice S32768x512 ![0, 1024] (extractStridedSlice S32768x1536 ![0, 0] y slices_S32768x5376_S32768x1536_0_0) slices_S32768x1536_S32768x512_0_1024 : FVec Ideal S32768x512 .f32) bitsLt_bf16_f32) (ix2 i d) = y (ix2 i ⟨1024 + d.val, by omega⟩) := by
  pointwise []
  try (congr 3 <;> omega)

theorem mixer_apply (y : FVec Ideal S32768x5376 .f32) (i : Fin 32768) (d : Fin 1792) :
    (extractStridedSlice S32768x1792 ![0, 1536] y slices_S32768x5376_S32768x1792_0_1536) (ix2 i d) = y (ix2 i ⟨1536 + d.val, by omega⟩) := by
  pointwise []
  try (congr 3 <;> omega)

theorem gates_apply (y : FVec Ideal S32768x5376 .f32) (i : Fin 32768) (d : Fin 2048) :
    (truncf .bf16 (extractStridedSlice S32768x2048 ![0, 3328] y slices_S32768x5376_S32768x2048_0_3328 : FVec Ideal S32768x2048 .f32) bitsLt_bf16_f32) (ix2 i d) = y (ix2 i ⟨3328 + d.val, by omega⟩) := by
  pointwise []
  try (congr 3 <;> omega)

theorem keyHeads_apply (y : FVec Ideal S32768x5376 .f32) (i : Fin 32768) (h : Fin 8) (d : Fin 64) :
    (shapeCast S32768x8x64 (extractStridedSlice S32768x512 ![0, 512] (extractStridedSlice S32768x1536 ![0, 0] y slices_S32768x5376_S32768x1536_0_0) slices_S32768x1536_S32768x512_0_512) shapeCasts_S32768x512_S32768x8x64) (ix3 i h d) = y (ix2 i ⟨512 + (h.val * 64 + d.val), by omega⟩) := by
  pointwise []
  try (congr 3 <;> omega)

theorem valueHeads_apply (y : FVec Ideal S32768x5376 .f32) (i : Fin 32768) (h : Fin 8) (d : Fin 64) :
    (shapeCast S32768x8x64 (extractStridedSlice S32768x512 ![0, 1024] (extractStridedSlice S32768x1536 ![0, 0] y slices_S32768x5376_S32768x1536_0_0) slices_S32768x1536_S32768x512_0_1024) shapeCasts_S32768x512_S32768x8x64) (ix3 i h d) = y (ix2 i ⟨1024 + (h.val * 64 + d.val), by omega⟩) := by
  pointwise []
  try (congr 3 <;> omega)

/-- The reference's run, read. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = (fun (i : S32768x512.Idx) => colOf (shapeCast _ (m ((c.tc : Thread nD τ).loc main_arg0)) shapeCasts_S16x2048x1024_S32768x1024) (m ((c.tc : Thread nD τ).loc main_arg1)) (m ((c.tc : Thread nD τ).loc main_arg2)) (i 0) ⟨0 + (i 1).val, by have h : (i 1).val < 512 := (i 1).isLt; omega⟩)
      ∧ r.2.mem ((c.tc : Thread nD τ).loc main_v22) = (fun (i : S32768x512.Idx) => colOf (shapeCast _ (m ((c.tc : Thread nD τ).loc main_arg0)) shapeCasts_S16x2048x1024_S32768x1024) (m ((c.tc : Thread nD τ).loc main_arg1)) (m ((c.tc : Thread nD τ).loc main_arg2)) (i 0) ⟨512 + (i 1).val, by have h : (i 1).val < 512 := (i 1).isLt; omega⟩)
      ∧ r.2.mem ((c.tc : Thread nD τ).loc main_v23) = (fun (i : S32768x512.Idx) => colOf (shapeCast _ (m ((c.tc : Thread nD τ).loc main_arg0)) shapeCasts_S16x2048x1024_S32768x1024) (m ((c.tc : Thread nD τ).loc main_arg1)) (m ((c.tc : Thread nD τ).loc main_arg2)) (i 0) ⟨1024 + (i 1).val, by have h : (i 1).val < 512 := (i 1).isLt; omega⟩)
      ∧ r.2.mem ((c.tc : Thread nD τ).loc main_v16) = (fun (i : S32768x1792.Idx) => colOf (shapeCast _ (m ((c.tc : Thread nD τ).loc main_arg0)) shapeCasts_S16x2048x1024_S32768x1024) (m ((c.tc : Thread nD τ).loc main_arg1)) (m ((c.tc : Thread nD τ).loc main_arg2)) (i 0) ⟨1536 + (i 1).val, by have h : (i 1).val < 1792 := (i 1).isLt; omega⟩)
      ∧ r.2.mem ((c.tc : Thread nD τ).loc main_v24) = (fun (i : S32768x2048.Idx) => colOf (shapeCast _ (m ((c.tc : Thread nD τ).loc main_arg0)) shapeCasts_S16x2048x1024_S32768x1024) (m ((c.tc : Thread nD τ).loc main_arg1)) (m ((c.tc : Thread nD τ).loc main_arg2)) (i 0) ⟨3328 + (i 1).val, by have h : (i 1).val < 2048 := (i 1).isLt; omega⟩)
      ∧ r.2.mem ((c.tc : Thread nD τ).loc main_v25) = (fun (i : S32768x8x64.Idx) => colOf (shapeCast _ (m ((c.tc : Thread nD τ).loc main_arg0)) shapeCasts_S16x2048x1024_S32768x1024) (m ((c.tc : Thread nD τ).loc main_arg1)) (m ((c.tc : Thread nD τ).loc main_arg2)) (i 0) ⟨512 + ((i 1).val * 64 + (i 2).val), by have h : (i 1).val < 8 := (i 1).isLt; have h' : (i 2).val < 64 := (i 2).isLt; omega⟩)
      ∧ r.2.mem ((c.tc : Thread nD τ).loc main_v26) = (fun (i : S32768x8x64.Idx) => colOf (shapeCast _ (m ((c.tc : Thread nD τ).loc main_arg0)) shapeCasts_S16x2048x1024_S32768x1024) (m ((c.tc : Thread nD τ).loc main_arg1)) (m ((c.tc : Thread nD τ).loc main_arg2)) (i 0) ⟨1024 + ((i 1).val * 64 + (i 2).val), by have h : (i 1).val < 8 := (i 1).isLt; have h' : (i 2).val < 64 := (i 2).isLt; omega⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1).trans (funext fun i => by idx_vars i; exact (queries_apply _ i0 i1).trans (full_apply _ _ _ _ _)), ((h c).2.1).trans (funext fun i => by idx_vars i; exact (keys_apply _ i0 i1).trans (full_apply _ _ _ _ _)), ((h c).2.2.1).trans (funext fun i => by idx_vars i; exact (values_apply _ i0 i1).trans (full_apply _ _ _ _ _)), ((h c).2.2.2.1).trans (funext fun i => by idx_vars i; exact (mixer_apply _ i0 i1).trans (full_apply _ _ _ _ _)), ((h c).2.2.2.2.1).trans (funext fun i => by idx_vars i; exact (gates_apply _ i0 i1).trans (full_apply _ _ _ _ _)), ((h c).2.2.2.2.2.1).trans (funext fun i => by idx_vars i; exact (keyHeads_apply _ i0 i1 i2).trans (full_apply _ _ _ _ _)), ((h c).2.2.2.2.2.2.1).trans (funext fun i => by idx_vars i; exact (valueHeads_apply _ i0 i1 i2).trans (full_apply _ _ _ _ _)), (h c).2.2.2.2.2.2.2⟩)
    (Value.run (F := Ideal) m ρ)

end Cert.ProjReferenceIdeal.Rows

end
-- ==== Proof.ShiftSampleRows.lean ====
/- The sample's shift state: the last row of every sequence, normed, in the kernel and in the reference. -/
module

public import proofs.«01_k».proof.Proof.NormRow
public import proofs.«01_k».proof.Proof.Gen.ShiftSampleIdeal.Value
public import proofs.«01_k».proof.Proof.Gen.ShiftSampleReferenceIdeal.Run
public import Idealize.ShloMosaic.Lib.Pipeline.ValueKit.Basic
public import Idealize.ShloMosaic.Lib.Pointwise

@[expose] public section

set_option maxRecDepth 16384

noncomputable section

namespace Cert.ShiftSampleIdeal.Rows

open Cert.ShiftSampleIdeal Cert.ShiftSampleIdeal.Gen Cert.NormRow Idealize.ShloMosaic Idealize.ShloMosaic.TcCoe Idealize.SL.Sem
open Idealize.ShloMosaic.Pipeline (Dat)
open scoped BigOperators

variable (m : (ℓ : Loc nD τ sig) → Buf (Elt Ideal) ℓ)

/-- Every sequence's last row, normed. -/
def lastNormed (x : FVec Ideal S8x32x1024 .f32) (g : FVec Ideal S1024 .f32) : FVec Ideal S8x1024 .f32 :=
  fun i => normed (fun k => x (ix3 (i 0) 31 k)) (fun k => g (ix1 k)) (i 1)

abbrev res (c : Dev nD) : Buf (Elt Ideal) ((c : Thread nD τ).loc main_v3) :=
  lastNormed (m ((c : Thread nD τ).loc main_arg0)) (m ((c : Thread nD τ).loc main_arg1))

/-! ## The body -/

theorem pay1_apply (x : Vec Ideal S8x1024 .f32) (g : Vec Ideal S1x1024 .f32) (r : Fin 8) (d : Fin 1024) :
    k0_pay1 x g (ix2 r d) = normed (fun k => x (ix2 r k)) (fun k => g (ix2 0 k)) d := by
  pointwise [k0_pay1]
  rfl

theorem out2_eq (x : Vec Ideal S8x1024 .f32) (g : Vec Ideal S1x1024 .f32) : out0_2 x g = k0_pay1 x g := by
  unfold out0_2
  rw [View.canon_cons_unit_lit _ _ _ (by decide), View.ld_unit_lit _ _ (by decide), View.ld_unit_lit _ _ (by decide)]

/-! ## What the host code before the call leaves -/

abbrev lastRows (c : Dev nD) : FVec Ideal S8x1024 .f32 := fun i => m ((c : Thread nD τ).loc main_arg0) (ix3 (i 0) 31 (i 1))

abbrev gain (c : Dev nD) : FVec Ideal S1x1024 .f32 := fun i => m ((c : Thread nD τ).loc main_arg1) (ix1 (i 1))

theorem host_x (c : Dev nD) : V m c main_v1 = lastRows m c := by
  have h : V m c main_v1 = shapeCast _ (extractStridedSlice S8x1x1024 ![0, 31, 0] (m ((c : Thread nD τ).loc main_arg0)) slices_S8x32x1024_S8x1x1024_0_31_0)
      shapeCasts_S8x1x1024_S8x1024 := by
    unfold V
    after_results <;> rfl
  rw [h]
  refine funext fun (j : S8x1024.Idx) => ?_
  idx_vars j
  pointwise []
  rfl

theorem host_g (c : Dev nD) : V m c main_v2 = gain m c := by
  have h : V m c main_v2 = shapeCast _ (m ((c : Thread nD τ).loc main_arg1)) shapeCasts_S1024_S1x1024 := by
    unfold V
    after_results <;> rfl
  rw [h]
  refine funext fun (j : S1x1024.Idx) => ?_
  idx_vars j
  have hu : j0 = 0 := Subsingleton.elim _ _
  subst hu
  pointwise []
  rfl

/-! ## The one block: all eight rows -/

theorem at0 : ∀ t : Fin grid0.N, win0_0.index t = ![0, 0] := by decide +kernel
theorem at1 : ∀ t : Fin grid0.N, win0_1.index t = ![0, 0] := by decide +kernel
theorem at2 : ∀ t : Fin grid0.N, win0_2.index t = ![0, 0] := by decide +kernel

theorem blk_x (c : Dev nD) (t : Fin cfg0.N) (i : Fin 8) (k : Fin 1024) :
    iblk m c 0 t (ix2 i k) = lastRows m c (ix2 i k) := by
  have e := at0 t
  refine Eq.trans (congrArg (V m c main_v1) (funext fun a => ?_)) (congrFun (host_x m c) (ix2 i k))
  match a with
  | ⟨0, _⟩ => exact Fin.ext (by show win0_0.index t 0 * 8 + 1 * i.val = i.val; rw [e]; show 0 * 8 + 1 * i.val = _; omega)
  | ⟨1, _⟩ => exact Fin.ext (by show win0_0.index t 1 * 1024 + 1 * k.val = k.val; rw [e]; show 0 * 1024 + 1 * k.val = _; omega)

theorem blk_g (c : Dev nD) (t : Fin cfg0.N) (i : Fin 1) (k : Fin 1024) :
    iblk m c 1 t (ix2 i k) = gain m c (ix2 i k) := by
  have e := at1 t
  refine Eq.trans (congrArg (V m c main_v2) (funext fun a => ?_)) (congrFun (host_g m c) (ix2 i k))
  match a with
  | ⟨0, _⟩ => exact Fin.ext (by show win0_1.index t 0 * 1 + 1 * i.val = i.val; rw [e]; show 0 * 1 + 1 * i.val = _; omega)
  | ⟨1, _⟩ => exact Fin.ext (by show win0_1.index t 1 * 1024 + 1 * k.val = k.val; rw [e]; show 0 * 1024 + 1 * k.val = _; omega)

theorem blk_res (c : Dev nD) (t : Fin cfg0.N) (i : Fin 8) (d : Fin 1024) :
    (win0_2.blk t).view.read (Elt Ideal) (res m c) (ix2 i d) = res m c (ix2 i d) := by
  have e := at2 t
  refine congrArg (res m c) (funext fun a => ?_)
  match a with
  | ⟨0, _⟩ => exact Fin.ext (by show win0_2.index t 0 * 8 + 1 * i.val = i.val; rw [e]; show 0 * 8 + 1 * i.val = _; omega)
  | ⟨1, _⟩ => exact Fin.ext (by show win0_2.index t 1 * 1024 + 1 * d.val = d.val; rw [e]; show 0 * 1024 + 1 * d.val = _; omega)

theorem flushed_res (c : Dev nD) (t : Fin cfg0.N) :
    (dats m 0 c).flushed 2 t = (win0_2.blk t).view.read (Elt Ideal) (res m c) := by
  rw [Value.flushed2, out2_eq]
  refine funext fun (j : S8x1024.Idx) => ?_
  idx_vars j
  refine Eq.trans ?_ (blk_res m c t j0 j1).symm
  refine (pay1_apply _ _ j0 j1).trans ?_
  simp only [blk_x, blk_g]
  rfl

theorem mem_res (t : Fin cfg0.N) (i : S8x1024.Idx) : i ∈ ((cfg0.win 2).blk t).view.set := by
  have h0 : (i 0).val < 8 := (i 0).isLt
  have h1 : (i 1).val < 1024 := (i 1).isLt
  show i ∈ ((View.whole main_v3).slice (win0_2.rect t)).set
  rw [View.set_slice_whole, Rect.mem_set_unit]
  have e := at2 t
  intro a
  match a with
  | ⟨0, _⟩ =>
    show win0_2.index t 0 * 8 ≤ (i 0).val ∧ (i 0).val < win0_2.index t 0 * 8 + 8
    rw [e]
    show 0 * 8 ≤ (i 0).val ∧ (i 0).val < 0 * 8 + 8
    omega
  | ⟨1, _⟩ =>
    show win0_2.index t 1 * 1024 ≤ (i 1).val ∧ (i 1).val < win0_2.index t 1 * 1024 + 1024
    rw [e]
    show 0 * 1024 ≤ (i 1).val ∧ (i 1).val < 0 * 1024 + 1024
    omega

theorem covered_res (i : S8x1024.Idx) : ∃ t : Fin cfg0.N, (cfg0.win 2).flush t = true ∧ i ∈ ((cfg0.win 2).blk t).view.set :=
  ⟨⟨0, by have hN : cfg0.N = 1 := N_0; omega⟩, flush0_2 _, mem_res _ i⟩

theorem res_eq (c : Dev nD) : (dats m 0 c).arrAt 2 cfg0.N = res m c :=
  (dats m 0 c).arrAt_eq_of_cover 2 (res m c) (fun t _ => flushed_res m c t) covered_res

/-- The kernel's run, read: the array, and the arguments as they were. -/
theorem run (ρ : Dev nD → PrngReg) :
    θ_run defs (onTc (τ := τ) (main (F := Ideal))) ⟨m, fun _ => 0, ρ⟩ fun r => ∀ c : Dev nD,
      r.2.mem ((c : Thread nD τ).loc main_v3) = res m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (res_eq m c), (h c).2⟩) (Value.run_blocks m ρ)

end Cert.ShiftSampleIdeal.Rows

namespace Cert.ShiftSampleReferenceIdeal.Rows

open Cert.ShiftSampleReferenceIdeal Cert.ShiftSampleReferenceIdeal.Gen Cert.NormRow Idealize.ShloMosaic Idealize.ShloMosaic.TcCoe Idealize.SL.Sem
open scoped BigOperators

/-- The reference's last rows, normed. -/
abbrev out (x : FVec Ideal S8x32x1024 .f32) (g : FVec Ideal S1024 .f32) : FVec Ideal S8x1024 .f32 :=
  shapeCast _ (extractStridedSlice S8x1x1024 ![0, 31, 0] (mulf (mulf x (broadcastInDim S8x32x1024 ![0, 1, 2] bcast_S8x32x1_S8x32x1024_0_1_2 (Host.rsqrt (addf
    (Host.divf (broadcastInDim S8x32x1 ![0, 1] bcast_S8x32_S8x32x1_0_1 (Host.reduceAdd (mulf x x) (constant (F := Ideal) S_ .f32 0x00000000#32)
      reducesTo_S8x32x1024_S8x32_d2 h_S_)) (broadcastInDim S8x32x1 ![] bcast_S_S8x32x1 (constant (F := Ideal) S_ .f32 0x44800000#32)))
    (broadcastInDim S8x32x1 ![] bcast_S_S8x32x1 (constant (F := Ideal) S_ .f32 0x3727C5AC#32))))))
    (broadcastInDim S8x32x1024 ![0, 1, 2] bcast_S1x1x1024_S8x32x1024_0_1_2 (broadcastInDim S1x1x1024 ![2] bcast_S1024_S1x1x1024_2 g)))
    slices_S8x32x1024_S8x1x1024_0_31_0) shapeCasts_S8x1x1024_S8x1024

theorem out_eq (x : FVec Ideal S8x32x1024 .f32) (g : FVec Ideal S1024 .f32) : out x g = Cert.ShiftSampleIdeal.Rows.lastNormed x g := by
  refine funext fun (i : S8x1024.Idx) => ?_
  idx_vars i
  pointwise []
  rfl

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = Cert.ShiftSampleIdeal.Rows.lastNormed (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (out_eq _ _), (h c).2⟩) (Value.run (F := Ideal) m ρ)

end Cert.ShiftSampleReferenceIdeal.Rows

end
-- ==== Proof.ProjSampleBody.lean ====
/- The sample's input projection: what one grid point leaves in each of its seven output blocks. -/
module

public import proofs.«01_k».proof.Proof.NormRow
public import proofs.«01_k».proof.Proof.Gen.ProjSampleIdeal.Frame
public import Idealize.ShloMosaic.Lib.Pipeline.Value
public import Idealize.ShloMosaic.Lib.Pipeline.ValueKit.Basic
public import Idealize.ShloMosaic.Lib.Pointwise

@[expose] public section

set_option maxRecDepth 16384

noncomputable section

namespace Cert.ProjSampleIdeal.Rows

open Cert.ProjSampleIdeal Cert.ProjSampleIdeal.Gen Cert.NormRow Idealize.ShloMosaic Idealize.ShloMosaic.TcCoe Idealize.SL.Sem
open Idealize.ShloMosaic.Pipeline (Dat)
open scoped BigOperators

/-- Entry `(i, j)` of the normed rows against the projection matrix. -/
def colOf (x : FVec Ideal S256x1024 .f32) (g : FVec Ideal S1024 .f32) (w : FVec Ideal S1024x5376 .f32) (i : Fin 256) (j : Fin 5376) : EReal :=
  normedDot (fun k => x (ix2 i k)) (fun k => g (ix1 k)) (fun k => w (ix2 k j))

/-- The same entry of a block of rows. -/
def blkCol (x : Vec Ideal S256x1024 .f32) (g : Vec Ideal S1x1024 .f32) (w : Vec Ideal S1024x5376 .bf16) (r : Fin 256) (j : Fin 5376) : EReal :=
  normedDot (fun k => x (ix2 r k)) (fun k => g (ix2 0 k)) (fun k => w (ix2 k j))

theorem ld_0 (w : Vec Ideal S1024x5376 .bf16) (k : Fin 1024) (d : Fin 512) :
    View.ld w r0_2 (ix2 k d) = w (ix2 k ⟨0 + d.val, by omega⟩) := by
  refine congrArg w (funext fun a => ?_)
  match a with
  | ⟨0, _⟩ => exact Fin.ext (by show 0 + 1 * k.val = k.val; omega)
  | ⟨1, _⟩ => exact Fin.ext (by show 0 + 1 * d.val = 0 + d.val; omega)

theorem ld_512 (w : Vec Ideal S1024x5376 .bf16) (k : Fin 1024) (d : Fin 512) :
    View.ld w r0_4 (ix2 k d) = w (ix2 k ⟨512 + d.val, by omega⟩) := by
  refine congrArg w (funext fun a => ?_)
  match a with
  | ⟨0, _⟩ => exact Fin.ext (by show 0 + 1 * k.val = k.val; omega)
  | ⟨1, _⟩ => exact Fin.ext (by show 512 + 1 * d.val = 512 + d.val; omega)

theorem ld_1024 (w : Vec Ideal S1024x5376 .bf16) (k : Fin 1024) (d : Fin 512) :
    View.ld w r0_5 (ix2 k d) = w (ix2 k ⟨1024 + d.val, by omega⟩) := by
  refine congrArg w (funext fun a => ?_)
  match a with
  | ⟨0, _⟩ => exact Fin.ext (by show 0 + 1 * k.val = k.val; omega)
  | ⟨1, _⟩ => exact Fin.ext (by show 1024 + 1 * d.val = 1024 + d.val; omega)

theorem ld_1536 (w : Vec Ideal S1024x5376 .bf16) (k : Fin 1024) (d : Fin 1792) :
    View.ld w r0_7 (ix2 k d) = w (ix2 k ⟨1536 + d.val, by omega⟩) := by
  refine congrArg w (funext fun a => ?_)
  match a with
  | ⟨0, _⟩ => exact Fin.ext (by show 0 + 1 * k.val = k.val; omega)
  | ⟨1, _⟩ => exact Fin.ext (by show 1536 + 1 * d.val = 1536 + d.val; omega)

theorem ld_3328 (w : Vec Ideal S1024x5376 .bf16) (k : Fin 1024) (d : Fin 2048) :
    View.ld w r0_9 (ix2 k d) = w (ix2 k ⟨3328 + d.val, by omega⟩) := by
  refine congrArg w (funext fun a => ?_)
  match a with
  | ⟨0, _⟩ => exact Fin.ext (by show 0 + 1 * k.val = k.val; omega)
  | ⟨1, _⟩ => exact Fin.ext (by show 3328 + 1 * d.val = 3328 + d.val; omega)

theorem pay_queries (x : Vec Ideal S256x1024 .f32) (g : Vec Ideal S1x1024 .f32) (w : Vec Ideal S1024x512 .bf16) (r : Fin 256) (d : Fin 512) :
    k0_pay5 x g w (ix2 r d) = normedDot (fun k => x (ix2 r k)) (fun k => g (ix2 0 k)) (fun k => w (ix2 k d)) := by
  pointwise [k0_pay5, k0_pay4]
  rfl

theorem out_queries (x : Vec Ideal S256x1024 .f32) (g : Vec Ideal S1x1024 .f32) (w : Vec Ideal S1024x5376 .bf16) (r : Fin 256) (d : Fin 512) :
    out0_3 x g w (ix2 r d) = blkCol x g w r ⟨0 + d.val, by omega⟩ := by
  unfold out0_3
  rw [View.canon_cons_unit_lit _ _ _ (by decide)]
  refine (pay_queries _ _ _ r d).trans ?_
  rw [View.ld_unit_lit _ _ (by decide), View.ld_unit_lit _ _ (by decide)]
  exact congrArg (normedDot _ _) (funext fun k => ld_0 w k d)

theorem pay_keys (x : Vec Ideal S256x1024 .f32) (g : Vec Ideal S1x1024 .f32) (w : Vec Ideal S1024x512 .bf16) (r : Fin 256) (d : Fin 512) :
    k0_pay8 x g w (ix2 r d) = normedDot (fun k => x (ix2 r k)) (fun k => g (ix2 0 k)) (fun k => w (ix2 k d)) := by
  pointwise [k0_pay8, k0_pay6, k0_pay4]
  rfl

theorem out_keys (x : Vec Ideal S256x1024 .f32) (g : Vec Ideal S1x1024 .f32) (w : Vec Ideal S1024x5376 .bf16) (r : Fin 256) (d : Fin 512) :
    out0_4 x g w (ix2 r d) = blkCol x g w r ⟨512 + d.val, by omega⟩ := by
  unfold out0_4
  rw [View.canon_cons_unit_lit _ _ _ (by decide)]
  refine (pay_keys _ _ _ r d).trans ?_
  rw [View.ld_unit_lit _ _ (by decide), View.ld_unit_lit _ _ (by decide)]
  exact congrArg (normedDot _ _) (funext fun k => ld_512 w k d)

theorem pay_values (x : Vec Ideal S256x1024 .f32) (g : Vec Ideal S1x1024 .f32) (w : Vec Ideal S1024x512 .bf16) (r : Fin 256) (d : Fin 512) :
    k0_pay9 x g w (ix2 r d) = normedDot (fun k => x (ix2 r k)) (fun k => g (ix2 0 k)) (fun k => w (ix2 k d)) := by
  pointwise [k0_pay9, k0_pay7, k0_pay4]
  rfl

theorem out_values (x : Vec Ideal S256x1024 .f32) (g : Vec Ideal S1x1024 .f32) (w : Vec Ideal S1024x5376 .bf16) (r : Fin 256) (d : Fin 512) :
    out0_5 x g w (ix2 r d) = blkCol x g w r ⟨1024 + d.val, by omega⟩ := by
  unfold out0_5
  rw [View.canon_cons_unit_lit _ _ _ (by decide)]
  refine (pay_values _ _ _ r d).trans ?_
  rw [View.ld_unit_lit _ _ (by decide), View.ld_unit_lit _ _ (by decide)]
  exact congrArg (normedDot _ _) (funext fun k => ld_1024 w k d)

theorem pay_mixer (x : Vec Ideal S256x1024 .f32) (g : Vec Ideal S1x1024 .f32) (w : Vec Ideal S1024x1792 .bf16) (r : Fin 256) (d : Fin 1792) :
    k0_pay2 (k0_pay4 x g) w (ix2 r d) = normedDot (fun k => x (ix2 r k)) (fun k => g (ix2 0 k)) (fun k => w (ix2 k d)) := by
  pointwise [k0_pay2, k0_pay4]
  rfl

theorem out_mixer (x : Vec Ideal S256x1024 .f32) (g : Vec Ideal S1x1024 .f32) (w : Vec Ideal S1024x5376 .bf16) (r : Fin 256) (d : Fin 1792) :
    out0_6 x g w (ix2 r d) = blkCol x g w r ⟨1536 + d.val, by omega⟩ := by
  unfold out0_6 k0_pay11
  rw [View.canon_cons_unit_lit _ _ _ (by decide)]
  refine (pay_mixer _ _ _ r d).trans ?_
  rw [View.ld_unit_lit _ _ (by decide), View.ld_unit_lit _ _ (by decide)]
  exact congrArg (normedDot _ _) (funext fun k => ld_1536 w k d)

theorem pay_gates (x : Vec Ideal S256x1024 .f32) (g : Vec Ideal S1x1024 .f32) (w : Vec Ideal S1024x2048 .bf16) (r : Fin 256) (d : Fin 2048) :
    k0_pay3 (k0_pay4 x g) w (ix2 r d) = normedDot (fun k => x (ix2 r k)) (fun k => g (ix2 0 k)) (fun k => w (ix2 k d)) := by
  pointwise [k0_pay3, k0_pay4]
  rfl

theorem out_gates (x : Vec Ideal S256x1024 .f32) (g : Vec Ideal S1x1024 .f32) (w : Vec Ideal S1024x5376 .bf16) (r : Fin 256) (d : Fin 2048) :
    out0_7 x g w (ix2 r d) = blkCol x g w r ⟨3328 + d.val, by omega⟩ := by
  unfold out0_7 k0_pay11
  rw [View.canon_cons_unit_lit _ _ _ (by decide)]
  refine (pay_gates _ _ _ r d).trans ?_
  rw [View.ld_unit_lit _ _ (by decide), View.ld_unit_lit _ _ (by decide)]
  exact congrArg (normedDot _ _) (funext fun k => ld_3328 w k d)

theorem pay_keyHeads (x : Vec Ideal S256x1024 .f32) (g : Vec Ideal S1x1024 .f32) (w : Vec Ideal S1024x512 .bf16) (r : Fin 256) (h : Fin 8) (d : Fin 64) :
    k0_pay10 x g w (ix3 r h d) = normedDot (fun k => x (ix2 r k)) (fun k => g (ix2 0 k)) (fun k => w (ix2 k ⟨h.val * 64 + d.val, by omega⟩)) := by
  pointwise [k0_pay10, k0_pay6, k0_pay4]
  rfl

theorem out_keyHeads (x : Vec Ideal S256x1024 .f32) (g : Vec Ideal S1x1024 .f32) (w : Vec Ideal S1024x5376 .bf16) (r : Fin 256) (h : Fin 8) (d : Fin 64) :
    out0_8 x g w (ix3 r h d) = blkCol x g w r ⟨512 + (h.val * 64 + d.val), by omega⟩ := by
  unfold out0_8
  rw [View.canon_cons_unit_lit _ _ _ (by decide)]
  refine (pay_keyHeads _ _ _ r h d).trans ?_
  rw [View.ld_unit_lit _ _ (by decide), View.ld_unit_lit _ _ (by decide)]
  exact congrArg (normedDot _ _) (funext fun k => ld_512 w k ⟨h.val * 64 + d.val, by omega⟩)

theorem pay_valueHeads (x : Vec Ideal S256x1024 .f32) (g : Vec Ideal S1x1024 .f32) (w : Vec Ideal S1024x512 .bf16) (r : Fin 256) (h : Fin 8) (d : Fin 64) :
    k0_pay1 (k0_pay7 x g w) (ix3 r h d) = normedDot (fun k => x (ix2 r k)) (fun k => g (ix2 0 k)) (fun k => w (ix2 k ⟨h.val * 64 + d.val, by omega⟩)) := by
  pointwise [k0_pay1, k0_pay7, k0_pay4]
  rfl

theorem out_valueHeads (x : Vec Ideal S256x1024 .f32) (g : Vec Ideal S1x1024 .f32) (w : Vec Ideal S1024x5376 .bf16) (r : Fin 256) (h : Fin 8) (d : Fin 64) :
    out0_9 x g w (ix3 r h d) = blkCol x g w r ⟨1024 + (h.val * 64 + d.val), by omega⟩ := by
  unfold out0_9
  rw [View.canon_cons_unit_lit _ _ _ (by decide)]
  refine (pay_valueHeads _ _ _ r h d).trans ?_
  rw [View.ld_unit_lit _ _ (by decide), View.ld_unit_lit _ _ (by decide)]
  exact congrArg (normedDot _ _) (funext fun k => ld_1024 w k ⟨h.val * 64 + d.val, by omega⟩)

end Cert.ProjSampleIdeal.Rows

end
-- ==== Proof.ProjSampleRows.lean ====
/- The sample's input projection: every grid point's rows are the reference's, and the blocks fill all seven arrays. -/
module

public import proofs.«01_k».proof.Proof.ProjSampleBody

@[expose] public section

set_option maxRecDepth 16384

noncomputable section

namespace Cert.ProjSampleIdeal.Rows

open Cert.ProjSampleIdeal Cert.ProjSampleIdeal.Gen Cert.NormRow Idealize.ShloMosaic Idealize.ShloMosaic.TcCoe Idealize.SL.Sem
open Idealize.ShloMosaic.Pipeline (Dat)
open scoped BigOperators

variable (m : (ℓ : Loc nD τ sig) → Buf (Elt Ideal) ℓ)

/-- The stream as 256 rows. -/
abbrev rows (c : Dev nD) : FVec Ideal S256x1024 .f32 := shapeCast _ (m ((c : Thread nD τ).loc main_arg0)) shapeCasts_S8x32x1024_S256x1024

/-- Entry `(i, j)` of the projected rows. -/
abbrev col (c : Dev nD) (i : Fin 256) (j : Fin 5376) : EReal := colOf (rows m c) (m ((c : Thread nD τ).loc main_arg1)) (m ((c : Thread nD τ).loc main_arg2)) i j

abbrev queries (c : Dev nD) : Buf (Elt Ideal) ((c : Thread nD τ).loc main_v3_0) :=
  fun (i : S256x512.Idx) => col m c (i 0) ⟨0 + (i 1).val, by have h : (i 1).val < 512 := (i 1).isLt; omega⟩

abbrev keys (c : Dev nD) : Buf (Elt Ideal) ((c : Thread nD τ).loc main_v3_1) :=
  fun (i : S256x512.Idx) => col m c (i 0) ⟨512 + (i 1).val, by have h : (i 1).val < 512 := (i 1).isLt; omega⟩

abbrev values (c : Dev nD) : Buf (Elt Ideal) ((c : Thread nD τ).loc main_v3_2) :=
  fun (i : S256x512.Idx) => col m c (i 0) ⟨1024 + (i 1).val, by have h : (i 1).val < 512 := (i 1).isLt; omega⟩

abbrev mixer (c : Dev nD) : Buf (Elt Ideal) ((c : Thread nD τ).loc main_v3_3) :=
  fun (i : S256x1792.Idx) => col m c (i 0) ⟨1536 + (i 1).val, by have h : (i 1).val < 1792 := (i 1).isLt; omega⟩

abbrev gates (c : Dev nD) : Buf (Elt Ideal) ((c : Thread nD τ).loc main_v3_4) :=
  fun (i : S256x2048.Idx) => col m c (i 0) ⟨3328 + (i 1).val, by have h : (i 1).val < 2048 := (i 1).isLt; omega⟩

abbrev keyHeads (c : Dev nD) : Buf (Elt Ideal) ((c : Thread nD τ).loc main_v3_5) :=
  fun (i : S256x8x64.Idx) => col m c (i 0) ⟨512 + ((i 1).val * 64 + (i 2).val), by have h : (i 1).val < 8 := (i 1).isLt; have h' : (i 2).val < 64 := (i 2).isLt; omega⟩

abbrev valueHeads (c : Dev nD) : Buf (Elt Ideal) ((c : Thread nD τ).loc main_v3_6) :=
  fun (i : S256x8x64.Idx) => col m c (i 0) ⟨1024 + ((i 1).val * 64 + (i 2).val), by have h : (i 1).val < 8 := (i 1).isLt; have h' : (i 2).val < 64 := (i 2).isLt; omega⟩

/-! ## What the host code before the call leaves -/

abbrev gain (c : Dev nD) : FVec Ideal S1x1024 .f32 := fun i => m ((c : Thread nD τ).loc main_arg1) (ix1 (i 1))

theorem host_x (c : Dev nD) : V m c main_v0 = rows m c := by
  unfold V
  after_results <;> rfl

theorem host_w (c : Dev nD) : V m c main_v1 = m ((c : Thread nD τ).loc main_arg2) := by
  unfold V
  after_results <;> rfl

theorem host_g (c : Dev nD) : V m c main_v2 = gain m c := by
  have h : V m c main_v2 = shapeCast _ (m ((c : Thread nD τ).loc main_arg1)) shapeCasts_S1024_S1x1024 := by
    unfold V
    after_results <;> rfl
  rw [h]
  refine funext fun (j : S1x1024.Idx) => ?_
  idx_vars j
  have hu : j0 = 0 := Subsingleton.elim _ _
  subst hu
  pointwise []
  rfl

/-! ## The blocks: point `t` reads and writes the 256 rows from `256 t` on; the gain and the weights are read whole -/

theorem point_lt (t : Fin cfg0.N) : t.val < 1 := lt_of_lt_of_eq t.isLt N_0

theorem at0 : ∀ t : Fin grid0.N, win0_0.index t = ![t.val, 0] := by decide +kernel
theorem at3 : ∀ t : Fin grid0.N, win0_3.index t = ![t.val, 0] := by decide +kernel
theorem at4 : ∀ t : Fin grid0.N, win0_4.index t = ![t.val, 0] := by decide +kernel
theorem at5 : ∀ t : Fin grid0.N, win0_5.index t = ![t.val, 0] := by decide +kernel
theorem at6 : ∀ t : Fin grid0.N, win0_6.index t = ![t.val, 0] := by decide +kernel
theorem at7 : ∀ t : Fin grid0.N, win0_7.index t = ![t.val, 0] := by decide +kernel
theorem at1 : ∀ t : Fin grid0.N, win0_1.index t = ![0, 0] := by decide +kernel
theorem at2 : ∀ t : Fin grid0.N, win0_2.index t = ![0, 0] := by decide +kernel
theorem at8 : ∀ t : Fin grid0.N, win0_8.index t = ![t.val, 0, 0] := by decide +kernel
theorem at9 : ∀ t : Fin grid0.N, win0_9.index t = ![t.val, 0, 0] := by decide +kernel

theorem blk_x (c : Dev nD) (t : Fin cfg0.N) (i : Fin 256) (k : Fin 1024) :
    iblk m c 0 t (ix2 i k) = rows m c (ix2 ⟨t.val * 256 + i.val, by have := point_lt t; omega⟩ k) := by
  have e := at0 t
  refine Eq.trans (congrArg (V m c main_v0) (funext fun a => ?_)) (congrFun (host_x m c) (ix2 ⟨t.val * 256 + i.val, by have := point_lt t; omega⟩ k))
  match a with
  | ⟨0, _⟩ => exact Fin.ext (by show win0_0.index t 0 * 256 + 1 * i.val = t.val * 256 + i.val; rw [e]; show t.val * 256 + 1 * i.val = _; omega)
  | ⟨1, _⟩ => exact Fin.ext (by show win0_0.index t 1 * 1024 + 1 * k.val = k.val; rw [e]; show 0 * 1024 + 1 * k.val = _; omega)

theorem blk_g (c : Dev nD) (t : Fin cfg0.N) (i : Fin 1) (k : Fin 1024) :
    iblk m c 1 t (ix2 i k) = gain m c (ix2 i k) := by
  have e := at1 t
  refine Eq.trans (congrArg (V m c main_v2) (funext fun a => ?_)) (congrFun (host_g m c) (ix2 i k))
  match a with
  | ⟨0, _⟩ => exact Fin.ext (by show win0_1.index t 0 * 1 + 1 * i.val = i.val; rw [e]; show 0 * 1 + 1 * i.val = _; omega)
  | ⟨1, _⟩ => exact Fin.ext (by show win0_1.index t 1 * 1024 + 1 * k.val = k.val; rw [e]; show 0 * 1024 + 1 * k.val = _; omega)

theorem blk_w (c : Dev nD) (t : Fin cfg0.N) (i : Fin 1024) (k : Fin 5376) :
    iblk m c 2 t (ix2 i k) = m ((c : Thread nD τ).loc main_arg2) (ix2 i k) := by
  have e := at2 t
  refine Eq.trans (congrArg (V m c main_v1) (funext fun a => ?_)) (congrFun (host_w m c) (ix2 i k))
  match a with
  | ⟨0, _⟩ => exact Fin.ext (by show win0_2.index t 0 * 1024 + 1 * i.val = i.val; rw [e]; show 0 * 1024 + 1 * i.val = _; omega)
  | ⟨1, _⟩ => exact Fin.ext (by show win0_2.index t 1 * 5376 + 1 * k.val = k.val; rw [e]; show 0 * 5376 + 1 * k.val = _; omega)

theorem blkCol_eq (c : Dev nD) (t : Fin cfg0.N) (r : Fin 256) (j : Fin 5376) :
    blkCol (iblk m c 0 t) (iblk m c 1 t) (iblk m c 2 t) r j = col m c ⟨t.val * 256 + r.val, by have := point_lt t; omega⟩ j := by
  unfold blkCol
  simp only [blk_x, blk_g, blk_w]
  rfl

theorem blk_queries (c : Dev nD) (t : Fin cfg0.N) (i : Fin 256) (d : Fin 512) :
    (win0_3.blk t).view.read (Elt Ideal) (queries m c) (ix2 i d) = queries m c (ix2 ⟨t.val * 256 + i.val, by have := point_lt t; omega⟩ d) := by
  have e := at3 t
  refine congrArg (queries m c) (funext fun a => ?_)
  match a with
  | ⟨0, _⟩ => exact Fin.ext (by show win0_3.index t 0 * 256 + 1 * i.val = t.val * 256 + i.val; rw [e]; show t.val * 256 + 1 * i.val = _; omega)
  | ⟨1, _⟩ => exact Fin.ext (by show win0_3.index t 1 * 512 + 1 * d.val = d.val; rw [e]; show 0 * 512 + 1 * d.val = _; omega)

theorem flushed_queries (c : Dev nD) (t : Fin cfg0.N) :
    (dats m 0 c).flushed 3 t = (win0_3.blk t).view.read (Elt Ideal) (queries m c) := by
  show (cfg0.win 3).cut (grid0.coords t) ((dats m 0 c).after 3 t) = _
  rw [after0_3]
  refine funext fun (j : S256x512.Idx) => ?_
  idx_vars j
  refine Eq.trans ?_ (blk_queries m c t j0 j1).symm
  exact (out_queries _ _ _ j0 j1).trans (blkCol_eq m c t j0 _)

theorem mem_queries (t : Fin cfg0.N) (i : S256x512.Idx) (h : (i 0).val / 256 = t.val) : i ∈ ((cfg0.win 3).blk t).view.set := by
  have h1 : (i 1).val < 512 := (i 1).isLt
  show i ∈ ((View.whole main_v3_0).slice (win0_3.rect t)).set
  rw [View.set_slice_whole, Rect.mem_set_unit]
  have e := at3 t
  intro a
  match a with
  | ⟨0, _⟩ =>
    show win0_3.index t 0 * 256 ≤ (i 0).val ∧ (i 0).val < win0_3.index t 0 * 256 + 256
    rw [e]
    show t.val * 256 ≤ (i 0).val ∧ (i 0).val < t.val * 256 + 256
    omega
  | ⟨1, _⟩ =>
    show win0_3.index t 1 * 512 ≤ (i 1).val ∧ (i 1).val < win0_3.index t 1 * 512 + 512
    rw [e]
    show 0 * 512 ≤ (i 1).val ∧ (i 1).val < 0 * 512 + 512
    omega

theorem covered_queries (i : S256x512.Idx) : ∃ t : Fin cfg0.N, (cfg0.win 3).flush t = true ∧ i ∈ ((cfg0.win 3).blk t).view.set :=
  ⟨⟨(i 0).val / 256, by have h0 : (i 0).val < 256 := (i 0).isLt; have hN : cfg0.N = 1 := N_0; omega⟩, flush0_3 _, mem_queries _ i rfl⟩

theorem queries_eq (c : Dev nD) : (dats m 0 c).arrAt 3 cfg0.N = queries m c :=
  (dats m 0 c).arrAt_eq_of_cover 3 (queries m c) (fun t _ => flushed_queries m c t) covered_queries

theorem blk_keys (c : Dev nD) (t : Fin cfg0.N) (i : Fin 256) (d : Fin 512) :
    (win0_4.blk t).view.read (Elt Ideal) (keys m c) (ix2 i d) = keys m c (ix2 ⟨t.val * 256 + i.val, by have := point_lt t; omega⟩ d) := by
  have e := at4 t
  refine congrArg (keys m c) (funext fun a => ?_)
  match a with
  | ⟨0, _⟩ => exact Fin.ext (by show win0_4.index t 0 * 256 + 1 * i.val = t.val * 256 + i.val; rw [e]; show t.val * 256 + 1 * i.val = _; omega)
  | ⟨1, _⟩ => exact Fin.ext (by show win0_4.index t 1 * 512 + 1 * d.val = d.val; rw [e]; show 0 * 512 + 1 * d.val = _; omega)

theorem flushed_keys (c : Dev nD) (t : Fin cfg0.N) :
    (dats m 0 c).flushed 4 t = (win0_4.blk t).view.read (Elt Ideal) (keys m c) := by
  show (cfg0.win 4).cut (grid0.coords t) ((dats m 0 c).after 4 t) = _
  rw [after0_4]
  refine funext fun (j : S256x512.Idx) => ?_
  idx_vars j
  refine Eq.trans ?_ (blk_keys m c t j0 j1).symm
  exact (out_keys _ _ _ j0 j1).trans (blkCol_eq m c t j0 _)

theorem mem_keys (t : Fin cfg0.N) (i : S256x512.Idx) (h : (i 0).val / 256 = t.val) : i ∈ ((cfg0.win 4).blk t).view.set := by
  have h1 : (i 1).val < 512 := (i 1).isLt
  show i ∈ ((View.whole main_v3_1).slice (win0_4.rect t)).set
  rw [View.set_slice_whole, Rect.mem_set_unit]
  have e := at4 t
  intro a
  match a with
  | ⟨0, _⟩ =>
    show win0_4.index t 0 * 256 ≤ (i 0).val ∧ (i 0).val < win0_4.index t 0 * 256 + 256
    rw [e]
    show t.val * 256 ≤ (i 0).val ∧ (i 0).val < t.val * 256 + 256
    omega
  | ⟨1, _⟩ =>
    show win0_4.index t 1 * 512 ≤ (i 1).val ∧ (i 1).val < win0_4.index t 1 * 512 + 512
    rw [e]
    show 0 * 512 ≤ (i 1).val ∧ (i 1).val < 0 * 512 + 512
    omega

theorem covered_keys (i : S256x512.Idx) : ∃ t : Fin cfg0.N, (cfg0.win 4).flush t = true ∧ i ∈ ((cfg0.win 4).blk t).view.set :=
  ⟨⟨(i 0).val / 256, by have h0 : (i 0).val < 256 := (i 0).isLt; have hN : cfg0.N = 1 := N_0; omega⟩, flush0_4 _, mem_keys _ i rfl⟩

theorem keys_eq (c : Dev nD) : (dats m 0 c).arrAt 4 cfg0.N = keys m c :=
  (dats m 0 c).arrAt_eq_of_cover 4 (keys m c) (fun t _ => flushed_keys m c t) covered_keys

theorem blk_values (c : Dev nD) (t : Fin cfg0.N) (i : Fin 256) (d : Fin 512) :
    (win0_5.blk t).view.read (Elt Ideal) (values m c) (ix2 i d) = values m c (ix2 ⟨t.val * 256 + i.val, by have := point_lt t; omega⟩ d) := by
  have e := at5 t
  refine congrArg (values m c) (funext fun a => ?_)
  match a with
  | ⟨0, _⟩ => exact Fin.ext (by show win0_5.index t 0 * 256 + 1 * i.val = t.val * 256 + i.val; rw [e]; show t.val * 256 + 1 * i.val = _; omega)
  | ⟨1, _⟩ => exact Fin.ext (by show win0_5.index t 1 * 512 + 1 * d.val = d.val; rw [e]; show 0 * 512 + 1 * d.val = _; omega)

theorem flushed_values (c : Dev nD) (t : Fin cfg0.N) :
    (dats m 0 c).flushed 5 t = (win0_5.blk t).view.read (Elt Ideal) (values m c) := by
  show (cfg0.win 5).cut (grid0.coords t) ((dats m 0 c).after 5 t) = _
  rw [after0_5]
  refine funext fun (j : S256x512.Idx) => ?_
  idx_vars j
  refine Eq.trans ?_ (blk_values m c t j0 j1).symm
  exact (out_values _ _ _ j0 j1).trans (blkCol_eq m c t j0 _)

theorem mem_values (t : Fin cfg0.N) (i : S256x512.Idx) (h : (i 0).val / 256 = t.val) : i ∈ ((cfg0.win 5).blk t).view.set := by
  have h1 : (i 1).val < 512 := (i 1).isLt
  show i ∈ ((View.whole main_v3_2).slice (win0_5.rect t)).set
  rw [View.set_slice_whole, Rect.mem_set_unit]
  have e := at5 t
  intro a
  match a with
  | ⟨0, _⟩ =>
    show win0_5.index t 0 * 256 ≤ (i 0).val ∧ (i 0).val < win0_5.index t 0 * 256 + 256
    rw [e]
    show t.val * 256 ≤ (i 0).val ∧ (i 0).val < t.val * 256 + 256
    omega
  | ⟨1, _⟩ =>
    show win0_5.index t 1 * 512 ≤ (i 1).val ∧ (i 1).val < win0_5.index t 1 * 512 + 512
    rw [e]
    show 0 * 512 ≤ (i 1).val ∧ (i 1).val < 0 * 512 + 512
    omega

theorem covered_values (i : S256x512.Idx) : ∃ t : Fin cfg0.N, (cfg0.win 5).flush t = true ∧ i ∈ ((cfg0.win 5).blk t).view.set :=
  ⟨⟨(i 0).val / 256, by have h0 : (i 0).val < 256 := (i 0).isLt; have hN : cfg0.N = 1 := N_0; omega⟩, flush0_5 _, mem_values _ i rfl⟩

theorem values_eq (c : Dev nD) : (dats m 0 c).arrAt 5 cfg0.N = values m c :=
  (dats m 0 c).arrAt_eq_of_cover 5 (values m c) (fun t _ => flushed_values m c t) covered_values

theorem blk_mixer (c : Dev nD) (t : Fin cfg0.N) (i : Fin 256) (d : Fin 1792) :
    (win0_6.blk t).view.read (Elt Ideal) (mixer m c) (ix2 i d) = mixer m c (ix2 ⟨t.val * 256 + i.val, by have := point_lt t; omega⟩ d) := by
  have e := at6 t
  refine congrArg (mixer m c) (funext fun a => ?_)
  match a with
  | ⟨0, _⟩ => exact Fin.ext (by show win0_6.index t 0 * 256 + 1 * i.val = t.val * 256 + i.val; rw [e]; show t.val * 256 + 1 * i.val = _; omega)
  | ⟨1, _⟩ => exact Fin.ext (by show win0_6.index t 1 * 1792 + 1 * d.val = d.val; rw [e]; show 0 * 1792 + 1 * d.val = _; omega)

theorem flushed_mixer (c : Dev nD) (t : Fin cfg0.N) :
    (dats m 0 c).flushed 6 t = (win0_6.blk t).view.read (Elt Ideal) (mixer m c) := by
  show (cfg0.win 6).cut (grid0.coords t) ((dats m 0 c).after 6 t) = _
  rw [after0_6]
  refine funext fun (j : S256x1792.Idx) => ?_
  idx_vars j
  refine Eq.trans ?_ (blk_mixer m c t j0 j1).symm
  exact (out_mixer _ _ _ j0 j1).trans (blkCol_eq m c t j0 _)

theorem mem_mixer (t : Fin cfg0.N) (i : S256x1792.Idx) (h : (i 0).val / 256 = t.val) : i ∈ ((cfg0.win 6).blk t).view.set := by
  have h1 : (i 1).val < 1792 := (i 1).isLt
  show i ∈ ((View.whole main_v3_3).slice (win0_6.rect t)).set
  rw [View.set_slice_whole, Rect.mem_set_unit]
  have e := at6 t
  intro a
  match a with
  | ⟨0, _⟩ =>
    show win0_6.index t 0 * 256 ≤ (i 0).val ∧ (i 0).val < win0_6.index t 0 * 256 + 256
    rw [e]
    show t.val * 256 ≤ (i 0).val ∧ (i 0).val < t.val * 256 + 256
    omega
  | ⟨1, _⟩ =>
    show win0_6.index t 1 * 1792 ≤ (i 1).val ∧ (i 1).val < win0_6.index t 1 * 1792 + 1792
    rw [e]
    show 0 * 1792 ≤ (i 1).val ∧ (i 1).val < 0 * 1792 + 1792
    omega

theorem covered_mixer (i : S256x1792.Idx) : ∃ t : Fin cfg0.N, (cfg0.win 6).flush t = true ∧ i ∈ ((cfg0.win 6).blk t).view.set :=
  ⟨⟨(i 0).val / 256, by have h0 : (i 0).val < 256 := (i 0).isLt; have hN : cfg0.N = 1 := N_0; omega⟩, flush0_6 _, mem_mixer _ i rfl⟩

theorem mixer_eq (c : Dev nD) : (dats m 0 c).arrAt 6 cfg0.N = mixer m c :=
  (dats m 0 c).arrAt_eq_of_cover 6 (mixer m c) (fun t _ => flushed_mixer m c t) covered_mixer

theorem blk_gates (c : Dev nD) (t : Fin cfg0.N) (i : Fin 256) (d : Fin 2048) :
    (win0_7.blk t).view.read (Elt Ideal) (gates m c) (ix2 i d) = gates m c (ix2 ⟨t.val * 256 + i.val, by have := point_lt t; omega⟩ d) := by
  have e := at7 t
  refine congrArg (gates m c) (funext fun a => ?_)
  match a with
  | ⟨0, _⟩ => exact Fin.ext (by show win0_7.index t 0 * 256 + 1 * i.val = t.val * 256 + i.val; rw [e]; show t.val * 256 + 1 * i.val = _; omega)
  | ⟨1, _⟩ => exact Fin.ext (by show win0_7.index t 1 * 2048 + 1 * d.val = d.val; rw [e]; show 0 * 2048 + 1 * d.val = _; omega)

theorem flushed_gates (c : Dev nD) (t : Fin cfg0.N) :
    (dats m 0 c).flushed 7 t = (win0_7.blk t).view.read (Elt Ideal) (gates m c) := by
  show (cfg0.win 7).cut (grid0.coords t) ((dats m 0 c).after 7 t) = _
  rw [after0_7]
  refine funext fun (j : S256x2048.Idx) => ?_
  idx_vars j
  refine Eq.trans ?_ (blk_gates m c t j0 j1).symm
  exact (out_gates _ _ _ j0 j1).trans (blkCol_eq m c t j0 _)

theorem mem_gates (t : Fin cfg0.N) (i : S256x2048.Idx) (h : (i 0).val / 256 = t.val) : i ∈ ((cfg0.win 7).blk t).view.set := by
  have h1 : (i 1).val < 2048 := (i 1).isLt
  show i ∈ ((View.whole main_v3_4).slice (win0_7.rect t)).set
  rw [View.set_slice_whole, Rect.mem_set_unit]
  have e := at7 t
  intro a
  match a with
  | ⟨0, _⟩ =>
    show win0_7.index t 0 * 256 ≤ (i 0).val ∧ (i 0).val < win0_7.index t 0 * 256 + 256
    rw [e]
    show t.val * 256 ≤ (i 0).val ∧ (i 0).val < t.val * 256 + 256
    omega
  | ⟨1, _⟩ =>
    show win0_7.index t 1 * 2048 ≤ (i 1).val ∧ (i 1).val < win0_7.index t 1 * 2048 + 2048
    rw [e]
    show 0 * 2048 ≤ (i 1).val ∧ (i 1).val < 0 * 2048 + 2048
    omega

theorem covered_gates (i : S256x2048.Idx) : ∃ t : Fin cfg0.N, (cfg0.win 7).flush t = true ∧ i ∈ ((cfg0.win 7).blk t).view.set :=
  ⟨⟨(i 0).val / 256, by have h0 : (i 0).val < 256 := (i 0).isLt; have hN : cfg0.N = 1 := N_0; omega⟩, flush0_7 _, mem_gates _ i rfl⟩

theorem gates_eq (c : Dev nD) : (dats m 0 c).arrAt 7 cfg0.N = gates m c :=
  (dats m 0 c).arrAt_eq_of_cover 7 (gates m c) (fun t _ => flushed_gates m c t) covered_gates

theorem blk_keyHeads (c : Dev nD) (t : Fin cfg0.N) (i : Fin 256) (h : Fin 8) (d : Fin 64) :
    (win0_8.blk t).view.read (Elt Ideal) (keyHeads m c) (ix3 i h d) = keyHeads m c (ix3 ⟨t.val * 256 + i.val, by have := point_lt t; omega⟩ h d) := by
  have e := at8 t
  refine congrArg (keyHeads m c) (funext fun a => ?_)
  match a with
  | ⟨0, _⟩ => exact Fin.ext (by show win0_8.index t 0 * 256 + 1 * i.val = t.val * 256 + i.val; rw [e]; show t.val * 256 + 1 * i.val = _; omega)
  | ⟨1, _⟩ => exact Fin.ext (by show win0_8.index t 1 * 8 + 1 * h.val = h.val; rw [e]; show 0 * 8 + 1 * h.val = _; omega)
  | ⟨2, _⟩ => exact Fin.ext (by show win0_8.index t 2 * 64 + 1 * d.val = d.val; rw [e]; show 0 * 64 + 1 * d.val = _; omega)

theorem flushed_keyHeads (c : Dev nD) (t : Fin cfg0.N) :
    (dats m 0 c).flushed 8 t = (win0_8.blk t).view.read (Elt Ideal) (keyHeads m c) := by
  show (cfg0.win 8).cut (grid0.coords t) ((dats m 0 c).after 8 t) = _
  rw [after0_8]
  refine funext fun (j : S256x8x64.Idx) => ?_
  idx_vars j
  refine Eq.trans ?_ (blk_keyHeads m c t j0 j1 j2).symm
  exact (out_keyHeads _ _ _ j0 j1 j2).trans (blkCol_eq m c t j0 _)

theorem mem_keyHeads (t : Fin cfg0.N) (i : S256x8x64.Idx) (h : (i 0).val / 256 = t.val) : i ∈ ((cfg0.win 8).blk t).view.set := by
  have h1 : (i 1).val < 8 := (i 1).isLt
  have h2 : (i 2).val < 64 := (i 2).isLt
  show i ∈ ((View.whole main_v3_5).slice (win0_8.rect t)).set
  rw [View.set_slice_whole, Rect.mem_set_unit]
  have e := at8 t
  intro a
  match a with
  | ⟨0, _⟩ =>
    show win0_8.index t 0 * 256 ≤ (i 0).val ∧ (i 0).val < win0_8.index t 0 * 256 + 256
    rw [e]
    show t.val * 256 ≤ (i 0).val ∧ (i 0).val < t.val * 256 + 256
    omega
  | ⟨1, _⟩ =>
    show win0_8.index t 1 * 8 ≤ (i 1).val ∧ (i 1).val < win0_8.index t 1 * 8 + 8
    rw [e]
    show 0 * 8 ≤ (i 1).val ∧ (i 1).val < 0 * 8 + 8
    omega
  | ⟨2, _⟩ =>
    show win0_8.index t 2 * 64 ≤ (i 2).val ∧ (i 2).val < win0_8.index t 2 * 64 + 64
    rw [e]
    show 0 * 64 ≤ (i 2).val ∧ (i 2).val < 0 * 64 + 64
    omega

theorem covered_keyHeads (i : S256x8x64.Idx) : ∃ t : Fin cfg0.N, (cfg0.win 8).flush t = true ∧ i ∈ ((cfg0.win 8).blk t).view.set :=
  ⟨⟨(i 0).val / 256, by have h0 : (i 0).val < 256 := (i 0).isLt; have hN : cfg0.N = 1 := N_0; omega⟩, flush0_8 _, mem_keyHeads _ i rfl⟩

theorem keyHeads_eq (c : Dev nD) : (dats m 0 c).arrAt 8 cfg0.N = keyHeads m c :=
  (dats m 0 c).arrAt_eq_of_cover 8 (keyHeads m c) (fun t _ => flushed_keyHeads m c t) covered_keyHeads

theorem blk_valueHeads (c : Dev nD) (t : Fin cfg0.N) (i : Fin 256) (h : Fin 8) (d : Fin 64) :
    (win0_9.blk t).view.read (Elt Ideal) (valueHeads m c) (ix3 i h d) = valueHeads m c (ix3 ⟨t.val * 256 + i.val, by have := point_lt t; omega⟩ h d) := by
  have e := at9 t
  refine congrArg (valueHeads m c) (funext fun a => ?_)
  match a with
  | ⟨0, _⟩ => exact Fin.ext (by show win0_9.index t 0 * 256 + 1 * i.val = t.val * 256 + i.val; rw [e]; show t.val * 256 + 1 * i.val = _; omega)
  | ⟨1, _⟩ => exact Fin.ext (by show win0_9.index t 1 * 8 + 1 * h.val = h.val; rw [e]; show 0 * 8 + 1 * h.val = _; omega)
  | ⟨2, _⟩ => exact Fin.ext (by show win0_9.index t 2 * 64 + 1 * d.val = d.val; rw [e]; show 0 * 64 + 1 * d.val = _; omega)

theorem flushed_valueHeads (c : Dev nD) (t : Fin cfg0.N) :
    (dats m 0 c).flushed 9 t = (win0_9.blk t).view.read (Elt Ideal) (valueHeads m c) := by
  show (cfg0.win 9).cut (grid0.coords t) ((dats m 0 c).after 9 t) = _
  rw [after0_9]
  refine funext fun (j : S256x8x64.Idx) => ?_
  idx_vars j
  refine Eq.trans ?_ (blk_valueHeads m c t j0 j1 j2).symm
  exact (out_valueHeads _ _ _ j0 j1 j2).trans (blkCol_eq m c t j0 _)

theorem mem_valueHeads (t : Fin cfg0.N) (i : S256x8x64.Idx) (h : (i 0).val / 256 = t.val) : i ∈ ((cfg0.win 9).blk t).view.set := by
  have h1 : (i 1).val < 8 := (i 1).isLt
  have h2 : (i 2).val < 64 := (i 2).isLt
  show i ∈ ((View.whole main_v3_6).slice (win0_9.rect t)).set
  rw [View.set_slice_whole, Rect.mem_set_unit]
  have e := at9 t
  intro a
  match a with
  | ⟨0, _⟩ =>
    show win0_9.index t 0 * 256 ≤ (i 0).val ∧ (i 0).val < win0_9.index t 0 * 256 + 256
    rw [e]
    show t.val * 256 ≤ (i 0).val ∧ (i 0).val < t.val * 256 + 256
    omega
  | ⟨1, _⟩ =>
    show win0_9.index t 1 * 8 ≤ (i 1).val ∧ (i 1).val < win0_9.index t 1 * 8 + 8
    rw [e]
    show 0 * 8 ≤ (i 1).val ∧ (i 1).val < 0 * 8 + 8
    omega
  | ⟨2, _⟩ =>
    show win0_9.index t 2 * 64 ≤ (i 2).val ∧ (i 2).val < win0_9.index t 2 * 64 + 64
    rw [e]
    show 0 * 64 ≤ (i 2).val ∧ (i 2).val < 0 * 64 + 64
    omega

theorem covered_valueHeads (i : S256x8x64.Idx) : ∃ t : Fin cfg0.N, (cfg0.win 9).flush t = true ∧ i ∈ ((cfg0.win 9).blk t).view.set :=
  ⟨⟨(i 0).val / 256, by have h0 : (i 0).val < 256 := (i 0).isLt; have hN : cfg0.N = 1 := N_0; omega⟩, flush0_9 _, mem_valueHeads _ i rfl⟩

theorem valueHeads_eq (c : Dev nD) : (dats m 0 c).arrAt 9 cfg0.N = valueHeads m c :=
  (dats m 0 c).arrAt_eq_of_cover 9 (valueHeads m c) (fun t _ => flushed_valueHeads m c t) covered_valueHeads

/-- The kernel's run, read: the seven arrays, and the arguments as they were. -/
theorem run (ρ : Dev nD → PrngReg) :
    θ_run defs (onTc (τ := τ) (main (F := Ideal))) ⟨m, fun _ => 0, ρ⟩ fun r => ∀ c : Dev nD,
      r.2.mem ((c : Thread nD τ).loc main_v3_0) = queries m c
      ∧ r.2.mem ((c : Thread nD τ).loc main_v3_1) = keys m c
      ∧ r.2.mem ((c : Thread nD τ).loc main_v3_2) = values m c
      ∧ r.2.mem ((c : Thread nD τ).loc main_v3_3) = mixer m c
      ∧ r.2.mem ((c : Thread nD τ).loc main_v3_4) = gates m c
      ∧ r.2.mem ((c : Thread nD τ).loc main_v3_5) = keyHeads m c
      ∧ r.2.mem ((c : Thread nD τ).loc main_v3_6) = valueHeads m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 3).trans (queries_eq m c), ((h c).1 4).trans (keys_eq m c), ((h c).1 5).trans (values_eq m c), ((h c).1 6).trans (mixer_eq m c), ((h c).1 7).trans (gates_eq m c), ((h c).1 8).trans (keyHeads_eq m c), ((h c).1 9).trans (valueHeads_eq m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩)
    (run_main m ρ)

end Cert.ProjSampleIdeal.Rows

end
-- ==== Proof.ProjSampleRef.lean ====
/- The reference's input projection of the sample read at a row and a column. -/
module

public import proofs.«01_k».proof.Proof.ProjSampleRows
public import proofs.«01_k».proof.Proof.Gen.ProjSampleReferenceIdeal.Run

@[expose] public section

set_option maxRecDepth 16384

noncomputable section

namespace Cert.ProjSampleReferenceIdeal.Rows

open Cert.ProjSampleReferenceIdeal Cert.ProjSampleReferenceIdeal.Gen Cert.NormRow Idealize.ShloMosaic Idealize.ShloMosaic.TcCoe Idealize.SL.Sem
open Cert.ProjSampleIdeal.Rows (colOf)
open scoped BigOperators

/-- The normed rows against the projection matrix. -/
abbrev full (x : FVec Ideal S256x1024 .f32) (g : FVec Ideal S1024 .f32) (w : FVec Ideal S1024x5376 .f32) : FVec Ideal S256x5376 .f32 :=
  Host.dotGeneral dot_S256x1024_S1024x5376_S256x5376_1_0_0_1_n_n none (mulf (mulf x (broadcastInDim S256x1024 ![0, 1] bcast_S256x1_S256x1024_0_1
    (Host.rsqrt (addf (Host.divf (broadcastInDim S256x1 ![0] bcast_S256_S256x1_0 (Host.reduceAdd (mulf x x) (constant (F := Ideal) S_ .f32 0x00000000#32)
      reducesTo_S256x1024_S256_d1 h_S_)) (broadcastInDim S256x1 ![] bcast_S_S256x1 (constant (F := Ideal) S_ .f32 0x44800000#32)))
      (broadcastInDim S256x1 ![] bcast_S_S256x1 (constant (F := Ideal) S_ .f32 0x3727C5AC#32))))))
    (broadcastInDim S256x1024 ![0, 1] bcast_S1x1024_S256x1024_0_1 (broadcastInDim S1x1024 ![1] bcast_S1024_S1x1024_1 g))) w

theorem full_apply (x : FVec Ideal S256x1024 .f32) (g : FVec Ideal S1024 .f32) (w : FVec Ideal S1024x5376 .f32) (i : Fin 256) (j : Fin 5376) :
    full x g w (ix2 i j) = colOf x g w i j := by
  pointwise []
  rfl

theorem queries_apply (y : FVec Ideal S256x5376 .f32) (i : Fin 256) (d : Fin 512) :
    (truncf .bf16 (extractStridedSlice S256x512 ![0, 0] (extractStridedSlice S256x1536 ![0, 0] y slices_S256x5376_S256x1536_0_0) slices_S256x1536_S256x512_0_0 : FVec Ideal S256x512 .f32) bitsLt_bf16_f32) (ix2 i d) = y (ix2 i ⟨0 + d.val, by omega⟩) := by
  pointwise []
  try (congr 3 <;> omega)

theorem keys_apply (y : FVec Ideal S256x5376 .f32) (i : Fin 256) (d : Fin 512) :
    (truncf .bf16 (extractStridedSlice S256x512 ![0, 512] (extractStridedSlice S256x1536 ![0, 0] y slices_S256x5376_S256x1536_0_0) slices_S256x1536_S256x512_0_512 : FVec Ideal S256x512 .f32) bitsLt_bf16_f32) (ix2 i d) = y (ix2 i ⟨512 + d.val, by omega⟩) := by
  pointwise []
  try (congr 3 <;> omega)

theorem values_apply (y : FVec Ideal S256x5376 .f32) (i : Fin 256) (d : Fin 512) :
    (truncf .bf16 (extractStridedSlice S256x512 ![0, 1024] (extractStridedSlice S256x1536 ![0, 0] y slices_S256x5376_S256x1536_0_0) slices_S256x1536_S256x512_0_1024 : FVec Ideal S256x512 .f32) bitsLt_bf16_f32) (ix2 i d) = y (ix2 i ⟨1024 + d.val, by omega⟩) := by
  pointwise []
  try (congr 3 <;> omega)

theorem mixer_apply (y : FVec Ideal S256x5376 .f32) (i : Fin 256) (d : Fin 1792) :
    (extractStridedSlice S256x1792 ![0, 1536] y slices_S256x5376_S256x1792_0_1536) (ix2 i d) = y (ix2 i ⟨1536 + d.val, by omega⟩) := by
  pointwise []
  try (congr 3 <;> omega)

theorem gates_apply (y : FVec Ideal S256x5376 .f32) (i : Fin 256) (d : Fin 2048) :
    (truncf .bf16 (extractStridedSlice S256x2048 ![0, 3328] y slices_S256x5376_S256x2048_0_3328 : FVec Ideal S256x2048 .f32) bitsLt_bf16_f32) (ix2 i d) = y (ix2 i ⟨3328 + d.val, by omega⟩) := by
  pointwise []
  try (congr 3 <;> omega)

theorem keyHeads_apply (y : FVec Ideal S256x5376 .f32) (i : Fin 256) (h : Fin 8) (d : Fin 64) :
    (shapeCast S256x8x64 (extractStridedSlice S256x512 ![0, 512] (extractStridedSlice S256x1536 ![0, 0] y slices_S256x5376_S256x1536_0_0) slices_S256x1536_S256x512_0_512) shapeCasts_S256x512_S256x8x64) (ix3 i h d) = y (ix2 i ⟨512 + (h.val * 64 + d.val), by omega⟩) := by
  pointwise []
  try (congr 3 <;> omega)

theorem valueHeads_apply (y : FVec Ideal S256x5376 .f32) (i : Fin 256) (h : Fin 8) (d : Fin 64) :
    (shapeCast S256x8x64 (extractStridedSlice S256x512 ![0, 1024] (extractStridedSlice S256x1536 ![0, 0] y slices_S256x5376_S256x1536_0_0) slices_S256x1536_S256x512_0_1024) shapeCasts_S256x512_S256x8x64) (ix3 i h d) = y (ix2 i ⟨1024 + (h.val * 64 + d.val), by omega⟩) := by
  pointwise []
  try (congr 3 <;> omega)

/-- The reference's run, read. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = (fun (i : S256x512.Idx) => colOf (shapeCast _ (m ((c.tc : Thread nD τ).loc main_arg0)) shapeCasts_S8x32x1024_S256x1024) (m ((c.tc : Thread nD τ).loc main_arg1)) (m ((c.tc : Thread nD τ).loc main_arg2)) (i 0) ⟨0 + (i 1).val, by have h : (i 1).val < 512 := (i 1).isLt; omega⟩)
      ∧ r.2.mem ((c.tc : Thread nD τ).loc main_v22) = (fun (i : S256x512.Idx) => colOf (shapeCast _ (m ((c.tc : Thread nD τ).loc main_arg0)) shapeCasts_S8x32x1024_S256x1024) (m ((c.tc : Thread nD τ).loc main_arg1)) (m ((c.tc : Thread nD τ).loc main_arg2)) (i 0) ⟨512 + (i 1).val, by have h : (i 1).val < 512 := (i 1).isLt; omega⟩)
      ∧ r.2.mem ((c.tc : Thread nD τ).loc main_v23) = (fun (i : S256x512.Idx) => colOf (shapeCast _ (m ((c.tc : Thread nD τ).loc main_arg0)) shapeCasts_S8x32x1024_S256x1024) (m ((c.tc : Thread nD τ).loc main_arg1)) (m ((c.tc : Thread nD τ).loc main_arg2)) (i 0) ⟨1024 + (i 1).val, by have h : (i 1).val < 512 := (i 1).isLt; omega⟩)
      ∧ r.2.mem ((c.tc : Thread nD τ).loc main_v16) = (fun (i : S256x1792.Idx) => colOf (shapeCast _ (m ((c.tc : Thread nD τ).loc main_arg0)) shapeCasts_S8x32x1024_S256x1024) (m ((c.tc : Thread nD τ).loc main_arg1)) (m ((c.tc : Thread nD τ).loc main_arg2)) (i 0) ⟨1536 + (i 1).val, by have h : (i 1).val < 1792 := (i 1).isLt; omega⟩)
      ∧ r.2.mem ((c.tc : Thread nD τ).loc main_v24) = (fun (i : S256x2048.Idx) => colOf (shapeCast _ (m ((c.tc : Thread nD τ).loc main_arg0)) shapeCasts_S8x32x1024_S256x1024) (m ((c.tc : Thread nD τ).loc main_arg1)) (m ((c.tc : Thread nD τ).loc main_arg2)) (i 0) ⟨3328 + (i 1).val, by have h : (i 1).val < 2048 := (i 1).isLt; omega⟩)
      ∧ r.2.mem ((c.tc : Thread nD τ).loc main_v25) = (fun (i : S256x8x64.Idx) => colOf (shapeCast _ (m ((c.tc : Thread nD τ).loc main_arg0)) shapeCasts_S8x32x1024_S256x1024) (m ((c.tc : Thread nD τ).loc main_arg1)) (m ((c.tc : Thread nD τ).loc main_arg2)) (i 0) ⟨512 + ((i 1).val * 64 + (i 2).val), by have h : (i 1).val < 8 := (i 1).isLt; have h' : (i 2).val < 64 := (i 2).isLt; omega⟩)
      ∧ r.2.mem ((c.tc : Thread nD τ).loc main_v26) = (fun (i : S256x8x64.Idx) => colOf (shapeCast _ (m ((c.tc : Thread nD τ).loc main_arg0)) shapeCasts_S8x32x1024_S256x1024) (m ((c.tc : Thread nD τ).loc main_arg1)) (m ((c.tc : Thread nD τ).loc main_arg2)) (i 0) ⟨1024 + ((i 1).val * 64 + (i 2).val), by have h : (i 1).val < 8 := (i 1).isLt; have h' : (i 2).val < 64 := (i 2).isLt; omega⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1).trans (funext fun i => by idx_vars i; exact (queries_apply _ i0 i1).trans (full_apply _ _ _ _ _)), ((h c).2.1).trans (funext fun i => by idx_vars i; exact (keys_apply _ i0 i1).trans (full_apply _ _ _ _ _)), ((h c).2.2.1).trans (funext fun i => by idx_vars i; exact (values_apply _ i0 i1).trans (full_apply _ _ _ _ _)), ((h c).2.2.2.1).trans (funext fun i => by idx_vars i; exact (mixer_apply _ i0 i1).trans (full_apply _ _ _ _ _)), ((h c).2.2.2.2.1).trans (funext fun i => by idx_vars i; exact (gates_apply _ i0 i1).trans (full_apply _ _ _ _ _)), ((h c).2.2.2.2.2.1).trans (funext fun i => by idx_vars i; exact (keyHeads_apply _ i0 i1 i2).trans (full_apply _ _ _ _ _)), ((h c).2.2.2.2.2.2.1).trans (funext fun i => by idx_vars i; exact (valueHeads_apply _ i0 i1 i2).trans (full_apply _ _ _ _ _)), (h c).2.2.2.2.2.2.2⟩)
    (Value.run (F := Ideal) m ρ)

end Cert.ProjSampleReferenceIdeal.Rows

end
-- ==== Proof.PrevRows.lean ====
/- The sample's shift state against the mixer's columns of the input matrix, in the kernel and in the reference. -/
module

public import proofs.«01_k».proof.Proof.Gen.PrevSampleIdeal.Value
public import proofs.«01_k».proof.Proof.Gen.PrevSampleReferenceIdeal.Run
public import Idealize.ShloMosaic.Lib.Pipeline.ValueKit.Basic
public import Idealize.ShloMosaic.Lib.Pointwise

@[expose] public section

set_option maxRecDepth 16384

noncomputable section

namespace Cert.PrevSampleIdeal.Rows

open Cert.PrevSampleIdeal Cert.PrevSampleIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- The rows against the columns 1536 to 3327 of the matrix. -/
def mixerColumns (x : FVec Ideal S8x1024 .f32) (w : FVec Ideal S1024x5376 .f32) : FVec Ideal S8x1792 .f32 :=
  fun i => ∑ k : Fin 1024, x (ix2 (i 0) k) * w (ix2 k ⟨1536 + (i 1).val, by have h : (i 1).val < 1792 := (i 1).isLt; omega⟩)

abbrev res (c : Dev nD) : Buf (Elt Ideal) ((c : Thread nD τ).loc main_v2) :=
  mixerColumns (m ((c : Thread nD τ).loc main_arg0)) (m ((c : Thread nD τ).loc main_arg1))

/-! ## The body -/

theorem pay1_apply (x : Vec Ideal S8x1024 .f32) (w : Vec Ideal S1024x1792 .bf16) (r : Fin 8) (d : Fin 1792) :
    k0_pay1 x w (ix2 r d) = ∑ k : Fin 1024, x (ix2 r k) * w (ix2 k d) := by
  pointwise [k0_pay1]

theorem out2_eq (x : Vec Ideal S8x1024 .f32) (w : Vec Ideal S1024x1792 .bf16) : out0_2 x w = k0_pay1 x w := by
  unfold out0_2
  rw [View.canon_cons_unit_lit _ _ _ (by decide), View.ld_unit_lit _ _ (by decide), View.ld_unit_lit _ _ (by decide)]

/-! ## What the host code before the call leaves -/

theorem host_x (c : Dev nD) : V m c main_arg0 = m ((c : Thread nD τ).loc main_arg0) := V_main_arg0 m c

theorem host_w (c : Dev nD) (k : Fin 1024) (d : Fin 1792) :
    V m c main_v1 (ix2 k d) = m ((c : Thread nD τ).loc main_arg1) (ix2 k ⟨1536 + d.val, by have := d.isLt; omega⟩) := by
  have h : V m c main_v1 = extractStridedSlice S1024x1792 ![0, 1536]
      (truncf (F := Ideal) .bf16 (m ((c : Thread nD τ).loc main_arg1) : FVec Ideal S1024x5376 .f32) bitsLt_bf16_f32)
      slices_S1024x5376_S1024x1792_0_1536 := by
    unfold V
    after_results <;> rfl
  rw [h]
  pointwise []

/-! ## The one block: all eight rows -/

theorem at0 : ∀ t : Fin grid0.N, win0_0.index t = ![0, 0] := by decide +kernel
theorem at1 : ∀ t : Fin grid0.N, win0_1.index t = ![0, 0] := by decide +kernel
theorem at2 : ∀ t : Fin grid0.N, win0_2.index t = ![0, 0] := by decide +kernel

theorem blk_x (c : Dev nD) (t : Fin cfg0.N) (i : Fin 8) (k : Fin 1024) :
    iblk m c 0 t (ix2 i k) = m ((c : Thread nD τ).loc main_arg0) (ix2 i k) := by
  have e := at0 t
  refine Eq.trans (congrArg (V m c main_arg0) (funext fun a => ?_)) (congrFun (host_x m c) (ix2 i k))
  match a with
  | ⟨0, _⟩ => exact Fin.ext (by show win0_0.index t 0 * 8 + 1 * i.val = i.val; rw [e]; show 0 * 8 + 1 * i.val = _; omega)
  | ⟨1, _⟩ => exact Fin.ext (by show win0_0.index t 1 * 1024 + 1 * k.val = k.val; rw [e]; show 0 * 1024 + 1 * k.val = _; omega)

theorem blk_w (c : Dev nD) (t : Fin cfg0.N) (k : Fin 1024) (d : Fin 1792) :
    iblk m c 1 t (ix2 k d) = m ((c : Thread nD τ).loc main_arg1) (ix2 k ⟨1536 + d.val, by have := d.isLt; omega⟩) := by
  have e := at1 t
  refine Eq.trans (congrArg (V m c main_v1) (funext fun a => ?_)) (host_w m c k d)
  match a with
  | ⟨0, _⟩ => exact Fin.ext (by show win0_1.index t 0 * 1024 + 1 * k.val = k.val; rw [e]; show 0 * 1024 + 1 * k.val = _; omega)
  | ⟨1, _⟩ => exact Fin.ext (by show win0_1.index t 1 * 1792 + 1 * d.val = d.val; rw [e]; show 0 * 1792 + 1 * d.val = _; omega)

theorem blk_res (c : Dev nD) (t : Fin cfg0.N) (i : Fin 8) (d : Fin 1792) :
    (win0_2.blk t).view.read (Elt Ideal) (res m c) (ix2 i d) = res m c (ix2 i d) := by
  have e := at2 t
  refine congrArg (res m c) (funext fun a => ?_)
  match a with
  | ⟨0, _⟩ => exact Fin.ext (by show win0_2.index t 0 * 8 + 1 * i.val = i.val; rw [e]; show 0 * 8 + 1 * i.val = _; omega)
  | ⟨1, _⟩ => exact Fin.ext (by show win0_2.index t 1 * 1792 + 1 * d.val = d.val; rw [e]; show 0 * 1792 + 1 * d.val = _; omega)

theorem flushed_res (c : Dev nD) (t : Fin cfg0.N) :
    (dats m 0 c).flushed 2 t = (win0_2.blk t).view.read (Elt Ideal) (res m c) := by
  rw [Value.flushed2, out2_eq]
  refine funext fun (j : S8x1792.Idx) => ?_
  idx_vars j
  refine Eq.trans ?_ (blk_res m c t j0 j1).symm
  refine (pay1_apply _ _ j0 j1).trans ?_
  simp only [blk_x, blk_w]
  rfl

theorem mem_res (t : Fin cfg0.N) (i : S8x1792.Idx) : i ∈ ((cfg0.win 2).blk t).view.set := by
  have h0 : (i 0).val < 8 := (i 0).isLt
  have h1 : (i 1).val < 1792 := (i 1).isLt
  show i ∈ ((View.whole main_v2).slice (win0_2.rect t)).set
  rw [View.set_slice_whole, Rect.mem_set_unit]
  have e := at2 t
  intro a
  match a with
  | ⟨0, _⟩ =>
    show win0_2.index t 0 * 8 ≤ (i 0).val ∧ (i 0).val < win0_2.index t 0 * 8 + 8
    rw [e]
    show 0 * 8 ≤ (i 0).val ∧ (i 0).val < 0 * 8 + 8
    omega
  | ⟨1, _⟩ =>
    show win0_2.index t 1 * 1792 ≤ (i 1).val ∧ (i 1).val < win0_2.index t 1 * 1792 + 1792
    rw [e]
    show 0 * 1792 ≤ (i 1).val ∧ (i 1).val < 0 * 1792 + 1792
    omega

theorem covered_res (i : S8x1792.Idx) : ∃ t : Fin cfg0.N, (cfg0.win 2).flush t = true ∧ i ∈ ((cfg0.win 2).blk t).view.set :=
  ⟨⟨0, by have hN : cfg0.N = 1 := N_0; omega⟩, flush0_2 _, mem_res _ i⟩

theorem res_eq (c : Dev nD) : (dats m 0 c).arrAt 2 cfg0.N = res m c :=
  (dats m 0 c).arrAt_eq_of_cover 2 (res m c) (fun t _ => flushed_res m c t) covered_res

/-- The kernel's run, read: the array, and the arguments as they were. -/
theorem run (ρ : Dev nD → PrngReg) :
    θ_run defs (onTc (τ := τ) (main (F := Ideal))) ⟨m, fun _ => 0, ρ⟩ fun r => ∀ c : Dev nD,
      r.2.mem ((c : Thread nD τ).loc main_v2) = res m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (res_eq m c), (h c).2⟩) (Value.run_blocks m ρ)

end Cert.PrevSampleIdeal.Rows

namespace Cert.PrevSampleReferenceIdeal.Rows

open Cert.PrevSampleReferenceIdeal Cert.PrevSampleReferenceIdeal.Gen Idealize.ShloMosaic Idealize.ShloMosaic.TcCoe Idealize.SL.Sem
open scoped BigOperators

/-- The reference's product. -/
abbrev out (x : FVec Ideal S8x1024 .f32) (w : FVec Ideal S1024x5376 .f32) : FVec Ideal S8x1792 .f32 :=
  Host.dotGeneral dot_S8x1024_S1024x1792_S8x1792_1_0_0_1_n_n none x
    (extractStridedSlice S1024x1792 ![0, 1536] w slices_S1024x5376_S1024x1792_0_1536)

theorem out_eq (x : FVec Ideal S8x1024 .f32) (w : FVec Ideal S1024x5376 .f32) : out x w = Cert.PrevSampleIdeal.Rows.mixerColumns x w := by
  refine funext fun (i : S8x1792.Idx) => ?_
  idx_vars i
  pointwise []
  rfl

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = Cert.PrevSampleIdeal.Rows.mixerColumns (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (out_eq _ _), (h c).2⟩) (Value.run (F := Ideal) m ρ)

end Cert.PrevSampleReferenceIdeal.Rows

end
-- ==== Proof.MemRows.lean ====
/- The memory's key and value projections: every grid point's rows are the reference's, and the blocks fill both arrays. -/
module

public import proofs.«01_k».proof.Proof.NormRow
public import proofs.«01_k».proof.Proof.Gen.MemoryIdeal.Value
public import proofs.«01_k».proof.Proof.Gen.MemoryReferenceIdeal.Run
public import Idealize.ShloMosaic.Lib.Pipeline.ValueKit.Basic
public import Idealize.ShloMosaic.Lib.Pointwise

@[expose] public section

set_option maxRecDepth 16384

noncomputable section

namespace Cert.MemoryIdeal.Rows

open Cert.MemoryIdeal Cert.MemoryIdeal.Gen Cert.NormRow Idealize.ShloMosaic Idealize.ShloMosaic.TcCoe Idealize.SL.Sem
open Idealize.ShloMosaic.Pipeline (Dat)
open scoped BigOperators

variable (m : (ℓ : Loc nD τ sig) → Buf (Elt Ideal) ℓ)

/-- The memory as 4096 rows. -/
abbrev rows (c : Dev nD) : FVec Ideal S4096x1024 .f32 := shapeCast _ (m ((c : Thread nD τ).loc main_arg0)) shapeCasts_S16x256x1024_S4096x1024

/-- The rows, normed, against a weight matrix. -/
def proj (x : FVec Ideal S4096x1024 .f32) (g : FVec Ideal S1024 .f32) (w : FVec Ideal S1024x1024 .f32) : FVec Ideal S4096x1024 .f32 :=
  fun i => normedDot (fun k => x (ix2 (i 0) k)) (fun k => g (ix1 k)) (fun k => w (ix2 k (i 1)))

abbrev keys (c : Dev nD) : Buf (Elt Ideal) ((c : Thread nD τ).loc main_v4_0) :=
  proj (rows m c) (m ((c : Thread nD τ).loc main_arg1)) (m ((c : Thread nD τ).loc main_arg2))

abbrev values (c : Dev nD) : Buf (Elt Ideal) ((c : Thread nD τ).loc main_v4_1) :=
  proj (rows m c) (m ((c : Thread nD τ).loc main_arg1)) (m ((c : Thread nD τ).loc main_arg3))

/-! ## The body -/

theorem pay2_apply (x : Vec Ideal S256x1024 .f32) (g : Vec Ideal S1x1024 .f32) (w : Vec Ideal S1024x1024 .bf16) (r : Fin 256) (d : Fin 1024) :
    k0_pay2 x g w (ix2 r d) = normedDot (fun k => x (ix2 r k)) (fun k => g (ix2 0 k)) (fun k => w (ix2 k d)) := by
  pointwise [k0_pay2, k0_pay1]
  rfl

theorem pay3_apply (x : Vec Ideal S256x1024 .f32) (g : Vec Ideal S1x1024 .f32) (w : Vec Ideal S1024x1024 .bf16) (r : Fin 256) (d : Fin 1024) :
    k0_pay3 x g w (ix2 r d) = normedDot (fun k => x (ix2 r k)) (fun k => g (ix2 0 k)) (fun k => w (ix2 k d)) := by
  pointwise [k0_pay3, k0_pay1]
  rfl

theorem out4_eq (x : Vec Ideal S256x1024 .f32) (g : Vec Ideal S1x1024 .f32) (w w' : Vec Ideal S1024x1024 .bf16) :
    out0_4 x g w w' = k0_pay2 x g w := by
  unfold out0_4
  rw [View.canon_cons_unit_lit _ _ _ (by decide), View.ld_unit_lit _ _ (by decide), View.ld_unit_lit _ _ (by decide), View.ld_unit_lit _ _ (by decide)]

theorem out5_eq (x : Vec Ideal S256x1024 .f32) (g : Vec Ideal S1x1024 .f32) (w w' : Vec Ideal S1024x1024 .bf16) :
    out0_5 x g w w' = k0_pay3 x g w' := by
  unfold out0_5
  rw [View.canon_cons_unit_lit _ _ _ (by decide), View.ld_unit_lit _ _ (by decide), View.ld_unit_lit _ _ (by decide), View.ld_unit_lit _ _ (by decide)]

/-! ## What the host code before the call leaves -/

theorem host_x (c : Dev nD) : V m c main_v0 = rows m c := by
  unfold V
  after_results <;> rfl

theorem host_g (c : Dev nD) : V m c main_v3 = shapeCast _ (m ((c : Thread nD τ).loc main_arg1)) shapeCasts_S1024_S1x1024 := by
  unfold V
  after_results <;> rfl

theorem host_wk (c : Dev nD) : V m c main_v1 = m ((c : Thread nD τ).loc main_arg2) := by
  unfold V
  after_results <;> rfl

theorem host_wv (c : Dev nD) : V m c main_v2 = m ((c : Thread nD τ).loc main_arg3) := by
  unfold V
  after_results <;> rfl

/-! ## The blocks -/

/-- Point `t` reads and writes the 256 rows from `256 t` on; the gain and the weights are read whole. -/
theorem places : ∀ t : Fin grid0.N,
    (win0_0.index t = ![t.val, 0] ∧ win0_1.index t = ![0, 0]) ∧ (win0_2.index t = ![0, 0] ∧ win0_3.index t = ![0, 0])
    ∧ win0_4.index t = ![t.val, 0] ∧ win0_5.index t = ![t.val, 0] := by
  decide +kernel

theorem point_lt (t : Fin cfg0.N) : t.val < 16 := lt_of_lt_of_eq t.isLt N_0

theorem blk_x (c : Dev nD) (t : Fin cfg0.N) (i : Fin 256) (k : Fin 1024) :
    iblk m c 0 t (ix2 i k) = rows m c (ix2 ⟨t.val * 256 + i.val, by have := point_lt t; omega⟩ k) := by
  have e := (places t).1.1
  rw [← host_x]
  refine congrArg (V m c main_v0) (funext fun a => ?_)
  match a with
  | ⟨0, _⟩ => exact Fin.ext (by show win0_0.index t 0 * 256 + 1 * i.val = t.val * 256 + i.val; rw [e]; show t.val * 256 + 1 * i.val = _; omega)
  | ⟨1, _⟩ => exact Fin.ext (by show win0_0.index t 1 * 1024 + 1 * k.val = k.val; rw [e]; show 0 * 1024 + 1 * k.val = _; omega)

theorem blk_g (c : Dev nD) (t : Fin cfg0.N) (k : Fin 1024) :
    iblk m c 1 t (ix2 0 k) = m ((c : Thread nD τ).loc main_arg1) (ix1 k) := by
  have e := (places t).1.2
  have h : iblk m c 1 t (ix2 0 k) = V m c main_v3 (ix2 0 k) := by
    refine congrArg (V m c main_v3) (funext fun a => ?_)
    match a with
    | ⟨0, _⟩ => exact Fin.ext (by show win0_1.index t 0 * 1 + 1 * 0 = 0; rw [e]; rfl)
    | ⟨1, _⟩ => exact Fin.ext (by show win0_1.index t 1 * 1024 + 1 * k.val = k.val; rw [e]; show 0 * 1024 + 1 * k.val = _; omega)
  rw [h, host_g]
  pointwise []

theorem blk_wk (c : Dev nD) (t : Fin cfg0.N) (k d : Fin 1024) :
    iblk m c 2 t (ix2 k d) = m ((c : Thread nD τ).loc main_arg2) (ix2 k d) := by
  have e := (places t).2.1.1
  refine Eq.trans (congrArg (V m c main_v1) (funext fun a => ?_)) (congrFun (host_wk m c) (ix2 k d))
  match a with
  | ⟨0, _⟩ => exact Fin.ext (by show win0_2.index t 0 * 1024 + 1 * k.val = k.val; rw [e]; show 0 * 1024 + 1 * k.val = _; omega)
  | ⟨1, _⟩ => exact Fin.ext (by show win0_2.index t 1 * 1024 + 1 * d.val = d.val; rw [e]; show 0 * 1024 + 1 * d.val = _; omega)

theorem blk_wv (c : Dev nD) (t : Fin cfg0.N) (k d : Fin 1024) :
    iblk m c 3 t (ix2 k d) = m ((c : Thread nD τ).loc main_arg3) (ix2 k d) := by
  have e := (places t).2.1.2
  refine Eq.trans (congrArg (V m c main_v2) (funext fun a => ?_)) (congrFun (host_wv m c) (ix2 k d))
  match a with
  | ⟨0, _⟩ => exact Fin.ext (by show win0_3.index t 0 * 1024 + 1 * k.val = k.val; rw [e]; show 0 * 1024 + 1 * k.val = _; omega)
  | ⟨1, _⟩ => exact Fin.ext (by show win0_3.index t 1 * 1024 + 1 * d.val = d.val; rw [e]; show 0 * 1024 + 1 * d.val = _; omega)

/-- The place in the result of the output block's row `i` and column `d`. -/
theorem blk_keys (c : Dev nD) (t : Fin cfg0.N) (i : Fin 256) (d : Fin 1024) :
    (win0_4.blk t).view.read (Elt Ideal) (keys m c) (ix2 i d) = keys m c (ix2 ⟨t.val * 256 + i.val, by have := point_lt t; omega⟩ d) := by
  have e := (places t).2.2.1
  refine congrArg (keys m c) (funext fun a => ?_)
  match a with
  | ⟨0, _⟩ => exact Fin.ext (by show win0_4.index t 0 * 256 + 1 * i.val = t.val * 256 + i.val; rw [e]; show t.val * 256 + 1 * i.val = _; omega)
  | ⟨1, _⟩ => exact Fin.ext (by show win0_4.index t 1 * 1024 + 1 * d.val = d.val; rw [e]; show 0 * 1024 + 1 * d.val = _; omega)

theorem blk_values (c : Dev nD) (t : Fin cfg0.N) (i : Fin 256) (d : Fin 1024) :
    (win0_5.blk t).view.read (Elt Ideal) (values m c) (ix2 i d) = values m c (ix2 ⟨t.val * 256 + i.val, by have := point_lt t; omega⟩ d) := by
  have e := (places t).2.2.2
  refine congrArg (values m c) (funext fun a => ?_)
  match a with
  | ⟨0, _⟩ => exact Fin.ext (by show win0_5.index t 0 * 256 + 1 * i.val = t.val * 256 + i.val; rw [e]; show t.val * 256 + 1 * i.val = _; omega)
  | ⟨1, _⟩ => exact Fin.ext (by show win0_5.index t 1 * 1024 + 1 * d.val = d.val; rw [e]; show 0 * 1024 + 1 * d.val = _; omega)

theorem flushed_keys (c : Dev nD) (t : Fin cfg0.N) :
    (dats m 0 c).flushed 4 t = (win0_4.blk t).view.read (Elt Ideal) (keys m c) := by
  rw [Value.flushed4, out4_eq]
  refine funext fun (j : S256x1024.Idx) => ?_
  idx_vars j
  refine Eq.trans ?_ (blk_keys m c t j0 j1).symm
  refine (pay2_apply _ _ _ j0 j1).trans ?_
  simp only [blk_x, blk_g, blk_wk]
  rfl

theorem flushed_values (c : Dev nD) (t : Fin cfg0.N) :
    (dats m 0 c).flushed 5 t = (win0_5.blk t).view.read (Elt Ideal) (values m c) := by
  rw [Value.flushed5, out5_eq]
  refine funext fun (j : S256x1024.Idx) => ?_
  idx_vars j
  refine Eq.trans ?_ (blk_values m c t j0 j1).symm
  refine (pay3_apply _ _ _ j0 j1).trans ?_
  simp only [blk_x, blk_g, blk_wv]
  rfl

/-! ## The arrays -/

theorem mem_keys (t : Fin cfg0.N) (i : S4096x1024.Idx) (h : (i 0).val / 256 = t.val) : i ∈ ((cfg0.win 4).blk t).view.set := by
  have h1 : (i 1).val < 1024 := (i 1).isLt
  show i ∈ ((View.whole main_v4_0).slice (win0_4.rect t)).set
  rw [View.set_slice_whole, Rect.mem_set_unit]
  have e := (places t).2.2.1
  intro a
  match a with
  | ⟨0, _⟩ =>
    show win0_4.index t 0 * 256 ≤ (i 0).val ∧ (i 0).val < win0_4.index t 0 * 256 + 256
    rw [e]
    show t.val * 256 ≤ (i 0).val ∧ (i 0).val < t.val * 256 + 256
    omega
  | ⟨1, _⟩ =>
    show win0_4.index t 1 * 1024 ≤ (i 1).val ∧ (i 1).val < win0_4.index t 1 * 1024 + 1024
    rw [e]
    show 0 * 1024 ≤ (i 1).val ∧ (i 1).val < 0 * 1024 + 1024
    omega

theorem covered_keys (i : S4096x1024.Idx) : ∃ t : Fin cfg0.N, (cfg0.win 4).flush t = true ∧ i ∈ ((cfg0.win 4).blk t).view.set :=
  ⟨⟨(i 0).val / 256, by have h0 : (i 0).val < 4096 := (i 0).isLt; have hN : cfg0.N = 16 := N_0; omega⟩, flush0_4 _, mem_keys _ i rfl⟩

theorem mem_values (t : Fin cfg0.N) (i : S4096x1024.Idx) (h : (i 0).val / 256 = t.val) : i ∈ ((cfg0.win 5).blk t).view.set := by
  have h1 : (i 1).val < 1024 := (i 1).isLt
  show i ∈ ((View.whole main_v4_1).slice (win0_5.rect t)).set
  rw [View.set_slice_whole, Rect.mem_set_unit]
  have e := (places t).2.2.2
  intro a
  match a with
  | ⟨0, _⟩ =>
    show win0_5.index t 0 * 256 ≤ (i 0).val ∧ (i 0).val < win0_5.index t 0 * 256 + 256
    rw [e]
    show t.val * 256 ≤ (i 0).val ∧ (i 0).val < t.val * 256 + 256
    omega
  | ⟨1, _⟩ =>
    show win0_5.index t 1 * 1024 ≤ (i 1).val ∧ (i 1).val < win0_5.index t 1 * 1024 + 1024
    rw [e]
    show 0 * 1024 ≤ (i 1).val ∧ (i 1).val < 0 * 1024 + 1024
    omega

theorem covered_values (i : S4096x1024.Idx) : ∃ t : Fin cfg0.N, (cfg0.win 5).flush t = true ∧ i ∈ ((cfg0.win 5).blk t).view.set :=
  ⟨⟨(i 0).val / 256, by have h0 : (i 0).val < 4096 := (i 0).isLt; have hN : cfg0.N = 16 := N_0; omega⟩, flush0_5 _, mem_values _ i rfl⟩

theorem keys_eq (c : Dev nD) : (dats m 0 c).arrAt 4 cfg0.N = keys m c :=
  (dats m 0 c).arrAt_eq_of_cover 4 (keys m c) (fun t _ => flushed_keys m c t) covered_keys

theorem values_eq (c : Dev nD) : (dats m 0 c).arrAt 5 cfg0.N = values m c :=
  (dats m 0 c).arrAt_eq_of_cover 5 (values m c) (fun t _ => flushed_values m c t) covered_values

/-- The kernel's run, read. -/
theorem run (ρ : Dev nD → PrngReg) :
    θ_run defs (onTc (τ := τ) (main (F := Ideal))) ⟨m, fun _ => 0, ρ⟩ fun r => ∀ c : Dev nD,
      r.2.mem ((c : Thread nD τ).loc main_v4_0) = keys m c
      ∧ r.2.mem ((c : Thread nD τ).loc main_v4_1) = values m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (keys_eq m c), (h c).2.1.trans (values_eq m c), (h c).2.2⟩) (Value.run_blocks m ρ)

end Cert.MemoryIdeal.Rows

namespace Cert.MemoryReferenceIdeal.Rows

open Cert.MemoryReferenceIdeal Cert.MemoryReferenceIdeal.Gen Cert.NormRow Idealize.ShloMosaic Idealize.ShloMosaic.TcCoe Idealize.SL.Sem
open scoped BigOperators

/-- The reference's projection of the normed rows. -/
abbrev out (x : FVec Ideal S4096x1024 .f32) (g : FVec Ideal S1024 .f32) (w : FVec Ideal S1024x1024 .f32) : FVec Ideal S4096x1024 .f32 :=
  Host.dotGeneral dot_S4096x1024_S1024x1024_S4096x1024_1_0_0_1_n_n none (mulf (mulf x (broadcastInDim S4096x1024 ![0, 1] bcast_S4096x1_S4096x1024_0_1
    (Host.rsqrt (addf (Host.divf (broadcastInDim S4096x1 ![0] bcast_S4096_S4096x1_0 (Host.reduceAdd (mulf x x) (constant (F := Ideal) S_ .f32 0x00000000#32)
      reducesTo_S4096x1024_S4096_d1 h_S_)) (broadcastInDim S4096x1 ![] bcast_S_S4096x1 (constant (F := Ideal) S_ .f32 0x44800000#32)))
      (broadcastInDim S4096x1 ![] bcast_S_S4096x1 (constant (F := Ideal) S_ .f32 0x3727C5AC#32))))))
    (broadcastInDim S4096x1024 ![0, 1] bcast_S1x1024_S4096x1024_0_1 (broadcastInDim S1x1024 ![1] bcast_S1024_S1x1024_1 g))) w

theorem out_eq (x : FVec Ideal S4096x1024 .f32) (g : FVec Ideal S1024 .f32) (w : FVec Ideal S1024x1024 .f32) :
    out x g w = Cert.MemoryIdeal.Rows.proj x g w := by
  funext i
  idx_vars i
  pointwise []
  rfl

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = Cert.MemoryIdeal.Rows.proj (shapeCast _ (m ((c.tc : Thread nD τ).loc main_arg0)) shapeCasts_S16x256x1024_S4096x1024) (m ((c.tc : Thread nD τ).loc main_arg1)) (m ((c.tc : Thread nD τ).loc main_arg2))
      ∧ r.2.mem ((c.tc : Thread nD τ).loc main_v15) = Cert.MemoryIdeal.Rows.proj (shapeCast _ (m ((c.tc : Thread nD τ).loc main_arg0)) shapeCasts_S16x256x1024_S4096x1024) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (out_eq _ _ _), (h c).2.1.trans (out_eq _ _ _), (h c).2.2⟩) (Value.run (F := Ideal) m ρ)

end Cert.MemoryReferenceIdeal.Rows

end
-- ==== Proof.MergeRows.lean ====
/- The merge of the two mixers into the stream, and the queries of the normed stream: every grid point's rows are the
   reference's, and the blocks fill both arrays. -/
module

public import proofs.«01_k».proof.Proof.NormRow
public import proofs.«01_k».proof.Proof.Gen.MergeIdeal.Value
public import Idealize.ShloMosaic.Lib.Pipeline.ValueKit.Basic
public import Idealize.ShloMosaic.Lib.Pointwise

@[expose] public section

set_option maxRecDepth 16384

noncomputable section

namespace Cert.MergeIdeal.Rows

open Cert.MergeIdeal Cert.MergeIdeal.Gen Cert.NormRow Idealize.ShloMosaic Idealize.ShloMosaic.TcCoe Idealize.SL.Sem
open Idealize.ShloMosaic.Pipeline (Dat)
open scoped BigOperators

variable (m : (ℓ : Loc nD τ sig) → Buf (Elt Ideal) ℓ)

/-- A gate. -/
def gate (x : EReal) : EReal := Ideal.div 1 (1 + Ideal.exp (-x))

/-- Both branches of one row, gated and added, at one column. -/
def mixed (a b : Fin 512 → EReal) (s : Fin 2048 → EReal) (u v : Fin 512 → Fin 1024 → EReal) (d : Fin 1024) : EReal :=
  gate (s ⟨d.val, by omega⟩) * (∑ k, a k * u k d) + gate (s ⟨1024 + d.val, by omega⟩) * (∑ k, b k * v k d)

/-- One row of the stream: its old row and the mixed row projected. -/
def streamRow (a b : Fin 512 → EReal) (s : Fin 2048 → EReal) (x : Fin 1024 → EReal) (u v : Fin 512 → Fin 1024 → EReal)
    (o : Fin 1024 → Fin 1024 → EReal) (d : Fin 1024) : EReal :=
  x d + ∑ k, mixed a b s u v k * o k d

/-- The stream after the mixers. -/
def streamOf (a b : FVec Ideal S32768x512 .bf16) (s : FVec Ideal S32768x2048 .bf16) (x : FVec Ideal S32768x1024 .f32)
    (w : FVec Ideal S2x512x1024 .f32) (o : FVec Ideal S1024x1024 .f32) (i : Fin 32768) (d : Fin 1024) : EReal :=
  streamRow (fun k => a (ix2 i k)) (fun k => b (ix2 i k)) (fun k => s (ix2 i k)) (fun k => x (ix2 i k))
    (fun k l => w (ix3 0 k l)) (fun k l => w (ix3 1 k l)) (fun k l => o (ix2 k l)) d

/-- The queries of the normed stream. -/
def queryOf (a b : FVec Ideal S32768x512 .bf16) (s : FVec Ideal S32768x2048 .bf16) (x : FVec Ideal S32768x1024 .f32)
    (w : FVec Ideal S2x512x1024 .f32) (o : FVec Ideal S1024x1024 .f32) (g : FVec Ideal S1024 .f32) (q : FVec Ideal S1024x1024 .f32)
    (i : Fin 32768) (d : Fin 1024) : EReal :=
  normedDot (fun k => streamOf a b s x w o i k) (fun k => g (ix1 k)) (fun k => q (ix2 k d))

abbrev stream (c : Dev nD) : Buf (Elt Ideal) ((c : Thread nD τ).loc main_v9_0) :=
  fun (i : S32768x1024.Idx) => streamOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0) (i 1)

abbrev query (c : Dev nD) : Buf (Elt Ideal) ((c : Thread nD τ).loc main_v9_1) :=
  fun (i : S32768x1024.Idx) => queryOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (i 0) (i 1)

/-! ## The body -/

theorem pay2_apply (s : Vec Ideal S256x2048 .bf16) (a : Vec Ideal S256x512 .bf16) (u : Vec Ideal S512x1024 .bf16) (b : Vec Ideal S256x512 .bf16)
    (v : Vec Ideal S512x1024 .bf16) (x : Vec Ideal S256x1024 .f32) (o : Vec Ideal S1024x1024 .bf16) (r : Fin 256) (d : Fin 1024) :
    k0_pay2 s a u b v x o (ix2 r d) = streamRow (fun k => a (ix2 r k)) (fun k => b (ix2 r k)) (fun k => s (ix2 r k)) (fun k => x (ix2 r k))
      (fun k l => u (ix2 k l)) (fun k l => v (ix2 k l)) (fun k l => o (ix2 k l)) d := by
  pointwise [k0_pay2]
  rfl

theorem pay1_apply (s : Vec Ideal S256x2048 .bf16) (a : Vec Ideal S256x512 .bf16) (u : Vec Ideal S512x1024 .bf16) (b : Vec Ideal S256x512 .bf16)
    (v : Vec Ideal S512x1024 .bf16) (x : Vec Ideal S256x1024 .f32) (o : Vec Ideal S1024x1024 .bf16) (g : Vec Ideal S1x1024 .f32)
    (q : Vec Ideal S1024x1024 .bf16) (r : Fin 256) (d : Fin 1024) :
    k0_pay1 (k0_pay2 s a u b v x o) (k0_pay3 g) (k0_pay4 s a u b v x o) q (ix2 r d)
      = normedDot (fun k => k0_pay2 s a u b v x o (ix2 r k)) (fun k => g (ix2 0 k)) (fun k => q (ix2 k d)) := by
  pointwise [k0_pay1, k0_pay3, k0_pay4]
  rfl

theorem out9_eq (a b : Vec Ideal S256x512 .bf16) (s : Vec Ideal S256x2048 .bf16) (x : Vec Ideal S256x1024 .f32) (u v : Vec Ideal S512x1024 .bf16)
    (o : Vec Ideal S1024x1024 .bf16) (g : Vec Ideal S1x1024 .f32) (q : Vec Ideal S1024x1024 .bf16) :
    out0_9 a b s x u v o g q = k0_pay2 s a u b v x o := by
  unfold out0_9
  rw [View.canon_cons_unit_lit _ _ _ (by decide)]
  congr 1 <;> exact View.ld_unit_lit _ _ (by decide)

theorem out10_eq (a b : Vec Ideal S256x512 .bf16) (s : Vec Ideal S256x2048 .bf16) (x : Vec Ideal S256x1024 .f32) (u v : Vec Ideal S512x1024 .bf16)
    (o : Vec Ideal S1024x1024 .bf16) (g : Vec Ideal S1x1024 .f32) (q : Vec Ideal S1024x1024 .bf16) :
    out0_10 a b s x u v o g q = k0_pay1 (k0_pay2 s a u b v x o) (k0_pay3 g) (k0_pay4 s a u b v x o) q := by
  unfold out0_10
  rw [View.canon_cons_unit_lit _ _ _ (by decide)]
  congr 1
  · congr 1 <;> exact View.ld_unit_lit _ _ (by decide)
  · congr 1 <;> exact View.ld_unit_lit _ _ (by decide)
  · congr 1 <;> exact View.ld_unit_lit _ _ (by decide)
  · exact View.ld_unit_lit _ _ (by decide)

/-! ## What the host code before the call leaves -/

abbrev branch0 (c : Dev nD) : FVec Ideal S512x1024 .bf16 := fun i => m ((c : Thread nD τ).loc main_arg4) (ix3 0 (i 0) (i 1))
abbrev branch1 (c : Dev nD) : FVec Ideal S512x1024 .bf16 := fun i => m ((c : Thread nD τ).loc main_arg4) (ix3 1 (i 0) (i 1))
abbrev gain (c : Dev nD) : FVec Ideal S1x1024 .f32 := fun i => m ((c : Thread nD τ).loc main_arg6) (ix1 (i 1))

theorem host_u (c : Dev nD) : V m c main_v2 = branch0 m c := by
  have h : V m c main_v2 = truncf .bf16 (shapeCast _ (extractStridedSlice S1x512x1024 ![0, 0, 0] (m ((c : Thread nD τ).loc main_arg4))
      slices_S2x512x1024_S1x512x1024_0_0_0) shapeCasts_S1x512x1024_S512x1024 : FVec Ideal S512x1024 .f32) bitsLt_bf16_f32 := by
    unfold V
    after_results <;> rfl
  rw [h]
  refine funext fun (j : S512x1024.Idx) => ?_
  idx_vars j
  pointwise []
  rfl

theorem host_v (c : Dev nD) : V m c main_v5 = branch1 m c := by
  have h : V m c main_v5 = truncf .bf16 (shapeCast _ (extractStridedSlice S1x512x1024 ![1, 0, 0] (m ((c : Thread nD τ).loc main_arg4))
      slices_S2x512x1024_S1x512x1024_1_0_0) shapeCasts_S1x512x1024_S512x1024 : FVec Ideal S512x1024 .f32) bitsLt_bf16_f32 := by
    unfold V
    after_results <;> rfl
  rw [h]
  refine funext fun (j : S512x1024.Idx) => ?_
  idx_vars j
  pointwise []
  rfl

theorem host_o (c : Dev nD) : V m c main_v6 = m ((c : Thread nD τ).loc main_arg5) := by
  unfold V
  after_results <;> rfl

theorem host_q (c : Dev nD) : V m c main_v7 = m ((c : Thread nD τ).loc main_arg7) := by
  unfold V
  after_results <;> rfl

theorem host_g (c : Dev nD) : V m c main_v8 = gain m c := by
  have h : V m c main_v8 = shapeCast _ (m ((c : Thread nD τ).loc main_arg6)) shapeCasts_S1024_S1x1024 := by
    unfold V
    after_results <;> rfl
  rw [h]
  refine funext fun (j : S1x1024.Idx) => ?_
  idx_vars j
  have hu : j0 = 0 := Subsingleton.elim _ _
  subst hu
  pointwise []
  rfl

/-! ## The blocks: point `t` reads and writes the 256 rows from `256 t` on; the gain and the weights are read whole -/

theorem point_lt (t : Fin cfg0.N) : t.val < 128 := lt_of_lt_of_eq t.isLt N_0

theorem at0 : ∀ t : Fin grid0.N, win0_0.index t = ![t.val, 0] := by decide +kernel
theorem at1 : ∀ t : Fin grid0.N, win0_1.index t = ![t.val, 0] := by decide +kernel
theorem at2 : ∀ t : Fin grid0.N, win0_2.index t = ![t.val, 0] := by decide +kernel
theorem at3 : ∀ t : Fin grid0.N, win0_3.index t = ![t.val, 0] := by decide +kernel
theorem at9 : ∀ t : Fin grid0.N, win0_9.index t = ![t.val, 0] := by decide +kernel
theorem at10 : ∀ t : Fin grid0.N, win0_10.index t = ![t.val, 0] := by decide +kernel
theorem at4 : ∀ t : Fin grid0.N, win0_4.index t = ![0, 0] := by decide +kernel
theorem at5 : ∀ t : Fin grid0.N, win0_5.index t = ![0, 0] := by decide +kernel
theorem at6 : ∀ t : Fin grid0.N, win0_6.index t = ![0, 0] := by decide +kernel
theorem at7 : ∀ t : Fin grid0.N, win0_7.index t = ![0, 0] := by decide +kernel
theorem at8 : ∀ t : Fin grid0.N, win0_8.index t = ![0, 0] := by decide +kernel

theorem blk_a (c : Dev nD) (t : Fin cfg0.N) (i : Fin 256) (k : Fin 512) :
    iblk m c 0 t (ix2 i k) = m ((c : Thread nD τ).loc main_arg0) (ix2 ⟨t.val * 256 + i.val, by have := point_lt t; omega⟩ k) := by
  have e := at0 t
  refine Eq.trans (congrArg (V m c main_arg0) (funext fun a => ?_)) (congrFun (V_main_arg0 m c) (ix2 ⟨t.val * 256 + i.val, by have := point_lt t; omega⟩ k))
  match a with
  | ⟨0, _⟩ => exact Fin.ext (by show win0_0.index t 0 * 256 + 1 * i.val = t.val * 256 + i.val; rw [e]; show t.val * 256 + 1 * i.val = _; omega)
  | ⟨1, _⟩ => exact Fin.ext (by show win0_0.index t 1 * 512 + 1 * k.val = k.val; rw [e]; show 0 * 512 + 1 * k.val = _; omega)

theorem blk_b (c : Dev nD) (t : Fin cfg0.N) (i : Fin 256) (k : Fin 512) :
    iblk m c 1 t (ix2 i k) = m ((c : Thread nD τ).loc main_arg1) (ix2 ⟨t.val * 256 + i.val, by have := point_lt t; omega⟩ k) := by
  have e := at1 t
  refine Eq.trans (congrArg (V m c main_arg1) (funext fun a => ?_)) (congrFun (V_main_arg1 m c) (ix2 ⟨t.val * 256 + i.val, by have := point_lt t; omega⟩ k))
  match a with
  | ⟨0, _⟩ => exact Fin.ext (by show win0_1.index t 0 * 256 + 1 * i.val = t.val * 256 + i.val; rw [e]; show t.val * 256 + 1 * i.val = _; omega)
  | ⟨1, _⟩ => exact Fin.ext (by show win0_1.index t 1 * 512 + 1 * k.val = k.val; rw [e]; show 0 * 512 + 1 * k.val = _; omega)

theorem blk_s (c : Dev nD) (t : Fin cfg0.N) (i : Fin 256) (k : Fin 2048) :
    iblk m c 2 t (ix2 i k) = m ((c : Thread nD τ).loc main_arg2) (ix2 ⟨t.val * 256 + i.val, by have := point_lt t; omega⟩ k) := by
  have e := at2 t
  refine Eq.trans (congrArg (V m c main_arg2) (funext fun a => ?_)) (congrFun (V_main_arg2 m c) (ix2 ⟨t.val * 256 + i.val, by have := point_lt t; omega⟩ k))
  match a with
  | ⟨0, _⟩ => exact Fin.ext (by show win0_2.index t 0 * 256 + 1 * i.val = t.val * 256 + i.val; rw [e]; show t.val * 256 + 1 * i.val = _; omega)
  | ⟨1, _⟩ => exact Fin.ext (by show win0_2.index t 1 * 2048 + 1 * k.val = k.val; rw [e]; show 0 * 2048 + 1 * k.val = _; omega)

theorem blk_x (c : Dev nD) (t : Fin cfg0.N) (i : Fin 256) (k : Fin 1024) :
    iblk m c 3 t (ix2 i k) = m ((c : Thread nD τ).loc main_arg3) (ix2 ⟨t.val * 256 + i.val, by have := point_lt t; omega⟩ k) := by
  have e := at3 t
  refine Eq.trans (congrArg (V m c main_arg3) (funext fun a => ?_)) (congrFun (V_main_arg3 m c) (ix2 ⟨t.val * 256 + i.val, by have := point_lt t; omega⟩ k))
  match a with
  | ⟨0, _⟩ => exact Fin.ext (by show win0_3.index t 0 * 256 + 1 * i.val = t.val * 256 + i.val; rw [e]; show t.val * 256 + 1 * i.val = _; omega)
  | ⟨1, _⟩ => exact Fin.ext (by show win0_3.index t 1 * 1024 + 1 * k.val = k.val; rw [e]; show 0 * 1024 + 1 * k.val = _; omega)

theorem blk_u (c : Dev nD) (t : Fin cfg0.N) (i : Fin 512) (k : Fin 1024) :
    iblk m c 4 t (ix2 i k) = branch0 m c (ix2 i k) := by
  have e := at4 t
  refine Eq.trans (congrArg (V m c main_v2) (funext fun a => ?_)) (congrFun (host_u m c) (ix2 i k))
  match a with
  | ⟨0, _⟩ => exact Fin.ext (by show win0_4.index t 0 * 512 + 1 * i.val = i.val; rw [e]; show 0 * 512 + 1 * i.val = _; omega)
  | ⟨1, _⟩ => exact Fin.ext (by show win0_4.index t 1 * 1024 + 1 * k.val = k.val; rw [e]; show 0 * 1024 + 1 * k.val = _; omega)

theorem blk_v (c : Dev nD) (t : Fin cfg0.N) (i : Fin 512) (k : Fin 1024) :
    iblk m c 5 t (ix2 i k) = branch1 m c (ix2 i k) := by
  have e := at5 t
  refine Eq.trans (congrArg (V m c main_v5) (funext fun a => ?_)) (congrFun (host_v m c) (ix2 i k))
  match a with
  | ⟨0, _⟩ => exact Fin.ext (by show win0_5.index t 0 * 512 + 1 * i.val = i.val; rw [e]; show 0 * 512 + 1 * i.val = _; omega)
  | ⟨1, _⟩ => exact Fin.ext (by show win0_5.index t 1 * 1024 + 1 * k.val = k.val; rw [e]; show 0 * 1024 + 1 * k.val = _; omega)

theorem blk_o (c : Dev nD) (t : Fin cfg0.N) (i : Fin 1024) (k : Fin 1024) :
    iblk m c 6 t (ix2 i k) = m ((c : Thread nD τ).loc main_arg5) (ix2 i k) := by
  have e := at6 t
  refine Eq.trans (congrArg (V m c main_v6) (funext fun a => ?_)) (congrFun (host_o m c) (ix2 i k))
  match a with
  | ⟨0, _⟩ => exact Fin.ext (by show win0_6.index t 0 * 1024 + 1 * i.val = i.val; rw [e]; show 0 * 1024 + 1 * i.val = _; omega)
  | ⟨1, _⟩ => exact Fin.ext (by show win0_6.index t 1 * 1024 + 1 * k.val = k.val; rw [e]; show 0 * 1024 + 1 * k.val = _; omega)

theorem blk_g (c : Dev nD) (t : Fin cfg0.N) (i : Fin 1) (k : Fin 1024) :
    iblk m c 7 t (ix2 i k) = gain m c (ix2 i k) := by
  have e := at7 t
  refine Eq.trans (congrArg (V m c main_v8) (funext fun a => ?_)) (congrFun (host_g m c) (ix2 i k))
  match a with
  | ⟨0, _⟩ => exact Fin.ext (by show win0_7.index t 0 * 1 + 1 * i.val = i.val; rw [e]; show 0 * 1 + 1 * i.val = _; omega)
  | ⟨1, _⟩ => exact Fin.ext (by show win0_7.index t 1 * 1024 + 1 * k.val = k.val; rw [e]; show 0 * 1024 + 1 * k.val = _; omega)

theorem blk_q (c : Dev nD) (t : Fin cfg0.N) (i : Fin 1024) (k : Fin 1024) :
    iblk m c 8 t (ix2 i k) = m ((c : Thread nD τ).loc main_arg7) (ix2 i k) := by
  have e := at8 t
  refine Eq.trans (congrArg (V m c main_v7) (funext fun a => ?_)) (congrFun (host_q m c) (ix2 i k))
  match a with
  | ⟨0, _⟩ => exact Fin.ext (by show win0_8.index t 0 * 1024 + 1 * i.val = i.val; rw [e]; show 0 * 1024 + 1 * i.val = _; omega)
  | ⟨1, _⟩ => exact Fin.ext (by show win0_8.index t 1 * 1024 + 1 * k.val = k.val; rw [e]; show 0 * 1024 + 1 * k.val = _; omega)

theorem blk_stream (c : Dev nD) (t : Fin cfg0.N) (i : Fin 256) (d : Fin 1024) :
    (win0_9.blk t).view.read (Elt Ideal) (stream m c) (ix2 i d) = stream m c (ix2 ⟨t.val * 256 + i.val, by have := point_lt t; omega⟩ d) := by
  have e := at9 t
  refine congrArg (stream m c) (funext fun a => ?_)
  match a with
  | ⟨0, _⟩ => exact Fin.ext (by show win0_9.index t 0 * 256 + 1 * i.val = t.val * 256 + i.val; rw [e]; show t.val * 256 + 1 * i.val = _; omega)
  | ⟨1, _⟩ => exact Fin.ext (by show win0_9.index t 1 * 1024 + 1 * d.val = d.val; rw [e]; show 0 * 1024 + 1 * d.val = _; omega)

theorem blk_query (c : Dev nD) (t : Fin cfg0.N) (i : Fin 256) (d : Fin 1024) :
    (win0_10.blk t).view.read (Elt Ideal) (query m c) (ix2 i d) = query m c (ix2 ⟨t.val * 256 + i.val, by have := point_lt t; omega⟩ d) := by
  have e := at10 t
  refine congrArg (query m c) (funext fun a => ?_)
  match a with
  | ⟨0, _⟩ => exact Fin.ext (by show win0_10.index t 0 * 256 + 1 * i.val = t.val * 256 + i.val; rw [e]; show t.val * 256 + 1 * i.val = _; omega)
  | ⟨1, _⟩ => exact Fin.ext (by show win0_10.index t 1 * 1024 + 1 * d.val = d.val; rw [e]; show 0 * 1024 + 1 * d.val = _; omega)

theorem stream_row (c : Dev nD) (t : Fin cfg0.N) (r : Fin 256) (d : Fin 1024) :
    k0_pay2 (iblk m c 2 t) (iblk m c 0 t) (iblk m c 4 t) (iblk m c 1 t) (iblk m c 5 t) (iblk m c 3 t) (iblk m c 6 t) (ix2 r d)
      = stream m c (ix2 ⟨t.val * 256 + r.val, by have := point_lt t; omega⟩ d) := by
  refine (pay2_apply _ _ _ _ _ _ _ r d).trans ?_
  simp only [blk_a, blk_b, blk_s, blk_x, blk_u, blk_v, blk_o]
  rfl

theorem flushed_stream (c : Dev nD) (t : Fin cfg0.N) :
    (dats m 0 c).flushed 9 t = (win0_9.blk t).view.read (Elt Ideal) (stream m c) := by
  rw [Value.flushed9, out9_eq]
  refine funext fun (j : S256x1024.Idx) => ?_
  idx_vars j
  exact (stream_row m c t j0 j1).trans (blk_stream m c t j0 j1).symm

theorem flushed_query (c : Dev nD) (t : Fin cfg0.N) :
    (dats m 0 c).flushed 10 t = (win0_10.blk t).view.read (Elt Ideal) (query m c) := by
  rw [Value.flushed10, out10_eq]
  refine funext fun (j : S256x1024.Idx) => ?_
  idx_vars j
  refine Eq.trans ?_ (blk_query m c t j0 j1).symm
  refine (pay1_apply _ _ _ _ _ _ _ _ _ j0 j1).trans ?_
  simp only [stream_row, blk_g, blk_q]
  rfl

/-! ## The arrays -/

theorem mem_stream (t : Fin cfg0.N) (i : S32768x1024.Idx) (h : (i 0).val / 256 = t.val) : i ∈ ((cfg0.win 9).blk t).view.set := by
  have h1 : (i 1).val < 1024 := (i 1).isLt
  show i ∈ ((View.whole main_v9_0).slice (win0_9.rect t)).set
  rw [View.set_slice_whole, Rect.mem_set_unit]
  have e := at9 t
  intro a
  match a with
  | ⟨0, _⟩ =>
    show win0_9.index t 0 * 256 ≤ (i 0).val ∧ (i 0).val < win0_9.index t 0 * 256 + 256
    rw [e]
    show t.val * 256 ≤ (i 0).val ∧ (i 0).val < t.val * 256 + 256
    omega
  | ⟨1, _⟩ =>
    show win0_9.index t 1 * 1024 ≤ (i 1).val ∧ (i 1).val < win0_9.index t 1 * 1024 + 1024
    rw [e]
    show 0 * 1024 ≤ (i 1).val ∧ (i 1).val < 0 * 1024 + 1024
    omega

theorem covered_stream (i : S32768x1024.Idx) : ∃ t : Fin cfg0.N, (cfg0.win 9).flush t = true ∧ i ∈ ((cfg0.win 9).blk t).view.set :=
  ⟨⟨(i 0).val / 256, by have h0 : (i 0).val < 32768 := (i 0).isLt; have hN : cfg0.N = 128 := N_0; omega⟩, flush0_9 _, mem_stream _ i rfl⟩

theorem mem_query (t : Fin cfg0.N) (i : S32768x1024.Idx) (h : (i 0).val / 256 = t.val) : i ∈ ((cfg0.win 10).blk t).view.set := by
  have h1 : (i 1).val < 1024 := (i 1).isLt
  show i ∈ ((View.whole main_v9_1).slice (win0_10.rect t)).set
  rw [View.set_slice_whole, Rect.mem_set_unit]
  have e := at10 t
  intro a
  match a with
  | ⟨0, _⟩ =>
    show win0_10.index t 0 * 256 ≤ (i 0).val ∧ (i 0).val < win0_10.index t 0 * 256 + 256
    rw [e]
    show t.val * 256 ≤ (i 0).val ∧ (i 0).val < t.val * 256 + 256
    omega
  | ⟨1, _⟩ =>
    show win0_10.index t 1 * 1024 ≤ (i 1).val ∧ (i 1).val < win0_10.index t 1 * 1024 + 1024
    rw [e]
    show 0 * 1024 ≤ (i 1).val ∧ (i 1).val < 0 * 1024 + 1024
    omega

theorem covered_query (i : S32768x1024.Idx) : ∃ t : Fin cfg0.N, (cfg0.win 10).flush t = true ∧ i ∈ ((cfg0.win 10).blk t).view.set :=
  ⟨⟨(i 0).val / 256, by have h0 : (i 0).val < 32768 := (i 0).isLt; have hN : cfg0.N = 128 := N_0; omega⟩, flush0_10 _, mem_query _ i rfl⟩

theorem stream_eq (c : Dev nD) : (dats m 0 c).arrAt 9 cfg0.N = stream m c :=
  (dats m 0 c).arrAt_eq_of_cover 9 (stream m c) (fun t _ => flushed_stream m c t) covered_stream

theorem query_eq (c : Dev nD) : (dats m 0 c).arrAt 10 cfg0.N = query m c :=
  (dats m 0 c).arrAt_eq_of_cover 10 (query m c) (fun t _ => flushed_query m c t) covered_query

/-- The kernel's run, read. -/
theorem run (ρ : Dev nD → PrngReg) :
    θ_run defs (onTc (τ := τ) (main (F := Ideal))) ⟨m, fun _ => 0, ρ⟩ fun r => ∀ c : Dev nD,
      r.2.mem ((c : Thread nD τ).loc main_v9_0) = stream m c
      ∧ r.2.mem ((c : Thread nD τ).loc main_v9_1) = query m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (stream_eq m c), (h c).2.1.trans (query_eq m c), (h c).2.2⟩) (Value.run_blocks m ρ)

end Cert.MergeIdeal.Rows

end
-- ==== Proof.MergeRef.lean ====
/- The reference's merge read at a row and a column: the same stream and queries. -/
module

public import proofs.«01_k».proof.Proof.MergeRows
public import proofs.«01_k».proof.Proof.Gen.MergeReferenceIdeal.Run

@[expose] public section

set_option maxRecDepth 16384

noncomputable section

namespace Cert.MergeReferenceIdeal.Rows

open Cert.MergeReferenceIdeal Cert.MergeReferenceIdeal.Gen Cert.NormRow Idealize.ShloMosaic Idealize.ShloMosaic.TcCoe Idealize.SL.Sem
open Cert.MergeIdeal.Rows (streamOf queryOf streamRow mixed gate)
open scoped BigOperators

/-- The gates, a row of two blocks of 1024 for each token. -/
abbrev gates (s : FVec Ideal S32768x2048 .bf16) : FVec Ideal S32768x2x1024 .f32 :=
  shapeCast _ (Host.divf (broadcastInDim S32768x2048 ![] bcast_S_S32768x2048 (constant S_ .f32 0x3F800000#32))
    (addf (broadcastInDim S32768x2048 ![] bcast_S_S32768x2048 (constant S_ .f32 0x3F800000#32))
      (Host.exp (Host.negf (extf .f32 s bitsLt_bf16_f32))))) shapeCasts_S32768x2048_S32768x2x1024

/-- Both branches, gated and added. -/
abbrev mix (a b : FVec Ideal S32768x512 .bf16) (s : FVec Ideal S32768x2048 .bf16) (w : FVec Ideal S2x512x1024 .f32) : FVec Ideal S32768x1024 .f32 :=
  addf
    (mulf (shapeCast _ (extractStridedSlice S32768x1x1024 ![0, 0, 0] (gates s) slices_S32768x2x1024_S32768x1x1024_0_0_0) shapeCasts_S32768x1x1024_S32768x1024)
      (Host.dotGeneral dot_S32768x512_S512x1024_S32768x1024_1_0_0_1_n_n none (extf .f32 a bitsLt_bf16_f32)
        (shapeCast _ (extractStridedSlice S1x512x1024 ![0, 0, 0] w slices_S2x512x1024_S1x512x1024_0_0_0) shapeCasts_S1x512x1024_S512x1024)))
    (mulf (shapeCast _ (extractStridedSlice S32768x1x1024 ![0, 1, 0] (gates s) slices_S32768x2x1024_S32768x1x1024_0_1_0) shapeCasts_S32768x1x1024_S32768x1024)
      (Host.dotGeneral dot_S32768x512_S512x1024_S32768x1024_1_0_0_1_n_n none (extf .f32 b bitsLt_bf16_f32)
        (shapeCast _ (extractStridedSlice S1x512x1024 ![1, 0, 0] w slices_S2x512x1024_S1x512x1024_1_0_0) shapeCasts_S1x512x1024_S512x1024)))

/-- The stream: its old rows and the mixed rows projected. -/
abbrev stream (x y : FVec Ideal S32768x1024 .f32) (o : FVec Ideal S1024x1024 .f32) : FVec Ideal S32768x1024 .f32 :=
  addf x (Host.dotGeneral dot_S32768x1024_S1024x1024_S32768x1024_1_0_0_1_n_n none y o)

/-- The queries of the normed stream. -/
abbrev query (x : FVec Ideal S32768x1024 .f32) (g : FVec Ideal S1024 .f32) (q : FVec Ideal S1024x1024 .f32) : FVec Ideal S32768x1024 .bf16 :=
  truncf .bf16 (Host.dotGeneral dot_S32768x1024_S1024x1024_S32768x1024_1_0_0_1_n_n none (mulf (mulf x (broadcastInDim S32768x1024 ![0, 1] bcast_S32768x1_S32768x1024_0_1
    (Host.rsqrt (addf (Host.divf (broadcastInDim S32768x1 ![0] bcast_S32768_S32768x1_0 (Host.reduceAdd (mulf x x) (constant (F := Ideal) S_ .f32 0x00000000#32)
      reducesTo_S32768x1024_S32768_d1 h_S_)) (broadcastInDim S32768x1 ![] bcast_S_S32768x1 (constant (F := Ideal) S_ .f32 0x44800000#32)))
      (broadcastInDim S32768x1 ![] bcast_S_S32768x1 (constant (F := Ideal) S_ .f32 0x3727C5AC#32))))))
    (broadcastInDim S32768x1024 ![0, 1] bcast_S1x1024_S32768x1024_0_1 (broadcastInDim S1x1024 ![1] bcast_S1024_S1x1024_1 g))) q) bitsLt_bf16_f32

theorem gates_apply (s : FVec Ideal S32768x2048 .bf16) (i : Fin 32768) (e : Fin 2) (d : Fin 1024) :
    gates s (ix3 i e d) = gate (s (ix2 i ⟨e.val * 1024 + d.val, by omega⟩)) := by
  pointwise []
  rfl

theorem mix_apply (a b : FVec Ideal S32768x512 .bf16) (s : FVec Ideal S32768x2048 .bf16) (w : FVec Ideal S2x512x1024 .f32) (i : Fin 32768) (d : Fin 1024) :
    mix a b s w (ix2 i d) = mixed (fun k => a (ix2 i k)) (fun k => b (ix2 i k)) (fun k => s (ix2 i k)) (fun k l => w (ix3 0 k l)) (fun k l => w (ix3 1 k l)) d := by
  pointwise []
  rfl

theorem stream_eq (a b : FVec Ideal S32768x512 .bf16) (s : FVec Ideal S32768x2048 .bf16) (x : FVec Ideal S32768x1024 .f32) (w : FVec Ideal S2x512x1024 .f32)
    (o : FVec Ideal S1024x1024 .f32) : stream x (mix a b s w) o = fun i => streamOf a b s x w o (i 0) (i 1) := by
  funext i
  idx_vars i
  have h (y : FVec Ideal S32768x1024 .f32) : stream x y o (ix2 i0 i1) = x (ix2 i0 i1) + ∑ k : Fin 1024, y (ix2 i0 k) * o (ix2 k i1) := by
    pointwise []
  rw [h]
  simp only [mix_apply]
  rfl

theorem query_apply (x : FVec Ideal S32768x1024 .f32) (g : FVec Ideal S1024 .f32) (q : FVec Ideal S1024x1024 .f32) (i : Fin 32768) (d : Fin 1024) :
    query x g q (ix2 i d) = normedDot (fun k => x (ix2 i k)) (fun k => g (ix1 k)) (fun k => q (ix2 k d)) := by
  pointwise []
  rfl

theorem query_eq (a b : FVec Ideal S32768x512 .bf16) (s : FVec Ideal S32768x2048 .bf16) (x : FVec Ideal S32768x1024 .f32) (w : FVec Ideal S2x512x1024 .f32)
    (o : FVec Ideal S1024x1024 .f32) (g : FVec Ideal S1024 .f32) (q : FVec Ideal S1024x1024 .f32) :
    query (stream x (mix a b s w) o) g q = fun i => queryOf a b s x w o g q (i 0) (i 1) := by
  rw [stream_eq]
  funext i
  idx_vars i
  exact query_apply _ g q i0 i1

theorem res_eq (m : (ℓ : Loc nD τ sig) → Buf (Elt Ideal) ℓ) (c : Dev nD) :
    Value.res_main_v39 m c = query (stream (m ((c.tc : Thread nD τ).loc main_arg3)) (mix (m ((c.tc : Thread nD τ).loc main_arg0)) (m ((c.tc : Thread nD τ).loc main_arg1))
      (m ((c.tc : Thread nD τ).loc main_arg2)) (m ((c.tc : Thread nD τ).loc main_arg4))) (m ((c.tc : Thread nD τ).loc main_arg5)))
      (m ((c.tc : Thread nD τ).loc main_arg6)) (m ((c.tc : Thread nD τ).loc main_arg7)) := rfl

/-- The reference's run, read. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = (fun (i : S32768x1024.Idx) => streamOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (i 0) (i 1))
      ∧ r.2.mem ((c.tc : Thread nD τ).loc main_v39) = (fun (i : S32768x1024.Idx) => queryOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (stream_eq _ _ _ _ _ _), (h c).2.1.trans ((res_eq m c).trans (query_eq _ _ _ _ _ _ _ _)), (h c).2.2⟩)
    (Value.run (F := Ideal) m ρ)

end Cert.MergeReferenceIdeal.Rows

end
-- ==== Proof.XattnRow.lean ====
/- One query's attention over the memory, of one head: the scores, their exponentials over the largest score, and the mean of the
   values by them. Divided by the exponentials' sum, or multiplied by the sum's inverse: the same where the scores are finite. -/
module

public import Idealize.ShloMosaic.Lib.Pointwise

@[expose] public section

noncomputable section

namespace Cert.XattnRow

open Idealize.ShloMosaic
open scoped BigOperators

/-- The score of a memory row `j` by the 256 columns from column `o` on. -/
def score (q : Fin 1024 → EReal) (K : Fin 256 → Fin 1024 → EReal) (o : ℕ) (ho : o ≤ 768) (j : Fin 256) : EReal :=
  (∑ a : Fin 256, q ⟨o + a.val, by omega⟩ * K j ⟨o + a.val, by omega⟩) * Ideal.ofBits .f32 0x3D800000#32

/-- The largest score. -/
def top (s : Fin 256 → EReal) : EReal := Finset.univ.fold max (Ideal.ofBits .f32 0xFF800000#32) s

/-- A score's exponential, over the largest. -/
def weight (s : Fin 256 → EReal) (j : Fin 256) : EReal := Ideal.exp (s j - top s)

/-- The mean of `v` by the softmax of the scores. -/
def attend (s v : Fin 256 → EReal) : EReal := ∑ j, Ideal.div (weight s j) (∑ l, weight s l) * v j

/-- The same with the sum's inverse as a factor. -/
def attendInv (s v : Fin 256 → EReal) : EReal := ∑ j, weight s j * Ideal.div 1 (∑ l, weight s l) * v j

/-- Column `d` of a row's four heads side by side. -/
def heads (f : (Fin 256 → EReal) → (Fin 256 → EReal) → EReal) (q : Fin 1024 → EReal) (K V : Fin 256 → Fin 1024 → EReal) (d : Fin 1024) : EReal :=
  f (score q K (d.val / 256 * 256) (by omega)) (fun j => V j d)

/-- The row of the stream after the attention's projection. -/
def streamRow (f : (Fin 256 → EReal) → (Fin 256 → EReal) → EReal) (q x : Fin 1024 → EReal) (K V : Fin 256 → Fin 1024 → EReal)
    (w : Fin 1024 → Fin 1024 → EReal) (d : Fin 1024) : EReal := x d + ∑ k, heads f q K V k * w k d

/-! ## Finite scores -/

theorem neg_inf : Ideal.ofBits .f32 0xFF800000#32 = ⊥ := by simp [Ideal.ofBits, Ideal.ieee]

/-- Some score is the largest. -/
theorem top_mem (s : Fin 256 → EReal) : ∃ j, top s = s j := by
  have h : top s = Finset.univ.sup s := by
    unfold top
    rw [neg_inf]
    rfl
  rw [h]
  obtain ⟨j, -, hj⟩ := Finset.exists_mem_eq_sup (Finset.univ : Finset (Fin 256)) ⟨0, Finset.mem_univ _⟩ s
  exact ⟨j, hj⟩

theorem exp_nonneg (x : EReal) : 0 ≤ Ideal.exp x := by
  induction x using EReal.rec with
  | bot => exact le_refl _
  | top => exact le_top
  | coe r => exact EReal.coe_nonneg.mpr (Real.exp_pos r).le

/-- Of finite scores the exponentials' sum is positive: the largest score's is one. -/
theorem sum_weight_pos (s : Fin 256 → EReal) (h : ∀ j, ∃ r : ℝ, s j = r) : 0 < ∑ l, weight s l := by
  obtain ⟨j, hj⟩ := top_mem s
  obtain ⟨r, hr⟩ := h j
  have h1 : weight s j = 1 := by
    unfold weight
    rw [hj, hr, ← EReal.coe_sub, sub_self]
    show ((Real.exp 0 : ℝ) : EReal) = 1
    rw [Real.exp_zero]; rfl
  refine lt_of_lt_of_le (b := weight s j) (by rw [h1]; exact zero_lt_one) ?_
  exact Finset.single_le_sum (f := weight s) (fun i _ => exp_nonneg _) (Finset.mem_univ j)

/-- Of finite scores both means are one. -/
theorem attendInv_eq (s v : Fin 256 → EReal) (h : ∀ j, ∃ r : ℝ, s j = r) : attendInv s v = attend s v := by
  have hp := sum_weight_pos s h
  unfold attendInv attend
  refine Finset.sum_congr rfl fun j _ => ?_
  unfold Ideal.div
  rw [if_neg hp.ne', if_neg hp.ne', one_mul]

/-- A score of finite queries and keys is finite. -/
theorem score_real (q : Fin 1024 → EReal) (K : Fin 256 → Fin 1024 → EReal) (o : ℕ) (ho : o ≤ 768) (hq : ∀ k, ∃ r : ℝ, q k = r)
    (hK : ∀ j k, ∃ r : ℝ, K j k = r) (j : Fin 256) : ∃ r : ℝ, score q K o ho j = r := by
  choose a ha using hq
  choose b hb using hK
  have hc : ∃ r : ℝ, Ideal.ofBits .f32 0x3D800000#32 = r := ⟨_, by simp [Ideal.ofBits, Ideal.ieee]; rfl⟩
  obtain ⟨c, hc⟩ := hc
  refine ⟨(∑ x : Fin 256, a ⟨o + x.val, by omega⟩ * b j ⟨o + x.val, by omega⟩) * c, ?_⟩
  unfold score
  rw [hc]
  simp only [ha, hb]
  push_cast
  rfl

/-- So the streams are one where the queries and the keys are finite. -/
theorem streamRow_eq (q x : Fin 1024 → EReal) (K V : Fin 256 → Fin 1024 → EReal) (w : Fin 1024 → Fin 1024 → EReal)
    (hq : ∀ k, ∃ r : ℝ, q k = r) (hK : ∀ j k, ∃ r : ℝ, K j k = r) : streamRow attendInv q x K V w = streamRow attend q x K V w := by
  funext d
  unfold streamRow heads
  congr 1
  exact Finset.sum_congr rfl fun k _ => by rw [attendInv_eq _ _ (score_real q K _ _ hq hK)]

end Cert.XattnRow

end
-- ==== Proof.XattnBody.lean ====
/- What one grid point of the cross-attention computes: the stream's rows after the four heads and the projection, and those
   rows normed. -/
module

public import proofs.«01_k».proof.Proof.XattnRow
public import proofs.«01_k».proof.Proof.NormRow
public import proofs.«01_k».proof.Proof.Gen.XattnIdeal.Value
public import Idealize.ShloMosaic.Lib.Pointwise

@[expose] public section

set_option maxRecDepth 16384

noncomputable section

namespace Cert.XattnIdeal.Body

open Cert.XattnIdeal Cert.XattnIdeal.Gen Cert.NormRow Cert.XattnRow Idealize.ShloMosaic Idealize.ShloMosaic.TcCoe
open scoped BigOperators

/-- 256 columns of a memory block, from column `o` on. -/
def cols (x : Vec Ideal S1x256x1024 .f32) (o : ℕ) (ho : o ≤ 768) : Vec Ideal S1x256x256 .f32 :=
  fun i => x (ix3 0 (i 1) ⟨o + (i 2).val, by have : (i 2).val < 256 := (i 2).isLt; omega⟩)

/-- A head's scores of one query row. -/
abbrev scores (q : Vec Ideal S1x256x1024 .bf16) (x : Vec Ideal S1x256x1024 .f32) (o : ℕ) (ho : o ≤ 768) (r : Fin 256) : Fin 256 → EReal :=
  score (fun k => q (ix3 0 r k)) (fun j k => x (ix3 0 j k)) o ho

theorem pay7_apply (q : Vec Ideal S1x256x1024 .bf16) (x : Vec Ideal S1x256x1024 .f32) (r j : Fin 256) :
    k0_pay7 q (cols x 0 (by omega)) (ix2 r j) = scores q x 0 (by omega) r j - top (scores q x 0 (by omega) r) := by
  pointwise [k0_pay7, k0_pay3]
  unfold scores score top cols
  simp only [Nat.zero_add]
  rfl

theorem pay4_apply (q : Vec Ideal S1x256x1024 .bf16) (x : Vec Ideal S1x256x1024 .f32) (r j : Fin 256) :
    k0_pay4 q (cols x 256 (by omega)) (ix2 r j) = scores q x 256 (by omega) r j := by
  pointwise [k0_pay4, k0_pay3]
  rfl

theorem pay5_apply (q : Vec Ideal S1x256x1024 .bf16) (x : Vec Ideal S1x256x1024 .f32) (r j : Fin 256) :
    k0_pay5 q (cols x 512 (by omega)) (ix2 r j) = scores q x 512 (by omega) r j := by
  pointwise [k0_pay5, k0_pay3]
  rfl

theorem pay6_apply (q : Vec Ideal S1x256x1024 .bf16) (x : Vec Ideal S1x256x1024 .f32) (r j : Fin 256) :
    k0_pay6 q (cols x 768 (by omega)) (ix2 r j) = scores q x 768 (by omega) r j := by
  pointwise [k0_pay6, k0_pay3]
  rfl

theorem pay8_apply (e : FVec Ideal S256x256 .f32) (v : Vec Ideal S1x256x256 .f32) (r d : Fin 256) :
    k0_pay8 e v (ix2 r d)
      = ∑ j : Fin 256, Ideal.exp (e (ix2 r j)) * Ideal.div 1 (∑ l : Fin 256, Ideal.exp (e (ix2 r l))) * v (ix3 0 j d) := by
  pointwise [k0_pay8]

theorem pay9_apply (s : FVec Ideal S256x256 .f32) (v : Vec Ideal S1x256x256 .f32) (r d : Fin 256) :
    k0_pay9 s v (ix2 r d) = attendInv (fun j => s (ix2 r j)) (fun j => v (ix3 0 j d)) := by
  pointwise [k0_pay9]
  rfl

theorem pay10_apply (s : FVec Ideal S256x256 .f32) (r j : Fin 256) :
    k0_pay10 s (ix2 r j) = weight (fun l => s (ix2 r l)) j * Ideal.div 1 (∑ l, weight (fun l => s (ix2 r l)) l) := by
  pointwise [k0_pay10]
  rfl

theorem pay11_apply (v : Vec Ideal S1x256x256 .f32) (j d : Fin 256) : k0_pay11 v (ix2 j d) = v (ix3 0 j d) := by
  pointwise [k0_pay11]

/-- The four heads side by side, as the body puts them. -/
def joined (s3 h0 h1 p2 v2 : FVec Ideal S256x256 .f32) (v3 : Vec Ideal S1x256x256 .f32) (r : Fin 256) (d : Fin 1024) : EReal :=
  if h : d.val < 256 then h0 (ix2 r ⟨d.val, h⟩)
  else if h : d.val - 256 < 256 then h1 (ix2 r ⟨d.val - 256, h⟩)
  else if h : d.val - 256 - 256 < 256 then ∑ j : Fin 256, p2 (ix2 r j) * v2 (ix2 j ⟨d.val - 256 - 256, h⟩)
  else attendInv (fun j => s3 (ix2 r j)) (fun j => v3 (ix3 0 j ⟨d.val - 256 - 256 - 256, by omega⟩))

theorem pay12_apply (s3 h0 h1 p2 v2 : FVec Ideal S256x256 .f32) (v3 : Vec Ideal S1x256x256 .f32) (x : Vec Ideal S1x256x1024 .f32)
    (w : Vec Ideal S1024x1024 .bf16) (r : Fin 256) (d : Fin 1024) :
    k0_pay12 s3 h0 h1 p2 v2 v3 x w (ix2 r d) = x (ix3 0 r d) + ∑ k : Fin 1024, joined s3 h0 h1 p2 v2 v3 r k * w (ix2 k d) := by
  pointwise [k0_pay12]
  rfl

theorem pay17_apply (x : FVec Ideal S256x1024 .f32) (g : FVec Ideal S1x1024 .f32) (t : FVec Ideal S256x1 .f32) (c : Ideal .f32) (r : Fin 256) (e : Fin 8) (f : Fin 128) :
    k0_pay17 x g t c (ix4 0 r e f) = x (ix2 r ⟨e.val * 128 + f.val, by omega⟩) * Ideal.rsqrt (t (ix2 r 0) + c) * g (ix2 0 ⟨e.val * 128 + f.val, by omega⟩) := by
  pointwise [k0_pay17, k0_pay16]

theorem pay15_apply (s3 h0 h1 p2 v2 : FVec Ideal S256x256 .f32) (v3 : Vec Ideal S1x256x256 .f32) (x : Vec Ideal S1x256x1024 .f32)
    (w : Vec Ideal S1024x1024 .bf16) (r : Fin 256) :
    k0_pay15 s3 h0 h1 p2 v2 v3 x w (ix2 r 0) = Ideal.div (∑ k : Fin 1024, k0_pay12 s3 h0 h1 p2 v2 v3 x w (ix2 r k) * k0_pay12 s3 h0 h1 p2 v2 v3 x w (ix2 r k))
      (Ideal.ofBits .f32 0x44800000#32) := by
  pointwise [k0_pay15]

theorem pay14_apply (g : Vec Ideal S1x1024 .f32) (k : Fin 1024) : k0_pay14 g (ix2 0 k) = g (ix2 0 k) := by
  pointwise [k0_pay14]

/-- The rows of the stream a grid point leaves. -/
abbrev rows (q : Vec Ideal S1x256x1024 .bf16) (x y v : Vec Ideal S1x256x1024 .f32) (w : Vec Ideal S1024x1024 .bf16) : FVec Ideal S256x1024 .f32 :=
  k0_pay12 (k0_pay6 q (cols y 768 (by omega))) (k0_pay8 (k0_pay7 q (cols y 0 (by omega))) (cols v 0 (by omega)))
    (k0_pay9 (k0_pay4 q (cols y 256 (by omega))) (cols v 256 (by omega))) (k0_pay10 (k0_pay5 q (cols y 512 (by omega))))
    (k0_pay11 (cols v 512 (by omega))) (cols v 768 (by omega)) x w

theorem score_at (q : Fin 1024 → EReal) (K : Fin 256 → Fin 1024 → EReal) {o p : ℕ} (ho : o ≤ 768) (hp : p ≤ 768) (h : o = p) :
    score q K o ho = score q K p hp := by subst h; rfl

theorem joined_eq (q : Vec Ideal S1x256x1024 .bf16) (y v : Vec Ideal S1x256x1024 .f32) (r : Fin 256) (d : Fin 1024) :
    joined (k0_pay6 q (cols y 768 (by omega))) (k0_pay8 (k0_pay7 q (cols y 0 (by omega))) (cols v 0 (by omega)))
      (k0_pay9 (k0_pay4 q (cols y 256 (by omega))) (cols v 256 (by omega))) (k0_pay10 (k0_pay5 q (cols y 512 (by omega))))
      (k0_pay11 (cols v 512 (by omega))) (cols v 768 (by omega)) r d
      = heads attendInv (fun k => q (ix3 0 r k)) (fun j k => y (ix3 0 j k)) (fun j k => v (ix3 0 j k)) d := by
  have hcol (o : ℕ) (ho : o ≤ 768) (n : Fin 256) (h : o + n.val = d.val) (j : Fin 256) : cols v o ho (ix3 0 j n) = v (ix3 0 j d) :=
    congrArg (fun k => v (ix3 0 j k)) (Fin.ext h)
  unfold joined heads
  split_ifs with h0 h1 h2
  · rw [pay8_apply, score_at _ _ (p := 0) _ (by omega) (by omega)]
    simp only [pay7_apply, hcol 0 (by omega) ⟨d.val, h0⟩ (by simp)]
    rfl
  · rw [pay9_apply, score_at _ _ (p := 256) _ (by omega) (by omega)]
    simp only [pay4_apply, hcol 256 (by omega) ⟨d.val - 256, h1⟩ (by simp; omega)]
  · rw [score_at _ _ (p := 512) _ (by omega) (by omega)]
    simp only [pay10_apply, pay11_apply, pay5_apply, hcol 512 (by omega) ⟨d.val - 256 - 256, h2⟩ (by simp; omega)]
    rfl
  · rw [score_at _ _ (p := 768) _ (by omega) (by omega)]
    simp only [pay6_apply, hcol 768 (by omega) ⟨d.val - 256 - 256 - 256, by omega⟩ (by simp; omega)]

theorem rows_apply (q : Vec Ideal S1x256x1024 .bf16) (x y v : Vec Ideal S1x256x1024 .f32) (w : Vec Ideal S1024x1024 .bf16) (r : Fin 256) (d : Fin 1024) :
    rows q x y v w (ix2 r d) = streamRow attendInv (fun k => q (ix3 0 r k)) (fun k => x (ix3 0 r k)) (fun j k => y (ix3 0 j k))
      (fun j k => v (ix3 0 j k)) (fun k l => w (ix2 k l)) d := by
  refine (pay12_apply _ _ _ _ _ _ _ _ r d).trans ?_
  simp only [joined_eq]
  rfl

end Cert.XattnIdeal.Body

end
-- ==== Proof.XattnRead.lean ====
/- What a grid point of the cross-attention writes back: its body's rows, read from the blocks it loads. -/
module

public import proofs.«01_k».proof.Proof.XattnBody
public import proofs.«01_k».proof.Proof.ReadBack
public import Idealize.ShloMosaic.Lib.Pipeline.ValueKit.Basic

@[expose] public section

set_option maxRecDepth 16384

noncomputable section

namespace Cert.XattnIdeal.Read

open Cert.XattnIdeal Cert.XattnIdeal.Gen Cert.XattnIdeal.Body Idealize.ShloMosaic Idealize.ShloMosaic.TcCoe Idealize.SL.Sem
open Cert.KernelIdeal.Stick (read_last load_whole zero2 zero3)
open Idealize.ShloMosaic.Pipeline (Dat)

theorem zero4 : (![0, 0, 0, 0] : Fin 4 → ℕ) = fun _ => 0 := by funext a; fin_cases a <;> rfl

/-- A load of 256 columns of a memory block. -/
theorem load_cols (M : Memref sig .tc .vmem S1x256x1024 .f32) (hM : M.IsWhole) (x : Vec Ideal S1x256x1024 .f32) (o : ℕ) (ho : o ≤ 768)
    (inb : ∀ a, (![0, 0, o] : Fin 3 → ℕ) a + S1x256x256.size a ≤ S1x256x1024.size a) :
    View.readAt (Elt Ideal) M.view (Rect.unit (s := S1x256x1024) ![0, 0, o] S1x256x256.size inb).toLoadRect (hM.unread x) = cols x o ho := by
  funext j
  show M.view.read (Elt Ideal) (hM.unread x) ((Rect.unit (s := S1x256x1024) ![0, 0, o] S1x256x256.size inb).emb j) = _
  rw [hM.read_unread]
  refine congrArg x (funext fun a => Fin.ext ?_)
  have h0 : (j 0).val < 1 := (j 0).isLt
  fin_cases a
  · show 0 + 1 * (j 0).val = 0; omega
  · show 0 + 1 * (j 1).val = (j 1).val; omega
  · show o + 1 * (j 2).val = o + (j 2).val; omega

theorem load_q (M : Memref sig .tc .vmem S1x256x1024 .bf16) (hM : M.IsWhole) (x : Vec Ideal S1x256x1024 .bf16)
    (inb : ∀ a, (![0, 0, 0] : Fin 3 → ℕ) a + S1x256x1024.size a ≤ S1x256x1024.size a) :
    View.readAt (Elt Ideal) M.view (Rect.unit (s := S1x256x1024) ![0, 0, 0] S1x256x1024.size inb).toLoadRect (hM.unread x) = x := by
  rw [load_whole M.view _ zero3, hM.read_unread]

theorem load_x (M : Memref sig .tc .vmem S1x256x1024 .f32) (hM : M.IsWhole) (x : Vec Ideal S1x256x1024 .f32)
    (inb : ∀ a, (![0, 0, 0] : Fin 3 → ℕ) a + S1x256x1024.size a ≤ S1x256x1024.size a) :
    View.readAt (Elt Ideal) M.view (Rect.unit (s := S1x256x1024) ![0, 0, 0] S1x256x1024.size inb).toLoadRect (hM.unread x) = x := by
  rw [load_whole M.view _ zero3, hM.read_unread]

theorem load_w (M : Memref sig .tc .vmem S1024x1024 .bf16) (hM : M.IsWhole) (x : Vec Ideal S1024x1024 .bf16)
    (inb : ∀ a, (![0, 0] : Fin 2 → ℕ) a + S1024x1024.size a ≤ S1024x1024.size a) :
    View.readAt (Elt Ideal) M.view (Rect.unit (s := S1024x1024) ![0, 0] S1024x1024.size inb).toLoadRect (hM.unread x) = x := by
  rw [load_whole M.view _ zero2, hM.read_unread]

theorem load_g (M : Memref sig .tc .vmem S1x1024 .f32) (hM : M.IsWhole) (x : Vec Ideal S1x1024 .f32)
    (inb : ∀ a, (![0, 0] : Fin 2 → ℕ) a + S1x1024.size a ≤ S1x1024.size a) :
    View.readAt (Elt Ideal) M.view (Rect.unit (s := S1x1024) ![0, 0] S1x1024.size inb).toLoadRect (hM.unread x) = x := by
  rw [load_whole M.view _ zero2, hM.read_unread]

variable (m : (ℓ : Loc nD τ sig) → Buf (Elt Ideal) ℓ)

/-- The rows a grid point writes of the stream. -/
def outStream (q : Vec Ideal S1x256x1024 .bf16) (x y v : Vec Ideal S1x256x1024 .f32) (w : Vec Ideal S1024x1024 .bf16) : Vec Ideal S1x256x1024 .f32 :=
  k0_pay13 (k0_pay6 q (cols y 768 (by omega))) (k0_pay8 (k0_pay7 q (cols y 0 (by omega))) (cols v 0 (by omega)))
    (k0_pay9 (k0_pay4 q (cols y 256 (by omega))) (cols v 256 (by omega))) (k0_pay10 (k0_pay5 q (cols y 512 (by omega))))
    (k0_pay11 (cols v 512 (by omega))) (cols v 768 (by omega)) x w

/-- The rows it writes of the normed stream. -/
def outNormed (q : Vec Ideal S1x256x1024 .bf16) (x y v : Vec Ideal S1x256x1024 .f32) (w : Vec Ideal S1024x1024 .bf16) (g : Vec Ideal S1x1024 .f32) : Vec Ideal S1x256x8x128 .f32 :=
  k0_pay17 (rows q x y v w) (k0_pay14 g)
    (k0_pay15 (k0_pay6 q (cols y 768 (by omega))) (k0_pay8 (k0_pay7 q (cols y 0 (by omega))) (cols v 0 (by omega)))
      (k0_pay9 (k0_pay4 q (cols y 256 (by omega))) (cols v 256 (by omega))) (k0_pay10 (k0_pay5 q (cols y 512 (by omega))))
      (k0_pay11 (cols v 512 (by omega))) (cols v 768 (by omega)) x w) (Scalar.ofBits .f32 0x3727C5AC#32)

theorem stream_A (c : Dev nD) (t : Fin cfg0.N) (h0 : t.val % 128 = 0) :
    (dats m 0 c).flushed 8 t = (cfg0.win 8).cut (grid0.coords t)
      (outStream (iblk m c 0 t) (iblk m c 1 t) (iblk m c 2 t) (iblk m c 3 t) (iblk m c 4 t)) := by
  rw [Value.flushed8_A m c t h0]
  unfold out0_A_8 kernelRun0_A
  rw [read_last VO0_8 _ zero3]
  simp -proj only [kernelRun0_A.sl.r_2, kernelRun0_A.sl.r_3, kernelRun0_A.sl.r_4, kernelRun0_A.sl.r_5, kernelRun0_A.sl.r_6, kernelRun0_A.sl.r_7, kernelRun0_A.sl.r, kernelRun0_A.sl.r_1]
  simp -proj only [load_cols _ _ _ 0 (by omega), load_cols _ _ _ 256 (by omega), load_cols _ _ _ 512 (by omega), load_cols _ _ _ 768 (by omega),
    load_q, load_x, load_w, load_g]
  rfl

theorem stream_B (c : Dev nD) (t : Fin cfg0.N) (h0 : ¬t.val % 128 = 0) :
    (dats m 0 c).flushed 8 t = (cfg0.win 8).cut (grid0.coords t)
      (outStream (iblk m c 0 t) (iblk m c 1 t) (iblk m c 2 t) (iblk m c 3 t) (iblk m c 4 t)) := by
  rw [Value.flushed8_B m c t h0]
  unfold out0_B_8 kernelRun0_B
  rw [read_last VO0_8 _ zero3]
  simp -proj only [kernelRun0_B.sl.r_2, kernelRun0_B.sl.r_3, kernelRun0_B.sl.r_4, kernelRun0_B.sl.r_5, kernelRun0_B.sl.r_6, kernelRun0_B.sl.r_7, kernelRun0_B.sl.r, kernelRun0_B.sl.r_1]
  simp -proj only [load_cols _ _ _ 0 (by omega), load_cols _ _ _ 256 (by omega), load_cols _ _ _ 512 (by omega), load_cols _ _ _ 768 (by omega),
    load_q, load_x, load_w, load_g]
  rfl

theorem normed_A (c : Dev nD) (t : Fin cfg0.N) (h0 : t.val % 128 = 0) :
    (dats m 0 c).flushed 9 t = (cfg0.win 9).cut (grid0.coords t)
      (outNormed (iblk m c 0 t) (iblk m c 1 t) (iblk m c 2 t) (iblk m c 3 t) (iblk m c 4 t) (iblk m c 5 t)) := by
  rw [Value.flushed9_A m c t h0]
  unfold out0_A_9 kernelRun0_A
  rw [read_last VO0_9 _ zero4]
  simp -proj only [kernelRun0_A.sl.r_8, kernelRun0_A.sl.r_9, kernelRun0_A.sl.r_10, kernelRun0_A.sl.cst_59, kernelRun0_A.sl.r_2, kernelRun0_A.sl.r_3, kernelRun0_A.sl.r_4, kernelRun0_A.sl.r_5, kernelRun0_A.sl.r_6, kernelRun0_A.sl.r_7, kernelRun0_A.sl.r, kernelRun0_A.sl.r_1]
  simp -proj only [load_cols _ _ _ 0 (by omega), load_cols _ _ _ 256 (by omega), load_cols _ _ _ 512 (by omega), load_cols _ _ _ 768 (by omega),
    load_q, load_x, load_w, load_g]
  rfl

theorem normed_B (c : Dev nD) (t : Fin cfg0.N) (h0 : ¬t.val % 128 = 0) :
    (dats m 0 c).flushed 9 t = (cfg0.win 9).cut (grid0.coords t)
      (outNormed (iblk m c 0 t) (iblk m c 1 t) (iblk m c 2 t) (iblk m c 3 t) (iblk m c 4 t) (iblk m c 5 t)) := by
  rw [Value.flushed9_B m c t h0]
  unfold out0_B_9 kernelRun0_B
  rw [read_last VO0_9 _ zero4]
  simp -proj only [kernelRun0_B.sl.r_8, kernelRun0_B.sl.r_9, kernelRun0_B.sl.r_10, kernelRun0_B.sl.cst_59, kernelRun0_B.sl.r_2, kernelRun0_B.sl.r_3, kernelRun0_B.sl.r_4, kernelRun0_B.sl.r_5, kernelRun0_B.sl.r_6, kernelRun0_B.sl.r_7, kernelRun0_B.sl.r, kernelRun0_B.sl.r_1]
  simp -proj only [load_cols _ _ _ 0 (by omega), load_cols _ _ _ 256 (by omega), load_cols _ _ _ 512 (by omega), load_cols _ _ _ 768 (by omega),
    load_q, load_x, load_w, load_g]
  rfl

theorem flushed_stream (c : Dev nD) (t : Fin cfg0.N) :
    (dats m 0 c).flushed 8 t = (cfg0.win 8).cut (grid0.coords t)
      (outStream (iblk m c 0 t) (iblk m c 1 t) (iblk m c 2 t) (iblk m c 3 t) (iblk m c 4 t)) := by
  by_cases h0 : t.val % 128 = 0
  · exact stream_A m c t h0
  · exact stream_B m c t h0

theorem flushed_normed (c : Dev nD) (t : Fin cfg0.N) :
    (dats m 0 c).flushed 9 t = (cfg0.win 9).cut (grid0.coords t)
      (outNormed (iblk m c 0 t) (iblk m c 1 t) (iblk m c 2 t) (iblk m c 3 t) (iblk m c 4 t) (iblk m c 5 t)) := by
  by_cases h0 : t.val % 128 = 0
  · exact normed_A m c t h0
  · exact normed_B m c t h0

end Cert.XattnIdeal.Read

end
-- ==== Proof.XattnRows.lean ====
/- The cross-attention's arrays: the blocks its grid points write fill the stream and the normed stream. -/
module

public import proofs.«01_k».proof.Proof.XattnRead

@[expose] public section

set_option maxRecDepth 16384

noncomputable section

namespace Cert.XattnIdeal.Rows

open Cert.XattnIdeal Cert.XattnIdeal.Gen Cert.NormRow Cert.XattnRow Cert.XattnIdeal.Body Cert.XattnIdeal.Read Idealize.ShloMosaic
open Idealize.ShloMosaic.TcCoe Idealize.SL.Sem
open Idealize.ShloMosaic.Pipeline (Dat)
open scoped BigOperators

variable (m : (ℓ : Loc nD τ sig) → Buf (Elt Ideal) ℓ)

/-- The stream after the cross-attention, by one of the two means. -/
def streamOf (f : (Fin 256 → EReal) → (Fin 256 → EReal) → EReal) (q : FVec Ideal S16x2048x1024 .bf16) (x : FVec Ideal S16x2048x1024 .f32)
    (y v : FVec Ideal S16x256x1024 .f32) (w : FVec Ideal S1024x1024 .f32) (b : Fin 16) (i : Fin 2048) (d : Fin 1024) : EReal :=
  streamRow f (fun k => q (ix3 b i k)) (fun k => x (ix3 b i k)) (fun j k => y (ix3 b j k)) (fun j k => v (ix3 b j k)) (fun k l => w (ix2 k l)) d

/-- The same stream normed. -/
def normedOf (f : (Fin 256 → EReal) → (Fin 256 → EReal) → EReal) (q : FVec Ideal S16x2048x1024 .bf16) (x : FVec Ideal S16x2048x1024 .f32)
    (y v : FVec Ideal S16x256x1024 .f32) (w : FVec Ideal S1024x1024 .f32) (g : FVec Ideal S1024 .f32) (b : Fin 16) (i : Fin 2048)
    (e : Fin 8) (h : Fin 128) : EReal :=
  normed (fun k => streamOf f q x y v w b i k) (fun k => g (ix1 k)) ⟨e.val * 128 + h.val, by omega⟩

abbrev stream (c : Dev nD) : Buf (Elt Ideal) ((c : Thread nD τ).loc main_v10_0) :=
  fun (i : S16x2048x1024.Idx) => streamOf attendInv (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1) (i 2)

abbrev hidden (c : Dev nD) : Buf (Elt Ideal) ((c : Thread nD τ).loc main_v10_1) :=
  fun (i : S16x2048x8x128.Idx) => normedOf attendInv (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0) (i 1) (i 2) (i 3)

/-! ## What a grid point writes, at an index -/

theorem outStream_apply (q : Vec Ideal S1x256x1024 .bf16) (x y v : Vec Ideal S1x256x1024 .f32) (w : Vec Ideal S1024x1024 .bf16) (r : Fin 256) (d : Fin 1024) :
    outStream q x y v w (ix3 0 r d) = streamRow attendInv (fun k => q (ix3 0 r k)) (fun k => x (ix3 0 r k)) (fun j k => y (ix3 0 j k))
      (fun j k => v (ix3 0 j k)) (fun k l => w (ix2 k l)) d := by
  refine Eq.trans ?_ (rows_apply q x y v w r d)
  pointwise [outStream, k0_pay13]

theorem outNormed_apply (q : Vec Ideal S1x256x1024 .bf16) (x y v : Vec Ideal S1x256x1024 .f32) (w : Vec Ideal S1024x1024 .bf16) (g : Vec Ideal S1x1024 .f32)
    (r : Fin 256) (e : Fin 8) (h : Fin 128) :
    outNormed q x y v w g (ix4 0 r e h) = normed (streamRow attendInv (fun k => q (ix3 0 r k)) (fun k => x (ix3 0 r k)) (fun j k => y (ix3 0 j k))
      (fun j k => v (ix3 0 j k)) (fun k l => w (ix2 k l))) (fun k => g (ix2 0 k)) ⟨e.val * 128 + h.val, by omega⟩ := by
  refine (pay17_apply _ _ _ _ r e h).trans ?_
  rw [pay15_apply, pay14_apply]
  simp only [rows_apply]
  rfl

/-! ## What the host code before the call leaves -/

abbrev gain (c : Dev nD) : FVec Ideal S1x1024 .f32 := fun i => m ((c : Thread nD τ).loc main_arg5) (ix1 (i 1))

theorem host_w (c : Dev nD) : V m c main_v0 = m ((c : Thread nD τ).loc main_arg4) := by
  unfold V
  after_results <;> rfl

theorem host_g (c : Dev nD) : V m c main_v9 = gain m c := by
  have h : V m c main_v9 = shapeCast _ (m ((c : Thread nD τ).loc main_arg5)) shapeCasts_S1024_S1x1024 := by
    unfold V
    after_results <;> rfl
  rw [h]
  refine funext fun (j : S1x1024.Idx) => ?_
  idx_vars j
  have hu : j0 = 0 := Subsingleton.elim _ _
  subst hu
  pointwise []
  rfl

/-! ## The blocks: point `t` reads and writes 256 rows of one sequence; the memory's rows are that sequence's -/

theorem point_lt (t : Fin cfg0.N) : t.val < 128 := lt_of_lt_of_eq t.isLt N_0

/-- The sequence of a grid point. -/
abbrev seqOf (t : Fin cfg0.N) : Fin 16 := ⟨t.val / 8, by have := point_lt t; omega⟩
/-- A row of a grid point's block. -/
abbrev rowOf (t : Fin cfg0.N) (r : Fin 256) : Fin 2048 := ⟨t.val % 8 * 256 + r.val, by omega⟩

theorem at0 : ∀ t : Fin grid0.N, win0_0.index t = ![t.val / 8, t.val % 8, 0] := by decide +kernel
theorem at1 : ∀ t : Fin grid0.N, win0_1.index t = ![t.val / 8, t.val % 8, 0] := by decide +kernel
theorem at8 : ∀ t : Fin grid0.N, win0_8.index t = ![t.val / 8, t.val % 8, 0] := by decide +kernel
theorem at2 : ∀ t : Fin grid0.N, win0_2.index t = ![t.val / 8, 0, 0] := by decide +kernel
theorem at3 : ∀ t : Fin grid0.N, win0_3.index t = ![t.val / 8, 0, 0] := by decide +kernel
theorem at4 : ∀ t : Fin grid0.N, win0_4.index t = ![0, 0] := by decide +kernel
theorem at5 : ∀ t : Fin grid0.N, win0_5.index t = ![0, 0] := by decide +kernel
theorem at9 : ∀ t : Fin grid0.N, win0_9.index t = ![t.val / 8, t.val % 8, 0, 0] := by decide +kernel

theorem blk_q (c : Dev nD) (t : Fin cfg0.N) (r : Fin 256) (k : Fin 1024) :
    iblk m c 0 t (ix3 0 r k) = m ((c : Thread nD τ).loc main_arg0) (ix3 (seqOf t) (rowOf t r) k) := by
  have e := at0 t
  refine Eq.trans (congrArg (V m c main_arg0) (funext fun a => ?_)) (congrFun (V_main_arg0 m c) (ix3 (seqOf t) (rowOf t r) k))
  match a with
  | ⟨0, _⟩ => exact Fin.ext (by show win0_0.index t 0 * 1 + 1 * 0 = t.val / 8; rw [e]; show t.val / 8 * 1 + 1 * 0 = _; omega)
  | ⟨1, _⟩ => exact Fin.ext (by show win0_0.index t 1 * 256 + 1 * r.val = t.val % 8 * 256 + r.val; rw [e]; show t.val % 8 * 256 + 1 * r.val = _; omega)
  | ⟨2, _⟩ => exact Fin.ext (by show win0_0.index t 2 * 1024 + 1 * k.val = k.val; rw [e]; show 0 * 1024 + 1 * k.val = _; omega)

theorem blk_x (c : Dev nD) (t : Fin cfg0.N) (r : Fin 256) (k : Fin 1024) :
    iblk m c 1 t (ix3 0 r k) = m ((c : Thread nD τ).loc main_arg1) (ix3 (seqOf t) (rowOf t r) k) := by
  have e := at1 t
  refine Eq.trans (congrArg (V m c main_arg1) (funext fun a => ?_)) (congrFun (V_main_arg1 m c) (ix3 (seqOf t) (rowOf t r) k))
  match a with
  | ⟨0, _⟩ => exact Fin.ext (by show win0_1.index t 0 * 1 + 1 * 0 = t.val / 8; rw [e]; show t.val / 8 * 1 + 1 * 0 = _; omega)
  | ⟨1, _⟩ => exact Fin.ext (by show win0_1.index t 1 * 256 + 1 * r.val = t.val % 8 * 256 + r.val; rw [e]; show t.val % 8 * 256 + 1 * r.val = _; omega)
  | ⟨2, _⟩ => exact Fin.ext (by show win0_1.index t 2 * 1024 + 1 * k.val = k.val; rw [e]; show 0 * 1024 + 1 * k.val = _; omega)

theorem blk_y (c : Dev nD) (t : Fin cfg0.N) (j : Fin 256) (k : Fin 1024) :
    iblk m c 2 t (ix3 0 j k) = m ((c : Thread nD τ).loc main_arg2) (ix3 (seqOf t) j k) := by
  have e := at2 t
  refine Eq.trans (congrArg (V m c main_arg2) (funext fun a => ?_)) (congrFun (V_main_arg2 m c) (ix3 (seqOf t) j k))
  match a with
  | ⟨0, _⟩ => exact Fin.ext (by show win0_2.index t 0 * 1 + 1 * 0 = t.val / 8; rw [e]; show t.val / 8 * 1 + 1 * 0 = _; omega)
  | ⟨1, _⟩ => exact Fin.ext (by show win0_2.index t 1 * 256 + 1 * j.val = j.val; rw [e]; show 0 * 256 + 1 * j.val = _; omega)
  | ⟨2, _⟩ => exact Fin.ext (by show win0_2.index t 2 * 1024 + 1 * k.val = k.val; rw [e]; show 0 * 1024 + 1 * k.val = _; omega)

theorem blk_v (c : Dev nD) (t : Fin cfg0.N) (j : Fin 256) (k : Fin 1024) :
    iblk m c 3 t (ix3 0 j k) = m ((c : Thread nD τ).loc main_arg3) (ix3 (seqOf t) j k) := by
  have e := at3 t
  refine Eq.trans (congrArg (V m c main_arg3) (funext fun a => ?_)) (congrFun (V_main_arg3 m c) (ix3 (seqOf t) j k))
  match a with
  | ⟨0, _⟩ => exact Fin.ext (by show win0_3.index t 0 * 1 + 1 * 0 = t.val / 8; rw [e]; show t.val / 8 * 1 + 1 * 0 = _; omega)
  | ⟨1, _⟩ => exact Fin.ext (by show win0_3.index t 1 * 256 + 1 * j.val = j.val; rw [e]; show 0 * 256 + 1 * j.val = _; omega)
  | ⟨2, _⟩ => exact Fin.ext (by show win0_3.index t 2 * 1024 + 1 * k.val = k.val; rw [e]; show 0 * 1024 + 1 * k.val = _; omega)

theorem blk_w (c : Dev nD) (t : Fin cfg0.N) (i k : Fin 1024) :
    iblk m c 4 t (ix2 i k) = m ((c : Thread nD τ).loc main_arg4) (ix2 i k) := by
  have e := at4 t
  refine Eq.trans (congrArg (V m c main_v0) (funext fun a => ?_)) (congrFun (host_w m c) (ix2 i k))
  match a with
  | ⟨0, _⟩ => exact Fin.ext (by show win0_4.index t 0 * 1024 + 1 * i.val = i.val; rw [e]; show 0 * 1024 + 1 * i.val = _; omega)
  | ⟨1, _⟩ => exact Fin.ext (by show win0_4.index t 1 * 1024 + 1 * k.val = k.val; rw [e]; show 0 * 1024 + 1 * k.val = _; omega)

theorem blk_g (c : Dev nD) (t : Fin cfg0.N) (k : Fin 1024) :
    iblk m c 5 t (ix2 0 k) = m ((c : Thread nD τ).loc main_arg5) (ix1 k) := by
  have e := at5 t
  refine Eq.trans (congrArg (V m c main_v9) (funext fun a => ?_)) (congrFun (host_g m c) (ix2 0 k))
  match a with
  | ⟨0, _⟩ => exact Fin.ext (by show win0_5.index t 0 * 1 + 1 * 0 = 0; rw [e]; show 0 * 1 + 1 * 0 = _; omega)
  | ⟨1, _⟩ => exact Fin.ext (by show win0_5.index t 1 * 1024 + 1 * k.val = k.val; rw [e]; show 0 * 1024 + 1 * k.val = _; omega)

theorem blk_stream (c : Dev nD) (t : Fin cfg0.N) (r : Fin 256) (d : Fin 1024) :
    (win0_8.blk t).view.read (Elt Ideal) (stream m c) (ix3 0 r d) = stream m c (ix3 (seqOf t) (rowOf t r) d) := by
  have e := at8 t
  refine congrArg (stream m c) (funext fun a => ?_)
  match a with
  | ⟨0, _⟩ => exact Fin.ext (by show win0_8.index t 0 * 1 + 1 * 0 = t.val / 8; rw [e]; show t.val / 8 * 1 + 1 * 0 = _; omega)
  | ⟨1, _⟩ => exact Fin.ext (by show win0_8.index t 1 * 256 + 1 * r.val = t.val % 8 * 256 + r.val; rw [e]; show t.val % 8 * 256 + 1 * r.val = _; omega)
  | ⟨2, _⟩ => exact Fin.ext (by show win0_8.index t 2 * 1024 + 1 * d.val = d.val; rw [e]; show 0 * 1024 + 1 * d.val = _; omega)

theorem blk_hidden (c : Dev nD) (t : Fin cfg0.N) (r : Fin 256) (f : Fin 8) (h : Fin 128) :
    (win0_9.blk t).view.read (Elt Ideal) (hidden m c) (ix4 0 r f h) = hidden m c (ix4 (seqOf t) (rowOf t r) f h) := by
  have e := at9 t
  refine congrArg (hidden m c) (funext fun a => ?_)
  match a with
  | ⟨0, _⟩ => exact Fin.ext (by show win0_9.index t 0 * 1 + 1 * 0 = t.val / 8; rw [e]; show t.val / 8 * 1 + 1 * 0 = _; omega)
  | ⟨1, _⟩ => exact Fin.ext (by show win0_9.index t 1 * 256 + 1 * r.val = t.val % 8 * 256 + r.val; rw [e]; show t.val % 8 * 256 + 1 * r.val = _; omega)
  | ⟨2, _⟩ => exact Fin.ext (by show win0_9.index t 2 * 8 + 1 * f.val = f.val; rw [e]; show 0 * 8 + 1 * f.val = _; omega)
  | ⟨3, _⟩ => exact Fin.ext (by show win0_9.index t 3 * 128 + 1 * h.val = h.val; rw [e]; show 0 * 128 + 1 * h.val = _; omega)

theorem stream_row (c : Dev nD) (t : Fin cfg0.N) (r : Fin 256) (d : Fin 1024) :
    outStream (iblk m c 0 t) (iblk m c 1 t) (iblk m c 2 t) (iblk m c 3 t) (iblk m c 4 t) (ix3 0 r d) = stream m c (ix3 (seqOf t) (rowOf t r) d) := by
  refine (outStream_apply _ _ _ _ _ r d).trans ?_
  simp only [blk_q, blk_x, blk_y, blk_v, blk_w]
  rfl

theorem hidden_row (c : Dev nD) (t : Fin cfg0.N) (r : Fin 256) (f : Fin 8) (h : Fin 128) :
    outNormed (iblk m c 0 t) (iblk m c 1 t) (iblk m c 2 t) (iblk m c 3 t) (iblk m c 4 t) (iblk m c 5 t) (ix4 0 r f h)
      = hidden m c (ix4 (seqOf t) (rowOf t r) f h) := by
  refine (outNormed_apply _ _ _ _ _ _ r f h).trans ?_
  simp only [blk_q, blk_x, blk_y, blk_v, blk_w, blk_g]
  rfl

theorem flushed_stream (c : Dev nD) (t : Fin cfg0.N) :
    (dats m 0 c).flushed 8 t = (win0_8.blk t).view.read (Elt Ideal) (stream m c) := by
  rw [Read.flushed_stream]
  refine funext fun (j : S1x256x1024.Idx) => ?_
  idx_vars j
  have hu : j0 = 0 := Subsingleton.elim _ _
  subst hu
  exact (stream_row m c t j1 j2).trans (blk_stream m c t j1 j2).symm

theorem flushed_hidden (c : Dev nD) (t : Fin cfg0.N) :
    (dats m 0 c).flushed 9 t = (win0_9.blk t).view.read (Elt Ideal) (hidden m c) := by
  rw [Read.flushed_normed]
  refine funext fun (j : S1x256x8x128.Idx) => ?_
  idx_vars j
  have hu : j0 = 0 := Subsingleton.elim _ _
  subst hu
  exact (hidden_row m c t j1 j2 j3).trans (blk_hidden m c t j1 j2 j3).symm

/-! ## The arrays -/

/-- The grid point that writes row `i` of sequence `b`. -/
theorem point_of (b i : ℕ) (hb : b < 16) (hi : i < 2048) : ∃ t : Fin cfg0.N, t.val / 8 = b ∧ t.val % 8 = i / 256 :=
  ⟨⟨b * 8 + i / 256, by have hN : cfg0.N = 128 := N_0; omega⟩, by show (b * 8 + i / 256) / 8 = b; omega, by show (b * 8 + i / 256) % 8 = i / 256; omega⟩

theorem mem_stream (t : Fin cfg0.N) (i : S16x2048x1024.Idx) (hb : t.val / 8 = (i 0).val) (hr : t.val % 8 = (i 1).val / 256) :
    i ∈ ((cfg0.win 8).blk t).view.set := by
  have h2 : (i 2).val < 1024 := (i 2).isLt
  show i ∈ ((View.whole main_v10_0).slice (win0_8.rect t)).set
  rw [View.set_slice_whole, Rect.mem_set_unit]
  have e := at8 t
  intro a
  match a with
  | ⟨0, _⟩ =>
    show win0_8.index t 0 * 1 ≤ (i 0).val ∧ (i 0).val < win0_8.index t 0 * 1 + 1
    rw [e]
    show t.val / 8 * 1 ≤ (i 0).val ∧ (i 0).val < t.val / 8 * 1 + 1
    omega
  | ⟨1, _⟩ =>
    show win0_8.index t 1 * 256 ≤ (i 1).val ∧ (i 1).val < win0_8.index t 1 * 256 + 256
    rw [e]
    show t.val % 8 * 256 ≤ (i 1).val ∧ (i 1).val < t.val % 8 * 256 + 256
    omega
  | ⟨2, _⟩ =>
    show win0_8.index t 2 * 1024 ≤ (i 2).val ∧ (i 2).val < win0_8.index t 2 * 1024 + 1024
    rw [e]
    show 0 * 1024 ≤ (i 2).val ∧ (i 2).val < 0 * 1024 + 1024
    omega

theorem covered_stream (i : S16x2048x1024.Idx) : ∃ t : Fin cfg0.N, (cfg0.win 8).flush t = true ∧ i ∈ ((cfg0.win 8).blk t).view.set := by
  obtain ⟨t, hb, hr⟩ := point_of (i 0).val (i 1).val (i 0).isLt (i 1).isLt
  exact ⟨t, flush0_8 _, mem_stream t i hb hr⟩

theorem mem_hidden (t : Fin cfg0.N) (i : S16x2048x8x128.Idx) (hb : t.val / 8 = (i 0).val) (hr : t.val % 8 = (i 1).val / 256) :
    i ∈ ((cfg0.win 9).blk t).view.set := by
  have h2 : (i 2).val < 8 := (i 2).isLt
  have h3 : (i 3).val < 128 := (i 3).isLt
  show i ∈ ((View.whole main_v10_1).slice (win0_9.rect t)).set
  rw [View.set_slice_whole, Rect.mem_set_unit]
  have e := at9 t
  intro a
  match a with
  | ⟨0, _⟩ =>
    show win0_9.index t 0 * 1 ≤ (i 0).val ∧ (i 0).val < win0_9.index t 0 * 1 + 1
    rw [e]
    show t.val / 8 * 1 ≤ (i 0).val ∧ (i 0).val < t.val / 8 * 1 + 1
    omega
  | ⟨1, _⟩ =>
    show win0_9.index t 1 * 256 ≤ (i 1).val ∧ (i 1).val < win0_9.index t 1 * 256 + 256
    rw [e]
    show t.val % 8 * 256 ≤ (i 1).val ∧ (i 1).val < t.val % 8 * 256 + 256
    omega
  | ⟨2, _⟩ =>
    show win0_9.index t 2 * 8 ≤ (i 2).val ∧ (i 2).val < win0_9.index t 2 * 8 + 8
    rw [e]
    show 0 * 8 ≤ (i 2).val ∧ (i 2).val < 0 * 8 + 8
    omega
  | ⟨3, _⟩ =>
    show win0_9.index t 3 * 128 ≤ (i 3).val ∧ (i 3).val < win0_9.index t 3 * 128 + 128
    rw [e]
    show 0 * 128 ≤ (i 3).val ∧ (i 3).val < 0 * 128 + 128
    omega

theorem covered_hidden (i : S16x2048x8x128.Idx) : ∃ t : Fin cfg0.N, (cfg0.win 9).flush t = true ∧ i ∈ ((cfg0.win 9).blk t).view.set := by
  obtain ⟨t, hb, hr⟩ := point_of (i 0).val (i 1).val (i 0).isLt (i 1).isLt
  exact ⟨t, flush0_9 _, mem_hidden t i hb hr⟩

theorem stream_eq (c : Dev nD) : (dats m 0 c).arrAt 8 cfg0.N = stream m c :=
  (dats m 0 c).arrAt_eq_of_cover 8 (stream m c) (fun t _ => flushed_stream m c t) covered_stream

theorem hidden_eq (c : Dev nD) : (dats m 0 c).arrAt 9 cfg0.N = hidden m c :=
  (dats m 0 c).arrAt_eq_of_cover 9 (hidden m c) (fun t _ => flushed_hidden m c t) covered_hidden

/-- The kernel's run, read. -/
theorem run (ρ : Dev nD → PrngReg) :
    θ_run defs (onTc (τ := τ) (main (F := Ideal))) ⟨m, fun _ => 0, ρ⟩ fun r => ∀ c : Dev nD,
      r.2.mem ((c : Thread nD τ).loc main_v10_0) = stream m c
      ∧ r.2.mem ((c : Thread nD τ).loc main_v10_1) = hidden m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (stream_eq m c), (h c).2.1.trans (hidden_eq m c), (h c).2.2.2.2.2⟩) (Value.run_blocks m ρ)

end Cert.XattnIdeal.Rows

end
-- ==== Proof.XattnRef.lean ====
/- The reference's cross-attention read at an index: the same stream and its norm, by the softmax. -/
module

public import proofs.«01_k».proof.Proof.XattnRows
public import proofs.«01_k».proof.Proof.Gen.XattnReferenceIdeal.Run

@[expose] public section

set_option maxRecDepth 16384

noncomputable section

namespace Cert.XattnReferenceIdeal.Rows

open Cert.XattnReferenceIdeal Cert.XattnReferenceIdeal.Gen Cert.NormRow Cert.XattnRow Idealize.ShloMosaic Idealize.ShloMosaic.TcCoe Idealize.SL.Sem
open Cert.XattnIdeal.Rows (streamOf normedOf)
open scoped BigOperators

/-- The scores of every head, query and memory row. -/
abbrev scoreAll (q : FVec Ideal S16x2048x1024 .bf16) (y : FVec Ideal S16x256x1024 .f32) : FVec Ideal S16x4x2048x256 .f32 :=
  mulf (Host.dotGeneral dot_S16x2048x4x256_S16x256x4x256_S16x4x2048x256_3_3_1_1_02_02 none
      (shapeCast _ (extf .f32 q bitsLt_bf16_f32) shapeCasts_S16x2048x1024_S16x2048x4x256) (shapeCast _ y shapeCasts_S16x256x1024_S16x256x4x256))
    (broadcastInDim S16x4x2048x256 ![] bcast_S_S16x4x2048x256 (constant S_ .f32 0x3D800000#32))

/-- The largest of a row's scores. -/
abbrev topAll (s : FVec Ideal S16x4x2048x256 .f32) : FVec Ideal S16x4x2048 .f32 :=
  Host.reduce FloatOps.maximumf s (constant (F := Ideal) S_ .f32 0xFF800000#32) reducesTo_S16x4x2048x256_S16x4x2048_d3 h_S_

/-- The scores' exponentials over a row's largest. -/
abbrev expAll (s : FVec Ideal S16x4x2048x256 .f32) (t : FVec Ideal S16x4x2048 .f32) : FVec Ideal S16x4x2048x256 .f32 :=
  Host.exp (subf s (broadcastInDim S16x4x2048x256 ![0, 1, 2, 3] bcast_S16x4x2048x1_S16x4x2048x256_0_1_2_3
    (broadcastInDim S16x4x2048x1 ![0, 1, 2] bcast_S16x4x2048_S16x4x2048x1_0_1_2
      (maximumf (broadcastInDim S16x4x2048 ![] bcast_S_S16x4x2048 (constant (F := Ideal) S_ .f32 0xFF800000#32)) t))))

/-- The softmax of exponentials. -/
abbrev shareAll (e : FVec Ideal S16x4x2048x256 .f32) : FVec Ideal S16x4x2048x256 .f32 :=
  Host.divf e (broadcastInDim S16x4x2048x256 ![0, 1, 2, 3] bcast_S16x4x2048x1_S16x4x2048x256_0_1_2_3
    (broadcastInDim S16x4x2048x1 ![0, 1, 2] bcast_S16x4x2048_S16x4x2048x1_0_1_2
      (Host.reduceAdd e (constant (F := Ideal) S_ .f32 0x00000000#32) reducesTo_S16x4x2048x256_S16x4x2048_d3 h_S_)))

/-- The heads side by side. -/
abbrev headsAll (p : FVec Ideal S16x4x2048x256 .f32) (v : FVec Ideal S16x256x1024 .f32) : FVec Ideal S16x2048x1024 .f32 :=
  shapeCast _ (transpose S16x2048x4x256 [0, 3, 1, 2] (Host.dotGeneral dot_S16x256x4x256_S16x4x2048x256_S16x4x256x2048_1_3_3_2_02_01 none
    (shapeCast _ v shapeCasts_S16x256x1024_S16x256x4x256) p) transposes_S16x4x256x2048_S16x2048x4x256_0_3_1_2) shapeCasts_S16x2048x4x256_S16x2048x1024

abbrev stream (x h : FVec Ideal S16x2048x1024 .f32) (w : FVec Ideal S1024x1024 .f32) : FVec Ideal S16x2048x1024 .f32 :=
  addf x (Host.dotGeneral dot_S16x2048x1024_S1024x1024_S16x2048x1024_2_0_01_1_n_n none h w)

abbrev hidden (x : FVec Ideal S16x2048x1024 .f32) (g : FVec Ideal S1024 .f32) : FVec Ideal S16x2048x8x128 .f32 :=
  shapeCast _ (mulf (mulf x (broadcastInDim S16x2048x1024 ![0, 1, 2] bcast_S16x2048x1_S16x2048x1024_0_1_2
    (Host.rsqrt (addf (Host.divf (broadcastInDim S16x2048x1 ![0, 1] bcast_S16x2048_S16x2048x1_0_1 (Host.reduceAdd (mulf x x) (constant (F := Ideal) S_ .f32 0x00000000#32)
      reducesTo_S16x2048x1024_S16x2048_d2 h_S_)) (broadcastInDim S16x2048x1 ![] bcast_S_S16x2048x1 (constant (F := Ideal) S_ .f32 0x44800000#32)))
      (broadcastInDim S16x2048x1 ![] bcast_S_S16x2048x1 (constant (F := Ideal) S_ .f32 0x3727C5AC#32))))))
    (broadcastInDim S16x2048x1024 ![0, 1, 2] bcast_S1x1x1024_S16x2048x1024_0_1_2 (broadcastInDim S1x1x1024 ![2] bcast_S1024_S1x1x1024_2 g))) shapeCasts_S16x2048x1024_S16x2048x8x128

theorem scoreAll_apply (q : FVec Ideal S16x2048x1024 .bf16) (y : FVec Ideal S16x256x1024 .f32) (b : Fin 16) (h : Fin 4) (i : Fin 2048) (j : Fin 256) :
    scoreAll q y (ix4 b h i j) = score (fun k => q (ix3 b i k)) (fun j k => y (ix3 b j k)) (h.val * 256) (by omega) j := by
  pointwise []
  rfl

theorem topAll_apply (s : FVec Ideal S16x4x2048x256 .f32) (b : Fin 16) (h : Fin 4) (i : Fin 2048) :
    topAll s (ix3 b h i) = top (fun j => s (ix4 b h i j)) := by
  unfold top
  pointwise []

theorem max_neg_inf (x : EReal) : max (Ideal.ofBits .f32 0xFF800000#32) x = x := by
  rw [neg_inf]
  exact max_eq_right bot_le

theorem expAll_apply (s : FVec Ideal S16x4x2048x256 .f32) (t : FVec Ideal S16x4x2048 .f32) (b : Fin 16) (h : Fin 4) (i : Fin 2048) (j : Fin 256) :
    expAll s t (ix4 b h i j) = Ideal.exp (s (ix4 b h i j) - t (ix3 b h i)) := by
  pointwise []
  rw [max_neg_inf]

theorem shareAll_apply (e : FVec Ideal S16x4x2048x256 .f32) (b : Fin 16) (h : Fin 4) (i : Fin 2048) (j : Fin 256) :
    shareAll e (ix4 b h i j) = Ideal.div (e (ix4 b h i j)) (∑ l : Fin 256, e (ix4 b h i l)) := by
  pointwise []

theorem headsAll_apply (p : FVec Ideal S16x4x2048x256 .f32) (v : FVec Ideal S16x256x1024 .f32) (b : Fin 16) (i : Fin 2048) (d : Fin 1024) :
    headsAll p v (ix3 b i d) = ∑ j : Fin 256, p (ix4 b ⟨d.val / 256, by omega⟩ i j) * v (ix3 b j d) := by
  pointwise []
  exact Finset.sum_congr rfl fun j _ => mul_comm _ _

theorem stream_apply (x h : FVec Ideal S16x2048x1024 .f32) (w : FVec Ideal S1024x1024 .f32) (b : Fin 16) (i : Fin 2048) (d : Fin 1024) :
    stream x h w (ix3 b i d) = x (ix3 b i d) + ∑ k : Fin 1024, h (ix3 b i k) * w (ix2 k d) := by
  pointwise []

theorem hidden_apply (x : FVec Ideal S16x2048x1024 .f32) (g : FVec Ideal S1024 .f32) (b : Fin 16) (i : Fin 2048) (e : Fin 8) (f : Fin 128) :
    hidden x g (ix4 b i e f) = normed (fun k => x (ix3 b i k)) (fun k => g (ix1 k)) ⟨e.val * 128 + f.val, by omega⟩ := by
  pointwise []
  rfl

/-- The softmax of the scores. -/
abbrev weights (q : FVec Ideal S16x2048x1024 .bf16) (y : FVec Ideal S16x256x1024 .f32) : FVec Ideal S16x4x2048x256 .f32 :=
  shareAll (expAll (scoreAll q y) (topAll (scoreAll q y)))

theorem heads_eq (q : FVec Ideal S16x2048x1024 .bf16) (y v : FVec Ideal S16x256x1024 .f32) (b : Fin 16) (i : Fin 2048) (d : Fin 1024) :
    headsAll (weights q y) v (ix3 b i d)
      = heads attend (fun k => q (ix3 b i k)) (fun j k => y (ix3 b j k)) (fun j k => v (ix3 b j k)) d := by
  rw [headsAll_apply]
  simp only [shareAll_apply, expAll_apply, topAll_apply, scoreAll_apply]
  rfl

theorem stream_eq (q : FVec Ideal S16x2048x1024 .bf16) (x : FVec Ideal S16x2048x1024 .f32) (y v : FVec Ideal S16x256x1024 .f32) (w : FVec Ideal S1024x1024 .f32) :
    stream x (headsAll (weights q y) v) w = fun i => streamOf attend q x y v w (i 0) (i 1) (i 2) := by
  funext i
  idx_vars i
  rw [stream_apply]
  simp only [heads_eq]
  rfl

theorem hidden_eq (q : FVec Ideal S16x2048x1024 .bf16) (x : FVec Ideal S16x2048x1024 .f32) (y v : FVec Ideal S16x256x1024 .f32) (w : FVec Ideal S1024x1024 .f32)
    (g : FVec Ideal S1024 .f32) : hidden (stream x (headsAll (weights q y) v) w) g
      = fun i => normedOf attend q x y v w g (i 0) (i 1) (i 2) (i 3) := by
  rw [stream_eq]
  funext i
  idx_vars i
  exact hidden_apply _ g i0 i1 i2 i3

theorem res_eq (m : (ℓ : Loc nD τ sig) → Buf (Elt Ideal) ℓ) (c : Dev nD) :
    Value.res_main_v36 m c = hidden (stream (m ((c.tc : Thread nD τ).loc main_arg1)) (headsAll (weights (m ((c.tc : Thread nD τ).loc main_arg0)) (m ((c.tc : Thread nD τ).loc main_arg2)))
      (m ((c.tc : Thread nD τ).loc main_arg3))) (m ((c.tc : Thread nD τ).loc main_arg4))) (m ((c.tc : Thread nD τ).loc main_arg5)) := rfl

/-- The reference's run, read. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22) = (fun (i : S16x2048x1024.Idx) => streamOf attend (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1) (i 2))
      ∧ r.2.mem ((c.tc : Thread nD τ).loc main_v36) = (fun (i : S16x2048x8x128.Idx) => normedOf attend (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (i 0) (i 1) (i 2) (i 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (stream_eq _ _ _ _ _), (h c).2.1.trans ((res_eq m c).trans (hidden_eq _ _ _ _ _ _)), (h c).2.2⟩)
    (Value.run (F := Ideal) m ρ)

end Cert.XattnReferenceIdeal.Rows

end
-- ==== Proof.XattnMeet.lean ====
/- Where the queries and the memory's keys are finite, both means are one: the kernel's stream is the reference's. -/
module

public import proofs.«01_k».proof.Proof.XattnRows
public import proofs.«01_k».proof.Pre_finite
public import Idealize.ShloMosaic.Lib.ReduceAll
public import Idealize.ShloMosaic.Lib.StableHlo.Predicate

@[expose] public section

set_option maxRecDepth 16384

noncomputable section

namespace Cert.XattnIdeal.Rows

open Cert.XattnIdeal Cert.XattnIdeal.Gen Cert.NormRow Cert.XattnRow Idealize.ShloMosaic Idealize.ShloMosaic.TcCoe

/-- The facts the precondition's function cites. -/
instance finiteFacts : Cert.Pre_finite.Facts where
  bitsLt_bf16_f32 := by decide
  bcast_S_S16x2048x1024 := by decide
  reducesTo_S16x2048x1024_S_d0_1_2 := by decide
  h_S_ := by decide
  bcast_S_S16x256x1024 := by decide
  reducesTo_S16x256x1024_S_d0_1_2 := by decide

theorem pos_inf : Ideal.ofBits .f32 0x7F800000#32 = ⊤ := by simp [Ideal.ofBits, Ideal.ieee]

/-- A number whose absolute value is below infinity is finite. -/
theorem real_of_abs {x : EReal} (h : FloatOps.cmpf (F := Ideal) (φ := .f32) .olt (max x (-x)) (Ideal.ofBits .f32 0x7F800000#32) = 1#1) :
    ∃ r : ℝ, x = r := by
  rw [pos_inf] at h
  have hc : BitVec.ofBool (decide (max x (-x) < ⊤)) = 1#1 := h
  have hl : max x (-x) < ⊤ := by
    by_contra hn
    rw [decide_eq_false hn] at hc
    exact absurd hc (by decide)
  induction x using EReal.rec with
  | coe r => exact ⟨r, rfl⟩
  | bot => exact absurd hl (by simp)
  | top => exact absurd hl (by simp)

theorem finite_of_pre [Cert.Pre_finite.Facts] (q : FVec Ideal S16x2048x1024 .bf16) (x : FVec Ideal S16x2048x1024 .f32) (y v : FVec Ideal S16x256x1024 .f32)
    (w : FVec Ideal S1024x1024 .f32) (g : FVec Ideal S1024 .f32) (u : FVec Ideal S1024x32 .f32) (o : FVec Ideal S32 .f32)
    (h : Cert.Pre_finite.fn q x y v w g u o = fun _ => 1#1) : (∀ i, ∃ r : ℝ, q i = r) ∧ ∀ i, ∃ r : ℝ, y i = r := by
  haveI : Subsingleton (Cert.Pre_finite.S_).Idx := ⟨fun i j => funext fun a => a.elim0⟩
  have h1 : Cert.Pre_finite.fn q x y v w g u o (fun a => a.elim0) = 1#1 := congrFun h _
  have hand : ∀ a b : BitVec 1, IntOp.andi a b = 1#1 → a = 1#1 ∧ b = 1#1 := by decide
  obtain ⟨ha, hb⟩ := hand _ _ h1
  exact ⟨fun i => real_of_abs (Host.reduce_andi_all _ _ _ _ _ ha i), fun i => real_of_abs (Host.reduce_andi_all _ _ _ _ _ hb i)⟩

theorem streamOf_eq (q : FVec Ideal S16x2048x1024 .bf16) (x : FVec Ideal S16x2048x1024 .f32) (y v : FVec Ideal S16x256x1024 .f32) (w : FVec Ideal S1024x1024 .f32)
    (hq : ∀ i, ∃ r : ℝ, q i = r) (hy : ∀ i, ∃ r : ℝ, y i = r) : streamOf attendInv q x y v w = streamOf attend q x y v w := by
  funext b i d
  exact congrFun (streamRow_eq _ _ _ _ _ (fun k => hq (ix3 b i k)) (fun j k => hy (ix3 b j k))) d

theorem normedOf_eq (q : FVec Ideal S16x2048x1024 .bf16) (x : FVec Ideal S16x2048x1024 .f32) (y v : FVec Ideal S16x256x1024 .f32) (w : FVec Ideal S1024x1024 .f32)
    (g : FVec Ideal S1024 .f32) (hq : ∀ i, ∃ r : ℝ, q i = r) (hy : ∀ i, ∃ r : ℝ, y i = r) : normedOf attendInv q x y v w g = normedOf attend q x y v w g := by
  unfold normedOf
  rw [streamOf_eq q x y v w hq hy]

end Cert.XattnIdeal.Rows

end
-- ==== Proof.RouteBody.lean ====
/- The routing's body at an index: the one-hot rows, the start of each expert's rows, the places of a tile's picks and
   the counts the next tile starts from. -/
module

public import proofs.«01_k».proof.Proof.Gen.RouteIdeal.Frame
public import proofs.«01_k».proof.Proof.RowRead

@[expose] public section

set_option maxRecDepth 16384

noncomputable section

namespace Cert.RouteIdeal.Body

open Cert.RouteIdeal Cert.RouteIdeal.Gen Idealize.ShloMosaic Idealize.ShloMosaic.TcCoe Idealize.SL.Sem
open Cert.KernelIdeal.Stick (select_ite)
open scoped BigOperators

/-- One where the word is `e`, else zero. -/
def hot (w : BitVec 32) (e : Fin 128) : EReal := if w = BitVec.ofNat 32 e.val then 1 else 0

/-- A comparison's bit as a number. -/
theorem bit_word (c : BitVec 1) (p : Prop) [Decidable p] (h : c = 1#1 ↔ p) :
    FloatOps.sitofp (F := Ideal) .f32 (BitVec.setWidth 32 c) = if p then 1 else 0 := by
  by_cases hp : p
  · rw [if_pos hp, h.mpr hp]
    show (((BitVec.setWidth 32 1#1).toInt : ℝ) : EReal) = 1
    rw [show (BitVec.setWidth 32 1#1).toInt = 1 from by decide]; simp
  · rw [if_neg hp]
    rcases BitVec.eq_zero_or_eq_one c with e | e
    · rw [e]
      show (((BitVec.setWidth 32 0#1).toInt : ℝ) : EReal) = 0
      rw [show (BitVec.setWidth 32 0#1).toInt = 0 from by decide]; simp
    · exact absurd (h.mp e) hp

theorem eq_bit (a b : BitVec 32) : IntOp.cmpi .eq a b = 1#1 ↔ b = a := by
  show BitVec.ofBool (a == b) = 1#1 ↔ b = a
  by_cases h : a = b
  · subst h; simp
  · have : (a == b) = false := by simpa using h
    rw [this]; exact ⟨fun h' => absurd h' (by decide), fun h' => absurd h'.symm h⟩

theorem pay7_apply (x : Vec Ideal S256x128 .i32) (r : Fin 256) (e : Fin 128) :
    k0_pay7 (F := Ideal) x (ix2 r e) = ∑ j : Fin 4, hot (x (ix2 r ⟨j.val, by omega⟩)) e := by
  rw [Fin.sum_univ_four]
  pointwise [k0_pay7, k0_pay3, k0_pay4, k0_pay5, k0_pay6]
  rw [bit_word _ _ (eq_bit _ _), bit_word _ _ (eq_bit _ _), bit_word _ _ (eq_bit _ _), bit_word _ _ (eq_bit _ _)]
  rfl

theorem pay10_apply (x : Vec Ideal S256x128 .i32) (a b : Vec Ideal S1x128 .f32) (r : Fin 256) (e : Fin 128) :
    k0_pay10 (F := Ideal) x a b (ix2 r e) =
      (∑ s : Fin 256, if s.val < r.val then k0_pay7 (F := Ideal) x (ix2 s e) else 0) + (a (ix2 0 e) + b (ix2 0 e)) := by
  have hr := r.isLt
  pointwise [k0_pay10]
  refine congrArg (· + _) (Finset.sum_congr rfl fun s _ => ?_)
  have hs := s.isLt
  rw [bit_word _ (s.val < r.val) (WordCmp.cmpi_slt_ofNat_eq_one_iff (by omega) (by omega)), ite_mul, one_mul, zero_mul]

theorem pay2_apply (x : FVec Ideal S256x128 .f32) (a : Vec Ideal S8x128 .f32) (i : Fin 8) (e : Fin 128) :
    k0_pay2 (F := Ideal) x a (ix2 i e) = a (ix2 i e) + ∑ r : Fin 256, x (ix2 r e) := by
  pointwise [k0_pay2]

theorem pay8_apply (i : Fin 8) (e : Fin 128) : k0_pay8 (F := Ideal) (ix2 i e) = 0 := by
  pointwise [k0_pay8]

/-- A count rounded up to whole tiles of rows. -/
def padded (x : EReal) : EReal :=
  Ideal.liftRound Int.floor ((x + Ideal.ofBits .f32 0x43FF8000#32) * Ideal.ofBits .f32 0x3B000000#32) * Ideal.ofBits .f32 0x44000000#32

theorem shift_real : ∃ r : ℝ, Ideal.ofBits .f32 0x43FF8000#32 = r := by
  refine ⟨511, ?_⟩; simp [Ideal.ofBits, Ideal.ieee]; rw [← EReal.coe_mul]; norm_num
theorem tile_real : Ideal.ofBits .f32 0x44000000#32 = ((512 : ℝ) : EReal) := by
  simp [Ideal.ofBits, Ideal.ieee]; rw [← EReal.coe_mul]; norm_num
theorem inv_real : Ideal.ofBits .f32 0x3B000000#32 = ((1 / 512 : ℝ) : EReal) := by
  simp [Ideal.ofBits, Ideal.ieee]; rw [← EReal.coe_mul]; norm_num

theorem padded_real {x : EReal} (h : ∃ r : ℝ, x = r) : ∃ r : ℝ, padded x = r := by
  obtain ⟨r, rfl⟩ := h
  obtain ⟨s, hs⟩ := shift_real
  unfold padded
  rw [hs, tile_real, inv_real, ← EReal.coe_add, ← EReal.coe_mul, Ideal.liftRound_coe, ← EReal.coe_mul]
  exact ⟨_, rfl⟩

theorem pay9_apply (x : Vec Ideal S8x128 .f32) (i : Fin 8) (e : Fin 128) (hx : ∀ l, ∃ r : ℝ, x (ix2 i l) = r) :
    k0_pay9 (F := Ideal) x (ix2 i e) = ∑ l : Fin 128, if l.val < e.val then padded (x (ix2 i l)) else 0 := by
  have he := e.isLt
  have hz : ∀ l, padded (x (ix2 i l)) - padded (x (ix2 i l)) = 0 := fun l => by
    obtain ⟨r, hr⟩ := padded_real (hx l)
    rw [hr, ← EReal.coe_sub, sub_self]; rfl
  pointwise [k0_pay9]
  have hd : ∀ y : EReal, Ideal.liftRound Int.floor ((y + Ideal.ofBits .f32 0x43FF8000#32) * Ideal.ofBits .f32 0x3B000000#32) *
      Ideal.ofBits .f32 0x44000000#32 = padded y := fun _ => rfl
  simp only [hd]
  simp only [hz, sub_zero, zero_mul, Finset.sum_const_zero, add_zero]
  refine Finset.sum_congr rfl fun s _ => ?_
  have hs := s.isLt
  rw [bit_word _ (s.val < e.val) (WordCmp.cmpi_slt_ofNat_eq_one_iff (by omega) (by omega)), mul_ite, mul_one, mul_zero]

/-- What the body leaves of a tile's places, from the picks and the two carried rows. -/
def places (x : Vec Ideal S256x128 .i32) (a b : Vec Ideal S1x128 .f32) : IVec S8x256 32 :=
  k0_pay13 (F := Ideal) (iota .tc S256x128 32 [1] iota_S256x128_d1_w32) (k0_pay4 (F := Ideal) x) (k0_pay5 (F := Ideal) x) (k0_pay6 (F := Ideal) x) (k0_pay10 x a b) k0_pay11
    (k0_pay12 (F := Ideal) x) (Scalar.ofBits .f32 0x00000000#32)

/-- A pick's place: the row before its own tile's, among the rows of its expert. -/
def placeOf (w : BitVec 32) (g : Fin 128 → EReal) : BitVec 32 :=
  FloatOps.fptosi (F := Ideal) (φ := .f32) 32 (∑ e : Fin 128, if w = BitVec.ofNat 32 e.val then g e else 0)

theorem fptosi_zero : FloatOps.fptosi (F := Ideal) (φ := .f32) 32 (0 : EReal) = 0#32 := by
  show Ideal.fptosi 32 0 = 0#32
  rw [← EReal.coe_zero, Ideal.fptosi, Ideal.toIntClamped_coe]
  simp

theorem places_apply (x : Vec Ideal S256x128 .i32) (a b : Vec Ideal S1x128 .f32) (j : Fin 8) (r : Fin 256) :
    k0_pay1 (places x a b) (ix3 0 j r) =
      if h : j.val < 4 then placeOf (x (ix2 r ⟨j.val, by omega⟩)) (fun e => k0_pay10 x a b (ix2 r e)) else 0#32 := by
  have hs : ∀ (w : BitVec 32) (e : Fin 128), Scalar.select (IntOp.cmpi .eq (BitVec.ofNat 32 e.val) w) (k0_pay10 x a b (ix2 r e)) 0 =
      if w = BitVec.ofNat 32 e.val then k0_pay10 x a b (ix2 r e) else 0 := fun w e => select_ite _ _ (eq_bit _ _) _ _
  pointwise [k0_pay1, places, k0_pay13, k0_pay12, k0_pay11, k0_pay4, k0_pay5, k0_pay6, k0_pay3]
  simp only [hs]
  simp only [select_ite _ _ (eq_bit _ _)]
  fin_cases j <;> first | rfl | exact fptosi_zero

/-! ## The places as numbers of earlier rows -/

/-- How many of row `i`'s picks are expert `e`. -/
def chosenAt (x : IVec ⟨2, ![33024, 128]⟩ 32) (e : Fin 128) (i : ℕ) : EReal :=
  if h : i < 33024 then ∑ j : Fin 4, hot (x (ix2 ⟨i, h⟩ ⟨j.val, by omega⟩)) e else 0

/-- The rows kept for expert `l`. -/
def paddedAt (z : FVec Ideal ⟨2, ![8, 128]⟩ .f32) (l : ℕ) : EReal :=
  if h : l < 128 then padded (z (ix2 0 ⟨l, h⟩)) else 0

/-- Where row `i` would be placed among the rows of expert `e`. -/
def slotOf (x : IVec ⟨2, ![33024, 128]⟩ 32) (z : FVec Ideal ⟨2, ![8, 128]⟩ .f32) (i : ℕ) (e : Fin 128) : EReal :=
  ∑ k ∈ Finset.range i, chosenAt x e k + ∑ l ∈ Finset.range e.val, paddedAt z l

/-- The place of each pick. -/
def table (x : IVec ⟨2, ![33024, 128]⟩ 32) (z : FVec Ideal ⟨2, ![8, 128]⟩ .f32) (t : Fin 129) (j : Fin 8) (r : Fin 256) : BitVec 32 :=
  if h : j.val < 4 then placeOf (x (ix2 ⟨t.val * 256 + r.val, by omega⟩ ⟨j.val, by omega⟩)) (slotOf x z (t.val * 256 + r.val)) else 0#32

/-- A sum over the terms before the `r`-th. -/
theorem sum_before (N r : ℕ) (hr : r ≤ N) (f : ℕ → EReal) : ∑ s : Fin N, (if s.val < r then f s.val else 0) = ∑ s ∈ Finset.range r, f s := by
  rw [Fin.sum_univ_eq_sum_range (fun s => if s < r then f s else 0) N, ← Finset.sum_filter]
  refine Finset.sum_congr (Finset.ext fun a => ?_) fun _ _ => rfl
  simp only [Finset.mem_filter, Finset.mem_range]
  omega

/-- A running sum read through a window that ends at the `s`-th term. -/
theorem sum_window (N s : ℕ) (hs : s < N) (f : ℕ → EReal) :
    ∑ e ∈ Finset.range N, (if N - 1 ≤ s + e then f (s + e - (N - 1)) else 0) = ∑ i ∈ Finset.range (s + 1), f i := by
  obtain ⟨k, rfl⟩ : ∃ k, N = k + (s + 1) := ⟨N - (s + 1), by omega⟩
  rw [Finset.sum_range_add, Finset.sum_eq_zero (s := Finset.range k), zero_add]
  · refine Finset.sum_congr rfl fun i hi => ?_
    rw [if_pos (by omega)]
    exact congrArg f (by omega)
  · intro e he
    have := Finset.mem_range.mp he
    exact if_neg (by omega)

end Cert.RouteIdeal.Body

end
-- ==== Proof.RouteStep.lean ====
/- What each grid point of the routing leaves: a tile's places, the counts so far and the starts. -/
module

public import proofs.«01_k».proof.Proof.RouteBody
public import proofs.«01_k».proof.Proof.ReadBack
public import proofs.«01_k».proof.Proof.Gen.RouteIdeal.Value

@[expose] public section

set_option maxRecDepth 16384

noncomputable section

namespace Cert.RouteIdeal.Body

open Cert.RouteIdeal Cert.RouteIdeal.Gen Idealize.ShloMosaic Idealize.ShloMosaic.TcCoe Idealize.SL.Sem
open Cert.KernelIdeal.Stick (zero2 zero3 read_last load_last load_whole loadCov_last loadCov_part)

/-- The first row of a scratch. -/
def top (x : Vec Ideal S8x128 .f32) : Vec Ideal S1x128 .f32 := fun j => x (ix2 0 (j 1))

theorem load_idx (M : Memref sig .tc .vmem S256x128 .i32) (hM : M.IsWhole) (x : Vec Ideal S256x128 .i32)
    (inb : ∀ a, (![0, 0] : Fin 2 → ℕ) a + S256x128.size a ≤ S256x128.size a) :
    View.readAt (Elt Ideal) M.view (Rect.unit (s := S256x128) ![0, 0] S256x128.size inb).toLoadRect (hM.unread x) = x := by
  rw [load_whole M.view _ zero2, hM.read_unread]

theorem load_scratch (M : Memref sig .tc .vmem S8x128 .f32) (hM : M.IsWhole) (x : Vec Ideal S8x128 .f32)
    (inb : ∀ a, (![0, 0] : Fin 2 → ℕ) a + S8x128.size a ≤ S8x128.size a) :
    View.readAt (Elt Ideal) M.view (Rect.unit (s := S8x128) ![0, 0] S8x128.size inb).toLoadRect (hM.unread x) = x := by
  rw [load_whole M.view _ zero2, hM.read_unread]

theorem load_top (M : Memref sig .tc .vmem S8x128 .f32) (hM : M.IsWhole) (x : Vec Ideal S8x128 .f32)
    (inb : ∀ a, (![0, 0] : Fin 2 → ℕ) a + S1x128.size a ≤ S8x128.size a) :
    View.readAt (Elt Ideal) M.view (Rect.unit (s := S8x128) ![0, 0] S1x128.size inb).toLoadRect (hM.unread x) = top x := by
  funext j
  show M.view.read (Elt Ideal) (hM.unread x) ((Rect.unit (s := S8x128) ![0, 0] S1x128.size inb).emb j) = _
  rw [hM.read_unread]
  refine congrArg x (funext fun a => Fin.ext ?_)
  have h0 : (j 0).val < 1 := (j 0).isLt
  fin_cases a
  · show 0 + 1 * (j 0).val = 0; omega
  · show 0 + 1 * (j 1).val = (j 1).val; omega

theorem cov_top (v : View sig .tc .vmem S8x128 .f32) (inb : ∀ a, (![0, 0] : Fin 2 → ℕ) a + S8x128.size a ≤ S8x128.size a)
    (w : S8x128.Idx → Elt Ideal .f32) (L : List (View.Piece (Elt Ideal) S8x128 .f32)) (inb' : ∀ a, (![0, 0] : Fin 2 → ℕ) a + S1x128.size a ≤ S8x128.size a) :
    v.readCov (⟨Rect.unit (s := S8x128) ![0, 0] S8x128.size inb, w⟩ :: L) (Rect.unit (s := S8x128) ![0, 0] S1x128.size inb').toLoadRect = top w := by
  rw [loadCov_part v zero2]
  funext j
  refine congrArg w (funext fun a => Fin.ext ?_)
  have h0 : (j 0).val < 1 := (j 0).isLt
  fin_cases a
  · show 0 + 1 * (j 0).val = 0; omega
  · show 0 + 1 * (j 1).val = (j 1).val; omega

variable (m : (ℓ : Loc nD τ sig) → Buf (Elt Ideal) ℓ)

theorem first_places (c : Dev nD) (t : Fin cfg0.N) (h0 : t.val % 129 = 0) :
    out0_A_2 c (grid0.coords t) (ms0_0 t) (hs0_0 t) (ms0_1 t) (hs0_1 t) (ms0_2 t) (hs0_2 t) scM0_0 (Memref.isWhole_whole _) scM0_1 (Memref.isWhole_whole _)
      ((hcond0_0 t).mpr h0) (iblk m c 0 t) (iblk m c 1 t) =
      k0_pay1 (places (iblk m c 0 t) (top (k0_pay8 (F := Ideal))) (top (k0_pay9 (iblk m c 1 t)))) := by
  have e8 : kernelRun0_A.sl.v38 (F := Ideal) c scM0_0 = top (k0_pay8 (F := Ideal)) := by
    unfold kernelRun0_A.sl.v38 kernelRun0_A.sl.HS0_1
    exact cov_top _ _ _ _ _
  have e9 : kernelRun0_A.sl.v39 (F := Ideal) c (ms0_1 t) (hs0_1 t) scM0_1 (iblk m c 1 t) = top (k0_pay9 (iblk m c 1 t)) := by
    unfold kernelRun0_A.sl.v39 kernelRun0_A.sl.HS1_1
    exact (cov_top _ _ _ _ _).trans (congrArg (fun z => top (k0_pay9 z)) (load_scratch _ _ _ _))
  unfold out0_A_2 kernelRun0_A
  rw [read_last VO0_2 _ zero3]
  simp -proj only [kernelRun0_A.sl.r, kernelRun0_A.sl.r_1, kernelRun0_A.sl.r_2, kernelRun0_A.sl.r_3, kernelRun0_A.sl.r_4, kernelRun0_A.sl.r_5, kernelRun0_A.sl.r_6]
  simp -proj only [load_idx]
  rw [e8, e9]
  rfl

theorem first_counts (c : Dev nD) (t : Fin cfg0.N) (h0 : t.val % 129 = 0) :
    sout0_A_0 c (grid0.coords t) (ms0_0 t) (hs0_0 t) (ms0_1 t) (hs0_1 t) (ms0_2 t) (hs0_2 t) scM0_0 (Memref.isWhole_whole _) scM0_1 (Memref.isWhole_whole _)
      ((hcond0_0 t).mpr h0) (iblk m c 0 t) (iblk m c 1 t) = k0_pay2 (k0_pay7 (F := Ideal) (iblk m c 0 t)) (k0_pay8 (F := Ideal)) := by
  have e8 : kernelRun0_A.sl.v94 (F := Ideal) c scM0_0 = k0_pay8 (F := Ideal) := by
    unfold kernelRun0_A.sl.v94 kernelRun0_A.sl.HS0_1
    exact loadCov_last _ zero2 zero2 _ _ _ _
  unfold sout0_A_0 kernelRun0_A
  rw [read_last VS0_0 _ zero2]
  simp -proj only [kernelRun0_A.sl.r, kernelRun0_A.sl.r_1, kernelRun0_A.sl.r_2, kernelRun0_A.sl.r_3, kernelRun0_A.sl.r_4, kernelRun0_A.sl.r_5, kernelRun0_A.sl.r_6]
  exact congrArg₂ k0_pay2 (congrArg k0_pay7 (load_idx _ _ _ _)) e8

theorem first_starts (c : Dev nD) (t : Fin cfg0.N) (h0 : t.val % 129 = 0) :
    sout0_A_1 c (grid0.coords t) (ms0_0 t) (hs0_0 t) (ms0_1 t) (hs0_1 t) (ms0_2 t) (hs0_2 t) scM0_0 (Memref.isWhole_whole _) scM0_1 (Memref.isWhole_whole _)
      ((hcond0_0 t).mpr h0) (iblk m c 0 t) (iblk m c 1 t) = k0_pay9 (iblk m c 1 t) := by
  unfold sout0_A_1 kernelRun0_A
  refine Eq.trans (b := VS0_1.read (Elt Ideal) (VS0_1.writes (Elt Ideal) VS0_1.junk (kernelRun0_A.sl.HS1_1 c (ms0_1 t) (hs0_1 t) (iblk m c 1 t)))) rfl ?_
  unfold kernelRun0_A.sl.HS1_1
  refine (read_last VS0_1 _ zero2 _ _ _).trans ?_
  exact congrArg k0_pay9 (load_scratch _ _ _ _)

/-- The first point: the counts from zero, the starts from the totals. -/
theorem step_A (c : Dev nD) (t : Fin cfg0.N) (h0 : t.val % 129 = 0) :
    outsAt0 m c t.val t.isLt = (k0_pay1 (places (iblk m c 0 t) (top (k0_pay8 (F := Ideal))) (top (k0_pay9 (iblk m c 1 t)))),
      k0_pay2 (k0_pay7 (F := Ideal) (iblk m c 0 t)) (k0_pay8 (F := Ideal)), k0_pay9 (iblk m c 1 t)) := by
  rw [outsAt0_A m c t h0, first_places m c t h0, first_counts m c t h0, first_starts m c t h0]

/-- A later point: the counts from the point before, the starts kept. -/
theorem step_B (c : Dev nD) (t : Fin cfg0.N) (h0 : ¬t.val % 129 = 0) (o : Vec Ideal S1x8x256 .i32) (a b : Vec Ideal S8x128 .f32)
    (e : outsAt0 m c (t.val - 1) (Nat.lt_of_le_of_lt (Nat.sub_le _ _) t.isLt) = (o, a, b)) :
    outsAt0 m c t.val t.isLt = (k0_pay1 (places (iblk m c 0 t) (top a) (top b)),
      k0_pay2 (k0_pay7 (F := Ideal) (iblk m c 0 t)) a, b) := by
  rw [outsAt0_B m c t h0, e]
  refine Prod.ext ?_ (Prod.ext ?_ ?_)
  · dsimp only
    unfold out0_B_2 kernelRun0_B
    rw [read_last VO0_2 _ zero3]
    simp -proj only [kernelRun0_B.sl.r, kernelRun0_B.sl.r_1, kernelRun0_B.sl.r_2, kernelRun0_B.sl.r_3, kernelRun0_B.sl.r_4, kernelRun0_B.sl.r_5, kernelRun0_B.sl.r_6]
    simp -proj only [load_idx, load_top, load_scratch]
    first | done | rfl
  · dsimp only
    unfold sout0_B_0 kernelRun0_B
    rw [read_last VS0_0 _ zero2]
    simp -proj only [kernelRun0_B.sl.r, kernelRun0_B.sl.r_1, kernelRun0_B.sl.r_2, kernelRun0_B.sl.r_3, kernelRun0_B.sl.r_4, kernelRun0_B.sl.r_5, kernelRun0_B.sl.r_6]
    exact congrArg₂ k0_pay2 (congrArg k0_pay7 (load_idx _ _ _ _)) (load_scratch scM0_0 _ a _)
  · rfl

end Cert.RouteIdeal.Body

end
-- ==== Proof.RouteRows.lean ====
/- The routing's array: point by point, the counts so far and the starts, and the places written. -/
module

public import proofs.«01_k».proof.Proof.RouteStep

@[expose] public section

set_option maxRecDepth 16384

noncomputable section

namespace Cert.RouteIdeal.Rows

open Cert.RouteIdeal Cert.RouteIdeal.Gen Cert.RouteIdeal.Body Idealize.ShloMosaic
open Idealize.ShloMosaic.TcCoe Idealize.SL.Sem
open Idealize.ShloMosaic.Pipeline (Dat)
open scoped BigOperators

variable (m : (ℓ : Loc nD τ sig) → Buf (Elt Ideal) ℓ)

/-- The picks. -/
abbrev picks (c : Dev nD) : IVec ⟨2, ![33024, 128]⟩ 32 := m ((c : Thread nD τ).loc main_arg0)
/-- The counts. -/
abbrev counts (c : Dev nD) : FVec Ideal ⟨2, ![8, 128]⟩ .f32 := m ((c : Thread nD τ).loc main_arg1)

theorem point_lt (t : Fin cfg0.N) : t.val < 129 := lt_of_lt_of_eq t.isLt N_0

theorem at0 : ∀ t : Fin grid0.N, win0_0.index t = ![t.val, 0] := by decide +kernel
theorem at1 : ∀ t : Fin grid0.N, win0_1.index t = ![0, 0] := by decide +kernel
theorem at2 : ∀ t : Fin grid0.N, win0_2.index t = ![t.val, 0, 0] := by decide +kernel

theorem blk_picks (c : Dev nD) (t : Fin cfg0.N) (r : Fin 256) (k : Fin 128) :
    iblk m c 0 t (ix2 r k) = picks m c (ix2 ⟨t.val * 256 + r.val, by have := point_lt t; omega⟩ k) := by
  have e := at0 t
  refine Eq.trans (congrArg (V m c main_arg0) (funext fun a => ?_)) (congrFun (V_main_arg0 m c) (ix2 ⟨t.val * 256 + r.val, by have := point_lt t; omega⟩ k))
  match a with
  | ⟨0, _⟩ => exact Fin.ext (by show win0_0.index t 0 * 256 + 1 * r.val = t.val * 256 + r.val; rw [e]; show t.val * 256 + 1 * r.val = _; omega)
  | ⟨1, _⟩ => exact Fin.ext (by show win0_0.index t 1 * 128 + 1 * k.val = k.val; rw [e]; show 0 * 128 + 1 * k.val = _; omega)

theorem blk_counts (c : Dev nD) (t : Fin cfg0.N) (i : Fin 8) (k : Fin 128) :
    iblk m c 1 t (ix2 i k) = counts m c (ix2 i k) := by
  have e := at1 t
  refine Eq.trans (congrArg (V m c main_arg1) (funext fun a => ?_)) (congrFun (V_main_arg1 m c) (ix2 i k))
  match a with
  | ⟨0, _⟩ => exact Fin.ext (by show win0_1.index t 0 * 8 + 1 * i.val = i.val; rw [e]; show 0 * 8 + 1 * i.val = _; omega)
  | ⟨1, _⟩ => exact Fin.ext (by show win0_1.index t 1 * 128 + 1 * k.val = k.val; rw [e]; show 0 * 128 + 1 * k.val = _; omega)

theorem hot_row (c : Dev nD) (t : Fin cfg0.N) (r : Fin 256) (e : Fin 128) :
    k0_pay7 (F := Ideal) (iblk m c 0 t) (ix2 r e) = chosenAt (picks m c) e (t.val * 256 + r.val) := by
  refine (pay7_apply _ r e).trans ?_
  unfold chosenAt
  rw [dif_pos (by have := point_lt t; omega)]
  exact Finset.sum_congr rfl fun j _ => congrArg (hot · e) (blk_picks m c t r _)

/-- A tile's places, over the counts before it. -/
theorem tile_places (c : Dev nD) (t : Fin cfg0.N) (a b : Vec Ideal S8x128 .f32)
    (ha : ∀ e, a (ix2 0 e) = ∑ k ∈ Finset.range (t.val * 256), chosenAt (picks m c) e k)
    (hb : ∀ e : Fin 128, b (ix2 0 e) = ∑ l ∈ Finset.range e.val, paddedAt (counts m c) l) (j : Fin 8) (r : Fin 256) :
    k0_pay1 (places (iblk m c 0 t) (top a) (top b)) (ix3 0 j r) = table (picks m c) (counts m c) ⟨t.val, point_lt t⟩ j r := by
  have hr := r.isLt
  refine (places_apply _ _ _ j r).trans ?_
  unfold table
  split
  · refine congrArg₂ placeOf (blk_picks m c t r _) (funext fun e => ?_)
    refine (pay10_apply _ _ _ r e).trans ?_
    show _ + (a (ix2 0 e) + b (ix2 0 e)) = _
    rw [ha, hb, ← add_assoc]
    refine congrArg (· + _) ?_
    rw [Finset.sum_range_add, add_comm, ← sum_before 256 r.val (by omega) (fun s => chosenAt (picks m c) e (t.val * 256 + s))]
    refine congrArg (_ + ·) (Finset.sum_congr rfl fun s _ => ?_)
    rw [hot_row]
  · rfl

/-- The counts after a tile. -/
theorem tile_counts (c : Dev nD) (t : Fin cfg0.N) (a : Vec Ideal S8x128 .f32)
    (ha : ∀ e, a (ix2 0 e) = ∑ k ∈ Finset.range (t.val * 256), chosenAt (picks m c) e k) (e : Fin 128) :
    k0_pay2 (k0_pay7 (F := Ideal) (iblk m c 0 t)) a (ix2 0 e) = ∑ k ∈ Finset.range ((t.val + 1) * 256), chosenAt (picks m c) e k := by
  refine (pay2_apply _ _ 0 e).trans ?_
  rw [ha, Nat.add_mul, Nat.one_mul, Finset.sum_range_add, ← Fin.sum_univ_eq_sum_range (fun s => chosenAt (picks m c) e (t.val * 256 + s)) 256]
  exact congrArg (_ + ·) (Finset.sum_congr rfl fun s _ => hot_row m c t s e)

/-- The starts. -/
theorem starts (c : Dev nD) (t : Fin cfg0.N) (hz : ∀ e, ∃ r : ℝ, counts m c (ix2 0 e) = r) (e : Fin 128) :
    k0_pay9 (iblk m c 1 t) (ix2 0 e) = ∑ l ∈ Finset.range e.val, paddedAt (counts m c) l := by
  have he := e.isLt
  refine (pay9_apply _ 0 e fun l => ?_).trans ?_
  · obtain ⟨r, h⟩ := hz l
    exact ⟨r, (blk_counts m c t 0 l).trans h⟩
  · rw [← sum_before 128 e.val (by omega) (paddedAt (counts m c))]
    refine Finset.sum_congr rfl fun l _ => ?_
    refine congrArg (fun v => if l.val < e.val then v else (0 : EReal)) ?_
    unfold paddedAt
    rw [dif_pos l.isLt]
    exact congrArg padded (blk_counts m c t 0 l)

/-- Point by point. -/
theorem points (c : Dev nD) (hz : ∀ e, ∃ r : ℝ, counts m c (ix2 0 e) = r) : ∀ (n : ℕ) (hn : n < cfg0.N),
    ∃ (o : Vec Ideal S1x8x256 .i32) (a b : Vec Ideal S8x128 .f32), outsAt0 m c n hn = (o, a, b)
      ∧ (∀ e, a (ix2 0 e) = ∑ k ∈ Finset.range ((n + 1) * 256), chosenAt (picks m c) e k)
      ∧ (∀ e : Fin 128, b (ix2 0 e) = ∑ l ∈ Finset.range e.val, paddedAt (counts m c) l)
      ∧ ∀ j r, o (ix3 0 j r) = table (picks m c) (counts m c) ⟨n, point_lt ⟨n, hn⟩⟩ j r
  | 0, hn => by
    have h8 : ∀ e, k0_pay8 (F := Ideal) (ix2 0 e) = ∑ k ∈ Finset.range ((⟨0, hn⟩ : Fin cfg0.N).val * 256), chosenAt (picks m c) e k := fun e => by
      rw [pay8_apply]; simp
    exact ⟨_, _, _, step_A m c ⟨0, hn⟩ rfl, tile_counts m c ⟨0, hn⟩ _ h8, starts m c ⟨0, hn⟩ hz, tile_places m c ⟨0, hn⟩ _ _ h8 (starts m c ⟨0, hn⟩ hz)⟩
  | n + 1, hn => by
    obtain ⟨o, a, b, e, ha, hb, -⟩ := points c hz n (Nat.lt_of_succ_lt hn)
    have hl := point_lt ⟨n + 1, hn⟩
    have h0 : ¬ (⟨n + 1, hn⟩ : Fin cfg0.N).val % 129 = 0 := by
      show ¬ (n + 1) % 129 = 0
      have : n + 1 < 129 := hl
      omega
    exact ⟨_, _, _, step_B m c ⟨n + 1, hn⟩ h0 o a b e, tile_counts m c ⟨n + 1, hn⟩ a ha, hb, tile_places m c ⟨n + 1, hn⟩ a b ha hb⟩

/-- The places. -/
abbrev spots (c : Dev nD) : Buf (Elt Ideal) ((c : Thread nD τ).loc main_v0) :=
  fun (i : S129x8x256.Idx) => table (picks m c) (counts m c) (i 0) (i 1) (i 2)

theorem blk_spots (c : Dev nD) (t : Fin cfg0.N) (j : Fin 8) (r : Fin 256) :
    (win0_2.blk t).view.read (Elt Ideal) (spots m c) (ix3 0 j r) = spots m c (ix3 ⟨t.val, point_lt t⟩ j r) := by
  have e := at2 t
  refine congrArg (spots m c) (funext fun a => ?_)
  match a with
  | ⟨0, _⟩ => exact Fin.ext (by show win0_2.index t 0 * 1 + 1 * 0 = t.val; rw [e]; show t.val * 1 + 1 * 0 = _; omega)
  | ⟨1, _⟩ => exact Fin.ext (by show win0_2.index t 1 * 8 + 1 * j.val = j.val; rw [e]; show 0 * 8 + 1 * j.val = _; omega)
  | ⟨2, _⟩ => exact Fin.ext (by show win0_2.index t 2 * 256 + 1 * r.val = r.val; rw [e]; show 0 * 256 + 1 * r.val = _; omega)

theorem flushed_spots (c : Dev nD) (hz : ∀ e, ∃ r : ℝ, counts m c (ix2 0 e) = r) (t : Fin cfg0.N) :
    (dats m 0 c).flushed 2 t = (win0_2.blk t).view.read (Elt Ideal) (spots m c) := by
  rw [Value.flushed2]
  obtain ⟨o, a, b, e, -, -, ho⟩ := points m c hz t.val t.isLt
  rw [e]
  refine funext fun (j : S1x8x256.Idx) => ?_
  idx_vars j
  have hu : j0 = 0 := Subsingleton.elim _ _
  subst hu
  exact (ho j1 j2).trans (blk_spots m c t j1 j2).symm

theorem mem_spots (t : Fin cfg0.N) (i : S129x8x256.Idx) (hb : t.val = (i 0).val) : i ∈ ((cfg0.win 2).blk t).view.set := by
  have h1 : (i 1).val < 8 := (i 1).isLt
  have h2 : (i 2).val < 256 := (i 2).isLt
  show i ∈ ((View.whole main_v0).slice (win0_2.rect t)).set
  rw [View.set_slice_whole, Rect.mem_set_unit]
  have e := at2 t
  intro a
  match a with
  | ⟨0, _⟩ =>
    show win0_2.index t 0 * 1 ≤ (i 0).val ∧ (i 0).val < win0_2.index t 0 * 1 + 1
    rw [e]
    show t.val * 1 ≤ (i 0).val ∧ (i 0).val < t.val * 1 + 1
    omega
  | ⟨1, _⟩ =>
    show win0_2.index t 1 * 8 ≤ (i 1).val ∧ (i 1).val < win0_2.index t 1 * 8 + 8
    rw [e]
    show 0 * 8 ≤ (i 1).val ∧ (i 1).val < 0 * 8 + 8
    omega
  | ⟨2, _⟩ =>
    show win0_2.index t 2 * 256 ≤ (i 2).val ∧ (i 2).val < win0_2.index t 2 * 256 + 256
    rw [e]
    show 0 * 256 ≤ (i 2).val ∧ (i 2).val < 0 * 256 + 256
    omega

theorem covered_spots (i : S129x8x256.Idx) : ∃ t : Fin cfg0.N, (cfg0.win 2).flush t = true ∧ i ∈ ((cfg0.win 2).blk t).view.set :=
  ⟨⟨(i 0).val, lt_of_lt_of_eq (i 0).isLt N_0.symm⟩, flush0_2 _, mem_spots _ i rfl⟩

theorem spots_eq (c : Dev nD) (hz : ∀ e, ∃ r : ℝ, counts m c (ix2 0 e) = r) : (dats m 0 c).arrAt 2 cfg0.N = spots m c :=
  (dats m 0 c).arrAt_eq_of_cover 2 (spots m c) (fun t _ => flushed_spots m c hz t) covered_spots

/-- The kernel's run, read, at counts that are numbers. -/
theorem run (ρ : Dev nD → PrngReg) (hz : ∀ c e, ∃ r : ℝ, counts m c (ix2 0 e) = r) :
    θ_run defs (onTc (τ := τ) (main (F := Ideal))) ⟨m, fun _ => 0, ρ⟩ fun r => ∀ c : Dev nD,
      r.2.mem ((c : Thread nD τ).loc main_v0) = spots m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (spots_eq m c (hz c)), (h c).2⟩) (Value.run_blocks m ρ)

end Cert.RouteIdeal.Rows

end
-- ==== Proof.RouteRef.lean ====
/- The routing's reference at an index: how many earlier rows picked each expert, where each expert's rows start, and the
   place of each pick. -/
module

public import proofs.«01_k».proof.Proof.RouteBody
public import proofs.«01_k».proof.Proof.RefRead
public import proofs.«01_k».proof.Proof.Gen.RouteReferenceIdeal.Run

@[expose] public section

set_option maxRecDepth 40000

noncomputable section

namespace Cert.RouteReferenceIdeal.Read

open Cert.RouteReferenceIdeal Cert.RouteReferenceIdeal.Gen Idealize.ShloMosaic Idealize.ShloMosaic.TcCoe Idealize.SL.Sem
open Cert.ReferenceIdeal.Stick (foldl_sum)
open Cert.RouteIdeal.Body (hot padded placeOf eq_bit slotOf table chosenAt paddedAt padded_real sum_window)
open scoped BigOperators

section Names

variable {F : FTy → Type} [FloatOps F]

/-- Which expert each pick is. -/
def mine (x : IVec S33024x128 32) : IVec S33024x4x128 1 :=
  cmpi .eq (broadcastInDim S33024x4x128 ![0, 1, 2] bcast_S33024x4x1_S33024x4x128_0_1_2 (broadcastInDim S33024x4x1 ![0, 1] bcast_S33024x4_S33024x4x1_0_1 (extractStridedSlice S33024x4 ![0, 0] x slices_S33024x128_S33024x4_0_0)))
    (broadcastInDim S33024x4x128 ![0, 1, 2] bcast_S1x1x128_S33024x4x128_0_1_2 (broadcastInDim S1x1x128 ![2] bcast_S128_S1x1x128_2 (iotaInDim S128 32 0)))

/-- How many of a row's picks are each expert. -/
def chosen (x : IVec S33024x128 32) : FVec F S33024x128 .f32 :=
  Host.reduceAdd (uitofp .f32 (mine x)) (constant S_ .f32 0x00000000#32) reducesTo_S33024x4x128_S33024x128_d1 h_S_

/-- The sum down the rows. -/
def upto (y : FVec F S33024x128 .f32) : FVec F S33024x128 .f32 :=
  Host.reduceWindowAdd ![33024, 1] ![1, 1] ![33023, 0] ![0, 0] y (broadcastInDim S_ ![] bcast_S_S_ (constant S_ .f32 0x00000000#32)) reduceWindows_S33024x128_S33024x128_w33024s1p33023_0_w1s1p0_0 h_S_

/-- The counts rounded up to whole tiles. -/
def rounded (z : FVec F S8x128 .f32) : FVec F S128 .f32 :=
  mulf (Host.floor (Host.divf (addf (shapeCast _ (extractStridedSlice S1x128 ![0, 0] z slices_S8x128_S1x128_0_0) shapeCasts_S1x128_S128) (broadcastInDim S128 ![] bcast_S_S128 (constant S_ .f32 0x43FF8000#32))) (broadcastInDim S128 ![] bcast_S_S128 (constant S_ .f32 0x44000000#32)))) (broadcastInDim S128 ![] bcast_S_S128 (constant S_ .f32 0x44000000#32))

/-- The sum along the experts. -/
def along (y : FVec F S128 .f32) : FVec F S128 .f32 :=
  Host.reduceWindowAdd ![128] ![1] ![127] ![0] y (broadcastInDim S_ ![] bcast_S_S_ (constant S_ .f32 0x00000000#32)) reduceWindows_S128_S128_w128s1p127_0 h_S_

/-- What a row's picks would be placed at, expert by expert. -/
def slots (x : IVec S33024x128 32) (z : FVec F S8x128 .f32) : FVec F S33024x128 .f32 :=
  addf (subf (upto (chosen x)) (chosen x)) (broadcastInDim S33024x128 ![0, 1] bcast_S1x128_S33024x128_0_1 (broadcastInDim S1x128 ![1] bcast_S128_S1x128_1 (subf (along (rounded z)) (rounded z))))

/-- The picks' places. -/
def spots (x : IVec S33024x128 32) (y : FVec F S33024x128 .f32) : IVec S33024x4 32 :=
  fptosi 32 (Host.reduceAdd (select (mine x) (broadcastInDim S33024x4x128 ![0, 1, 2] bcast_S33024x1x128_S33024x4x128_0_1_2 (broadcastInDim S33024x1x128 ![0, 2] bcast_S33024x128_S33024x1x128_0_2 y))
    (broadcastInDim S33024x4x128 ![] bcast_S_S33024x4x128 (id (constant S_ .f32 0x00000000#32)))) (constant S_ .f32 0x00000000#32) reducesTo_S33024x4x128_S33024x4_d2 h_S_)

/-- The result. -/
def result (x : IVec S33024x128 32) (z : FVec F S8x128 .f32) : IVec S129x8x256 32 :=
  concatenate S129x8x256 1 [⟨S129x4x256, (transpose S129x4x256 [0, 2, 1] (shapeCast _ (spots x (slots x z)) shapeCasts_S33024x4_S129x256x4) transposes_S129x256x4_S129x4x256_0_2_1)⟩, ⟨S129x4x256, (broadcastInDim S129x4x256 ![] bcast_S_S129x4x256 (constantI S_ 32 0#32))⟩] concatenates_S129x4x256_S129x4x256_S129x8x256_d1

/-- Every run ends with the named result. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Value.run m ρ

end Names

theorem mine_apply (x : IVec S33024x128 32) (s : Fin 33024) (j : Fin 4) (e : Fin 128) :
    mine x (ix3 s j e) = IntOp.cmpi .eq (x (ix2 s ⟨j.val, by omega⟩)) (BitVec.ofNat 32 e.val) := by
  pointwise [mine]

theorem bit_nat (c : BitVec 1) (p : Prop) [Decidable p] (h : c = 1#1 ↔ p) :
    FloatOps.uitofp (F := Ideal) .f32 c = if p then 1 else 0 := by
  by_cases hp : p
  · rw [if_pos hp, h.mpr hp]
    show (((1#1).toNat : ℝ) : EReal) = 1
    simp
  · rw [if_neg hp]
    rcases BitVec.eq_zero_or_eq_one c with e | e
    · rw [e]
      show (((0#1).toNat : ℝ) : EReal) = 0
      simp
    · exact absurd (h.mp e) hp

theorem eq_bit' (a b : BitVec 32) : IntOp.cmpi .eq a b = 1#1 ↔ a = b := (eq_bit a b).trans eq_comm

theorem chosen_apply (x : IVec S33024x128 32) (s : Fin 33024) (e : Fin 128) :
    chosen (F := Ideal) x (ix2 s e) = ∑ j : Fin 4, hot (x (ix2 s ⟨j.val, by omega⟩)) e := by
  unfold chosen
  pointwise []
  simp only [mine_apply]
  refine Finset.sum_congr rfl fun j _ => ?_
  rw [bit_nat _ _ (eq_bit' _ _)]
  rfl

theorem spots_apply (x : IVec S33024x128 32) (y : FVec Ideal S33024x128 .f32) (s : Fin 33024) (j : Fin 4) :
    spots x y (ix2 s j) = placeOf (x (ix2 s ⟨j.val, by omega⟩)) (fun e => y (ix2 s e)) := by
  unfold spots
  pointwise []
  simp only [mine_apply]
  unfold placeOf
  refine congrArg _ (Finset.sum_congr rfl fun e _ => ?_)
  have hz : id (constant S_ .f32 0x00000000#32 : FVec Ideal S_ .f32) ix0 = 0 := by
    rw [id_eq]
    pointwise []
  rw [hz]
  exact Cert.KernelIdeal.Stick.select_ite _ _ (eq_bit' _ _) _ _

theorem rounded_apply (z : FVec Ideal S8x128 .f32) (e : Fin 128) (h : ∃ r : ℝ, z (ix2 0 e) = r) :
    rounded z (ix1 e) = padded (z (ix2 0 e)) := by
  unfold rounded
  pointwise []
  obtain ⟨r, hr⟩ := h
  obtain ⟨s, hs⟩ := Cert.RouteIdeal.Body.shift_real
  unfold padded
  rw [hs, Cert.RouteIdeal.Body.tile_real, Cert.RouteIdeal.Body.inv_real, hr]
  refine congrArg (fun q : EReal => Ideal.liftRound Int.floor q * ((512 : ℝ) : EReal)) ?_
  rw [Ideal.div_coe (by norm_num)]

theorem result_apply (x : IVec S33024x128 32) (z : FVec Ideal S8x128 .f32) (t : Fin 129) (j : Fin 8) (r : Fin 256) :
    result x z (ix3 t j r) = if h : j.val < 4 then spots x (slots x z) (ix2 ⟨t.val * 256 + r.val, by omega⟩ ⟨j.val, h⟩) else 0#32 := by
  unfold result
  pointwise []

theorem slots_apply (x : IVec S33024x128 32) (z : FVec Ideal S8x128 .f32) (s : Fin 33024) (e : Fin 128) :
    slots x z (ix2 s e) = (upto (chosen x) (ix2 s e) - chosen x (ix2 s e)) + (along (rounded z) (ix1 e) - rounded z (ix1 e)) := by
  unfold slots
  pointwise []

/-- Column `e` of an array, at a row given as a number. -/
def colAt (y : FVec Ideal S33024x128 .f32) (e : Fin 128) (i : ℕ) : EReal := if h : i < 33024 then y (ix2 ⟨i, h⟩ e) else 0

/-- A row, at a place given as a number. -/
def rowAt (y : FVec Ideal S128 .f32) (i : ℕ) : EReal := if h : i < 128 then y (ix1 ⟨i, h⟩) else 0

theorem zero_start : (broadcastInDim S_ ![] bcast_S_S_ (constant S_ .f32 0x00000000#32) : FVec Ideal S_ .f32) = fun _ => 0 :=
  funext fun i => by rw [← ix0_eta i]; pointwise []

theorem along_apply (y : FVec Ideal S128 .f32) (s : Fin 128) : along y (ix1 s) = ∑ i ∈ Finset.range (s.val + 1), rowAt y i := by
  have hs := s.isLt
  unfold along
  rw [zero_start]
  unfold Host.reduceWindowAdd
  simp only [FloatOps.hostReduceWindowAdd, Ideal.hostReduceWindowAdd, Host.reduceWindow]
  rw [foldl_sum, zero_add]
  refine (Fin.sum_univ_def _).symm.trans ?_
  rw [← Equiv.sum_comp (Shape.rowMajor ⟨1, ![128]⟩)]
  simp only [Equiv.symm_apply_apply]
  rw [sum_idx1, ← sum_window 128 s.val hs (rowAt y), ← Fin.sum_univ_eq_sum_range (fun e => if 128 - 1 ≤ s.val + e then rowAt y (s.val + e - (128 - 1)) else 0) 128]
  refine Finset.sum_congr rfl fun e _ => ?_
  have he := e.isLt
  by_cases h : 128 - 1 ≤ s.val + e.val
  · rw [if_pos h, dif_pos fun a => ?_]
    · unfold rowAt
      rw [dif_pos (by omega)]
      refine congrArg y (funext fun a => ?_)
      match a with
      | ⟨0, _⟩ => exact Fin.ext (by show s.val * 1 + e.val - 127 = s.val + e.val - 127; omega)
    · match a with
      | ⟨0, _⟩ => exact ⟨by show 127 ≤ s.val * 1 + e.val; omega, by show s.val * 1 + e.val - 127 < 128; omega⟩
  · rw [if_neg h, dif_neg fun H => h ?_]
    have h3 : 127 ≤ s.val * 1 + e.val := (H 0).1
    omega

theorem upto_apply (y : FVec Ideal S33024x128 .f32) (s : Fin 33024) (c : Fin 128) :
    upto y (ix2 s c) = ∑ i ∈ Finset.range (s.val + 1), colAt y c i := by
  have hs := s.isLt
  have hc := c.isLt
  unfold upto
  rw [zero_start]
  unfold Host.reduceWindowAdd
  simp only [FloatOps.hostReduceWindowAdd, Ideal.hostReduceWindowAdd, Host.reduceWindow]
  rw [foldl_sum, zero_add]
  refine (Fin.sum_univ_def _).symm.trans ?_
  rw [← Equiv.sum_comp (Shape.rowMajor ⟨2, ![33024, 1]⟩)]
  simp only [Equiv.symm_apply_apply]
  rw [sum_idx2]
  simp only [Fintype.sum_unique]
  rw [← sum_window 33024 s.val hs (colAt y c), ← Fin.sum_univ_eq_sum_range (fun e => if 33024 - 1 ≤ s.val + e then colAt y c (s.val + e - (33024 - 1)) else 0) 33024]
  refine Finset.sum_congr rfl fun e _ => ?_
  have he := e.isLt
  by_cases h : 33024 - 1 ≤ s.val + e.val
  · rw [if_pos h, dif_pos fun a => ?_]
    · unfold colAt
      rw [dif_pos (by omega)]
      refine congrArg y (funext fun a => ?_)
      match a with
      | ⟨0, _⟩ => exact Fin.ext (by show s.val * 1 + e.val - 33023 = s.val + e.val - 33023; omega)
      | ⟨1, _⟩ => exact Fin.ext (by show c.val * 1 + 0 - 0 = c.val; omega)
    · match a with
      | ⟨0, _⟩ => exact ⟨by show 33023 ≤ s.val * 1 + e.val; omega, by show s.val * 1 + e.val - 33023 < 33024; omega⟩
      | ⟨1, _⟩ => exact ⟨Nat.zero_le _, by show c.val * 1 + 0 - 0 < 128; omega⟩
  · rw [if_neg h, dif_neg fun H => h ?_]
    have h3 : 33023 ≤ s.val * 1 + e.val := (H 0).1
    omega

theorem hot_real (w : BitVec 32) (e : Fin 128) : ∃ r : ℝ, hot w e = r := by
  unfold hot
  split
  · exact ⟨1, rfl⟩
  · exact ⟨0, rfl⟩

theorem chosen_real (x : IVec S33024x128 32) (s : Fin 33024) (e : Fin 128) : ∃ r : ℝ, chosen (F := Ideal) x (ix2 s e) = r := by
  rw [chosen_apply]
  choose f hf using fun j : Fin 4 => hot_real (x (ix2 s ⟨j.val, by omega⟩)) e
  exact ⟨f 0 + f 1 + f 2 + f 3, by rw [Fin.sum_univ_four, hf, hf, hf, hf]; rfl⟩

theorem cancel (a y : EReal) (h : ∃ r : ℝ, y = r) : a + y - y = a := by
  obtain ⟨r, rfl⟩ := h
  exact EReal.add_sub_cancel_right

theorem slots_eq (x : IVec S33024x128 32) (z : FVec Ideal S8x128 .f32) (hz : ∀ e, ∃ r : ℝ, z (ix2 0 e) = r) (s : Fin 33024) (e : Fin 128) :
    slots x z (ix2 s e) = slotOf x z s.val e := by
  rw [slots_apply, upto_apply, along_apply, Finset.sum_range_succ, Finset.sum_range_succ]
  have h1 : colAt (chosen x) e s.val = chosen (F := Ideal) x (ix2 s e) := dif_pos s.isLt
  have h2 : rowAt (rounded z) e.val = rounded z (ix1 e) := dif_pos e.isLt
  rw [h1, h2, cancel _ _ (chosen_real x s e), cancel _ _ (by rw [rounded_apply z e (hz e)]; exact padded_real (hz e))]
  unfold slotOf
  refine congrArg₂ (· + ·) (Finset.sum_congr rfl fun i _ => ?_) (Finset.sum_congr rfl fun i _ => ?_)
  · unfold colAt chosenAt
    split
    · exact chosen_apply x _ e
    · rfl
  · unfold rowAt paddedAt
    split
    · exact rounded_apply z _ (hz _)
    · rfl

theorem result_eq (x : IVec S33024x128 32) (z : FVec Ideal S8x128 .f32) (hz : ∀ e, ∃ r : ℝ, z (ix2 0 e) = r) (t : Fin 129) (j : Fin 8) (r : Fin 256) :
    result x z (ix3 t j r) = table x z t j r := by
  rw [result_apply]
  unfold table
  split
  · rw [spots_apply]
    exact congrArg _ (funext fun e => slots_eq x z hz _ e)
  · rfl

end Cert.RouteReferenceIdeal.Read

end
-- ==== Proof.RouteMeet.lean ====
/- The routing's precondition read: the counts are numbers. -/
module

public import proofs.«01_k».proof.Proof.RouteRows
public import proofs.«01_k».proof.Proof.RouteRef
public import proofs.«01_k».proof.Proof.XattnMeet
public import proofs.«01_k».proof.Pre_counted

@[expose] public section

set_option maxRecDepth 16384

noncomputable section

namespace Cert.RouteIdeal.Rows

open Cert.RouteIdeal.Body Idealize.ShloMosaic Idealize.ShloMosaic.TcCoe
open Cert.XattnIdeal.Rows (real_of_abs)

/-- The facts the precondition's function cites. -/
instance countedFacts : Cert.Pre_counted.Facts where
  slices_S8x128_S1x128_0_0 := by decide
  shapeCasts_S1x128_S128 := by decide
  bcast_S_S128 := by decide
  reducesTo_S128_S_d0 := by decide
  h_S_ := by decide

theorem counted_of_pre [Cert.Pre_counted.Facts] (x : IVec ⟨2, ![33024, 128]⟩ 32) (z : FVec Ideal ⟨2, ![8, 128]⟩ .f32)
    (h : Cert.Pre_counted.fn (F := Ideal) x z = fun _ => 1#1) (e : Fin 128) : ∃ r : ℝ, z (ix2 0 e) = r := by
  haveI : Subsingleton (Cert.Pre_counted.S_).Idx := ⟨fun i j => funext fun a => a.elim0⟩
  have h1 : Cert.Pre_counted.fn (F := Ideal) x z (fun a => a.elim0) = 1#1 := congrFun h _
  have h2 := Host.reduce_andi_all _ _ _ _ _ h1 (ix1 e)
  have hv : shapeCast Cert.Pre_counted.S128 (extractStridedSlice Cert.Pre_counted.S1x128 ![0, 0] z Cert.Pre_counted.Facts.slices_S8x128_S1x128_0_0)
      Cert.Pre_counted.Facts.shapeCasts_S1x128_S128 (ix1 e) = z (ix2 0 e) := by pointwise []
  obtain ⟨r, hr⟩ := real_of_abs h2
  exact ⟨r, hv.symm.trans hr⟩

end Cert.RouteIdeal.Rows

end
-- ==== Proof.ExpRun.lean ====
/- The experts' body, run once on each of its three ways: at a point that loads an expert's weights and uses them, at one
   that uses the weights already loaded, and at one past the used blocks, which writes zeros. -/
module

public import proofs.«01_k».proof.Proof.Gen.ExpertsIdeal
public import proofs.«01_k».proof.Proof.Gen.ExpertsIdeal.Launch
public import proofs.«01_k».proof.Proof.Gen.ExpertsIdeal.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.ExpertsIdeal.Rows

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The table of the blocks' experts. -/
abbrev tabM0 : Memref sig .tc .smem S290 .i32 := Memref.whole main_v22
/-- The number of used blocks. -/
abbrev tabM1 : Memref sig .tc .smem S1 .i32 := Memref.whole main_v24
/-- The first layer's weights as loaded. -/
abbrev scrM0 : Memref sig .tc .vmem S4x1024x512 .bf16 := Memref.whole cc0_scratch0
/-- The second layer's weights as loaded. -/
abbrev scrM1 : Memref sig .tc .vmem S2x512x1024 .bf16 := Memref.whole cc0_scratch1

/-- The separation-logic model the program's triples are stated in. -/
abbrev Model (F : FTy → Type) [FloatOps F] := MT nD τ sig Unit (Elt F) ℕ (UR sig nD τ) ℕ

/-- The number of used blocks, as the body reads it. -/
abbrev usedWord (T1 : S1.Idx → Elt F .i32) : Elt F .i32 :=
  View.readAt (Elt F) (tabM1).view (Rect.unit (s := S1) ![0] S1.size inb_S1_S1_0).toLoadRect T1 (Shape.Idx.first (numel1_S1.symm ▸ Nat.one_pos))

/-- This block's expert, as the body reads it. -/
abbrev expertWord (i : grid0.Coords) (T0 : S290.Idx → Elt F .i32) : Elt F .i32 :=
  View.readAt (Elt F) (tabM0).view (Rect.unit (s := S290) (k0_off1 i) S1.size (k0_off1_inb i)).toLoadRect T0 (Shape.Idx.first (numel1_S1.symm ▸ Nat.one_pos))

/-- The expert of the block before, as the body reads it. -/
abbrev priorWord (i : grid0.Coords) (T0 : S290.Idx → Elt F .i32) : Elt F .i32 :=
  View.readAt (Elt F) (tabM0).view (Rect.unit (s := S290) (k0_off2 i) S1.size (k0_off2_inb i)).toLoadRect T0 (Shape.Idx.first (numel1_S1.symm ▸ Nat.one_pos))

/-- Whether the body loads the expert's weights. -/
abbrev loadBit (i : grid0.Coords) (T0 : S290.Idx → Elt F .i32) (T1 : S1.Idx → Elt F .i32) : BitVec 1 :=
  Scalar.cmpi .ne (Scalar.extui (Scalar.andi (Scalar.cmpi .slt (BitVec.ofNat 32 (i 0).val) (usedWord T1)) (Scalar.ori (Scalar.cmpi .eq (BitVec.ofNat 32 (i 0).val) 0#32) (Scalar.cmpi .ne (expertWord i T0) (priorWord i T0))))) 0#32

/-- The body, at coordinates `i` and on given staging buffers, takes the inputs' blocks, the tables and the scratches
    at `xa0 xa1` to the same inputs and tables, the output's buffer with the pieces `out0` written, and the scratches at
    `out1 out2`. -/
def Runs (c : Dev nD) (i : grid0.Coords)
  (arg3 : Memref sig .tc .vmem S512x8x128 .f32) (harg3 : arg3.IsWhole)
  (arg4 : Memref sig .tc .vmem S1x1024x512 .f32) (harg4 : arg4.IsWhole)
  (arg5 : Memref sig .tc .vmem S1x1024x512 .f32) (harg5 : arg5.IsWhole)
  (arg6 : Memref sig .tc .vmem S1x1024x512 .f32) (harg6 : arg6.IsWhole)
  (arg7 : Memref sig .tc .vmem S1x1024x512 .f32) (harg7 : arg7.IsWhole)
  (arg8 : Memref sig .tc .vmem S1x1x2048 .f32) (harg8 : arg8.IsWhole)
  (arg9 : Memref sig .tc .vmem S1x512x1024 .f32) (harg9 : arg9.IsWhole)
  (arg10 : Memref sig .tc .vmem S1x512x1024 .f32) (harg10 : arg10.IsWhole)
  (arg11 : Memref sig .tc .vmem S1x1x1024 .f32) (harg11 : arg11.IsWhole)
  (arg12 : Memref sig .tc .vmem S512x8x128 .f32) (harg12 : arg12.IsWhole)
  (T0 : S290.Idx → Elt F .i32) (T1 : S1.Idx → Elt F .i32)
  (x0 : S512x8x128.Idx → Elt F .f32) (x1 : S1x1024x512.Idx → Elt F .f32) (x2 : S1x1024x512.Idx → Elt F .f32) (x3 : S1x1024x512.Idx → Elt F .f32) (x4 : S1x1024x512.Idx → Elt F .f32) (x5 : S1x1x2048.Idx → Elt F .f32) (x6 : S1x512x1024.Idx → Elt F .f32) (x7 : S1x512x1024.Idx → Elt F .f32) (x8 : S1x1x1024.Idx → Elt F .f32)
  (xa0 : Buf (Elt F) ((c : Thread nD τ).loc cc0_scratch0)) (xa1 : Buf (Elt F) ((c : Thread nD τ).loc cc0_scratch1))
  (out0 : List (View.Piece (Elt F) S512x8x128 .f32))
  (out1 : Buf (Elt F) ((c : Thread nD τ).loc cc0_scratch0)) (out2 : Buf (Elt F) ((c : Thread nD τ).loc cc0_scratch1)) : Prop :=
  ∀ K : PUnit → sProp (Model F),
    iprop((arg3.view.loc (c : Thread nD τ) ↦[arg3.view.set]{fullShare} arg3.view.rep x0)
        ∗ (arg4.view.loc (c : Thread nD τ) ↦[arg4.view.set]{fullShare} arg4.view.rep x1)
        ∗ (arg5.view.loc (c : Thread nD τ) ↦[arg5.view.set]{fullShare} arg5.view.rep x2)
        ∗ (arg6.view.loc (c : Thread nD τ) ↦[arg6.view.set]{fullShare} arg6.view.rep x3)
        ∗ (arg7.view.loc (c : Thread nD τ) ↦[arg7.view.set]{fullShare} arg7.view.rep x4)
        ∗ (arg8.view.loc (c : Thread nD τ) ↦[arg8.view.set]{fullShare} arg8.view.rep x5)
        ∗ (arg9.view.loc (c : Thread nD τ) ↦[arg9.view.set]{fullShare} arg9.view.rep x6)
        ∗ (arg10.view.loc (c : Thread nD τ) ↦[arg10.view.set]{fullShare} arg10.view.rep x7)
        ∗ (arg11.view.loc (c : Thread nD τ) ↦[arg11.view.set]{fullShare} arg11.view.rep x8)
        ∗ (tabM0.view.loc (c : Thread nD τ) ↦{fullShare.right} T0)
        ∗ (tabM1.view.loc (c : Thread nD τ) ↦{fullShare.right} T1)
        ∗ (∃ d, owns (c : Thread nD τ) arg12 fullShare d)
        ∗ (scrM0.view.loc (c : Thread nD τ) ↦{fullShare} xa0)
        ∗ (scrM1.view.loc (c : Thread nD τ) ↦{fullShare} xa1)
        ∗ (iprop((arg3.view.loc (c : Thread nD τ) ↦[arg3.view.set]{fullShare} arg3.view.rep x0)
            ∗ (arg4.view.loc (c : Thread nD τ) ↦[arg4.view.set]{fullShare} arg4.view.rep x1)
            ∗ (arg5.view.loc (c : Thread nD τ) ↦[arg5.view.set]{fullShare} arg5.view.rep x2)
            ∗ (arg6.view.loc (c : Thread nD τ) ↦[arg6.view.set]{fullShare} arg6.view.rep x3)
            ∗ (arg7.view.loc (c : Thread nD τ) ↦[arg7.view.set]{fullShare} arg7.view.rep x4)
            ∗ (arg8.view.loc (c : Thread nD τ) ↦[arg8.view.set]{fullShare} arg8.view.rep x5)
            ∗ (arg9.view.loc (c : Thread nD τ) ↦[arg9.view.set]{fullShare} arg9.view.rep x6)
            ∗ (arg10.view.loc (c : Thread nD τ) ↦[arg10.view.set]{fullShare} arg10.view.rep x7)
            ∗ (arg11.view.loc (c : Thread nD τ) ↦[arg11.view.set]{fullShare} arg11.view.rep x8)
            ∗ (tabM0.view.loc (c : Thread nD τ) ↦{fullShare.right} T0)
            ∗ (tabM1.view.loc (c : Thread nD τ) ↦{fullShare.right} T1)
            ∗ (∃ f, arg12.view.loc (c : Thread nD τ) ↦[arg12.view.set]{fullShare} arg12.view.writes (Elt F) f out0)
            ∗ (scrM0.view.loc (c : Thread nD τ) ↦{fullShare} out1)
            ∗ (scrM1.view.loc (c : Thread nD τ) ↦{fullShare} out2)) -∗ K ⟨⟩))
      ⊢ wp frame (wpE (defs₀ (F := F)) Variants.none c none) Set.univ (cc0_moe_experts i tabM0 (Memref.isWhole_whole _) tabM1 (Memref.isWhole_whole _) arg3 harg3 arg4 harg4 arg5 harg5 arg6 harg6 arg7 harg7 arg8 harg8 arg9 harg9 arg10 harg10 arg11 harg11 arg12 harg12 scrM0 (Memref.isWhole_whole _) scrM1 (Memref.isWhole_whole _)) K

set_option backward.proofsInPublic true in
set_option maxHeartbeats 8000000 in
/-- A point that loads its expert's weights and uses them: what it leaves does not depend on what the scratches held. -/
noncomputable def runLoad (c : Dev nD) (i : grid0.Coords)
  (arg3 : Memref sig .tc .vmem S512x8x128 .f32) (harg3 : arg3.IsWhole)
  (arg4 : Memref sig .tc .vmem S1x1024x512 .f32) (harg4 : arg4.IsWhole)
  (arg5 : Memref sig .tc .vmem S1x1024x512 .f32) (harg5 : arg5.IsWhole)
  (arg6 : Memref sig .tc .vmem S1x1024x512 .f32) (harg6 : arg6.IsWhole)
  (arg7 : Memref sig .tc .vmem S1x1024x512 .f32) (harg7 : arg7.IsWhole)
  (arg8 : Memref sig .tc .vmem S1x1x2048 .f32) (harg8 : arg8.IsWhole)
  (arg9 : Memref sig .tc .vmem S1x512x1024 .f32) (harg9 : arg9.IsWhole)
  (arg10 : Memref sig .tc .vmem S1x512x1024 .f32) (harg10 : arg10.IsWhole)
  (arg11 : Memref sig .tc .vmem S1x1x1024 .f32) (harg11 : arg11.IsWhole)
  (arg12 : Memref sig .tc .vmem S512x8x128 .f32) (harg12 : arg12.IsWhole)
  (T0 : S290.Idx → Elt F .i32) (T1 : S1.Idx → Elt F .i32)
  (x0 : S512x8x128.Idx → Elt F .f32) (x1 : S1x1024x512.Idx → Elt F .f32) (x2 : S1x1024x512.Idx → Elt F .f32) (x3 : S1x1024x512.Idx → Elt F .f32) (x4 : S1x1024x512.Idx → Elt F .f32) (x5 : S1x1x2048.Idx → Elt F .f32) (x6 : S1x512x1024.Idx → Elt F .f32) (x7 : S1x512x1024.Idx → Elt F .f32) (x8 : S1x1x1024.Idx → Elt F .f32)
  (hc0 : loadBit i T0 T1 = 1#1) (hc1 : k0_cond2 i (usedWord T1) = 1#1) (hc2 : ¬k0_cond3 i (usedWord T1) = 1#1) :
    Σ' (out0 : List (View.Piece (Elt F) S512x8x128 .f32)) (out1 : Buf (Elt F) ((c : Thread nD τ).loc cc0_scratch0)),
      { out2 : Buf (Elt F) ((c : Thread nD τ).loc cc0_scratch1) // ∀ xa0 xa1, Runs c i arg3 harg3 arg4 harg4 arg5 harg5 arg6 harg6 arg7 harg7 arg8 harg8 arg9 harg9 arg10 harg10 arg11 harg11 arg12 harg12 T0 T1 x0 x1 x2 x3 x4 x5 x6 x7 x8 xa0 xa1 out0 out1 out2 } :=
  ⟨_, _, _, fun xa0 xa1 K => by
    unfold owns
    rw [cc0_moe_experts_eq_skeleton]; unfold cc0_moe_experts_skel
    iintro ⟨H0, H1, H2, H3, H4, H5, H6, H7, H8, HT0, HT1, ⟨%d9, %f9, -, HO9⟩, HS0, HS1, Hk⟩
    have hS0 : scrM0.IsWhole := Memref.isWhole_whole _
    have hS1 : scrM1.IsWhole := Memref.isWhole_whole _
    have hT0 : tabM0.IsWhole := Memref.isWhole_whole _
    have hT1 : tabM1.IsWhole := Memref.isWhole_whole _
    sl_exec! (disch := first | (guard_target = Scalar.cmpi = _; exact hc0) | (guard_target = k0_cond2 _ _ = _; exact hc1) | (guard_target = ¬(k0_cond3 _ _ = _); exact hc2))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HT0]; · iexact HT0
    isplitl [HT1]; · iexact HT1
    isplitl [HO9]; · iexists _; iexact HO9
    isplitl [HS0]; · iexact HS0
    iexact HS1⟩

set_option backward.proofsInPublic true in
set_option maxHeartbeats 8000000 in
/-- A point that uses the weights already in the scratches, and leaves those as they are. -/
noncomputable def runKeep (c : Dev nD) (i : grid0.Coords)
  (arg3 : Memref sig .tc .vmem S512x8x128 .f32) (harg3 : arg3.IsWhole)
  (arg4 : Memref sig .tc .vmem S1x1024x512 .f32) (harg4 : arg4.IsWhole)
  (arg5 : Memref sig .tc .vmem S1x1024x512 .f32) (harg5 : arg5.IsWhole)
  (arg6 : Memref sig .tc .vmem S1x1024x512 .f32) (harg6 : arg6.IsWhole)
  (arg7 : Memref sig .tc .vmem S1x1024x512 .f32) (harg7 : arg7.IsWhole)
  (arg8 : Memref sig .tc .vmem S1x1x2048 .f32) (harg8 : arg8.IsWhole)
  (arg9 : Memref sig .tc .vmem S1x512x1024 .f32) (harg9 : arg9.IsWhole)
  (arg10 : Memref sig .tc .vmem S1x512x1024 .f32) (harg10 : arg10.IsWhole)
  (arg11 : Memref sig .tc .vmem S1x1x1024 .f32) (harg11 : arg11.IsWhole)
  (arg12 : Memref sig .tc .vmem S512x8x128 .f32) (harg12 : arg12.IsWhole)
  (T0 : S290.Idx → Elt F .i32) (T1 : S1.Idx → Elt F .i32)
  (x0 : S512x8x128.Idx → Elt F .f32) (x1 : S1x1024x512.Idx → Elt F .f32) (x2 : S1x1024x512.Idx → Elt F .f32) (x3 : S1x1024x512.Idx → Elt F .f32) (x4 : S1x1024x512.Idx → Elt F .f32) (x5 : S1x1x2048.Idx → Elt F .f32) (x6 : S1x512x1024.Idx → Elt F .f32) (x7 : S1x512x1024.Idx → Elt F .f32) (x8 : S1x1x1024.Idx → Elt F .f32)
  (xa0 : Buf (Elt F) ((c : Thread nD τ).loc cc0_scratch0)) (xa1 : Buf (Elt F) ((c : Thread nD τ).loc cc0_scratch1)) (hc0 : ¬loadBit i T0 T1 = 1#1) (hc1 : k0_cond2 i (usedWord T1) = 1#1) (hc2 : ¬k0_cond3 i (usedWord T1) = 1#1) :
    Σ' (out0 : List (View.Piece (Elt F) S512x8x128 .f32)) (out1 : Buf (Elt F) ((c : Thread nD τ).loc cc0_scratch0)),
      { out2 : Buf (Elt F) ((c : Thread nD τ).loc cc0_scratch1) // Runs c i arg3 harg3 arg4 harg4 arg5 harg5 arg6 harg6 arg7 harg7 arg8 harg8 arg9 harg9 arg10 harg10 arg11 harg11 arg12 harg12 T0 T1 x0 x1 x2 x3 x4 x5 x6 x7 x8 xa0 xa1 out0 out1 out2 } :=
  ⟨_, _, _, fun K => by
    unfold owns
    rw [cc0_moe_experts_eq_skeleton]; unfold cc0_moe_experts_skel
    iintro ⟨H0, H1, H2, H3, H4, H5, H6, H7, H8, HT0, HT1, ⟨%d9, %f9, -, HO9⟩, HS0, HS1, Hk⟩
    have hS0 : scrM0.IsWhole := Memref.isWhole_whole _
    have hS1 : scrM1.IsWhole := Memref.isWhole_whole _
    have hT0 : tabM0.IsWhole := Memref.isWhole_whole _
    have hT1 : tabM1.IsWhole := Memref.isWhole_whole _
    sl_exec! (disch := first | (guard_target = ¬(Scalar.cmpi = _); exact hc0) | (guard_target = k0_cond2 _ _ = _; exact hc1) | (guard_target = ¬(k0_cond3 _ _ = _); exact hc2))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HT0]; · iexact HT0
    isplitl [HT1]; · iexact HT1
    isplitl [HO9]; · iexists _; iexact HO9
    isplitl [HS0]; · iexact HS0
    iexact HS1⟩

set_option backward.proofsInPublic true in
set_option maxHeartbeats 8000000 in
/-- A point past the used blocks: it leaves the scratches as they are. -/
noncomputable def runIdle (c : Dev nD) (i : grid0.Coords)
  (arg3 : Memref sig .tc .vmem S512x8x128 .f32) (harg3 : arg3.IsWhole)
  (arg4 : Memref sig .tc .vmem S1x1024x512 .f32) (harg4 : arg4.IsWhole)
  (arg5 : Memref sig .tc .vmem S1x1024x512 .f32) (harg5 : arg5.IsWhole)
  (arg6 : Memref sig .tc .vmem S1x1024x512 .f32) (harg6 : arg6.IsWhole)
  (arg7 : Memref sig .tc .vmem S1x1024x512 .f32) (harg7 : arg7.IsWhole)
  (arg8 : Memref sig .tc .vmem S1x1x2048 .f32) (harg8 : arg8.IsWhole)
  (arg9 : Memref sig .tc .vmem S1x512x1024 .f32) (harg9 : arg9.IsWhole)
  (arg10 : Memref sig .tc .vmem S1x512x1024 .f32) (harg10 : arg10.IsWhole)
  (arg11 : Memref sig .tc .vmem S1x1x1024 .f32) (harg11 : arg11.IsWhole)
  (arg12 : Memref sig .tc .vmem S512x8x128 .f32) (harg12 : arg12.IsWhole)
  (T0 : S290.Idx → Elt F .i32) (T1 : S1.Idx → Elt F .i32)
  (x0 : S512x8x128.Idx → Elt F .f32) (x1 : S1x1024x512.Idx → Elt F .f32) (x2 : S1x1024x512.Idx → Elt F .f32) (x3 : S1x1024x512.Idx → Elt F .f32) (x4 : S1x1024x512.Idx → Elt F .f32) (x5 : S1x1x2048.Idx → Elt F .f32) (x6 : S1x512x1024.Idx → Elt F .f32) (x7 : S1x512x1024.Idx → Elt F .f32) (x8 : S1x1x1024.Idx → Elt F .f32)
  (xa0 : Buf (Elt F) ((c : Thread nD τ).loc cc0_scratch0)) (xa1 : Buf (Elt F) ((c : Thread nD τ).loc cc0_scratch1)) (hc0 : ¬loadBit i T0 T1 = 1#1) (hc1 : ¬k0_cond2 i (usedWord T1) = 1#1) (hc2 : k0_cond3 i (usedWord T1) = 1#1) :
    Σ' (out0 : List (View.Piece (Elt F) S512x8x128 .f32)) (out1 : Buf (Elt F) ((c : Thread nD τ).loc cc0_scratch0)),
      { out2 : Buf (Elt F) ((c : Thread nD τ).loc cc0_scratch1) // Runs c i arg3 harg3 arg4 harg4 arg5 harg5 arg6 harg6 arg7 harg7 arg8 harg8 arg9 harg9 arg10 harg10 arg11 harg11 arg12 harg12 T0 T1 x0 x1 x2 x3 x4 x5 x6 x7 x8 xa0 xa1 out0 out1 out2 } :=
  ⟨_, _, _, fun K => by
    unfold owns
    rw [cc0_moe_experts_eq_skeleton]; unfold cc0_moe_experts_skel
    iintro ⟨H0, H1, H2, H3, H4, H5, H6, H7, H8, HT0, HT1, ⟨%d9, %f9, -, HO9⟩, HS0, HS1, Hk⟩
    have hS0 : scrM0.IsWhole := Memref.isWhole_whole _
    have hS1 : scrM1.IsWhole := Memref.isWhole_whole _
    have hT0 : tabM0.IsWhole := Memref.isWhole_whole _
    have hT1 : tabM1.IsWhole := Memref.isWhole_whole _
    sl_exec! (disch := first | (guard_target = ¬(Scalar.cmpi = _); exact hc0) | (guard_target = ¬(k0_cond2 _ _ = _); exact hc1) | (guard_target = k0_cond3 _ _ = _; exact hc2))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HT0]; · iexact HT0
    isplitl [HT1]; · iexact HT1
    isplitl [HO9]; · iexists _; iexact HO9
    isplitl [HS0]; · iexact HS0
    iexact HS1⟩

end Cert.ExpertsIdeal.Rows

end
-- ==== Proof.ExpWords.lean ====
/- The experts' tables: what the body and the index maps read of the blocks' experts and of the number of used blocks,
   at tables in range, and the points the body loads at, keeps at and idles at. -/
module

public import proofs.«01_k».proof.Proof.ExpRun
public import Idealize.ShloMosaic.Lib.Pointwise

@[expose] public section

set_option maxRecDepth 16384

noncomputable section

namespace Cert.ExpertsIdeal.Rows

open Cert.ExpertsIdeal Cert.ExpertsIdeal.Gen
open Idealize.ShloMosaic Idealize.ShloMosaic.TcCoe Idealize.SL.Sem

variable {F : FTy → Type} [FloatOps F]

/-- Every block's expert is one of the thirty-two, and the number of used blocks is positive. -/
structure Fits (T0 : S290.Idx → BitVec 32) (T1 : S1.Idx → BitVec 32) : Prop where
  expert : ∀ i, (T0 i).toNat < 32
  one : 1 ≤ (T1 (ix1 0)).toNat
  all : (T1 (ix1 0)).toNat < 2147483648

/-! ## The words read -/

theorem coord_nat (i : grid0.Coords) : (BitVec.ofNat 32 (i 0).val).toNat = (i 0).val := by
  have h : (i 0).val < 290 := (i 0).isLt
  rw [BitVec.toNat_ofNat, Nat.mod_eq_of_lt (by omega)]

theorem off1_eq (i : grid0.Coords) : k0_off1 i 0 = (i 0).val := coord_nat i

theorem prior_nat : ∀ n : Fin 290, (Scalar.maxsi (Scalar.subi (BitVec.ofNat 32 n.val) 1#32) 0#32).toNat = n.val - 1 := by
  decide +kernel

theorem off2_eq (i : grid0.Coords) : k0_off2 i 0 = (i 0).val - 1 := prior_nat (i 0)

theorem usedWord_eq (T1 : S1.Idx → BitVec 32) : usedWord (F := F) T1 = T1 (ix1 0) := by
  refine congrArg T1 (funext fun (a : Fin 1) => ?_)
  match a with
  | ⟨0, _⟩ => exact Fin.ext rfl

theorem expertWord_eq (i : grid0.Coords) (T0 : S290.Idx → BitVec 32) : expertWord (F := F) i T0 = T0 (ix1 (i 0)) := by
  refine congrArg T0 (funext fun (a : Fin 1) => ?_)
  match a with
  | ⟨0, _⟩ => exact Fin.ext (by show k0_off1 i 0 + 1 * 0 = (i 0).val; rw [off1_eq]; omega)

theorem priorWord_eq (i : grid0.Coords) (T0 : S290.Idx → BitVec 32) (k : Fin 290) (hk : k.val = (i 0).val - 1) :
    priorWord (F := F) i T0 = T0 (ix1 k) := by
  refine congrArg T0 (funext fun (a : Fin 1) => ?_)
  match a with
  | ⟨0, _⟩ => exact Fin.ext (by show k0_off2 i 0 + 1 * 0 = k.val; rw [off2_eq]; omega)

/-! ## The conditions -/

theorem slt_small {x y : BitVec 32} (hx : x.toNat < 2147483648) (hy : y.toNat < 2147483648) : x.slt y = decide (x.toNat < y.toNat) := by
  unfold BitVec.slt
  rw [BitVec.toInt_eq_toNat_of_lt (by omega), BitVec.toInt_eq_toNat_of_lt (by omega)]
  simp

theorem sle_small {x y : BitVec 32} (hx : x.toNat < 2147483648) (hy : y.toNat < 2147483648) : x.sle y = decide (x.toNat ≤ y.toNat) := by
  unfold BitVec.sle
  rw [BitVec.toInt_eq_toNat_of_lt (by omega), BitVec.toInt_eq_toNat_of_lt (by omega)]
  simp

theorem bit_ne (b : Bool) : (Scalar.cmpi .ne (Scalar.extui (BitVec.ofBool b) : BitVec 32) 0#32 = 1#1) ↔ b = true := by
  cases b <;> decide

theorem bit_and (a b c : Bool) :
    Scalar.andi (BitVec.ofBool a) (Scalar.ori (BitVec.ofBool b) (BitVec.ofBool c)) = BitVec.ofBool (a && (b || c)) := by
  cases a <;> cases b <;> cases c <;> decide

theorem cond2_iff (i : grid0.Coords) (w : BitVec 32) (hw : w.toNat < 2147483648) : k0_cond2 i w = 1#1 ↔ (i 0).val < w.toNat := by
  have h : (i 0).val < 290 := (i 0).isLt
  have hc := coord_nat i
  refine (bit_ne _).trans ?_
  show (BitVec.ofNat 32 (i 0).val).slt w = true ↔ _
  rw [slt_small (by omega) (by omega), hc, decide_eq_true_iff]

theorem cond3_iff (i : grid0.Coords) (w : BitVec 32) (hw : w.toNat < 2147483648) : k0_cond3 i w = 1#1 ↔ ¬(i 0).val < w.toNat := by
  have h : (i 0).val < 290 := (i 0).isLt
  have hc := coord_nat i
  refine (bit_ne _).trans ?_
  show w.sle (BitVec.ofNat 32 (i 0).val) = true ↔ _
  rw [sle_small (by omega) (by omega), hc, decide_eq_true_iff]
  omega

/-- The block is used. -/
abbrev used (T1 : S1.Idx → BitVec 32) (i : grid0.Coords) : Prop := (i 0).val < (T1 (ix1 0)).toNat

theorem used_iff {T0 : S290.Idx → BitVec 32} {T1 : S1.Idx → BitVec 32} (h : Fits T0 T1) (i : grid0.Coords) :
    k0_cond2 i (usedWord (F := F) T1) = 1#1 ↔ used T1 i := by
  rw [usedWord_eq]; exact cond2_iff i _ h.all

theorem idle_iff {T0 : S290.Idx → BitVec 32} {T1 : S1.Idx → BitVec 32} (h : Fits T0 T1) (i : grid0.Coords) :
    k0_cond3 i (usedWord (F := F) T1) = 1#1 ↔ ¬used T1 i := by
  rw [usedWord_eq]; exact cond3_iff i _ h.all

/-- A point that loads is used. -/
theorem load_iff {T0 : S290.Idx → BitVec 32} {T1 : S1.Idx → BitVec 32} (h : Fits T0 T1) (i : grid0.Coords) :
    loadBit (F := F) i T0 T1 = 1#1 ↔ used T1 i ∧ ((i 0).val = 0 ∨ expertWord (F := F) i T0 ≠ priorWord (F := F) i T0) := by
  have hi : (i 0).val < 290 := (i 0).isLt
  have hc := coord_nat i
  have ha := h.all
  have e : loadBit (F := F) i T0 T1 = Scalar.cmpi .ne (Scalar.extui (BitVec.ofBool ((BitVec.ofNat 32 (i 0).val).slt (usedWord (F := F) T1)
      && ((BitVec.ofNat 32 (i 0).val == 0#32) || (expertWord (F := F) i T0 != priorWord (F := F) i T0)))) : BitVec 32) 0#32 := by
    rw [← bit_and]; rfl
  rw [e, bit_ne, usedWord_eq, slt_small (by omega) (by omega), hc]
  have z : (BitVec.ofNat 32 (i 0).val == 0#32) = decide ((i 0).val = 0) := by
    rw [Bool.eq_iff_iff, beq_iff_eq, decide_eq_true_iff]
    constructor
    · intro hz; rw [← hc, hz]; rfl
    · intro hz; rw [hz]
  rw [z]
  simp only [Bool.and_eq_true, Bool.or_eq_true, decide_eq_true_eq, bne_iff_ne, ne_eq]

/-! ## The index maps -/

theorem clamp_nat (n : Fin 290) (w : BitVec 32) (h1 : 1 ≤ w.toNat) (h2 : w.toNat < 2147483648) :
    (Scalar.minsi (BitVec.ofNat 32 n.val) (Scalar.subi w 1#32)).toNat = min n.val (w.toNat - 1) := by
  have hn := n.isLt
  have hc : (BitVec.ofNat 32 n.val).toNat = n.val := by rw [BitVec.toNat_ofNat, Nat.mod_eq_of_lt (by omega)]
  have hs : (w - 1#32).toNat = w.toNat - 1 := by
    rw [BitVec.toNat_sub]
    show (2 ^ 32 - 1 + w.toNat) % 2 ^ 32 = _
    omega
  show (if (BitVec.ofNat 32 n.val).slt (w - 1#32) then BitVec.ofNat 32 n.val else w - 1#32).toNat = _
  rw [slt_small (by omega) (by omega), hc, hs]
  by_cases hlt : n.val < w.toNat - 1
  · rw [decide_eq_true hlt, if_pos rfl, hc]; omega
  · rw [decide_eq_false hlt, if_neg (by decide), hs]; omega

variable (pf : pre0.Contents (Elt F))

/-- The table of experts among the region's tables. -/
abbrev tab0 : S290.Idx → BitVec 32 := pf 0
/-- The number of used blocks among them. -/
abbrev tab1 : S1.Idx → BitVec 32 := pf 1

theorem map0 (h : Fits (tab0 pf) (tab1 pf)) (i : grid0.Coords) :
    cc0_transform_0 inb_S1_S1_0 numel1_S1 pf i = ![min (i 0).val ((tab1 pf (ix1 0)).toNat - 1), 0, 0] := by
  have e : cc0_transform_0 inb_S1_S1_0 numel1_S1 pf i
      = ![(Scalar.minsi (BitVec.ofNat 32 (i 0).val) (Scalar.subi (usedWord (F := F) (tab1 pf)) 1#32)).toNat, 0, 0] := rfl
  rw [e, usedWord_eq, clamp_nat (i 0) _ h.one h.all]

theorem map1 (i : grid0.Coords) : cc0_transform_1 k0_off1_inb numel1_S1 pf i = ![(tab0 pf (ix1 (i 0))).toNat, 0, 0] := by
  have e : cc0_transform_1 k0_off1_inb numel1_S1 pf i = ![(expertWord (F := F) i (tab0 pf)).toNat, 0, 0] := rfl
  rw [e, expertWord_eq]

theorem map2 (i : grid0.Coords) : cc0_transform_2 k0_off1_inb numel1_S1 pf i = ![(tab0 pf (ix1 (i 0))).toNat, 0, 1] := by
  have e : cc0_transform_2 k0_off1_inb numel1_S1 pf i = ![(expertWord (F := F) i (tab0 pf)).toNat, 0, 1] := rfl
  rw [e, expertWord_eq]

theorem map3 (i : grid0.Coords) : cc0_transform_3 k0_off1_inb numel1_S1 pf i = ![(tab0 pf (ix1 (i 0))).toNat, 0, 2] := by
  have e : cc0_transform_3 k0_off1_inb numel1_S1 pf i = ![(expertWord (F := F) i (tab0 pf)).toNat, 0, 2] := rfl
  rw [e, expertWord_eq]

theorem map4 (i : grid0.Coords) : cc0_transform_4 k0_off1_inb numel1_S1 pf i = ![(tab0 pf (ix1 (i 0))).toNat, 0, 3] := by
  have e : cc0_transform_4 k0_off1_inb numel1_S1 pf i = ![(expertWord (F := F) i (tab0 pf)).toNat, 0, 3] := rfl
  rw [e, expertWord_eq]

theorem map5 (i : grid0.Coords) : cc0_transform_5 k0_off1_inb numel1_S1 pf i = ![(tab0 pf (ix1 (i 0))).toNat, 0, 0] := by
  have e : cc0_transform_5 k0_off1_inb numel1_S1 pf i = ![(expertWord (F := F) i (tab0 pf)).toNat, 0, 0] := rfl
  rw [e, expertWord_eq]

theorem map6 (i : grid0.Coords) : cc0_transform_6 k0_off1_inb numel1_S1 pf i = ![(tab0 pf (ix1 (i 0))).toNat, 0, 0] := by
  have e : cc0_transform_6 k0_off1_inb numel1_S1 pf i = ![(expertWord (F := F) i (tab0 pf)).toNat, 0, 0] := rfl
  rw [e, expertWord_eq]

theorem map7 (i : grid0.Coords) : cc0_transform_7 k0_off1_inb numel1_S1 pf i = ![(tab0 pf (ix1 (i 0))).toNat, 1, 0] := by
  have e : cc0_transform_7 k0_off1_inb numel1_S1 pf i = ![(expertWord (F := F) i (tab0 pf)).toNat, 1, 0] := rfl
  rw [e, expertWord_eq]

theorem map8 (i : grid0.Coords) : cc0_transform_8 k0_off1_inb numel1_S1 pf i = ![(tab0 pf (ix1 (i 0))).toNat, 0, 0] := by
  have e : cc0_transform_8 k0_off1_inb numel1_S1 pf i = ![(expertWord (F := F) i (tab0 pf)).toNat, 0, 0] := rfl
  rw [e, expertWord_eq]

/-- The tables in range are admissible: every window's block lies in its array. -/
theorem ok_of_fits (h : Fits (tab0 pf) (tab1 pf)) : ok0 pf := by
  have h0 := h.one
  have h1 := h.all
  refine ⟨?_, ?_, ?_, ?_, ?_, ?_, ?_, ?_, ?_⟩
  · refine fun i => ⟨fun (a : Fin 3) => ?_, .inl rfl⟩
    have hi : (i 0).val < 290 := (i 0).isLt
    rw [map0 pf h i]
    match a with
    | ⟨0, _⟩ => show (min (i 0).val ((tab1 pf (ix1 0)).toNat - 1) + 1) * 512 ≤ 148480; omega
    | ⟨1, _⟩ => show (0 + 1) * 8 ≤ 8; omega
    | ⟨2, _⟩ => show (0 + 1) * 128 ≤ 128; omega
  · refine fun i => ⟨fun (a : Fin 3) => ?_, .inl rfl⟩
    have he : (tab0 pf (ix1 (i 0))).toNat < 32 := h.expert _
    rw [map1 pf i]
    match a with
    | ⟨0, _⟩ => show ((tab0 pf (ix1 (i 0))).toNat + 1) * 1 ≤ 32; omega
    | ⟨1, _⟩ => show (0 + 1) * 1024 ≤ 1024; omega
    | ⟨2, _⟩ => show (0 + 1) * 512 ≤ 2048; omega
  · refine fun i => ⟨fun (a : Fin 3) => ?_, .inl rfl⟩
    have he : (tab0 pf (ix1 (i 0))).toNat < 32 := h.expert _
    rw [map2 pf i]
    match a with
    | ⟨0, _⟩ => show ((tab0 pf (ix1 (i 0))).toNat + 1) * 1 ≤ 32; omega
    | ⟨1, _⟩ => show (0 + 1) * 1024 ≤ 1024; omega
    | ⟨2, _⟩ => show (1 + 1) * 512 ≤ 2048; omega
  · refine fun i => ⟨fun (a : Fin 3) => ?_, .inl rfl⟩
    have he : (tab0 pf (ix1 (i 0))).toNat < 32 := h.expert _
    rw [map3 pf i]
    match a with
    | ⟨0, _⟩ => show ((tab0 pf (ix1 (i 0))).toNat + 1) * 1 ≤ 32; omega
    | ⟨1, _⟩ => show (0 + 1) * 1024 ≤ 1024; omega
    | ⟨2, _⟩ => show (2 + 1) * 512 ≤ 2048; omega
  · refine fun i => ⟨fun (a : Fin 3) => ?_, .inl rfl⟩
    have he : (tab0 pf (ix1 (i 0))).toNat < 32 := h.expert _
    rw [map4 pf i]
    match a with
    | ⟨0, _⟩ => show ((tab0 pf (ix1 (i 0))).toNat + 1) * 1 ≤ 32; omega
    | ⟨1, _⟩ => show (0 + 1) * 1024 ≤ 1024; omega
    | ⟨2, _⟩ => show (3 + 1) * 512 ≤ 2048; omega
  · refine fun i => ⟨fun (a : Fin 3) => ?_, .inl rfl⟩
    have he : (tab0 pf (ix1 (i 0))).toNat < 32 := h.expert _
    rw [map5 pf i]
    match a with
    | ⟨0, _⟩ => show ((tab0 pf (ix1 (i 0))).toNat + 1) * 1 ≤ 32; omega
    | ⟨1, _⟩ => show (0 + 1) * 1 ≤ 1; omega
    | ⟨2, _⟩ => show (0 + 1) * 2048 ≤ 2048; omega
  · refine fun i => ⟨fun (a : Fin 3) => ?_, .inl rfl⟩
    have he : (tab0 pf (ix1 (i 0))).toNat < 32 := h.expert _
    rw [map6 pf i]
    match a with
    | ⟨0, _⟩ => show ((tab0 pf (ix1 (i 0))).toNat + 1) * 1 ≤ 32; omega
    | ⟨1, _⟩ => show (0 + 1) * 512 ≤ 1024; omega
    | ⟨2, _⟩ => show (0 + 1) * 1024 ≤ 1024; omega
  · refine fun i => ⟨fun (a : Fin 3) => ?_, .inl rfl⟩
    have he : (tab0 pf (ix1 (i 0))).toNat < 32 := h.expert _
    rw [map7 pf i]
    match a with
    | ⟨0, _⟩ => show ((tab0 pf (ix1 (i 0))).toNat + 1) * 1 ≤ 32; omega
    | ⟨1, _⟩ => show (1 + 1) * 512 ≤ 1024; omega
    | ⟨2, _⟩ => show (0 + 1) * 1024 ≤ 1024; omega
  · refine fun i => ⟨fun (a : Fin 3) => ?_, .inl rfl⟩
    have he : (tab0 pf (ix1 (i 0))).toNat < 32 := h.expert _
    rw [map8 pf i]
    match a with
    | ⟨0, _⟩ => show ((tab0 pf (ix1 (i 0))).toNat + 1) * 1 ≤ 32; omega
    | ⟨1, _⟩ => show (0 + 1) * 1 ≤ 1; omega
    | ⟨2, _⟩ => show (0 + 1) * 1024 ≤ 1024; omega

/-- No point leaves the output idle. -/
theorem live (h : Fits (tab0 pf) (tab1 pf)) (i : grid0.Coords) : idle0 pf 9 i = false := by
  have e : pf.atD 1 ![0] = usedWord (F := F) (tab1 pf) := by
    rw [usedWord_eq]
    refine (dif_pos (fun (a : Fin 1) => ?_)).trans ?_
    · match a with
      | ⟨0, _⟩ => exact Nat.le_refl 1
    · refine congrArg (tab1 pf) (funext fun (a : Fin 1) => ?_)
      match a with
      | ⟨0, _⟩ => rfl
  show (!(k0_cond2 i (pf.atD 1 ![0]) == 1#1) && !(k0_cond3 i (pf.atD 1 ![0]) == 1#1)) = false
  rw [e]
  by_cases hu : used (tab1 pf) i
  · rw [(used_iff (F := F) h i).2 hu]; rfl
  · rw [(idle_iff (F := F) h i).2 hu]
    exact Bool.and_false _

end Cert.ExpertsIdeal.Rows

end
-- ==== Proof.ExpBody.lean ====
/- The experts' body, what its three runs leave: the block of the output, and the two scratches with the weights of the
   point's expert. -/
module

public import proofs.«01_k».proof.Proof.ExpWords
public import Idealize.ShloMosaic.Lib.VecWindow

@[expose] public section

set_option maxRecDepth 16384

noncomputable section

namespace Cert.ExpertsIdeal.Rows

open Cert.ExpertsIdeal Cert.ExpertsIdeal.Gen
open Idealize.ShloMosaic Idealize.ShloMosaic.TcCoe
open Idealize.SL.Sem

variable {F : FTy → Type} [FloatOps F]

section Views

variable {sig : RefSig} {κ : Kind} {sp : Space} {s : Shape} {e : EltTy} {Val : EltTy → Type}

/-- A load where the last store went reads what it stored. -/
theorem readAt_hit (v : View sig κ sp s e) (f : v.ty.Contents Val) {off size : Fin s.rank → ℕ} (inb : ∀ a, off a + size a ≤ s.size a)
    (w : (Rect.unit off size inb).shape.Idx → Val e) (L : List (View.Piece Val s e)) :
    v.readAt Val (Rect.unit off size inb).toLoadRect (v.writes Val f (⟨Rect.unit off size inb, w⟩ :: L)) = w := by
  rw [View.readAt_unit v _ inb rfl inb, View.read_writes_cons_put v f inb w L rfl, VecWindow.window_put_same]

/-- A load apart from the last store on some axis reads as if it had not been. -/
theorem readAt_miss (v : View sig κ sp s e) (f : v.ty.Contents Val) {off size off' size' : Fin s.rank → ℕ} (inb : ∀ a, off a + size a ≤ s.size a)
    (inb' : ∀ a, off' a + size' a ≤ s.size a) (w : (Rect.unit off size inb).shape.Idx → Val e) (L : List (View.Piece Val s e))
    (a : Fin s.rank) (ha : off' a + size' a ≤ off a ∨ off a + size a ≤ off' a) :
    v.readAt Val (Rect.unit off' size' inb').toLoadRect (v.writes Val f (⟨Rect.unit off size inb, w⟩ :: L))
      = v.readAt Val (Rect.unit off' size' inb').toLoadRect (v.writes Val f L) := by
  rw [View.readAt_unit v _ inb' rfl inb', View.readAt_unit v _ inb' rfl inb', View.read_writes_cons_put v f inb w L rfl,
    VecWindow.window_put_of_disjoint _ _ _ _ _ _ _ a ha]

end Views

/-! ## The output's block -/

/-- The columns of the first layer's bias from `o` on. -/
abbrev bias (x5 : S1x1x2048.Idx → Elt F .f32) (o : ℕ) (h : ∀ a, ![0, 0, o] a + S1x1x512.size a ≤ S1x1x2048.size a) : Vec F S1x1x512 .f32 :=
  VecWindow.window (s := S1x1x2048) x5 ![0, 0, o] S1x1x512.size h

/-- One block of the output, from the block of the input, the biases and the weights as loaded. -/
def outBlock (x0 : S512x8x128.Idx → Elt F .f32) (x5 : S1x1x2048.Idx → Elt F .f32) (x8 : S1x1x1024.Idx → Elt F .f32)
    (s0 s1 s2 s3 : Vec F S1x1024x512 .bf16) (u0 u1 : Vec F S1x512x1024 .bf16) : FVec F S512x8x128 .f32 :=
  k0_pay3 (k0_pay16 x8) (k0_pay17 (k0_pay11 x0 s0 (bias x5 0 inb_S1x1x2048_S1x1x512_0_0_0))
    (k0_pay12 x0 s2 (bias x5 1024 inb_S1x1x2048_S1x1x512_0_0_1024)) (k0_pay13 x0 s1 (bias x5 512 inb_S1x1x2048_S1x1x512_0_0_512))
    (k0_pay14 x0 s3) (k0_pay15 (bias x5 1536 inb_S1x1x2048_S1x1x512_0_0_1536)) u0 u1)

/-- It, from the blocks the point was given. -/
def outAt (x0 : S512x8x128.Idx → Elt F .f32) (x1 x2 x3 x4 : S1x1024x512.Idx → Elt F .f32) (x5 : S1x1x2048.Idx → Elt F .f32)
    (x6 x7 : S1x512x1024.Idx → Elt F .f32) (x8 : S1x1x1024.Idx → Elt F .f32) : FVec F S512x8x128 .f32 :=
  outBlock x0 x5 x8 (k0_pay5 x1) (k0_pay6 x2) (k0_pay7 x3) (k0_pay8 x4) (k0_pay1 (k0_pay9 x6)) (k0_pay2 x7)

/-- The scratches hold the rounded weights of the blocks `x1 … x4` and `x6 x7`. -/
structure Loaded (c : Dev nD) (x1 x2 x3 x4 : S1x1024x512.Idx → Elt F .f32) (x6 x7 : S1x512x1024.Idx → Elt F .f32)
    (a0 : Buf (Elt F) ((c : Thread nD τ).loc cc0_scratch0)) (a1 : Buf (Elt F) ((c : Thread nD τ).loc cc0_scratch1)) : Prop where
  w0 : View.readAt (Elt F) scrM0.view (Rect.unit (s := S4x1024x512) ![0, 0, 0] S1x1024x512.size inb_S4x1024x512_S1x1024x512_0_0_0).toLoadRect a0 = k0_pay5 x1
  w1 : View.readAt (Elt F) scrM0.view (Rect.unit (s := S4x1024x512) ![1, 0, 0] S1x1024x512.size inb_S4x1024x512_S1x1024x512_1_0_0).toLoadRect a0 = k0_pay6 x2
  w2 : View.readAt (Elt F) scrM0.view (Rect.unit (s := S4x1024x512) ![2, 0, 0] S1x1024x512.size inb_S4x1024x512_S1x1024x512_2_0_0).toLoadRect a0 = k0_pay7 x3
  w3 : View.readAt (Elt F) scrM0.view (Rect.unit (s := S4x1024x512) ![3, 0, 0] S1x1024x512.size inb_S4x1024x512_S1x1024x512_3_0_0).toLoadRect a0 = k0_pay8 x4
  u0 : View.readAt (Elt F) scrM1.view (Rect.unit (s := S2x512x1024) ![0, 0, 0] S1x512x1024.size inb_S2x512x1024_S1x512x1024_0_0_0).toLoadRect a1 = k0_pay1 (k0_pay9 x6)
  u1 : View.readAt (Elt F) scrM1.view (Rect.unit (s := S2x512x1024) ![1, 0, 0] S1x512x1024.size inb_S2x512x1024_S1x512x1024_1_0_0).toLoadRect a1 = k0_pay2 x7

/-- The first layer's weights stored over anything. -/
theorem stored0 (f : scrM0.view.ty.Contents (Elt F)) (y0 y1 y2 y3 : Vec F S1x1024x512 .bf16) (L : List (View.Piece (Elt F) S4x1024x512 .bf16))
    (hL : L = [⟨Rect.unit (s := S4x1024x512) ![3, 0, 0] S1x1024x512.size inb_S4x1024x512_S1x1024x512_3_0_0, y3⟩,
      ⟨Rect.unit (s := S4x1024x512) ![2, 0, 0] S1x1024x512.size inb_S4x1024x512_S1x1024x512_2_0_0, y2⟩,
      ⟨Rect.unit (s := S4x1024x512) ![1, 0, 0] S1x1024x512.size inb_S4x1024x512_S1x1024x512_1_0_0, y1⟩,
      ⟨Rect.unit (s := S4x1024x512) ![0, 0, 0] S1x1024x512.size inb_S4x1024x512_S1x1024x512_0_0_0, y0⟩]) :
    View.readAt (Elt F) scrM0.view (Rect.unit (s := S4x1024x512) ![0, 0, 0] S1x1024x512.size inb_S4x1024x512_S1x1024x512_0_0_0).toLoadRect (scrM0.view.writes (Elt F) f L) = y0
      ∧ View.readAt (Elt F) scrM0.view (Rect.unit (s := S4x1024x512) ![1, 0, 0] S1x1024x512.size inb_S4x1024x512_S1x1024x512_1_0_0).toLoadRect (scrM0.view.writes (Elt F) f L) = y1
      ∧ View.readAt (Elt F) scrM0.view (Rect.unit (s := S4x1024x512) ![2, 0, 0] S1x1024x512.size inb_S4x1024x512_S1x1024x512_2_0_0).toLoadRect (scrM0.view.writes (Elt F) f L) = y2
      ∧ View.readAt (Elt F) scrM0.view (Rect.unit (s := S4x1024x512) ![3, 0, 0] S1x1024x512.size inb_S4x1024x512_S1x1024x512_3_0_0).toLoadRect (scrM0.view.writes (Elt F) f L) = y3 := by
  subst hL
  refine ⟨?_, ?_, ?_, ?_⟩
  · rw [readAt_miss _ _ _ _ _ _ 0 (by decide), readAt_miss _ _ _ _ _ _ 0 (by decide), readAt_miss _ _ _ _ _ _ 0 (by decide), readAt_hit]
  · rw [readAt_miss _ _ _ _ _ _ 0 (by decide), readAt_miss _ _ _ _ _ _ 0 (by decide), readAt_hit]
  · rw [readAt_miss _ _ _ _ _ _ 0 (by decide), readAt_hit]
  · rw [readAt_hit]

/-- The second layer's weights stored over anything. -/
theorem stored1 (f : scrM1.view.ty.Contents (Elt F)) (y0 y1 : Vec F S1x512x1024 .bf16) (L : List (View.Piece (Elt F) S2x512x1024 .bf16))
    (hL : L = [⟨Rect.unit (s := S2x512x1024) ![1, 0, 0] S1x512x1024.size inb_S2x512x1024_S1x512x1024_1_0_0, y1⟩,
      ⟨Rect.unit (s := S2x512x1024) ![0, 0, 0] S1x512x1024.size inb_S2x512x1024_S1x512x1024_0_0_0, y0⟩]) :
    View.readAt (Elt F) scrM1.view (Rect.unit (s := S2x512x1024) ![0, 0, 0] S1x512x1024.size inb_S2x512x1024_S1x512x1024_0_0_0).toLoadRect (scrM1.view.writes (Elt F) f L) = y0
      ∧ View.readAt (Elt F) scrM1.view (Rect.unit (s := S2x512x1024) ![1, 0, 0] S1x512x1024.size inb_S2x512x1024_S1x512x1024_1_0_0).toLoadRect (scrM1.view.writes (Elt F) f L) = y1 := by
  subst hL
  refine ⟨?_, ?_⟩
  · rw [readAt_miss _ _ _ _ _ _ 0 (by decide), readAt_hit]
  · rw [readAt_hit]

/-- What the loading run stores into the first scratch. -/
theorem pieces0 (arg4 : Memref sig .tc .vmem S1x1024x512 .f32) (arg5 : Memref sig .tc .vmem S1x1024x512 .f32) (arg6 : Memref sig .tc .vmem S1x1024x512 .f32) (arg7 : Memref sig .tc .vmem S1x1024x512 .f32)
    (x1 : S1x1024x512.Idx → Elt F .f32) (x2 : S1x1024x512.Idx → Elt F .f32) (x3 : S1x1024x512.Idx → Elt F .f32) (x4 : S1x1024x512.Idx → Elt F .f32) :
    runLoad.sl.HS0_4 arg4 arg5 arg6 arg7 x1 x2 x3 x4
      = [⟨Rect.unit (s := S4x1024x512) ![3, 0, 0] S1x1024x512.size inb_S4x1024x512_S1x1024x512_3_0_0, k0_pay8 x4⟩,
        ⟨Rect.unit (s := S4x1024x512) ![2, 0, 0] S1x1024x512.size inb_S4x1024x512_S1x1024x512_2_0_0, k0_pay7 x3⟩,
        ⟨Rect.unit (s := S4x1024x512) ![1, 0, 0] S1x1024x512.size inb_S4x1024x512_S1x1024x512_1_0_0, k0_pay6 x2⟩,
        ⟨Rect.unit (s := S4x1024x512) ![0, 0, 0] S1x1024x512.size inb_S4x1024x512_S1x1024x512_0_0_0, k0_pay5 x1⟩] := by
  unfold runLoad.sl.HS0_4
  rw [View.readAt_rep_full arg4.view x1 inb_S1x1024x512_S1x1024x512_0_0_0, View.readAt_rep_full arg5.view x2 inb_S1x1024x512_S1x1024x512_0_0_0,
    View.readAt_rep_full arg6.view x3 inb_S1x1024x512_S1x1024x512_0_0_0, View.readAt_rep_full arg7.view x4 inb_S1x1024x512_S1x1024x512_0_0_0]

/-- What it stores into the second. -/
theorem pieces1 (arg9 : Memref sig .tc .vmem S1x512x1024 .f32) (arg10 : Memref sig .tc .vmem S1x512x1024 .f32) (x6 : S1x512x1024.Idx → Elt F .f32) (x7 : S1x512x1024.Idx → Elt F .f32) :
    runLoad.sl.HS1_2 arg9 arg10 x6 x7
      = [⟨Rect.unit (s := S2x512x1024) ![1, 0, 0] S1x512x1024.size inb_S2x512x1024_S1x512x1024_1_0_0, k0_pay2 x7⟩,
        ⟨Rect.unit (s := S2x512x1024) ![0, 0, 0] S1x512x1024.size inb_S2x512x1024_S1x512x1024_0_0_0, k0_pay1 (k0_pay9 x6)⟩] := by
  unfold runLoad.sl.HS1_2 runLoad.sl.r_3
  rw [View.readAt_rep_full arg9.view x6 inb_S1x512x1024_S1x512x1024_0_0_0, View.readAt_rep_full arg10.view x7 inb_S1x512x1024_S1x512x1024_0_0_0]

/-- The loading run's block of the output. -/
theorem runLoad_out (c : Dev nD) (i : grid0.Coords)
  (arg3 : Memref sig .tc .vmem S512x8x128 .f32) (harg3 : arg3.IsWhole)
  (arg4 : Memref sig .tc .vmem S1x1024x512 .f32) (harg4 : arg4.IsWhole)
  (arg5 : Memref sig .tc .vmem S1x1024x512 .f32) (harg5 : arg5.IsWhole)
  (arg6 : Memref sig .tc .vmem S1x1024x512 .f32) (harg6 : arg6.IsWhole)
  (arg7 : Memref sig .tc .vmem S1x1024x512 .f32) (harg7 : arg7.IsWhole)
  (arg8 : Memref sig .tc .vmem S1x1x2048 .f32) (harg8 : arg8.IsWhole)
  (arg9 : Memref sig .tc .vmem S1x512x1024 .f32) (harg9 : arg9.IsWhole)
  (arg10 : Memref sig .tc .vmem S1x512x1024 .f32) (harg10 : arg10.IsWhole)
  (arg11 : Memref sig .tc .vmem S1x1x1024 .f32) (harg11 : arg11.IsWhole)
  (arg12 : Memref sig .tc .vmem S512x8x128 .f32) (harg12 : arg12.IsWhole)
  (T0 : S290.Idx → Elt F .i32) (T1 : S1.Idx → Elt F .i32)
  (x0 : S512x8x128.Idx → Elt F .f32) (x1 : S1x1024x512.Idx → Elt F .f32) (x2 : S1x1024x512.Idx → Elt F .f32) (x3 : S1x1024x512.Idx → Elt F .f32) (x4 : S1x1024x512.Idx → Elt F .f32) (x5 : S1x1x2048.Idx → Elt F .f32) (x6 : S1x512x1024.Idx → Elt F .f32) (x7 : S1x512x1024.Idx → Elt F .f32) (x8 : S1x1x1024.Idx → Elt F .f32)
  (hc0 : loadBit i T0 T1 = 1#1) (hc1 : k0_cond2 i (usedWord T1) = 1#1) (hc2 : ¬k0_cond3 i (usedWord T1) = 1#1) :
    (runLoad c i arg3 harg3 arg4 harg4 arg5 harg5 arg6 harg6 arg7 harg7 arg8 harg8 arg9 harg9 arg10 harg10 arg11 harg11 arg12 harg12 T0 T1 x0 x1 x2 x3 x4 x5 x6 x7 x8 hc0 hc1 hc2).1
      = [⟨Rect.unit (s := S512x8x128) ![0, 0, 0] S512x8x128.size inb_S512x8x128_S512x8x128_0_0_0, outAt x0 x1 x2 x3 x4 x5 x6 x7 x8⟩] := by
  obtain ⟨h0, h1, h2, h3⟩ := stored0 scrM0.view.junk _ _ _ _ _ (pieces0 arg4 arg5 arg6 arg7 x1 x2 x3 x4)
  obtain ⟨g0, g1⟩ := stored1 scrM1.view.junk _ _ _ (pieces1 arg9 arg10 x6 x7)
  have e4 : runLoad.sl.r_4 arg3 arg4 arg5 arg6 arg7 arg8 x0 x1 x2 x3 x4 x5 = k0_pay11 x0 (k0_pay5 x1) (bias x5 0 inb_S1x1x2048_S1x1x512_0_0_0) := by
    unfold runLoad.sl.r_4 runLoad.sl.v25
    rw [View.readAt_rep_full arg3.view x0 inb_S512x8x128_S512x8x128_0_0_0, View.readAt_rep_unit arg8.view x5 inb_S1x1x2048_S1x1x512_0_0_0 rfl inb_S1x1x2048_S1x1x512_0_0_0]
    exact congrArg (fun s => k0_pay11 x0 s _) h0
  have e5 : runLoad.sl.r_5 arg3 arg4 arg5 arg6 arg7 arg8 x0 x1 x2 x3 x4 x5 = k0_pay12 x0 (k0_pay7 x3) (bias x5 1024 inb_S1x1x2048_S1x1x512_0_0_1024) := by
    unfold runLoad.sl.r_5 runLoad.sl.v32
    rw [View.readAt_rep_full arg3.view x0 inb_S512x8x128_S512x8x128_0_0_0, View.readAt_rep_unit arg8.view x5 inb_S1x1x2048_S1x1x512_0_0_1024 rfl inb_S1x1x2048_S1x1x512_0_0_1024]
    exact congrArg (fun s => k0_pay12 x0 s _) h2
  have e6 : runLoad.sl.r_6 arg3 arg4 arg5 arg6 arg7 arg8 x0 x1 x2 x3 x4 x5 = k0_pay13 x0 (k0_pay6 x2) (bias x5 512 inb_S1x1x2048_S1x1x512_0_0_512) := by
    unfold runLoad.sl.r_6 runLoad.sl.v39
    rw [View.readAt_rep_full arg3.view x0 inb_S512x8x128_S512x8x128_0_0_0, View.readAt_rep_unit arg8.view x5 inb_S1x1x2048_S1x1x512_0_0_512 rfl inb_S1x1x2048_S1x1x512_0_0_512]
    exact congrArg (fun s => k0_pay13 x0 s _) h1
  have e7 : runLoad.sl.r_7 arg3 arg4 arg5 arg6 arg7 x0 x1 x2 x3 x4 = k0_pay14 x0 (k0_pay8 x4) := by
    unfold runLoad.sl.r_7 runLoad.sl.v46
    rw [View.readAt_rep_full arg3.view x0 inb_S512x8x128_S512x8x128_0_0_0]
    exact congrArg (fun s => k0_pay14 x0 s) h3
  have e8 : runLoad.sl.r_8 arg8 x5 = k0_pay15 (bias x5 1536 inb_S1x1x2048_S1x1x512_0_0_1536) := by
    unfold runLoad.sl.r_8
    rw [View.readAt_rep_unit arg8.view x5 inb_S1x1x2048_S1x1x512_0_0_1536 rfl inb_S1x1x2048_S1x1x512_0_0_1536]
  have e9 : runLoad.sl.r_9 arg11 x8 = k0_pay16 x8 := by
    unfold runLoad.sl.r_9
    rw [View.readAt_rep_full arg11.view x8 inb_S1x1x1024_S1x1x1024_0_0_0]
  have e66 : runLoad.sl.v66 arg9 arg10 x6 x7 = k0_pay1 (k0_pay9 x6) := g0
  have e83 : runLoad.sl.v83 arg9 arg10 x6 x7 = k0_pay2 x7 := g1
  show runLoad.sl.HO9_1 arg3 arg4 arg5 arg6 arg7 arg8 arg9 arg10 arg11 x0 x1 x2 x3 x4 x5 x6 x7 x8 = _
  unfold runLoad.sl.HO9_1 runLoad.sl.r_10
  rw [e4, e5, e6, e7, e8, e9, e66, e83]
  rfl

/-- The loading run leaves the weights in the scratches. -/
theorem runLoad_loaded (c : Dev nD) (i : grid0.Coords)
  (arg3 : Memref sig .tc .vmem S512x8x128 .f32) (harg3 : arg3.IsWhole)
  (arg4 : Memref sig .tc .vmem S1x1024x512 .f32) (harg4 : arg4.IsWhole)
  (arg5 : Memref sig .tc .vmem S1x1024x512 .f32) (harg5 : arg5.IsWhole)
  (arg6 : Memref sig .tc .vmem S1x1024x512 .f32) (harg6 : arg6.IsWhole)
  (arg7 : Memref sig .tc .vmem S1x1024x512 .f32) (harg7 : arg7.IsWhole)
  (arg8 : Memref sig .tc .vmem S1x1x2048 .f32) (harg8 : arg8.IsWhole)
  (arg9 : Memref sig .tc .vmem S1x512x1024 .f32) (harg9 : arg9.IsWhole)
  (arg10 : Memref sig .tc .vmem S1x512x1024 .f32) (harg10 : arg10.IsWhole)
  (arg11 : Memref sig .tc .vmem S1x1x1024 .f32) (harg11 : arg11.IsWhole)
  (arg12 : Memref sig .tc .vmem S512x8x128 .f32) (harg12 : arg12.IsWhole)
  (T0 : S290.Idx → Elt F .i32) (T1 : S1.Idx → Elt F .i32)
  (x0 : S512x8x128.Idx → Elt F .f32) (x1 : S1x1024x512.Idx → Elt F .f32) (x2 : S1x1024x512.Idx → Elt F .f32) (x3 : S1x1024x512.Idx → Elt F .f32) (x4 : S1x1024x512.Idx → Elt F .f32) (x5 : S1x1x2048.Idx → Elt F .f32) (x6 : S1x512x1024.Idx → Elt F .f32) (x7 : S1x512x1024.Idx → Elt F .f32) (x8 : S1x1x1024.Idx → Elt F .f32)
  (hc0 : loadBit i T0 T1 = 1#1) (hc1 : k0_cond2 i (usedWord T1) = 1#1) (hc2 : ¬k0_cond3 i (usedWord T1) = 1#1) :
    Loaded c x1 x2 x3 x4 x6 x7 (runLoad c i arg3 harg3 arg4 harg4 arg5 harg5 arg6 harg6 arg7 harg7 arg8 harg8 arg9 harg9 arg10 harg10 arg11 harg11 arg12 harg12 T0 T1 x0 x1 x2 x3 x4 x5 x6 x7 x8 hc0 hc1 hc2).2.1
      (runLoad c i arg3 harg3 arg4 harg4 arg5 harg5 arg6 harg6 arg7 harg7 arg8 harg8 arg9 harg9 arg10 harg10 arg11 harg11 arg12 harg12 T0 T1 x0 x1 x2 x3 x4 x5 x6 x7 x8 hc0 hc1 hc2).2.2.1 := by
  obtain ⟨h0, h1, h2, h3⟩ := stored0 scrM0.view.junk _ _ _ _ _ (pieces0 arg4 arg5 arg6 arg7 x1 x2 x3 x4)
  obtain ⟨g0, g1⟩ := stored1 scrM1.view.junk _ _ _ (pieces1 arg9 arg10 x6 x7)
  unfold runLoad
  dsimp only
  exact ⟨h0, h1, h2, h3, g0, g1⟩

/-- The keeping run's block of the output, the weights in the scratches. -/
theorem runKeep_out (c : Dev nD) (i : grid0.Coords)
  (arg3 : Memref sig .tc .vmem S512x8x128 .f32) (harg3 : arg3.IsWhole)
  (arg4 : Memref sig .tc .vmem S1x1024x512 .f32) (harg4 : arg4.IsWhole)
  (arg5 : Memref sig .tc .vmem S1x1024x512 .f32) (harg5 : arg5.IsWhole)
  (arg6 : Memref sig .tc .vmem S1x1024x512 .f32) (harg6 : arg6.IsWhole)
  (arg7 : Memref sig .tc .vmem S1x1024x512 .f32) (harg7 : arg7.IsWhole)
  (arg8 : Memref sig .tc .vmem S1x1x2048 .f32) (harg8 : arg8.IsWhole)
  (arg9 : Memref sig .tc .vmem S1x512x1024 .f32) (harg9 : arg9.IsWhole)
  (arg10 : Memref sig .tc .vmem S1x512x1024 .f32) (harg10 : arg10.IsWhole)
  (arg11 : Memref sig .tc .vmem S1x1x1024 .f32) (harg11 : arg11.IsWhole)
  (arg12 : Memref sig .tc .vmem S512x8x128 .f32) (harg12 : arg12.IsWhole)
  (T0 : S290.Idx → Elt F .i32) (T1 : S1.Idx → Elt F .i32)
  (x0 : S512x8x128.Idx → Elt F .f32) (x1 : S1x1024x512.Idx → Elt F .f32) (x2 : S1x1024x512.Idx → Elt F .f32) (x3 : S1x1024x512.Idx → Elt F .f32) (x4 : S1x1024x512.Idx → Elt F .f32) (x5 : S1x1x2048.Idx → Elt F .f32) (x6 : S1x512x1024.Idx → Elt F .f32) (x7 : S1x512x1024.Idx → Elt F .f32) (x8 : S1x1x1024.Idx → Elt F .f32)
  (xa0 : Buf (Elt F) ((c : Thread nD τ).loc cc0_scratch0)) (xa1 : Buf (Elt F) ((c : Thread nD τ).loc cc0_scratch1))
  (hc0 : ¬loadBit i T0 T1 = 1#1) (hc1 : k0_cond2 i (usedWord T1) = 1#1) (hc2 : ¬k0_cond3 i (usedWord T1) = 1#1) (h : Loaded c x1 x2 x3 x4 x6 x7 xa0 xa1) :
    (runKeep c i arg3 harg3 arg4 harg4 arg5 harg5 arg6 harg6 arg7 harg7 arg8 harg8 arg9 harg9 arg10 harg10 arg11 harg11 arg12 harg12 T0 T1 x0 x1 x2 x3 x4 x5 x6 x7 x8 xa0 xa1 hc0 hc1 hc2).1
      = [⟨Rect.unit (s := S512x8x128) ![0, 0, 0] S512x8x128.size inb_S512x8x128_S512x8x128_0_0_0, outAt x0 x1 x2 x3 x4 x5 x6 x7 x8⟩] := by
  have e3 : runKeep.sl.r_3 c arg3 arg8 x0 x5 xa0 = k0_pay11 x0 (k0_pay5 x1) (bias x5 0 inb_S1x1x2048_S1x1x512_0_0_0) := by
    unfold runKeep.sl.r_3
    rw [View.readAt_rep_full arg3.view x0 inb_S512x8x128_S512x8x128_0_0_0, View.readAt_rep_unit arg8.view x5 inb_S1x1x2048_S1x1x512_0_0_0 rfl inb_S1x1x2048_S1x1x512_0_0_0]
    exact congrArg (fun s => k0_pay11 x0 s _) h.w0
  have e4 : runKeep.sl.r_4 c arg3 arg8 x0 x5 xa0 = k0_pay12 x0 (k0_pay7 x3) (bias x5 1024 inb_S1x1x2048_S1x1x512_0_0_1024) := by
    unfold runKeep.sl.r_4
    rw [View.readAt_rep_full arg3.view x0 inb_S512x8x128_S512x8x128_0_0_0, View.readAt_rep_unit arg8.view x5 inb_S1x1x2048_S1x1x512_0_0_1024 rfl inb_S1x1x2048_S1x1x512_0_0_1024]
    exact congrArg (fun s => k0_pay12 x0 s _) h.w2
  have e5 : runKeep.sl.r_5 c arg3 arg8 x0 x5 xa0 = k0_pay13 x0 (k0_pay6 x2) (bias x5 512 inb_S1x1x2048_S1x1x512_0_0_512) := by
    unfold runKeep.sl.r_5
    rw [View.readAt_rep_full arg3.view x0 inb_S512x8x128_S512x8x128_0_0_0, View.readAt_rep_unit arg8.view x5 inb_S1x1x2048_S1x1x512_0_0_512 rfl inb_S1x1x2048_S1x1x512_0_0_512]
    exact congrArg (fun s => k0_pay13 x0 s _) h.w1
  have e6 : runKeep.sl.r_6 c arg3 x0 xa0 = k0_pay14 x0 (k0_pay8 x4) := by
    unfold runKeep.sl.r_6
    rw [View.readAt_rep_full arg3.view x0 inb_S512x8x128_S512x8x128_0_0_0]
    exact congrArg (fun s => k0_pay14 x0 s) h.w3
  have e7 : runKeep.sl.r_7 arg8 x5 = k0_pay15 (bias x5 1536 inb_S1x1x2048_S1x1x512_0_0_1536) := by
    unfold runKeep.sl.r_7
    rw [View.readAt_rep_unit arg8.view x5 inb_S1x1x2048_S1x1x512_0_0_1536 rfl inb_S1x1x2048_S1x1x512_0_0_1536]
  have e8 : runKeep.sl.r_8 arg11 x8 = k0_pay16 x8 := by
    unfold runKeep.sl.r_8
    rw [View.readAt_rep_full arg11.view x8 inb_S1x1x1024_S1x1x1024_0_0_0]
  show runKeep.sl.HO9_1 c arg3 arg8 arg11 x0 x5 x8 xa0 xa1 = _
  unfold runKeep.sl.HO9_1 runKeep.sl.r_9
  rw [e3, e4, e5, e6, e7, e8, h.u0, h.u1]
  rfl

/-- The idle run's block of the output is zeros. -/
theorem runIdle_out (c : Dev nD) (i : grid0.Coords)
  (arg3 : Memref sig .tc .vmem S512x8x128 .f32) (harg3 : arg3.IsWhole)
  (arg4 : Memref sig .tc .vmem S1x1024x512 .f32) (harg4 : arg4.IsWhole)
  (arg5 : Memref sig .tc .vmem S1x1024x512 .f32) (harg5 : arg5.IsWhole)
  (arg6 : Memref sig .tc .vmem S1x1024x512 .f32) (harg6 : arg6.IsWhole)
  (arg7 : Memref sig .tc .vmem S1x1024x512 .f32) (harg7 : arg7.IsWhole)
  (arg8 : Memref sig .tc .vmem S1x1x2048 .f32) (harg8 : arg8.IsWhole)
  (arg9 : Memref sig .tc .vmem S1x512x1024 .f32) (harg9 : arg9.IsWhole)
  (arg10 : Memref sig .tc .vmem S1x512x1024 .f32) (harg10 : arg10.IsWhole)
  (arg11 : Memref sig .tc .vmem S1x1x1024 .f32) (harg11 : arg11.IsWhole)
  (arg12 : Memref sig .tc .vmem S512x8x128 .f32) (harg12 : arg12.IsWhole)
  (T0 : S290.Idx → Elt F .i32) (T1 : S1.Idx → Elt F .i32)
  (x0 : S512x8x128.Idx → Elt F .f32) (x1 : S1x1024x512.Idx → Elt F .f32) (x2 : S1x1024x512.Idx → Elt F .f32) (x3 : S1x1024x512.Idx → Elt F .f32) (x4 : S1x1024x512.Idx → Elt F .f32) (x5 : S1x1x2048.Idx → Elt F .f32) (x6 : S1x512x1024.Idx → Elt F .f32) (x7 : S1x512x1024.Idx → Elt F .f32) (x8 : S1x1x1024.Idx → Elt F .f32)
  (xa0 : Buf (Elt F) ((c : Thread nD τ).loc cc0_scratch0)) (xa1 : Buf (Elt F) ((c : Thread nD τ).loc cc0_scratch1))
  (hc0 : ¬loadBit i T0 T1 = 1#1) (hc1 : ¬k0_cond2 i (usedWord T1) = 1#1) (hc2 : k0_cond3 i (usedWord T1) = 1#1) :
    (runIdle c i arg3 harg3 arg4 harg4 arg5 harg5 arg6 harg6 arg7 harg7 arg8 harg8 arg9 harg9 arg10 harg10 arg11 harg11 arg12 harg12 T0 T1 x0 x1 x2 x3 x4 x5 x6 x7 x8 xa0 xa1 hc0 hc1 hc2).1
      = [⟨Rect.unit (s := S512x8x128) ![0, 0, 0] S512x8x128.size inb_S512x8x128_S512x8x128_0_0_0, k0_pay4⟩] := rfl

end Cert.ExpertsIdeal.Rows

end
-- ==== Proof.ExpData.lean ====
/- The experts' pipeline: at tables in range every point's block of the output is a closed function of its inputs' blocks,
   the scratches holding, after a used point, the weights of that point's expert; and the body keeps that. -/
module

public import proofs.«01_k».proof.Proof.ExpBody

@[expose] public section

set_option maxRecDepth 16384

noncomputable section

namespace Cert.ExpertsIdeal.Rows

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (a : (pcfg0 (F := F)).Adm)

/-- The host's stretches of operations, in order. -/
abbrev stretches : List (List (HloOp τ sig (Elt F))) := [hostOps0, hostOps0_1, hostOps0_2, hostOps0_3, hostOps0_4, hostOps0_5, hostOps0_6]

/-- Core `c`'s buffers when the pipeline is entered. -/
def V (c : Dev nD) (b : Ref sig .tc) : Buf (Elt F) ((c : Thread nD τ).loc b) := StableHlo.after stretches.flatten (fun b => m (c, b)) b

/-- Window `w`'s block at point `t`. -/
def iblk (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V m c (Pipeline.arrRef spec0 w))

/-- A point's coordinates. -/
abbrev crd (t : Fin (cfg0 a).N) : grid0.Coords := grid0.coords t

theorem crd_val (t : Fin (cfg0 a).N) : ((crd a t) 0).val = t.val := by
  have hN : t.val < 290 := N_0 ▸ t.isLt
  rw [show ((crd a t) 0).val = t.val / 1 % 290 from Pipeline.Grid.coords_val (G := grid0) t 0 (by decide +kernel) rfl]
  omega

/-- What the body leaves in the output's block at point `t`. -/
def out9 (c : Dev nD) (t : Fin (cfg0 a).N) : FVec F S512x8x128 .f32 :=
  open Classical in
  if used (tab1 a.1) (crd a t) then
    outAt (iblk m a c (0 : Fin 10) t) (iblk m a c (1 : Fin 10) t) (iblk m a c (2 : Fin 10) t) (iblk m a c (3 : Fin 10) t) (iblk m a c (4 : Fin 10) t) (iblk m a c (5 : Fin 10) t) (iblk m a c (6 : Fin 10) t) (iblk m a c (7 : Fin 10) t) (iblk m a c (8 : Fin 10) t) else k0_pay4

/-- The scratches hold the weights the blocks at point `t` hold. -/
abbrev Held (c : Dev nD) (t : Fin (cfg0 a).N) (a0 : Buf (Elt F) ((c : Thread nD τ).loc cc0_scratch0)) (a1 : Buf (Elt F) ((c : Thread nD τ).loc cc0_scratch1)) : Prop :=
  Loaded c (iblk m a c (1 : Fin 10) t) (iblk m a c (2 : Fin 10) t) (iblk m a c (3 : Fin 10) t) (iblk m a c (4 : Fin 10) t) (iblk m a c (6 : Fin 10) t) (iblk m a c (7 : Fin 10) t) a0 a1

/-- The invariant before position `n`: the scratches hold the weights of the point before, if that one is used; the body's
    halves of the tables; the core's random register. -/
def Phi (c : Dev nD) (n : Fin ((cfg0 a).N + 1)) : sProp (Model F) :=
  iprop((∃ a0 a1, ⌜∀ t : Fin (cfg0 a).N, t.val + 1 = n.val → used (tab1 a.1) (crd a t) → Held m a c t a0 a1⌝
      ∗ (scrM0.view.loc (c : Thread nD τ) ↦{fullShare} a0) ∗ (scrM1.view.loc (c : Thread nD τ) ↦{fullShare} a1))
    ∗ (tabM0.view.loc (c : Thread nD τ) ↦{fullShare.right} tab0 a.1) ∗ (tabM1.view.loc (c : Thread nD τ) ↦{fullShare.right} tab1 a.1)
    ∗ (∃ r, prngReg c r))

/-- The proof data of the one pipeline on core `c`. -/
def dats (_ : Fin 1) (c : Dev nD) : Dat τ (Elt F) Unit ℕ (UR sig nD τ) ℕ (cfg0 a) c where
  A w := V m c (Pipeline.arrRef spec0 w)
  after w t := match w with
    | ⟨0, _⟩ => iblk m a c (0 : Fin 10) t
    | ⟨1, _⟩ => iblk m a c (1 : Fin 10) t
    | ⟨2, _⟩ => iblk m a c (2 : Fin 10) t
    | ⟨3, _⟩ => iblk m a c (3 : Fin 10) t
    | ⟨4, _⟩ => iblk m a c (4 : Fin 10) t
    | ⟨5, _⟩ => iblk m a c (5 : Fin 10) t
    | ⟨6, _⟩ => iblk m a c (6 : Fin 10) t
    | ⟨7, _⟩ => iblk m a c (7 : Fin 10) t
    | ⟨8, _⟩ => iblk m a c (8 : Fin 10) t
    | ⟨9, _⟩ => out9 m a c t
  Φ n := Phi m a c n
  q w := Pipeline.shareOf spec0 w
  owed _ := 0

theorem A_eq (c : Dev nD) (w : Fin (cfg0 a).W) : (dats m a 0 c).A w = V m c (Pipeline.arrRef spec0 w) := rfl
theorem after0_0 (c : Dev nD) (t : Fin (cfg0 a).N) : (dats m a 0 c).after (0 : Fin 10) t = iblk m a c (0 : Fin 10) t := rfl
theorem after0_1 (c : Dev nD) (t : Fin (cfg0 a).N) : (dats m a 0 c).after (1 : Fin 10) t = iblk m a c (1 : Fin 10) t := rfl
theorem after0_2 (c : Dev nD) (t : Fin (cfg0 a).N) : (dats m a 0 c).after (2 : Fin 10) t = iblk m a c (2 : Fin 10) t := rfl
theorem after0_3 (c : Dev nD) (t : Fin (cfg0 a).N) : (dats m a 0 c).after (3 : Fin 10) t = iblk m a c (3 : Fin 10) t := rfl
theorem after0_4 (c : Dev nD) (t : Fin (cfg0 a).N) : (dats m a 0 c).after (4 : Fin 10) t = iblk m a c (4 : Fin 10) t := rfl
theorem after0_5 (c : Dev nD) (t : Fin (cfg0 a).N) : (dats m a 0 c).after (5 : Fin 10) t = iblk m a c (5 : Fin 10) t := rfl
theorem after0_6 (c : Dev nD) (t : Fin (cfg0 a).N) : (dats m a 0 c).after (6 : Fin 10) t = iblk m a c (6 : Fin 10) t := rfl
theorem after0_7 (c : Dev nD) (t : Fin (cfg0 a).N) : (dats m a 0 c).after (7 : Fin 10) t = iblk m a c (7 : Fin 10) t := rfl
theorem after0_8 (c : Dev nD) (t : Fin (cfg0 a).N) : (dats m a 0 c).after (8 : Fin 10) t = iblk m a c (8 : Fin 10) t := rfl
theorem after0_9 (c : Dev nD) (t : Fin (cfg0 a).N) : (dats m a 0 c).after (9 : Fin 10) t = out9 m a c t := rfl

/-! ## What the inputs' buffers hold when the body runs: their blocks, fetched there or not -/

theorem before0_0 (c : Dev nD) (t : Fin (cfg0 a).N) (d) : (dats m a 0 c).before (0 : Fin 10) t d = iblk m a c (0 : Fin 10) t :=
  ((dats m a 0 c).before_in_eq_fetched (0 : Fin 10) rfl (fun _ => rfl) (fun _ _ _ => rfl) (fun t => by rw [after0_0]; unfold Dat.blockOf iblk; rfl) t d).trans
    (by unfold Dat.fetched Dat.blockOf iblk; rfl)
theorem before0_1 (c : Dev nD) (t : Fin (cfg0 a).N) (d) : (dats m a 0 c).before (1 : Fin 10) t d = iblk m a c (1 : Fin 10) t :=
  ((dats m a 0 c).before_in_eq_fetched (1 : Fin 10) rfl (fun _ => rfl) (fun _ _ _ => rfl) (fun t => by rw [after0_1]; unfold Dat.blockOf iblk; rfl) t d).trans
    (by unfold Dat.fetched Dat.blockOf iblk; rfl)
theorem before0_2 (c : Dev nD) (t : Fin (cfg0 a).N) (d) : (dats m a 0 c).before (2 : Fin 10) t d = iblk m a c (2 : Fin 10) t :=
  ((dats m a 0 c).before_in_eq_fetched (2 : Fin 10) rfl (fun _ => rfl) (fun _ _ _ => rfl) (fun t => by rw [after0_2]; unfold Dat.blockOf iblk; rfl) t d).trans
    (by unfold Dat.fetched Dat.blockOf iblk; rfl)
theorem before0_3 (c : Dev nD) (t : Fin (cfg0 a).N) (d) : (dats m a 0 c).before (3 : Fin 10) t d = iblk m a c (3 : Fin 10) t :=
  ((dats m a 0 c).before_in_eq_fetched (3 : Fin 10) rfl (fun _ => rfl) (fun _ _ _ => rfl) (fun t => by rw [after0_3]; unfold Dat.blockOf iblk; rfl) t d).trans
    (by unfold Dat.fetched Dat.blockOf iblk; rfl)
theorem before0_4 (c : Dev nD) (t : Fin (cfg0 a).N) (d) : (dats m a 0 c).before (4 : Fin 10) t d = iblk m a c (4 : Fin 10) t :=
  ((dats m a 0 c).before_in_eq_fetched (4 : Fin 10) rfl (fun _ => rfl) (fun _ _ _ => rfl) (fun t => by rw [after0_4]; unfold Dat.blockOf iblk; rfl) t d).trans
    (by unfold Dat.fetched Dat.blockOf iblk; rfl)
theorem before0_5 (c : Dev nD) (t : Fin (cfg0 a).N) (d) : (dats m a 0 c).before (5 : Fin 10) t d = iblk m a c (5 : Fin 10) t :=
  ((dats m a 0 c).before_in_eq_fetched (5 : Fin 10) rfl (fun _ => rfl) (fun _ _ _ => rfl) (fun t => by rw [after0_5]; unfold Dat.blockOf iblk; rfl) t d).trans
    (by unfold Dat.fetched Dat.blockOf iblk; rfl)
theorem before0_6 (c : Dev nD) (t : Fin (cfg0 a).N) (d) : (dats m a 0 c).before (6 : Fin 10) t d = iblk m a c (6 : Fin 10) t :=
  ((dats m a 0 c).before_in_eq_fetched (6 : Fin 10) rfl (fun _ => rfl) (fun _ _ _ => rfl) (fun t => by rw [after0_6]; unfold Dat.blockOf iblk; rfl) t d).trans
    (by unfold Dat.fetched Dat.blockOf iblk; rfl)
theorem before0_7 (c : Dev nD) (t : Fin (cfg0 a).N) (d) : (dats m a 0 c).before (7 : Fin 10) t d = iblk m a c (7 : Fin 10) t :=
  ((dats m a 0 c).before_in_eq_fetched (7 : Fin 10) rfl (fun _ => rfl) (fun _ _ _ => rfl) (fun t => by rw [after0_7]; unfold Dat.blockOf iblk; rfl) t d).trans
    (by unfold Dat.fetched Dat.blockOf iblk; rfl)
theorem before0_8 (c : Dev nD) (t : Fin (cfg0 a).N) (d) : (dats m a 0 c).before (8 : Fin 10) t d = iblk m a c (8 : Fin 10) t :=
  ((dats m a 0 c).before_in_eq_fetched (8 : Fin 10) rfl (fun _ => rfl) (fun _ _ _ => rfl) (fun t => by rw [after0_8]; unfold Dat.blockOf iblk; rfl) t d).trans
    (by unfold Dat.fetched Dat.blockOf iblk; rfl)

/-! ## The weights' blocks follow the expert -/

theorem iblk1_congr (c : Dev nD) (t t' : Fin (cfg0 a).N) (h : tab0 a.1 (ix1 (crd a t 0)) = tab0 a.1 (ix1 (crd a t' 0))) :
    iblk m a c (1 : Fin 10) t = iblk m a c (1 : Fin 10) t' := by
  have e : ((cfg0 a).win (1 : Fin 10)).index t = ((cfg0 a).win (1 : Fin 10)).index t' := by
    show cc0_transform_1 k0_off1_inb numel1_S1 a.1 (crd a t) = cc0_transform_1 k0_off1_inb numel1_S1 a.1 (crd a t')
    rw [map1, map1, h]
  have f (s : Fin (cfg0 a).N) : (dats m a 0 c).fetched (1 : Fin 10) s (iblk m a c (1 : Fin 10) t) = iblk m a c (1 : Fin 10) s := by
    unfold Dat.fetched Dat.blockOf iblk; rfl
  exact (f t).symm.trans (((dats m a 0 c).fetched_congr (1 : Fin 10) e rfl _).trans (f t'))
theorem iblk2_congr (c : Dev nD) (t t' : Fin (cfg0 a).N) (h : tab0 a.1 (ix1 (crd a t 0)) = tab0 a.1 (ix1 (crd a t' 0))) :
    iblk m a c (2 : Fin 10) t = iblk m a c (2 : Fin 10) t' := by
  have e : ((cfg0 a).win (2 : Fin 10)).index t = ((cfg0 a).win (2 : Fin 10)).index t' := by
    show cc0_transform_2 k0_off1_inb numel1_S1 a.1 (crd a t) = cc0_transform_2 k0_off1_inb numel1_S1 a.1 (crd a t')
    rw [map2, map2, h]
  have f (s : Fin (cfg0 a).N) : (dats m a 0 c).fetched (2 : Fin 10) s (iblk m a c (2 : Fin 10) t) = iblk m a c (2 : Fin 10) s := by
    unfold Dat.fetched Dat.blockOf iblk; rfl
  exact (f t).symm.trans (((dats m a 0 c).fetched_congr (2 : Fin 10) e rfl _).trans (f t'))
theorem iblk3_congr (c : Dev nD) (t t' : Fin (cfg0 a).N) (h : tab0 a.1 (ix1 (crd a t 0)) = tab0 a.1 (ix1 (crd a t' 0))) :
    iblk m a c (3 : Fin 10) t = iblk m a c (3 : Fin 10) t' := by
  have e : ((cfg0 a).win (3 : Fin 10)).index t = ((cfg0 a).win (3 : Fin 10)).index t' := by
    show cc0_transform_3 k0_off1_inb numel1_S1 a.1 (crd a t) = cc0_transform_3 k0_off1_inb numel1_S1 a.1 (crd a t')
    rw [map3, map3, h]
  have f (s : Fin (cfg0 a).N) : (dats m a 0 c).fetched (3 : Fin 10) s (iblk m a c (3 : Fin 10) t) = iblk m a c (3 : Fin 10) s := by
    unfold Dat.fetched Dat.blockOf iblk; rfl
  exact (f t).symm.trans (((dats m a 0 c).fetched_congr (3 : Fin 10) e rfl _).trans (f t'))
theorem iblk4_congr (c : Dev nD) (t t' : Fin (cfg0 a).N) (h : tab0 a.1 (ix1 (crd a t 0)) = tab0 a.1 (ix1 (crd a t' 0))) :
    iblk m a c (4 : Fin 10) t = iblk m a c (4 : Fin 10) t' := by
  have e : ((cfg0 a).win (4 : Fin 10)).index t = ((cfg0 a).win (4 : Fin 10)).index t' := by
    show cc0_transform_4 k0_off1_inb numel1_S1 a.1 (crd a t) = cc0_transform_4 k0_off1_inb numel1_S1 a.1 (crd a t')
    rw [map4, map4, h]
  have f (s : Fin (cfg0 a).N) : (dats m a 0 c).fetched (4 : Fin 10) s (iblk m a c (4 : Fin 10) t) = iblk m a c (4 : Fin 10) s := by
    unfold Dat.fetched Dat.blockOf iblk; rfl
  exact (f t).symm.trans (((dats m a 0 c).fetched_congr (4 : Fin 10) e rfl _).trans (f t'))
theorem iblk6_congr (c : Dev nD) (t t' : Fin (cfg0 a).N) (h : tab0 a.1 (ix1 (crd a t 0)) = tab0 a.1 (ix1 (crd a t' 0))) :
    iblk m a c (6 : Fin 10) t = iblk m a c (6 : Fin 10) t' := by
  have e : ((cfg0 a).win (6 : Fin 10)).index t = ((cfg0 a).win (6 : Fin 10)).index t' := by
    show cc0_transform_6 k0_off1_inb numel1_S1 a.1 (crd a t) = cc0_transform_6 k0_off1_inb numel1_S1 a.1 (crd a t')
    rw [map6, map6, h]
  have f (s : Fin (cfg0 a).N) : (dats m a 0 c).fetched (6 : Fin 10) s (iblk m a c (6 : Fin 10) t) = iblk m a c (6 : Fin 10) s := by
    unfold Dat.fetched Dat.blockOf iblk; rfl
  exact (f t).symm.trans (((dats m a 0 c).fetched_congr (6 : Fin 10) e rfl _).trans (f t'))
theorem iblk7_congr (c : Dev nD) (t t' : Fin (cfg0 a).N) (h : tab0 a.1 (ix1 (crd a t 0)) = tab0 a.1 (ix1 (crd a t' 0))) :
    iblk m a c (7 : Fin 10) t = iblk m a c (7 : Fin 10) t' := by
  have e : ((cfg0 a).win (7 : Fin 10)).index t = ((cfg0 a).win (7 : Fin 10)).index t' := by
    show cc0_transform_7 k0_off1_inb numel1_S1 a.1 (crd a t) = cc0_transform_7 k0_off1_inb numel1_S1 a.1 (crd a t')
    rw [map7, map7, h]
  have f (s : Fin (cfg0 a).N) : (dats m a 0 c).fetched (7 : Fin 10) s (iblk m a c (7 : Fin 10) t) = iblk m a c (7 : Fin 10) s := by
    unfold Dat.fetched Dat.blockOf iblk; rfl
  exact (f t).symm.trans (((dats m a 0 c).fetched_congr (7 : Fin 10) e rfl _).trans (f t'))

/-- Two points of one expert find the scratches loaded alike. -/
theorem held_congr (c : Dev nD) (t t' : Fin (cfg0 a).N) (h : tab0 a.1 (ix1 (crd a t 0)) = tab0 a.1 (ix1 (crd a t' 0))) {a0 a1}
    (H : Held m a c t a0 a1) : Held m a c t' a0 a1 := by
  unfold Held at H ⊢
  rw [iblk1_congr m a c t t' h, iblk2_congr m a c t t' h, iblk3_congr m a c t t' h, iblk4_congr m a c t t' h, iblk6_congr m a c t t' h,
    iblk7_congr m a c t t' h] at H
  exact H

/-- Where the body keeps the scratches, they hold that point's weights. -/
theorem held_kept (h : Fits (tab0 a.1) (tab1 a.1)) (c : Dev nD) (t : Fin (cfg0 a).N) {a0 a1}
    (H : ∀ s : Fin (cfg0 a).N, s.val + 1 = t.val → used (tab1 a.1) (crd a s) → Held m a c s a0 a1)
    (u : used (tab1 a.1) (crd a t)) (l : ¬loadBit (F := F) (crd a t) (tab0 a.1) (tab1 a.1) = 1#1) : Held m a c t a0 a1 := by
  have hv := crd_val a t
  have l' := fun x => l ((load_iff h (crd a t)).mpr ⟨u, x⟩)
  have h0 : t.val ≠ 0 := fun e => l' (.inl (hv.trans e))
  have he : expertWord (F := F) (crd a t) (tab0 a.1) = priorWord (F := F) (crd a t) (tab0 a.1) := by
    by_contra e; exact l' (.inr e)
  have hp : t.val - 1 < (cfg0 a).N := by have := t.isLt; omega
  have hs := crd_val a ⟨t.val - 1, hp⟩
  rw [expertWord_eq, priorWord_eq (crd a t) (tab0 a.1) (crd a ⟨t.val - 1, hp⟩ 0) (by rw [hs, hv])] at he
  exact held_congr m a c ⟨t.val - 1, hp⟩ t he.symm
    (H ⟨t.val - 1, hp⟩ (by show t.val - 1 + 1 = t.val; omega) (by
      show ((crd a ⟨t.val - 1, hp⟩) 0).val < _
      have u' : ((crd a t) 0).val < (tab1 a.1 (ix1 0)).toNat := u
      rw [hs]; rw [hv] at u'; show t.val - 1 < _; omega))

end Cert.ExpertsIdeal.Rows

end
-- ==== Proof.ExpStep.lean ====
/- The experts' body at a point: it takes the pipeline's data before the point to the data after it. -/
module

public import proofs.«01_k».proof.Proof.ExpData
public import Idealize.ShloMosaic.Lib.Pipeline.TableIdle
public import Idealize.ShloMosaic.Lib.Pipeline.FrameBody
public import Idealize.ShloMosaic.Lib.Tactic

@[expose] public section

set_option maxRecDepth 16384

noncomputable section

namespace Cert.ExpertsIdeal.Rows

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (a : (pcfg0 (F := F)).Adm)

section Stages

variable (t : Fin (cfg0 a).N)

abbrev ms0 : Memref sig .tc .vmem S512x8x128 .f32 := spec0_0.stage ((cfg0 a).slots t (0 : Fin 10))
theorem hs0 : (ms0 a t).IsWhole := hstage0_0 (((cfg0 a).slots t (0 : Fin 10)).cast nbuf0_0)
abbrev ms1 : Memref sig .tc .vmem S1x1024x512 .f32 := spec0_1.stage ((cfg0 a).slots t (1 : Fin 10))
theorem hs1 : (ms1 a t).IsWhole := hstage0_1 (((cfg0 a).slots t (1 : Fin 10)).cast nbuf0_1)
abbrev ms2 : Memref sig .tc .vmem S1x1024x512 .f32 := spec0_2.stage ((cfg0 a).slots t (2 : Fin 10))
theorem hs2 : (ms2 a t).IsWhole := hstage0_2 (((cfg0 a).slots t (2 : Fin 10)).cast nbuf0_2)
abbrev ms3 : Memref sig .tc .vmem S1x1024x512 .f32 := spec0_3.stage ((cfg0 a).slots t (3 : Fin 10))
theorem hs3 : (ms3 a t).IsWhole := hstage0_3 (((cfg0 a).slots t (3 : Fin 10)).cast nbuf0_3)
abbrev ms4 : Memref sig .tc .vmem S1x1024x512 .f32 := spec0_4.stage ((cfg0 a).slots t (4 : Fin 10))
theorem hs4 : (ms4 a t).IsWhole := hstage0_4 (((cfg0 a).slots t (4 : Fin 10)).cast nbuf0_4)
abbrev ms5 : Memref sig .tc .vmem S1x1x2048 .f32 := spec0_5.stage ((cfg0 a).slots t (5 : Fin 10))
theorem hs5 : (ms5 a t).IsWhole := hstage0_5 (((cfg0 a).slots t (5 : Fin 10)).cast nbuf0_5)
abbrev ms6 : Memref sig .tc .vmem S1x512x1024 .f32 := spec0_6.stage ((cfg0 a).slots t (6 : Fin 10))
theorem hs6 : (ms6 a t).IsWhole := hstage0_6 (((cfg0 a).slots t (6 : Fin 10)).cast nbuf0_6)
abbrev ms7 : Memref sig .tc .vmem S1x512x1024 .f32 := spec0_7.stage ((cfg0 a).slots t (7 : Fin 10))
theorem hs7 : (ms7 a t).IsWhole := hstage0_7 (((cfg0 a).slots t (7 : Fin 10)).cast nbuf0_7)
abbrev ms8 : Memref sig .tc .vmem S1x1x1024 .f32 := spec0_8.stage ((cfg0 a).slots t (8 : Fin 10))
theorem hs8 : (ms8 a t).IsWhole := hstage0_8 (((cfg0 a).slots t (8 : Fin 10)).cast nbuf0_8)
abbrev ms9 : Memref sig .tc .vmem S512x8x128 .f32 := spec0_9.stage ((cfg0 a).slots t (9 : Fin 10))
theorem hs9 : (ms9 a t).IsWhole := hstage0_9 (((cfg0 a).slots t (9 : Fin 10)).cast nbuf0_9)

/-- The body at point `t`, on the buffers its windows lie in. -/
abbrev bodyAt : Prog (TpuEff nD τ sig (Elt F) Λ₀ .tc) PUnit :=
  cc0_moe_experts (crd a t) (Memref.whole main_v22) (Memref.isWhole_whole _) (Memref.whole main_v24) (Memref.isWhole_whole _) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t) (ms8 a t) (hs8 a t) (ms9 a t) (hs9 a t) (Memref.whole cc0_scratch0) (Memref.isWhole_whole _) (Memref.whole cc0_scratch1) (Memref.isWhole_whole _)

end Stages

/-- What the pipeline holds before the body at `t`. -/
abbrev bodyPre (c : Dev nD) (t : Fin (cfg0 a).N) : sProp (Model F) :=
  iprop((dats m a 0 c).Φ t.castSucc ∗ (dats m a 0 c).owesAt () t.castSucc
        ∗ (∃ d, owns (c : Thread nD τ) (ms0 a t) fullShare ((dats m a 0 c).before (0 : Fin 10) t d))
        ∗ (∃ d, owns (c : Thread nD τ) (ms1 a t) fullShare ((dats m a 0 c).before (1 : Fin 10) t d))
        ∗ (∃ d, owns (c : Thread nD τ) (ms2 a t) fullShare ((dats m a 0 c).before (2 : Fin 10) t d))
        ∗ (∃ d, owns (c : Thread nD τ) (ms3 a t) fullShare ((dats m a 0 c).before (3 : Fin 10) t d))
        ∗ (∃ d, owns (c : Thread nD τ) (ms4 a t) fullShare ((dats m a 0 c).before (4 : Fin 10) t d))
        ∗ (∃ d, owns (c : Thread nD τ) (ms5 a t) fullShare ((dats m a 0 c).before (5 : Fin 10) t d))
        ∗ (∃ d, owns (c : Thread nD τ) (ms6 a t) fullShare ((dats m a 0 c).before (6 : Fin 10) t d))
        ∗ (∃ d, owns (c : Thread nD τ) (ms7 a t) fullShare ((dats m a 0 c).before (7 : Fin 10) t d))
        ∗ (∃ d, owns (c : Thread nD τ) (ms8 a t) fullShare ((dats m a 0 c).before (8 : Fin 10) t d))
        ∗ (∃ d, owns (c : Thread nD τ) (ms9 a t) fullShare ((dats m a 0 c).before (9 : Fin 10) t d)))

/-- What it holds after it. -/
abbrev bodyPost (c : Dev nD) (t : Fin (cfg0 a).N) : sProp (Model F) :=
  iprop((dats m a 0 c).Φ t.succ ∗ (dats m a 0 c).owesAt () t.succ
    ∗ bigSep Finset.univ fun w : Fin (cfg0 a).W =>
        match (cfg0 a).idle w ((cfg0 a).grid.coords t) with
        | true =>
          match ((cfg0 a).win w).flush t with
          | false => iprop(∃ d, owns (c : Thread nD τ) (((cfg0 a).win w).stage ((cfg0 a).slots t w)) fullShare ((dats m a 0 c).before w t d))
          | true => owns (c : Thread nD τ) (((cfg0 a).win w).stage ((cfg0 a).slots t w)) fullShare ((dats m a 0 c).after w t)
        | false => owns (c : Thread nD τ) (((cfg0 a).win w).stage ((cfg0 a).slots t w)) fullShare ((dats m a 0 c).after w t))

theorem after9_used (c : Dev nD) (t : Fin (cfg0 a).N) (u : used (tab1 a.1) (crd a t)) : (dats m a 0 c).after (9 : Fin 10) t = outAt (iblk m a c (0 : Fin 10) t) (iblk m a c (1 : Fin 10) t) (iblk m a c (2 : Fin 10) t) (iblk m a c (3 : Fin 10) t) (iblk m a c (4 : Fin 10) t) (iblk m a c (5 : Fin 10) t) (iblk m a c (6 : Fin 10) t) (iblk m a c (7 : Fin 10) t) (iblk m a c (8 : Fin 10) t) := by
  rw [after0_9]; unfold out9; exact if_pos u

theorem after9_idle (c : Dev nD) (t : Fin (cfg0 a).N) (u : ¬used (tab1 a.1) (crd a t)) : (dats m a 0 c).after (9 : Fin 10) t = k0_pay4 := by
  rw [after0_9]; unfold out9; exact if_neg u

set_option maxHeartbeats 4800000 in
/-- The body's triple at every point: it loads the scratches, keeps them, or stores zeros. -/
theorem sound_body (h : Fits (tab0 a.1) (tab1 a.1)) (c : Dev nD) (t : Fin (cfg0 a).N) :
    bodyPre m a c t ⊢ wp frame (wpE (defs₀ (F := F)) Variants.none c none) Set.univ (bodyAt a t) fun _ => bodyPost m a c t := by
  have i9 : (cfg0 a).idle (9 : Fin 10) ((cfg0 a).grid.coords t) = false := live a.1 h _
  unfold bodyPre bodyPost
  rw [bigSep_W0]
  rewrite [i9]
  simp only [before0_0, before0_1, before0_2, before0_3, before0_4, before0_5, before0_6, before0_7, before0_8, after0_0, after0_1, after0_2, after0_3, after0_4, after0_5, after0_6, after0_7, after0_8]
  rewrite [show (dats m a 0 c).Φ t.succ = Phi m a c t.succ from rfl, show (dats m a 0 c).Φ t.castSucc = Phi m a c t.castSucc from rfl,
    show (dats m a 0 c).owesAt () t.succ = (dats m a 0 c).owesAt () t.castSucc from rfl]
  unfold Phi
  iintro ⟨⟨⟨%a0, %a1, %ha, HS0, HS1⟩, HT0, HT1, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  by_cases u : used (tab1 a.1) (crd a t)
  · have hc1 := (used_iff (F := F) h (crd a t)).mpr u
    have hc2 : ¬k0_cond3 (crd a t) (usedWord (F := F) (tab1 a.1)) = 1#1 := fun e => (idle_iff (F := F) h (crd a t)).mp e u
    rewrite [after9_used m a c t u]
    by_cases l : loadBit (F := F) (crd a t) (tab0 a.1) (tab1 a.1) = 1#1
    · iapply ((runLoad c (crd a t) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t) (ms8 a t) (hs8 a t) (ms9 a t) (hs9 a t) (tab0 a.1) (tab1 a.1) (iblk m a c (0 : Fin 10) t) (iblk m a c (1 : Fin 10) t) (iblk m a c (2 : Fin 10) t) (iblk m a c (3 : Fin 10) t) (iblk m a c (4 : Fin 10) t) (iblk m a c (5 : Fin 10) t) (iblk m a c (6 : Fin 10) t) (iblk m a c (7 : Fin 10) t) (iblk m a c (8 : Fin 10) t) l hc1 hc2).2.2.2 a0 a1 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      isplitl [H7]; · iapply rep_of_owns; iexact H7
      isplitl [H8]; · iapply rep_of_owns; iexact H8
      isplitl [HT0]; · iexact HT0
      isplitl [HT1]; · iexact HT1
      isplitl [H9]; · iexists _; iexact H9
      isplitl [HS0]; · iexact HS0
      isplitl [HS1]; · iexact HS1
      iintro ⟨H0, H1, H2, H3, H4, H5, H6, H7, H8, HT0, HT1, ⟨%e9, H9⟩, HS0, HS1⟩
      isplitl [HS0 HS1 HT0 HT1 HR]
      · isplitl [HS0 HS1]
        · iexists _, _; isplitr; swap
          · isplitl [HS0]; · iexact HS0
            iexact HS1
          · ipureintro; intro s hs _; have es : s = t := Fin.ext (Nat.succ.inj hs); subst es; exact (runLoad_loaded c (crd a s) (ms0 a s) (hs0 a s) (ms1 a s) (hs1 a s) (ms2 a s) (hs2 a s) (ms3 a s) (hs3 a s) (ms4 a s) (hs4 a s) (ms5 a s) (hs5 a s) (ms6 a s) (hs6 a s) (ms7 a s) (hs7 a s) (ms8 a s) (hs8 a s) (ms9 a s) (hs9 a s) (tab0 a.1) (tab1 a.1) (iblk m a c (0 : Fin 10) s) (iblk m a c (1 : Fin 10) s) (iblk m a c (2 : Fin 10) s) (iblk m a c (3 : Fin 10) s) (iblk m a c (4 : Fin 10) s) (iblk m a c (5 : Fin 10) s) (iblk m a c (6 : Fin 10) s) (iblk m a c (7 : Fin 10) s) (iblk m a c (8 : Fin 10) s) l hc1 hc2)
        isplitl [HT0]; · iexact HT0
        isplitl [HT1]; · iexact HT1
        iexact HR
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      isplitl [H6]; · iapply owns_of_rep; iexact H6
      isplitl [H7]; · iapply owns_of_rep; iexact H7
      isplitl [H8]; · iapply owns_of_rep; iexact H8
      unfold owns; iexists _; isplitr; swap
      · iexact H9
      · ipureintro; rw [runLoad_out c (crd a t) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t) (ms8 a t) (hs8 a t) (ms9 a t) (hs9 a t) (tab0 a.1) (tab1 a.1) (iblk m a c (0 : Fin 10) t) (iblk m a c (1 : Fin 10) t) (iblk m a c (2 : Fin 10) t) (iblk m a c (3 : Fin 10) t) (iblk m a c (4 : Fin 10) t) (iblk m a c (5 : Fin 10) t) (iblk m a c (6 : Fin 10) t) (iblk m a c (7 : Fin 10) t) (iblk m a c (8 : Fin 10) t) l hc1 hc2]; exact View.read_writes_full _ _ _ _ _
    · have hk := held_kept m a h c t (fun s hs => ha s hs) u l
      iapply ((runKeep c (crd a t) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t) (ms8 a t) (hs8 a t) (ms9 a t) (hs9 a t) (tab0 a.1) (tab1 a.1) (iblk m a c (0 : Fin 10) t) (iblk m a c (1 : Fin 10) t) (iblk m a c (2 : Fin 10) t) (iblk m a c (3 : Fin 10) t) (iblk m a c (4 : Fin 10) t) (iblk m a c (5 : Fin 10) t) (iblk m a c (6 : Fin 10) t) (iblk m a c (7 : Fin 10) t) (iblk m a c (8 : Fin 10) t) a0 a1 l hc1 hc2).2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      isplitl [H7]; · iapply rep_of_owns; iexact H7
      isplitl [H8]; · iapply rep_of_owns; iexact H8
      isplitl [HT0]; · iexact HT0
      isplitl [HT1]; · iexact HT1
      isplitl [H9]; · iexists _; iexact H9
      isplitl [HS0]; · iexact HS0
      isplitl [HS1]; · iexact HS1
      iintro ⟨H0, H1, H2, H3, H4, H5, H6, H7, H8, HT0, HT1, ⟨%e9, H9⟩, HS0, HS1⟩
      isplitl [HS0 HS1 HT0 HT1 HR]
      · isplitl [HS0 HS1]
        · iexists _, _; isplitr; swap
          · isplitl [HS0]; · iexact HS0
            iexact HS1
          · ipureintro; intro s hs _; have es : s = t := Fin.ext (Nat.succ.inj hs); subst es; exact hk
        isplitl [HT0]; · iexact HT0
        isplitl [HT1]; · iexact HT1
        iexact HR
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      isplitl [H6]; · iapply owns_of_rep; iexact H6
      isplitl [H7]; · iapply owns_of_rep; iexact H7
      isplitl [H8]; · iapply owns_of_rep; iexact H8
      unfold owns; iexists _; isplitr; swap
      · iexact H9
      · ipureintro; rw [runKeep_out c (crd a t) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t) (ms8 a t) (hs8 a t) (ms9 a t) (hs9 a t) (tab0 a.1) (tab1 a.1) (iblk m a c (0 : Fin 10) t) (iblk m a c (1 : Fin 10) t) (iblk m a c (2 : Fin 10) t) (iblk m a c (3 : Fin 10) t) (iblk m a c (4 : Fin 10) t) (iblk m a c (5 : Fin 10) t) (iblk m a c (6 : Fin 10) t) (iblk m a c (7 : Fin 10) t) (iblk m a c (8 : Fin 10) t) a0 a1 l hc1 hc2 hk]; exact View.read_writes_full _ _ _ _ _
  · have hc1 : ¬k0_cond2 (crd a t) (usedWord (F := F) (tab1 a.1)) = 1#1 := fun e => u ((used_iff (F := F) h (crd a t)).mp e)
    have hc2 := (idle_iff (F := F) h (crd a t)).mpr u
    have l : ¬loadBit (F := F) (crd a t) (tab0 a.1) (tab1 a.1) = 1#1 := fun e => u ((load_iff h (crd a t)).mp e).1
    rewrite [after9_idle m a c t u]
    iapply ((runIdle c (crd a t) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t) (ms8 a t) (hs8 a t) (ms9 a t) (hs9 a t) (tab0 a.1) (tab1 a.1) (iblk m a c (0 : Fin 10) t) (iblk m a c (1 : Fin 10) t) (iblk m a c (2 : Fin 10) t) (iblk m a c (3 : Fin 10) t) (iblk m a c (4 : Fin 10) t) (iblk m a c (5 : Fin 10) t) (iblk m a c (6 : Fin 10) t) (iblk m a c (7 : Fin 10) t) (iblk m a c (8 : Fin 10) t) a0 a1 l hc1 hc2).2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [H7]; · iapply rep_of_owns; iexact H7
    isplitl [H8]; · iapply rep_of_owns; iexact H8
    isplitl [HT0]; · iexact HT0
    isplitl [HT1]; · iexact HT1
    isplitl [H9]; · iexists _; iexact H9
    isplitl [HS0]; · iexact HS0
    isplitl [HS1]; · iexact HS1
    iintro ⟨H0, H1, H2, H3, H4, H5, H6, H7, H8, HT0, HT1, ⟨%e9, H9⟩, HS0, HS1⟩
    isplitl [HS0 HS1 HT0 HT1 HR]
    · isplitl [HS0 HS1]
      · iexists _, _; isplitr; swap
        · isplitl [HS0]; · iexact HS0
          iexact HS1
        · ipureintro; intro s hs us; have es : s = t := Fin.ext (Nat.succ.inj hs); subst es; exact absurd us u
      isplitl [HT0]; · iexact HT0
      isplitl [HT1]; · iexact HT1
      iexact HR
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    isplitl [H7]; · iapply owns_of_rep; iexact H7
    isplitl [H8]; · iapply owns_of_rep; iexact H8
    unfold owns; iexists _; isplitr; swap
    · iexact H9
    · ipureintro; rw [runIdle_out c (crd a t) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t) (ms8 a t) (hs8 a t) (ms9 a t) (hs9 a t) (tab0 a.1) (tab1 a.1) (iblk m a c (0 : Fin 10) t) (iblk m a c (1 : Fin 10) t) (iblk m a c (2 : Fin 10) t) (iblk m a c (3 : Fin 10) t) (iblk m a c (4 : Fin 10) t) (iblk m a c (5 : Fin 10) t) (iblk m a c (6 : Fin 10) t) (iblk m a c (7 : Fin 10) t) (iblk m a c (8 : Fin 10) t) a0 a1 l hc1 hc2]; exact View.read_writes_full _ _ _ _ _

/-- The body's obligation, for the pipeline's rule. -/
theorem body_obligation (h : Fits (tab0 a.1) (tab1 a.1)) (c : Dev nD) :
    BodyObligation (dats m a 0 c) (defs₀ (F := F)) Variants.none () Set.univ := fun t => by
  rw [bigSep_W0]
  exact sound_body m a h c t

end Cert.ExpertsIdeal.Rows

end
-- ==== Proof.ExpTables.lean ====
/- The tables the experts' host code computes from the counts: each expert's rows padded to whole blocks, the running sum of
   those, each block's expert and the number of used blocks; and what the host leaves of the arguments. -/
module

public import proofs.«01_k».proof.Proof.ExpData

@[expose] public section

set_option maxRecDepth 16384

noncomputable section

namespace Cert.ExpertsIdeal.Rows

open Cert.ExpertsIdeal Cert.ExpertsIdeal.Gen
open Idealize.ShloMosaic Idealize.ShloMosaic.TcCoe Idealize.SL.Sem

variable {F : FTy → Type} [FloatOps F]

/-- The counts, whole numbers. -/
abbrev whole (C : FVec F S8x128 .f32) : IVec S32 32 :=
  fptosi 32 (shapeCast S32 (extractStridedSlice S1x32 ![0, 0] C slices_S8x128_S1x32_0_0) shapeCasts_S1x32_S32)

/-- Each word by 512, rounded down. -/
abbrev blocks32 (x : IVec S32 32) : IVec S32 32 :=
  select (andi (cmpi .ne (signi x) (broadcastInDim S32 ![] bcast_S_S32 (signi (constantI S_ 32 512#32))))
      (cmpi .ne (Host.remsi x (broadcastInDim S32 ![] bcast_S_S32 (constantI S_ 32 512#32))) (broadcastInDim S32 ![] bcast_S_S32 (constantI S_ 32 0#32))))
    (subi (Host.divsi x (broadcastInDim S32 ![] bcast_S_S32 (constantI S_ 32 512#32))) (broadcastInDim S32 ![] bcast_S_S32 (constantI S_ 32 1#32)))
    (Host.divsi x (broadcastInDim S32 ![] bcast_S_S32 (constantI S_ 32 512#32)))

/-- The one word by 512, rounded down. -/
abbrev blocks1 (x : IVec S1 32) : IVec S1 32 :=
  select (andi (cmpi .ne (signi x) (broadcastInDim S1 ![] bcast_S_S1 (signi (constantI S_ 32 512#32))))
      (cmpi .ne (Host.remsi x (broadcastInDim S1 ![] bcast_S_S1 (constantI S_ 32 512#32))) (broadcastInDim S1 ![] bcast_S_S1 (constantI S_ 32 0#32))))
    (subi (Host.divsi x (broadcastInDim S1 ![] bcast_S_S1 (constantI S_ 32 512#32))) (broadcastInDim S1 ![] bcast_S_S1 (constantI S_ 32 1#32)))
    (Host.divsi x (broadcastInDim S1 ![] bcast_S_S1 (constantI S_ 32 512#32)))

/-- The row after each expert's last, of the counts raised by 511. -/
def endsOf (x : IVec S32 32) : IVec S32 32 :=
  Host.reduceWindow IntOp.addi ![32] ![1] ![31] ![0] (muli (blocks32 x) (broadcastInDim S32 ![] bcast_S_S32 (constantI S_ 32 512#32)))
    (broadcastInDim S_ ![] bcast_S_S_ (constantI S_ 32 0#32)) reduceWindows_S32_S32_w32s1p31_0 h_S_

/-- The row after each expert's last. -/
def ends (C : FVec F S8x128 .f32) : IVec S32 32 := endsOf (addi (whole C) (broadcastInDim S32 ![] bcast_S_S32 (constantI S_ 32 511#32)))

/-- Which experts end at or before each block's first row. -/
abbrev before (E : IVec S32 32) : IVec S290x32 1 :=
  cmpi .sle (broadcastInDim S290x32 ![0, 1] bcast_S1x32_S290x32_0_1 (broadcastInDim S1x32 ![1] bcast_S32_S1x32_1 E))
    (broadcastInDim S290x32 ![0, 1] bcast_S290x1_S290x32_0_1 (broadcastInDim S290x1 ![0] bcast_S290_S290x1_0
      (muli (iotaInDim S290 32 0) (broadcastInDim S290 ![] bcast_S_S290 (constantI S_ 32 512#32)))))

/-- Each block's expert. -/
def table0Of (E : IVec S32 32) : IVec S290 32 :=
  minsi (Host.reduce IntOp.addi (extui 32 (before E) natLt_1_32) (constantI S_ 32 0#32) reducesTo_S290x32_S290_d1 h_S_)
    (broadcastInDim S290 ![] bcast_S_S290 (constantI S_ 32 31#32))

/-- The number of used blocks. -/
def table1Of (E : IVec S32 32) : IVec S1 32 := blocks1 (extractStridedSlice S1 ![31] E slices_S32_S1_31)

/-- Each block's expert, of the counts. -/
def table0 (C : FVec F S8x128 .f32) : IVec S290 32 := table0Of (ends C)

/-- The number of used blocks, of the counts. -/
def table1 (C : FVec F S8x128 .f32) : IVec S1 32 := table1Of (ends C)

/-- Raising by 512 and lowering by 1. -/
theorem raise (x : IVec S32 32) : subi (addi x (broadcastInDim S32 ![] bcast_S_S32 (constantI S_ 32 512#32))) (broadcastInDim S32 ![] bcast_S_S32 (constantI S_ 32 1#32))
    = addi x (broadcastInDim S32 ![] bcast_S_S32 (constantI S_ 32 511#32)) := by
  funext i
  show (x i + 512#32) - 1#32 = x i + 511#32
  rw [BitVec.sub_eq_add_neg, BitVec.add_assoc]
  rfl

/-! ## What the host leaves -/

variable (m : (ℓ : Loc nD τ sig) → Buf (Elt F) ℓ)

theorem stretches_fresh : (stretches : List (List (HloOp τ sig (Elt F)))).Forall fun ops => ops.Forall fun op => op.fresh = ∅ := by
  simp only [List.Forall]; repeat' constructor

set_option maxHeartbeats 4000000 in
theorem V_main_v22 (c : Dev nD) : V m c main_v22 = table0 (m ((c : Thread nD τ).loc main_arg1)) := by
  unfold V table0 ends
  rw [← raise]
  simp only [stretches, List.flatten_cons, List.flatten_nil, List.cons_append, List.nil_append, List.append_nil, StableHlo.TRef.binary, StableHlo.TRef.nullary, StableHlo.TRef.ternary, StableHlo.TRef.unary, StableHlo.TRef.toBuf, StableHlo.TRef.ofBuf, cast_eq]
  after_results_simp <;> rfl

set_option maxHeartbeats 4000000 in
theorem V_main_v24 (c : Dev nD) : V m c main_v24 = table1 (m ((c : Thread nD τ).loc main_arg1)) := by
  unfold V table1 ends
  rw [← raise]
  simp only [stretches, List.flatten_cons, List.flatten_nil, List.cons_append, List.nil_append, List.append_nil, StableHlo.TRef.binary, StableHlo.TRef.nullary, StableHlo.TRef.ternary, StableHlo.TRef.unary, StableHlo.TRef.toBuf, StableHlo.TRef.ofBuf, cast_eq]
  after_results_simp <;> rfl

set_option maxHeartbeats 4000000 in
theorem V_main_v25 (c : Dev nD) : V m c main_v25 = shapeCast _ (m ((c : Thread nD τ).loc main_arg3)) shapeCasts_S32x2048_S32x1x2048 := by
  unfold V
  simp only [stretches, List.flatten_cons, List.flatten_nil, List.cons_append, List.nil_append, List.append_nil, StableHlo.TRef.binary, StableHlo.TRef.nullary, StableHlo.TRef.ternary, StableHlo.TRef.unary, StableHlo.TRef.toBuf, StableHlo.TRef.ofBuf, cast_eq]
  after_results_simp <;> rfl

set_option maxHeartbeats 4000000 in
theorem V_main_v26 (c : Dev nD) : V m c main_v26 = shapeCast _ (m ((c : Thread nD τ).loc main_arg5)) shapeCasts_S32x1024_S32x1x1024 := by
  unfold V
  simp only [stretches, List.flatten_cons, List.flatten_nil, List.cons_append, List.nil_append, List.append_nil, StableHlo.TRef.binary, StableHlo.TRef.nullary, StableHlo.TRef.ternary, StableHlo.TRef.unary, StableHlo.TRef.toBuf, StableHlo.TRef.ofBuf, cast_eq]
  after_results_simp <;> rfl

set_option maxHeartbeats 4000000 in
theorem V_main_arg0 (c : Dev nD) : V m c main_arg0 = m ((c : Thread nD τ).loc main_arg0) := by
  unfold V
  simp only [stretches, List.flatten_cons, List.flatten_nil, List.cons_append, List.nil_append, List.append_nil, StableHlo.TRef.binary, StableHlo.TRef.nullary, StableHlo.TRef.ternary, StableHlo.TRef.unary, StableHlo.TRef.toBuf, StableHlo.TRef.ofBuf, cast_eq]
  after_results_simp <;> rfl

set_option maxHeartbeats 4000000 in
theorem V_main_arg1 (c : Dev nD) : V m c main_arg1 = m ((c : Thread nD τ).loc main_arg1) := by
  unfold V
  simp only [stretches, List.flatten_cons, List.flatten_nil, List.cons_append, List.nil_append, List.append_nil, StableHlo.TRef.binary, StableHlo.TRef.nullary, StableHlo.TRef.ternary, StableHlo.TRef.unary, StableHlo.TRef.toBuf, StableHlo.TRef.ofBuf, cast_eq]
  after_results_simp <;> rfl

set_option maxHeartbeats 4000000 in
theorem V_main_arg2 (c : Dev nD) : V m c main_arg2 = m ((c : Thread nD τ).loc main_arg2) := by
  unfold V
  simp only [stretches, List.flatten_cons, List.flatten_nil, List.cons_append, List.nil_append, List.append_nil, StableHlo.TRef.binary, StableHlo.TRef.nullary, StableHlo.TRef.ternary, StableHlo.TRef.unary, StableHlo.TRef.toBuf, StableHlo.TRef.ofBuf, cast_eq]
  after_results_simp <;> rfl

set_option maxHeartbeats 4000000 in
theorem V_main_arg3 (c : Dev nD) : V m c main_arg3 = m ((c : Thread nD τ).loc main_arg3) := by
  unfold V
  simp only [stretches, List.flatten_cons, List.flatten_nil, List.cons_append, List.nil_append, List.append_nil, StableHlo.TRef.binary, StableHlo.TRef.nullary, StableHlo.TRef.ternary, StableHlo.TRef.unary, StableHlo.TRef.toBuf, StableHlo.TRef.ofBuf, cast_eq]
  after_results_simp <;> rfl

set_option maxHeartbeats 4000000 in
theorem V_main_arg4 (c : Dev nD) : V m c main_arg4 = m ((c : Thread nD τ).loc main_arg4) := by
  unfold V
  simp only [stretches, List.flatten_cons, List.flatten_nil, List.cons_append, List.nil_append, List.append_nil, StableHlo.TRef.binary, StableHlo.TRef.nullary, StableHlo.TRef.ternary, StableHlo.TRef.unary, StableHlo.TRef.toBuf, StableHlo.TRef.ofBuf, cast_eq]
  after_results_simp <;> rfl

set_option maxHeartbeats 4000000 in
theorem V_main_arg5 (c : Dev nD) : V m c main_arg5 = m ((c : Thread nD τ).loc main_arg5) := by
  unfold V
  simp only [stretches, List.flatten_cons, List.flatten_nil, List.cons_append, List.nil_append, List.append_nil, StableHlo.TRef.binary, StableHlo.TRef.nullary, StableHlo.TRef.ternary, StableHlo.TRef.unary, StableHlo.TRef.toBuf, StableHlo.TRef.ofBuf, cast_eq]
  after_results_simp <;> rfl

end Cert.ExpertsIdeal.Rows

end
-- ==== Proof.ExpLaunch.lean ====
/- The experts' program runs, at tables in range, from any memory: it terminates, leaves its arguments as they were and every
   counter at zero, and its result's array holds what the pipeline's blocks leave. -/
module

public import proofs.«01_k».proof.Proof.ExpStep
public import proofs.«01_k».proof.Proof.ExpTables
public import Idealize.ShloMosaic.Lib.Pipeline.Frame
public import Idealize.ShloMosaic.Lib.Claim

@[expose] public section

set_option maxRecDepth 16384

noncomputable section

namespace Cert.ExpertsIdeal.Rows

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main stretches
    ⟨hostOps0_sub, hostOps0_1_sub, hostOps0_2_sub, hostOps0_3_sub, hostOps0_4_sub, hostOps0_5_sub, hostOps0_6_sub⟩ stretches_fresh main_chain

/-! ## The pipeline at the tables the memory holds -/

/-- The two tables the host computes, in range on every core. -/
def InRange : Prop :=
  ∀ c : Dev nD, Fits (V m c main_v22) (V m c main_v24)

/-- The one core. -/
abbrev core : Dev nD := ⟨0, by decide⟩

theorem core_eq (c : Dev nD) : c = core := Fin.ext (by have h1 : nD = 1 := rfl; have := c.isLt; show c.val = 0; omega)

/-- The tables, as the host leaves them. -/
def tabs : pre0.Contents (Elt F) := fun k => V m core (pre0.ref k)

theorem tabs_fits (h : InRange m) : Fits (tab0 (tabs m)) (tab1 (tabs m)) := h core

/-- The pipeline may run at them. -/
def adm (h : InRange m) : (pcfg0 (F := F)).Adm := ⟨tabs m, ok_of_fits _ (tabs_fits m h)⟩

set_option maxHeartbeats 4000000 in
theorem fits (h : InRange m) : Fits (tab0 (adm m h).1) (tab1 (adm m h).1) := tabs_fits m h

theorem V_tabs (h : InRange m) (c : Dev nD) (k : Fin 2) : V m c (pre0.ref k) = (adm m h).1 k := by
  rw [core_eq c]
  rfl

theorem prefHeld_eq (c : Dev nD) (q : Fin 2 → PosShare TreeShare) (v : pre0.Contents (Elt F)) :
    (Pipeline.prefHeld pre0 c q v : sProp (Model F))
      = iprop((((c : Thread nD τ).loc main_v22) ↦{q 0} v 0) ∗ (((c : Thread nD τ).loc main_v24) ↦{q 1} v 1)) := by
  unfold Pipeline.prefHeld
  rw [show (Finset.univ : Finset (Fin 2)) = insert (0 : Fin 2) {(1 : Fin 2)} from by decide, bigSep_insert (by decide), bigSep_singleton]
  rfl

/-- Before the first point the invariant asks nothing of the scratches. -/
theorem phi_first (a : (pcfg0 (F := F)).Adm) (c : Dev nD) :
    iprop(Pipeline.ΦA spec0 c ∗ Pipeline.ΦT pre0 a.1 c) ⊢ (dats m a 0 c).Φ 0 := by
  rw [show (dats m a 0 c).Φ 0 = Phi m a c 0 from rfl]
  unfold Pipeline.ΦA Pipeline.ΦT Phi
  rw [prefHeld_eq, scopedRest0_eq]
  iintro ⟨⟨⟨⟨%a0, HS0⟩, ⟨%a1, HS1⟩⟩, HR⟩, HT0, HT1⟩
  isplitl [HS0 HS1]
  · iexists a0, a1; isplitr; swap
    · isplitl [HS0]; · iexact HS0
      iexact HS1
    · ipureintro; intro t ht _; exact absurd ht (Nat.succ_ne_zero _)
  isplitl [HT0]; · iexact HT0
  isplitl [HT1]; · iexact HT1
  iexact HR

/-- After the last point the scratches are given back. -/
theorem phi_last (a : (pcfg0 (F := F)).Adm) (c : Dev nD) :
    (dats m a 0 c).Φ (Fin.last (cfg0 a).N) ⊢ Pipeline.ΦA spec0 c := by
  rw [show (dats m a 0 c).Φ (Fin.last (cfg0 a).N) = Phi m a c (Fin.last _) from rfl]
  unfold Pipeline.ΦA Phi
  rw [scopedRest0_eq]
  iintro ⟨⟨%a0, %a1, -, HS0, HS1⟩, -, -, HR⟩
  isplitr [HR]
  · isplitl [HS0]
    · iexists a0; iexact HS0
    iexists a1; iexact HS1
  iexact HR

set_option backward.isDefEq.respectTransparency.types false in
set_option maxHeartbeats 4000000 in
/-- The run: every array at what the pipeline's blocks leave, every other buffer as the region found it, the counters zero. -/
theorem run_main_quiescent (h : InRange m) :
    θ_run (defs (F := F)) (onTc (τ := τ) (main (F := F))) (s₀ m ρ)
      (fun r => Pipeline.FramePost (Pipeline.pin pcfgs fun _ => adm m h) (dats m (adm m h)) 0 (V m) r ∧ r.2.sem = fun _ => 0) :=
  Pipeline.θ_run_frameP_track_shared (Q' := _) pcfgs (fun _ => adm m h) (dats m (adm m h)) (0 : Fin 1) launch₀0 defs₀ Variants.none m ρ main
    (hbody := fun c => (body_obligation m (adm m h) (fits m h) c).loose) (hq := fun _ _ _ => rfl) (howed := fun _ _ => rfl)
    (V := V m) (hmain := hmain m Variants.none) (hA := fun c w => rfl) (hpf := V_tabs m h)
    (hin := phi_first m (adm m h)) (hout := phi_last m (adm m h))

/-- The run's arrays. -/
theorem run_main (h : InRange m) :
    θ_run (defs (F := F)) (onTc (τ := τ) (main (F := F))) (s₀ m ρ)
      (Pipeline.FramePost (Pipeline.pin pcfgs fun _ => adm m h) (dats m (adm m h)) 0 (V m)) :=
  (θ_run defs _ _).mono (fun _ h => h.1) (run_main_quiescent m ρ h)

set_option maxHeartbeats 4000000 in
/-- The arguments end as they began. -/
theorem unchanged (hr : InRange m) : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 (0 : Fin 10)).trans (((dats m (adm m hr) 0 c).arrAt_in (0 : Fin 10) rfl _).trans (V_main_arg0 m c)),
      ((h c).2 main_arg1 (Pipeline.mem_restRefs_of main_arg1 (by decide) (show ∀ w : Fin 10, (spec0 w).arr.view.ref ≠ main_arg1 from by decide))).trans (V_main_arg1 m c),
      ((h c).1 (1 : Fin 10)).trans (((dats m (adm m hr) 0 c).arrAt_in (1 : Fin 10) rfl _).trans (V_main_arg2 m c)),
      ((h c).2 main_arg3 (Pipeline.mem_restRefs_of main_arg3 (by decide) (show ∀ w : Fin 10, (spec0 w).arr.view.ref ≠ main_arg3 from by decide))).trans (V_main_arg3 m c),
      ((h c).1 (6 : Fin 10)).trans (((dats m (adm m hr) 0 c).arrAt_in (6 : Fin 10) rfl _).trans (V_main_arg4 m c)),
      ((h c).2 main_arg5 (Pipeline.mem_restRefs_of main_arg5 (by decide) (show ∀ w : Fin 10, (spec0 w).arr.view.ref ≠ main_arg5 from by decide))).trans (V_main_arg5 m c)⟩) (run_main m ρ hr)

/-- The frame, over any values. -/
theorem frame_run (hr : InRange m) : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hr) ((θ_run defs _ _).mono (fun _ h => h.2) (run_main_quiescent m ρ hr))

end Cert.ExpertsIdeal.Rows

end
-- ==== Proof.ExpPre.lean ====
/- The tables of counts that meet the precondition are in range: every block's expert is one of the thirty-two, of any counts, and
   the number of used blocks is positive. -/
module

public import proofs.«01_k».proof.Proof.ExpTables
public import proofs.«01_k».proof.Pre_routed
public import Idealize.ShloMosaic.Lib.ReduceAll
public import Idealize.ShloMosaic.Lib.StableHlo.Predicate

@[expose] public section

set_option maxRecDepth 16384

noncomputable section

namespace Cert.ExpertsIdeal.Rows

open Cert.ExpertsIdeal Cert.ExpertsIdeal.Gen Idealize.ShloMosaic Idealize.ShloMosaic.TcCoe

/-- The facts the precondition's function cites. -/
instance preFacts : Cert.Pre_routed.Facts where
  slices_S8x128_S1x32_0_0 := by decide
  shapeCasts_S1x32_S32 := by decide
  bcast_S_S32 := by decide
  bcast_S_S_ := by decide
  reduceWindows_S32_S32_w32s1p31_0 := by decide
  h_S_ := by decide
  slices_S32_S1_31 := by decide
  bcast_S_S1 := by decide
  reducesTo_S1_S_d0 := by decide

theorem nat_of_pos {x : BitVec 32} (h : IntOp.cmpi .sge x 1#32 = 1#1) : 1 ≤ x.toNat ∧ x.toNat < 2147483648 := by
  unfold IntOp.cmpi at h
  simp only [BitVec.sle] at h
  have a : ((1#32 : BitVec 32)).toInt ≤ x.toInt := by by_contra hc; rw [decide_eq_false hc] at h; exact absurd h (by decide)
  have e1 : ((1#32 : BitVec 32)).toInt = 1 := by decide
  rw [e1, BitVec.toInt_eq_toNat_cond] at a
  have := x.isLt
  split at a <;> omega

/-- The smaller of a small word and thirty-one. -/
theorem min_lt {x : BitVec 32} (h : x.toNat ≤ 32) : (IntOp.minsi x 31#32).toNat < 32 := by
  have hs := StableHlo.Predicate.toInt_eq_toNat_of_lt (a := x) (by omega)
  have e1 : ((31#32 : BitVec 32)).toInt = 31 := by decide
  unfold IntOp.minsi
  simp only [BitVec.sle, BitVec.slt, hs, e1]
  split
  · rename_i h'
    simp only [decide_eq_true_eq] at h'
    omega
  · decide

/-- Every block's expert is one of the thirty-two, whatever the experts' ends. -/
theorem table0_lt (E : IVec S32 32) (i : S290.Idx) : (table0Of E i).toNat < 32 := by
  unfold table0Of
  refine min_lt (x := Host.reduce IntOp.addi (extui 32 (before E) natLt_1_32) (constantI S_ 32 0#32) reducesTo_S290x32_S290_d1 h_S_ i) ?_
  rw [StableHlo.Predicate.toNat_reduce_count_cols (n := 290) (m := 32) (by decide) (before E) natLt_1_32 reducesTo_S290x32_S290_d1 h_S_ i]
  exact (Finset.card_le_univ _).trans (by rw [Fintype.card_fin])

/-- The precondition says that the number of used blocks is positive. -/
theorem fits_of_pre [Cert.Pre_routed.Facts] {F : FTy → Type} [FloatOps F] (x : FVec F S148480x8x128 .f32) (C : FVec F S8x128 .f32)
    (w : FVec F S32x1024x2048 .f32) (b : FVec F S32x2048 .f32) (u : FVec F S32x1024x1024 .f32) (q : FVec F S32x1024 .f32)
    (h : Cert.Pre_routed.fn x C w b u q = fun _ => 1#1) : Fits (table0 C) (table1 C) := by
  haveI : Subsingleton (Cert.Pre_routed.S_).Idx := ⟨fun i j => funext fun a => a.elim0⟩
  have h1 : Cert.Pre_routed.fn x C w b u q (fun a => a.elim0) = 1#1 := congrFun h _
  have h2 : IntOp.cmpi .sge (table1 C (ix1 0)) 1#32 = 1#1 := Host.reduce_andi_all _ _ _ _ _ h1 (ix1 0)
  have hn := nat_of_pos h2
  exact ⟨fun i => table0_lt _ i, hn.1, hn.2⟩

/-- So the tables the host computes are in range. -/
theorem inRange_of_pre [Cert.Pre_routed.Facts] {F : FTy → Type} [FloatOps F] (m : (ℓ : Loc nD τ sig) → Buf (Elt F) ℓ) (c : Dev nD)
    (h : Fits (table0 (m ((c : Thread nD τ).loc main_arg1))) (table1 (m ((c : Thread nD τ).loc main_arg1)))) : Fits (V m c main_v22) (V m c main_v24) := by
  rw [V_main_v22, V_main_v24]
  exact h

end Cert.ExpertsIdeal.Rows

end
-- ==== Proof.ExpFrame.lean ====
/- The experts' call and its idealized program have the same text, so the one's frame is the other's run. -/
module

public import proofs.«01_k».proof.Defs
public import proofs.«01_k».proof.Proof.Gen.Experts
public import proofs.«01_k».proof.Proof.Gen.Experts.Skeleton
public import proofs.«01_k».proof.Proof.Gen.Experts.Launch
public import proofs.«01_k».proof.Proof.ExpLaunch
public import proofs.«01_k».proof.Proof.ExpPre

@[expose] public section

set_option maxHeartbeats 4000000

noncomputable section

namespace Cert.Experts.Rows

open Idealize.ShloMosaic Idealize.SL.Sem

variable {F : FTy → Type} [FloatOps F] [hK : Cert.Experts.Facts]

/-- The two kernels' tables of bodies agree at their one label. -/
theorem defs₀_eq : Cert.Experts.defs₀ (F := F) = Cert.ExpertsIdeal.defs₀ (F := F) := by
  refine congrArg Defs.onTc (funext fun l => funext fun a => ?_)
  match l, a with
  | 0, (t, s) => rfl
  | ⟨n + 1, h⟩, _ => exact absurd h (Nat.not_lt.2 (Nat.le_add_left _ _))

theorem defs_eq : Cert.Experts.defs (F := F) = Cert.ExpertsIdeal.defs (F := F) :=
  congrArg (Pipeline.defs (Cert.ExpertsIdeal.pcfgs (F := F))) defs₀_eq

/-- The two kernels' host code is one text. -/
theorem main_eq : Cert.Experts.main (F := F) = Cert.ExpertsIdeal.main (F := F) := by
  funext c
  refine (Cert.Experts.Gen.main_chain (F := F) c).trans (Eq.trans ?_ (Cert.ExpertsIdeal.Gen.main_chain (F := F) c).symm)
  rfl

/-- The frame over words. -/
theorem frame [hP : Cert.Pre_routed.Facts] : Cert.quiescent_Experts := fun m ρ hp => by
  rw [defs_eq, main_eq]
  exact Cert.ExpertsIdeal.Rows.frame_run (F := Bits) m ρ fun c => Cert.ExpertsIdeal.Rows.inRange_of_pre m c (Cert.ExpertsIdeal.Rows.fits_of_pre _ _ _ _ _ _ (hp c))

end Cert.Experts.Rows

end
-- ==== Proof.ExpBlock.lean ====
/- One row through its expert, and the experts' block read at a row and a column: the same two layers, the second one's sum
   over the 1024 hidden columns taken as two sums over 512. -/
module

public import proofs.«01_k».proof.Proof.ExpBody
public import Idealize.ShloMosaic.Lib.Pointwise

@[expose] public section

set_option maxRecDepth 16384

noncomputable section

namespace Cert.ExpertsIdeal.Rows

open Cert.ExpertsIdeal Cert.ExpertsIdeal.Gen Idealize.ShloMosaic Idealize.ShloMosaic.TcCoe Idealize.SL.Sem
open scoped BigOperators

/-! ## One row -/

/-- A gate. -/
def gate (x : EReal) : EReal := Ideal.div 1 (1 + Ideal.exp (-x))

/-- The bound of the clipping, 7. -/
abbrev top : EReal := Ideal.ofBits FTy.f32 0x40E00000#32
/-- Its negative. -/
abbrev bottom : EReal := Ideal.ofBits FTy.f32 0xC0E00000#32
/-- The gate's slope, 1.702 as rounded. -/
abbrev slope : EReal := Ideal.ofBits FTy.f32 0x3FD9DB23#32

/-- The clipped gated unit: the first half's value `g` with the second half's `l`. -/
def act (g l : EReal) : EReal := min g top * gate (slope * min g top) * (min top (max bottom l) + 1)

/-- A hidden column before the activation. -/
def hid (x w : Fin 1024 → EReal) (b : EReal) : EReal := (∑ k, x k * w k) + b

/-- A hidden column. -/
def unit (x : Fin 1024 → EReal) (w : Fin 1024 → Fin 2048 → EReal) (b : Fin 2048 → EReal) (f : Fin 1024) : EReal :=
  act (hid x (fun k => w k ⟨f.val, by omega⟩) (b ⟨f.val, by omega⟩)) (hid x (fun k => w k ⟨1024 + f.val, by omega⟩) (b ⟨1024 + f.val, by omega⟩))

/-- One row through one expert, at one column. -/
def expertRow (x : Fin 1024 → EReal) (w : Fin 1024 → Fin 2048 → EReal) (b : Fin 2048 → EReal) (u : Fin 1024 → Fin 1024 → EReal)
    (c : Fin 1024 → EReal) (d : Fin 1024) : EReal :=
  (∑ f, unit x w b f * u f d) + c d

/-- The row of a block of lanes. -/
abbrev rowOf {n : ℕ} (x : ((Shape.mk 3 ![n, 8, 128])).Idx → EReal) (i : Fin n) (k : Fin 1024) : EReal :=
  x (ix3 i ⟨k.val / 128, by omega⟩ ⟨k.val % 128, by omega⟩)

/-! ## The body's pieces -/

variable (x0 : Vec Ideal S512x8x128 .f32) (x1 x2 x3 x4 : Vec Ideal S1x1024x512 .f32) (x5 : Vec Ideal S1x1x2048 .f32)
  (x6 x7 : Vec Ideal S1x512x1024 .f32) (x8 : Vec Ideal S1x1x1024 .f32)

theorem pay10_apply (x : Vec Ideal S512x8x128 .f32) (r : Fin 512) (k : Fin 1024) :
    k0_pay10 x (ix2 r k) = rowOf (n := 512) x r k := by
  pointwise [k0_pay10]

theorem pay11_apply (x : Vec Ideal S512x8x128 .f32) (w : Vec Ideal S1x1024x512 .bf16) (b : Vec Ideal S1x1x512 .f32) (r f : Fin 512) :
    k0_pay11 x w b (ix2 r f) = hid (rowOf (n := 512) x r) (fun k => w (ix3 0 k f)) (b (ix3 0 0 f)) := by
  have h : k0_pay11 x w b (ix2 r f) = (∑ k : Fin 1024, k0_pay10 x (ix2 r k) * w (ix3 0 k f)) + b (ix3 0 0 f) := by
    pointwise [k0_pay11]
  rw [h]; simp only [pay10_apply]; rfl

theorem pay12_apply (x : Vec Ideal S512x8x128 .f32) (w : Vec Ideal S1x1024x512 .bf16) (b : Vec Ideal S1x1x512 .f32) (r f : Fin 512) :
    k0_pay12 x w b (ix2 r f) = hid (rowOf (n := 512) x r) (fun k => w (ix3 0 k f)) (b (ix3 0 0 f)) := by
  have h : k0_pay12 x w b (ix2 r f) = (∑ k : Fin 1024, k0_pay10 x (ix2 r k) * w (ix3 0 k f)) + b (ix3 0 0 f) := by
    pointwise [k0_pay12]
  rw [h]; simp only [pay10_apply]; rfl

theorem pay13_apply (x : Vec Ideal S512x8x128 .f32) (w : Vec Ideal S1x1024x512 .bf16) (b : Vec Ideal S1x1x512 .f32) (r f : Fin 512) :
    k0_pay13 x w b (ix2 r f) = hid (rowOf (n := 512) x r) (fun k => w (ix3 0 k f)) (b (ix3 0 0 f)) := by
  have h : k0_pay13 x w b (ix2 r f) = (∑ k : Fin 1024, k0_pay10 x (ix2 r k) * w (ix3 0 k f)) + b (ix3 0 0 f) := by
    pointwise [k0_pay13]
  rw [h]; simp only [pay10_apply]; rfl

theorem pay1415_apply (x : Vec Ideal S512x8x128 .f32) (w : Vec Ideal S1x1024x512 .bf16) (b : Vec Ideal S1x1x512 .f32) (r f : Fin 512) :
    k0_pay14 x w (ix2 r f) + k0_pay15 b (ix2 0 f) = hid (rowOf (n := 512) x r) (fun k => w (ix3 0 k f)) (b (ix3 0 0 f)) := by
  have h : k0_pay14 x w (ix2 r f) = ∑ k : Fin 1024, k0_pay10 x (ix2 r k) * w (ix3 0 k f) := by
    pointwise [k0_pay14]
  have h' : k0_pay15 b (ix2 0 f) = b (ix3 0 0 f) := by
    pointwise [k0_pay15]
  rw [h, h']; simp only [pay10_apply]; rfl

theorem pay17_apply (g0 l0 g1 l1 : FVec Ideal S512x512 .f32) (b : FVec Ideal S1x512 .f32) (u0 u1 : Vec Ideal S1x512x1024 .bf16) (r : Fin 512) (d : Fin 1024) :
    k0_pay17 g0 l0 g1 l1 b u0 u1 (ix2 r d) = (∑ f : Fin 512, act (g0 (ix2 r f)) (l0 (ix2 r f)) * u0 (ix3 0 f d))
      + ∑ f : Fin 512, act (g1 (ix2 r f)) (l1 (ix2 r f) + b (ix2 0 f)) * u1 (ix3 0 f d) := by
  pointwise [k0_pay17]
  rfl

theorem pay3_apply (b : FVec Ideal S1x1024 .f32) (y : FVec Ideal S512x1024 .f32) (r : Fin 512) (e : Fin 8) (l : Fin 128) :
    k0_pay3 b y (ix3 r e l) = b (ix2 0 ⟨e.val * 128 + l.val, by omega⟩) + y (ix2 r ⟨e.val * 128 + l.val, by omega⟩) := by
  pointwise [k0_pay3]

theorem pay16_apply (d : Fin 1024) : k0_pay16 x8 (ix2 0 d) = x8 (ix3 0 0 d) := by
  pointwise [k0_pay16]

theorem pay5_apply (k : Fin 1024) (f : Fin 512) : k0_pay5 x1 (ix3 0 k f) = x1 (ix3 0 k f) := by
  pointwise [k0_pay5]
theorem pay6_apply (k : Fin 1024) (f : Fin 512) : k0_pay6 x2 (ix3 0 k f) = x2 (ix3 0 k f) := by
  pointwise [k0_pay6]
theorem pay7_apply (k : Fin 1024) (f : Fin 512) : k0_pay7 x3 (ix3 0 k f) = x3 (ix3 0 k f) := by
  pointwise [k0_pay7]
theorem pay8_apply (k : Fin 1024) (f : Fin 512) : k0_pay8 x4 (ix3 0 k f) = x4 (ix3 0 k f) := by
  pointwise [k0_pay8]
theorem pay19_apply (f : Fin 512) (d : Fin 1024) : k0_pay1 (k0_pay9 x6) (ix3 0 f d) = x6 (ix3 0 f d) := by
  pointwise [k0_pay1, k0_pay9]
theorem pay2_apply (f : Fin 512) (d : Fin 1024) : k0_pay2 x7 (ix3 0 f d) = x7 (ix3 0 f d) := by
  pointwise [k0_pay2]
theorem pay4_apply (r : Fin 512) (e : Fin 8) (l : Fin 128) : (k0_pay4 (F := Ideal)) (ix3 r e l) = 0 := by
  pointwise [k0_pay4]

theorem bias_apply (o : ℕ) (h : ∀ a, ![0, 0, o] a + S1x1x512.size a ≤ S1x1x2048.size a) (f : Fin 512) (ho : o + f.val < 2048) :
    bias (F := Ideal) x5 o h (ix3 0 0 f) = x5 (ix3 0 0 ⟨o + f.val, ho⟩) := by
  refine congrArg x5 (funext fun (a : Fin 3) => ?_)
  match a with
  | ⟨0, _⟩ => exact Fin.ext rfl
  | ⟨1, _⟩ => exact Fin.ext rfl
  | ⟨2, _⟩ => exact Fin.ext (by show o + 1 * f.val = o + f.val; omega)

/-- The block of a used point. -/
theorem outAt_apply (w : Fin 1024 → Fin 2048 → EReal) (b : Fin 2048 → EReal) (u : Fin 1024 → Fin 1024 → EReal) (c : Fin 1024 → EReal)
    (h1 : ∀ k (f : Fin 512), x1 (ix3 0 k f) = w k ⟨f.val, by omega⟩) (h2 : ∀ k (f : Fin 512), x2 (ix3 0 k f) = w k ⟨512 + f.val, by omega⟩)
    (h3 : ∀ k (f : Fin 512), x3 (ix3 0 k f) = w k ⟨1024 + f.val, by omega⟩) (h4 : ∀ k (f : Fin 512), x4 (ix3 0 k f) = w k ⟨1536 + f.val, by omega⟩)
    (h5 : ∀ f : Fin 2048, x5 (ix3 0 0 f) = b f) (h6 : ∀ (f : Fin 512) d, x6 (ix3 0 f d) = u ⟨f.val, by omega⟩ d)
    (h7 : ∀ (f : Fin 512) d, x7 (ix3 0 f d) = u ⟨512 + f.val, by omega⟩ d) (h8 : ∀ d : Fin 1024, x8 (ix3 0 0 d) = c d)
    (r : Fin 512) (e : Fin 8) (l : Fin 128) :
    outAt x0 x1 x2 x3 x4 x5 x6 x7 x8 (ix3 r e l) = expertRow (rowOf (n := 512) x0 r) w b u c ⟨e.val * 128 + l.val, by omega⟩ := by
  have hs (F : Fin 1024 → EReal) : (∑ f, F f) = (∑ f : Fin 512, F ⟨f.val, by omega⟩) + ∑ f : Fin 512, F ⟨512 + f.val, by omega⟩ :=
    Fin.sum_univ_add (a := 512) (b := 512) F
  unfold outAt outBlock expertRow
  rw [pay3_apply, pay16_apply, pay17_apply, hs, h8, add_comm]
  refine congrArg (· + _) (congrArg₂ (· + ·) (Finset.sum_congr rfl fun f _ => ?_) (Finset.sum_congr rfl fun f _ => ?_))
  · rw [pay11_apply, pay12_apply, pay19_apply, h6, bias_apply x5 0 _ f (by omega), bias_apply x5 1024 _ f (by omega), h5, h5]
    simp only [pay5_apply, pay7_apply, h1, h3]
    have e0 : (⟨0 + f.val, by omega⟩ : Fin 2048) = ⟨f.val, by omega⟩ := Fin.ext (Nat.zero_add _)
    rw [e0]
    rfl
  · rw [pay13_apply, pay1415_apply, pay2_apply, h7, bias_apply x5 512 _ f (by omega), bias_apply x5 1536 _ f (by omega), h5, h5]
    simp only [pay6_apply, pay8_apply, h2, h4]
    have e0 : (1024 + (512 + f.val)) = 1536 + f.val := by omega
    unfold unit
    simp only [e0]

end Cert.ExpertsIdeal.Rows

end
-- ==== Proof.ExpRows.lean ====
/- The experts' result, array by array: at tables in range every block of 512 rows is its rows through the block's expert, or
   zero where the block is not used, and the blocks fill the array. -/
module

public import proofs.«01_k».proof.Proof.ExpBlock
public import proofs.«01_k».proof.Proof.ExpLaunch
public import Idealize.ShloMosaic.Lib.Pipeline.ValueKit.Basic

@[expose] public section

set_option maxRecDepth 16384

noncomputable section

namespace Cert.ExpertsIdeal.Rows

open Cert.ExpertsIdeal Cert.ExpertsIdeal.Gen Idealize.ShloMosaic Idealize.ShloMosaic.TcCoe Idealize.SL.Sem
open Idealize.ShloMosaic.Pipeline (Dat)
open scoped BigOperators

/-! ## The result -/

/-- The expert of block `t`. -/
def expertOf (T0 : IVec S290 32) (t : Fin 290) : Fin 32 := ⟨(T0 (ix1 t)).toNat % 32, Nat.mod_lt _ (by decide)⟩

/-- The block of a row. -/
def blockOf (i : Fin 148480) : Fin 290 := ⟨i.val / 512, by omega⟩

/-- The result at a row, a block of lanes and a lane. -/
def expertsOf (x : FVec Ideal S148480x8x128 .f32) (T0 : IVec S290 32) (T1 : IVec S1 32) (w : FVec Ideal S32x1024x2048 .f32)
    (b : FVec Ideal S32x2048 .f32) (u : FVec Ideal S32x1024x1024 .f32) (q : FVec Ideal S32x1024 .f32) (i : Fin 148480) (e : Fin 8) (l : Fin 128) : EReal :=
  if (blockOf i).val < (T1 (ix1 0)).toNat then
    expertRow (rowOf (n := 148480) x i) (fun k f => w (ix3 (expertOf T0 (blockOf i)) k f)) (fun f => b (ix2 (expertOf T0 (blockOf i)) f))
      (fun f d => u (ix3 (expertOf T0 (blockOf i)) f d)) (fun d => q (ix2 (expertOf T0 (blockOf i)) d)) ⟨e.val * 128 + l.val, by omega⟩
  else 0

variable (m : (ℓ : Loc nD τ sig) → Buf (Elt Ideal) ℓ)

/-- The result of the launch memory `m`. -/
abbrev result (c : Dev nD) : Buf (Elt Ideal) ((c : Thread nD τ).loc main_v27) :=
  fun (i : S148480x8x128.Idx) => expertsOf (m ((c : Thread nD τ).loc main_arg0)) (table0 (F := Ideal) (m ((c : Thread nD τ).loc main_arg1))) (table1 (F := Ideal) (m ((c : Thread nD τ).loc main_arg1)))
    (m ((c : Thread nD τ).loc main_arg2)) (m ((c : Thread nD τ).loc main_arg3)) (m ((c : Thread nD τ).loc main_arg4))
    (m ((c : Thread nD τ).loc main_arg5)) (i 0) (i 1) (i 2)

/-! ## What the host's two reshapes leave -/

theorem host_b (c : Dev nD) (e : Fin 32) (f : Fin 2048) : V m c main_v25 (ix3 e 0 f) = m ((c : Thread nD τ).loc main_arg3) (ix2 e f) := by
  rw [V_main_v25]
  pointwise []

theorem host_q (c : Dev nD) (e : Fin 32) (d : Fin 1024) : V m c main_v26 (ix3 e 0 d) = m ((c : Thread nD τ).loc main_arg5) (ix2 e d) := by
  rw [V_main_v26]
  pointwise []

/-! ## The blocks: point `t` reads and writes the 512 rows from `512 t` on, and its expert's weights -/

variable (a : (pcfg0 (F := Ideal)).Adm)

theorem point_lt (t : Fin (cfg0 a).N) : t.val < 290 := lt_of_lt_of_eq t.isLt N_0

/-- The block at point `t`. -/
def pt (t : Fin (cfg0 a).N) : Fin 290 := ⟨t.val, point_lt a t⟩

theorem crd_pt (t : Fin (cfg0 a).N) : (crd a t) 0 = pt a t := Fin.ext (crd_val a t)

theorem at0 (h : Fits (tab0 a.1) (tab1 a.1)) (t : Fin (cfg0 a).N) (hu : t.val < (tab1 a.1 (ix1 0)).toNat) :
    ((cfg0 a).win (0 : Fin 10)).index t = ![t.val, 0, 0] := by
  show cc0_transform_0 inb_S1_S1_0 numel1_S1 a.1 (crd a t) = _
  rw [map0 _ h, crd_val]
  rw [show min t.val ((tab1 a.1 (ix1 0)).toNat - 1) = t.val from by omega]

theorem at9 (t : Fin (cfg0 a).N) : ((cfg0 a).win (9 : Fin 10)).index t = ![t.val, 0, 0] := by
  show cc0_transform_9 (crd a t) = _
  have e : cc0_transform_9 (crd a t) = ![(BitVec.ofNat 32 ((crd a t) 0).val).toNat, 0, 0] := rfl
  rw [e, coord_nat, crd_val]

theorem expert_val (h : Fits (tab0 a.1) (tab1 a.1)) (t : Fin (cfg0 a).N) : (tab0 a.1 (ix1 ((crd a t) 0))).toNat = (expertOf (tab0 a.1) (pt a t)).val := by
  rw [crd_pt]
  exact (Nat.mod_eq_of_lt (h.expert _)).symm

theorem at1 (h : Fits (tab0 a.1) (tab1 a.1)) (t : Fin (cfg0 a).N) :
    ((cfg0 a).win (1 : Fin 10)).index t = ![(expertOf (tab0 a.1) (pt a t)).val, 0, 0] := by
  show cc0_transform_1 k0_off1_inb numel1_S1 a.1 (crd a t) = _
  rw [map1, expert_val a h]

theorem at2 (h : Fits (tab0 a.1) (tab1 a.1)) (t : Fin (cfg0 a).N) :
    ((cfg0 a).win (2 : Fin 10)).index t = ![(expertOf (tab0 a.1) (pt a t)).val, 0, 1] := by
  show cc0_transform_2 k0_off1_inb numel1_S1 a.1 (crd a t) = _
  rw [map2, expert_val a h]

theorem at3 (h : Fits (tab0 a.1) (tab1 a.1)) (t : Fin (cfg0 a).N) :
    ((cfg0 a).win (3 : Fin 10)).index t = ![(expertOf (tab0 a.1) (pt a t)).val, 0, 2] := by
  show cc0_transform_3 k0_off1_inb numel1_S1 a.1 (crd a t) = _
  rw [map3, expert_val a h]

theorem at4 (h : Fits (tab0 a.1) (tab1 a.1)) (t : Fin (cfg0 a).N) :
    ((cfg0 a).win (4 : Fin 10)).index t = ![(expertOf (tab0 a.1) (pt a t)).val, 0, 3] := by
  show cc0_transform_4 k0_off1_inb numel1_S1 a.1 (crd a t) = _
  rw [map4, expert_val a h]

theorem at5 (h : Fits (tab0 a.1) (tab1 a.1)) (t : Fin (cfg0 a).N) :
    ((cfg0 a).win (5 : Fin 10)).index t = ![(expertOf (tab0 a.1) (pt a t)).val, 0, 0] := by
  show cc0_transform_5 k0_off1_inb numel1_S1 a.1 (crd a t) = _
  rw [map5, expert_val a h]

theorem at6 (h : Fits (tab0 a.1) (tab1 a.1)) (t : Fin (cfg0 a).N) :
    ((cfg0 a).win (6 : Fin 10)).index t = ![(expertOf (tab0 a.1) (pt a t)).val, 0, 0] := by
  show cc0_transform_6 k0_off1_inb numel1_S1 a.1 (crd a t) = _
  rw [map6, expert_val a h]

theorem at7 (h : Fits (tab0 a.1) (tab1 a.1)) (t : Fin (cfg0 a).N) :
    ((cfg0 a).win (7 : Fin 10)).index t = ![(expertOf (tab0 a.1) (pt a t)).val, 1, 0] := by
  show cc0_transform_7 k0_off1_inb numel1_S1 a.1 (crd a t) = _
  rw [map7, expert_val a h]

theorem at8 (h : Fits (tab0 a.1) (tab1 a.1)) (t : Fin (cfg0 a).N) :
    ((cfg0 a).win (8 : Fin 10)).index t = ![(expertOf (tab0 a.1) (pt a t)).val, 0, 0] := by
  show cc0_transform_8 k0_off1_inb numel1_S1 a.1 (crd a t) = _
  rw [map8, expert_val a h]

theorem blk0 (h : Fits (tab0 a.1) (tab1 a.1)) (c : Dev nD) (t : Fin (cfg0 a).N) (hu : t.val < (tab1 a.1 (ix1 0)).toNat) (r : Fin 512) (e : Fin 8) (l : Fin 128) :
    iblk m a c (0 : Fin 10) t (ix3 r e l) = m ((c : Thread nD τ).loc main_arg0) (ix3 ⟨t.val * 512 + r.val, by have := point_lt a t; omega⟩ e l) := by
  have e0 := at0 a h t hu
  refine Eq.trans (congrArg (V m c main_arg0) (funext fun (b : Fin 3) => ?_)) (congrFun (V_main_arg0 m c) (ix3 ⟨t.val * 512 + r.val, by have := point_lt a t; omega⟩ e l))
  match b with
  | ⟨0, _⟩ => exact Fin.ext (by show ((cfg0 a).win (0 : Fin 10)).index t 0 * 512 + 1 * r.val = t.val * 512 + r.val; rw [e0]; show t.val * 512 + 1 * r.val = t.val * 512 + r.val; omega)
  | ⟨1, _⟩ => exact Fin.ext (by show ((cfg0 a).win (0 : Fin 10)).index t 1 * 8 + 1 * e.val = e.val; rw [e0]; show 0 * 8 + 1 * e.val = e.val; omega)
  | ⟨2, _⟩ => exact Fin.ext (by show ((cfg0 a).win (0 : Fin 10)).index t 2 * 128 + 1 * l.val = l.val; rw [e0]; show 0 * 128 + 1 * l.val = l.val; omega)

theorem blk1 (h : Fits (tab0 a.1) (tab1 a.1)) (c : Dev nD) (t : Fin (cfg0 a).N) (k : Fin 1024) (f : Fin 512) :
    iblk m a c (1 : Fin 10) t (ix3 0 k f) = m ((c : Thread nD τ).loc main_arg2) (ix3 (expertOf (tab0 a.1) (pt a t)) k ⟨f.val, by omega⟩) := by
  have e := at1 a h t
  refine Eq.trans (congrArg (V m c main_arg2) (funext fun (b : Fin 3) => ?_)) (congrFun (V_main_arg2 m c) (ix3 (expertOf (tab0 a.1) (pt a t)) k ⟨f.val, by omega⟩))
  match b with
  | ⟨0, _⟩ => exact Fin.ext (by show ((cfg0 a).win (1 : Fin 10)).index t 0 * 1 + 1 * 0 = (expertOf (tab0 a.1) (pt a t)).val; rw [e]; show (expertOf (tab0 a.1) (pt a t)).val * 1 + 1 * 0 = (expertOf (tab0 a.1) (pt a t)).val; omega)
  | ⟨1, _⟩ => exact Fin.ext (by show ((cfg0 a).win (1 : Fin 10)).index t 1 * 1024 + 1 * k.val = k.val; rw [e]; show 0 * 1024 + 1 * k.val = k.val; omega)
  | ⟨2, _⟩ => exact Fin.ext (by show ((cfg0 a).win (1 : Fin 10)).index t 2 * 512 + 1 * f.val = f.val; rw [e]; show 0 * 512 + 1 * f.val = f.val; omega)

theorem blk2 (h : Fits (tab0 a.1) (tab1 a.1)) (c : Dev nD) (t : Fin (cfg0 a).N) (k : Fin 1024) (f : Fin 512) :
    iblk m a c (2 : Fin 10) t (ix3 0 k f) = m ((c : Thread nD τ).loc main_arg2) (ix3 (expertOf (tab0 a.1) (pt a t)) k ⟨512 + f.val, by omega⟩) := by
  have e := at2 a h t
  refine Eq.trans (congrArg (V m c main_arg2) (funext fun (b : Fin 3) => ?_)) (congrFun (V_main_arg2 m c) (ix3 (expertOf (tab0 a.1) (pt a t)) k ⟨512 + f.val, by omega⟩))
  match b with
  | ⟨0, _⟩ => exact Fin.ext (by show ((cfg0 a).win (2 : Fin 10)).index t 0 * 1 + 1 * 0 = (expertOf (tab0 a.1) (pt a t)).val; rw [e]; show (expertOf (tab0 a.1) (pt a t)).val * 1 + 1 * 0 = (expertOf (tab0 a.1) (pt a t)).val; omega)
  | ⟨1, _⟩ => exact Fin.ext (by show ((cfg0 a).win (2 : Fin 10)).index t 1 * 1024 + 1 * k.val = k.val; rw [e]; show 0 * 1024 + 1 * k.val = k.val; omega)
  | ⟨2, _⟩ => exact Fin.ext (by show ((cfg0 a).win (2 : Fin 10)).index t 2 * 512 + 1 * f.val = 512 + f.val; rw [e]; show 1 * 512 + 1 * f.val = 512 + f.val; omega)

theorem blk3 (h : Fits (tab0 a.1) (tab1 a.1)) (c : Dev nD) (t : Fin (cfg0 a).N) (k : Fin 1024) (f : Fin 512) :
    iblk m a c (3 : Fin 10) t (ix3 0 k f) = m ((c : Thread nD τ).loc main_arg2) (ix3 (expertOf (tab0 a.1) (pt a t)) k ⟨1024 + f.val, by omega⟩) := by
  have e := at3 a h t
  refine Eq.trans (congrArg (V m c main_arg2) (funext fun (b : Fin 3) => ?_)) (congrFun (V_main_arg2 m c) (ix3 (expertOf (tab0 a.1) (pt a t)) k ⟨1024 + f.val, by omega⟩))
  match b with
  | ⟨0, _⟩ => exact Fin.ext (by show ((cfg0 a).win (3 : Fin 10)).index t 0 * 1 + 1 * 0 = (expertOf (tab0 a.1) (pt a t)).val; rw [e]; show (expertOf (tab0 a.1) (pt a t)).val * 1 + 1 * 0 = (expertOf (tab0 a.1) (pt a t)).val; omega)
  | ⟨1, _⟩ => exact Fin.ext (by show ((cfg0 a).win (3 : Fin 10)).index t 1 * 1024 + 1 * k.val = k.val; rw [e]; show 0 * 1024 + 1 * k.val = k.val; omega)
  | ⟨2, _⟩ => exact Fin.ext (by show ((cfg0 a).win (3 : Fin 10)).index t 2 * 512 + 1 * f.val = 1024 + f.val; rw [e]; show 2 * 512 + 1 * f.val = 1024 + f.val; omega)

theorem blk4 (h : Fits (tab0 a.1) (tab1 a.1)) (c : Dev nD) (t : Fin (cfg0 a).N) (k : Fin 1024) (f : Fin 512) :
    iblk m a c (4 : Fin 10) t (ix3 0 k f) = m ((c : Thread nD τ).loc main_arg2) (ix3 (expertOf (tab0 a.1) (pt a t)) k ⟨1536 + f.val, by omega⟩) := by
  have e := at4 a h t
  refine Eq.trans (congrArg (V m c main_arg2) (funext fun (b : Fin 3) => ?_)) (congrFun (V_main_arg2 m c) (ix3 (expertOf (tab0 a.1) (pt a t)) k ⟨1536 + f.val, by omega⟩))
  match b with
  | ⟨0, _⟩ => exact Fin.ext (by show ((cfg0 a).win (4 : Fin 10)).index t 0 * 1 + 1 * 0 = (expertOf (tab0 a.1) (pt a t)).val; rw [e]; show (expertOf (tab0 a.1) (pt a t)).val * 1 + 1 * 0 = (expertOf (tab0 a.1) (pt a t)).val; omega)
  | ⟨1, _⟩ => exact Fin.ext (by show ((cfg0 a).win (4 : Fin 10)).index t 1 * 1024 + 1 * k.val = k.val; rw [e]; show 0 * 1024 + 1 * k.val = k.val; omega)
  | ⟨2, _⟩ => exact Fin.ext (by show ((cfg0 a).win (4 : Fin 10)).index t 2 * 512 + 1 * f.val = 1536 + f.val; rw [e]; show 3 * 512 + 1 * f.val = 1536 + f.val; omega)

theorem blk5 (h : Fits (tab0 a.1) (tab1 a.1)) (c : Dev nD) (t : Fin (cfg0 a).N) (f : Fin 2048) :
    iblk m a c (5 : Fin 10) t (ix3 0 0 f) = m ((c : Thread nD τ).loc main_arg3) (ix2 (expertOf (tab0 a.1) (pt a t)) f) := by
  have e := at5 a h t
  refine Eq.trans (congrArg (V m c main_v25) (funext fun (b : Fin 3) => ?_)) (host_b m c (expertOf (tab0 a.1) (pt a t)) f)
  match b with
  | ⟨0, _⟩ => exact Fin.ext (by show ((cfg0 a).win (5 : Fin 10)).index t 0 * 1 + 1 * 0 = (expertOf (tab0 a.1) (pt a t)).val; rw [e]; show (expertOf (tab0 a.1) (pt a t)).val * 1 + 1 * 0 = (expertOf (tab0 a.1) (pt a t)).val; omega)
  | ⟨1, _⟩ => exact Fin.ext (by show ((cfg0 a).win (5 : Fin 10)).index t 1 * 1 + 1 * 0 = 0; rw [e]; show 0 * 1 + 1 * 0 = 0; omega)
  | ⟨2, _⟩ => exact Fin.ext (by show ((cfg0 a).win (5 : Fin 10)).index t 2 * 2048 + 1 * f.val = f.val; rw [e]; show 0 * 2048 + 1 * f.val = f.val; omega)

theorem blk6 (h : Fits (tab0 a.1) (tab1 a.1)) (c : Dev nD) (t : Fin (cfg0 a).N) (f : Fin 512) (d : Fin 1024) :
    iblk m a c (6 : Fin 10) t (ix3 0 f d) = m ((c : Thread nD τ).loc main_arg4) (ix3 (expertOf (tab0 a.1) (pt a t)) ⟨f.val, by omega⟩ d) := by
  have e := at6 a h t
  refine Eq.trans (congrArg (V m c main_arg4) (funext fun (b : Fin 3) => ?_)) (congrFun (V_main_arg4 m c) (ix3 (expertOf (tab0 a.1) (pt a t)) ⟨f.val, by omega⟩ d))
  match b with
  | ⟨0, _⟩ => exact Fin.ext (by show ((cfg0 a).win (6 : Fin 10)).index t 0 * 1 + 1 * 0 = (expertOf (tab0 a.1) (pt a t)).val; rw [e]; show (expertOf (tab0 a.1) (pt a t)).val * 1 + 1 * 0 = (expertOf (tab0 a.1) (pt a t)).val; omega)
  | ⟨1, _⟩ => exact Fin.ext (by show ((cfg0 a).win (6 : Fin 10)).index t 1 * 512 + 1 * f.val = f.val; rw [e]; show 0 * 512 + 1 * f.val = f.val; omega)
  | ⟨2, _⟩ => exact Fin.ext (by show ((cfg0 a).win (6 : Fin 10)).index t 2 * 1024 + 1 * d.val = d.val; rw [e]; show 0 * 1024 + 1 * d.val = d.val; omega)

theorem blk7 (h : Fits (tab0 a.1) (tab1 a.1)) (c : Dev nD) (t : Fin (cfg0 a).N) (f : Fin 512) (d : Fin 1024) :
    iblk m a c (7 : Fin 10) t (ix3 0 f d) = m ((c : Thread nD τ).loc main_arg4) (ix3 (expertOf (tab0 a.1) (pt a t)) ⟨512 + f.val, by omega⟩ d) := by
  have e := at7 a h t
  refine Eq.trans (congrArg (V m c main_arg4) (funext fun (b : Fin 3) => ?_)) (congrFun (V_main_arg4 m c) (ix3 (expertOf (tab0 a.1) (pt a t)) ⟨512 + f.val, by omega⟩ d))
  match b with
  | ⟨0, _⟩ => exact Fin.ext (by show ((cfg0 a).win (7 : Fin 10)).index t 0 * 1 + 1 * 0 = (expertOf (tab0 a.1) (pt a t)).val; rw [e]; show (expertOf (tab0 a.1) (pt a t)).val * 1 + 1 * 0 = (expertOf (tab0 a.1) (pt a t)).val; omega)
  | ⟨1, _⟩ => exact Fin.ext (by show ((cfg0 a).win (7 : Fin 10)).index t 1 * 512 + 1 * f.val = 512 + f.val; rw [e]; show 1 * 512 + 1 * f.val = 512 + f.val; omega)
  | ⟨2, _⟩ => exact Fin.ext (by show ((cfg0 a).win (7 : Fin 10)).index t 2 * 1024 + 1 * d.val = d.val; rw [e]; show 0 * 1024 + 1 * d.val = d.val; omega)

theorem blk8 (h : Fits (tab0 a.1) (tab1 a.1)) (c : Dev nD) (t : Fin (cfg0 a).N) (d : Fin 1024) :
    iblk m a c (8 : Fin 10) t (ix3 0 0 d) = m ((c : Thread nD τ).loc main_arg5) (ix2 (expertOf (tab0 a.1) (pt a t)) d) := by
  have e := at8 a h t
  refine Eq.trans (congrArg (V m c main_v26) (funext fun (b : Fin 3) => ?_)) (host_q m c (expertOf (tab0 a.1) (pt a t)) d)
  match b with
  | ⟨0, _⟩ => exact Fin.ext (by show ((cfg0 a).win (8 : Fin 10)).index t 0 * 1 + 1 * 0 = (expertOf (tab0 a.1) (pt a t)).val; rw [e]; show (expertOf (tab0 a.1) (pt a t)).val * 1 + 1 * 0 = (expertOf (tab0 a.1) (pt a t)).val; omega)
  | ⟨1, _⟩ => exact Fin.ext (by show ((cfg0 a).win (8 : Fin 10)).index t 1 * 1 + 1 * 0 = 0; rw [e]; show 0 * 1 + 1 * 0 = 0; omega)
  | ⟨2, _⟩ => exact Fin.ext (by show ((cfg0 a).win (8 : Fin 10)).index t 2 * 1024 + 1 * d.val = d.val; rw [e]; show 0 * 1024 + 1 * d.val = d.val; omega)

/-- The result read through the block at point `t`. -/
theorem blk_result (c : Dev nD) (t : Fin (cfg0 a).N) (r : Fin 512) (e : Fin 8) (l : Fin 128) :
    (((cfg0 a).win (9 : Fin 10)).blk t).view.read (Elt Ideal) (result m c) (ix3 r e l) = result m c (ix3 ⟨t.val * 512 + r.val, by have := point_lt a t; omega⟩ e l) := by
  have h := at9 a t
  refine congrArg (result m c) (funext fun (b : Fin 3) => ?_)
  match b with
  | ⟨0, _⟩ => exact Fin.ext (by show ((cfg0 a).win (9 : Fin 10)).index t 0 * 512 + 1 * r.val = t.val * 512 + r.val; rw [h]; show t.val * 512 + 1 * r.val = t.val * 512 + r.val; omega)
  | ⟨1, _⟩ => exact Fin.ext (by show ((cfg0 a).win (9 : Fin 10)).index t 1 * 8 + 1 * e.val = e.val; rw [h]; show 0 * 8 + 1 * e.val = e.val; omega)
  | ⟨2, _⟩ => exact Fin.ext (by show ((cfg0 a).win (9 : Fin 10)).index t 2 * 128 + 1 * l.val = l.val; rw [h]; show 0 * 128 + 1 * l.val = l.val; omega)

/-- The tables are the launch memory's. -/
def Tabs (c : Dev nD) : Prop := tab0 a.1 = table0 (F := Ideal) (m ((c : Thread nD τ).loc main_arg1)) ∧ tab1 a.1 = table1 (F := Ideal) (m ((c : Thread nD τ).loc main_arg1))

theorem block_of (t : Fin (cfg0 a).N) (r : Fin 512) : blockOf ⟨t.val * 512 + r.val, by have := point_lt a t; omega⟩ = pt a t :=
  Fin.ext (by show (t.val * 512 + r.val) / 512 = t.val; omega)

theorem out_row (h : Fits (tab0 a.1) (tab1 a.1)) (c : Dev nD) (hT : Tabs m a c) (t : Fin (cfg0 a).N) (r : Fin 512) (e : Fin 8) (l : Fin 128) :
    out9 m a c t (ix3 r e l) = result m c (ix3 ⟨t.val * 512 + r.val, by have := point_lt a t; omega⟩ e l) := by
  show _ = expertsOf (m ((c : Thread nD τ).loc main_arg0)) (table0 (F := Ideal) (m ((c : Thread nD τ).loc main_arg1))) (table1 (F := Ideal) (m ((c : Thread nD τ).loc main_arg1))) (m ((c : Thread nD τ).loc main_arg2))
    (m ((c : Thread nD τ).loc main_arg3)) (m ((c : Thread nD τ).loc main_arg4)) (m ((c : Thread nD τ).loc main_arg5)) ⟨t.val * 512 + r.val, by have := point_lt a t; omega⟩ e l
  unfold expertsOf
  rw [block_of a t r, ← hT.1, ← hT.2]
  unfold out9
  by_cases hu : used (tab1 a.1) (crd a t)
  · have hu' : t.val < (tab1 a.1 (ix1 0)).toNat := by have := hu; rw [used, crd_val] at this; exact this
    rw [if_pos hu, if_pos (show (pt a t).val < _ from hu')]
    refine (outAt_apply _ _ _ _ _ _ _ _ _ (fun k f => m ((c : Thread nD τ).loc main_arg2) (ix3 (expertOf (tab0 a.1) (pt a t)) k f)) (fun f => m ((c : Thread nD τ).loc main_arg3) (ix2 (expertOf (tab0 a.1) (pt a t)) f))
      (fun f d => m ((c : Thread nD τ).loc main_arg4) (ix3 (expertOf (tab0 a.1) (pt a t)) f d)) (fun d => m ((c : Thread nD τ).loc main_arg5) (ix2 (expertOf (tab0 a.1) (pt a t)) d))
      (blk1 m a h c t) (blk2 m a h c t) (blk3 m a h c t) (blk4 m a h c t) (blk5 m a h c t) (blk6 m a h c t) (blk7 m a h c t) (blk8 m a h c t) r e l).trans ?_
    refine congrArg (fun x => expertRow x _ _ _ _ _) (funext fun k => ?_)
    exact blk0 m a h c t hu' r _ _
  · have hu' : ¬ t.val < (tab1 a.1 (ix1 0)).toNat := by have := hu; rw [used, crd_val] at this; exact this
    rw [if_neg hu, if_neg (show ¬ (pt a t).val < _ from hu')]
    exact pay4_apply r e l

theorem flushed_result (h : Fits (tab0 a.1) (tab1 a.1)) (c : Dev nD) (hT : Tabs m a c) (t : Fin (cfg0 a).N) :
    (dats m a 0 c).flushed (9 : Fin 10) t = (((cfg0 a).win (9 : Fin 10)).blk t).view.read (Elt Ideal) (result m c) := by
  refine funext fun (j : S512x8x128.Idx) => ?_
  idx_vars j
  exact (out_row m a h c hT t j0 j1 j2).trans (blk_result m a c t j0 j1 j2).symm

/-! ## The array -/

theorem flush9 (t : Fin (cfg0 a).N) : ((cfg0 a).win (9 : Fin 10)).flush t = true :=
  (Pipeline.Window.flush_reads ((cfg0 a).win (9 : Fin 10)) rfl (0 : Fin 1) (show 1 < grid0.bound 0 from by decide)
    (show grid0.fixedAfter reads0_9 0 = true from by decide) (Pipeline.Window.sep_of_coord cc0_transform_9 0 0 (fun _ => rfl) (by decide))
    (P := 1) (m := 0) (show grid0.stride 0 = 1 from by decide) rfl t).mpr (Nat.mod_one _)

theorem mem_result (t : Fin (cfg0 a).N) (i : S148480x8x128.Idx) (hi : (i 0).val / 512 = t.val) : i ∈ (((cfg0 a).win (9 : Fin 10)).blk t).view.set := by
  have h1 : (i 1).val < 8 := (i 1).isLt
  have h2 : (i 2).val < 128 := (i 2).isLt
  show i ∈ ((View.whole main_v27).slice (((cfg0 a).win (9 : Fin 10)).rect t)).set
  rw [View.set_slice_whole, Rect.mem_set_unit]
  have e := at9 a t
  intro (b : Fin 3)
  match b with
  | ⟨0, _⟩ =>
    show ((cfg0 a).win (9 : Fin 10)).index t 0 * 512 ≤ (i 0).val ∧ (i 0).val < ((cfg0 a).win (9 : Fin 10)).index t 0 * 512 + 512
    rw [e]
    show t.val * 512 ≤ (i 0).val ∧ (i 0).val < t.val * 512 + 512
    omega
  | ⟨1, _⟩ =>
    show ((cfg0 a).win (9 : Fin 10)).index t 1 * 8 ≤ (i 1).val ∧ (i 1).val < ((cfg0 a).win (9 : Fin 10)).index t 1 * 8 + 8
    rw [e]
    show 0 * 8 ≤ (i 1).val ∧ (i 1).val < 0 * 8 + 8
    omega
  | ⟨2, _⟩ =>
    show ((cfg0 a).win (9 : Fin 10)).index t 2 * 128 ≤ (i 2).val ∧ (i 2).val < ((cfg0 a).win (9 : Fin 10)).index t 2 * 128 + 128
    rw [e]
    show 0 * 128 ≤ (i 2).val ∧ (i 2).val < 0 * 128 + 128
    omega

theorem covered (i : S148480x8x128.Idx) : ∃ t : Fin (cfg0 a).N, ((cfg0 a).win (9 : Fin 10)).flush t = true ∧ i ∈ (((cfg0 a).win (9 : Fin 10)).blk t).view.set :=
  ⟨⟨(i 0).val / 512, by have h0 : (i 0).val < 148480 := (i 0).isLt; have hN : (cfg0 a).N = 290 := N_0; omega⟩, flush9 a _, mem_result a _ i rfl⟩

theorem result_eq (h : Fits (tab0 a.1) (tab1 a.1)) (c : Dev nD) (hT : Tabs m a c) : (dats m a 0 c).arrAt (9 : Fin 10) (cfg0 a).N = result m c :=
  (dats m a 0 c).arrAt_eq_of_cover (9 : Fin 10) (result m c) (fun t _ => flushed_result m a h c hT t) (covered a)

theorem tabs_at (hr : InRange m) (c : Dev nD) : Tabs m (adm m hr) c := by
  rw [core_eq c]
  exact ⟨V_main_v22 m core, V_main_v24 m core⟩

/-- The kernel's run, read. -/
theorem run (ρ : Dev nD → PrngReg) (hr : InRange m) :
    θ_run defs (onTc (τ := τ) (main (F := Ideal))) ⟨m, fun _ => 0, ρ⟩ fun r => ∀ c : Dev nD,
      r.2.mem ((c.tc : Thread nD τ).loc main_v27) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h.1 c).trans (result_eq m (adm m hr) (fits m hr) c (tabs_at m hr c)), h.2 c⟩)
    (θ_run_and ((θ_run defs _ _).mono (fun _ h c => (h c).1 (9 : Fin 10)) (run_main m ρ hr)) (unchanged m ρ hr))

end Cert.ExpertsIdeal.Rows

end
-- ==== Proof.ExpRef.lean ====
/- The reference's experts read at a row and a column: the same two layers, at tables in range. -/
module
public import proofs.«01_k».proof.Proof.Gen.ExpertsReferenceIdeal.Run
public import proofs.«01_k».proof.Proof.ExpRows
public import Idealize.ShloMosaic.Lib.Routing.Ops

@[expose] public section

set_option maxRecDepth 16384

noncomputable section

namespace Cert.ExpertsReferenceIdeal.Rows

open Cert.ExpertsReferenceIdeal Cert.ExpertsReferenceIdeal.Gen Idealize.ShloMosaic Idealize.ShloMosaic.TcCoe Idealize.SL.Sem
open Cert.ExpertsIdeal.Rows (expertRow rowOf act hid unit expertOf blockOf expertsOf Fits InRange slt_small table0 table1)
open scoped BigOperators

/-- A row of each block's expert. -/
theorem gather2048 (w : FVec Ideal S32x2048 .f32) (idx : IVec S290x1 32) (t : Fin 290) (f : Fin 2048) (e : Fin 32)
    (he : idx (ix2 t (0 : Fin 1)) = BitVec.ofNat 32 e.val) :
    Host.gather gather_S32x2048_S290x1_S290x2048_1_0_n_n_0_1_12048 w idx (ix2 t f) = w (ix2 e f) :=
  Routing.gather_row _ rfl rfl rfl rfl rfl w idx t f e he (by decide)

theorem gather1024 (w : FVec Ideal S32x1024 .f32) (idx : IVec S290x1 32) (t : Fin 290) (f : Fin 1024) (e : Fin 32)
    (he : idx (ix2 t (0 : Fin 1)) = BitVec.ofNat 32 e.val) :
    Host.gather gather_S32x1024_S290x1_S290x1024_1_0_n_n_0_1_11024 w idx (ix2 t f) = w (ix2 e f) :=
  Routing.gather_row _ rfl rfl rfl rfl rfl w idx t f e he (by decide)

/-- Each block's expert's first weights. -/
theorem slab2048 (w : FVec Ideal S32x1024x2048 .f32) (idx : IVec S290x1 32) (t : Fin 290) (k : Fin 1024) (f : Fin 2048) (e : Fin 32)
    (he : idx (ix2 t (0 : Fin 1)) = BitVec.ofNat 32 e.val) :
    Host.gather gather_S32x1024x2048_S290x1_S290x1024x2048_12_0_n_n_0_1_110242048 w idx (ix3 t k f) = w (ix3 e k f) := by
  unfold Host.gather
  refine congrArg w (funext fun (a : Fin 3) => Fin.ext ?_)
  have hsi : gather_S32x1024x2048_S290x1_S290x1024x2048_12_0_n_n_0_1_110242048.siIdx (ix3 t k f) ⟨0, by decide⟩ = ix2 t (0 : Fin 1) := by
    funext (b : Fin 2)
    match b with
    | ⟨0, _⟩ => exact Fin.ext rfl
    | ⟨1, _⟩ => exact Fin.ext rfl
  match a with
  | ⟨0, _⟩ =>
    show min (idx (gather_S32x1024x2048_S290x1_S290x1024x2048_12_0_n_n_0_1_110242048.siIdx (ix3 t k f) ⟨0, by decide⟩)).toInt.toNat (32 - 1) + 0 + 0 = e.val
    have := e.isLt
    rw [hsi, he, StableHlo.Predicate.toInt_ofNat_small _ (by omega)]
    show min ((e.val : Int)).toNat (32 - 1) = e.val
    omega
  | ⟨1, _⟩ => show 0 + 0 + k.val = k.val; omega
  | ⟨2, _⟩ => show 0 + 0 + f.val = f.val; omega

/-- Each block's expert's second weights. -/
theorem slab1024 (w : FVec Ideal S32x1024x1024 .f32) (idx : IVec S290x1 32) (t : Fin 290) (k : Fin 1024) (f : Fin 1024) (e : Fin 32)
    (he : idx (ix2 t (0 : Fin 1)) = BitVec.ofNat 32 e.val) :
    Host.gather gather_S32x1024x1024_S290x1_S290x1024x1024_12_0_n_n_0_1_110241024 w idx (ix3 t k f) = w (ix3 e k f) := by
  unfold Host.gather
  refine congrArg w (funext fun (a : Fin 3) => Fin.ext ?_)
  have hsi : gather_S32x1024x1024_S290x1_S290x1024x1024_12_0_n_n_0_1_110241024.siIdx (ix3 t k f) ⟨0, by decide⟩ = ix2 t (0 : Fin 1) := by
    funext (b : Fin 2)
    match b with
    | ⟨0, _⟩ => exact Fin.ext rfl
    | ⟨1, _⟩ => exact Fin.ext rfl
  match a with
  | ⟨0, _⟩ =>
    show min (idx (gather_S32x1024x1024_S290x1_S290x1024x1024_12_0_n_n_0_1_110241024.siIdx (ix3 t k f) ⟨0, by decide⟩)).toInt.toNat (32 - 1) + 0 + 0 = e.val
    have := e.isLt
    rw [hsi, he, StableHlo.Predicate.toInt_ofNat_small _ (by omega)]
    show min ((e.val : Int)).toNat (32 - 1) = e.val
    omega
  | ⟨1, _⟩ => show 0 + 0 + k.val = k.val; omega
  | ⟨2, _⟩ => show 0 + 0 + f.val = f.val; omega

/-- The blocks of rows. -/
abbrev rows (x : FVec Ideal S148480x8x128 .f32) : FVec Ideal S290x512x1024 .f32 := shapeCast _ x shapeCasts_S148480x8x128_S290x512x1024

/-- Each block's expert, as the gathers take it. -/
abbrev start (T0 : IVec S290 32) : IVec S290x1 32 :=
  broadcastInDim S290x1 ![0] bcast_S290_S290x1_0 (select (cmpi .slt T0 (broadcastInDim S290 ![] bcast_S_S290 (constantI S_ 32 0#32)))
    (addi T0 (broadcastInDim S290 ![] bcast_S_S290 (constantI S_ 32 32#32))) T0)

theorem start_apply (T0 : IVec S290 32) (h : ∀ i, (T0 i).toNat < 32) (t : Fin 290) :
    start T0 (ix2 t (0 : Fin 1)) = BitVec.ofNat 32 (expertOf T0 t).val := by
  have e : start T0 (ix2 t (0 : Fin 1)) = Scalar.select (IntOp.cmpi .slt (T0 (ix1 t)) 0#32) (IntOp.addi (T0 (ix1 t)) 32#32) (T0 (ix1 t)) := by
    pointwise []
  have ht := h (ix1 t)
  have hc : IntOp.cmpi .slt (T0 (ix1 t)) 0#32 = 0#1 := by
    show BitVec.ofBool ((T0 (ix1 t)).slt 0#32) = 0#1
    rw [slt_small (by omega) (by decide), decide_eq_false (by show ¬ (T0 (ix1 t)).toNat < 0; omega)]
    rfl
  rw [e, hc]
  show T0 (ix1 t) = BitVec.ofNat 32 ((T0 (ix1 t)).toNat % 32)
  rw [Nat.mod_eq_of_lt ht, BitVec.ofNat_toNat, BitVec.setWidth_eq]

theorem rows_apply (x : FVec Ideal S148480x8x128 .f32) (t : Fin 290) (r : Fin 512) (k : Fin 1024) :
    rows x (ix3 t r k) = rowOf (n := 148480) x ⟨t.val * 512 + r.val, by omega⟩ k := by
  pointwise []

/-- The activation of the first layer's sums. -/
abbrev acts (h : FVec Ideal S290x512x2048 .f32) : FVec Ideal S290x512x1024 .f32 :=
  mulf (mulf (minimumf (extractStridedSlice S290x512x1024 ![0, 0, 0] h slices_S290x512x2048_S290x512x1024_0_0_0) (broadcastInDim S290x512x1024 ![] bcast_S_S290x512x1024 (constant S_ .f32 0x40E00000#32)))
    (Host.divf (broadcastInDim S290x512x1024 ![] bcast_S_S290x512x1024 (constant S_ .f32 0x3F800000#32)) (addf (broadcastInDim S290x512x1024 ![] bcast_S_S290x512x1024 (constant S_ .f32 0x3F800000#32))
      (Host.exp (Host.negf (mulf (broadcastInDim S290x512x1024 ![] bcast_S_S290x512x1024 (constant S_ .f32 0x3FD9DB23#32))
        (minimumf (extractStridedSlice S290x512x1024 ![0, 0, 0] h slices_S290x512x2048_S290x512x1024_0_0_0) (broadcastInDim S290x512x1024 ![] bcast_S_S290x512x1024 (constant S_ .f32 0x40E00000#32)))))))))
    (addf (minimumf (broadcastInDim S290x512x1024 ![] bcast_S_S290x512x1024 (id (constant S_ .f32 0x40E00000#32))) (maximumf (broadcastInDim S290x512x1024 ![] bcast_S_S290x512x1024 (id (constant S_ .f32 0xC0E00000#32)))
      (extractStridedSlice S290x512x1024 ![0, 0, 1024] h slices_S290x512x2048_S290x512x1024_0_0_1024))) (broadcastInDim S290x512x1024 ![] bcast_S_S290x512x1024 (constant S_ .f32 0x3F800000#32)))

theorem acts_apply (h : FVec Ideal S290x512x2048 .f32) (t : Fin 290) (r : Fin 512) (f : Fin 1024) :
    acts h (ix3 t r f) = act (h (ix3 t r ⟨f.val, by omega⟩)) (h (ix3 t r ⟨1024 + f.val, by omega⟩)) := by
  pointwise []
  rfl

/-- The first layer. -/
abbrev first (x : FVec Ideal S290x512x1024 .f32) (w : FVec Ideal S290x1024x2048 .f32) (b : FVec Ideal S290x2048 .f32) : FVec Ideal S290x512x2048 .f32 :=
  addf (Host.dotGeneral dot_S290x512x1024_S290x1024x2048_S290x512x2048_2_1_1_2_0_0 none x w)
    (broadcastInDim S290x512x2048 ![0, 1, 2] bcast_S290x1x2048_S290x512x2048_0_1_2 (broadcastInDim S290x1x2048 ![0, 2] bcast_S290x2048_S290x1x2048_0_2 b))

theorem first_apply (x : FVec Ideal S290x512x1024 .f32) (w : FVec Ideal S290x1024x2048 .f32) (b : FVec Ideal S290x2048 .f32) (t : Fin 290) (r : Fin 512) (f : Fin 2048) :
    first x w b (ix3 t r f) = hid (fun k => x (ix3 t r k)) (fun k => w (ix3 t k f)) (b (ix2 t f)) := by
  pointwise []
  rfl

/-- The second layer. -/
abbrev second (x : FVec Ideal S290x512x1024 .f32) (w : FVec Ideal S290x1024x1024 .f32) (b : FVec Ideal S290x1024 .f32) : FVec Ideal S290x512x1024 .f32 :=
  addf (Host.dotGeneral dot_S290x512x1024_S290x1024x1024_S290x512x1024_2_1_1_2_0_0 none x w)
    (broadcastInDim S290x512x1024 ![0, 1, 2] bcast_S290x1x1024_S290x512x1024_0_1_2 (broadcastInDim S290x1x1024 ![0, 2] bcast_S290x1024_S290x1x1024_0_2 b))

theorem second_apply (x : FVec Ideal S290x512x1024 .f32) (w : FVec Ideal S290x1024x1024 .f32) (b : FVec Ideal S290x1024 .f32) (t : Fin 290) (r : Fin 512) (d : Fin 1024) :
    second x w b (ix3 t r d) = (∑ k, x (ix3 t r k) * w (ix3 t k d)) + b (ix2 t d) := by
  pointwise []

/-- The blocks used keep their rows, the others are zero. -/
abbrev kept (T1 : IVec S1 32) (y : FVec Ideal S290x512x1024 .f32) : FVec Ideal S148480x8x128 .f32 :=
  shapeCast _ (select (broadcastInDim S290x512x1024 ![0, 1, 2] bcast_S290x1x1_S290x512x1024_0_1_2 (broadcastInDim S290x1x1 ![0] bcast_S290_S290x1x1_0
    (cmpi .slt (iotaInDim S290 32 0) (broadcastInDim S290 ![0] bcast_S1_S290_0 T1)))) y
    (broadcastInDim S290x512x1024 ![] bcast_S_S290x512x1024 (constant S_ .f32 0x00000000#32))) shapeCasts_S290x512x1024_S148480x8x128

theorem kept_apply (T1 : IVec S1 32) (h : (T1 (ix1 0)).toNat < 2147483648) (y : FVec Ideal S290x512x1024 .f32) (i : Fin 148480) (e : Fin 8) (l : Fin 128) :
    kept T1 y (ix3 i e l) = if (blockOf i).val < (T1 (ix1 0)).toNat then y (ix3 (blockOf i) ⟨i.val % 512, by omega⟩ ⟨e.val * 128 + l.val, by omega⟩) else 0 := by
  have e : kept T1 y (ix3 i e l) = Scalar.select (IntOp.cmpi .slt (BitVec.ofNat 32 (i.val / 512)) (T1 (ix1 0)))
      (y (ix3 ⟨i.val / 512, by omega⟩ ⟨i.val % 512, by omega⟩ ⟨e.val * 128 + l.val, by omega⟩)) 0 := by
    pointwise []
  have hi : (BitVec.ofNat 32 (i.val / 512)).toNat = i.val / 512 := by rw [BitVec.toNat_ofNat, Nat.mod_eq_of_lt (by omega)]
  have hc : IntOp.cmpi .slt (BitVec.ofNat 32 (i.val / 512)) (T1 (ix1 0)) = BitVec.ofBool (decide (i.val / 512 < (T1 (ix1 0)).toNat)) := by
    show BitVec.ofBool ((BitVec.ofNat 32 (i.val / 512)).slt (T1 (ix1 0))) = _
    rw [slt_small (by omega) h, hi]
  rw [e, hc]
  by_cases hu : i.val / 512 < (T1 (ix1 0)).toNat
  · rw [decide_eq_true hu, if_pos (show (blockOf i).val < _ from hu)]; rfl
  · rw [decide_eq_false hu, if_neg (show ¬ (blockOf i).val < _ from hu)]; rfl

/-- The reference's result of its arguments. -/
abbrev whole (x : FVec Ideal S148480x8x128 .f32) (T0 : IVec S290 32) (T1 : IVec S1 32) (w : FVec Ideal S32x1024x2048 .f32)
    (b : FVec Ideal S32x2048 .f32) (u : FVec Ideal S32x1024x1024 .f32) (q : FVec Ideal S32x1024 .f32) : FVec Ideal S148480x8x128 .f32 :=
  kept T1 (second (acts (first (rows x) (Host.gather gather_S32x1024x2048_S290x1_S290x1024x2048_12_0_n_n_0_1_110242048 w (start T0))
      (Host.gather gather_S32x2048_S290x1_S290x2048_1_0_n_n_0_1_12048 b (start T0))))
    (Host.gather gather_S32x1024x1024_S290x1_S290x1024x1024_12_0_n_n_0_1_110241024 u (start T0))
    (Host.gather gather_S32x1024_S290x1_S290x1024_1_0_n_n_0_1_11024 q (start T0)))

theorem whole_eq (x : FVec Ideal S148480x8x128 .f32) (T0 : IVec S290 32) (T1 : IVec S1 32) (w : FVec Ideal S32x1024x2048 .f32)
    (b : FVec Ideal S32x2048 .f32) (u : FVec Ideal S32x1024x1024 .f32) (q : FVec Ideal S32x1024 .f32) (h : Fits T0 T1) :
    whole x T0 T1 w b u q = fun (i : S148480x8x128.Idx) => expertsOf x T0 T1 w b u q (i 0) (i 1) (i 2) := by
  refine funext fun (i : S148480x8x128.Idx) => ?_
  idx_vars i
  have hr : (⟨(blockOf i0).val * 512 + i0.val % 512, by have := (blockOf i0).isLt; omega⟩ : Fin 148480) = i0 :=
    Fin.ext (by show i0.val / 512 * 512 + i0.val % 512 = i0.val; omega)
  have hs := start_apply T0 h.expert (blockOf i0)
  refine (kept_apply T1 h.all _ i0 i1 i2).trans ?_
  show _ = expertsOf x T0 T1 w b u q i0 i1 i2
  unfold expertsOf expertRow unit
  refine if_congr Iff.rfl ?_ rfl
  simp only [second_apply, acts_apply, first_apply, rows_apply, hr, gather2048 _ _ _ _ _ hs, gather1024 _ _ _ _ _ hs, slab2048 _ _ _ _ _ _ hs,
    slab1024 _ _ _ _ _ _ hs]

theorem res_eq (m : (ℓ : Loc nD τ sig) → Buf (Elt Ideal) ℓ) (c : Dev nD) :
    Value.res_out0 m c = whole (m ((c.tc : Thread nD τ).loc main_arg0)) (table0 (F := Ideal) (m ((c.tc : Thread nD τ).loc main_arg1)))
      (table1 (F := Ideal) (m ((c.tc : Thread nD τ).loc main_arg1))) (m ((c.tc : Thread nD τ).loc main_arg2))
      (m ((c.tc : Thread nD τ).loc main_arg3)) (m ((c.tc : Thread nD τ).loc main_arg4)) (m ((c.tc : Thread nD τ).loc main_arg5)) := rfl

/-- The reference's run, read at counts whose tables are in range. -/
theorem run (m : (ℓ : Loc nD τ sig) → Buf (Elt Ideal) ℓ) (ρ : Dev nD → PrngReg)
    (hr : ∀ c : Dev nD, Fits (table0 (F := Ideal) (m ((c.tc : Thread nD τ).loc main_arg1))) (table1 (F := Ideal) (m ((c.tc : Thread nD τ).loc main_arg1)))) :
    θ_run defs (onTc (τ := τ) (main (F := Ideal))) ⟨m, fun _ => 0, ρ⟩ fun r => ∀ c : Dev nD,
      r.2.mem ((c.tc : Thread nD τ).loc main_v82) = (fun (i : S148480x8x128.Idx) => expertsOf (m ((c.tc : Thread nD τ).loc main_arg0)) (table0 (F := Ideal) (m ((c.tc : Thread nD τ).loc main_arg1))) (table1 (F := Ideal) (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((res_eq m c).trans (whole_eq _ _ _ _ _ _ _ (hr c))), (h c).2⟩) (Value.run (F := Ideal) m ρ)

end Cert.ExpertsReferenceIdeal.Rows

end
-- ==== Proof.lean ====
/- The claims of this directory (`Cert.Claim` of `proof/Defs.lean`), put together: the frames are the generated runs (the experts' own, `Proof/ExpLaunch.lean` and `Proof/ExpFrame.lean`), and
   the value claims are the meeting of each call's arrays with its reference's (`Proof/Array.lean`, `Proof/StickArray.lean`, `Proof/ShiftRows.lean`,
   `Proof/ProjRef.lean`, `Proof/PrevRows.lean`, `Proof/MemRows.lean`, `Proof/MergeRef.lean`, `Proof/XattnRef.lean` with `Proof/XattnMeet.lean`, `Proof/RouteRows.lean`, `Proof/RouteRef.lean` with `Proof/RouteMeet.lean`, `Proof/ExpRows.lean`, `Proof/ExpRef.lean`). -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Shift
public import proofs.«01_k».proof.Proof.Gen.Shift.Skeleton
public import proofs.«01_k».proof.Proof.Gen.Shift.Launch
public import proofs.«01_k».proof.Proof.Gen.Shift.Points
public import proofs.«01_k».proof.Proof.Gen.Shift.Frame
public import proofs.«01_k».proof.Proof.Gen.ShiftIdeal
public import proofs.«01_k».proof.Proof.Gen.ShiftIdeal.Skeleton
public import proofs.«01_k».proof.Proof.Gen.ShiftIdeal.Launch
public import proofs.«01_k».proof.Proof.Gen.ShiftIdeal.Points
public import proofs.«01_k».proof.Proof.Gen.ShiftIdeal.Frame
public import proofs.«01_k».proof.Proof.Gen.ShiftIdeal.Value
public import proofs.«01_k».proof.Proof.Gen.ShiftReferenceIdeal
public import proofs.«01_k».proof.Proof.Gen.ShiftReferenceIdeal.Run
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjReferenceIdeal
public import proofs.«01_k».proof.Proof.Gen.ProjReferenceIdeal.Run
public import proofs.«01_k».proof.Proof.Gen.ProjSample
public import proofs.«01_k».proof.Proof.Gen.ProjSample.Skeleton
public import proofs.«01_k».proof.Proof.Gen.ProjSample.Launch
public import proofs.«01_k».proof.Proof.Gen.ProjSample.Points
public import proofs.«01_k».proof.Proof.Gen.ProjSample.Frame
public import proofs.«01_k».proof.Proof.Gen.ProjSampleIdeal
public import proofs.«01_k».proof.Proof.Gen.ProjSampleIdeal.Skeleton
public import proofs.«01_k».proof.Proof.Gen.ProjSampleIdeal.Launch
public import proofs.«01_k».proof.Proof.Gen.ProjSampleIdeal.Points
public import proofs.«01_k».proof.Proof.Gen.ProjSampleIdeal.Frame
public import proofs.«01_k».proof.Proof.Gen.ProjSampleReferenceIdeal
public import proofs.«01_k».proof.Proof.Gen.ProjSampleReferenceIdeal.Run
public import proofs.«01_k».proof.Proof.Gen.ShiftSample
public import proofs.«01_k».proof.Proof.Gen.ShiftSample.Skeleton
public import proofs.«01_k».proof.Proof.Gen.ShiftSample.Launch
public import proofs.«01_k».proof.Proof.Gen.ShiftSample.Points
public import proofs.«01_k».proof.Proof.Gen.ShiftSample.Frame
public import proofs.«01_k».proof.Proof.Gen.ShiftSampleIdeal
public import proofs.«01_k».proof.Proof.Gen.ShiftSampleIdeal.Skeleton
public import proofs.«01_k».proof.Proof.Gen.ShiftSampleIdeal.Launch
public import proofs.«01_k».proof.Proof.Gen.ShiftSampleIdeal.Points
public import proofs.«01_k».proof.Proof.Gen.ShiftSampleIdeal.Frame
public import proofs.«01_k».proof.Proof.Gen.ShiftSampleIdeal.Value
public import proofs.«01_k».proof.Proof.Gen.ShiftSampleReferenceIdeal
public import proofs.«01_k».proof.Proof.Gen.ShiftSampleReferenceIdeal.Run
public import proofs.«01_k».proof.Proof.Gen.PrevSample
public import proofs.«01_k».proof.Proof.Gen.PrevSample.Skeleton
public import proofs.«01_k».proof.Proof.Gen.PrevSample.Launch
public import proofs.«01_k».proof.Proof.Gen.PrevSample.Points
public import proofs.«01_k».proof.Proof.Gen.PrevSample.Frame
public import proofs.«01_k».proof.Proof.Gen.PrevSampleIdeal
public import proofs.«01_k».proof.Proof.Gen.PrevSampleIdeal.Skeleton
public import proofs.«01_k».proof.Proof.Gen.PrevSampleIdeal.Launch
public import proofs.«01_k».proof.Proof.Gen.PrevSampleIdeal.Points
public import proofs.«01_k».proof.Proof.Gen.PrevSampleIdeal.Frame
public import proofs.«01_k».proof.Proof.Gen.PrevSampleIdeal.Value
public import proofs.«01_k».proof.Proof.Gen.PrevSampleReferenceIdeal
public import proofs.«01_k».proof.Proof.Gen.PrevSampleReferenceIdeal.Run
public import proofs.«01_k».proof.Proof.Gen.StickSample
public import proofs.«01_k».proof.Proof.Gen.StickSample.Skeleton
public import proofs.«01_k».proof.Proof.Gen.StickSample.Loops
public import proofs.«01_k».proof.Proof.Gen.StickSample.Launch
public import proofs.«01_k».proof.Proof.Gen.StickSample.Points
public import proofs.«01_k».proof.Proof.Gen.StickSample.Frame
public import proofs.«01_k».proof.Proof.Gen.StickSampleIdeal
public import proofs.«01_k».proof.Proof.Gen.StickSampleIdeal.Skeleton
public import proofs.«01_k».proof.Proof.Gen.StickSampleIdeal.Loops
public import proofs.«01_k».proof.Proof.Gen.StickSampleIdeal.Launch
public import proofs.«01_k».proof.Proof.Gen.StickSampleIdeal.Points
public import proofs.«01_k».proof.Proof.Gen.StickSampleIdeal.Frame
public import proofs.«01_k».proof.Proof.Gen.StickSampleIdeal.Value
public import proofs.«01_k».proof.Proof.Gen.StickSampleReferenceIdeal
public import proofs.«01_k».proof.Proof.Gen.StickSampleReferenceIdeal.Run
public import proofs.«01_k».proof.Proof.Gen.Memory
public import proofs.«01_k».proof.Proof.Gen.Memory.Skeleton
public import proofs.«01_k».proof.Proof.Gen.Memory.Launch
public import proofs.«01_k».proof.Proof.Gen.Memory.Points
public import proofs.«01_k».proof.Proof.Gen.Memory.Frame
public import proofs.«01_k».proof.Proof.Gen.MemoryIdeal
public import proofs.«01_k».proof.Proof.Gen.MemoryIdeal.Skeleton
public import proofs.«01_k».proof.Proof.Gen.MemoryIdeal.Launch
public import proofs.«01_k».proof.Proof.Gen.MemoryIdeal.Points
public import proofs.«01_k».proof.Proof.Gen.MemoryIdeal.Frame
public import proofs.«01_k».proof.Proof.Gen.MemoryIdeal.Value
public import proofs.«01_k».proof.Proof.Gen.MemoryReferenceIdeal
public import proofs.«01_k».proof.Proof.Gen.MemoryReferenceIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.Route
public import proofs.«01_k».proof.Proof.Gen.Route.Skeleton
public import proofs.«01_k».proof.Proof.Gen.Route.Launch
public import proofs.«01_k».proof.Proof.Gen.Route.Points
public import proofs.«01_k».proof.Proof.Gen.Route.Frame
public import proofs.«01_k».proof.Proof.Gen.RouteIdeal
public import proofs.«01_k».proof.Proof.Gen.RouteIdeal.Skeleton
public import proofs.«01_k».proof.Proof.Gen.RouteIdeal.Launch
public import proofs.«01_k».proof.Proof.Gen.RouteIdeal.Points
public import proofs.«01_k».proof.Proof.Gen.RouteIdeal.Frame
public import proofs.«01_k».proof.Proof.Gen.RouteIdeal.Value
public import proofs.«01_k».proof.Proof.Gen.RouteReferenceIdeal
public import proofs.«01_k».proof.Proof.Gen.RouteReferenceIdeal.Run
public import proofs.«01_k».proof.Proof.Gen.Xattn
public import proofs.«01_k».proof.Proof.Gen.Xattn.Skeleton
public import proofs.«01_k».proof.Proof.Gen.Xattn.Launch
public import proofs.«01_k».proof.Proof.Gen.Xattn.Points
public import proofs.«01_k».proof.Proof.Gen.Xattn.Frame
public import proofs.«01_k».proof.Proof.Gen.XattnIdeal
public import proofs.«01_k».proof.Proof.Gen.XattnIdeal.Skeleton
public import proofs.«01_k».proof.Proof.Gen.XattnIdeal.Launch
public import proofs.«01_k».proof.Proof.Gen.XattnIdeal.Points
public import proofs.«01_k».proof.Proof.Gen.XattnIdeal.Frame
public import proofs.«01_k».proof.Proof.Gen.XattnIdeal.Value
public import proofs.«01_k».proof.Proof.Gen.XattnReferenceIdeal
public import proofs.«01_k».proof.Proof.Gen.XattnReferenceIdeal.Run
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsReferenceIdeal
public import proofs.«01_k».proof.Proof.Gen.ExpertsReferenceIdeal.Run
public import proofs.«01_k».proof.Proof.Array
public import proofs.«01_k».proof.Proof.StickArray
public import proofs.«01_k».proof.Proof.ShiftRows
public import proofs.«01_k».proof.Proof.ProjRef
public import proofs.«01_k».proof.Proof.ShiftSampleRows
public import proofs.«01_k».proof.Proof.ProjSampleRef
public import proofs.«01_k».proof.Proof.PrevRows
public import proofs.«01_k».proof.Proof.MemRows
public import proofs.«01_k».proof.Proof.MergeRef
public import proofs.«01_k».proof.Proof.XattnRef
public import proofs.«01_k».proof.Proof.XattnMeet
public import proofs.«01_k».proof.Proof.RouteMeet
public import proofs.«01_k».proof.Proof.ExpLaunch
public import proofs.«01_k».proof.Proof.ExpPre
public import proofs.«01_k».proof.Proof.ExpFrame
public import proofs.«01_k».proof.Proof.ExpRows
public import proofs.«01_k».proof.Proof.ExpRef
public import Idealize.ShloMosaic.Adequacy
public import Idealize.ShloMosaic.Init

@[expose] public section

noncomputable section

namespace Cert.Proof

open Idealize.ShloMosaic Idealize.SL.Sem Cert.Kernel

/-- Over the extended reals the kernel and the reference compute the same function of any arguments. -/
theorem algebraic [hK : Cert.KernelIdeal.Facts] [hR : Cert.ReferenceIdeal.Facts] :
    Cert.algebraic_KernelIdeal_ReferenceIdeal := fun m ρ m' ρ' _ hag =>
  ⟨fun c => Cert.KernelIdeal.Stick.whole m c, Cert.KernelIdeal.Stick.run m ρ,
    (θ_run _ _ _).mono (fun _ h c => ⟨((h c).1.trans (Cert.ReferenceIdeal.Stick.res_eq m' c)).trans
      (by rw [(hag c).1, (hag c).2.1, (hag c).2.2]), (h c).2⟩) (Cert.ReferenceIdeal.Value.run m' ρ')⟩

/-- The reference is host code: its run leaves its arguments as they were, and it declares no semaphore to count on. -/
theorem frameReference [hR : Cert.ReferenceIdeal.Facts] : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The sample's stick-breaking attention, over past and new keys: the kernel and the reference compute the same
    function of any arguments. -/
theorem algebraicStickSample [hK : Cert.StickSampleIdeal.Facts] [hR : Cert.StickSampleReferenceIdeal.Facts] :
    Cert.algebraic_StickSampleIdeal_StickSampleReferenceIdeal := fun m ρ m' ρ' _ hag =>
  ⟨fun c => Cert.StickSampleIdeal.Stick.whole m c, Cert.StickSampleIdeal.Stick.run m ρ,
    (θ_run _ _ _).mono (fun _ h c => ⟨((h c).1.trans (Cert.StickSampleReferenceIdeal.Stick.res_eq m' c)).trans
      (by rw [(hag c).1, (hag c).2.1, (hag c).2.2.1, (hag c).2.2.2.1, (hag c).2.2.2.2]), (h c).2⟩)
      (Cert.StickSampleReferenceIdeal.Value.run m' ρ')⟩

theorem frameStickSampleReference [hR : Cert.StickSampleReferenceIdeal.Facts] : Cert.quiescent_StickSampleReferenceIdeal := fun m ρ _ =>
  (θ_run Cert.StickSampleReferenceIdeal.defs _ _).mono
    (fun r h => ⟨fun c => (h c).2, sem_eq_zero_of_no_sems (by decide) r.2⟩)
    (Cert.StickSampleReferenceIdeal.Value.run (F := Ideal) m ρ)

/-- The last rows, normed: the kernel and the reference compute the same function of any arguments. -/
theorem algebraicShift [hK : Cert.ShiftIdeal.Facts] [hR : Cert.ShiftReferenceIdeal.Facts] :
    Cert.algebraic_ShiftIdeal_ShiftReferenceIdeal := fun m ρ m' ρ' _ hag =>
  ⟨fun c => Cert.ShiftIdeal.Rows.res m c, Cert.ShiftIdeal.Rows.run m ρ,
    (θ_run _ _ _).mono (fun _ h c => by
      obtain ⟨h0, h1⟩ := hag c
      exact ⟨((h c).1).trans (by rw [h0, h1] <;> rfl), (h c).2⟩) (Cert.ShiftReferenceIdeal.Rows.run m' ρ')⟩

theorem frameShiftReference [hR : Cert.ShiftReferenceIdeal.Facts] : Cert.quiescent_ShiftReferenceIdeal := fun m ρ _ =>
  (θ_run Cert.ShiftReferenceIdeal.defs _ _).mono
    (fun r h => ⟨fun c => (h c).2, sem_eq_zero_of_no_sems (by decide) r.2⟩)
    (Cert.ShiftReferenceIdeal.Rows.run m ρ)

/-- The input projection: the kernel and the reference compute the same function of any arguments. -/
theorem algebraicProj [hK : Cert.ProjIdeal.Facts] [hR : Cert.ProjReferenceIdeal.Facts] :
    Cert.algebraic_ProjIdeal_ProjReferenceIdeal := fun m ρ m' ρ' _ hag =>
  ⟨fun c => Cert.ProjIdeal.Rows.queries m c, fun c => Cert.ProjIdeal.Rows.keys m c, fun c => Cert.ProjIdeal.Rows.values m c, fun c => Cert.ProjIdeal.Rows.mixer m c, fun c => Cert.ProjIdeal.Rows.gates m c, fun c => Cert.ProjIdeal.Rows.keyHeads m c, fun c => Cert.ProjIdeal.Rows.valueHeads m c, Cert.ProjIdeal.Rows.run m ρ,
    (θ_run _ _ _).mono (fun _ h c => by
      obtain ⟨h0, h1, h2⟩ := hag c
      exact ⟨((h c).1).trans (by rw [h0, h1, h2] <;> rfl), ((h c).2.1).trans (by rw [h0, h1, h2] <;> rfl), ((h c).2.2.1).trans (by rw [h0, h1, h2] <;> rfl), ((h c).2.2.2.1).trans (by rw [h0, h1, h2] <;> rfl), ((h c).2.2.2.2.1).trans (by rw [h0, h1, h2] <;> rfl), ((h c).2.2.2.2.2.1).trans (by rw [h0, h1, h2] <;> rfl), ((h c).2.2.2.2.2.2.1).trans (by rw [h0, h1, h2] <;> rfl), (h c).2.2.2.2.2.2.2⟩) (Cert.ProjReferenceIdeal.Rows.run m' ρ')⟩

theorem frameProjReference [hR : Cert.ProjReferenceIdeal.Facts] : Cert.quiescent_ProjReferenceIdeal := fun m ρ _ =>
  (θ_run Cert.ProjReferenceIdeal.defs _ _).mono
    (fun r h => ⟨fun c => (h c).2.2.2.2.2.2.2, sem_eq_zero_of_no_sems (by decide) r.2⟩)
    (Cert.ProjReferenceIdeal.Rows.run m ρ)

/-- The sample's last rows, normed: the kernel and the reference compute the same function of any arguments. -/
theorem algebraicShiftSample [hK : Cert.ShiftSampleIdeal.Facts] [hR : Cert.ShiftSampleReferenceIdeal.Facts] :
    Cert.algebraic_ShiftSampleIdeal_ShiftSampleReferenceIdeal := fun m ρ m' ρ' _ hag =>
  ⟨fun c => Cert.ShiftSampleIdeal.Rows.res m c, Cert.ShiftSampleIdeal.Rows.run m ρ,
    (θ_run _ _ _).mono (fun _ h c => by
      obtain ⟨h0, h1⟩ := hag c
      exact ⟨((h c).1).trans (by rw [h0, h1] <;> rfl), (h c).2⟩) (Cert.ShiftSampleReferenceIdeal.Rows.run m' ρ')⟩

theorem frameShiftSampleReference [hR : Cert.ShiftSampleReferenceIdeal.Facts] : Cert.quiescent_ShiftSampleReferenceIdeal := fun m ρ _ =>
  (θ_run Cert.ShiftSampleReferenceIdeal.defs _ _).mono
    (fun r h => ⟨fun c => (h c).2, sem_eq_zero_of_no_sems (by decide) r.2⟩)
    (Cert.ShiftSampleReferenceIdeal.Rows.run m ρ)

/-- The sample's shift state by the mixer's columns: the kernel and the reference compute the same function of any arguments. -/
theorem algebraicPrevSample [hK : Cert.PrevSampleIdeal.Facts] [hR : Cert.PrevSampleReferenceIdeal.Facts] :
    Cert.algebraic_PrevSampleIdeal_PrevSampleReferenceIdeal := fun m ρ m' ρ' _ hag =>
  ⟨fun c => Cert.PrevSampleIdeal.Rows.res m c, Cert.PrevSampleIdeal.Rows.run m ρ,
    (θ_run _ _ _).mono (fun _ h c => by
      obtain ⟨h0, h1⟩ := hag c
      exact ⟨((h c).1).trans (by rw [h0, h1] <;> rfl), (h c).2⟩) (Cert.PrevSampleReferenceIdeal.Rows.run m' ρ')⟩

theorem framePrevSampleReference [hR : Cert.PrevSampleReferenceIdeal.Facts] : Cert.quiescent_PrevSampleReferenceIdeal := fun m ρ _ =>
  (θ_run Cert.PrevSampleReferenceIdeal.defs _ _).mono
    (fun r h => ⟨fun c => (h c).2, sem_eq_zero_of_no_sems (by decide) r.2⟩)
    (Cert.PrevSampleReferenceIdeal.Rows.run m ρ)

/-- The sample's input projection: the kernel and the reference compute the same function of any arguments. -/
theorem algebraicProjSample [hK : Cert.ProjSampleIdeal.Facts] [hR : Cert.ProjSampleReferenceIdeal.Facts] :
    Cert.algebraic_ProjSampleIdeal_ProjSampleReferenceIdeal := fun m ρ m' ρ' _ hag =>
  ⟨fun c => Cert.ProjSampleIdeal.Rows.queries m c, fun c => Cert.ProjSampleIdeal.Rows.keys m c, fun c => Cert.ProjSampleIdeal.Rows.values m c, fun c => Cert.ProjSampleIdeal.Rows.mixer m c, fun c => Cert.ProjSampleIdeal.Rows.gates m c, fun c => Cert.ProjSampleIdeal.Rows.keyHeads m c, fun c => Cert.ProjSampleIdeal.Rows.valueHeads m c, Cert.ProjSampleIdeal.Rows.run m ρ,
    (θ_run _ _ _).mono (fun _ h c => by
      obtain ⟨h0, h1, h2⟩ := hag c
      exact ⟨((h c).1).trans (by rw [h0, h1, h2] <;> rfl), ((h c).2.1).trans (by rw [h0, h1, h2] <;> rfl), ((h c).2.2.1).trans (by rw [h0, h1, h2] <;> rfl), ((h c).2.2.2.1).trans (by rw [h0, h1, h2] <;> rfl), ((h c).2.2.2.2.1).trans (by rw [h0, h1, h2] <;> rfl), ((h c).2.2.2.2.2.1).trans (by rw [h0, h1, h2] <;> rfl), ((h c).2.2.2.2.2.2.1).trans (by rw [h0, h1, h2] <;> rfl), (h c).2.2.2.2.2.2.2⟩) (Cert.ProjSampleReferenceIdeal.Rows.run m' ρ')⟩

theorem frameProjSampleReference [hR : Cert.ProjSampleReferenceIdeal.Facts] : Cert.quiescent_ProjSampleReferenceIdeal := fun m ρ _ =>
  (θ_run Cert.ProjSampleReferenceIdeal.defs _ _).mono
    (fun r h => ⟨fun c => (h c).2.2.2.2.2.2.2, sem_eq_zero_of_no_sems (by decide) r.2⟩)
    (Cert.ProjSampleReferenceIdeal.Rows.run m ρ)

/-- The memory's keys and values: the kernel and the reference compute the same function of any arguments. -/
theorem algebraicMemory [hK : Cert.MemoryIdeal.Facts] [hR : Cert.MemoryReferenceIdeal.Facts] :
    Cert.algebraic_MemoryIdeal_MemoryReferenceIdeal := fun m ρ m' ρ' _ hag =>
  ⟨fun c => Cert.MemoryIdeal.Rows.keys m c, fun c => Cert.MemoryIdeal.Rows.values m c, Cert.MemoryIdeal.Rows.run m ρ,
    (θ_run _ _ _).mono (fun _ h c => by
      obtain ⟨h0, h1, h2, h3⟩ := hag c
      exact ⟨((h c).1).trans (by rw [h0, h1, h2] <;> rfl), ((h c).2.1).trans (by rw [h0, h1, h3] <;> rfl), (h c).2.2⟩) (Cert.MemoryReferenceIdeal.Rows.run m' ρ')⟩

theorem frameMemoryReference [hR : Cert.MemoryReferenceIdeal.Facts] : Cert.quiescent_MemoryReferenceIdeal := fun m ρ _ =>
  (θ_run Cert.MemoryReferenceIdeal.defs _ _).mono
    (fun r h => ⟨fun c => (h c).2.2, sem_eq_zero_of_no_sems (by decide) r.2⟩)
    (Cert.MemoryReferenceIdeal.Rows.run m ρ)

/-- The merge of the branches: the kernel and the reference compute the same function of any arguments. -/
theorem algebraicMerge [hK : Cert.MergeIdeal.Facts] [hR : Cert.MergeReferenceIdeal.Facts] :
    Cert.algebraic_MergeIdeal_MergeReferenceIdeal := fun m ρ m' ρ' _ hag =>
  ⟨fun c => Cert.MergeIdeal.Rows.stream m c, fun c => Cert.MergeIdeal.Rows.query m c, Cert.MergeIdeal.Rows.run m ρ,
    (θ_run _ _ _).mono (fun _ h c => by
      obtain ⟨h0, h1, h2, h3, h4, h5, h6, h7⟩ := hag c
      exact ⟨((h c).1).trans (by rw [h0, h1, h2, h3, h4, h5] <;> rfl), ((h c).2.1).trans (by rw [h0, h1, h2, h3, h4, h5, h6, h7] <;> rfl), (h c).2.2⟩) (Cert.MergeReferenceIdeal.Rows.run m' ρ')⟩

theorem frameMergeReference [hR : Cert.MergeReferenceIdeal.Facts] : Cert.quiescent_MergeReferenceIdeal := fun m ρ _ =>
  (θ_run Cert.MergeReferenceIdeal.defs _ _).mono
    (fun r h => ⟨fun c => (h c).2.2, sem_eq_zero_of_no_sems (by decide) r.2⟩)
    (Cert.MergeReferenceIdeal.Rows.run m ρ)

/-- The cross-attention: the kernel and the reference compute the same function of any arguments whose queries and keys are finite. -/
theorem algebraicXattn [hK : Cert.XattnIdeal.Facts] [hR : Cert.XattnReferenceIdeal.Facts] [hP : Cert.Pre_finite.Facts] :
    Cert.algebraic_XattnIdeal_XattnReferenceIdeal_pre_finite := fun m ρ m' ρ' hp hag =>
  ⟨fun c => Cert.XattnIdeal.Rows.stream m c, fun c => Cert.XattnIdeal.Rows.hidden m c, Cert.XattnIdeal.Rows.run m ρ,
    (θ_run _ _ _).mono (fun _ h c => by
      obtain ⟨h0, h1, h2, h3, h4, h5, h6, h7⟩ := hag c
      obtain ⟨hq, hy⟩ := Cert.XattnIdeal.Rows.finite_of_pre _ _ _ _ _ _ _ _ (hp c)
      refine ⟨((h c).1).trans ?_, ((h c).2.1).trans ?_, (h c).2.2⟩
      · rw [h0, h1, h2, h3, h4]
        exact funext fun i => (congrFun (congrFun (congrFun (Cert.XattnIdeal.Rows.streamOf_eq _ _ _ _ _ hq hy) _) _) _).symm
      · rw [h0, h1, h2, h3, h4, h5]
        exact funext fun i => (congrFun (congrFun (congrFun (congrFun (Cert.XattnIdeal.Rows.normedOf_eq _ _ _ _ _ _ hq hy) _) _) _) _).symm)
      (Cert.XattnReferenceIdeal.Rows.run m' ρ')⟩

theorem frameXattnReference [hR : Cert.XattnReferenceIdeal.Facts] : Cert.quiescent_XattnReferenceIdeal := fun m ρ _ =>
  (θ_run Cert.XattnReferenceIdeal.defs _ _).mono
    (fun r h => ⟨fun c => (h c).2.2, sem_eq_zero_of_no_sems (by decide) r.2⟩)
    (Cert.XattnReferenceIdeal.Rows.run m ρ)

/-- The routing: the kernel and the reference give every pick the same place, at counts that are numbers. -/
theorem algebraicRoute [hK : Cert.RouteIdeal.Facts] [hR : Cert.RouteReferenceIdeal.Facts] [hP : Cert.Pre_counted.Facts] :
    Cert.algebraic_RouteIdeal_RouteReferenceIdeal_pre_counted := fun m ρ m' ρ' hp hag =>
  have hz (c : Dev Cert.RouteIdeal.nD) := Cert.RouteIdeal.Rows.counted_of_pre _ _ (hp c)
  ⟨fun c => Cert.RouteIdeal.Rows.spots m c, Cert.RouteIdeal.Rows.run m ρ hz,
    (θ_run _ _ _).mono (fun _ h c => by
      obtain ⟨h0, h1⟩ := hag c
      refine ⟨((h c).1).trans ?_, (h c).2⟩
      rw [h0, h1]
      refine funext fun (i : Cert.RouteReferenceIdeal.S129x8x256.Idx) => ?_
      idx_vars i
      exact Cert.RouteReferenceIdeal.Read.result_eq _ _ (hz c) _ _ _)
      (Cert.RouteReferenceIdeal.Read.run m' ρ')⟩

theorem frameRouteReference [hR : Cert.RouteReferenceIdeal.Facts] : Cert.quiescent_RouteReferenceIdeal := fun m ρ _ =>
  (θ_run Cert.RouteReferenceIdeal.defs _ _).mono
    (fun r h => ⟨fun c => (h c).2, sem_eq_zero_of_no_sems (by decide) r.2⟩)
    (Cert.RouteReferenceIdeal.Read.run (F := Ideal) m ρ)

/-- The experts' frame is their own run's, at counts that use a block. -/
theorem frameExpertsIdeal [hK : Cert.ExpertsIdeal.Facts] [hP : Cert.Pre_routed.Facts] : Cert.quiescent_ExpertsIdeal := fun m ρ hp =>
  (θ_run (Cert.ExpertsIdeal.defs (F := Ideal)) _ _).mono (fun _ h => h)
    (Cert.ExpertsIdeal.Rows.frame_run (F := Ideal) m ρ fun c => Cert.ExpertsIdeal.Rows.inRange_of_pre m c (Cert.ExpertsIdeal.Rows.fits_of_pre _ _ _ _ _ _ (hp c)))

theorem frameExpertsReference [hR : Cert.ExpertsReferenceIdeal.Facts] [hP : Cert.Pre_routed.Facts] :
    Cert.quiescent_ExpertsReferenceIdeal := fun m ρ _ =>
  (θ_run Cert.ExpertsReferenceIdeal.defs _ _).mono
    (fun r h => ⟨fun c => (h c).2, sem_eq_zero_of_no_sems (by decide) r.2⟩)
    (Cert.ExpertsReferenceIdeal.Value.run (F := Ideal) m ρ)

/-- The experts: the kernel and the reference compute the same function of any arguments whose counts use a block. -/
theorem algebraicExperts [hK : Cert.ExpertsIdeal.Facts] [hR : Cert.ExpertsReferenceIdeal.Facts] [hP : Cert.Pre_routed.Facts] :
    Cert.algebraic_ExpertsIdeal_ExpertsReferenceIdeal := fun m ρ m' ρ' hp hag =>
  have hf (c : Dev Cert.ExpertsIdeal.nD) := Cert.ExpertsIdeal.Rows.fits_of_pre _ _ _ _ _ _ (hp c)
  have hr : Cert.ExpertsIdeal.Rows.InRange m := fun c => Cert.ExpertsIdeal.Rows.inRange_of_pre m c (hf c)
  ⟨fun c => Cert.ExpertsIdeal.Rows.result m c, Cert.ExpertsIdeal.Rows.run m ρ hr,
    (θ_run _ _ _).mono (fun _ h c => by
      obtain ⟨h0, h1, h2, h3, h4, h5⟩ := hag c
      exact ⟨((h c).1).trans (by rw [h0, h1, h2, h3, h4, h5] <;> rfl), (h c).2⟩)
      (Cert.ExpertsReferenceIdeal.Rows.run m' ρ' fun c => by
        rw [(hag c).2.1]
        exact hf c)⟩

/-- All the claims. -/
theorem claim : Cert.Claim := ⟨Cert.Kernel.Gen.facts,
  Cert.KernelIdeal.Gen.facts,
  Cert.ReferenceIdeal.Gen.facts,
  Cert.Shift.Gen.facts,
  Cert.ShiftIdeal.Gen.facts,
  Cert.ShiftReferenceIdeal.Gen.facts,
  Cert.Proj.Gen.facts,
  Cert.ProjIdeal.Gen.facts,
  Cert.ProjReferenceIdeal.Gen.facts,
  Cert.ShiftSample.Gen.facts,
  Cert.ShiftSampleIdeal.Gen.facts,
  Cert.ShiftSampleReferenceIdeal.Gen.facts,
  Cert.ProjSample.Gen.facts,
  Cert.ProjSampleIdeal.Gen.facts,
  Cert.ProjSampleReferenceIdeal.Gen.facts,
  Cert.PrevSample.Gen.facts,
  Cert.PrevSampleIdeal.Gen.facts,
  Cert.PrevSampleReferenceIdeal.Gen.facts,
  Cert.StickSample.Gen.facts,
  Cert.StickSampleIdeal.Gen.facts,
  Cert.StickSampleReferenceIdeal.Gen.facts,
  Cert.Memory.Gen.facts,
  Cert.MemoryIdeal.Gen.facts,
  Cert.MemoryReferenceIdeal.Gen.facts,
  Cert.Merge.Gen.facts,
  Cert.MergeIdeal.Gen.facts,
  Cert.MergeReferenceIdeal.Gen.facts,
  Cert.Xattn.Gen.facts,
  Cert.XattnIdeal.Gen.facts,
  Cert.XattnReferenceIdeal.Gen.facts,
  Cert.Route.Gen.facts,
  Cert.RouteIdeal.Gen.facts,
  Cert.RouteReferenceIdeal.Gen.facts,
  Cert.Experts.Gen.facts,
  Cert.ExpertsIdeal.Gen.facts,
  Cert.ExpertsReferenceIdeal.Gen.facts,
  Cert.XattnIdeal.Rows.finiteFacts,
  Cert.RouteIdeal.Rows.countedFacts,
  Cert.ExpertsIdeal.Rows.preFacts,
  fun m ρ _ => Cert.Kernel.Gen.frame m ρ, fun m ρ _ => Cert.KernelIdeal.Gen.frame m ρ, frameReference,
  fun m ρ _ => Cert.Shift.Gen.frame m ρ, fun m ρ _ => Cert.ShiftIdeal.Gen.frame m ρ, frameShiftReference,
  fun m ρ _ => Cert.Proj.Gen.frame m ρ, fun m ρ _ => Cert.ProjIdeal.Gen.frame m ρ, frameProjReference,
  fun m ρ _ => Cert.ShiftSample.Gen.frame m ρ, fun m ρ _ => Cert.ShiftSampleIdeal.Gen.frame m ρ, frameShiftSampleReference,
  fun m ρ _ => Cert.ProjSample.Gen.frame m ρ, fun m ρ _ => Cert.ProjSampleIdeal.Gen.frame m ρ, frameProjSampleReference,
  fun m ρ _ => Cert.PrevSample.Gen.frame m ρ, fun m ρ _ => Cert.PrevSampleIdeal.Gen.frame m ρ, framePrevSampleReference,
  fun m ρ _ => Cert.StickSample.Gen.frame m ρ, fun m ρ _ => Cert.StickSampleIdeal.Gen.frame m ρ, frameStickSampleReference,
  fun m ρ _ => Cert.Memory.Gen.frame m ρ, fun m ρ _ => Cert.MemoryIdeal.Gen.frame m ρ, frameMemoryReference,
  fun m ρ _ => Cert.Merge.Gen.frame m ρ, fun m ρ _ => Cert.MergeIdeal.Gen.frame m ρ, frameMergeReference,
  fun m ρ _ => Cert.Xattn.Gen.frame m ρ, fun m ρ _ => Cert.XattnIdeal.Gen.frame m ρ, fun m ρ _ => Cert.XattnIdeal.Gen.frame m ρ,
  frameXattnReference, fun m ρ h => frameXattnReference m ρ trivial,
  fun m ρ _ => Cert.Route.Gen.frame m ρ, fun m ρ _ => Cert.RouteIdeal.Gen.frame m ρ, fun m ρ _ => Cert.RouteIdeal.Gen.frame m ρ,
  frameRouteReference, fun m ρ h => frameRouteReference m ρ trivial,
  Cert.Experts.Rows.frame, frameExpertsIdeal, frameExpertsReference,
  trivial, algebraic, trivial, algebraicShift, trivial, algebraicProj, trivial, algebraicShiftSample, trivial, algebraicProjSample,
  trivial, algebraicPrevSample, trivial, algebraicStickSample, trivial, algebraicMemory, trivial, algebraicMerge,
  trivial, algebraicXattn, trivial, algebraicRoute, trivial, algebraicExperts⟩

end Cert.Proof

end
